-- ==== Defs.lean ====
def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjKernelIdeal_finite_proj [hPre_finite_proj : Cert.Pre_finite_proj.Facts] (m : (ℓ : Loc Cert.ProjKernelIdeal.nD Cert.ProjKernelIdeal.τ Cert.ProjKernelIdeal.sig) → Buf (Elt Ideal) ℓ) : Prop :=
  ∀ c : Dev Cert.ProjKernelIdeal.nD,
    (Cert.Pre_finite_proj.fn (F := Ideal) (m ((c.tc : Thread Cert.ProjKernelIdeal.nD Cert.ProjKernelIdeal.τ).loc Cert.ProjKernelIdeal.main_arg0)) (m ((c.tc : Thread Cert.ProjKernelIdeal.nD Cert.ProjKernelIdeal.τ).loc Cert.ProjKernelIdeal.main_arg1)) (m ((c.tc : Thread Cert.ProjKernelIdeal.nD Cert.ProjKernelIdeal.τ).loc Cert.ProjKernelIdeal.main_arg2)) (m ((c.tc : Thread Cert.ProjKernelIdeal.nD Cert.ProjKernelIdeal.τ).loc Cert.ProjKernelIdeal.main_arg3)) (m ((c.tc : Thread Cert.ProjKernelIdeal.nD Cert.ProjKernelIdeal.τ).loc Cert.ProjKernelIdeal.main_arg4))) = (fun _ => 1#1)

def Pre_ProjReferenceIdeal (m : (ℓ : Loc Cert.ProjReferenceIdeal.nD Cert.ProjReferenceIdeal.τ Cert.ProjReferenceIdeal.sig) → Buf (Elt Ideal) ℓ) : Prop :=
  True

def Pre_ProjReferenceIdeal_finite_proj [hPre_finite_proj : Cert.Pre_finite_proj.Facts] (m : (ℓ : Loc Cert.ProjReferenceIdeal.nD Cert.ProjReferenceIdeal.τ Cert.ProjReferenceIdeal.sig) → Buf (Elt Ideal) ℓ) : Prop :=
  ∀ c : Dev Cert.ProjReferenceIdeal.nD,
    (Cert.Pre_finite_proj.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4))) = (fun _ => 1#1)

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_finite_ffn [hPre_finite_ffn : Cert.Pre_finite_ffn.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_finite_ffn.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5)) (m ((c.tc : Thread Cert.FfnKernelIdeal.nD Cert.FfnKernelIdeal.τ).loc Cert.FfnKernelIdeal.main_arg6))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_finite_ffn [hPre_finite_ffn : Cert.Pre_finite_ffn.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5)) (m ((c.tc : Thread Cert.FfnReferenceIdeal.nD Cert.FfnReferenceIdeal.τ).loc Cert.FfnReferenceIdeal.main_arg6))) = (fun _ => 1#1)

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossKernelIdeal_finite_loss [hPre_finite_loss : Cert.Pre_finite_loss.Facts] (m : (ℓ : Loc Cert.LossKernelIdeal.nD Cert.LossKernelIdeal.τ Cert.LossKernelIdeal.sig) → Buf (Elt Ideal) ℓ) : Prop :=
  ∀ c : Dev Cert.LossKernelIdeal.nD,
    (Cert.Pre_finite_loss.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)) (m ((c.tc : Thread Cert.LossKernelIdeal.nD Cert.LossKernelIdeal.τ).loc Cert.LossKernelIdeal.main_arg3)) (m ((c.tc : Thread Cert.LossKernelIdeal.nD Cert.LossKernelIdeal.τ).loc Cert.LossKernelIdeal.main_arg4)) (m ((c.tc : Thread Cert.LossKernelIdeal.nD Cert.LossKernelIdeal.τ).loc Cert.LossKernelIdeal.main_arg5)) (m ((c.tc : Thread Cert.LossKernelIdeal.nD Cert.LossKernelIdeal.τ).loc Cert.LossKernelIdeal.main_arg6)) (m ((c.tc : Thread Cert.LossKernelIdeal.nD Cert.LossKernelIdeal.τ).loc Cert.LossKernelIdeal.main_arg7))) = (fun _ => 1#1)

def Pre_LossReferenceIdeal (m : (ℓ : Loc Cert.LossReferenceIdeal.nD Cert.LossReferenceIdeal.τ Cert.LossReferenceIdeal.sig) → Buf (Elt Ideal) ℓ) : Prop :=
  True

def Pre_LossReferenceIdeal_finite_loss [hPre_finite_loss : Cert.Pre_finite_loss.Facts] (m : (ℓ : Loc Cert.LossReferenceIdeal.nD Cert.LossReferenceIdeal.τ Cert.LossReferenceIdeal.sig) → Buf (Elt Ideal) ℓ) : Prop :=
  ∀ c : Dev Cert.LossReferenceIdeal.nD,
    (Cert.Pre_finite_loss.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4)) (m ((c.tc : Thread Cert.LossReferenceIdeal.nD Cert.LossReferenceIdeal.τ).loc Cert.LossReferenceIdeal.main_arg5)) (m ((c.tc : Thread Cert.LossReferenceIdeal.nD Cert.LossReferenceIdeal.τ).loc Cert.LossReferenceIdeal.main_arg6)) (m ((c.tc : Thread Cert.LossReferenceIdeal.nD Cert.LossReferenceIdeal.τ).loc Cert.LossReferenceIdeal.main_arg7))) = (fun _ => 1#1)

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixKernelIdeal_finite_mix [hPre_finite_mix : Cert.Pre_finite_mix.Facts] (m : (ℓ : Loc Cert.MixKernelIdeal.nD Cert.MixKernelIdeal.τ Cert.MixKernelIdeal.sig) → Buf (Elt Ideal) ℓ) : Prop :=
  ∀ c : Dev Cert.MixKernelIdeal.nD,
    (Cert.Pre_finite_mix.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6)) (m ((c.tc : Thread Cert.MixKernelIdeal.nD Cert.MixKernelIdeal.τ).loc Cert.MixKernelIdeal.main_arg7)) (m ((c.tc : Thread Cert.MixKernelIdeal.nD Cert.MixKernelIdeal.τ).loc Cert.MixKernelIdeal.main_arg8)) (m ((c.tc : Thread Cert.MixKernelIdeal.nD Cert.MixKernelIdeal.τ).loc Cert.MixKernelIdeal.main_arg9)) (m ((c.tc : Thread Cert.MixKernelIdeal.nD Cert.MixKernelIdeal.τ).loc Cert.MixKernelIdeal.main_arg10)) (m ((c.tc : Thread Cert.MixKernelIdeal.nD Cert.MixKernelIdeal.τ).loc Cert.MixKernelIdeal.main_arg11))) = (fun _ => 1#1)

def Pre_MixReferenceIdeal (m : (ℓ : Loc Cert.MixReferenceIdeal.nD Cert.MixReferenceIdeal.τ Cert.MixReferenceIdeal.sig) → Buf (Elt Ideal) ℓ) : Prop :=
  True

def Pre_MixReferenceIdeal_finite_mix [hPre_finite_mix : Cert.Pre_finite_mix.Facts] (m : (ℓ : Loc Cert.MixReferenceIdeal.nD Cert.MixReferenceIdeal.τ Cert.MixReferenceIdeal.sig) → Buf (Elt Ideal) ℓ) : Prop :=
  ∀ c : Dev Cert.MixReferenceIdeal.nD,
    (Cert.Pre_finite_mix.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8)) (m ((c.tc : Thread Cert.MixReferenceIdeal.nD Cert.MixReferenceIdeal.τ).loc Cert.MixReferenceIdeal.main_arg9)) (m ((c.tc : Thread Cert.MixReferenceIdeal.nD Cert.MixReferenceIdeal.τ).loc Cert.MixReferenceIdeal.main_arg10)) (m ((c.tc : Thread Cert.MixReferenceIdeal.nD Cert.MixReferenceIdeal.τ).loc Cert.MixReferenceIdeal.main_arg11))) = (fun _ => 1#1)

def Pre_FuseKernel (m : (ℓ : Loc Cert.FuseKernel.nD Cert.FuseKernel.τ Cert.FuseKernel.sig) → Buf (Elt Bits) ℓ) : Prop :=
  True

def Pre_FuseKernelIdeal (m : (ℓ : Loc Cert.FuseKernelIdeal.nD Cert.FuseKernelIdeal.τ Cert.FuseKernelIdeal.sig) → Buf (Elt Ideal) ℓ) : Prop :=
  True

def Pre_FuseKernelIdeal_finite_fuse [hPre_finite_fuse : Cert.Pre_finite_fuse.Facts] (m : (ℓ : Loc Cert.FuseKernelIdeal.nD Cert.FuseKernelIdeal.τ Cert.FuseKernelIdeal.sig) → Buf (Elt Ideal) ℓ) : Prop :=
  ∀ c : Dev Cert.FuseKernelIdeal.nD,
    (Cert.Pre_finite_fuse.fn (F := Ideal) (m ((c.tc : Thread Cert.FuseKernelIdeal.nD Cert.FuseKernelIdeal.τ).loc Cert.FuseKernelIdeal.main_arg0)) (m ((c.tc : Thread Cert.FuseKernelIdeal.nD Cert.FuseKernelIdeal.τ).loc Cert.FuseKernelIdeal.main_arg1)) (m ((c.tc : Thread Cert.FuseKernelIdeal.nD Cert.FuseKernelIdeal.τ).loc Cert.FuseKernelIdeal.main_arg2)) (m ((c.tc : Thread Cert.FuseKernelIdeal.nD Cert.FuseKernelIdeal.τ).loc Cert.FuseKernelIdeal.main_arg3)) (m ((c.tc : Thread Cert.FuseKernelIdeal.nD Cert.FuseKernelIdeal.τ).loc Cert.FuseKernelIdeal.main_arg4)) (m ((c.tc : Thread Cert.FuseKernelIdeal.nD Cert.FuseKernelIdeal.τ).loc Cert.FuseKernelIdeal.main_arg5)) (m ((c.tc : Thread Cert.FuseKernelIdeal.nD Cert.FuseKernelIdeal.τ).loc Cert.FuseKernelIdeal.main_arg6)) (m ((c.tc : Thread Cert.FuseKernelIdeal.nD Cert.FuseKernelIdeal.τ).loc Cert.FuseKernelIdeal.main_arg7)) (m ((c.tc : Thread Cert.FuseKernelIdeal.nD Cert.FuseKernelIdeal.τ).loc Cert.FuseKernelIdeal.main_arg8)) (m ((c.tc : Thread Cert.FuseKernelIdeal.nD Cert.FuseKernelIdeal.τ).loc Cert.FuseKernelIdeal.main_arg9)) (m ((c.tc : Thread Cert.FuseKernelIdeal.nD Cert.FuseKernelIdeal.τ).loc Cert.FuseKernelIdeal.main_arg10)) (m ((c.tc : Thread Cert.FuseKernelIdeal.nD Cert.FuseKernelIdeal.τ).loc Cert.FuseKernelIdeal.main_arg11)) (m ((c.tc : Thread Cert.FuseKernelIdeal.nD Cert.FuseKernelIdeal.τ).loc Cert.FuseKernelIdeal.main_arg12))) = (fun _ => 1#1)

def Pre_FuseReferenceIdeal (m : (ℓ : Loc Cert.FuseReferenceIdeal.nD Cert.FuseReferenceIdeal.τ Cert.FuseReferenceIdeal.sig) → Buf (Elt Ideal) ℓ) : Prop :=
  True

def Pre_FuseReferenceIdeal_finite_fuse [hPre_finite_fuse : Cert.Pre_finite_fuse.Facts] (m : (ℓ : Loc Cert.FuseReferenceIdeal.nD Cert.FuseReferenceIdeal.τ Cert.FuseReferenceIdeal.sig) → Buf (Elt Ideal) ℓ) : Prop :=
  ∀ c : Dev Cert.FuseReferenceIdeal.nD,
    (Cert.Pre_finite_fuse.fn (F := Ideal) (m ((c.tc : Thread Cert.FuseReferenceIdeal.nD Cert.FuseReferenceIdeal.τ).loc Cert.FuseReferenceIdeal.main_arg0)) (m ((c.tc : Thread Cert.FuseReferenceIdeal.nD Cert.FuseReferenceIdeal.τ).loc Cert.FuseReferenceIdeal.main_arg1)) (m ((c.tc : Thread Cert.FuseReferenceIdeal.nD Cert.FuseReferenceIdeal.τ).loc Cert.FuseReferenceIdeal.main_arg2)) (m ((c.tc : Thread Cert.FuseReferenceIdeal.nD Cert.FuseReferenceIdeal.τ).loc Cert.FuseReferenceIdeal.main_arg3)) (m ((c.tc : Thread Cert.FuseReferenceIdeal.nD Cert.FuseReferenceIdeal.τ).loc Cert.FuseReferenceIdeal.main_arg4)) (m ((c.tc : Thread Cert.FuseReferenceIdeal.nD Cert.FuseReferenceIdeal.τ).loc Cert.FuseReferenceIdeal.main_arg5)) (m ((c.tc : Thread Cert.FuseReferenceIdeal.nD Cert.FuseReferenceIdeal.τ).loc Cert.FuseReferenceIdeal.main_arg6)) (m ((c.tc : Thread Cert.FuseReferenceIdeal.nD Cert.FuseReferenceIdeal.τ).loc Cert.FuseReferenceIdeal.main_arg7)) (m ((c.tc : Thread Cert.FuseReferenceIdeal.nD Cert.FuseReferenceIdeal.τ).loc Cert.FuseReferenceIdeal.main_arg8)) (m ((c.tc : Thread Cert.FuseReferenceIdeal.nD Cert.FuseReferenceIdeal.τ).loc Cert.FuseReferenceIdeal.main_arg9)) (m ((c.tc : Thread Cert.FuseReferenceIdeal.nD Cert.FuseReferenceIdeal.τ).loc Cert.FuseReferenceIdeal.main_arg10)) (m ((c.tc : Thread Cert.FuseReferenceIdeal.nD Cert.FuseReferenceIdeal.τ).loc Cert.FuseReferenceIdeal.main_arg11)) (m ((c.tc : Thread Cert.FuseReferenceIdeal.nD Cert.FuseReferenceIdeal.τ).loc Cert.FuseReferenceIdeal.main_arg12))) = (fun _ => 1#1)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2)
      ∧ r.2.mem ((c.tc : Thread Cert.ProjKernel.nD Cert.ProjKernel.τ).loc Cert.ProjKernel.main_arg3) = m ((c.tc : Thread Cert.ProjKernel.nD Cert.ProjKernel.τ).loc Cert.ProjKernel.main_arg3)
      ∧ r.2.mem ((c.tc : Thread Cert.ProjKernel.nD Cert.ProjKernel.τ).loc Cert.ProjKernel.main_arg4) = m ((c.tc : Thread Cert.ProjKernel.nD Cert.ProjKernel.τ).loc Cert.ProjKernel.main_arg4))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
      ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
      ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4))
      ∧ r.2.sem = fun _ => 0)

def quiescent_ProjKernelIdeal_pre_finite_proj [hProjKernelIdeal : Cert.ProjKernelIdeal.Facts] [hPre_finite_proj : Cert.Pre_finite_proj.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal_finite_proj m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
      ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
      ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4))
      ∧ r.2.sem = fun _ => 0)

def quiescent_ProjReferenceIdeal_pre_finite_proj [hProjReferenceIdeal : Cert.ProjReferenceIdeal.Facts] [hPre_finite_proj : Cert.Pre_finite_proj.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal_finite_proj m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5)
      ∧ r.2.mem ((c.tc : Thread Cert.FfnKernel.nD Cert.FfnKernel.τ).loc Cert.FfnKernel.main_arg6) = m ((c.tc : Thread Cert.FfnKernel.nD Cert.FfnKernel.τ).loc Cert.FfnKernel.main_arg6))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
      ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6))
      ∧ r.2.sem = fun _ => 0)

def quiescent_FfnKernelIdeal_pre_finite_ffn [hFfnKernelIdeal : Cert.FfnKernelIdeal.Facts] [hPre_finite_ffn : Cert.Pre_finite_ffn.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_finite_ffn m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
      ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_FfnReferenceIdeal_pre_finite_ffn [hFfnReferenceIdeal : Cert.FfnReferenceIdeal.Facts] [hPre_finite_ffn : Cert.Pre_finite_ffn.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_finite_ffn m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2)
      ∧ r.2.mem ((c.tc : Thread Cert.LossKernel.nD Cert.LossKernel.τ).loc Cert.LossKernel.main_arg3) = m ((c.tc : Thread Cert.LossKernel.nD Cert.LossKernel.τ).loc Cert.LossKernel.main_arg3)
      ∧ r.2.mem ((c.tc : Thread Cert.LossKernel.nD Cert.LossKernel.τ).loc Cert.LossKernel.main_arg4) = m ((c.tc : Thread Cert.LossKernel.nD Cert.LossKernel.τ).loc Cert.LossKernel.main_arg4)
      ∧ r.2.mem ((c.tc : Thread Cert.LossKernel.nD Cert.LossKernel.τ).loc Cert.LossKernel.main_arg5) = m ((c.tc : Thread Cert.LossKernel.nD Cert.LossKernel.τ).loc Cert.LossKernel.main_arg5)
      ∧ r.2.mem ((c.tc : Thread Cert.LossKernel.nD Cert.LossKernel.τ).loc Cert.LossKernel.main_arg6) = m ((c.tc : Thread Cert.LossKernel.nD Cert.LossKernel.τ).loc Cert.LossKernel.main_arg6)
      ∧ r.2.mem ((c.tc : Thread Cert.LossKernel.nD Cert.LossKernel.τ).loc Cert.LossKernel.main_arg7) = m ((c.tc : Thread Cert.LossKernel.nD Cert.LossKernel.τ).loc Cert.LossKernel.main_arg7))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
      ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
      ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4)
      ∧ r.2.mem ((c.tc : Thread Cert.LossKernelIdeal.nD Cert.LossKernelIdeal.τ).loc Cert.LossKernelIdeal.main_arg5) = m ((c.tc : Thread Cert.LossKernelIdeal.nD Cert.LossKernelIdeal.τ).loc Cert.LossKernelIdeal.main_arg5)
      ∧ r.2.mem ((c.tc : Thread Cert.LossKernelIdeal.nD Cert.LossKernelIdeal.τ).loc Cert.LossKernelIdeal.main_arg6) = m ((c.tc : Thread Cert.LossKernelIdeal.nD Cert.LossKernelIdeal.τ).loc Cert.LossKernelIdeal.main_arg6)
      ∧ r.2.mem ((c.tc : Thread Cert.LossKernelIdeal.nD Cert.LossKernelIdeal.τ).loc Cert.LossKernelIdeal.main_arg7) = m ((c.tc : Thread Cert.LossKernelIdeal.nD Cert.LossKernelIdeal.τ).loc Cert.LossKernelIdeal.main_arg7))
      ∧ r.2.sem = fun _ => 0)

def quiescent_LossKernelIdeal_pre_finite_loss [hLossKernelIdeal : Cert.LossKernelIdeal.Facts] [hPre_finite_loss : Cert.Pre_finite_loss.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal_finite_loss m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
      ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
      ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4)
      ∧ r.2.mem ((c.tc : Thread Cert.LossKernelIdeal.nD Cert.LossKernelIdeal.τ).loc Cert.LossKernelIdeal.main_arg5) = m ((c.tc : Thread Cert.LossKernelIdeal.nD Cert.LossKernelIdeal.τ).loc Cert.LossKernelIdeal.main_arg5)
      ∧ r.2.mem ((c.tc : Thread Cert.LossKernelIdeal.nD Cert.LossKernelIdeal.τ).loc Cert.LossKernelIdeal.main_arg6) = m ((c.tc : Thread Cert.LossKernelIdeal.nD Cert.LossKernelIdeal.τ).loc Cert.LossKernelIdeal.main_arg6)
      ∧ r.2.mem ((c.tc : Thread Cert.LossKernelIdeal.nD Cert.LossKernelIdeal.τ).loc Cert.LossKernelIdeal.main_arg7) = m ((c.tc : Thread Cert.LossKernelIdeal.nD Cert.LossKernelIdeal.τ).loc Cert.LossKernelIdeal.main_arg7))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4)
      ∧ r.2.mem ((c.tc : Thread Cert.LossReferenceIdeal.nD Cert.LossReferenceIdeal.τ).loc Cert.LossReferenceIdeal.main_arg5) = m ((c.tc : Thread Cert.LossReferenceIdeal.nD Cert.LossReferenceIdeal.τ).loc Cert.LossReferenceIdeal.main_arg5)
      ∧ r.2.mem ((c.tc : Thread Cert.LossReferenceIdeal.nD Cert.LossReferenceIdeal.τ).loc Cert.LossReferenceIdeal.main_arg6) = m ((c.tc : Thread Cert.LossReferenceIdeal.nD Cert.LossReferenceIdeal.τ).loc Cert.LossReferenceIdeal.main_arg6)
      ∧ r.2.mem ((c.tc : Thread Cert.LossReferenceIdeal.nD Cert.LossReferenceIdeal.τ).loc Cert.LossReferenceIdeal.main_arg7) = m ((c.tc : Thread Cert.LossReferenceIdeal.nD Cert.LossReferenceIdeal.τ).loc Cert.LossReferenceIdeal.main_arg7))
      ∧ r.2.sem = fun _ => 0)

def quiescent_LossReferenceIdeal_pre_finite_loss [hLossReferenceIdeal : Cert.LossReferenceIdeal.Facts] [hPre_finite_loss : Cert.Pre_finite_loss.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal_finite_loss m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4)
      ∧ r.2.mem ((c.tc : Thread Cert.LossReferenceIdeal.nD Cert.LossReferenceIdeal.τ).loc Cert.LossReferenceIdeal.main_arg5) = m ((c.tc : Thread Cert.LossReferenceIdeal.nD Cert.LossReferenceIdeal.τ).loc Cert.LossReferenceIdeal.main_arg5)
      ∧ r.2.mem ((c.tc : Thread Cert.LossReferenceIdeal.nD Cert.LossReferenceIdeal.τ).loc Cert.LossReferenceIdeal.main_arg6) = m ((c.tc : Thread Cert.LossReferenceIdeal.nD Cert.LossReferenceIdeal.τ).loc Cert.LossReferenceIdeal.main_arg6)
      ∧ r.2.mem ((c.tc : Thread Cert.LossReferenceIdeal.nD Cert.LossReferenceIdeal.τ).loc Cert.LossReferenceIdeal.main_arg7) = m ((c.tc : Thread Cert.LossReferenceIdeal.nD Cert.LossReferenceIdeal.τ).loc Cert.LossReferenceIdeal.main_arg7))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1)
      ∧ r.2.mem ((c.tc : Thread Cert.UpKernel.nD Cert.UpKernel.τ).loc Cert.UpKernel.main_arg2) = m ((c.tc : Thread Cert.UpKernel.nD Cert.UpKernel.τ).loc Cert.UpKernel.main_arg2)
      ∧ r.2.mem ((c.tc : Thread Cert.UpKernel.nD Cert.UpKernel.τ).loc Cert.UpKernel.main_arg3) = m ((c.tc : Thread Cert.UpKernel.nD Cert.UpKernel.τ).loc Cert.UpKernel.main_arg3)
      ∧ r.2.mem ((c.tc : Thread Cert.UpKernel.nD Cert.UpKernel.τ).loc Cert.UpKernel.main_arg4) = m ((c.tc : Thread Cert.UpKernel.nD Cert.UpKernel.τ).loc Cert.UpKernel.main_arg4)
      ∧ r.2.mem ((c.tc : Thread Cert.UpKernel.nD Cert.UpKernel.τ).loc Cert.UpKernel.main_arg5) = m ((c.tc : Thread Cert.UpKernel.nD Cert.UpKernel.τ).loc Cert.UpKernel.main_arg5))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
      ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
      ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3)
      ∧ r.2.mem ((c.tc : Thread Cert.UpKernelIdeal.nD Cert.UpKernelIdeal.τ).loc Cert.UpKernelIdeal.main_arg4) = m ((c.tc : Thread Cert.UpKernelIdeal.nD Cert.UpKernelIdeal.τ).loc Cert.UpKernelIdeal.main_arg4)
      ∧ r.2.mem ((c.tc : Thread Cert.UpKernelIdeal.nD Cert.UpKernelIdeal.τ).loc Cert.UpKernelIdeal.main_arg5) = m ((c.tc : Thread Cert.UpKernelIdeal.nD Cert.UpKernelIdeal.τ).loc Cert.UpKernelIdeal.main_arg5))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4)
      ∧ r.2.mem ((c.tc : Thread Cert.UpReferenceIdeal.nD Cert.UpReferenceIdeal.τ).loc Cert.UpReferenceIdeal.main_arg5) = m ((c.tc : Thread Cert.UpReferenceIdeal.nD Cert.UpReferenceIdeal.τ).loc Cert.UpReferenceIdeal.main_arg5))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4)
      ∧ r.2.mem ((c.tc : Thread Cert.MixKernel.nD Cert.MixKernel.τ).loc Cert.MixKernel.main_arg5) = m ((c.tc : Thread Cert.MixKernel.nD Cert.MixKernel.τ).loc Cert.MixKernel.main_arg5)
      ∧ r.2.mem ((c.tc : Thread Cert.MixKernel.nD Cert.MixKernel.τ).loc Cert.MixKernel.main_arg6) = m ((c.tc : Thread Cert.MixKernel.nD Cert.MixKernel.τ).loc Cert.MixKernel.main_arg6)
      ∧ r.2.mem ((c.tc : Thread Cert.MixKernel.nD Cert.MixKernel.τ).loc Cert.MixKernel.main_arg7) = m ((c.tc : Thread Cert.MixKernel.nD Cert.MixKernel.τ).loc Cert.MixKernel.main_arg7)
      ∧ r.2.mem ((c.tc : Thread Cert.MixKernel.nD Cert.MixKernel.τ).loc Cert.MixKernel.main_arg8) = m ((c.tc : Thread Cert.MixKernel.nD Cert.MixKernel.τ).loc Cert.MixKernel.main_arg8)
      ∧ r.2.mem ((c.tc : Thread Cert.MixKernel.nD Cert.MixKernel.τ).loc Cert.MixKernel.main_arg9) = m ((c.tc : Thread Cert.MixKernel.nD Cert.MixKernel.τ).loc Cert.MixKernel.main_arg9)
      ∧ r.2.mem ((c.tc : Thread Cert.MixKernel.nD Cert.MixKernel.τ).loc Cert.MixKernel.main_arg10) = m ((c.tc : Thread Cert.MixKernel.nD Cert.MixKernel.τ).loc Cert.MixKernel.main_arg10)
      ∧ r.2.mem ((c.tc : Thread Cert.MixKernel.nD Cert.MixKernel.τ).loc Cert.MixKernel.main_arg11) = m ((c.tc : Thread Cert.MixKernel.nD Cert.MixKernel.τ).loc Cert.MixKernel.main_arg11))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
      ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8)
      ∧ r.2.mem ((c.tc : Thread Cert.MixKernelIdeal.nD Cert.MixKernelIdeal.τ).loc Cert.MixKernelIdeal.main_arg9) = m ((c.tc : Thread Cert.MixKernelIdeal.nD Cert.MixKernelIdeal.τ).loc Cert.MixKernelIdeal.main_arg9)
      ∧ r.2.mem ((c.tc : Thread Cert.MixKernelIdeal.nD Cert.MixKernelIdeal.τ).loc Cert.MixKernelIdeal.main_arg10) = m ((c.tc : Thread Cert.MixKernelIdeal.nD Cert.MixKernelIdeal.τ).loc Cert.MixKernelIdeal.main_arg10)
      ∧ r.2.mem ((c.tc : Thread Cert.MixKernelIdeal.nD Cert.MixKernelIdeal.τ).loc Cert.MixKernelIdeal.main_arg11) = m ((c.tc : Thread Cert.MixKernelIdeal.nD Cert.MixKernelIdeal.τ).loc Cert.MixKernelIdeal.main_arg11))
      ∧ r.2.sem = fun _ => 0)

def quiescent_MixKernelIdeal_pre_finite_mix [hMixKernelIdeal : Cert.MixKernelIdeal.Facts] [hPre_finite_mix : Cert.Pre_finite_mix.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal_finite_mix m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
      ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8)
      ∧ r.2.mem ((c.tc : Thread Cert.MixKernelIdeal.nD Cert.MixKernelIdeal.τ).loc Cert.MixKernelIdeal.main_arg9) = m ((c.tc : Thread Cert.MixKernelIdeal.nD Cert.MixKernelIdeal.τ).loc Cert.MixKernelIdeal.main_arg9)
      ∧ r.2.mem ((c.tc : Thread Cert.MixKernelIdeal.nD Cert.MixKernelIdeal.τ).loc Cert.MixKernelIdeal.main_arg10) = m ((c.tc : Thread Cert.MixKernelIdeal.nD Cert.MixKernelIdeal.τ).loc Cert.MixKernelIdeal.main_arg10)
      ∧ r.2.mem ((c.tc : Thread Cert.MixKernelIdeal.nD Cert.MixKernelIdeal.τ).loc Cert.MixKernelIdeal.main_arg11) = m ((c.tc : Thread Cert.MixKernelIdeal.nD Cert.MixKernelIdeal.τ).loc Cert.MixKernelIdeal.main_arg11))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10)
      ∧ r.2.mem ((c.tc : Thread Cert.MixReferenceIdeal.nD Cert.MixReferenceIdeal.τ).loc Cert.MixReferenceIdeal.main_arg11) = m ((c.tc : Thread Cert.MixReferenceIdeal.nD Cert.MixReferenceIdeal.τ).loc Cert.MixReferenceIdeal.main_arg11))
      ∧ r.2.sem = fun _ => 0)

def quiescent_MixReferenceIdeal_pre_finite_mix [hMixReferenceIdeal : Cert.MixReferenceIdeal.Facts] [hPre_finite_mix : Cert.Pre_finite_mix.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal_finite_mix m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10)
      ∧ r.2.mem ((c.tc : Thread Cert.MixReferenceIdeal.nD Cert.MixReferenceIdeal.τ).loc Cert.MixReferenceIdeal.main_arg11) = m ((c.tc : Thread Cert.MixReferenceIdeal.nD Cert.MixReferenceIdeal.τ).loc Cert.MixReferenceIdeal.main_arg11))
      ∧ r.2.sem = fun _ => 0)

def quiescent_FuseKernel [hFuseKernel : Cert.FuseKernel.Facts] : Prop :=
  ∀ (m : (ℓ : Loc Cert.FuseKernel.nD Cert.FuseKernel.τ Cert.FuseKernel.sig) → Buf (Elt Bits) ℓ) (g : Dev Cert.FuseKernel.nD → PrngReg), Pre_FuseKernel m →
    θ_run (Cert.FuseKernel.defs (F := Bits)) (onTc (τ := Cert.FuseKernel.τ) (Cert.FuseKernel.main (F := Bits))) ⟨m, fun _ => 0, g⟩ (fun r => (∀ c : Dev Cert.FuseKernel.nD,
      r.2.mem ((c.tc : Thread Cert.FuseKernel.nD Cert.FuseKernel.τ).loc Cert.FuseKernel.main_arg0) = m ((c.tc : Thread Cert.FuseKernel.nD Cert.FuseKernel.τ).loc Cert.FuseKernel.main_arg0)
      ∧ r.2.mem ((c.tc : Thread Cert.FuseKernel.nD Cert.FuseKernel.τ).loc Cert.FuseKernel.main_arg1) = m ((c.tc : Thread Cert.FuseKernel.nD Cert.FuseKernel.τ).loc Cert.FuseKernel.main_arg1)
      ∧ r.2.mem ((c.tc : Thread Cert.FuseKernel.nD Cert.FuseKernel.τ).loc Cert.FuseKernel.main_arg2) = m ((c.tc : Thread Cert.FuseKernel.nD Cert.FuseKernel.τ).loc Cert.FuseKernel.main_arg2)
      ∧ r.2.mem ((c.tc : Thread Cert.FuseKernel.nD Cert.FuseKernel.τ).loc Cert.FuseKernel.main_arg3) = m ((c.tc : Thread Cert.FuseKernel.nD Cert.FuseKernel.τ).loc Cert.FuseKernel.main_arg3)
      ∧ r.2.mem ((c.tc : Thread Cert.FuseKernel.nD Cert.FuseKernel.τ).loc Cert.FuseKernel.main_arg4) = m ((c.tc : Thread Cert.FuseKernel.nD Cert.FuseKernel.τ).loc Cert.FuseKernel.main_arg4)
      ∧ r.2.mem ((c.tc : Thread Cert.FuseKernel.nD Cert.FuseKernel.τ).loc Cert.FuseKernel.main_arg5) = m ((c.tc : Thread Cert.FuseKernel.nD Cert.FuseKernel.τ).loc Cert.FuseKernel.main_arg5)
      ∧ r.2.mem ((c.tc : Thread Cert.FuseKernel.nD Cert.FuseKernel.τ).loc Cert.FuseKernel.main_arg6) = m ((c.tc : Thread Cert.FuseKernel.nD Cert.FuseKernel.τ).loc Cert.FuseKernel.main_arg6)
      ∧ r.2.mem ((c.tc : Thread Cert.FuseKernel.nD Cert.FuseKernel.τ).loc Cert.FuseKernel.main_arg7) = m ((c.tc : Thread Cert.FuseKernel.nD Cert.FuseKernel.τ).loc Cert.FuseKernel.main_arg7)
      ∧ r.2.mem ((c.tc : Thread Cert.FuseKernel.nD Cert.FuseKernel.τ).loc Cert.FuseKernel.main_arg8) = m ((c.tc : Thread Cert.FuseKernel.nD Cert.FuseKernel.τ).loc Cert.FuseKernel.main_arg8)
      ∧ r.2.mem ((c.tc : Thread Cert.FuseKernel.nD Cert.FuseKernel.τ).loc Cert.FuseKernel.main_arg9) = m ((c.tc : Thread Cert.FuseKernel.nD Cert.FuseKernel.τ).loc Cert.FuseKernel.main_arg9)
      ∧ r.2.mem ((c.tc : Thread Cert.FuseKernel.nD Cert.FuseKernel.τ).loc Cert.FuseKernel.main_arg10) = m ((c.tc : Thread Cert.FuseKernel.nD Cert.FuseKernel.τ).loc Cert.FuseKernel.main_arg10)
      ∧ r.2.mem ((c.tc : Thread Cert.FuseKernel.nD Cert.FuseKernel.τ).loc Cert.FuseKernel.main_arg11) = m ((c.tc : Thread Cert.FuseKernel.nD Cert.FuseKernel.τ).loc Cert.FuseKernel.main_arg11)
      ∧ r.2.mem ((c.tc : Thread Cert.FuseKernel.nD Cert.FuseKernel.τ).loc Cert.FuseKernel.main_arg12) = m ((c.tc : Thread Cert.FuseKernel.nD Cert.FuseKernel.τ).loc Cert.FuseKernel.main_arg12))
      ∧ r.2.sem = fun _ => 0)

def quiescent_FuseKernelIdeal [hFuseKernelIdeal : Cert.FuseKernelIdeal.Facts] : Prop :=
  ∀ (m : (ℓ : Loc Cert.FuseKernelIdeal.nD Cert.FuseKernelIdeal.τ Cert.FuseKernelIdeal.sig) → Buf (Elt Ideal) ℓ) (g : Dev Cert.FuseKernelIdeal.nD → PrngReg), Pre_FuseKernelIdeal m →
    θ_run (Cert.FuseKernelIdeal.defs (F := Ideal)) (onTc (τ := Cert.FuseKernelIdeal.τ) (Cert.FuseKernelIdeal.main (F := Ideal))) ⟨m, fun _ => 0, g⟩ (fun r => (∀ c : Dev Cert.FuseKernelIdeal.nD,
      r.2.mem ((c.tc : Thread Cert.FuseKernelIdeal.nD Cert.FuseKernelIdeal.τ).loc Cert.FuseKernelIdeal.main_arg0) = m ((c.tc : Thread Cert.FuseKernelIdeal.nD Cert.FuseKernelIdeal.τ).loc Cert.FuseKernelIdeal.main_arg0)
      ∧ r.2.mem ((c.tc : Thread Cert.FuseKernelIdeal.nD Cert.FuseKernelIdeal.τ).loc Cert.FuseKernelIdeal.main_arg1) = m ((c.tc : Thread Cert.FuseKernelIdeal.nD Cert.FuseKernelIdeal.τ).loc Cert.FuseKernelIdeal.main_arg1)
      ∧ r.2.mem ((c.tc : Thread Cert.FuseKernelIdeal.nD Cert.FuseKernelIdeal.τ).loc Cert.FuseKernelIdeal.main_arg2) = m ((c.tc : Thread Cert.FuseKernelIdeal.nD Cert.FuseKernelIdeal.τ).loc Cert.FuseKernelIdeal.main_arg2)
      ∧ r.2.mem ((c.tc : Thread Cert.FuseKernelIdeal.nD Cert.FuseKernelIdeal.τ).loc Cert.FuseKernelIdeal.main_arg3) = m ((c.tc : Thread Cert.FuseKernelIdeal.nD Cert.FuseKernelIdeal.τ).loc Cert.FuseKernelIdeal.main_arg3)
      ∧ r.2.mem ((c.tc : Thread Cert.FuseKernelIdeal.nD Cert.FuseKernelIdeal.τ).loc Cert.FuseKernelIdeal.main_arg4) = m ((c.tc : Thread Cert.FuseKernelIdeal.nD Cert.FuseKernelIdeal.τ).loc Cert.FuseKernelIdeal.main_arg4)
      ∧ r.2.mem ((c.tc : Thread Cert.FuseKernelIdeal.nD Cert.FuseKernelIdeal.τ).loc Cert.FuseKernelIdeal.main_arg5) = m ((c.tc : Thread Cert.FuseKernelIdeal.nD Cert.FuseKernelIdeal.τ).loc Cert.FuseKernelIdeal.main_arg5)
      ∧ r.2.mem ((c.tc : Thread Cert.FuseKernelIdeal.nD Cert.FuseKernelIdeal.τ).loc Cert.FuseKernelIdeal.main_arg6) = m ((c.tc : Thread Cert.FuseKernelIdeal.nD Cert.FuseKernelIdeal.τ).loc Cert.FuseKernelIdeal.main_arg6)
      ∧ r.2.mem ((c.tc : Thread Cert.FuseKernelIdeal.nD Cert.FuseKernelIdeal.τ).loc Cert.FuseKernelIdeal.main_arg7) = m ((c.tc : Thread Cert.FuseKernelIdeal.nD Cert.FuseKernelIdeal.τ).loc Cert.FuseKernelIdeal.main_arg7)
      ∧ r.2.mem ((c.tc : Thread Cert.FuseKernelIdeal.nD Cert.FuseKernelIdeal.τ).loc Cert.FuseKernelIdeal.main_arg8) = m ((c.tc : Thread Cert.FuseKernelIdeal.nD Cert.FuseKernelIdeal.τ).loc Cert.FuseKernelIdeal.main_arg8)
      ∧ r.2.mem ((c.tc : Thread Cert.FuseKernelIdeal.nD Cert.FuseKernelIdeal.τ).loc Cert.FuseKernelIdeal.main_arg9) = m ((c.tc : Thread Cert.FuseKernelIdeal.nD Cert.FuseKernelIdeal.τ).loc Cert.FuseKernelIdeal.main_arg9)
      ∧ r.2.mem ((c.tc : Thread Cert.FuseKernelIdeal.nD Cert.FuseKernelIdeal.τ).loc Cert.FuseKernelIdeal.main_arg10) = m ((c.tc : Thread Cert.FuseKernelIdeal.nD Cert.FuseKernelIdeal.τ).loc Cert.FuseKernelIdeal.main_arg10)
      ∧ r.2.mem ((c.tc : Thread Cert.FuseKernelIdeal.nD Cert.FuseKernelIdeal.τ).loc Cert.FuseKernelIdeal.main_arg11) = m ((c.tc : Thread Cert.FuseKernelIdeal.nD Cert.FuseKernelIdeal.τ).loc Cert.FuseKernelIdeal.main_arg11)
      ∧ r.2.mem ((c.tc : Thread Cert.FuseKernelIdeal.nD Cert.FuseKernelIdeal.τ).loc Cert.FuseKernelIdeal.main_arg12) = m ((c.tc : Thread Cert.FuseKernelIdeal.nD Cert.FuseKernelIdeal.τ).loc Cert.FuseKernelIdeal.main_arg12))
      ∧ r.2.sem = fun _ => 0)

def quiescent_FuseKernelIdeal_pre_finite_fuse [hFuseKernelIdeal : Cert.FuseKernelIdeal.Facts] [hPre_finite_fuse : Cert.Pre_finite_fuse.Facts] : Prop :=
  ∀ (m : (ℓ : Loc Cert.FuseKernelIdeal.nD Cert.FuseKernelIdeal.τ Cert.FuseKernelIdeal.sig) → Buf (Elt Ideal) ℓ) (g : Dev Cert.FuseKernelIdeal.nD → PrngReg), Pre_FuseKernelIdeal_finite_fuse m →
    θ_run (Cert.FuseKernelIdeal.defs (F := Ideal)) (onTc (τ := Cert.FuseKernelIdeal.τ) (Cert.FuseKernelIdeal.main (F := Ideal))) ⟨m, fun _ => 0, g⟩ (fun r => (∀ c : Dev Cert.FuseKernelIdeal.nD,
      r.2.mem ((c.tc : Thread Cert.FuseKernelIdeal.nD Cert.FuseKernelIdeal.τ).loc Cert.FuseKernelIdeal.main_arg0) = m ((c.tc : Thread Cert.FuseKernelIdeal.nD Cert.FuseKernelIdeal.τ).loc Cert.FuseKernelIdeal.main_arg0)
      ∧ r.2.mem ((c.tc : Thread Cert.FuseKernelIdeal.nD Cert.FuseKernelIdeal.τ).loc Cert.FuseKernelIdeal.main_arg1) = m ((c.tc : Thread Cert.FuseKernelIdeal.nD Cert.FuseKernelIdeal.τ).loc Cert.FuseKernelIdeal.main_arg1)
      ∧ r.2.mem ((c.tc : Thread Cert.FuseKernelIdeal.nD Cert.FuseKernelIdeal.τ).loc Cert.FuseKernelIdeal.main_arg2) = m ((c.tc : Thread Cert.FuseKernelIdeal.nD Cert.FuseKernelIdeal.τ).loc Cert.FuseKernelIdeal.main_arg2)
      ∧ r.2.mem ((c.tc : Thread Cert.FuseKernelIdeal.nD Cert.FuseKernelIdeal.τ).loc Cert.FuseKernelIdeal.main_arg3) = m ((c.tc : Thread Cert.FuseKernelIdeal.nD Cert.FuseKernelIdeal.τ).loc Cert.FuseKernelIdeal.main_arg3)
      ∧ r.2.mem ((c.tc : Thread Cert.FuseKernelIdeal.nD Cert.FuseKernelIdeal.τ).loc Cert.FuseKernelIdeal.main_arg4) = m ((c.tc : Thread Cert.FuseKernelIdeal.nD Cert.FuseKernelIdeal.τ).loc Cert.FuseKernelIdeal.main_arg4)
      ∧ r.2.mem ((c.tc : Thread Cert.FuseKernelIdeal.nD Cert.FuseKernelIdeal.τ).loc Cert.FuseKernelIdeal.main_arg5) = m ((c.tc : Thread Cert.FuseKernelIdeal.nD Cert.FuseKernelIdeal.τ).loc Cert.FuseKernelIdeal.main_arg5)
      ∧ r.2.mem ((c.tc : Thread Cert.FuseKernelIdeal.nD Cert.FuseKernelIdeal.τ).loc Cert.FuseKernelIdeal.main_arg6) = m ((c.tc : Thread Cert.FuseKernelIdeal.nD Cert.FuseKernelIdeal.τ).loc Cert.FuseKernelIdeal.main_arg6)
      ∧ r.2.mem ((c.tc : Thread Cert.FuseKernelIdeal.nD Cert.FuseKernelIdeal.τ).loc Cert.FuseKernelIdeal.main_arg7) = m ((c.tc : Thread Cert.FuseKernelIdeal.nD Cert.FuseKernelIdeal.τ).loc Cert.FuseKernelIdeal.main_arg7)
      ∧ r.2.mem ((c.tc : Thread Cert.FuseKernelIdeal.nD Cert.FuseKernelIdeal.τ).loc Cert.FuseKernelIdeal.main_arg8) = m ((c.tc : Thread Cert.FuseKernelIdeal.nD Cert.FuseKernelIdeal.τ).loc Cert.FuseKernelIdeal.main_arg8)
      ∧ r.2.mem ((c.tc : Thread Cert.FuseKernelIdeal.nD Cert.FuseKernelIdeal.τ).loc Cert.FuseKernelIdeal.main_arg9) = m ((c.tc : Thread Cert.FuseKernelIdeal.nD Cert.FuseKernelIdeal.τ).loc Cert.FuseKernelIdeal.main_arg9)
      ∧ r.2.mem ((c.tc : Thread Cert.FuseKernelIdeal.nD Cert.FuseKernelIdeal.τ).loc Cert.FuseKernelIdeal.main_arg10) = m ((c.tc : Thread Cert.FuseKernelIdeal.nD Cert.FuseKernelIdeal.τ).loc Cert.FuseKernelIdeal.main_arg10)
      ∧ r.2.mem ((c.tc : Thread Cert.FuseKernelIdeal.nD Cert.FuseKernelIdeal.τ).loc Cert.FuseKernelIdeal.main_arg11) = m ((c.tc : Thread Cert.FuseKernelIdeal.nD Cert.FuseKernelIdeal.τ).loc Cert.FuseKernelIdeal.main_arg11)
      ∧ r.2.mem ((c.tc : Thread Cert.FuseKernelIdeal.nD Cert.FuseKernelIdeal.τ).loc Cert.FuseKernelIdeal.main_arg12) = m ((c.tc : Thread Cert.FuseKernelIdeal.nD Cert.FuseKernelIdeal.τ).loc Cert.FuseKernelIdeal.main_arg12))
      ∧ r.2.sem = fun _ => 0)

def quiescent_FuseReferenceIdeal [hFuseReferenceIdeal : Cert.FuseReferenceIdeal.Facts] : Prop :=
  ∀ (m : (ℓ : Loc Cert.FuseReferenceIdeal.nD Cert.FuseReferenceIdeal.τ Cert.FuseReferenceIdeal.sig) → Buf (Elt Ideal) ℓ) (g : Dev Cert.FuseReferenceIdeal.nD → PrngReg), Pre_FuseReferenceIdeal m →
    θ_run (Cert.FuseReferenceIdeal.defs (F := Ideal)) (onTc (τ := Cert.FuseReferenceIdeal.τ) (Cert.FuseReferenceIdeal.main (F := Ideal))) ⟨m, fun _ => 0, g⟩ (fun r => (∀ c : Dev Cert.FuseReferenceIdeal.nD,
      r.2.mem ((c.tc : Thread Cert.FuseReferenceIdeal.nD Cert.FuseReferenceIdeal.τ).loc Cert.FuseReferenceIdeal.main_arg0) = m ((c.tc : Thread Cert.FuseReferenceIdeal.nD Cert.FuseReferenceIdeal.τ).loc Cert.FuseReferenceIdeal.main_arg0)
      ∧ r.2.mem ((c.tc : Thread Cert.FuseReferenceIdeal.nD Cert.FuseReferenceIdeal.τ).loc Cert.FuseReferenceIdeal.main_arg1) = m ((c.tc : Thread Cert.FuseReferenceIdeal.nD Cert.FuseReferenceIdeal.τ).loc Cert.FuseReferenceIdeal.main_arg1)
      ∧ r.2.mem ((c.tc : Thread Cert.FuseReferenceIdeal.nD Cert.FuseReferenceIdeal.τ).loc Cert.FuseReferenceIdeal.main_arg2) = m ((c.tc : Thread Cert.FuseReferenceIdeal.nD Cert.FuseReferenceIdeal.τ).loc Cert.FuseReferenceIdeal.main_arg2)
      ∧ r.2.mem ((c.tc : Thread Cert.FuseReferenceIdeal.nD Cert.FuseReferenceIdeal.τ).loc Cert.FuseReferenceIdeal.main_arg3) = m ((c.tc : Thread Cert.FuseReferenceIdeal.nD Cert.FuseReferenceIdeal.τ).loc Cert.FuseReferenceIdeal.main_arg3)
      ∧ r.2.mem ((c.tc : Thread Cert.FuseReferenceIdeal.nD Cert.FuseReferenceIdeal.τ).loc Cert.FuseReferenceIdeal.main_arg4) = m ((c.tc : Thread Cert.FuseReferenceIdeal.nD Cert.FuseReferenceIdeal.τ).loc Cert.FuseReferenceIdeal.main_arg4)
      ∧ r.2.mem ((c.tc : Thread Cert.FuseReferenceIdeal.nD Cert.FuseReferenceIdeal.τ).loc Cert.FuseReferenceIdeal.main_arg5) = m ((c.tc : Thread Cert.FuseReferenceIdeal.nD Cert.FuseReferenceIdeal.τ).loc Cert.FuseReferenceIdeal.main_arg5)
      ∧ r.2.mem ((c.tc : Thread Cert.FuseReferenceIdeal.nD Cert.FuseReferenceIdeal.τ).loc Cert.FuseReferenceIdeal.main_arg6) = m ((c.tc : Thread Cert.FuseReferenceIdeal.nD Cert.FuseReferenceIdeal.τ).loc Cert.FuseReferenceIdeal.main_arg6)
      ∧ r.2.mem ((c.tc : Thread Cert.FuseReferenceIdeal.nD Cert.FuseReferenceIdeal.τ).loc Cert.FuseReferenceIdeal.main_arg7) = m ((c.tc : Thread Cert.FuseReferenceIdeal.nD Cert.FuseReferenceIdeal.τ).loc Cert.FuseReferenceIdeal.main_arg7)
      ∧ r.2.mem ((c.tc : Thread Cert.FuseReferenceIdeal.nD Cert.FuseReferenceIdeal.τ).loc Cert.FuseReferenceIdeal.main_arg8) = m ((c.tc : Thread Cert.FuseReferenceIdeal.nD Cert.FuseReferenceIdeal.τ).loc Cert.FuseReferenceIdeal.main_arg8)
      ∧ r.2.mem ((c.tc : Thread Cert.FuseReferenceIdeal.nD Cert.FuseReferenceIdeal.τ).loc Cert.FuseReferenceIdeal.main_arg9) = m ((c.tc : Thread Cert.FuseReferenceIdeal.nD Cert.FuseReferenceIdeal.τ).loc Cert.FuseReferenceIdeal.main_arg9)
      ∧ r.2.mem ((c.tc : Thread Cert.FuseReferenceIdeal.nD Cert.FuseReferenceIdeal.τ).loc Cert.FuseReferenceIdeal.main_arg10) = m ((c.tc : Thread Cert.FuseReferenceIdeal.nD Cert.FuseReferenceIdeal.τ).loc Cert.FuseReferenceIdeal.main_arg10)
      ∧ r.2.mem ((c.tc : Thread Cert.FuseReferenceIdeal.nD Cert.FuseReferenceIdeal.τ).loc Cert.FuseReferenceIdeal.main_arg11) = m ((c.tc : Thread Cert.FuseReferenceIdeal.nD Cert.FuseReferenceIdeal.τ).loc Cert.FuseReferenceIdeal.main_arg11)
      ∧ r.2.mem ((c.tc : Thread Cert.FuseReferenceIdeal.nD Cert.FuseReferenceIdeal.τ).loc Cert.FuseReferenceIdeal.main_arg12) = m ((c.tc : Thread Cert.FuseReferenceIdeal.nD Cert.FuseReferenceIdeal.τ).loc Cert.FuseReferenceIdeal.main_arg12))
      ∧ r.2.sem = fun _ => 0)

def quiescent_FuseReferenceIdeal_pre_finite_fuse [hFuseReferenceIdeal : Cert.FuseReferenceIdeal.Facts] [hPre_finite_fuse : Cert.Pre_finite_fuse.Facts] : Prop :=
  ∀ (m : (ℓ : Loc Cert.FuseReferenceIdeal.nD Cert.FuseReferenceIdeal.τ Cert.FuseReferenceIdeal.sig) → Buf (Elt Ideal) ℓ) (g : Dev Cert.FuseReferenceIdeal.nD → PrngReg), Pre_FuseReferenceIdeal_finite_fuse m →
    θ_run (Cert.FuseReferenceIdeal.defs (F := Ideal)) (onTc (τ := Cert.FuseReferenceIdeal.τ) (Cert.FuseReferenceIdeal.main (F := Ideal))) ⟨m, fun _ => 0, g⟩ (fun r => (∀ c : Dev Cert.FuseReferenceIdeal.nD,
      r.2.mem ((c.tc : Thread Cert.FuseReferenceIdeal.nD Cert.FuseReferenceIdeal.τ).loc Cert.FuseReferenceIdeal.main_arg0) = m ((c.tc : Thread Cert.FuseReferenceIdeal.nD Cert.FuseReferenceIdeal.τ).loc Cert.FuseReferenceIdeal.main_arg0)
      ∧ r.2.mem ((c.tc : Thread Cert.FuseReferenceIdeal.nD Cert.FuseReferenceIdeal.τ).loc Cert.FuseReferenceIdeal.main_arg1) = m ((c.tc : Thread Cert.FuseReferenceIdeal.nD Cert.FuseReferenceIdeal.τ).loc Cert.FuseReferenceIdeal.main_arg1)
      ∧ r.2.mem ((c.tc : Thread Cert.FuseReferenceIdeal.nD Cert.FuseReferenceIdeal.τ).loc Cert.FuseReferenceIdeal.main_arg2) = m ((c.tc : Thread Cert.FuseReferenceIdeal.nD Cert.FuseReferenceIdeal.τ).loc Cert.FuseReferenceIdeal.main_arg2)
      ∧ r.2.mem ((c.tc : Thread Cert.FuseReferenceIdeal.nD Cert.FuseReferenceIdeal.τ).loc Cert.FuseReferenceIdeal.main_arg3) = m ((c.tc : Thread Cert.FuseReferenceIdeal.nD Cert.FuseReferenceIdeal.τ).loc Cert.FuseReferenceIdeal.main_arg3)
      ∧ r.2.mem ((c.tc : Thread Cert.FuseReferenceIdeal.nD Cert.FuseReferenceIdeal.τ).loc Cert.FuseReferenceIdeal.main_arg4) = m ((c.tc : Thread Cert.FuseReferenceIdeal.nD Cert.FuseReferenceIdeal.τ).loc Cert.FuseReferenceIdeal.main_arg4)
      ∧ r.2.mem ((c.tc : Thread Cert.FuseReferenceIdeal.nD Cert.FuseReferenceIdeal.τ).loc Cert.FuseReferenceIdeal.main_arg5) = m ((c.tc : Thread Cert.FuseReferenceIdeal.nD Cert.FuseReferenceIdeal.τ).loc Cert.FuseReferenceIdeal.main_arg5)
      ∧ r.2.mem ((c.tc : Thread Cert.FuseReferenceIdeal.nD Cert.FuseReferenceIdeal.τ).loc Cert.FuseReferenceIdeal.main_arg6) = m ((c.tc : Thread Cert.FuseReferenceIdeal.nD Cert.FuseReferenceIdeal.τ).loc Cert.FuseReferenceIdeal.main_arg6)
      ∧ r.2.mem ((c.tc : Thread Cert.FuseReferenceIdeal.nD Cert.FuseReferenceIdeal.τ).loc Cert.FuseReferenceIdeal.main_arg7) = m ((c.tc : Thread Cert.FuseReferenceIdeal.nD Cert.FuseReferenceIdeal.τ).loc Cert.FuseReferenceIdeal.main_arg7)
      ∧ r.2.mem ((c.tc : Thread Cert.FuseReferenceIdeal.nD Cert.FuseReferenceIdeal.τ).loc Cert.FuseReferenceIdeal.main_arg8) = m ((c.tc : Thread Cert.FuseReferenceIdeal.nD Cert.FuseReferenceIdeal.τ).loc Cert.FuseReferenceIdeal.main_arg8)
      ∧ r.2.mem ((c.tc : Thread Cert.FuseReferenceIdeal.nD Cert.FuseReferenceIdeal.τ).loc Cert.FuseReferenceIdeal.main_arg9) = m ((c.tc : Thread Cert.FuseReferenceIdeal.nD Cert.FuseReferenceIdeal.τ).loc Cert.FuseReferenceIdeal.main_arg9)
      ∧ r.2.mem ((c.tc : Thread Cert.FuseReferenceIdeal.nD Cert.FuseReferenceIdeal.τ).loc Cert.FuseReferenceIdeal.main_arg10) = m ((c.tc : Thread Cert.FuseReferenceIdeal.nD Cert.FuseReferenceIdeal.τ).loc Cert.FuseReferenceIdeal.main_arg10)
      ∧ r.2.mem ((c.tc : Thread Cert.FuseReferenceIdeal.nD Cert.FuseReferenceIdeal.τ).loc Cert.FuseReferenceIdeal.main_arg11) = m ((c.tc : Thread Cert.FuseReferenceIdeal.nD Cert.FuseReferenceIdeal.τ).loc Cert.FuseReferenceIdeal.main_arg11)
      ∧ r.2.mem ((c.tc : Thread Cert.FuseReferenceIdeal.nD Cert.FuseReferenceIdeal.τ).loc Cert.FuseReferenceIdeal.main_arg12) = m ((c.tc : Thread Cert.FuseReferenceIdeal.nD Cert.FuseReferenceIdeal.τ).loc Cert.FuseReferenceIdeal.main_arg12))
      ∧ r.2.sem = fun _ => 0)

def preserves_ProjKernel_ProjKernelIdeal : Prop :=
  True

def algebraic_ProjKernelIdeal_ProjReferenceIdeal_pre_finite_proj [hProjKernelIdeal : Cert.ProjKernelIdeal.Facts] [hProjReferenceIdeal : Cert.ProjReferenceIdeal.Facts] [hPre_finite_proj : Cert.Pre_finite_proj.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal_finite_proj m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)
      ∧ m' ((c.tc : Thread Cert.ProjReferenceIdeal.nD Cert.ProjReferenceIdeal.τ).loc Cert.ProjReferenceIdeal.main_arg3) = m ((c.tc : Thread Cert.ProjKernelIdeal.nD Cert.ProjKernelIdeal.τ).loc Cert.ProjKernelIdeal.main_arg3)
      ∧ m' ((c.tc : Thread Cert.ProjReferenceIdeal.nD Cert.ProjReferenceIdeal.τ).loc Cert.ProjReferenceIdeal.main_arg4) = m ((c.tc : Thread Cert.ProjKernelIdeal.nD Cert.ProjKernelIdeal.τ).loc Cert.ProjKernelIdeal.main_arg4)) →
    ∃ (v0 : (c : Dev Cert.ProjKernelIdeal.nD) → Buf (Elt Ideal) ((c.tc : Thread Cert.ProjKernelIdeal.nD Cert.ProjKernelIdeal.τ).loc Cert.ProjKernelIdeal.main_v4_0)) (v1 : (c : Dev Cert.ProjKernelIdeal.nD) → Buf (Elt Ideal) ((c.tc : Thread Cert.ProjKernelIdeal.nD Cert.ProjKernelIdeal.τ).loc Cert.ProjKernelIdeal.main_v4_1)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v4_0) = v0 c
          ∧ r.2.mem ((c.tc : Thread Cert.ProjKernelIdeal.nD Cert.ProjKernelIdeal.τ).loc Cert.ProjKernelIdeal.main_v4_1) = v1 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
          ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
          ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v39) = v0 c
          ∧ r.2.mem ((c.tc : Thread Cert.ProjReferenceIdeal.nD Cert.ProjReferenceIdeal.τ).loc Cert.ProjReferenceIdeal.main_v42) = v1 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4))

def preserves_FfnKernel_FfnKernelIdeal : Prop :=
  True

def algebraic_FfnKernelIdeal_FfnReferenceIdeal_pre_finite_ffn [hFfnKernelIdeal : Cert.FfnKernelIdeal.Facts] [hFfnReferenceIdeal : Cert.FfnReferenceIdeal.Facts] [hPre_finite_ffn : Cert.Pre_finite_ffn.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_finite_ffn m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)
      ∧ m' ((c.tc : Thread Cert.FfnReferenceIdeal.nD Cert.FfnReferenceIdeal.τ).loc Cert.FfnReferenceIdeal.main_arg6) = m ((c.tc : Thread Cert.FfnKernelIdeal.nD Cert.FfnKernelIdeal.τ).loc Cert.FfnKernelIdeal.main_arg6)) →
    ∃ (v0 : (c : Dev Cert.FfnKernelIdeal.nD) → Buf (Elt Ideal) ((c.tc : Thread Cert.FfnKernelIdeal.nD Cert.FfnKernelIdeal.τ).loc Cert.FfnKernelIdeal.main_v53_0)) (v1 : (c : Dev Cert.FfnKernelIdeal.nD) → Buf (Elt Ideal) ((c.tc : Thread Cert.FfnKernelIdeal.nD Cert.FfnKernelIdeal.τ).loc Cert.FfnKernelIdeal.main_v53_1)) (v2 : (c : Dev Cert.FfnKernelIdeal.nD) → Buf (Elt Ideal) ((c.tc : Thread Cert.FfnKernelIdeal.nD Cert.FfnKernelIdeal.τ).loc Cert.FfnKernelIdeal.main_v53_2)) (v3 : (c : Dev Cert.FfnKernelIdeal.nD) → Buf (Elt Ideal) ((c.tc : Thread Cert.FfnKernelIdeal.nD Cert.FfnKernelIdeal.τ).loc Cert.FfnKernelIdeal.main_v53_3)) (v4 : (c : Dev Cert.FfnKernelIdeal.nD) → Buf (Elt Ideal) ((c.tc : Thread Cert.FfnKernelIdeal.nD Cert.FfnKernelIdeal.τ).loc Cert.FfnKernelIdeal.main_v53_4)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v53_0) = v0 c
          ∧ r.2.mem ((c.tc : Thread Cert.FfnKernelIdeal.nD Cert.FfnKernelIdeal.τ).loc Cert.FfnKernelIdeal.main_v53_1) = v1 c
          ∧ r.2.mem ((c.tc : Thread Cert.FfnKernelIdeal.nD Cert.FfnKernelIdeal.τ).loc Cert.FfnKernelIdeal.main_v53_2) = v2 c
          ∧ r.2.mem ((c.tc : Thread Cert.FfnKernelIdeal.nD Cert.FfnKernelIdeal.τ).loc Cert.FfnKernelIdeal.main_v53_3) = v3 c
          ∧ r.2.mem ((c.tc : Thread Cert.FfnKernelIdeal.nD Cert.FfnKernelIdeal.τ).loc Cert.FfnKernelIdeal.main_v53_4) = v4 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
          ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v122) = v0 c
          ∧ r.2.mem ((c.tc : Thread Cert.FfnReferenceIdeal.nD Cert.FfnReferenceIdeal.τ).loc Cert.FfnReferenceIdeal.main_v119) = v1 c
          ∧ r.2.mem ((c.tc : Thread Cert.FfnReferenceIdeal.nD Cert.FfnReferenceIdeal.τ).loc Cert.FfnReferenceIdeal.main_v114) = v2 c
          ∧ r.2.mem ((c.tc : Thread Cert.FfnReferenceIdeal.nD Cert.FfnReferenceIdeal.τ).loc Cert.FfnReferenceIdeal.main_v125) = v3 c
          ∧ r.2.mem ((c.tc : Thread Cert.FfnReferenceIdeal.nD Cert.FfnReferenceIdeal.τ).loc Cert.FfnReferenceIdeal.main_v126) = v4 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def preserves_LossKernel_LossKernelIdeal : Prop :=
  True

def algebraic_LossKernelIdeal_LossReferenceIdeal_pre_finite_loss [hLossKernelIdeal : Cert.LossKernelIdeal.Facts] [hLossReferenceIdeal : Cert.LossReferenceIdeal.Facts] [hPre_finite_loss : Cert.Pre_finite_loss.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal_finite_loss m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)
      ∧ m' ((c.tc : Thread Cert.LossReferenceIdeal.nD Cert.LossReferenceIdeal.τ).loc Cert.LossReferenceIdeal.main_arg3) = m ((c.tc : Thread Cert.LossKernelIdeal.nD Cert.LossKernelIdeal.τ).loc Cert.LossKernelIdeal.main_arg3)
      ∧ m' ((c.tc : Thread Cert.LossReferenceIdeal.nD Cert.LossReferenceIdeal.τ).loc Cert.LossReferenceIdeal.main_arg4) = m ((c.tc : Thread Cert.LossKernelIdeal.nD Cert.LossKernelIdeal.τ).loc Cert.LossKernelIdeal.main_arg4)
      ∧ m' ((c.tc : Thread Cert.LossReferenceIdeal.nD Cert.LossReferenceIdeal.τ).loc Cert.LossReferenceIdeal.main_arg5) = m ((c.tc : Thread Cert.LossKernelIdeal.nD Cert.LossKernelIdeal.τ).loc Cert.LossKernelIdeal.main_arg5)
      ∧ m' ((c.tc : Thread Cert.LossReferenceIdeal.nD Cert.LossReferenceIdeal.τ).loc Cert.LossReferenceIdeal.main_arg6) = m ((c.tc : Thread Cert.LossKernelIdeal.nD Cert.LossKernelIdeal.τ).loc Cert.LossKernelIdeal.main_arg6)
      ∧ m' ((c.tc : Thread Cert.LossReferenceIdeal.nD Cert.LossReferenceIdeal.τ).loc Cert.LossReferenceIdeal.main_arg7) = m ((c.tc : Thread Cert.LossKernelIdeal.nD Cert.LossKernelIdeal.τ).loc Cert.LossKernelIdeal.main_arg7)) →
    ∃ (v0 : (c : Dev Cert.LossKernelIdeal.nD) → Buf (Elt Ideal) ((c.tc : Thread Cert.LossKernelIdeal.nD Cert.LossKernelIdeal.τ).loc Cert.LossKernelIdeal.main_v10_0)) (v1 : (c : Dev Cert.LossKernelIdeal.nD) → Buf (Elt Ideal) ((c.tc : Thread Cert.LossKernelIdeal.nD Cert.LossKernelIdeal.τ).loc Cert.LossKernelIdeal.main_v10_1)) (v2 : (c : Dev Cert.LossKernelIdeal.nD) → Buf (Elt Ideal) ((c.tc : Thread Cert.LossKernelIdeal.nD Cert.LossKernelIdeal.τ).loc Cert.LossKernelIdeal.main_v10_2)) (v3 : (c : Dev Cert.LossKernelIdeal.nD) → Buf (Elt Ideal) ((c.tc : Thread Cert.LossKernelIdeal.nD Cert.LossKernelIdeal.τ).loc Cert.LossKernelIdeal.main_v10_3)) (v4 : (c : Dev Cert.LossKernelIdeal.nD) → Buf (Elt Ideal) ((c.tc : Thread Cert.LossKernelIdeal.nD Cert.LossKernelIdeal.τ).loc Cert.LossKernelIdeal.main_v10_4)) (v5 : (c : Dev Cert.LossKernelIdeal.nD) → Buf (Elt Ideal) ((c.tc : Thread Cert.LossKernelIdeal.nD Cert.LossKernelIdeal.τ).loc Cert.LossKernelIdeal.main_v10_5)) (v6 : (c : Dev Cert.LossKernelIdeal.nD) → Buf (Elt Ideal) ((c.tc : Thread Cert.LossKernelIdeal.nD Cert.LossKernelIdeal.τ).loc Cert.LossKernelIdeal.main_v10_6)) (v7 : (c : Dev Cert.LossKernelIdeal.nD) → Buf (Elt Ideal) ((c.tc : Thread Cert.LossKernelIdeal.nD Cert.LossKernelIdeal.τ).loc Cert.LossKernelIdeal.main_v10_7)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v10_0) = v0 c
          ∧ r.2.mem ((c.tc : Thread Cert.LossKernelIdeal.nD Cert.LossKernelIdeal.τ).loc Cert.LossKernelIdeal.main_v10_1) = v1 c
          ∧ r.2.mem ((c.tc : Thread Cert.LossKernelIdeal.nD Cert.LossKernelIdeal.τ).loc Cert.LossKernelIdeal.main_v10_2) = v2 c
          ∧ r.2.mem ((c.tc : Thread Cert.LossKernelIdeal.nD Cert.LossKernelIdeal.τ).loc Cert.LossKernelIdeal.main_v10_3) = v3 c
          ∧ r.2.mem ((c.tc : Thread Cert.LossKernelIdeal.nD Cert.LossKernelIdeal.τ).loc Cert.LossKernelIdeal.main_v10_4) = v4 c
          ∧ r.2.mem ((c.tc : Thread Cert.LossKernelIdeal.nD Cert.LossKernelIdeal.τ).loc Cert.LossKernelIdeal.main_v10_5) = v5 c
          ∧ r.2.mem ((c.tc : Thread Cert.LossKernelIdeal.nD Cert.LossKernelIdeal.τ).loc Cert.LossKernelIdeal.main_v10_6) = v6 c
          ∧ r.2.mem ((c.tc : Thread Cert.LossKernelIdeal.nD Cert.LossKernelIdeal.τ).loc Cert.LossKernelIdeal.main_v10_7) = v7 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
          ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
          ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4)
          ∧ r.2.mem ((c.tc : Thread Cert.LossKernelIdeal.nD Cert.LossKernelIdeal.τ).loc Cert.LossKernelIdeal.main_arg5) = m ((c.tc : Thread Cert.LossKernelIdeal.nD Cert.LossKernelIdeal.τ).loc Cert.LossKernelIdeal.main_arg5)
          ∧ r.2.mem ((c.tc : Thread Cert.LossKernelIdeal.nD Cert.LossKernelIdeal.τ).loc Cert.LossKernelIdeal.main_arg6) = m ((c.tc : Thread Cert.LossKernelIdeal.nD Cert.LossKernelIdeal.τ).loc Cert.LossKernelIdeal.main_arg6)
          ∧ r.2.mem ((c.tc : Thread Cert.LossKernelIdeal.nD Cert.LossKernelIdeal.τ).loc Cert.LossKernelIdeal.main_arg7) = m ((c.tc : Thread Cert.LossKernelIdeal.nD Cert.LossKernelIdeal.τ).loc Cert.LossKernelIdeal.main_arg7))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v95) = v0 c
          ∧ r.2.mem ((c.tc : Thread Cert.LossReferenceIdeal.nD Cert.LossReferenceIdeal.τ).loc Cert.LossReferenceIdeal.main_v96) = v1 c
          ∧ r.2.mem ((c.tc : Thread Cert.LossReferenceIdeal.nD Cert.LossReferenceIdeal.τ).loc Cert.LossReferenceIdeal.main_v99) = v2 c
          ∧ r.2.mem ((c.tc : Thread Cert.LossReferenceIdeal.nD Cert.LossReferenceIdeal.τ).loc Cert.LossReferenceIdeal.main_v102) = v3 c
          ∧ r.2.mem ((c.tc : Thread Cert.LossReferenceIdeal.nD Cert.LossReferenceIdeal.τ).loc Cert.LossReferenceIdeal.main_v105) = v4 c
          ∧ r.2.mem ((c.tc : Thread Cert.LossReferenceIdeal.nD Cert.LossReferenceIdeal.τ).loc Cert.LossReferenceIdeal.main_v108) = v5 c
          ∧ r.2.mem ((c.tc : Thread Cert.LossReferenceIdeal.nD Cert.LossReferenceIdeal.τ).loc Cert.LossReferenceIdeal.main_v109) = v6 c
          ∧ r.2.mem ((c.tc : Thread Cert.LossReferenceIdeal.nD Cert.LossReferenceIdeal.τ).loc Cert.LossReferenceIdeal.main_v110) = v7 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2)
          ∧ r.2.mem ((c.tc : Thread Cert.LossReferenceIdeal.nD Cert.LossReferenceIdeal.τ).loc Cert.LossReferenceIdeal.main_arg3) = m' ((c.tc : Thread Cert.LossReferenceIdeal.nD Cert.LossReferenceIdeal.τ).loc Cert.LossReferenceIdeal.main_arg3)
          ∧ r.2.mem ((c.tc : Thread Cert.LossReferenceIdeal.nD Cert.LossReferenceIdeal.τ).loc Cert.LossReferenceIdeal.main_arg4) = m' ((c.tc : Thread Cert.LossReferenceIdeal.nD Cert.LossReferenceIdeal.τ).loc Cert.LossReferenceIdeal.main_arg4)
          ∧ r.2.mem ((c.tc : Thread Cert.LossReferenceIdeal.nD Cert.LossReferenceIdeal.τ).loc Cert.LossReferenceIdeal.main_arg5) = m' ((c.tc : Thread Cert.LossReferenceIdeal.nD Cert.LossReferenceIdeal.τ).loc Cert.LossReferenceIdeal.main_arg5)
          ∧ r.2.mem ((c.tc : Thread Cert.LossReferenceIdeal.nD Cert.LossReferenceIdeal.τ).loc Cert.LossReferenceIdeal.main_arg6) = m' ((c.tc : Thread Cert.LossReferenceIdeal.nD Cert.LossReferenceIdeal.τ).loc Cert.LossReferenceIdeal.main_arg6)
          ∧ r.2.mem ((c.tc : Thread Cert.LossReferenceIdeal.nD Cert.LossReferenceIdeal.τ).loc Cert.LossReferenceIdeal.main_arg7) = m' ((c.tc : Thread Cert.LossReferenceIdeal.nD Cert.LossReferenceIdeal.τ).loc Cert.LossReferenceIdeal.main_arg7))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)) →
    ∃ (v0 : (c : Dev Cert.InKernelIdeal.nD) → Buf (Elt Ideal) ((c.tc : Thread Cert.InKernelIdeal.nD Cert.InKernelIdeal.τ).loc Cert.InKernelIdeal.main_v4_0)) (v1 : (c : Dev Cert.InKernelIdeal.nD) → Buf (Elt Ideal) ((c.tc : Thread Cert.InKernelIdeal.nD Cert.InKernelIdeal.τ).loc Cert.InKernelIdeal.main_v4_1)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v4_0) = v0 c
          ∧ r.2.mem ((c.tc : Thread Cert.InKernelIdeal.nD Cert.InKernelIdeal.τ).loc Cert.InKernelIdeal.main_v4_1) = v1 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v14) = v0 c
          ∧ r.2.mem ((c.tc : Thread Cert.InReferenceIdeal.nD Cert.InReferenceIdeal.τ).loc Cert.InReferenceIdeal.main_v15) = v1 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2))

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)
      ∧ m' ((c.tc : Thread Cert.UpReferenceIdeal.nD Cert.UpReferenceIdeal.τ).loc Cert.UpReferenceIdeal.main_arg2) = m ((c.tc : Thread Cert.UpKernelIdeal.nD Cert.UpKernelIdeal.τ).loc Cert.UpKernelIdeal.main_arg2)
      ∧ m' ((c.tc : Thread Cert.UpReferenceIdeal.nD Cert.UpReferenceIdeal.τ).loc Cert.UpReferenceIdeal.main_arg3) = m ((c.tc : Thread Cert.UpKernelIdeal.nD Cert.UpKernelIdeal.τ).loc Cert.UpKernelIdeal.main_arg3)
      ∧ m' ((c.tc : Thread Cert.UpReferenceIdeal.nD Cert.UpReferenceIdeal.τ).loc Cert.UpReferenceIdeal.main_arg4) = m ((c.tc : Thread Cert.UpKernelIdeal.nD Cert.UpKernelIdeal.τ).loc Cert.UpKernelIdeal.main_arg4)
      ∧ m' ((c.tc : Thread Cert.UpReferenceIdeal.nD Cert.UpReferenceIdeal.τ).loc Cert.UpReferenceIdeal.main_arg5) = m ((c.tc : Thread Cert.UpKernelIdeal.nD Cert.UpKernelIdeal.τ).loc Cert.UpKernelIdeal.main_arg5)) →
    ∃ (v0 : (c : Dev Cert.UpKernelIdeal.nD) → Buf (Elt Ideal) ((c.tc : Thread Cert.UpKernelIdeal.nD Cert.UpKernelIdeal.τ).loc Cert.UpKernelIdeal.main_v9_0)) (v1 : (c : Dev Cert.UpKernelIdeal.nD) → Buf (Elt Ideal) ((c.tc : Thread Cert.UpKernelIdeal.nD Cert.UpKernelIdeal.τ).loc Cert.UpKernelIdeal.main_v9_1)) (v2 : (c : Dev Cert.UpKernelIdeal.nD) → Buf (Elt Ideal) ((c.tc : Thread Cert.UpKernelIdeal.nD Cert.UpKernelIdeal.τ).loc Cert.UpKernelIdeal.main_v9_2)) (v3 : (c : Dev Cert.UpKernelIdeal.nD) → Buf (Elt Ideal) ((c.tc : Thread Cert.UpKernelIdeal.nD Cert.UpKernelIdeal.τ).loc Cert.UpKernelIdeal.main_v9_3)) (v4 : (c : Dev Cert.UpKernelIdeal.nD) → Buf (Elt Ideal) ((c.tc : Thread Cert.UpKernelIdeal.nD Cert.UpKernelIdeal.τ).loc Cert.UpKernelIdeal.main_v9_4)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v9_0) = v0 c
          ∧ r.2.mem ((c.tc : Thread Cert.UpKernelIdeal.nD Cert.UpKernelIdeal.τ).loc Cert.UpKernelIdeal.main_v9_1) = v1 c
          ∧ r.2.mem ((c.tc : Thread Cert.UpKernelIdeal.nD Cert.UpKernelIdeal.τ).loc Cert.UpKernelIdeal.main_v9_2) = v2 c
          ∧ r.2.mem ((c.tc : Thread Cert.UpKernelIdeal.nD Cert.UpKernelIdeal.τ).loc Cert.UpKernelIdeal.main_v9_3) = v3 c
          ∧ r.2.mem ((c.tc : Thread Cert.UpKernelIdeal.nD Cert.UpKernelIdeal.τ).loc Cert.UpKernelIdeal.main_v9_4) = v4 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
          ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
          ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3)
          ∧ r.2.mem ((c.tc : Thread Cert.UpKernelIdeal.nD Cert.UpKernelIdeal.τ).loc Cert.UpKernelIdeal.main_arg4) = m ((c.tc : Thread Cert.UpKernelIdeal.nD Cert.UpKernelIdeal.τ).loc Cert.UpKernelIdeal.main_arg4)
          ∧ r.2.mem ((c.tc : Thread Cert.UpKernelIdeal.nD Cert.UpKernelIdeal.τ).loc Cert.UpKernelIdeal.main_arg5) = m ((c.tc : Thread Cert.UpKernelIdeal.nD Cert.UpKernelIdeal.τ).loc Cert.UpKernelIdeal.main_arg5))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v44) = v0 c
          ∧ r.2.mem ((c.tc : Thread Cert.UpReferenceIdeal.nD Cert.UpReferenceIdeal.τ).loc Cert.UpReferenceIdeal.main_v45) = v1 c
          ∧ r.2.mem ((c.tc : Thread Cert.UpReferenceIdeal.nD Cert.UpReferenceIdeal.τ).loc Cert.UpReferenceIdeal.main_v48) = v2 c
          ∧ r.2.mem ((c.tc : Thread Cert.UpReferenceIdeal.nD Cert.UpReferenceIdeal.τ).loc Cert.UpReferenceIdeal.main_v51) = v3 c
          ∧ r.2.mem ((c.tc : Thread Cert.UpReferenceIdeal.nD Cert.UpReferenceIdeal.τ).loc Cert.UpReferenceIdeal.main_v54) = v4 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3)
          ∧ r.2.mem ((c.tc : Thread Cert.UpReferenceIdeal.nD Cert.UpReferenceIdeal.τ).loc Cert.UpReferenceIdeal.main_arg4) = m' ((c.tc : Thread Cert.UpReferenceIdeal.nD Cert.UpReferenceIdeal.τ).loc Cert.UpReferenceIdeal.main_arg4)
          ∧ r.2.mem ((c.tc : Thread Cert.UpReferenceIdeal.nD Cert.UpReferenceIdeal.τ).loc Cert.UpReferenceIdeal.main_arg5) = m' ((c.tc : Thread Cert.UpReferenceIdeal.nD Cert.UpReferenceIdeal.τ).loc Cert.UpReferenceIdeal.main_arg5))

def preserves_MixKernel_MixKernelIdeal : Prop :=
  True

def algebraic_MixKernelIdeal_MixReferenceIdeal_pre_finite_mix [hMixKernelIdeal : Cert.MixKernelIdeal.Facts] [hMixReferenceIdeal : Cert.MixReferenceIdeal.Facts] [hPre_finite_mix : Cert.Pre_finite_mix.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal_finite_mix m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)
      ∧ m' ((c.tc : Thread Cert.MixReferenceIdeal.nD Cert.MixReferenceIdeal.τ).loc Cert.MixReferenceIdeal.main_arg5) = m ((c.tc : Thread Cert.MixKernelIdeal.nD Cert.MixKernelIdeal.τ).loc Cert.MixKernelIdeal.main_arg5)
      ∧ m' ((c.tc : Thread Cert.MixReferenceIdeal.nD Cert.MixReferenceIdeal.τ).loc Cert.MixReferenceIdeal.main_arg6) = m ((c.tc : Thread Cert.MixKernelIdeal.nD Cert.MixKernelIdeal.τ).loc Cert.MixKernelIdeal.main_arg6)
      ∧ m' ((c.tc : Thread Cert.MixReferenceIdeal.nD Cert.MixReferenceIdeal.τ).loc Cert.MixReferenceIdeal.main_arg7) = m ((c.tc : Thread Cert.MixKernelIdeal.nD Cert.MixKernelIdeal.τ).loc Cert.MixKernelIdeal.main_arg7)
      ∧ m' ((c.tc : Thread Cert.MixReferenceIdeal.nD Cert.MixReferenceIdeal.τ).loc Cert.MixReferenceIdeal.main_arg8) = m ((c.tc : Thread Cert.MixKernelIdeal.nD Cert.MixKernelIdeal.τ).loc Cert.MixKernelIdeal.main_arg8)
      ∧ m' ((c.tc : Thread Cert.MixReferenceIdeal.nD Cert.MixReferenceIdeal.τ).loc Cert.MixReferenceIdeal.main_arg9) = m ((c.tc : Thread Cert.MixKernelIdeal.nD Cert.MixKernelIdeal.τ).loc Cert.MixKernelIdeal.main_arg9)
      ∧ m' ((c.tc : Thread Cert.MixReferenceIdeal.nD Cert.MixReferenceIdeal.τ).loc Cert.MixReferenceIdeal.main_arg10) = m ((c.tc : Thread Cert.MixKernelIdeal.nD Cert.MixKernelIdeal.τ).loc Cert.MixKernelIdeal.main_arg10)
      ∧ m' ((c.tc : Thread Cert.MixReferenceIdeal.nD Cert.MixReferenceIdeal.τ).loc Cert.MixReferenceIdeal.main_arg11) = m ((c.tc : Thread Cert.MixKernelIdeal.nD Cert.MixKernelIdeal.τ).loc Cert.MixKernelIdeal.main_arg11)) →
    ∃ (v0 : (c : Dev Cert.MixKernelIdeal.nD) → Buf (Elt Ideal) ((c.tc : Thread Cert.MixKernelIdeal.nD Cert.MixKernelIdeal.τ).loc Cert.MixKernelIdeal.main_v16_0)) (v1 : (c : Dev Cert.MixKernelIdeal.nD) → Buf (Elt Ideal) ((c.tc : Thread Cert.MixKernelIdeal.nD Cert.MixKernelIdeal.τ).loc Cert.MixKernelIdeal.main_v16_1)) (v2 : (c : Dev Cert.MixKernelIdeal.nD) → Buf (Elt Ideal) ((c.tc : Thread Cert.MixKernelIdeal.nD Cert.MixKernelIdeal.τ).loc Cert.MixKernelIdeal.main_v16_2)) (v3 : (c : Dev Cert.MixKernelIdeal.nD) → Buf (Elt Ideal) ((c.tc : Thread Cert.MixKernelIdeal.nD Cert.MixKernelIdeal.τ).loc Cert.MixKernelIdeal.main_v16_3)) (v4 : (c : Dev Cert.MixKernelIdeal.nD) → Buf (Elt Ideal) ((c.tc : Thread Cert.MixKernelIdeal.nD Cert.MixKernelIdeal.τ).loc Cert.MixKernelIdeal.main_v16_4)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v16_0) = v0 c
          ∧ r.2.mem ((c.tc : Thread Cert.MixKernelIdeal.nD Cert.MixKernelIdeal.τ).loc Cert.MixKernelIdeal.main_v16_1) = v1 c
          ∧ r.2.mem ((c.tc : Thread Cert.MixKernelIdeal.nD Cert.MixKernelIdeal.τ).loc Cert.MixKernelIdeal.main_v16_2) = v2 c
          ∧ r.2.mem ((c.tc : Thread Cert.MixKernelIdeal.nD Cert.MixKernelIdeal.τ).loc Cert.MixKernelIdeal.main_v16_3) = v3 c
          ∧ r.2.mem ((c.tc : Thread Cert.MixKernelIdeal.nD Cert.MixKernelIdeal.τ).loc Cert.MixKernelIdeal.main_v16_4) = v4 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
          ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
          ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
          ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
          ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8)
          ∧ r.2.mem ((c.tc : Thread Cert.MixKernelIdeal.nD Cert.MixKernelIdeal.τ).loc Cert.MixKernelIdeal.main_arg9) = m ((c.tc : Thread Cert.MixKernelIdeal.nD Cert.MixKernelIdeal.τ).loc Cert.MixKernelIdeal.main_arg9)
          ∧ r.2.mem ((c.tc : Thread Cert.MixKernelIdeal.nD Cert.MixKernelIdeal.τ).loc Cert.MixKernelIdeal.main_arg10) = m ((c.tc : Thread Cert.MixKernelIdeal.nD Cert.MixKernelIdeal.τ).loc Cert.MixKernelIdeal.main_arg10)
          ∧ r.2.mem ((c.tc : Thread Cert.MixKernelIdeal.nD Cert.MixKernelIdeal.τ).loc Cert.MixKernelIdeal.main_arg11) = m ((c.tc : Thread Cert.MixKernelIdeal.nD Cert.MixKernelIdeal.τ).loc Cert.MixKernelIdeal.main_arg11))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v182) = v0 c
          ∧ r.2.mem ((c.tc : Thread Cert.MixReferenceIdeal.nD Cert.MixReferenceIdeal.τ).loc Cert.MixReferenceIdeal.main_v184) = v1 c
          ∧ r.2.mem ((c.tc : Thread Cert.MixReferenceIdeal.nD Cert.MixReferenceIdeal.τ).loc Cert.MixReferenceIdeal.main_v187) = v2 c
          ∧ r.2.mem ((c.tc : Thread Cert.MixReferenceIdeal.nD Cert.MixReferenceIdeal.τ).loc Cert.MixReferenceIdeal.main_v189) = v3 c
          ∧ r.2.mem ((c.tc : Thread Cert.MixReferenceIdeal.nD Cert.MixReferenceIdeal.τ).loc Cert.MixReferenceIdeal.main_v190) = v4 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9)
          ∧ r.2.mem ((c.tc : Thread Cert.MixReferenceIdeal.nD Cert.MixReferenceIdeal.τ).loc Cert.MixReferenceIdeal.main_arg10) = m' ((c.tc : Thread Cert.MixReferenceIdeal.nD Cert.MixReferenceIdeal.τ).loc Cert.MixReferenceIdeal.main_arg10)
          ∧ r.2.mem ((c.tc : Thread Cert.MixReferenceIdeal.nD Cert.MixReferenceIdeal.τ).loc Cert.MixReferenceIdeal.main_arg11) = m' ((c.tc : Thread Cert.MixReferenceIdeal.nD Cert.MixReferenceIdeal.τ).loc Cert.MixReferenceIdeal.main_arg11))

def preserves_FuseKernel_FuseKernelIdeal : Prop :=
  True

def algebraic_FuseKernelIdeal_FuseReferenceIdeal_pre_finite_fuse [hFuseKernelIdeal : Cert.FuseKernelIdeal.Facts] [hFuseReferenceIdeal : Cert.FuseReferenceIdeal.Facts] [hPre_finite_fuse : Cert.Pre_finite_fuse.Facts] : Prop :=
  ∀ (m : (ℓ : Loc Cert.FuseKernelIdeal.nD Cert.FuseKernelIdeal.τ Cert.FuseKernelIdeal.sig) → Buf (Elt Ideal) ℓ) (g : Dev Cert.FuseKernelIdeal.nD → PrngReg)
    (m' : (ℓ : Loc Cert.FuseReferenceIdeal.nD Cert.FuseReferenceIdeal.τ Cert.FuseReferenceIdeal.sig) → Buf (Elt Ideal) ℓ) (g' : Dev Cert.FuseReferenceIdeal.nD → PrngReg), Pre_FuseKernelIdeal_finite_fuse m →
    (∀ c : Dev Cert.FuseKernelIdeal.nD,
      m' ((c.tc : Thread Cert.FuseReferenceIdeal.nD Cert.FuseReferenceIdeal.τ).loc Cert.FuseReferenceIdeal.main_arg0) = m ((c.tc : Thread Cert.FuseKernelIdeal.nD Cert.FuseKernelIdeal.τ).loc Cert.FuseKernelIdeal.main_arg0)
      ∧ m' ((c.tc : Thread Cert.FuseReferenceIdeal.nD Cert.FuseReferenceIdeal.τ).loc Cert.FuseReferenceIdeal.main_arg1) = m ((c.tc : Thread Cert.FuseKernelIdeal.nD Cert.FuseKernelIdeal.τ).loc Cert.FuseKernelIdeal.main_arg1)
      ∧ m' ((c.tc : Thread Cert.FuseReferenceIdeal.nD Cert.FuseReferenceIdeal.τ).loc Cert.FuseReferenceIdeal.main_arg2) = m ((c.tc : Thread Cert.FuseKernelIdeal.nD Cert.FuseKernelIdeal.τ).loc Cert.FuseKernelIdeal.main_arg2)
      ∧ m' ((c.tc : Thread Cert.FuseReferenceIdeal.nD Cert.FuseReferenceIdeal.τ).loc Cert.FuseReferenceIdeal.main_arg3) = m ((c.tc : Thread Cert.FuseKernelIdeal.nD Cert.FuseKernelIdeal.τ).loc Cert.FuseKernelIdeal.main_arg3)
      ∧ m' ((c.tc : Thread Cert.FuseReferenceIdeal.nD Cert.FuseReferenceIdeal.τ).loc Cert.FuseReferenceIdeal.main_arg4) = m ((c.tc : Thread Cert.FuseKernelIdeal.nD Cert.FuseKernelIdeal.τ).loc Cert.FuseKernelIdeal.main_arg4)
      ∧ m' ((c.tc : Thread Cert.FuseReferenceIdeal.nD Cert.FuseReferenceIdeal.τ).loc Cert.FuseReferenceIdeal.main_arg5) = m ((c.tc : Thread Cert.FuseKernelIdeal.nD Cert.FuseKernelIdeal.τ).loc Cert.FuseKernelIdeal.main_arg5)
      ∧ m' ((c.tc : Thread Cert.FuseReferenceIdeal.nD Cert.FuseReferenceIdeal.τ).loc Cert.FuseReferenceIdeal.main_arg6) = m ((c.tc : Thread Cert.FuseKernelIdeal.nD Cert.FuseKernelIdeal.τ).loc Cert.FuseKernelIdeal.main_arg6)
      ∧ m' ((c.tc : Thread Cert.FuseReferenceIdeal.nD Cert.FuseReferenceIdeal.τ).loc Cert.FuseReferenceIdeal.main_arg7) = m ((c.tc : Thread Cert.FuseKernelIdeal.nD Cert.FuseKernelIdeal.τ).loc Cert.FuseKernelIdeal.main_arg7)
      ∧ m' ((c.tc : Thread Cert.FuseReferenceIdeal.nD Cert.FuseReferenceIdeal.τ).loc Cert.FuseReferenceIdeal.main_arg8) = m ((c.tc : Thread Cert.FuseKernelIdeal.nD Cert.FuseKernelIdeal.τ).loc Cert.FuseKernelIdeal.main_arg8)
      ∧ m' ((c.tc : Thread Cert.FuseReferenceIdeal.nD Cert.FuseReferenceIdeal.τ).loc Cert.FuseReferenceIdeal.main_arg9) = m ((c.tc : Thread Cert.FuseKernelIdeal.nD Cert.FuseKernelIdeal.τ).loc Cert.FuseKernelIdeal.main_arg9)
      ∧ m' ((c.tc : Thread Cert.FuseReferenceIdeal.nD Cert.FuseReferenceIdeal.τ).loc Cert.FuseReferenceIdeal.main_arg10) = m ((c.tc : Thread Cert.FuseKernelIdeal.nD Cert.FuseKernelIdeal.τ).loc Cert.FuseKernelIdeal.main_arg10)
      ∧ m' ((c.tc : Thread Cert.FuseReferenceIdeal.nD Cert.FuseReferenceIdeal.τ).loc Cert.FuseReferenceIdeal.main_arg11) = m ((c.tc : Thread Cert.FuseKernelIdeal.nD Cert.FuseKernelIdeal.τ).loc Cert.FuseKernelIdeal.main_arg11)
      ∧ m' ((c.tc : Thread Cert.FuseReferenceIdeal.nD Cert.FuseReferenceIdeal.τ).loc Cert.FuseReferenceIdeal.main_arg12) = m ((c.tc : Thread Cert.FuseKernelIdeal.nD Cert.FuseKernelIdeal.τ).loc Cert.FuseKernelIdeal.main_arg12)) →
    ∃ (v0 : (c : Dev Cert.FuseKernelIdeal.nD) → Buf (Elt Ideal) ((c.tc : Thread Cert.FuseKernelIdeal.nD Cert.FuseKernelIdeal.τ).loc Cert.FuseKernelIdeal.main_v19_0)) (v1 : (c : Dev Cert.FuseKernelIdeal.nD) → Buf (Elt Ideal) ((c.tc : Thread Cert.FuseKernelIdeal.nD Cert.FuseKernelIdeal.τ).loc Cert.FuseKernelIdeal.main_v19_1)) (v2 : (c : Dev Cert.FuseKernelIdeal.nD) → Buf (Elt Ideal) ((c.tc : Thread Cert.FuseKernelIdeal.nD Cert.FuseKernelIdeal.τ).loc Cert.FuseKernelIdeal.main_v19_2)) (v3 : (c : Dev Cert.FuseKernelIdeal.nD) → Buf (Elt Ideal) ((c.tc : Thread Cert.FuseKernelIdeal.nD Cert.FuseKernelIdeal.τ).loc Cert.FuseKernelIdeal.main_v19_3)) (v4 : (c : Dev Cert.FuseKernelIdeal.nD) → Buf (Elt Ideal) ((c.tc : Thread Cert.FuseKernelIdeal.nD Cert.FuseKernelIdeal.τ).loc Cert.FuseKernelIdeal.main_v19_4)) (v5 : (c : Dev Cert.FuseKernelIdeal.nD) → Buf (Elt Ideal) ((c.tc : Thread Cert.FuseKernelIdeal.nD Cert.FuseKernelIdeal.τ).loc Cert.FuseKernelIdeal.main_v19_5)) (v6 : (c : Dev Cert.FuseKernelIdeal.nD) → Buf (Elt Ideal) ((c.tc : Thread Cert.FuseKernelIdeal.nD Cert.FuseKernelIdeal.τ).loc Cert.FuseKernelIdeal.main_v19_6)),
      θ_run (Cert.FuseKernelIdeal.defs (F := Ideal)) (onTc (τ := Cert.FuseKernelIdeal.τ) (Cert.FuseKernelIdeal.main (F := Ideal))) ⟨m, fun _ => 0, g⟩ (fun r => ∀ c : Dev Cert.FuseKernelIdeal.nD,
          r.2.mem ((c.tc : Thread Cert.FuseKernelIdeal.nD Cert.FuseKernelIdeal.τ).loc Cert.FuseKernelIdeal.main_v19_0) = v0 c
          ∧ r.2.mem ((c.tc : Thread Cert.FuseKernelIdeal.nD Cert.FuseKernelIdeal.τ).loc Cert.FuseKernelIdeal.main_v19_1) = v1 c
          ∧ r.2.mem ((c.tc : Thread Cert.FuseKernelIdeal.nD Cert.FuseKernelIdeal.τ).loc Cert.FuseKernelIdeal.main_v19_2) = v2 c
          ∧ r.2.mem ((c.tc : Thread Cert.FuseKernelIdeal.nD Cert.FuseKernelIdeal.τ).loc Cert.FuseKernelIdeal.main_v19_3) = v3 c
          ∧ r.2.mem ((c.tc : Thread Cert.FuseKernelIdeal.nD Cert.FuseKernelIdeal.τ).loc Cert.FuseKernelIdeal.main_v19_4) = v4 c
          ∧ r.2.mem ((c.tc : Thread Cert.FuseKernelIdeal.nD Cert.FuseKernelIdeal.τ).loc Cert.FuseKernelIdeal.main_v19_5) = v5 c
          ∧ r.2.mem ((c.tc : Thread Cert.FuseKernelIdeal.nD Cert.FuseKernelIdeal.τ).loc Cert.FuseKernelIdeal.main_v19_6) = v6 c
          ∧ r.2.mem ((c.tc : Thread Cert.FuseKernelIdeal.nD Cert.FuseKernelIdeal.τ).loc Cert.FuseKernelIdeal.main_arg0) = m ((c.tc : Thread Cert.FuseKernelIdeal.nD Cert.FuseKernelIdeal.τ).loc Cert.FuseKernelIdeal.main_arg0)
          ∧ r.2.mem ((c.tc : Thread Cert.FuseKernelIdeal.nD Cert.FuseKernelIdeal.τ).loc Cert.FuseKernelIdeal.main_arg1) = m ((c.tc : Thread Cert.FuseKernelIdeal.nD Cert.FuseKernelIdeal.τ).loc Cert.FuseKernelIdeal.main_arg1)
          ∧ r.2.mem ((c.tc : Thread Cert.FuseKernelIdeal.nD Cert.FuseKernelIdeal.τ).loc Cert.FuseKernelIdeal.main_arg2) = m ((c.tc : Thread Cert.FuseKernelIdeal.nD Cert.FuseKernelIdeal.τ).loc Cert.FuseKernelIdeal.main_arg2)
          ∧ r.2.mem ((c.tc : Thread Cert.FuseKernelIdeal.nD Cert.FuseKernelIdeal.τ).loc Cert.FuseKernelIdeal.main_arg3) = m ((c.tc : Thread Cert.FuseKernelIdeal.nD Cert.FuseKernelIdeal.τ).loc Cert.FuseKernelIdeal.main_arg3)
          ∧ r.2.mem ((c.tc : Thread Cert.FuseKernelIdeal.nD Cert.FuseKernelIdeal.τ).loc Cert.FuseKernelIdeal.main_arg4) = m ((c.tc : Thread Cert.FuseKernelIdeal.nD Cert.FuseKernelIdeal.τ).loc Cert.FuseKernelIdeal.main_arg4)
          ∧ r.2.mem ((c.tc : Thread Cert.FuseKernelIdeal.nD Cert.FuseKernelIdeal.τ).loc Cert.FuseKernelIdeal.main_arg5) = m ((c.tc : Thread Cert.FuseKernelIdeal.nD Cert.FuseKernelIdeal.τ).loc Cert.FuseKernelIdeal.main_arg5)
          ∧ r.2.mem ((c.tc : Thread Cert.FuseKernelIdeal.nD Cert.FuseKernelIdeal.τ).loc Cert.FuseKernelIdeal.main_arg6) = m ((c.tc : Thread Cert.FuseKernelIdeal.nD Cert.FuseKernelIdeal.τ).loc Cert.FuseKernelIdeal.main_arg6)
          ∧ r.2.mem ((c.tc : Thread Cert.FuseKernelIdeal.nD Cert.FuseKernelIdeal.τ).loc Cert.FuseKernelIdeal.main_arg7) = m ((c.tc : Thread Cert.FuseKernelIdeal.nD Cert.FuseKernelIdeal.τ).loc Cert.FuseKernelIdeal.main_arg7)
          ∧ r.2.mem ((c.tc : Thread Cert.FuseKernelIdeal.nD Cert.FuseKernelIdeal.τ).loc Cert.FuseKernelIdeal.main_arg8) = m ((c.tc : Thread Cert.FuseKernelIdeal.nD Cert.FuseKernelIdeal.τ).loc Cert.FuseKernelIdeal.main_arg8)
          ∧ r.2.mem ((c.tc : Thread Cert.FuseKernelIdeal.nD Cert.FuseKernelIdeal.τ).loc Cert.FuseKernelIdeal.main_arg9) = m ((c.tc : Thread Cert.FuseKernelIdeal.nD Cert.FuseKernelIdeal.τ).loc Cert.FuseKernelIdeal.main_arg9)
          ∧ r.2.mem ((c.tc : Thread Cert.FuseKernelIdeal.nD Cert.FuseKernelIdeal.τ).loc Cert.FuseKernelIdeal.main_arg10) = m ((c.tc : Thread Cert.FuseKernelIdeal.nD Cert.FuseKernelIdeal.τ).loc Cert.FuseKernelIdeal.main_arg10)
          ∧ r.2.mem ((c.tc : Thread Cert.FuseKernelIdeal.nD Cert.FuseKernelIdeal.τ).loc Cert.FuseKernelIdeal.main_arg11) = m ((c.tc : Thread Cert.FuseKernelIdeal.nD Cert.FuseKernelIdeal.τ).loc Cert.FuseKernelIdeal.main_arg11)
          ∧ r.2.mem ((c.tc : Thread Cert.FuseKernelIdeal.nD Cert.FuseKernelIdeal.τ).loc Cert.FuseKernelIdeal.main_arg12) = m ((c.tc : Thread Cert.FuseKernelIdeal.nD Cert.FuseKernelIdeal.τ).loc Cert.FuseKernelIdeal.main_arg12))
      ∧ θ_run (Cert.FuseReferenceIdeal.defs (F := Ideal)) (onTc (τ := Cert.FuseReferenceIdeal.τ) (Cert.FuseReferenceIdeal.main (F := Ideal))) ⟨m', fun _ => 0, g'⟩ (fun r => ∀ c : Dev Cert.FuseReferenceIdeal.nD,
          r.2.mem ((c.tc : Thread Cert.FuseReferenceIdeal.nD Cert.FuseReferenceIdeal.τ).loc Cert.FuseReferenceIdeal.main_v196) = v0 c
          ∧ r.2.mem ((c.tc : Thread Cert.FuseReferenceIdeal.nD Cert.FuseReferenceIdeal.τ).loc Cert.FuseReferenceIdeal.main_v198) = v1 c
          ∧ r.2.mem ((c.tc : Thread Cert.FuseReferenceIdeal.nD Cert.FuseReferenceIdeal.τ).loc Cert.FuseReferenceIdeal.main_v201) = v2 c
          ∧ r.2.mem ((c.tc : Thread Cert.FuseReferenceIdeal.nD Cert.FuseReferenceIdeal.τ).loc Cert.FuseReferenceIdeal.main_v203) = v3 c
          ∧ r.2.mem ((c.tc : Thread Cert.FuseReferenceIdeal.nD Cert.FuseReferenceIdeal.τ).loc Cert.FuseReferenceIdeal.main_v204) = v4 c
          ∧ r.2.mem ((c.tc : Thread Cert.FuseReferenceIdeal.nD Cert.FuseReferenceIdeal.τ).loc Cert.FuseReferenceIdeal.main_v205) = v5 c
          ∧ r.2.mem ((c.tc : Thread Cert.FuseReferenceIdeal.nD Cert.FuseReferenceIdeal.τ).loc Cert.FuseReferenceIdeal.main_v206) = v6 c
          ∧ r.2.mem ((c.tc : Thread Cert.FuseReferenceIdeal.nD Cert.FuseReferenceIdeal.τ).loc Cert.FuseReferenceIdeal.main_arg0) = m' ((c.tc : Thread Cert.FuseReferenceIdeal.nD Cert.FuseReferenceIdeal.τ).loc Cert.FuseReferenceIdeal.main_arg0)
          ∧ r.2.mem ((c.tc : Thread Cert.FuseReferenceIdeal.nD Cert.FuseReferenceIdeal.τ).loc Cert.FuseReferenceIdeal.main_arg1) = m' ((c.tc : Thread Cert.FuseReferenceIdeal.nD Cert.FuseReferenceIdeal.τ).loc Cert.FuseReferenceIdeal.main_arg1)
          ∧ r.2.mem ((c.tc : Thread Cert.FuseReferenceIdeal.nD Cert.FuseReferenceIdeal.τ).loc Cert.FuseReferenceIdeal.main_arg2) = m' ((c.tc : Thread Cert.FuseReferenceIdeal.nD Cert.FuseReferenceIdeal.τ).loc Cert.FuseReferenceIdeal.main_arg2)
          ∧ r.2.mem ((c.tc : Thread Cert.FuseReferenceIdeal.nD Cert.FuseReferenceIdeal.τ).loc Cert.FuseReferenceIdeal.main_arg3) = m' ((c.tc : Thread Cert.FuseReferenceIdeal.nD Cert.FuseReferenceIdeal.τ).loc Cert.FuseReferenceIdeal.main_arg3)
          ∧ r.2.mem ((c.tc : Thread Cert.FuseReferenceIdeal.nD Cert.FuseReferenceIdeal.τ).loc Cert.FuseReferenceIdeal.main_arg4) = m' ((c.tc : Thread Cert.FuseReferenceIdeal.nD Cert.FuseReferenceIdeal.τ).loc Cert.FuseReferenceIdeal.main_arg4)
          ∧ r.2.mem ((c.tc : Thread Cert.FuseReferenceIdeal.nD Cert.FuseReferenceIdeal.τ).loc Cert.FuseReferenceIdeal.main_arg5) = m' ((c.tc : Thread Cert.FuseReferenceIdeal.nD Cert.FuseReferenceIdeal.τ).loc Cert.FuseReferenceIdeal.main_arg5)
          ∧ r.2.mem ((c.tc : Thread Cert.FuseReferenceIdeal.nD Cert.FuseReferenceIdeal.τ).loc Cert.FuseReferenceIdeal.main_arg6) = m' ((c.tc : Thread Cert.FuseReferenceIdeal.nD Cert.FuseReferenceIdeal.τ).loc Cert.FuseReferenceIdeal.main_arg6)
          ∧ r.2.mem ((c.tc : Thread Cert.FuseReferenceIdeal.nD Cert.FuseReferenceIdeal.τ).loc Cert.FuseReferenceIdeal.main_arg7) = m' ((c.tc : Thread Cert.FuseReferenceIdeal.nD Cert.FuseReferenceIdeal.τ).loc Cert.FuseReferenceIdeal.main_arg7)
          ∧ r.2.mem ((c.tc : Thread Cert.FuseReferenceIdeal.nD Cert.FuseReferenceIdeal.τ).loc Cert.FuseReferenceIdeal.main_arg8) = m' ((c.tc : Thread Cert.FuseReferenceIdeal.nD Cert.FuseReferenceIdeal.τ).loc Cert.FuseReferenceIdeal.main_arg8)
          ∧ r.2.mem ((c.tc : Thread Cert.FuseReferenceIdeal.nD Cert.FuseReferenceIdeal.τ).loc Cert.FuseReferenceIdeal.main_arg9) = m' ((c.tc : Thread Cert.FuseReferenceIdeal.nD Cert.FuseReferenceIdeal.τ).loc Cert.FuseReferenceIdeal.main_arg9)
          ∧ r.2.mem ((c.tc : Thread Cert.FuseReferenceIdeal.nD Cert.FuseReferenceIdeal.τ).loc Cert.FuseReferenceIdeal.main_arg10) = m' ((c.tc : Thread Cert.FuseReferenceIdeal.nD Cert.FuseReferenceIdeal.τ).loc Cert.FuseReferenceIdeal.main_arg10)
          ∧ r.2.mem ((c.tc : Thread Cert.FuseReferenceIdeal.nD Cert.FuseReferenceIdeal.τ).loc Cert.FuseReferenceIdeal.main_arg11) = m' ((c.tc : Thread Cert.FuseReferenceIdeal.nD Cert.FuseReferenceIdeal.τ).loc Cert.FuseReferenceIdeal.main_arg11)
          ∧ r.2.mem ((c.tc : Thread Cert.FuseReferenceIdeal.nD Cert.FuseReferenceIdeal.τ).loc Cert.FuseReferenceIdeal.main_arg12) = m' ((c.tc : Thread Cert.FuseReferenceIdeal.nD Cert.FuseReferenceIdeal.τ).loc Cert.FuseReferenceIdeal.main_arg12))

def Claim : Prop :=
  ∃ (hProjKernel : Cert.ProjKernel.Facts) (hProjKernelIdeal : Cert.ProjKernelIdeal.Facts) (hProjReferenceIdeal : Cert.ProjReferenceIdeal.Facts) (hFfnKernel : Cert.FfnKernel.Facts) (hFfnKernelIdeal : Cert.FfnKernelIdeal.Facts) (hFfnReferenceIdeal : Cert.FfnReferenceIdeal.Facts) (hLossKernel : Cert.LossKernel.Facts) (hLossKernelIdeal : Cert.LossKernelIdeal.Facts) (hLossReferenceIdeal : Cert.LossReferenceIdeal.Facts) (hInKernel : Cert.InKernel.Facts) (hInKernelIdeal : Cert.InKernelIdeal.Facts) (hInReferenceIdeal : Cert.InReferenceIdeal.Facts) (hUpKernel : Cert.UpKernel.Facts) (hUpKernelIdeal : Cert.UpKernelIdeal.Facts) (hUpReferenceIdeal : Cert.UpReferenceIdeal.Facts) (hMixKernel : Cert.MixKernel.Facts) (hMixKernelIdeal : Cert.MixKernelIdeal.Facts) (hMixReferenceIdeal : Cert.MixReferenceIdeal.Facts) (hFuseKernel : Cert.FuseKernel.Facts) (hFuseKernelIdeal : Cert.FuseKernelIdeal.Facts) (hFuseReferenceIdeal : Cert.FuseReferenceIdeal.Facts) (hPre_finite_proj : Cert.Pre_finite_proj.Facts) (hPre_finite_ffn : Cert.Pre_finite_ffn.Facts) (hPre_finite_loss : Cert.Pre_finite_loss.Facts) (hPre_finite_mix : Cert.Pre_finite_mix.Facts) (hPre_finite_fuse : Cert.Pre_finite_fuse.Facts),
    quiescent_ProjKernel (hProjKernel := hProjKernel)
    ∧ quiescent_ProjKernelIdeal (hProjKernelIdeal := hProjKernelIdeal)
    ∧ quiescent_ProjKernelIdeal_pre_finite_proj (hProjKernelIdeal := hProjKernelIdeal) (hPre_finite_proj := hPre_finite_proj)
    ∧ quiescent_ProjReferenceIdeal (hProjReferenceIdeal := hProjReferenceIdeal)
    ∧ quiescent_ProjReferenceIdeal_pre_finite_proj (hProjReferenceIdeal := hProjReferenceIdeal) (hPre_finite_proj := hPre_finite_proj)
    ∧ quiescent_FfnKernel (hFfnKernel := hFfnKernel)
    ∧ quiescent_FfnKernelIdeal (hFfnKernelIdeal := hFfnKernelIdeal)
    ∧ quiescent_FfnKernelIdeal_pre_finite_ffn (hFfnKernelIdeal := hFfnKernelIdeal) (hPre_finite_ffn := hPre_finite_ffn)
    ∧ quiescent_FfnReferenceIdeal (hFfnReferenceIdeal := hFfnReferenceIdeal)
    ∧ quiescent_FfnReferenceIdeal_pre_finite_ffn (hFfnReferenceIdeal := hFfnReferenceIdeal) (hPre_finite_ffn := hPre_finite_ffn)
    ∧ quiescent_LossKernel (hLossKernel := hLossKernel)
    ∧ quiescent_LossKernelIdeal (hLossKernelIdeal := hLossKernelIdeal)
    ∧ quiescent_LossKernelIdeal_pre_finite_loss (hLossKernelIdeal := hLossKernelIdeal) (hPre_finite_loss := hPre_finite_loss)
    ∧ quiescent_LossReferenceIdeal (hLossReferenceIdeal := hLossReferenceIdeal)
    ∧ quiescent_LossReferenceIdeal_pre_finite_loss (hLossReferenceIdeal := hLossReferenceIdeal) (hPre_finite_loss := hPre_finite_loss)
    ∧ quiescent_InKernel (hInKernel := hInKernel)
    ∧ quiescent_InKernelIdeal (hInKernelIdeal := hInKernelIdeal)
    ∧ quiescent_InReferenceIdeal (hInReferenceIdeal := hInReferenceIdeal)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ quiescent_MixKernel (hMixKernel := hMixKernel)
    ∧ quiescent_MixKernelIdeal (hMixKernelIdeal := hMixKernelIdeal)
    ∧ quiescent_MixKernelIdeal_pre_finite_mix (hMixKernelIdeal := hMixKernelIdeal) (hPre_finite_mix := hPre_finite_mix)
    ∧ quiescent_MixReferenceIdeal (hMixReferenceIdeal := hMixReferenceIdeal)
    ∧ quiescent_MixReferenceIdeal_pre_finite_mix (hMixReferenceIdeal := hMixReferenceIdeal) (hPre_finite_mix := hPre_finite_mix)
    ∧ quiescent_FuseKernel (hFuseKernel := hFuseKernel)
    ∧ quiescent_FuseKernelIdeal (hFuseKernelIdeal := hFuseKernelIdeal)
    ∧ quiescent_FuseKernelIdeal_pre_finite_fuse (hFuseKernelIdeal := hFuseKernelIdeal) (hPre_finite_fuse := hPre_finite_fuse)
    ∧ quiescent_FuseReferenceIdeal (hFuseReferenceIdeal := hFuseReferenceIdeal)
    ∧ quiescent_FuseReferenceIdeal_pre_finite_fuse (hFuseReferenceIdeal := hFuseReferenceIdeal) (hPre_finite_fuse := hPre_finite_fuse)
    ∧ preserves_ProjKernel_ProjKernelIdeal
    ∧ algebraic_ProjKernelIdeal_ProjReferenceIdeal_pre_finite_proj (hProjKernelIdeal := hProjKernelIdeal) (hProjReferenceIdeal := hProjReferenceIdeal) (hPre_finite_proj := hPre_finite_proj)
    ∧ preserves_FfnKernel_FfnKernelIdeal
    ∧ algebraic_FfnKernelIdeal_FfnReferenceIdeal_pre_finite_ffn (hFfnKernelIdeal := hFfnKernelIdeal) (hFfnReferenceIdeal := hFfnReferenceIdeal) (hPre_finite_ffn := hPre_finite_ffn)
    ∧ preserves_LossKernel_LossKernelIdeal
    ∧ algebraic_LossKernelIdeal_LossReferenceIdeal_pre_finite_loss (hLossKernelIdeal := hLossKernelIdeal) (hLossReferenceIdeal := hLossReferenceIdeal) (hPre_finite_loss := hPre_finite_loss)
    ∧ preserves_InKernel_InKernelIdeal
    ∧ algebraic_InKernelIdeal_InReferenceIdeal (hInKernelIdeal := hInKernelIdeal) (hInReferenceIdeal := hInReferenceIdeal)
    ∧ preserves_UpKernel_UpKernelIdeal
    ∧ algebraic_UpKernelIdeal_UpReferenceIdeal (hUpKernelIdeal := hUpKernelIdeal) (hUpReferenceIdeal := hUpReferenceIdeal)
    ∧ preserves_MixKernel_MixKernelIdeal
    ∧ algebraic_MixKernelIdeal_MixReferenceIdeal_pre_finite_mix (hMixKernelIdeal := hMixKernelIdeal) (hMixReferenceIdeal := hMixReferenceIdeal) (hPre_finite_mix := hPre_finite_mix)
    ∧ preserves_FuseKernel_FuseKernelIdeal
    ∧ algebraic_FuseKernelIdeal_FuseReferenceIdeal_pre_finite_fuse (hFuseKernelIdeal := hFuseKernelIdeal) (hFuseReferenceIdeal := hFuseReferenceIdeal) (hPre_finite_fuse := hPre_finite_fuse)
-- ==== Pre_finite_ffn.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S3x5632 : S_.BroadcastsInDim S3x5632 (![] : Fin 0 → Fin S3x5632.rank)
  reducesTo_S3x5632_S_d0_1 : S3x5632.ReducesTo [0, 1] S_
  bcast_S_S5632 : S_.BroadcastsInDim S5632 (![] : Fin 0 → Fin S5632.rank)
  reducesTo_S5632_S_d0 : S5632.ReducesTo [0] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S5632 .f32) (main_arg5 : FVec F S2816x1024 .f32) (main_arg6 : FVec F S8192x1024 .f32) (main_v13 : IVec S_ 1) (main_v16 : IVec S3x5632 1) : IVec S_ 1 :=
  let main_c_5 : IVec S_ 1 := constantI S_ 1 1#1
  let main_v17 : IVec S_ 1 := (fun x v => Host.reduce IntOp.andi x v reducesTo_S3x5632_S_d0_1 h_S_) main_v16 main_c_5
  let main_v18 : IVec S_ 1 := andi main_v13 main_v17
  let main_v19 : FVec F S5632 .f32 := Host.absf main_arg4
  let main_cst_6 : FVec F S_ .f32 := constant S_ .f32 0x7F800000#32
  let main_v20 : FVec F S5632 .f32 := broadcastInDim S5632 ![] bcast_S_S5632 main_cst_6
  let main_v21 : IVec S5632 1 := cmpf .olt main_v19 main_v20
  let main_c_7 : IVec S_ 1 := constantI S_ 1 1#1
  let main_v22 : IVec S_ 1 := (fun x v => Host.reduce IntOp.andi x v reducesTo_S5632_S_d0 h_S_) main_v21 main_c_7
  let main_v23 : IVec S_ 1 := andi main_v18 main_v22
  let main_v24 : FVec F S2816x1024 .f32 := Host.absf main_arg5
  let main_cst_8 : FVec F S_ .f32 := constant S_ .f32 0x7F800000#32
  let main_v25 : FVec F S2816x1024 .f32 := broadcastInDim S2816x1024 ![] bcast_S_S2816x1024 main_cst_8
  let main_v26 : IVec S2816x1024 1 := cmpf .olt main_v24 main_v25
  let main_c_9 : IVec S_ 1 := constantI S_ 1 1#1
  let main_v27 : IVec S_ 1 := (fun x v => Host.reduce IntOp.andi x v reducesTo_S2816x1024_S_d0_1 h_S_) main_v26 main_c_9
  let main_v28 : IVec S_ 1 := andi main_v23 main_v27
  let main_v29 : FVec F S8192x1024 .f32 := Host.absf main_arg6
  let main_cst_10 : FVec F S_ .f32 := constant S_ .f32 0x7F800000#32
  let main_v30 : FVec F S8192x1024 .f32 := broadcastInDim S8192x1024 ![] bcast_S_S8192x1024 main_cst_10
  let main_v31 : IVec S8192x1024 1 := cmpf .olt main_v29 main_v30
  let main_c_11 : IVec S_ 1 := constantI S_ 1 1#1
  let main_v32 : IVec S_ 1 := (fun x v => Host.reduce IntOp.andi x v reducesTo_S8192x1024_S_d0_1 h_S_) main_v31 main_c_11
  let main_v33 : IVec S_ 1 := andi main_v28 main_v32
  main_v33

def fn {F : FTy → Type} [FloatOps F] (main_arg0 : FVec F S8192x1024 .f32) (main_arg1 : FVec F S1024 .f32) (main_arg2 : FVec F S1024x5632 .f32) (main_arg3 : FVec F S3x5632 .f32) (main_arg4 : FVec F S5632 .f32) (main_arg5 : FVec F S2816x1024 .f32) (main_arg6 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S3x5632 .f32 := Host.absf main_arg3
  let main_cst_4 : FVec F S_ .f32 := constant S_ .f32 0x7F800000#32
  let main_v15 : FVec F S3x5632 .f32 := broadcastInDim S3x5632 ![] bcast_S_S3x5632 main_cst_4
  let main_v16 : IVec S3x5632 1 := cmpf .olt main_v14 main_v15
  fn_part1 (F := F) main_arg4 main_arg5 main_arg6 main_v13 main_v16
-- ==== Pre_finite_fuse.lean ====
abbrev S8192x1024 : Shape := ⟨2, ![8192, 1024]⟩
abbrev S1024 : Shape := ⟨1, ![1024]⟩
abbrev S1024x6144 : Shape := ⟨2, ![1024, 6144]⟩
abbrev S4x128x128 : Shape := ⟨3, ![4, 128, 128]⟩
abbrev S512 : Shape := ⟨1, ![512]⟩
abbrev S4x128 : Shape := ⟨2, ![4, 128]⟩
abbrev S3x512 : Shape := ⟨2, ![3, 512]⟩
abbrev S512x1024 : Shape := ⟨2, ![512, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x6144 : S_.BroadcastsInDim S1024x6144 (![] : Fin 0 → Fin S1024x6144.rank)
  reducesTo_S1024x6144_S_d0_1 : S1024x6144.ReducesTo [0, 1] S_

variable [Facts]

def fn {F : FTy → Type} [FloatOps F] (main_arg0 : FVec F S8192x1024 .f32) (main_arg1 : FVec F S1024 .f32) (main_arg2 : FVec F S1024x6144 .f32) (main_arg3 : FVec F S4x128x128 .f32) (main_arg4 : FVec F S512 .f32) (main_arg5 : FVec F S512 .f32) (main_arg6 : FVec F S4x128x128 .f32) (main_arg7 : FVec F S4x128 .f32) (main_arg8 : FVec F S3x512 .f32) (main_arg9 : FVec F S512x1024 .f32) (main_arg10 : FVec F S512x1024 .f32) (main_arg11 : FVec F S512x1024 .f32) (main_arg12 : FVec F S1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x6144 .f32 := Host.absf main_arg2
  let main_cst_2 : FVec F S_ .f32 := constant S_ .f32 0x7F800000#32
  let main_v10 : FVec F S1024x6144 .f32 := broadcastInDim S1024x6144 ![] bcast_S_S1024x6144 main_cst_2
  let main_v11 : IVec S1024x6144 1 := cmpf .olt main_v9 main_v10
  let main_c_3 : IVec S_ 1 := constantI S_ 1 1#1
  let main_v12 : IVec S_ 1 := (fun x v => Host.reduce IntOp.andi x v reducesTo_S1024x6144_S_d0_1 h_S_) main_v11 main_c_3
  let main_v13 : IVec S_ 1 := andi main_v8 main_v12
  main_v13
-- ==== Pre_finite_loss.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S3x5632 : S_.BroadcastsInDim S3x5632 (![] : Fin 0 → Fin S3x5632.rank)
  reducesTo_S3x5632_S_d0_1 : S3x5632.ReducesTo [0, 1] S_
  bcast_S_S5632 : S_.BroadcastsInDim S5632 (![] : Fin 0 → Fin S5632.rank)
  reducesTo_S5632_S_d0 : S5632.ReducesTo [0] S_
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_arg7 : FVec F S8192x1024 .f32) (main_v33 : IVec S_ 1) : IVec S_ 1 :=
  let main_v34 : FVec F S8192x1024 .f32 := Host.absf main_arg7
  let main_cst_12 : FVec F S_ .f32 := constant S_ .f32 0x7F800000#32
  let main_v35 : FVec F S8192x1024 .f32 := broadcastInDim S8192x1024 ![] bcast_S_S8192x1024 main_cst_12
  let main_v36 : IVec S8192x1024 1 := cmpf .olt main_v34 main_v35
  let main_c_13 : IVec S_ 1 := constantI S_ 1 1#1
  let main_v37 : IVec S_ 1 := (fun x v => Host.reduce IntOp.andi x v reducesTo_S8192x1024_S_d0_1 h_S_) main_v36 main_c_13
  let main_v38 : IVec S_ 1 := andi main_v33 main_v37
  main_v38

def fn_part1 {F : FTy → Type} [FloatOps F] (main_arg4 : FVec F S5632 .f32) (main_arg5 : FVec F S2816x1024 .f32) (main_arg6 : FVec F S1024 .f32) (main_arg7 : FVec F S8192x1024 .f32) (main_v13 : IVec S_ 1) (main_v16 : IVec S3x5632 1) : IVec S_ 1 :=
  let main_c_5 : IVec S_ 1 := constantI S_ 1 1#1
  let main_v17 : IVec S_ 1 := (fun x v => Host.reduce IntOp.andi x v reducesTo_S3x5632_S_d0_1 h_S_) main_v16 main_c_5
  let main_v18 : IVec S_ 1 := andi main_v13 main_v17
  let main_v19 : FVec F S5632 .f32 := Host.absf main_arg4
  let main_cst_6 : FVec F S_ .f32 := constant S_ .f32 0x7F800000#32
  let main_v20 : FVec F S5632 .f32 := broadcastInDim S5632 ![] bcast_S_S5632 main_cst_6
  let main_v21 : IVec S5632 1 := cmpf .olt main_v19 main_v20
  let main_c_7 : IVec S_ 1 := constantI S_ 1 1#1
  let main_v22 : IVec S_ 1 := (fun x v => Host.reduce IntOp.andi x v reducesTo_S5632_S_d0 h_S_) main_v21 main_c_7
  let main_v23 : IVec S_ 1 := andi main_v18 main_v22
  let main_v24 : FVec F S2816x1024 .f32 := Host.absf main_arg5
  let main_cst_8 : FVec F S_ .f32 := constant S_ .f32 0x7F800000#32
  let main_v25 : FVec F S2816x1024 .f32 := broadcastInDim S2816x1024 ![] bcast_S_S2816x1024 main_cst_8
  let main_v26 : IVec S2816x1024 1 := cmpf .olt main_v24 main_v25
  let main_c_9 : IVec S_ 1 := constantI S_ 1 1#1
  let main_v27 : IVec S_ 1 := (fun x v => Host.reduce IntOp.andi x v reducesTo_S2816x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_v33

def fn {F : FTy → Type} [FloatOps F] (main_arg0 : FVec F S8192x1024 .f32) (main_arg1 : FVec F S1024 .f32) (main_arg2 : FVec F S1024x5632 .f32) (main_arg3 : FVec F S3x5632 .f32) (main_arg4 : FVec F S5632 .f32) (main_arg5 : FVec F S2816x1024 .f32) (main_arg6 : FVec F S1024 .f32) (main_arg7 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S3x5632 .f32 := Host.absf main_arg3
  let main_cst_4 : FVec F S_ .f32 := constant S_ .f32 0x7F800000#32
  let main_v15 : FVec F S3x5632 .f32 := broadcastInDim S3x5632 ![] bcast_S_S3x5632 main_cst_4
  let main_v16 : IVec S3x5632 1 := cmpf .olt main_v14 main_v15
  fn_part1 (F := F) main_arg4 main_arg5 main_arg6 main_arg7 main_v13 main_v16
-- ==== Pre_finite_mix.lean ====
abbrev S8192x1024 : Shape := ⟨2, ![8192, 1024]⟩
abbrev S8192x6144 : Shape := ⟨2, ![8192, 6144]⟩
abbrev S4x128x128 : Shape := ⟨3, ![4, 128, 128]⟩
abbrev S512 : Shape := ⟨1, ![512]⟩
abbrev S4x128 : Shape := ⟨2, ![4, 128]⟩
abbrev S3x512 : Shape := ⟨2, ![3, 512]⟩
abbrev S512x1024 : Shape := ⟨2, ![512, 1024]⟩
abbrev S1024x1024 : Shape := ⟨2, ![1024, 1024]⟩
abbrev S_ : Shape := ⟨0, ![]⟩

class Facts : Prop where
  bcast_S_S8192x6144 : S_.BroadcastsInDim S8192x6144 (![] : Fin 0 → Fin S8192x6144.rank)
  reducesTo_S8192x6144_S_d0_1 : S8192x6144.ReducesTo [0, 1] S_
  h_S_ : 0 < S_.numel

variable [Facts]

def fn {F : FTy → Type} [FloatOps F] (main_arg0 : FVec F S8192x1024 .f32) (main_arg1 : FVec F S8192x6144 .f32) (main_arg2 : FVec F S4x128x128 .f32) (main_arg3 : FVec F S512 .f32) (main_arg4 : FVec F S512 .f32) (main_arg5 : FVec F S4x128x128 .f32) (main_arg6 : FVec F S4x128 .f32) (main_arg7 : FVec F S3x512 .f32) (main_arg8 : FVec F S512x1024 .f32) (main_arg9 : FVec F S512x1024 .f32) (main_arg10 : FVec F S512x1024 .f32) (main_arg11 : FVec F S1024x1024 .f32) : IVec S_ 1 :=
  let main_v0 : FVec F S8192x6144 .f32 := Host.absf main_arg1
  let main_cst : FVec F S_ .f32 := constant S_ .f32 0x7F800000#32
  let main_v1 : FVec F S8192x6144 .f32 := broadcastInDim S8192x6144 ![] bcast_S_S8192x6144 main_cst
  let main_v2 : IVec S8192x6144 1 := cmpf .olt main_v0 main_v1
  let main_c : IVec S_ 1 := constantI S_ 1 1#1
  let main_v3 : IVec S_ 1 := (fun x v => Host.reduce IntOp.andi x v reducesTo_S8192x6144_S_d0_1 h_S_) main_v2 main_c
  main_v3
-- ==== Pre_finite_proj.lean ====
abbrev S8192x6144 : Shape := ⟨2, ![8192, 6144]⟩
abbrev S1024x6144 : Shape := ⟨2, ![1024, 6144]⟩
abbrev S8192x1024 : Shape := ⟨2, ![8192, 1024]⟩
abbrev S1024 : Shape := ⟨1, ![1024]⟩
abbrev S_ : Shape := ⟨0, ![]⟩

class Facts : Prop where
  bcast_S_S8192x6144 : S_.BroadcastsInDim S8192x6144 (![] : Fin 0 → Fin S8192x6144.rank)
  reducesTo_S8192x6144_S_d0_1 : S8192x6144.ReducesTo [0, 1] S_
  h_S_ : 0 < S_.numel
  bcast_S_S1024x6144 : S_.BroadcastsInDim S1024x6144 (![] : Fin 0 → Fin S1024x6144.rank)
  reducesTo_S1024x6144_S_d0_1 : S1024x6144.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S8192x6144 .bf16) (main_arg1 : FVec F S1024x6144 .f32) (main_arg2 : FVec F S8192x1024 .f32) (main_arg3 : FVec F S1024 .f32) (main_arg4 : FVec F S8192x1024 .f32) : IVec S_ 1 :=
  let main_v0 : FVec F S8192x6144 .bf16 := Host.absf main_arg0
  let main_cst : FVec F S_ .bf16 := constant S_ .bf16 0x7F80#16
  let main_v1 : FVec F S8192x6144 .bf16 := broadcastInDim S8192x6144 ![] bcast_S_S8192x6144 main_cst
  let main_v2 : IVec S8192x6144 1 := cmpf .olt main_v0 main_v1
  let main_c : IVec S_ 1 := constantI S_ 1 1#1
  let main_v3 : IVec S_ 1 := (fun x v => Host.reduce IntOp.andi x v reducesTo_S8192x6144_S_d0_1 h_S_) main_v2 main_c
  let main_v4 : FVec F S1024x6144 .f32 := Host.absf main_arg1
  let main_cst_0 : FVec F S_ .f32 := constant S_ .f32 0x7F800000#32
  let main_v5 : FVec F S1024x6144 .f32 := broadcastInDim S1024x6144 ![] bcast_S_S1024x6144 main_cst_0
  let main_v6 : IVec S1024x6144 1 := cmpf .olt main_v4 main_v5
  let main_c_1 : IVec S_ 1 := constantI S_ 1 1#1
  let main_v7 : IVec S_ 1 := (fun x v => Host.reduce IntOp.andi x v reducesTo_S1024x6144_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== ProjKernel.lean ====
abbrev S8192x6144 : Shape := ⟨2, ![8192, 6144]⟩
abbrev S1024x6144 : Shape := ⟨2, ![1024, 6144]⟩
abbrev S8192x1024 : Shape := ⟨2, ![8192, 1024]⟩
abbrev S1024 : Shape := ⟨1, ![1024]⟩
abbrev S1024x8x768 : Shape := ⟨3, ![1024, 8, 768]⟩
abbrev S8x1024x768 : Shape := ⟨3, ![8, 1024, 768]⟩
abbrev S1x1024 : Shape := ⟨2, ![1, 1024]⟩
abbrev S8x1024 : Shape := ⟨2, ![8, 1024]⟩
abbrev S256x6144 : Shape := ⟨2, ![256, 6144]⟩
abbrev S256x1024 : Shape := ⟨2, ![256, 1024]⟩
abbrev S256x768 : Shape := ⟨2, ![256, 768]⟩
abbrev S1x1024x768 : Shape := ⟨3, ![1, 1024, 768]⟩
abbrev S1024x768 : Shape := ⟨2, ![1024, 768]⟩
abbrev S256 : Shape := ⟨1, ![256]⟩
abbrev S256x1 : Shape := ⟨2, ![256, 1]⟩

abbrev nBuf : Space → Nat
  | .hbm => 11
  | .vmem => 11
  | .smem => 0
  | _ => 0

abbrev bufTy : (tb : Table) → Fin (tcTables nBuf tb) → BufTy
  | .hbm, ⟨0, _⟩ => ⟨S8192x6144, .bf16⟩
  | .hbm, ⟨1, _⟩ => ⟨S1024x6144, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1024x8x768, .f32⟩
  | .hbm, ⟨6, _⟩ => ⟨S8x1024x768, .f32⟩
  | .hbm, ⟨7, _⟩ => ⟨S8x1024x768, .bf16⟩
  | .hbm, ⟨8, _⟩ => ⟨S1x1024, .f32⟩
  | .hbm, ⟨9, _⟩ => ⟨S8192x1024, .f32⟩
  | .hbm, ⟨10, _⟩ => ⟨S8x1024, .f32⟩
  | .local _ .vmem, ⟨0, _⟩ => ⟨S256x6144, .bf16⟩
  | .local _ .vmem, ⟨1, _⟩ => ⟨S256x6144, .bf16⟩
  | .local _ .vmem, ⟨2, _⟩ => ⟨S8x1024x768, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S8x1024, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ProjReferenceIdeal.lean ====
abbrev S8192x6144 : Shape := ⟨2, ![8192, 6144]⟩
abbrev S1024x6144 : Shape := ⟨2, ![1024, 6144]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S7x1024 : Shape := ⟨2, ![7, 1024]⟩
abbrev S8x1024 : Shape := ⟨2, ![8, 1024]⟩

abbrev nBuf : Space → Nat
  | .hbm => 58
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S1024x6144, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x6144, .f32⟩
  | .hbm, ⟨26, _⟩ => ⟨S8192x6144, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S1x1024, .f32⟩
  | .hbm, ⟨55, _⟩ => ⟨S_, .f32⟩
  | .hbm, ⟨56, _⟩ => ⟨S7x1024, .f32⟩
  | .hbm, ⟨57, _⟩ => ⟨S8x1024, .f32⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== FfnKernel.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S2x5632 : Shape := ⟨2, ![2, 5632]⟩
abbrev S8194x5632 : Shape := ⟨2, ![8194, 5632]⟩
abbrev S1x5632 : Shape := ⟨2, ![1, 5632]⟩
abbrev S1024x8x704 : Shape := ⟨3, ![1024, 8, 704]⟩
abbrev S8x1024x704 : Shape := ⟨3, ![8, 1024, 704]⟩
abbrev S8x352x1024 : Shape := ⟨3, ![8, 352, 1024]⟩
abbrev S8192x8x704 : Shape := ⟨3, ![8192, 8, 704]⟩
abbrev S8x8192x704 : Shape := ⟨3, ![8, 8192, 704]⟩
abbrev S3x8x704 : Shape := ⟨3, ![3, 8, 704]⟩
abbrev S8x3x704 : Shape := ⟨3, ![8, 3, 704]⟩
abbrev S8x8x704 : Shape := ⟨3, ![8, 8, 704]⟩
abbrev S8x1024 : Shape := ⟨2, ![8, 1024]⟩
abbrev S256x1024 : Shape := ⟨2, ![256, 1024]⟩
abbrev S8x256x704 : Shape := ⟨3, ![8, 256, 704]⟩
abbrev S1x352x1024 : Shape := ⟨3, ![1, 352, 1024]⟩
abbrev S352x1024 : Shape := ⟨2, ![352, 1024]⟩
abbrev S704x1024 : Shape := ⟨2, ![704, 1024]⟩
abbrev S256x704 : Shape := ⟨2, ![256, 704]⟩
abbrev S1x256x704 : Shape := ⟨3, ![1, 256, 704]⟩
abbrev S1x8x704 : Shape := ⟨3, ![1, 8, 704]⟩
abbrev S8x704 : Shape := ⟨2, ![8, 704]⟩
abbrev S264x704 : Shape := ⟨2, ![264, 704]⟩
abbrev S1x1x704 : Shape := ⟨3, ![1, 1, 704]⟩
abbrev S1x704 : Shape := ⟨2, ![1, 704]⟩
abbrev S704 : Shape := ⟨1, ![704]⟩
abbrev S1x1024x704 : Shape := ⟨3, ![1, 1024, 704]⟩
abbrev S1024x704 : Shape := ⟨2, ![1024, 704]⟩
abbrev S256 : Shape := ⟨1, ![256]⟩
abbrev S256x1 : Shape := ⟨2, ![256, 1]⟩

abbrev nBuf : Space → Nat
  | .hbm => 69
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x5632, .f32⟩
  | .hbm, ⟨24, _⟩ => ⟨S_, .f32⟩
  | .hbm, ⟨25, _⟩ => ⟨S2x5632, .f32⟩
  | .hbm, ⟨26, _⟩ => ⟨S8194x5632, .f32⟩
  | .hbm, ⟨27, _⟩ => ⟨S8192x5632, .f32⟩
  | .hbm, ⟨28, _⟩ => ⟨S1x5632, .f32⟩
  | .hbm, ⟨29, _⟩ => ⟨S5632, .f32⟩
  | .hbm, ⟨30, _⟩ => ⟨S1x5632, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S1x5632, .f32⟩
  | .hbm, ⟨35, _⟩ => ⟨S5632, .f32⟩
  | .hbm, ⟨36, _⟩ => ⟨S1x5632, .f32⟩
  | .hbm, ⟨37, _⟩ => ⟨S8192x5632, .f32⟩
  | .hbm, ⟨38, _⟩ => ⟨S8192x5632, .f32⟩
  | .hbm, ⟨39, _⟩ => ⟨S8192x5632, .f32⟩
  | .hbm, ⟨40, _⟩ => ⟨S8192x5632, .f32⟩
  | .hbm, ⟨41, _⟩ => ⟨S1x5632, .f32⟩
  | .hbm, ⟨42, _⟩ => ⟨S5632, .f32⟩
  | .hbm, ⟨43, _⟩ => ⟨S1x5632, .f32⟩
  | .hbm, ⟨44, _⟩ => ⟨S8192x5632, .f32⟩
  | .hbm, ⟨45, _⟩ => ⟨S8192x5632, .f32⟩
  | .hbm, ⟨46, _⟩ => ⟨S8192x5632, .f32⟩
  | .hbm, ⟨47, _⟩ => ⟨S1x5632, .f32⟩
  | .hbm, ⟨48, _⟩ => ⟨S8192x5632, .f32⟩
  | .hbm, ⟨49, _⟩ => ⟨S8192x5632, .f32⟩
  | .hbm, ⟨50, _⟩ => ⟨S1024x8x704, .f32⟩
  | .hbm, ⟨51, _⟩ => ⟨S8x1024x704, .f32⟩
  | .hbm, ⟨52, _⟩ => ⟨S8x1024x704, .bf16⟩
  | .hbm, ⟨53, _⟩ => ⟨S2816x1024, .bf16⟩
  | .hbm, ⟨54, _⟩ => ⟨S8x352x1024, .bf16⟩
  | .hbm, ⟨55, _⟩ => ⟨S8192x8x704, .f32⟩
  | .hbm, ⟨56, _⟩ => ⟨S8x8192x704, .f32⟩
  | .hbm, ⟨57, _⟩ => ⟨S8x8192x704, .bf16⟩
  | .hbm, ⟨58, _⟩ => ⟨S8192x8x704, .f32⟩
  | .hbm, ⟨59, _⟩ => ⟨S8x8192x704, .f32⟩
  | .hbm, ⟨60, _⟩ => ⟨S8x8192x704, .bf16⟩
  | .hbm, ⟨61, _⟩ => ⟨S3x8x704, .f32⟩
  | .hbm, ⟨62, _⟩ => ⟨S8x3x704, .f32⟩
  | .hbm, ⟨63, _⟩ => ⟨S1x1024, .f32⟩
  | .hbm, ⟨64, _⟩ => ⟨S8x8192x704, .bf16⟩
  | .hbm, ⟨65, _⟩ => ⟨S8x8x704, .f32⟩
  | .hbm, ⟨66, _⟩ => ⟨S8192x1024, .f32⟩
  | .hbm, ⟨67, _⟩ => ⟨S8x1024, .f32⟩
  | .hbm, ⟨68, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S8x256x704, .bf16⟩
  | .local _ .vmem, ⟨3, _⟩ => ⟨S8x256x704, .bf16⟩
  | .local _ .vmem, ⟨4, _⟩ => ⟨S8x256x704, .bf16⟩
  | .local _ .vmem, ⟨5, _⟩ => ⟨S8x256x704, .bf16⟩
  | .local _ .vmem, ⟨6, _⟩ => ⟨S8x3x704, .f32⟩
  | .local _ .vmem, ⟨7, _⟩ => ⟨S8x352x1024, .bf16⟩
  | .local _ .vmem, ⟨8, _⟩ => ⟨S8x1024x704, .bf16⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S8x256x704, .bf16⟩
  | .local _ .vmem, ⟨13, _⟩ => ⟨S8x256x704, .bf16⟩
  | .local _ .vmem, ⟨14, _⟩ => ⟨S8x8x704, .f32⟩
  | .local _ .vmem, ⟨15, _⟩ => ⟨S256x1024, .f32⟩
  | .local _ .vmem, ⟨16, _⟩ => ⟨S256x1024, .f32⟩
  | .local _ .vmem, ⟨17, _⟩ => ⟨S8x1024, .f32⟩
  | .local _ .vmem, ⟨18, _⟩ => ⟨S256x1024, .bf16⟩
  | .local _ .vmem, ⟨19, _⟩ => ⟨S256x1024, .bf16⟩
  | .local _ .vmem, ⟨20, _⟩ => ⟨S8x8x704, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53_0 : Ref sig .tc := ⟨.hbm, 64, rfl⟩
abbrev main_v53_1 : Ref sig .tc := ⟨.hbm, 65, rfl⟩
abbrev main_v53_2 : Ref sig .tc := ⟨.hbm, 66, rfl⟩
abbrev main_v53_3 : Ref sig .tc := ⟨.hbm, 67, rfl⟩
abbrev main_v53_4 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x3x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x352x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024x704 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8x256x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x8x704 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== FfnReferenceIdeal.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S8192x5632 : Shape := ⟨2, ![8192, 5632]⟩
abbrev S8192 : Shape := ⟨1, ![8192]⟩
abbrev S8192x1 : Shape := ⟨2, ![8192, 1]⟩
abbrev S1x1024 : Shape := ⟨2, ![1, 1024]⟩
abbrev S2x5632 : Shape := ⟨2, ![2, 5632]⟩
abbrev S8194x5632 : Shape := ⟨2, ![8194, 5632]⟩
abbrev S1x5632 : Shape := ⟨2, ![1, 5632]⟩
abbrev S8192x2816 : Shape := ⟨2, ![8192, 2816]⟩
abbrev S4x5632 : Shape := ⟨2, ![4, 5632]⟩
abbrev S8x5632 : Shape := ⟨2, ![8, 5632]⟩
abbrev S8x8x704 : Shape := ⟨3, ![8, 8, 704]⟩
abbrev S8192x8x704 : Shape := ⟨3, ![8192, 8, 704]⟩
abbrev S8x8192x704 : Shape := ⟨3, ![8, 8192, 704]⟩
abbrev S7x1024 : Shape := ⟨2, ![7, 1024]⟩
abbrev S8x1024 : Shape := ⟨2, ![8, 1024]⟩

abbrev nBuf : Space → Nat
  | .hbm => 177
  | .vmem => 0
  | .smem => 0
  | _ => 0

abbrev hbmTy0_0 (i : Nat) : BufTy := match i % 128 with
  | 0 => ⟨S8192x1024, .f32⟩
  | 1 => ⟨S1024, .f32⟩
  | 2 => ⟨S1024x5632, .f32⟩
  | 3 => ⟨S3x5632, .f32⟩
  | 4 => ⟨S5632, .f32⟩
  | 5 => ⟨S2816x1024, .f32⟩
  | 6 => ⟨S8192x1024, .f32⟩
  | 7 => ⟨S_, .f32⟩
  | 8 => ⟨S8192x5632, .f32⟩
  | 9 => ⟨S8192x1024, .f32⟩
  | 10 => ⟨S_, .f32⟩
  | 11 => ⟨S8192, .f32⟩
  | 12 => ⟨S8192x1, .f32⟩
  | 13 => ⟨S_, .f32⟩
  | 14 => ⟨S8192x1, .f32⟩
  | 15 => ⟨S8192x1, .f32⟩
  | 16 => ⟨S_, .f32⟩
  | 17 => ⟨S8192x1, .f32⟩
  | 18 => ⟨S8192x1, .f32⟩
  | 19 => ⟨S8192x1, .f32⟩
  | 20 => ⟨S8192x1, .f32⟩
  | 21 => ⟨S_, .f32⟩
  | 22 => ⟨S8192x1, .f32⟩
  | 23 => ⟨S8192x1, .f32⟩
  | 24 => ⟨S8192x1024, .f32⟩
  | 25 => ⟨S8192x1024, .f32⟩
  | 26 => ⟨S1x1024, .f32⟩
  | 27 => ⟨S8192x1024, .f32⟩
  | 28 => ⟨S8192x1024, .f32⟩
  | 29 => ⟨S8192x5632, .f32⟩
  | 30 => ⟨S8192x5632, .f32⟩
  | 31 => ⟨S_, .f32⟩
  | 32 => ⟨S2x5632, .f32⟩
  | 33 => ⟨S8194x5632, .f32⟩
  | 34 => ⟨S_, .f32⟩
  | 35 => ⟨S2x5632, .f32⟩
  | 36 => ⟨S8192x5632, .f32⟩
  | 37 => ⟨S1x5632, .f32⟩
  | 38 => ⟨S5632, .f32⟩
  | 39 => ⟨S1x5632, .f32⟩
  | 40 => ⟨S8192x5632, .f32⟩
  | 41 => ⟨S8192x5632, .f32⟩
  | 42 => ⟨S8192x5632, .f32⟩
  | 43 => ⟨S1x5632, .f32⟩
  | 44 => ⟨S5632, .f32⟩
  | 45 => ⟨S1x5632, .f32⟩
  | 46 => ⟨S8192x5632, .f32⟩
  | 47 => ⟨S8192x5632, .f32⟩
  | 48 => ⟨S8192x5632, .f32⟩
  | 49 => ⟨S8192x5632, .f32⟩
  | 50 => ⟨S1x5632, .f32⟩
  | 51 => ⟨S5632, .f32⟩
  | 52 => ⟨S1x5632, .f32⟩
  | 53 => ⟨S8192x5632, .f32⟩
  | 54 => ⟨S8192x5632, .f32⟩
  | 55 => ⟨S8192x5632, .f32⟩
  | 56 => ⟨S1x5632, .f32⟩
  | 57 => ⟨S8192x5632, .f32⟩
  | 58 => ⟨S8192x5632, .f32⟩
  | 59 => ⟨S8192x2816, .f32⟩
  | 60 => ⟨S8192x2816, .f32⟩
  | 61 => ⟨S8192x2816, .f32⟩
  | 62 => ⟨S8192x2816, .f32⟩
  | 63 => ⟨S_, .f32⟩
  | 64 => ⟨S8192x2816, .f32⟩
  | 65 => ⟨S8192x2816, .f32⟩
  | 66 => ⟨S_, .f32⟩
  | 67 => ⟨S8192x2816, .f32⟩
  | 68 => ⟨S8192x2816, .f32⟩
  | 69 => ⟨S_, .f32⟩
  | 70 => ⟨S8192x2816, .f32⟩
  | 71 => ⟨S8192x2816, .f32⟩
  | 72 => ⟨S8192x2816, .f32⟩
  | 73 => ⟨S8192x2816, .f32⟩
  | 74 => ⟨S8192x2816, .f32⟩
  | 75 => ⟨S8192x1024, .f32⟩
  | 76 => ⟨S8192x1024, .f32⟩
  | 77 => ⟨S8192x1024, .f32⟩
  | 78 => ⟨S8192x2816, .f32⟩
  | 79 => ⟨S8192x2816, .f32⟩
  | 80 => ⟨S8192x2816, .f32⟩
  | 81 => ⟨S8192x2816, .f32⟩
  | 82 => ⟨S8192x2816, .f32⟩
  | 83 => ⟨S8192x2816, .f32⟩
  | 84 => ⟨S8192x2816, .f32⟩
  | 85 => ⟨S8192x5632, .f32⟩
  | 86 => ⟨S_, .f32⟩
  | 87 => ⟨S5632, .f32⟩
  | 88 => ⟨S1x5632, .f32⟩
  | 89 => ⟨S_, .f32⟩
  | 90 => ⟨S5632, .f32⟩
  | 91 => ⟨S8192x5632, .f32⟩
  | 92 => ⟨S_, .f32⟩
  | 93 => ⟨S5632, .f32⟩
  | 94 => ⟨S1x5632, .f32⟩
  | 95 => ⟨S8192x5632, .f32⟩
  | 96 => ⟨S8192x5632, .f32⟩
  | 97 => ⟨S_, .f32⟩
  | 98 => ⟨S5632, .f32⟩
  | 99 => ⟨S1x5632, .f32⟩
  | 100 => ⟨S_, .f32⟩
  | 101 => ⟨S3x5632, .f32⟩
  | 102 => ⟨S_, .f32⟩
  | 103 => ⟨S8194x5632, .f32⟩
  | 104 => ⟨S8192x5632, .f32⟩
  | 105 => ⟨S_, .f32⟩
  | 106 => ⟨S5632, .f32⟩
  | 107 => ⟨S1x5632, .f32⟩
  | 108 => ⟨S8192x5632, .f32⟩
  | 109 => ⟨S8192x5632, .f32⟩
  | 110 => ⟨S_, .f32⟩
  | 111 => ⟨S5632, .f32⟩
  | 112 => ⟨S1x5632, .f32⟩
  | 113 => ⟨S_, .f32⟩
  | 114 => ⟨S3x5632, .f32⟩
  | 115 => ⟨S3x5632, .f32⟩
  | 116 => ⟨S_, .f32⟩
  | 117 => ⟨S8194x5632, .f32⟩
  | 118 => ⟨S8194x5632, .f32⟩
  | 119 => ⟨S8192x5632, .f32⟩
  | 120 => ⟨S_, .f32⟩
  | 121 => ⟨S5632, .f32⟩
  | 122 => ⟨S1x5632, .f32⟩
  | 123 => ⟨S8192x5632, .f32⟩
  | 124 => ⟨S8192x5632, .f32⟩
  | 125 => ⟨S_, .f32⟩
  | 126 => ⟨S5632, .f32⟩
  | 127 => ⟨S1x5632, .f32⟩
  | _ => ⟨S8192x1024, .f32⟩

abbrev hbmTy0_1 (i : Nat) : BufTy := match i % 128 with
  | 0 => ⟨S_, .f32⟩
  | 1 => ⟨S3x5632, .f32⟩
  | 2 => ⟨S3x5632, .f32⟩
  | 3 => ⟨S_, .f32⟩
  | 4 => ⟨S8194x5632, .f32⟩
  | 5 => ⟨S8194x5632, .f32⟩
  | 6 => ⟨S2x5632, .f32⟩
  | 7 => ⟨S8192x5632, .f32⟩
  | 8 => ⟨S8192x1024, .f32⟩
  | 9 => ⟨S8192x1024, .f32⟩
  | 10 => ⟨S_, .f32⟩
  | 11 => ⟨S1024, .f32⟩
  | 12 => ⟨S1x1024, .f32⟩
  | 13 => ⟨S8192x1024, .f32⟩
  | 14 => ⟨S8192x1024, .f32⟩
  | 15 => ⟨S_, .f32⟩
  | 16 => ⟨S1024, .f32⟩
  | 17 => ⟨S8192x1024, .f32⟩
  | 18 => ⟨S_, .f32⟩
  | 19 => ⟨S8192, .f32⟩
  | 20 => ⟨S8192x1, .f32⟩
  | 21 => ⟨S8192x1024, .f32⟩
  | 22 => ⟨S8192x1024, .f32⟩
  | 23 => ⟨S8192x1024, .f32⟩
  | 24 => ⟨S8192x1, .f32⟩
  | 25 => ⟨S_, .f32⟩
  | 26 => ⟨S8192x1, .f32⟩
  | 27 => ⟨S8192x1, .f32⟩
  | 28 => ⟨S_, .f32⟩
  | 29 => ⟨S8192, .f32⟩
  | 30 => ⟨S8192x1024, .f32⟩
  | 31 => ⟨S8192x1024, .f32⟩
  | 32 => ⟨S8192x1024, .f32⟩
  | 33 => ⟨S8192x1024, .f32⟩
  | 34 => ⟨S8192x1024, .f32⟩
  | 35 => ⟨S1x5632, .f32⟩
  | 36 => ⟨S_, .f32⟩
  | 37 => ⟨S4x5632, .f32⟩
  | 38 => ⟨S8x5632, .f32⟩
  | 39 => ⟨S8x8x704, .f32⟩
  | 40 => ⟨S8x8x704, .f32⟩
  | 41 => ⟨S8192x8x704, .f32⟩
  | 42 => ⟨S8x8192x704, .f32⟩
  | 43 => ⟨S8x8192x704, .bf16⟩
  | 44 => ⟨S1x1024, .f32⟩
  | 45 => ⟨S_, .f32⟩
  | 46 => ⟨S7x1024, .f32⟩
  | 47 => ⟨S8x1024, .f32⟩
  | 48 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_v47_2 : Ref sig .tc := ⟨.hbm, 68, rfl⟩
abbrev main_call0_cst_1 : Ref sig .tc := ⟨.hbm, 69, rfl⟩
abbrev main_call0_v6 : Ref sig .tc := ⟨.hbm, 70, rfl⟩
abbrev main_call0_v7 : Ref sig .tc := ⟨.hbm, 71, rfl⟩
abbrev main_v47_1 : Ref sig .tc := ⟨.hbm, 72, rfl⟩
abbrev main_v47_0 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_v55 : Ref sig .tc := ⟨.hbm, 84, rfl⟩
abbrev main_v56 : Ref sig .tc := ⟨.hbm, 85, rfl⟩
abbrev main_cst_6 : Ref sig .tc := ⟨.hbm, 86, rfl⟩
abbrev main_v57 : Ref sig .tc := ⟨.hbm, 87, rfl⟩
abbrev main_v58 : Ref sig .tc := ⟨.hbm, 88, rfl⟩
abbrev main_cst_7 : Ref sig .tc := ⟨.hbm, 89, rfl⟩
abbrev main_v59 : Ref sig .tc := ⟨.hbm, 90, rfl⟩
abbrev main_v60 : Ref sig .tc := ⟨.hbm, 91, rfl⟩
abbrev main_cst_8 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_9 : Ref sig .tc := ⟨.hbm, 97, rfl⟩
abbrev main_v65 : Ref sig .tc := ⟨.hbm, 98, rfl⟩
abbrev main_v66 : Ref sig .tc := ⟨.hbm, 99, rfl⟩
abbrev main_cst_10 : Ref sig .tc := ⟨.hbm, 100, rfl⟩
abbrev main_v67 : Ref sig .tc := ⟨.hbm, 101, rfl⟩
abbrev main_cst_11 : Ref sig .tc := ⟨.hbm, 102, rfl⟩
abbrev main_v68 : Ref sig .tc := ⟨.hbm, 103, rfl⟩
abbrev main_v69 : Ref sig .tc := ⟨.hbm, 104, rfl⟩
abbrev main_cst_12 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_13 : Ref sig .tc := ⟨.hbm, 110, rfl⟩
abbrev main_v74 : Ref sig .tc := ⟨.hbm, 111, rfl⟩
abbrev main_v75 : Ref sig .tc := ⟨.hbm, 112, rfl⟩
abbrev main_cst_14 : Ref sig .tc := ⟨.hbm, 113, rfl⟩
abbrev main_v76 : Ref sig .tc := ⟨.hbm, 114, rfl⟩
abbrev main_v77 : Ref sig .tc := ⟨.hbm, 115, rfl⟩
abbrev main_cst_15 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_cst_16 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_cst_17 : Ref sig .tc := ⟨.hbm, 125, rfl⟩
abbrev main_v85 : Ref sig .tc := ⟨.hbm, 126, rfl⟩
abbrev main_v86 : Ref sig .tc := ⟨.hbm, 127, rfl⟩
abbrev main_cst_18 : Ref sig .tc := ⟨.hbm, 128, rfl⟩
abbrev main_v87 : Ref sig .tc := ⟨.hbm, 129, rfl⟩
abbrev main_v88 : Ref sig .tc := ⟨.hbm, 130, rfl⟩
abbrev main_cst_19 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_cst_20 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_cst_21 : Ref sig .tc := ⟨.hbm, 143, rfl⟩
abbrev main_v99 : Ref sig .tc := ⟨.hbm, 144, rfl⟩
abbrev main_v100 : Ref sig .tc := ⟨.hbm, 145, rfl⟩
abbrev main_cst_22 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_cst_23 : Ref sig .tc := ⟨.hbm, 153, rfl⟩
abbrev main_v107 : Ref sig .tc := ⟨.hbm, 154, rfl⟩
abbrev main_v108 : Ref sig .tc := ⟨.hbm, 155, rfl⟩
abbrev main_cst_24 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_cst_25 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_cst_26 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩

abbrev nD : Nat := 1
abbrev τ : Topo := Topo.v7x

variable {F : FTy → Type} [FloatOps F]
-- ==== LossKernel.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024x8x704 : Shape := ⟨3, ![1024, 8, 704]⟩
abbrev S8x1024x704 : Shape := ⟨3, ![8, 1024, 704]⟩
abbrev S8x352x1024 : Shape := ⟨3, ![8, 352, 1024]⟩
abbrev S1x1024 : Shape := ⟨2, ![1, 1024]⟩
abbrev S3x8x704 : Shape := ⟨3, ![3, 8, 704]⟩
abbrev S8x3x704 : Shape := ⟨3, ![8, 3, 704]⟩
abbrev S8x704 : Shape := ⟨2, ![8, 704]⟩
abbrev S8x8192x704 : Shape := ⟨3, ![8, 8192, 704]⟩
abbrev S4x8192x704 : Shape := ⟨3, ![4, 8192, 704]⟩
abbrev S8x1024 : Shape := ⟨2, ![8, 1024]⟩
abbrev S1x1 : Shape := ⟨2, ![1, 1]⟩
abbrev S256x1024 : Shape := ⟨2, ![256, 1024]⟩
abbrev S8x256x704 : Shape := ⟨3, ![8, 256, 704]⟩
abbrev S4x256x704 : Shape := ⟨3, ![4, 256, 704]⟩
abbrev S8x8x704 : Shape := ⟨3, ![8, 8, 704]⟩
abbrev S256 : Shape := ⟨1, ![256]⟩
abbrev S256x1 : Shape := ⟨2, ![256, 1]⟩
abbrev S1x1024x704 : Shape := ⟨3, ![1, 1024, 704]⟩
abbrev S1024x704 : Shape := ⟨2, ![1024, 704]⟩
abbrev S256x704 : Shape := ⟨2, ![256, 704]⟩
abbrev S1x256x704 : Shape := ⟨3, ![1, 256, 704]⟩
abbrev S1x8x704 : Shape := ⟨3, ![1, 8, 704]⟩
abbrev S264x704 : Shape := ⟨2, ![264, 704]⟩
abbrev S1x704 : Shape := ⟨2, ![1, 704]⟩
abbrev S1x1x704 : Shape := ⟨3, ![1, 1, 704]⟩
abbrev S1x352x1024 : Shape := ⟨3, ![1, 352, 1024]⟩
abbrev S352x1024 : Shape := ⟨2, ![352, 1024]⟩
abbrev S704x1024 : Shape := ⟨2, ![704, 1024]⟩
abbrev S1 : Shape := ⟨1, ![1]⟩

abbrev nBuf : Space → Nat
  | .hbm => 26
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S8192x1024, .f32⟩
  | .hbm, ⟨8, _⟩ => ⟨S1024x8x704, .f32⟩
  | .hbm, ⟨9, _⟩ => ⟨S8x1024x704, .f32⟩
  | .hbm, ⟨10, _⟩ => ⟨S8x1024x704, .bf16⟩
  | .hbm, ⟨11, _⟩ => ⟨S2816x1024, .bf16⟩
  | .hbm, ⟨12, _⟩ => ⟨S8x352x1024, .bf16⟩
  | .hbm, ⟨13, _⟩ => ⟨S1x1024, .f32⟩
  | .hbm, ⟨14, _⟩ => ⟨S3x8x704, .f32⟩
  | .hbm, ⟨15, _⟩ => ⟨S8x3x704, .f32⟩
  | .hbm, ⟨16, _⟩ => ⟨S8x704, .f32⟩
  | .hbm, ⟨17, _⟩ => ⟨S1x1024, .f32⟩
  | .hbm, ⟨18, _⟩ => ⟨S8192x1024, .f32⟩
  | .hbm, ⟨19, _⟩ => ⟨S8192x1024, .bf16⟩
  | .hbm, ⟨20, _⟩ => ⟨S8x8192x704, .bf16⟩
  | .hbm, ⟨21, _⟩ => ⟨S8x8192x704, .bf16⟩
  | .hbm, ⟨22, _⟩ => ⟨S4x8192x704, .bf16⟩
  | .hbm, ⟨23, _⟩ => ⟨S8x1024, .f32⟩
  | .hbm, ⟨24, _⟩ => ⟨S1x1, .f32⟩
  | .hbm, ⟨25, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S8x1024x704, .bf16⟩
  | .local _ .vmem, ⟨4, _⟩ => ⟨S8x3x704, .f32⟩
  | .local _ .vmem, ⟨5, _⟩ => ⟨S8x704, .f32⟩
  | .local _ .vmem, ⟨6, _⟩ => ⟨S8x352x1024, .bf16⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S8x256x704, .bf16⟩
  | .local _ .vmem, ⟨15, _⟩ => ⟨S8x256x704, .bf16⟩
  | .local _ .vmem, ⟨16, _⟩ => ⟨S8x256x704, .bf16⟩
  | .local _ .vmem, ⟨17, _⟩ => ⟨S8x256x704, .bf16⟩
  | .local _ .vmem, ⟨18, _⟩ => ⟨S4x256x704, .bf16⟩
  | .local _ .vmem, ⟨19, _⟩ => ⟨S4x256x704, .bf16⟩
  | .local _ .vmem, ⟨20, _⟩ => ⟨S8x1024, .f32⟩
  | .local _ .vmem, ⟨21, _⟩ => ⟨S1x1, .f32⟩
  | .local _ .vmem, ⟨22, _⟩ => ⟨S256x1024, .bf16⟩
  | .local _ .vmem, ⟨23, _⟩ => ⟨S256x1024, .bf16⟩
  | .local _ .vmem, ⟨24, _⟩ => ⟨S8x8x704, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev main_v10_4 : Ref sig .tc := ⟨.hbm, 22, rfl⟩
abbrev main_v10_5 : Ref sig .tc := ⟨.hbm, 23, rfl⟩
abbrev main_v10_6 : Ref sig .tc := ⟨.hbm, 24, rfl⟩
abbrev main_v10_7 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x3x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x352x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x256x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x256x704 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x256x704 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== LossReferenceIdeal.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S2x5632 : Shape := ⟨2, ![2, 5632]⟩
abbrev S8194x5632 : Shape := ⟨2, ![8194, 5632]⟩
abbrev S1x5632 : Shape := ⟨2, ![1, 5632]⟩
abbrev S8192x2816 : Shape := ⟨2, ![8192, 2816]⟩
abbrev S8192x8x704 : Shape := ⟨3, ![8192, 8, 704]⟩
abbrev S8x8192x704 : Shape := ⟨3, ![8, 8192, 704]⟩
abbrev S8192x4x704 : Shape := ⟨3, ![8192, 4, 704]⟩
abbrev S4x8192x704 : Shape := ⟨3, ![4, 8192, 704]⟩
abbrev S7x1024 : Shape := ⟨2, ![7, 1024]⟩
abbrev S8x1024 : Shape := ⟨2, ![8, 1024]⟩
abbrev S1x1 : Shape := ⟨2, ![1, 1]⟩

abbrev nBuf : Space → Nat
  | .hbm => 149
  | .vmem => 0
  | .smem => 0
  | _ => 0

abbrev hbmTy0_0 (i : Nat) : BufTy := match i % 128 with
  | 0 => ⟨S8192x1024, .f32⟩
  | 1 => ⟨S1024, .f32⟩
  | 2 => ⟨S1024x5632, .f32⟩
  | 3 => ⟨S3x5632, .f32⟩
  | 4 => ⟨S5632, .f32⟩
  | 5 => ⟨S2816x1024, .f32⟩
  | 6 => ⟨S1024, .f32⟩
  | 7 => ⟨S8192x1024, .f32⟩
  | 8 => ⟨S8192x1024, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x1, .f32⟩
  | 19 => ⟨S8192x1024, .f32⟩
  | 20 => ⟨S8192x1024, .f32⟩
  | 21 => ⟨S1x1024, .f32⟩
  | 22 => ⟨S8192x1024, .f32⟩
  | 23 => ⟨S8192x1024, .f32⟩
  | 24 => ⟨S8192x5632, .f32⟩
  | 25 => ⟨S_, .f32⟩
  | 26 => ⟨S2x5632, .f32⟩
  | 27 => ⟨S8194x5632, .f32⟩
  | 28 => ⟨S8192x5632, .f32⟩
  | 29 => ⟨S1x5632, .f32⟩
  | 30 => ⟨S5632, .f32⟩
  | 31 => ⟨S1x5632, .f32⟩
  | 32 => ⟨S8192x5632, .f32⟩
  | 33 => ⟨S8192x5632, .f32⟩
  | 34 => ⟨S8192x5632, .f32⟩
  | 35 => ⟨S1x5632, .f32⟩
  | 36 => ⟨S5632, .f32⟩
  | 37 => ⟨S1x5632, .f32⟩
  | 38 => ⟨S8192x5632, .f32⟩
  | 39 => ⟨S8192x5632, .f32⟩
  | 40 => ⟨S8192x5632, .f32⟩
  | 41 => ⟨S8192x5632, .f32⟩
  | 42 => ⟨S1x5632, .f32⟩
  | 43 => ⟨S5632, .f32⟩
  | 44 => ⟨S1x5632, .f32⟩
  | 45 => ⟨S8192x5632, .f32⟩
  | 46 => ⟨S8192x5632, .f32⟩
  | 47 => ⟨S8192x5632, .f32⟩
  | 48 => ⟨S1x5632, .f32⟩
  | 49 => ⟨S8192x5632, .f32⟩
  | 50 => ⟨S8192x5632, .f32⟩
  | 51 => ⟨S8192x2816, .f32⟩
  | 52 => ⟨S8192x2816, .f32⟩
  | 53 => ⟨S8192x2816, .f32⟩
  | 54 => ⟨S8192x2816, .f32⟩
  | 55 => ⟨S_, .f32⟩
  | 56 => ⟨S8192x2816, .f32⟩
  | 57 => ⟨S8192x2816, .f32⟩
  | 58 => ⟨S_, .f32⟩
  | 59 => ⟨S8192x2816, .f32⟩
  | 60 => ⟨S8192x2816, .f32⟩
  | 61 => ⟨S8192x2816, .f32⟩
  | 62 => ⟨S8192x2816, .f32⟩
  | 63 => ⟨S8192x1024, .f32⟩
  | 64 => ⟨S8192x1024, .f32⟩
  | 65 => ⟨S8192x1024, .f32⟩
  | 66 => ⟨S_, .f32⟩
  | 67 => ⟨S8192, .f32⟩
  | 68 => ⟨S8192x1, .f32⟩
  | 69 => ⟨S_, .f32⟩
  | 70 => ⟨S8192x1, .f32⟩
  | 71 => ⟨S8192x1, .f32⟩
  | 72 => ⟨S_, .f32⟩
  | 73 => ⟨S8192x1, .f32⟩
  | 74 => ⟨S8192x1, .f32⟩
  | 75 => ⟨S8192x1, .f32⟩
  | 76 => ⟨S8192x1, .f32⟩
  | 77 => ⟨S_, .f32⟩
  | 78 => ⟨S8192x1, .f32⟩
  | 79 => ⟨S8192x1, .f32⟩
  | 80 => ⟨S8192x1024, .f32⟩
  | 81 => ⟨S8192x1024, .f32⟩
  | 82 => ⟨S1x1024, .f32⟩
  | 83 => ⟨S8192x1024, .f32⟩
  | 84 => ⟨S8192x1024, .f32⟩
  | 85 => ⟨S8192x1024, .f32⟩
  | 86 => ⟨S8192x1024, .f32⟩
  | 87 => ⟨S_, .f32⟩
  | 88 => ⟨S8192x1024, .f32⟩
  | 89 => ⟨S8192x1024, .f32⟩
  | 90 => ⟨S_, .f32⟩
  | 91 => ⟨S8192, .f32⟩
  | 92 => ⟨S_, .f32⟩
  | 93 => ⟨S8192, .f32⟩
  | 94 => ⟨S8192, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S8192, .f32⟩
  | 103 => ⟨S_, .f32⟩
  | 104 => ⟨S8192, .f32⟩
  | 105 => ⟨S8192, .f32⟩
  | 106 => ⟨S8192x1024, .f32⟩
  | 107 => ⟨S8192x1024, .f32⟩
  | 108 => ⟨S8192x1024, .f32⟩
  | 109 => ⟨S_, .f32⟩
  | 110 => ⟨S1024, .f32⟩
  | 111 => ⟨S1x1024, .f32⟩
  | 112 => ⟨S8192x1024, .f32⟩
  | 113 => ⟨S8192x1024, .f32⟩
  | 114 => ⟨S_, .f32⟩
  | 115 => ⟨S1024, .f32⟩
  | 116 => ⟨S8192x1024, .f32⟩
  | 117 => ⟨S_, .f32⟩
  | 118 => ⟨S8192, .f32⟩
  | 119 => ⟨S8192x1, .f32⟩
  | 120 => ⟨S8192x1024, .f32⟩
  | 121 => ⟨S8192x1024, .f32⟩
  | 122 => ⟨S8192x1, .f32⟩
  | 123 => ⟨S_, .f32⟩
  | 124 => ⟨S8192x1, .f32⟩
  | 125 => ⟨S8192x1, .f32⟩
  | 126 => ⟨S_, .f32⟩
  | 127 => ⟨S8192, .f32⟩
  | _ => ⟨S8192x1024, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S8192x1024, .f32⟩
  | 5 => ⟨S8192x1024, .bf16⟩
  | 6 => ⟨S8192x8x704, .f32⟩
  | 7 => ⟨S8x8192x704, .f32⟩
  | 8 => ⟨S8x8192x704, .bf16⟩
  | 9 => ⟨S8192x8x704, .f32⟩
  | 10 => ⟨S8x8192x704, .f32⟩
  | 11 => ⟨S8x8192x704, .bf16⟩
  | 12 => ⟨S8192x4x704, .f32⟩
  | 13 => ⟨S4x8192x704, .f32⟩
  | 14 => ⟨S4x8192x704, .bf16⟩
  | 15 => ⟨S1x1024, .f32⟩
  | 16 => ⟨S_, .f32⟩
  | 17 => ⟨S7x1024, .f32⟩
  | 18 => ⟨S8x1024, .f32⟩
  | 19 => ⟨S1x1, .f32⟩
  | 20 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_3 : Ref sig .tc := ⟨.hbm, 66, rfl⟩
abbrev main_v46 : Ref sig .tc := ⟨.hbm, 67, rfl⟩
abbrev main_v47 : Ref sig .tc := ⟨.hbm, 68, rfl⟩
abbrev main_cst_4 : Ref sig .tc := ⟨.hbm, 69, rfl⟩
abbrev main_v48 : Ref sig .tc := ⟨.hbm, 70, rfl⟩
abbrev main_v49 : Ref sig .tc := ⟨.hbm, 71, rfl⟩
abbrev main_cst_5 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_6 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_7 : Ref sig .tc := ⟨.hbm, 87, rfl⟩
abbrev main_v63 : Ref sig .tc := ⟨.hbm, 88, rfl⟩
abbrev main_v64 : Ref sig .tc := ⟨.hbm, 89, rfl⟩
abbrev main_cst_8 : Ref sig .tc := ⟨.hbm, 90, rfl⟩
abbrev main_v65 : Ref sig .tc := ⟨.hbm, 91, rfl⟩
abbrev main_cst_9 : Ref sig .tc := ⟨.hbm, 92, rfl⟩
abbrev main_v66 : Ref sig .tc := ⟨.hbm, 93, rfl⟩
abbrev main_v67 : Ref sig .tc := ⟨.hbm, 94, rfl⟩
abbrev main_cst_10 : Ref sig .tc := ⟨.hbm, 95, rfl⟩
abbrev main_v68 : Ref sig .tc := ⟨.hbm, 96, rfl⟩
abbrev main_cst_11 : Ref sig .tc := ⟨.hbm, 97, rfl⟩
abbrev main_v69 : Ref sig .tc := ⟨.hbm, 98, rfl⟩
abbrev main_cst_12 : Ref sig .tc := ⟨.hbm, 99, rfl⟩
abbrev main_cst_13 : Ref sig .tc := ⟨.hbm, 100, rfl⟩
abbrev main_v70 : Ref sig .tc := ⟨.hbm, 101, rfl⟩
abbrev main_v71 : Ref sig .tc := ⟨.hbm, 102, rfl⟩
abbrev main_cst_14 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_15 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_16 : Ref sig .tc := ⟨.hbm, 114, rfl⟩
abbrev main_v81 : Ref sig .tc := ⟨.hbm, 115, rfl⟩
abbrev main_v82 : Ref sig .tc := ⟨.hbm, 116, rfl⟩
abbrev main_cst_17 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_18 : Ref sig .tc := ⟨.hbm, 123, rfl⟩
abbrev main_v88 : Ref sig .tc := ⟨.hbm, 124, rfl⟩
abbrev main_v89 : Ref sig .tc := ⟨.hbm, 125, rfl⟩
abbrev main_cst_19 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_cst_20 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩

abbrev nD : Nat := 1
abbrev τ : Topo := Topo.v7x

variable {F : FTy → Type} [FloatOps F]
-- ==== InKernel.lean ====
abbrev S8192x1024 : Shape := ⟨2, ![8192, 1024]⟩
abbrev S1024 : Shape := ⟨1, ![1024]⟩
abbrev S1024x6144 : Shape := ⟨2, ![1024, 6144]⟩
abbrev S1024x8x768 : Shape := ⟨3, ![1024, 8, 768]⟩
abbrev S8x1024x768 : Shape := ⟨3, ![8, 1024, 768]⟩
abbrev S1x1024 : Shape := ⟨2, ![1, 1024]⟩
abbrev S8192x6144 : Shape := ⟨2, ![8192, 6144]⟩
abbrev S512x1024 : Shape := ⟨2, ![512, 1024]⟩
abbrev S512x6144 : Shape := ⟨2, ![512, 6144]⟩
abbrev S512 : Shape := ⟨1, ![512]⟩
abbrev S512x1 : Shape := ⟨2, ![512, 1]⟩
abbrev S1x1024x768 : Shape := ⟨3, ![1, 1024, 768]⟩
abbrev S1024x768 : Shape := ⟨2, ![1024, 768]⟩
abbrev S512x768 : Shape := ⟨2, ![512, 768]⟩

abbrev nBuf : Space → Nat
  | .hbm => 9
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x6144, .f32⟩
  | .hbm, ⟨3, _⟩ => ⟨S1024x8x768, .f32⟩
  | .hbm, ⟨4, _⟩ => ⟨S8x1024x768, .f32⟩
  | .hbm, ⟨5, _⟩ => ⟨S8x1024x768, .bf16⟩
  | .hbm, ⟨6, _⟩ => ⟨S1x1024, .f32⟩
  | .hbm, ⟨7, _⟩ => ⟨S8192x6144, .bf16⟩
  | .hbm, ⟨8, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x1024x768, .bf16⟩
  | .local _ .vmem, ⟨4, _⟩ => ⟨S512x6144, .bf16⟩
  | .local _ .vmem, ⟨5, _⟩ => ⟨S512x6144, .bf16⟩
  | .local _ .vmem, ⟨6, _⟩ => ⟨S512x1024, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x6144 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InReferenceIdeal.lean ====
abbrev S8192x1024 : Shape := ⟨2, ![8192, 1024]⟩
abbrev S1024 : Shape := ⟨1, ![1024]⟩
abbrev S1024x6144 : Shape := ⟨2, ![1024, 6144]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x6144 : Shape := ⟨2, ![8192, 6144]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x6144, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x6144, .f32⟩
  | .hbm, ⟨20, _⟩ => ⟨S8192x6144, .bf16⟩
  | .hbm, ⟨21, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== UpKernel.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024x8x704 : Shape := ⟨3, ![1024, 8, 704]⟩
abbrev S8x1024x704 : Shape := ⟨3, ![8, 1024, 704]⟩
abbrev S8x352x1024 : Shape := ⟨3, ![8, 352, 1024]⟩
abbrev S1x1024 : Shape := ⟨2, ![1, 1024]⟩
abbrev S3x8x704 : Shape := ⟨3, ![3, 8, 704]⟩
abbrev S8x3x704 : Shape := ⟨3, ![8, 3, 704]⟩
abbrev S8x704 : Shape := ⟨2, ![8, 704]⟩
abbrev S8x8192x704 : Shape := ⟨3, ![8, 8192, 704]⟩
abbrev S4x8192x704 : Shape := ⟨3, ![4, 8192, 704]⟩
abbrev S256x1024 : Shape := ⟨2, ![256, 1024]⟩
abbrev S8x256x704 : Shape := ⟨3, ![8, 256, 704]⟩
abbrev S4x256x704 : Shape := ⟨3, ![4, 256, 704]⟩
abbrev S8x8x704 : Shape := ⟨3, ![8, 8, 704]⟩
abbrev S256 : Shape := ⟨1, ![256]⟩
abbrev S256x1 : Shape := ⟨2, ![256, 1]⟩
abbrev S1x1024x704 : Shape := ⟨3, ![1, 1024, 704]⟩
abbrev S1024x704 : Shape := ⟨2, ![1024, 704]⟩
abbrev S256x704 : Shape := ⟨2, ![256, 704]⟩
abbrev S1x256x704 : Shape := ⟨3, ![1, 256, 704]⟩
abbrev S1x8x704 : Shape := ⟨3, ![1, 8, 704]⟩
abbrev S264x704 : Shape := ⟨2, ![264, 704]⟩
abbrev S1x704 : Shape := ⟨2, ![1, 704]⟩
abbrev S1x1x704 : Shape := ⟨3, ![1, 1, 704]⟩
abbrev S1x352x1024 : Shape := ⟨3, ![1, 352, 1024]⟩
abbrev S352x1024 : Shape := ⟨2, ![352, 1024]⟩
abbrev S704x1024 : Shape := ⟨2, ![704, 1024]⟩

abbrev nBuf : Space → Nat
  | .hbm => 20
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024x8x704, .f32⟩
  | .hbm, ⟨7, _⟩ => ⟨S8x1024x704, .f32⟩
  | .hbm, ⟨8, _⟩ => ⟨S8x1024x704, .bf16⟩
  | .hbm, ⟨9, _⟩ => ⟨S2816x1024, .bf16⟩
  | .hbm, ⟨10, _⟩ => ⟨S8x352x1024, .bf16⟩
  | .hbm, ⟨11, _⟩ => ⟨S1x1024, .f32⟩
  | .hbm, ⟨12, _⟩ => ⟨S3x8x704, .f32⟩
  | .hbm, ⟨13, _⟩ => ⟨S8x3x704, .f32⟩
  | .hbm, ⟨14, _⟩ => ⟨S8x704, .f32⟩
  | .hbm, ⟨15, _⟩ => ⟨S8192x1024, .f32⟩
  | .hbm, ⟨16, _⟩ => ⟨S8192x1024, .bf16⟩
  | .hbm, ⟨17, _⟩ => ⟨S8x8192x704, .bf16⟩
  | .hbm, ⟨18, _⟩ => ⟨S8x8192x704, .bf16⟩
  | .hbm, ⟨19, _⟩ => ⟨S4x8192x704, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S8x1024x704, .bf16⟩
  | .local _ .vmem, ⟨4, _⟩ => ⟨S8x3x704, .f32⟩
  | .local _ .vmem, ⟨5, _⟩ => ⟨S8x704, .f32⟩
  | .local _ .vmem, ⟨6, _⟩ => ⟨S8x352x1024, .bf16⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S8x256x704, .bf16⟩
  | .local _ .vmem, ⟨12, _⟩ => ⟨S8x256x704, .bf16⟩
  | .local _ .vmem, ⟨13, _⟩ => ⟨S8x256x704, .bf16⟩
  | .local _ .vmem, ⟨14, _⟩ => ⟨S8x256x704, .bf16⟩
  | .local _ .vmem, ⟨15, _⟩ => ⟨S4x256x704, .bf16⟩
  | .local _ .vmem, ⟨16, _⟩ => ⟨S4x256x704, .bf16⟩
  | .local _ .vmem, ⟨17, _⟩ => ⟨S8x8x704, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev main_v9_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x3x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x352x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x256x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x256x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x256x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== UpReferenceIdeal.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S2x5632 : Shape := ⟨2, ![2, 5632]⟩
abbrev S8194x5632 : Shape := ⟨2, ![8194, 5632]⟩
abbrev S1x5632 : Shape := ⟨2, ![1, 5632]⟩
abbrev S8192x2816 : Shape := ⟨2, ![8192, 2816]⟩
abbrev S8192x8x704 : Shape := ⟨3, ![8192, 8, 704]⟩
abbrev S8x8192x704 : Shape := ⟨3, ![8, 8192, 704]⟩
abbrev S8192x4x704 : Shape := ⟨3, ![8192, 4, 704]⟩
abbrev S4x8192x704 : Shape := ⟨3, ![4, 8192, 704]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x5632, .f32⟩
  | .hbm, ⟨23, _⟩ => ⟨S_, .f32⟩
  | .hbm, ⟨24, _⟩ => ⟨S2x5632, .f32⟩
  | .hbm, ⟨25, _⟩ => ⟨S8194x5632, .f32⟩
  | .hbm, ⟨26, _⟩ => ⟨S8192x5632, .f32⟩
  | .hbm, ⟨27, _⟩ => ⟨S1x5632, .f32⟩
  | .hbm, ⟨28, _⟩ => ⟨S5632, .f32⟩
  | .hbm, ⟨29, _⟩ => ⟨S1x5632, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S1x5632, .f32⟩
  | .hbm, ⟨34, _⟩ => ⟨S5632, .f32⟩
  | .hbm, ⟨35, _⟩ => ⟨S1x5632, .f32⟩
  | .hbm, ⟨36, _⟩ => ⟨S8192x5632, .f32⟩
  | .hbm, ⟨37, _⟩ => ⟨S8192x5632, .f32⟩
  | .hbm, ⟨38, _⟩ => ⟨S8192x5632, .f32⟩
  | .hbm, ⟨39, _⟩ => ⟨S8192x5632, .f32⟩
  | .hbm, ⟨40, _⟩ => ⟨S1x5632, .f32⟩
  | .hbm, ⟨41, _⟩ => ⟨S5632, .f32⟩
  | .hbm, ⟨42, _⟩ => ⟨S1x5632, .f32⟩
  | .hbm, ⟨43, _⟩ => ⟨S8192x5632, .f32⟩
  | .hbm, ⟨44, _⟩ => ⟨S8192x5632, .f32⟩
  | .hbm, ⟨45, _⟩ => ⟨S8192x5632, .f32⟩
  | .hbm, ⟨46, _⟩ => ⟨S1x5632, .f32⟩
  | .hbm, ⟨47, _⟩ => ⟨S8192x5632, .f32⟩
  | .hbm, ⟨48, _⟩ => ⟨S8192x5632, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S_, .f32⟩
  | .hbm, ⟨54, _⟩ => ⟨S8192x2816, .f32⟩
  | .hbm, ⟨55, _⟩ => ⟨S8192x2816, .f32⟩
  | .hbm, ⟨56, _⟩ => ⟨S_, .f32⟩
  | .hbm, ⟨57, _⟩ => ⟨S8192x2816, .f32⟩
  | .hbm, ⟨58, _⟩ => ⟨S8192x2816, .f32⟩
  | .hbm, ⟨59, _⟩ => ⟨S8192x2816, .f32⟩
  | .hbm, ⟨60, _⟩ => ⟨S8192x2816, .f32⟩
  | .hbm, ⟨61, _⟩ => ⟨S8192x1024, .f32⟩
  | .hbm, ⟨62, _⟩ => ⟨S8192x1024, .f32⟩
  | .hbm, ⟨63, _⟩ => ⟨S8192x1024, .bf16⟩
  | .hbm, ⟨64, _⟩ => ⟨S8192x8x704, .f32⟩
  | .hbm, ⟨65, _⟩ => ⟨S8x8192x704, .f32⟩
  | .hbm, ⟨66, _⟩ => ⟨S8x8192x704, .bf16⟩
  | .hbm, ⟨67, _⟩ => ⟨S8192x8x704, .f32⟩
  | .hbm, ⟨68, _⟩ => ⟨S8x8192x704, .f32⟩
  | .hbm, ⟨69, _⟩ => ⟨S8x8192x704, .bf16⟩
  | .hbm, ⟨70, _⟩ => ⟨S8192x4x704, .f32⟩
  | .hbm, ⟨71, _⟩ => ⟨S4x8192x704, .f32⟩
  | .hbm, ⟨72, _⟩ => ⟨S4x8192x704, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]
-- ==== MixKernel.lean ====
abbrev S8192x1024 : Shape := ⟨2, ![8192, 1024]⟩
abbrev S8192x6144 : Shape := ⟨2, ![8192, 6144]⟩
abbrev S4x128x128 : Shape := ⟨3, ![4, 128, 128]⟩
abbrev S512 : Shape := ⟨1, ![512]⟩
abbrev S4x128 : Shape := ⟨2, ![4, 128]⟩
abbrev S3x512 : Shape := ⟨2, ![3, 512]⟩
abbrev S512x1024 : Shape := ⟨2, ![512, 1024]⟩
abbrev S1024x1024 : Shape := ⟨2, ![1024, 1024]⟩
abbrev S1x512 : Shape := ⟨2, ![1, 512]⟩
abbrev S128x4 : Shape := ⟨2, ![128, 4]⟩
abbrev S512x8x128 : Shape := ⟨3, ![512, 8, 128]⟩
abbrev S8x512x128 : Shape := ⟨3, ![8, 512, 128]⟩
abbrev S8x128x1024 : Shape := ⟨3, ![8, 128, 1024]⟩
abbrev S8192x1536 : Shape := ⟨2, ![8192, 1536]⟩
abbrev S8192x3072 : Shape := ⟨2, ![8192, 3072]⟩
abbrev S256x1024 : Shape := ⟨2, ![256, 1024]⟩
abbrev S256x6144 : Shape := ⟨2, ![256, 6144]⟩
abbrev S256x1536 : Shape := ⟨2, ![256, 1536]⟩
abbrev S256x3072 : Shape := ⟨2, ![256, 3072]⟩
abbrev S16x512 : Shape := ⟨2, ![16, 512]⟩
abbrev S8x512 : Shape := ⟨2, ![8, 512]⟩
abbrev S256x512 : Shape := ⟨2, ![256, 512]⟩
abbrev S272x512 : Shape := ⟨2, ![272, 512]⟩
abbrev S256x1 : Shape := ⟨2, ![256, 1]⟩
abbrev S272x128 : Shape := ⟨2, ![272, 128]⟩
abbrev S256x128 : Shape := ⟨2, ![256, 128]⟩
abbrev S1x128x128 : Shape := ⟨3, ![1, 128, 128]⟩
abbrev S128x128 : Shape := ⟨2, ![128, 128]⟩
abbrev S1x128 : Shape := ⟨2, ![1, 128]⟩
abbrev S256 : Shape := ⟨1, ![256]⟩
abbrev S128x1 : Shape := ⟨2, ![128, 1]⟩
abbrev S264x512 : Shape := ⟨2, ![264, 512]⟩
abbrev S1x512x128 : Shape := ⟨3, ![1, 512, 128]⟩
abbrev S512x128 : Shape := ⟨2, ![512, 128]⟩

abbrev nBuf : Space → Nat
  | .hbm => 33
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S8192x6144, .f32⟩
  | .hbm, ⟨2, _⟩ => ⟨S4x128x128, .f32⟩
  | .hbm, ⟨3, _⟩ => ⟨S512, .f32⟩
  | .hbm, ⟨4, _⟩ => ⟨S512, .f32⟩
  | .hbm, ⟨5, _⟩ => ⟨S4x128x128, .f32⟩
  | .hbm, ⟨6, _⟩ => ⟨S4x128, .f32⟩
  | .hbm, ⟨7, _⟩ => ⟨S3x512, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S1024x1024, .f32⟩
  | .hbm, ⟨12, _⟩ => ⟨S8192x6144, .bf16⟩
  | .hbm, ⟨13, _⟩ => ⟨S4x128x128, .bf16⟩
  | .hbm, ⟨14, _⟩ => ⟨S1x512, .f32⟩
  | .hbm, ⟨15, _⟩ => ⟨S1x512, .f32⟩
  | .hbm, ⟨16, _⟩ => ⟨S128x4, .f32⟩
  | .hbm, ⟨17, _⟩ => ⟨S512x8x128, .f32⟩
  | .hbm, ⟨18, _⟩ => ⟨S8x512x128, .f32⟩
  | .hbm, ⟨19, _⟩ => ⟨S8x512x128, .bf16⟩
  | .hbm, ⟨20, _⟩ => ⟨S512x8x128, .f32⟩
  | .hbm, ⟨21, _⟩ => ⟨S8x512x128, .f32⟩
  | .hbm, ⟨22, _⟩ => ⟨S8x512x128, .bf16⟩
  | .hbm, ⟨23, _⟩ => ⟨S512x8x128, .f32⟩
  | .hbm, ⟨24, _⟩ => ⟨S8x512x128, .f32⟩
  | .hbm, ⟨25, _⟩ => ⟨S8x512x128, .bf16⟩
  | .hbm, ⟨26, _⟩ => ⟨S8x128x1024, .f32⟩
  | .hbm, ⟨27, _⟩ => ⟨S8x128x1024, .bf16⟩
  | .hbm, ⟨28, _⟩ => ⟨S8192x1024, .f32⟩
  | .hbm, ⟨29, _⟩ => ⟨S8192x1536, .bf16⟩
  | .hbm, ⟨30, _⟩ => ⟨S8192x1024, .bf16⟩
  | .hbm, ⟨31, _⟩ => ⟨S8192x3072, .bf16⟩
  | .hbm, ⟨32, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x6144, .bf16⟩
  | .local _ .vmem, ⟨3, _⟩ => ⟨S256x6144, .bf16⟩
  | .local _ .vmem, ⟨4, _⟩ => ⟨S4x128x128, .bf16⟩
  | .local _ .vmem, ⟨5, _⟩ => ⟨S1x512, .f32⟩
  | .local _ .vmem, ⟨6, _⟩ => ⟨S1x512, .f32⟩
  | .local _ .vmem, ⟨7, _⟩ => ⟨S4x128x128, .f32⟩
  | .local _ .vmem, ⟨8, _⟩ => ⟨S128x4, .f32⟩
  | .local _ .vmem, ⟨9, _⟩ => ⟨S3x512, .f32⟩
  | .local _ .vmem, ⟨10, _⟩ => ⟨S8x512x128, .bf16⟩
  | .local _ .vmem, ⟨11, _⟩ => ⟨S8x512x128, .bf16⟩
  | .local _ .vmem, ⟨12, _⟩ => ⟨S8x512x128, .bf16⟩
  | .local _ .vmem, ⟨13, _⟩ => ⟨S8x128x1024, .bf16⟩
  | .local _ .vmem, ⟨14, _⟩ => ⟨S256x1024, .f32⟩
  | .local _ .vmem, ⟨15, _⟩ => ⟨S256x1024, .f32⟩
  | .local _ .vmem, ⟨16, _⟩ => ⟨S256x1536, .bf16⟩
  | .local _ .vmem, ⟨17, _⟩ => ⟨S256x1536, .bf16⟩
  | .local _ .vmem, ⟨18, _⟩ => ⟨S256x1024, .bf16⟩
  | .local _ .vmem, ⟨19, _⟩ => ⟨S256x1024, .bf16⟩
  | .local _ .vmem, ⟨20, _⟩ => ⟨S256x3072, .bf16⟩
  | .local _ .vmem, ⟨21, _⟩ => ⟨S256x3072, .bf16⟩
  | .local _ .vmem, ⟨22, _⟩ => ⟨S256x1024, .bf16⟩
  | .local _ .vmem, ⟨23, _⟩ => ⟨S256x1024, .bf16⟩
  | .local _ .vmem, ⟨24, _⟩ => ⟨S16x512, .f32⟩
  | .local _ .vmem, ⟨25, _⟩ => ⟨S8x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16_0 : Ref sig .tc := ⟨.hbm, 28, rfl⟩
abbrev main_v16_1 : Ref sig .tc := ⟨.hbm, 29, rfl⟩
abbrev main_v16_2 : Ref sig .tc := ⟨.hbm, 30, rfl⟩
abbrev main_v16_3 : Ref sig .tc := ⟨.hbm, 31, rfl⟩
abbrev main_v16_4 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x512x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x512x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x512x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1536 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x3072 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MixReferenceIdeal.lean ====
abbrev S8192x1024 : Shape := ⟨2, ![8192, 1024]⟩
abbrev S8192x6144 : Shape := ⟨2, ![8192, 6144]⟩
abbrev S4x128x128 : Shape := ⟨3, ![4, 128, 128]⟩
abbrev S512 : Shape := ⟨1, ![512]⟩
abbrev S4x128 : Shape := ⟨2, ![4, 128]⟩
abbrev S3x512 : Shape := ⟨2, ![3, 512]⟩
abbrev S512x1024 : Shape := ⟨2, ![512, 1024]⟩
abbrev S1024x1024 : Shape := ⟨2, ![1024, 1024]⟩
abbrev S8192x512 : Shape := ⟨2, ![8192, 512]⟩
abbrev S8192x4x128 : Shape := ⟨3, ![8192, 4, 128]⟩
abbrev S_ : Shape := ⟨0, ![]⟩
abbrev S1x4x128 : Shape := ⟨3, ![1, 4, 128]⟩
abbrev S8193x4x128 : Shape := ⟨3, ![8193, 4, 128]⟩
abbrev S8192 : Shape := ⟨1, ![8192]⟩
abbrev S8192x1x128 : Shape := ⟨3, ![8192, 1, 128]⟩
abbrev S8192x128 : Shape := ⟨2, ![8192, 128]⟩
abbrev S1x128 : Shape := ⟨2, ![1, 128]⟩
abbrev S8191x1x128 : Shape := ⟨3, ![8191, 1, 128]⟩
abbrev S8191x128 : Shape := ⟨2, ![8191, 128]⟩
abbrev S8192x1 : Shape := ⟨2, ![8192, 1]⟩
abbrev S3x128 : Shape := ⟨2, ![3, 128]⟩
abbrev S8189x1x128 : Shape := ⟨3, ![8189, 1, 128]⟩
abbrev S8189x128 : Shape := ⟨2, ![8189, 128]⟩
abbrev S7x128 : Shape := ⟨2, ![7, 128]⟩
abbrev S8185x1x128 : Shape := ⟨3, ![8185, 1, 128]⟩
abbrev S8185x128 : Shape := ⟨2, ![8185, 128]⟩
abbrev S15x128 : Shape := ⟨2, ![15, 128]⟩
abbrev S8177x1x128 : Shape := ⟨3, ![8177, 1, 128]⟩
abbrev S8177x128 : Shape := ⟨2, ![8177, 128]⟩
abbrev S4x128x8192 : Shape := ⟨3, ![4, 128, 8192]⟩
abbrev S1x512 : Shape := ⟨2, ![1, 512]⟩
abbrev S64x128x4x128 : Shape := ⟨4, ![64, 128, 4, 128]⟩
abbrev S128x128 : Shape := ⟨2, ![128, 128]⟩
abbrev S4x64x128x128 : Shape := ⟨4, ![4, 64, 128, 128]⟩
abbrev S128x4 : Shape := ⟨2, ![128, 4]⟩
abbrev S1x128x4x1 : Shape := ⟨4, ![1, 128, 4, 1]⟩
abbrev S2x512 : Shape := ⟨2, ![2, 512]⟩
abbrev S8194x512 : Shape := ⟨2, ![8194, 512]⟩
abbrev S8192x1536 : Shape := ⟨2, ![8192, 1536]⟩
abbrev S8192x3072 : Shape := ⟨2, ![8192, 3072]⟩

abbrev nBuf : Space → Nat
  | .hbm => 241
  | .vmem => 0
  | .smem => 0
  | _ => 0

abbrev hbmTy0_0 (i : Nat) : BufTy := match i % 128 with
  | 0 => ⟨S8192x1024, .f32⟩
  | 1 => ⟨S8192x6144, .f32⟩
  | 2 => ⟨S4x128x128, .f32⟩
  | 3 => ⟨S512, .f32⟩
  | 4 => ⟨S512, .f32⟩
  | 5 => ⟨S4x128x128, .f32⟩
  | 6 => ⟨S4x128, .f32⟩
  | 7 => ⟨S3x512, .f32⟩
  | 8 => ⟨S512x1024, .f32⟩
  | 9 => ⟨S512x1024, .f32⟩
  | 10 => ⟨S512x1024, .f32⟩
  | 11 => ⟨S1024x1024, .f32⟩
  | 12 => ⟨S8192x512, .f32⟩
  | 13 => ⟨S8192x1024, .f32⟩
  | 14 => ⟨S8192x512, .f32⟩
  | 15 => ⟨S8192x512, .f32⟩
  | 16 => ⟨S8192x512, .f32⟩
  | 17 => ⟨S8192x1024, .f32⟩
  | 18 => ⟨S8192x1024, .f32⟩
  | 19 => ⟨S8192x1024, .f32⟩
  | 20 => ⟨S8192x4x128, .f32⟩
  | 21 => ⟨S_, .f32⟩
  | 22 => ⟨S_, .f32⟩
  | 23 => ⟨S8192x4x128, .f32⟩
  | 24 => ⟨S_, .f32⟩
  | 25 => ⟨S1x4x128, .f32⟩
  | 26 => ⟨S8193x4x128, .f32⟩
  | 27 => ⟨S8192, .i32⟩
  | 28 => ⟨S8192, .f32⟩
  | 29 => ⟨S8192x1x128, .f32⟩
  | 30 => ⟨S8192x128, .f32⟩
  | 31 => ⟨S_, .f32⟩
  | 32 => ⟨S1x128, .f32⟩
  | 33 => ⟨S8191x1x128, .f32⟩
  | 34 => ⟨S8191x128, .f32⟩
  | 35 => ⟨S8192x128, .f32⟩
  | 36 => ⟨S_, .f32⟩
  | 37 => ⟨S8192, .f32⟩
  | 38 => ⟨S8192, .f32⟩
  | 39 => ⟨S_, .f32⟩
  | 40 => ⟨S8192, .f32⟩
  | 41 => ⟨S8192, .f32⟩
  | 42 => ⟨S8192x1, .f32⟩
  | 43 => ⟨S8192x128, .f32⟩
  | 44 => ⟨S8192x128, .f32⟩
  | 45 => ⟨S8192x128, .f32⟩
  | 46 => ⟨S8192x1x128, .f32⟩
  | 47 => ⟨S8192x128, .f32⟩
  | 48 => ⟨S8192x128, .f32⟩
  | 49 => ⟨S8192x1x128, .f32⟩
  | 50 => ⟨S8192x128, .f32⟩
  | 51 => ⟨S_, .f32⟩
  | 52 => ⟨S3x128, .f32⟩
  | 53 => ⟨S8189x1x128, .f32⟩
  | 54 => ⟨S8189x128, .f32⟩
  | 55 => ⟨S8192x128, .f32⟩
  | 56 => ⟨S_, .f32⟩
  | 57 => ⟨S8192, .f32⟩
  | 58 => ⟨S8192, .f32⟩
  | 59 => ⟨S_, .f32⟩
  | 60 => ⟨S8192, .f32⟩
  | 61 => ⟨S8192, .f32⟩
  | 62 => ⟨S8192x1, .f32⟩
  | 63 => ⟨S8192x128, .f32⟩
  | 64 => ⟨S8192x128, .f32⟩
  | 65 => ⟨S8192x128, .f32⟩
  | 66 => ⟨S8192x1x128, .f32⟩
  | 67 => ⟨S8192x128, .f32⟩
  | 68 => ⟨S8192x128, .f32⟩
  | 69 => ⟨S8192x1x128, .f32⟩
  | 70 => ⟨S8192x128, .f32⟩
  | 71 => ⟨S_, .f32⟩
  | 72 => ⟨S7x128, .f32⟩
  | 73 => ⟨S8185x1x128, .f32⟩
  | 74 => ⟨S8185x128, .f32⟩
  | 75 => ⟨S8192x128, .f32⟩
  | 76 => ⟨S_, .f32⟩
  | 77 => ⟨S8192, .f32⟩
  | 78 => ⟨S8192, .f32⟩
  | 79 => ⟨S_, .f32⟩
  | 80 => ⟨S8192, .f32⟩
  | 81 => ⟨S8192, .f32⟩
  | 82 => ⟨S8192x1, .f32⟩
  | 83 => ⟨S8192x128, .f32⟩
  | 84 => ⟨S8192x128, .f32⟩
  | 85 => ⟨S8192x128, .f32⟩
  | 86 => ⟨S8192x1x128, .f32⟩
  | 87 => ⟨S8192x128, .f32⟩
  | 88 => ⟨S8192x128, .f32⟩
  | 89 => ⟨S8192x1x128, .f32⟩
  | 90 => ⟨S8192x128, .f32⟩
  | 91 => ⟨S_, .f32⟩
  | 92 => ⟨S15x128, .f32⟩
  | 93 => ⟨S8177x1x128, .f32⟩
  | 94 => ⟨S8177x128, .f32⟩
  | 95 => ⟨S8192x128, .f32⟩
  | 96 => ⟨S_, .f32⟩
  | 97 => ⟨S8192, .f32⟩
  | 98 => ⟨S8192, .f32⟩
  | 99 => ⟨S_, .f32⟩
  | 100 => ⟨S8192, .f32⟩
  | 101 => ⟨S8192, .f32⟩
  | 102 => ⟨S8192x1, .f32⟩
  | 103 => ⟨S8192x128, .f32⟩
  | 104 => ⟨S8192x128, .f32⟩
  | 105 => ⟨S8192x128, .f32⟩
  | 106 => ⟨S8192x1x128, .f32⟩
  | 107 => ⟨S8192x128, .f32⟩
  | 108 => ⟨S8192x128, .f32⟩
  | 109 => ⟨S8192x1x128, .f32⟩
  | 110 => ⟨S8192x1x128, .f32⟩
  | 111 => ⟨S8192x1x128, .f32⟩
  | 112 => ⟨S8192x1x128, .f32⟩
  | 113 => ⟨S8192x4x128, .f32⟩
  | 114 => ⟨S4x128x8192, .f32⟩
  | 115 => ⟨S8192x4x128, .f32⟩
  | 116 => ⟨S8192x512, .f32⟩
  | 117 => ⟨S1x512, .f32⟩
  | 118 => ⟨S8192x512, .f32⟩
  | 119 => ⟨S8192x512, .f32⟩
  | 120 => ⟨S8192x1024, .f32⟩
  | 121 => ⟨S8192x1024, .f32⟩
  | 122 => ⟨S_, .f32⟩
  | 123 => ⟨S8192x1024, .f32⟩
  | 124 => ⟨S8192x1024, .f32⟩
  | 125 => ⟨S8192x1024, .f32⟩
  | 126 => ⟨S_, .f32⟩
  | 127 => ⟨S8192x1024, .f32⟩
  | _ => ⟨S8192x1024, .f32⟩

abbrev hbmTy0_1 (i : Nat) : BufTy := match i % 128 with
  | 0 => ⟨S8192x1024, .f32⟩
  | 1 => ⟨S8192x1024, .f32⟩
  | 2 => ⟨S_, .f32⟩
  | 3 => ⟨S8192x1024, .f32⟩
  | 4 => ⟨S8192x1024, .f32⟩
  | 5 => ⟨S_, .f32⟩
  | 6 => ⟨S8192x1024, .f32⟩
  | 7 => ⟨S8192x1024, .f32⟩
  | 8 => ⟨S8192x1024, .f32⟩
  | 9 => ⟨S8192x512, .f32⟩
  | 10 => ⟨S8192x512, .f32⟩
  | 11 => ⟨S8192x512, .f32⟩
  | 12 => ⟨S_, .f32⟩
  | 13 => ⟨S8192, .f32⟩
  | 14 => ⟨S8192x1, .f32⟩
  | 15 => ⟨S_, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1, .f32⟩
  | 22 => ⟨S8192x512, .f32⟩
  | 23 => ⟨S8192x512, .f32⟩
  | 24 => ⟨S1x512, .f32⟩
  | 25 => ⟨S8192x512, .f32⟩
  | 26 => ⟨S8192x512, .f32⟩
  | 27 => ⟨S64x128x4x128, .f32⟩
  | 28 => ⟨S128x128, .i32⟩
  | 29 => ⟨S_, .i32⟩
  | 30 => ⟨S128x128, .i32⟩
  | 31 => ⟨S128x128, .i32⟩
  | 32 => ⟨S128x128, .i32⟩
  | 33 => ⟨S128x128, .i1⟩
  | 34 => ⟨S4x128x128, .i1⟩
  | 35 => ⟨S_, .f32⟩
  | 36 => ⟨S4x128x128, .f32⟩
  | 37 => ⟨S4x128x128, .f32⟩
  | 38 => ⟨S4x64x128x128, .f32⟩
  | 39 => ⟨S64x128x4x128, .f32⟩
  | 40 => ⟨S128x4, .f32⟩
  | 41 => ⟨S1x128x4x1, .f32⟩
  | 42 => ⟨S64x128x4x128, .f32⟩
  | 43 => ⟨S64x128x4x128, .f32⟩
  | 44 => ⟨S8192x512, .f32⟩
  | 45 => ⟨S8192x512, .f32⟩
  | 46 => ⟨S8192x512, .f32⟩
  | 47 => ⟨S_, .f32⟩
  | 48 => ⟨S2x512, .f32⟩
  | 49 => ⟨S8194x512, .f32⟩
  | 50 => ⟨S8192x512, .f32⟩
  | 51 => ⟨S1x512, .f32⟩
  | 52 => ⟨S512, .f32⟩
  | 53 => ⟨S1x512, .f32⟩
  | 54 => ⟨S8192x512, .f32⟩
  | 55 => ⟨S8192x512, .f32⟩
  | 56 => ⟨S8192x512, .f32⟩
  | 57 => ⟨S1x512, .f32⟩
  | 58 => ⟨S512, .f32⟩
  | 59 => ⟨S1x512, .f32⟩
  | 60 => ⟨S8192x512, .f32⟩
  | 61 => ⟨S8192x512, .f32⟩
  | 62 => ⟨S8192x512, .f32⟩
  | 63 => ⟨S8192x512, .f32⟩
  | 64 => ⟨S1x512, .f32⟩
  | 65 => ⟨S512, .f32⟩
  | 66 => ⟨S1x512, .f32⟩
  | 67 => ⟨S8192x512, .f32⟩
  | 68 => ⟨S8192x512, .f32⟩
  | 69 => ⟨S8192x512, .f32⟩
  | 70 => ⟨S8192x512, .f32⟩
  | 71 => ⟨S8192x1024, .f32⟩
  | 72 => ⟨S8192x1024, .f32⟩
  | 73 => ⟨S8192x1024, .f32⟩
  | 74 => ⟨S8192x1024, .f32⟩
  | 75 => ⟨S8192x1024, .f32⟩
  | 76 => ⟨S_, .f32⟩
  | 77 => ⟨S8192x1024, .f32⟩
  | 78 => ⟨S8192x1024, .f32⟩
  | 79 => ⟨S_, .f32⟩
  | 80 => ⟨S8192x1024, .f32⟩
  | 81 => ⟨S8192x1024, .f32⟩
  | 82 => ⟨S8192x1024, .f32⟩
  | 83 => ⟨S8192x1024, .f32⟩
  | 84 => ⟨S8192x1024, .f32⟩
  | 85 => ⟨S_, .f32⟩
  | 86 => ⟨S8192x1024, .f32⟩
  | 87 => ⟨S8192x1024, .f32⟩
  | 88 => ⟨S_, .f32⟩
  | 89 => ⟨S8192x1024, .f32⟩
  | 90 => ⟨S8192x1024, .f32⟩
  | 91 => ⟨S8192x1024, .f32⟩
  | 92 => ⟨S8192x1024, .f32⟩
  | 93 => ⟨S8192x1024, .f32⟩
  | 94 => ⟨S8192x1024, .f32⟩
  | 95 => ⟨S_, .f32⟩
  | 96 => ⟨S8192x1024, .f32⟩
  | 97 => ⟨S8192x1024, .f32⟩
  | 98 => ⟨S_, .f32⟩
  | 99 => ⟨S8192x1024, .f32⟩
  | 100 => ⟨S8192x1024, .f32⟩
  | 101 => ⟨S8192x1024, .f32⟩
  | 102 => ⟨S8192x1024, .f32⟩
  | 103 => ⟨S8192x1024, .f32⟩
  | 104 => ⟨S8192x1024, .f32⟩
  | 105 => ⟨S8192x1536, .f32⟩
  | 106 => ⟨S8192x1536, .bf16⟩
  | 107 => ⟨S8192x512, .f32⟩
  | 108 => ⟨S8192x1024, .f32⟩
  | 109 => ⟨S8192x1024, .bf16⟩
  | 110 => ⟨S8192x3072, .f32⟩
  | 111 => ⟨S8192x3072, .bf16⟩
  | 112 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call0_call0_cst : Ref sig .tc := ⟨.hbm, 21, rfl⟩
abbrev main_call0_call0_v0 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_3 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_4 : Ref sig .tc := ⟨.hbm, 56, rfl⟩
abbrev main_v37 : Ref sig .tc := ⟨.hbm, 57, rfl⟩
abbrev main_v38 : Ref sig .tc := ⟨.hbm, 58, rfl⟩
abbrev main_cst_5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_6 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_7 : Ref sig .tc := ⟨.hbm, 76, rfl⟩
abbrev main_v54 : Ref sig .tc := ⟨.hbm, 77, rfl⟩
abbrev main_v55 : Ref sig .tc := ⟨.hbm, 78, rfl⟩
abbrev main_cst_8 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_9 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_10 : Ref sig .tc := ⟨.hbm, 96, rfl⟩
abbrev main_v71 : Ref sig .tc := ⟨.hbm, 97, rfl⟩
abbrev main_v72 : Ref sig .tc := ⟨.hbm, 98, rfl⟩
abbrev main_cst_11 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_12 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_cst_13 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_cst_14 : Ref sig .tc := ⟨.hbm, 130, rfl⟩
abbrev main_v101 : Ref sig .tc := ⟨.hbm, 131, rfl⟩
abbrev main_v102 : Ref sig .tc := ⟨.hbm, 132, rfl⟩
abbrev main_cst_15 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_cst_16 : Ref sig .tc := ⟨.hbm, 140, rfl⟩
abbrev main_v109 : Ref sig .tc := ⟨.hbm, 141, rfl⟩
abbrev main_v110 : Ref sig .tc := ⟨.hbm, 142, rfl⟩
abbrev main_cst_17 : Ref sig .tc := ⟨.hbm, 143, rfl⟩
abbrev main_v111 : Ref sig .tc := ⟨.hbm, 144, rfl⟩
abbrev main_v112 : Ref sig .tc := ⟨.hbm, 145, rfl⟩
abbrev main_cst_18 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_call1_v0 : Ref sig .tc := ⟨.hbm, 156, rfl⟩
abbrev main_call1_c : Ref sig .tc := ⟨.hbm, 157, rfl⟩
abbrev main_call1_v1 : Ref sig .tc := ⟨.hbm, 158, rfl⟩
abbrev main_call1_v2 : Ref sig .tc := ⟨.hbm, 159, rfl⟩
abbrev main_call1_v3 : Ref sig .tc := ⟨.hbm, 160, rfl⟩
abbrev main_call1_v4 : Ref sig .tc := ⟨.hbm, 161, rfl⟩
abbrev main_call1_v5 : Ref sig .tc := ⟨.hbm, 162, rfl⟩
abbrev main_call1_cst : Ref sig .tc := ⟨.hbm, 163, rfl⟩
abbrev main_call1_v6 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_cst_19 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_cst_20 : Ref sig .tc := ⟨.hbm, 204, rfl⟩
abbrev main_v160 : Ref sig .tc := ⟨.hbm, 205, rfl⟩
abbrev main_v161 : Ref sig .tc := ⟨.hbm, 206, rfl⟩
abbrev main_cst_21 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_cst_22 : Ref sig .tc := ⟨.hbm, 213, rfl⟩
abbrev main_v167 : Ref sig .tc := ⟨.hbm, 214, rfl⟩
abbrev main_v168 : Ref sig .tc := ⟨.hbm, 215, rfl⟩
abbrev main_cst_23 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_cst_24 : Ref sig .tc := ⟨.hbm, 223, rfl⟩
abbrev main_v175 : Ref sig .tc := ⟨.hbm, 224, rfl⟩
abbrev main_v176 : Ref sig .tc := ⟨.hbm, 225, rfl⟩
abbrev main_cst_25 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩

abbrev nD : Nat := 1
abbrev τ : Topo := Topo.v7x

variable {F : FTy → Type} [FloatOps F]
-- ==== FuseKernel.lean ====
abbrev S8192x1024 : Shape := ⟨2, ![8192, 1024]⟩
abbrev S1024 : Shape := ⟨1, ![1024]⟩
abbrev S1024x6144 : Shape := ⟨2, ![1024, 6144]⟩
abbrev S4x128x128 : Shape := ⟨3, ![4, 128, 128]⟩
abbrev S512 : Shape := ⟨1, ![512]⟩
abbrev S4x128 : Shape := ⟨2, ![4, 128]⟩
abbrev S3x512 : Shape := ⟨2, ![3, 512]⟩
abbrev S512x1024 : Shape := ⟨2, ![512, 1024]⟩
abbrev S1024x1024 : Shape := ⟨2, ![1024, 1024]⟩
abbrev S1x512 : Shape := ⟨2, ![1, 512]⟩
abbrev S128x4 : Shape := ⟨2, ![128, 4]⟩
abbrev S512x8x128 : Shape := ⟨3, ![512, 8, 128]⟩
abbrev S8x512x128 : Shape := ⟨3, ![8, 512, 128]⟩
abbrev S8x128x1024 : Shape := ⟨3, ![8, 128, 1024]⟩
abbrev S1x1024 : Shape := ⟨2, ![1, 1024]⟩
abbrev S1024x8x768 : Shape := ⟨3, ![1024, 8, 768]⟩
abbrev S8x1024x768 : Shape := ⟨3, ![8, 1024, 768]⟩
abbrev S8192x1536 : Shape := ⟨2, ![8192, 1536]⟩
abbrev S8192x3072 : Shape := ⟨2, ![8192, 3072]⟩
abbrev S8192x6144 : Shape := ⟨2, ![8192, 6144]⟩
abbrev S256x1024 : Shape := ⟨2, ![256, 1024]⟩
abbrev S256x1536 : Shape := ⟨2, ![256, 1536]⟩
abbrev S256x3072 : Shape := ⟨2, ![256, 3072]⟩
abbrev S256x6144 : Shape := ⟨2, ![256, 6144]⟩
abbrev S16x512 : Shape := ⟨2, ![16, 512]⟩
abbrev S8x512 : Shape := ⟨2, ![8, 512]⟩
abbrev S256 : Shape := ⟨1, ![256]⟩
abbrev S256x1 : Shape := ⟨2, ![256, 1]⟩
abbrev S1x1024x768 : Shape := ⟨3, ![1, 1024, 768]⟩
abbrev S1024x768 : Shape := ⟨2, ![1024, 768]⟩
abbrev S256x768 : Shape := ⟨2, ![256, 768]⟩
abbrev S256x512 : Shape := ⟨2, ![256, 512]⟩
abbrev S272x512 : Shape := ⟨2, ![272, 512]⟩
abbrev S272x128 : Shape := ⟨2, ![272, 128]⟩
abbrev S256x128 : Shape := ⟨2, ![256, 128]⟩
abbrev S1x128x128 : Shape := ⟨3, ![1, 128, 128]⟩
abbrev S128x128 : Shape := ⟨2, ![128, 128]⟩
abbrev S1x128 : Shape := ⟨2, ![1, 128]⟩
abbrev S128x1 : Shape := ⟨2, ![128, 1]⟩
abbrev S264x512 : Shape := ⟨2, ![264, 512]⟩
abbrev S1x512x128 : Shape := ⟨3, ![1, 512, 128]⟩
abbrev S512x128 : Shape := ⟨2, ![512, 128]⟩

abbrev nBuf : Space → Nat
  | .hbm => 39
  | .vmem => 30
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x6144, .f32⟩
  | .hbm, ⟨3, _⟩ => ⟨S4x128x128, .f32⟩
  | .hbm, ⟨4, _⟩ => ⟨S512, .f32⟩
  | .hbm, ⟨5, _⟩ => ⟨S512, .f32⟩
  | .hbm, ⟨6, _⟩ => ⟨S4x128x128, .f32⟩
  | .hbm, ⟨7, _⟩ => ⟨S4x128, .f32⟩
  | .hbm, ⟨8, _⟩ => ⟨S3x512, .f32⟩
  | .hbm, ⟨9, _⟩ => ⟨S512x1024, .f32⟩
  | .hbm, ⟨10, _⟩ => ⟨S512x1024, .f32⟩
  | .hbm, ⟨11, _⟩ => ⟨S512x1024, .f32⟩
  | .hbm, ⟨12, _⟩ => ⟨S1024x1024, .f32⟩
  | .hbm, ⟨13, _⟩ => ⟨S4x128x128, .bf16⟩
  | .hbm, ⟨14, _⟩ => ⟨S1x512, .f32⟩
  | .hbm, ⟨15, _⟩ => ⟨S1x512, .f32⟩
  | .hbm, ⟨16, _⟩ => ⟨S128x4, .f32⟩
  | .hbm, ⟨17, _⟩ => ⟨S512x8x128, .f32⟩
  | .hbm, ⟨18, _⟩ => ⟨S8x512x128, .f32⟩
  | .hbm, ⟨19, _⟩ => ⟨S8x512x128, .bf16⟩
  | .hbm, ⟨20, _⟩ => ⟨S512x8x128, .f32⟩
  | .hbm, ⟨21, _⟩ => ⟨S8x512x128, .f32⟩
  | .hbm, ⟨22, _⟩ => ⟨S8x512x128, .bf16⟩
  | .hbm, ⟨23, _⟩ => ⟨S512x8x128, .f32⟩
  | .hbm, ⟨24, _⟩ => ⟨S8x512x128, .f32⟩
  | .hbm, ⟨25, _⟩ => ⟨S8x512x128, .bf16⟩
  | .hbm, ⟨26, _⟩ => ⟨S8x128x1024, .f32⟩
  | .hbm, ⟨27, _⟩ => ⟨S8x128x1024, .bf16⟩
  | .hbm, ⟨28, _⟩ => ⟨S1x1024, .f32⟩
  | .hbm, ⟨29, _⟩ => ⟨S1024x8x768, .f32⟩
  | .hbm, ⟨30, _⟩ => ⟨S8x1024x768, .f32⟩
  | .hbm, ⟨31, _⟩ => ⟨S8x1024x768, .bf16⟩
  | .hbm, ⟨32, _⟩ => ⟨S8192x1024, .f32⟩
  | .hbm, ⟨33, _⟩ => ⟨S8192x1536, .bf16⟩
  | .hbm, ⟨34, _⟩ => ⟨S8192x1024, .bf16⟩
  | .hbm, ⟨35, _⟩ => ⟨S8192x3072, .bf16⟩
  | .hbm, ⟨36, _⟩ => ⟨S8192x1024, .bf16⟩
  | .hbm, ⟨37, _⟩ => ⟨S8192x6144, .bf16⟩
  | .hbm, ⟨38, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S8x1024x768, .bf16⟩
  | .local _ .vmem, ⟨4, _⟩ => ⟨S4x128x128, .bf16⟩
  | .local _ .vmem, ⟨5, _⟩ => ⟨S1x512, .f32⟩
  | .local _ .vmem, ⟨6, _⟩ => ⟨S1x512, .f32⟩
  | .local _ .vmem, ⟨7, _⟩ => ⟨S4x128x128, .f32⟩
  | .local _ .vmem, ⟨8, _⟩ => ⟨S128x4, .f32⟩
  | .local _ .vmem, ⟨9, _⟩ => ⟨S3x512, .f32⟩
  | .local _ .vmem, ⟨10, _⟩ => ⟨S8x512x128, .bf16⟩
  | .local _ .vmem, ⟨11, _⟩ => ⟨S8x512x128, .bf16⟩
  | .local _ .vmem, ⟨12, _⟩ => ⟨S8x512x128, .bf16⟩
  | .local _ .vmem, ⟨13, _⟩ => ⟨S8x128x1024, .bf16⟩
  | .local _ .vmem, ⟨14, _⟩ => ⟨S256x1024, .f32⟩
  | .local _ .vmem, ⟨15, _⟩ => ⟨S256x1024, .f32⟩
  | .local _ .vmem, ⟨16, _⟩ => ⟨S256x1536, .bf16⟩
  | .local _ .vmem, ⟨17, _⟩ => ⟨S256x1536, .bf16⟩
  | .local _ .vmem, ⟨18, _⟩ => ⟨S256x1024, .bf16⟩
  | .local _ .vmem, ⟨19, _⟩ => ⟨S256x1024, .bf16⟩
  | .local _ .vmem, ⟨20, _⟩ => ⟨S256x3072, .bf16⟩
  | .local _ .vmem, ⟨21, _⟩ => ⟨S256x3072, .bf16⟩
  | .local _ .vmem, ⟨22, _⟩ => ⟨S256x1024, .bf16⟩
  | .local _ .vmem, ⟨23, _⟩ => ⟨S256x1024, .bf16⟩
  | .local _ .vmem, ⟨24, _⟩ => ⟨S256x6144, .bf16⟩
  | .local _ .vmem, ⟨25, _⟩ => ⟨S256x6144, .bf16⟩
  | .local _ .vmem, ⟨26, _⟩ => ⟨S256x1024, .bf16⟩
  | .local _ .vmem, ⟨27, _⟩ => ⟨S256x1024, .bf16⟩
  | .local _ .vmem, ⟨28, _⟩ => ⟨S16x512, .f32⟩
  | .local _ .vmem, ⟨29, _⟩ => ⟨S8x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19_0 : Ref sig .tc := ⟨.hbm, 32, rfl⟩
abbrev main_v19_1 : Ref sig .tc := ⟨.hbm, 33, rfl⟩
abbrev main_v19_2 : Ref sig .tc := ⟨.hbm, 34, rfl⟩
abbrev main_v19_3 : Ref sig .tc := ⟨.hbm, 35, rfl⟩
abbrev main_v19_4 : Ref sig .tc := ⟨.hbm, 36, rfl⟩
abbrev main_v19_5 : Ref sig .tc := ⟨.hbm, 37, rfl⟩
abbrev main_v19_6 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x512x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x512x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x512x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1536 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x3072 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x6144 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== FuseReferenceIdeal.lean ====
abbrev S8192x1024 : Shape := ⟨2, ![8192, 1024]⟩
abbrev S1024 : Shape := ⟨1, ![1024]⟩
abbrev S1024x6144 : Shape := ⟨2, ![1024, 6144]⟩
abbrev S4x128x128 : Shape := ⟨3, ![4, 128, 128]⟩
abbrev S512 : Shape := ⟨1, ![512]⟩
abbrev S4x128 : Shape := ⟨2, ![4, 128]⟩
abbrev S3x512 : Shape := ⟨2, ![3, 512]⟩
abbrev S512x1024 : Shape := ⟨2, ![512, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x6144 : Shape := ⟨2, ![8192, 6144]⟩
abbrev S8192x512 : Shape := ⟨2, ![8192, 512]⟩
abbrev S8192x4x128 : Shape := ⟨3, ![8192, 4, 128]⟩
abbrev S1x4x128 : Shape := ⟨3, ![1, 4, 128]⟩
abbrev S8193x4x128 : Shape := ⟨3, ![8193, 4, 128]⟩
abbrev S8192x1x128 : Shape := ⟨3, ![8192, 1, 128]⟩
abbrev S8192x128 : Shape := ⟨2, ![8192, 128]⟩
abbrev S1x128 : Shape := ⟨2, ![1, 128]⟩
abbrev S8191x1x128 : Shape := ⟨3, ![8191, 1, 128]⟩
abbrev S8191x128 : Shape := ⟨2, ![8191, 128]⟩
abbrev S3x128 : Shape := ⟨2, ![3, 128]⟩
abbrev S8189x1x128 : Shape := ⟨3, ![8189, 1, 128]⟩
abbrev S8189x128 : Shape := ⟨2, ![8189, 128]⟩
abbrev S7x128 : Shape := ⟨2, ![7, 128]⟩
abbrev S8185x1x128 : Shape := ⟨3, ![8185, 1, 128]⟩
abbrev S8185x128 : Shape := ⟨2, ![8185, 128]⟩
abbrev S15x128 : Shape := ⟨2, ![15, 128]⟩
abbrev S8177x1x128 : Shape := ⟨3, ![8177, 1, 128]⟩
abbrev S8177x128 : Shape := ⟨2, ![8177, 128]⟩
abbrev S4x128x8192 : Shape := ⟨3, ![4, 128, 8192]⟩
abbrev S1x512 : Shape := ⟨2, ![1, 512]⟩
abbrev S64x128x4x128 : Shape := ⟨4, ![64, 128, 4, 128]⟩
abbrev S128x128 : Shape := ⟨2, ![128, 128]⟩
abbrev S4x64x128x128 : Shape := ⟨4, ![4, 64, 128, 128]⟩
abbrev S128x4 : Shape := ⟨2, ![128, 4]⟩
abbrev S1x128x4x1 : Shape := ⟨4, ![1, 128, 4, 1]⟩
abbrev S2x512 : Shape := ⟨2, ![2, 512]⟩
abbrev S8194x512 : Shape := ⟨2, ![8194, 512]⟩
abbrev S8192x1536 : Shape := ⟨2, ![8192, 1536]⟩
abbrev S8192x3072 : Shape := ⟨2, ![8192, 3072]⟩

abbrev nBuf : Space → Nat
  | .hbm => 261
  | .vmem => 0
  | .smem => 0
  | _ => 0

abbrev hbmTy0_0 (i : Nat) : BufTy := match i % 128 with
  | 0 => ⟨S8192x1024, .f32⟩
  | 1 => ⟨S1024, .f32⟩
  | 2 => ⟨S1024x6144, .f32⟩
  | 3 => ⟨S4x128x128, .f32⟩
  | 4 => ⟨S512, .f32⟩
  | 5 => ⟨S512, .f32⟩
  | 6 => ⟨S4x128x128, .f32⟩
  | 7 => ⟨S4x128, .f32⟩
  | 8 => ⟨S3x512, .f32⟩
  | 9 => ⟨S512x1024, .f32⟩
  | 10 => ⟨S512x1024, .f32⟩
  | 11 => ⟨S512x1024, .f32⟩
  | 12 => ⟨S1024x1024, .f32⟩
  | 13 => ⟨S8192x1024, .f32⟩
  | 14 => ⟨S_, .f32⟩
  | 15 => ⟨S8192, .f32⟩
  | 16 => ⟨S8192x1, .f32⟩
  | 17 => ⟨S_, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1, .f32⟩
  | 24 => ⟨S8192x1024, .f32⟩
  | 25 => ⟨S8192x1024, .f32⟩
  | 26 => ⟨S1x1024, .f32⟩
  | 27 => ⟨S8192x1024, .f32⟩
  | 28 => ⟨S8192x1024, .f32⟩
  | 29 => ⟨S8192x6144, .f32⟩
  | 30 => ⟨S8192x512, .f32⟩
  | 31 => ⟨S8192x1024, .f32⟩
  | 32 => ⟨S8192x512, .f32⟩
  | 33 => ⟨S8192x512, .f32⟩
  | 34 => ⟨S8192x512, .f32⟩
  | 35 => ⟨S8192x1024, .f32⟩
  | 36 => ⟨S8192x1024, .f32⟩
  | 37 => ⟨S8192x1024, .f32⟩
  | 38 => ⟨S8192x4x128, .f32⟩
  | 39 => ⟨S_, .f32⟩
  | 40 => ⟨S_, .f32⟩
  | 41 => ⟨S8192x4x128, .f32⟩
  | 42 => ⟨S_, .f32⟩
  | 43 => ⟨S1x4x128, .f32⟩
  | 44 => ⟨S8193x4x128, .f32⟩
  | 45 => ⟨S8192, .i32⟩
  | 46 => ⟨S8192, .f32⟩
  | 47 => ⟨S8192x1x128, .f32⟩
  | 48 => ⟨S8192x128, .f32⟩
  | 49 => ⟨S_, .f32⟩
  | 50 => ⟨S1x128, .f32⟩
  | 51 => ⟨S8191x1x128, .f32⟩
  | 52 => ⟨S8191x128, .f32⟩
  | 53 => ⟨S8192x128, .f32⟩
  | 54 => ⟨S_, .f32⟩
  | 55 => ⟨S8192, .f32⟩
  | 56 => ⟨S8192, .f32⟩
  | 57 => ⟨S_, .f32⟩
  | 58 => ⟨S8192, .f32⟩
  | 59 => ⟨S8192, .f32⟩
  | 60 => ⟨S8192x1, .f32⟩
  | 61 => ⟨S8192x128, .f32⟩
  | 62 => ⟨S8192x128, .f32⟩
  | 63 => ⟨S8192x128, .f32⟩
  | 64 => ⟨S8192x1x128, .f32⟩
  | 65 => ⟨S8192x128, .f32⟩
  | 66 => ⟨S8192x128, .f32⟩
  | 67 => ⟨S8192x1x128, .f32⟩
  | 68 => ⟨S8192x128, .f32⟩
  | 69 => ⟨S_, .f32⟩
  | 70 => ⟨S3x128, .f32⟩
  | 71 => ⟨S8189x1x128, .f32⟩
  | 72 => ⟨S8189x128, .f32⟩
  | 73 => ⟨S8192x128, .f32⟩
  | 74 => ⟨S_, .f32⟩
  | 75 => ⟨S8192, .f32⟩
  | 76 => ⟨S8192, .f32⟩
  | 77 => ⟨S_, .f32⟩
  | 78 => ⟨S8192, .f32⟩
  | 79 => ⟨S8192, .f32⟩
  | 80 => ⟨S8192x1, .f32⟩
  | 81 => ⟨S8192x128, .f32⟩
  | 82 => ⟨S8192x128, .f32⟩
  | 83 => ⟨S8192x128, .f32⟩
  | 84 => ⟨S8192x1x128, .f32⟩
  | 85 => ⟨S8192x128, .f32⟩
  | 86 => ⟨S8192x128, .f32⟩
  | 87 => ⟨S8192x1x128, .f32⟩
  | 88 => ⟨S8192x128, .f32⟩
  | 89 => ⟨S_, .f32⟩
  | 90 => ⟨S7x128, .f32⟩
  | 91 => ⟨S8185x1x128, .f32⟩
  | 92 => ⟨S8185x128, .f32⟩
  | 93 => ⟨S8192x128, .f32⟩
  | 94 => ⟨S_, .f32⟩
  | 95 => ⟨S8192, .f32⟩
  | 96 => ⟨S8192, .f32⟩
  | 97 => ⟨S_, .f32⟩
  | 98 => ⟨S8192, .f32⟩
  | 99 => ⟨S8192, .f32⟩
  | 100 => ⟨S8192x1, .f32⟩
  | 101 => ⟨S8192x128, .f32⟩
  | 102 => ⟨S8192x128, .f32⟩
  | 103 => ⟨S8192x128, .f32⟩
  | 104 => ⟨S8192x1x128, .f32⟩
  | 105 => ⟨S8192x128, .f32⟩
  | 106 => ⟨S8192x128, .f32⟩
  | 107 => ⟨S8192x1x128, .f32⟩
  | 108 => ⟨S8192x128, .f32⟩
  | 109 => ⟨S_, .f32⟩
  | 110 => ⟨S15x128, .f32⟩
  | 111 => ⟨S8177x1x128, .f32⟩
  | 112 => ⟨S8177x128, .f32⟩
  | 113 => ⟨S8192x128, .f32⟩
  | 114 => ⟨S_, .f32⟩
  | 115 => ⟨S8192, .f32⟩
  | 116 => ⟨S8192, .f32⟩
  | 117 => ⟨S_, .f32⟩
  | 118 => ⟨S8192, .f32⟩
  | 119 => ⟨S8192, .f32⟩
  | 120 => ⟨S8192x1, .f32⟩
  | 121 => ⟨S8192x128, .f32⟩
  | 122 => ⟨S8192x128, .f32⟩
  | 123 => ⟨S8192x128, .f32⟩
  | 124 => ⟨S8192x1x128, .f32⟩
  | 125 => ⟨S8192x128, .f32⟩
  | 126 => ⟨S8192x128, .f32⟩
  | 127 => ⟨S8192x1x128, .f32⟩
  | _ => ⟨S8192x1024, .f32⟩

abbrev hbmTy0_1 (i : Nat) : BufTy := match i % 128 with
  | 0 => ⟨S8192x1x128, .f32⟩
  | 1 => ⟨S8192x1x128, .f32⟩
  | 2 => ⟨S8192x1x128, .f32⟩
  | 3 => ⟨S8192x4x128, .f32⟩
  | 4 => ⟨S4x128x8192, .f32⟩
  | 5 => ⟨S8192x4x128, .f32⟩
  | 6 => ⟨S8192x512, .f32⟩
  | 7 => ⟨S1x512, .f32⟩
  | 8 => ⟨S8192x512, .f32⟩
  | 9 => ⟨S8192x512, .f32⟩
  | 10 => ⟨S8192x1024, .f32⟩
  | 11 => ⟨S8192x1024, .f32⟩
  | 12 => ⟨S_, .f32⟩
  | 13 => ⟨S8192x1024, .f32⟩
  | 14 => ⟨S8192x1024, .f32⟩
  | 15 => ⟨S8192x1024, .f32⟩
  | 16 => ⟨S_, .f32⟩
  | 17 => ⟨S8192x1024, .f32⟩
  | 18 => ⟨S8192x1024, .f32⟩
  | 19 => ⟨S8192x1024, .f32⟩
  | 20 => ⟨S_, .f32⟩
  | 21 => ⟨S8192x1024, .f32⟩
  | 22 => ⟨S8192x1024, .f32⟩
  | 23 => ⟨S_, .f32⟩
  | 24 => ⟨S8192x1024, .f32⟩
  | 25 => ⟨S8192x1024, .f32⟩
  | 26 => ⟨S8192x1024, .f32⟩
  | 27 => ⟨S8192x512, .f32⟩
  | 28 => ⟨S8192x512, .f32⟩
  | 29 => ⟨S8192x512, .f32⟩
  | 30 => ⟨S_, .f32⟩
  | 31 => ⟨S8192, .f32⟩
  | 32 => ⟨S8192x1, .f32⟩
  | 33 => ⟨S_, .f32⟩
  | 34 => ⟨S8192x1, .f32⟩
  | 35 => ⟨S8192x1, .f32⟩
  | 36 => ⟨S_, .f32⟩
  | 37 => ⟨S8192x1, .f32⟩
  | 38 => ⟨S8192x1, .f32⟩
  | 39 => ⟨S8192x1, .f32⟩
  | 40 => ⟨S8192x512, .f32⟩
  | 41 => ⟨S8192x512, .f32⟩
  | 42 => ⟨S1x512, .f32⟩
  | 43 => ⟨S8192x512, .f32⟩
  | 44 => ⟨S8192x512, .f32⟩
  | 45 => ⟨S64x128x4x128, .f32⟩
  | 46 => ⟨S128x128, .i32⟩
  | 47 => ⟨S_, .i32⟩
  | 48 => ⟨S128x128, .i32⟩
  | 49 => ⟨S128x128, .i32⟩
  | 50 => ⟨S128x128, .i32⟩
  | 51 => ⟨S128x128, .i1⟩
  | 52 => ⟨S4x128x128, .i1⟩
  | 53 => ⟨S_, .f32⟩
  | 54 => ⟨S4x128x128, .f32⟩
  | 55 => ⟨S4x128x128, .f32⟩
  | 56 => ⟨S4x64x128x128, .f32⟩
  | 57 => ⟨S64x128x4x128, .f32⟩
  | 58 => ⟨S128x4, .f32⟩
  | 59 => ⟨S1x128x4x1, .f32⟩
  | 60 => ⟨S64x128x4x128, .f32⟩
  | 61 => ⟨S64x128x4x128, .f32⟩
  | 62 => ⟨S8192x512, .f32⟩
  | 63 => ⟨S8192x512, .f32⟩
  | 64 => ⟨S8192x512, .f32⟩
  | 65 => ⟨S_, .f32⟩
  | 66 => ⟨S2x512, .f32⟩
  | 67 => ⟨S8194x512, .f32⟩
  | 68 => ⟨S8192x512, .f32⟩
  | 69 => ⟨S1x512, .f32⟩
  | 70 => ⟨S512, .f32⟩
  | 71 => ⟨S1x512, .f32⟩
  | 72 => ⟨S8192x512, .f32⟩
  | 73 => ⟨S8192x512, .f32⟩
  | 74 => ⟨S8192x512, .f32⟩
  | 75 => ⟨S1x512, .f32⟩
  | 76 => ⟨S512, .f32⟩
  | 77 => ⟨S1x512, .f32⟩
  | 78 => ⟨S8192x512, .f32⟩
  | 79 => ⟨S8192x512, .f32⟩
  | 80 => ⟨S8192x512, .f32⟩
  | 81 => ⟨S8192x512, .f32⟩
  | 82 => ⟨S1x512, .f32⟩
  | 83 => ⟨S512, .f32⟩
  | 84 => ⟨S1x512, .f32⟩
  | 85 => ⟨S8192x512, .f32⟩
  | 86 => ⟨S8192x512, .f32⟩
  | 87 => ⟨S8192x512, .f32⟩
  | 88 => ⟨S8192x512, .f32⟩
  | 89 => ⟨S8192x1024, .f32⟩
  | 90 => ⟨S8192x1024, .f32⟩
  | 91 => ⟨S8192x1024, .f32⟩
  | 92 => ⟨S8192x1024, .f32⟩
  | 93 => ⟨S8192x1024, .f32⟩
  | 94 => ⟨S_, .f32⟩
  | 95 => ⟨S8192x1024, .f32⟩
  | 96 => ⟨S8192x1024, .f32⟩
  | 97 => ⟨S_, .f32⟩
  | 98 => ⟨S8192x1024, .f32⟩
  | 99 => ⟨S8192x1024, .f32⟩
  | 100 => ⟨S8192x1024, .f32⟩
  | 101 => ⟨S8192x1024, .f32⟩
  | 102 => ⟨S8192x1024, .f32⟩
  | 103 => ⟨S_, .f32⟩
  | 104 => ⟨S8192x1024, .f32⟩
  | 105 => ⟨S8192x1024, .f32⟩
  | 106 => ⟨S_, .f32⟩
  | 107 => ⟨S8192x1024, .f32⟩
  | 108 => ⟨S8192x1024, .f32⟩
  | 109 => ⟨S8192x1024, .f32⟩
  | 110 => ⟨S8192x1024, .f32⟩
  | 111 => ⟨S8192x1024, .f32⟩
  | 112 => ⟨S8192x1024, .f32⟩
  | 113 => ⟨S_, .f32⟩
  | 114 => ⟨S8192x1024, .f32⟩
  | 115 => ⟨S8192x1024, .f32⟩
  | 116 => ⟨S_, .f32⟩
  | 117 => ⟨S8192x1024, .f32⟩
  | 118 => ⟨S8192x1024, .f32⟩
  | 119 => ⟨S8192x1024, .f32⟩
  | 120 => ⟨S8192x1024, .f32⟩
  | 121 => ⟨S8192x1024, .f32⟩
  | 122 => ⟨S8192x1024, .f32⟩
  | 123 => ⟨S8192x1536, .f32⟩
  | 124 => ⟨S8192x1536, .bf16⟩
  | 125 => ⟨S8192x512, .f32⟩
  | 126 => ⟨S8192x1024, .f32⟩
  | 127 => ⟨S8192x1024, .bf16⟩
  | _ => ⟨S8192x1024, .f32⟩

abbrev hbmTy0_2 (i : Nat) : BufTy := match i % 128 with
  | 0 => ⟨S8192x3072, .f32⟩
  | 1 => ⟨S8192x3072, .bf16⟩
  | 2 => ⟨S8192x1024, .bf16⟩
  | 3 => ⟨S8192x6144, .bf16⟩
  | 4 => ⟨S8192x1024, .bf16⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call0_call0_cst : Ref sig .tc := ⟨.hbm, 39, rfl⟩
abbrev main_call0_call0_v0 : Ref sig .tc := ⟨.hbm, 40, rfl⟩
abbrev main_v23 : Ref sig .tc := ⟨.hbm, 41, rfl⟩
abbrev main_cst_2 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_3 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_4 : Ref sig .tc := ⟨.hbm, 54, rfl⟩
abbrev main_v34 : Ref sig .tc := ⟨.hbm, 55, rfl⟩
abbrev main_v35 : Ref sig .tc := ⟨.hbm, 56, rfl⟩
abbrev main_cst_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_6 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_7 : Ref sig .tc := ⟨.hbm, 74, rfl⟩
abbrev main_v51 : Ref sig .tc := ⟨.hbm, 75, rfl⟩
abbrev main_v52 : Ref sig .tc := ⟨.hbm, 76, rfl⟩
abbrev main_cst_8 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_9 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_10 : Ref sig .tc := ⟨.hbm, 94, rfl⟩
abbrev main_v68 : Ref sig .tc := ⟨.hbm, 95, rfl⟩
abbrev main_v69 : Ref sig .tc := ⟨.hbm, 96, rfl⟩
abbrev main_cst_11 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_12 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_13 : Ref sig .tc := ⟨.hbm, 114, rfl⟩
abbrev main_v85 : Ref sig .tc := ⟨.hbm, 115, rfl⟩
abbrev main_v86 : Ref sig .tc := ⟨.hbm, 116, rfl⟩
abbrev main_cst_14 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_cst_15 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_cst_16 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_cst_17 : Ref sig .tc := ⟨.hbm, 148, rfl⟩
abbrev main_v115 : Ref sig .tc := ⟨.hbm, 149, rfl⟩
abbrev main_v116 : Ref sig .tc := ⟨.hbm, 150, rfl⟩
abbrev main_cst_18 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_cst_19 : Ref sig .tc := ⟨.hbm, 158, rfl⟩
abbrev main_v123 : Ref sig .tc := ⟨.hbm, 159, rfl⟩
abbrev main_v124 : Ref sig .tc := ⟨.hbm, 160, rfl⟩
abbrev main_cst_20 : Ref sig .tc := ⟨.hbm, 161, rfl⟩
abbrev main_v125 : Ref sig .tc := ⟨.hbm, 162, rfl⟩
abbrev main_v126 : Ref sig .tc := ⟨.hbm, 163, rfl⟩
abbrev main_cst_21 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_call1_v0 : Ref sig .tc := ⟨.hbm, 174, rfl⟩
abbrev main_call1_c : Ref sig .tc := ⟨.hbm, 175, rfl⟩
abbrev main_call1_v1 : Ref sig .tc := ⟨.hbm, 176, rfl⟩
abbrev main_call1_v2 : Ref sig .tc := ⟨.hbm, 177, rfl⟩
abbrev main_call1_v3 : Ref sig .tc := ⟨.hbm, 178, rfl⟩
abbrev main_call1_v4 : Ref sig .tc := ⟨.hbm, 179, rfl⟩
abbrev main_call1_v5 : Ref sig .tc := ⟨.hbm, 180, rfl⟩
abbrev main_call1_cst : Ref sig .tc := ⟨.hbm, 181, rfl⟩
abbrev main_call1_v6 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_cst_22 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_cst_23 : Ref sig .tc := ⟨.hbm, 222, rfl⟩
abbrev main_v174 : Ref sig .tc := ⟨.hbm, 223, rfl⟩
abbrev main_v175 : Ref sig .tc := ⟨.hbm, 224, rfl⟩
abbrev main_cst_24 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_cst_25 : Ref sig .tc := ⟨.hbm, 231, rfl⟩
abbrev main_v181 : Ref sig .tc := ⟨.hbm, 232, rfl⟩
abbrev main_v182 : Ref sig .tc := ⟨.hbm, 233, rfl⟩
abbrev main_cst_26 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_cst_27 : Ref sig .tc := ⟨.hbm, 241, rfl⟩
abbrev main_v189 : Ref sig .tc := ⟨.hbm, 242, rfl⟩
abbrev main_v190 : Ref sig .tc := ⟨.hbm, 243, rfl⟩
abbrev main_cst_28 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_v204 : Ref sig .tc := ⟨.hbm, 258, rfl⟩
abbrev main_v205 : Ref sig .tc := ⟨.hbm, 259, rfl⟩
abbrev main_v206 : Ref sig .tc := ⟨.hbm, 260, rfl⟩

abbrev nD : Nat := 1
abbrev τ : Topo := Topo.v7x

variable {F : FTy → Type} [FloatOps F]
-- ==== Proof.RealArith.lean ====
/- Finite values: an extended real of finite magnitude is a real number, and sums, quotients and inverse square roots of real
   numbers are real numbers. The words of the constants that a program holds are read here as numbers. -/
module

public import Idealize.ShloMosaic.Lib.Pointwise

@[expose] public section

noncomputable section

namespace Cert.Step

open Idealize.ShloMosaic

/-- A value is finite when it is a real number. -/
def Fin' (x : EReal) : Prop := ∃ r : ℝ, x = (r : EReal)

/-- A magnitude below infinity is that of a real number. -/
theorem fin_of_abs_lt {x : EReal} (h : max x (-x) < ⊤) : Fin' x := by
  induction x using EReal.rec with
  | bot => simp at h
  | top => simp at h
  | coe r => exact ⟨r, rfl⟩

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem fin_mul {x y : EReal} (hx : Fin' x) (hy : Fin' y) : Fin' (x * y) := by
  obtain ⟨a, rfl⟩ := hx
  obtain ⟨b, rfl⟩ := hy
  exact ⟨a * b, (EReal.coe_mul a b).symm⟩

theorem fin_add {x y : EReal} (hx : Fin' x) (hy : Fin' y) : Fin' (x + y) := by
  obtain ⟨a, rfl⟩ := hx
  obtain ⟨b, rfl⟩ := hy
  exact ⟨a + b, (EReal.coe_add a b).symm⟩

theorem fin_sum {ι : Type*} [Fintype ι] {f : ι → EReal} (h : ∀ i, Fin' (f i)) : Fin' (∑ i, f i) := by
  choose a ha using h
  exact ⟨∑ i, a i, by rw [coe_sum]; exact Finset.sum_congr rfl fun i _ => ha i⟩

/-- A sum over `a · b` positions, taken block by block. -/
theorem sum_blocks {M : Type*} [AddCommMonoid M] (a b N : ℕ) (h : N = a * b) (f : Fin N → M)
    (hb : ∀ (j : Fin a) (q : Fin b), b * j.val + q.val < N) : ∑ j : Fin a, ∑ q : Fin b, f ⟨b * j.val + q.val, hb j q⟩ = ∑ n, f n := by
  subst h
  rw [← finProdFinEquiv.sum_comp f, Fintype.sum_prod_type]
  refine Finset.sum_congr rfl fun j _ => Finset.sum_congr rfl fun q _ => congrArg f (Fin.ext ?_)
  show b * j.val + q.val = q.val + b * j.val
  omega

theorem div_coe (a b : ℝ) (h : b ≠ 0) : Ideal.div (a : EReal) (b : EReal) = ((a / b : ℝ) : EReal) := by
  have hb : (b : EReal) ≠ 0 := by exact_mod_cast h
  rw [Ideal.div, if_neg hb, ← EReal.coe_inv, ← EReal.coe_mul, div_eq_mul_inv]

theorem rsqrt_pos (r : ℝ) (h : 0 < r) : Ideal.rsqrt (r : EReal) = (((Real.sqrt r)⁻¹ : ℝ) : EReal) := by
  rw [Ideal.rsqrt_coe, if_neg (not_lt.mpr h.le), if_neg h.ne']

/-- The word of 1024. -/
theorem word_1024 : Ideal.ofBits .f32 0x44800000#32 = ((1024 : ℝ) : EReal) := by
  simp [Ideal.ofBits, Ideal.ieee]; norm_num; rw [← EReal.coe_mul]; norm_num

/-- The word of -1/2. -/
theorem word_neg_half : Ideal.ofBits .f32 0xBF000000#32 = ((-(1 / 2) : ℝ) : EReal) := by
  simp [Ideal.ofBits, Ideal.ieee]; norm_num; rw [← EReal.coe_mul]; norm_num

/-- The number that a norm adds to the mean of the squares, as its word stands for it. -/
def epsR : ℝ := 8796093 * (2 : ℝ) ^ (-43 : ℤ)

theorem word_eps : Ideal.ofBits .f32 0x358637BD#32 = (epsR : EReal) := by
  simp [Ideal.ofBits, Ideal.ieee, epsR]

theorem epsR_pos : 0 < epsR := by unfold epsR; positivity

end Cert.Step

end
-- ==== Proof.RmsGrad.lean ====
/- The gradient of a root-mean-square norm along one row of 1024 entries, twice: as the kernels write it, and as the derivative
   of the forward lines writes it. On finite rows the two agree, whatever is added to them. -/
module

public import proofs.«01_k».proof.Proof.RealArith

@[expose] public section

noncomputable section

namespace Cert.Step

open Idealize.ShloMosaic

variable {n : ℕ}

/-- The mean of the squares of a row, with the small number added. -/
def meanSq (x : Fin n → EReal) : EReal :=
  Ideal.div (∑ k, x k * x k) (Ideal.ofBits .f32 0x44800000#32) + Ideal.ofBits .f32 0x358637BD#32

/-- The norm's scale of a row. -/
def rinv (x : Fin n → EReal) : EReal := Ideal.rsqrt (meanSq x)

/-- The gradient as a kernel writes it: the cotangent less its projection on the normalised row. -/
def normGradK (x d : Fin n → EReal) (k : Fin n) : EReal :=
  rinv x * (d k - x k * rinv x * Ideal.div (∑ q, d q * (x q * rinv x)) (Ideal.ofBits .f32 0x44800000#32))

/-- The derivative through the scale, before it is multiplied with twice the row. -/
def scaleGrad (x d : Fin n → EReal) : EReal :=
  Ideal.div ((∑ q, x q * d q) * (Ideal.ofBits .f32 0xBF000000#32 * Ideal.div (rinv x) (meanSq x))) (Ideal.ofBits .f32 0x44800000#32)

theorem meanSq_coe (X : Fin n → ℝ) : meanSq (fun k => (X k : EReal)) = (((∑ k, X k * X k) / 1024 + epsR : ℝ) : EReal) := by
  simp only [meanSq, word_1024, word_eps, ← EReal.coe_mul, ← coe_sum, div_coe _ _ (by norm_num : (1024 : ℝ) ≠ 0), ← EReal.coe_add]

theorem meanSq_pos (X : Fin n → ℝ) : 0 < (∑ k, X k * X k) / 1024 + epsR :=
  add_pos_of_nonneg_of_pos (div_nonneg (Finset.sum_nonneg fun k _ => mul_self_nonneg _) (by norm_num)) epsR_pos

theorem rinv_coe (X : Fin n → ℝ) :
    rinv (fun k => (X k : EReal)) = (((Real.sqrt ((∑ k, X k * X k) / 1024 + epsR))⁻¹ : ℝ) : EReal) := by
  rw [rinv, meanSq_coe, rsqrt_pos _ (meanSq_pos X)]

/-- The two texts of the gradient agree on finite rows, added to anything. -/
theorem normGrad_eq (x d : Fin n → EReal) (hx : ∀ k, Fin' (x k)) (hd : ∀ k, Fin' (d k)) (a : EReal) (k : Fin n) :
    a + normGradK x d k = ((a + d k * rinv x) + x k * scaleGrad x d) + scaleGrad x d * x k := by
  choose X hX using hx
  choose Dd hD using hd
  obtain rfl : x = fun k => (X k : EReal) := funext hX
  obtain rfl : d = fun k => (Dd k : EReal) := funext hD
  have hm := meanSq_pos X
  have h1024 : (1024 : ℝ) ≠ 0 := by norm_num
  unfold scaleGrad normGradK
  rw [meanSq_coe, rinv_coe, word_1024, word_neg_half]
  generalize (∑ k, X k * X k) / 1024 + epsR = M at hm ⊢
  simp only [← EReal.coe_mul, ← coe_sum, div_coe _ _ h1024, div_coe _ _ hm.ne', ← EReal.coe_sub]
  rw [add_assoc, add_assoc, ← EReal.coe_add, ← EReal.coe_add]
  congr 2
  have hs : Real.sqrt M * Real.sqrt M = M := Real.mul_self_sqrt hm.le
  have hs0 : Real.sqrt M ≠ 0 := (Real.sqrt_pos.mpr hm).ne'
  have e : ∑ q, Dd q * (X q * (Real.sqrt M)⁻¹) = (∑ q, X q * Dd q) * (Real.sqrt M)⁻¹ := by
    rw [Finset.sum_mul]; exact Finset.sum_congr rfl fun q _ => by ring
  rw [e]
  generalize (∑ q, X q * Dd q) = T
  generalize hS : Real.sqrt M = s at hs hs0 ⊢
  subst hs
  field_simp
  ring

end Cert.Step

end
-- ==== Proof.ProjBody.lean ====
/- What one grid point of the projection's gradient leaves in its two results, entry by entry. -/
module

public import proofs.«01_k».proof.Proof.RmsGrad
public import proofs.«01_k».proof.Proof.Gen.ProjKernelIdeal.Value
public import Idealize.ShloMosaic.Lib.Tactic
public import Idealize.ShloMosaic.Lib.WritesUnit
public import Idealize.ShloMosaic.Lib.Pipeline.ReadBack

@[expose] public section

set_option maxRecDepth 16384

noncomputable section

namespace Cert.ProjKernelIdeal.Body

open Cert.ProjKernelIdeal Cert.ProjKernelIdeal.Gen Idealize.ShloMosaic Idealize.ShloMosaic.TcCoe Idealize.SL.Sem
open Idealize.ShloMosaic.Pipeline (Dat)

/-- The offsets of a whole block. -/
theorem hz : (![0, 0] : Fin 2 → Nat) = fun _ => 0 := funext fun a => by fin_cases a <;> rfl

/-- The product of a block of dp with the weight's transpose, at one entry: one sum per column block of the weight. -/
def blockDh (x0 : Vec Ideal S256x6144 .bf16) (x1 : Vec Ideal S8x1024x768 .bf16) (r : Fin 256) (k : Fin 1024) : EReal :=
  ∑ j : Fin 8, ∑ q : Fin 768, x0 (ix2 r ⟨768 * j.val + q.val, by omega⟩) * x1 (ix3 j k q)

/-- The same as the body spells it: eight products of blocks, added up. -/
abbrev bodyDh (x0 : Vec Ideal S256x6144 .bf16) (x1 : Vec Ideal S8x1024x768 .bf16) : FVec Ideal S256x1024 .f32 :=
  k0_pay5 (k0_pay4 (View.ld x0 (Rect.unit ![0, 0] ![256, 768] inb_S256x6144_S256x768_0_0))
      (View.ld x1 (Rect.unit ![0, 0, 0] ![1, 1024, 768] inb_S8x1024x768_S1x1024x768_0_0_0))
      (View.ld x0 (Rect.unit ![0, 768] ![256, 768] inb_S256x6144_S256x768_0_768))
      (View.ld x1 (Rect.unit ![1, 0, 0] ![1, 1024, 768] inb_S8x1024x768_S1x1024x768_1_0_0))
      (View.ld x0 (Rect.unit ![0, 1536] ![256, 768] inb_S256x6144_S256x768_0_1536))
      (View.ld x1 (Rect.unit ![2, 0, 0] ![1, 1024, 768] inb_S8x1024x768_S1x1024x768_2_0_0))
      (View.ld x0 (Rect.unit ![0, 2304] ![256, 768] inb_S256x6144_S256x768_0_2304))
      (View.ld x1 (Rect.unit ![3, 0, 0] ![1, 1024, 768] inb_S8x1024x768_S1x1024x768_3_0_0)))
      (View.ld x0 (Rect.unit ![0, 3072] ![256, 768] inb_S256x6144_S256x768_0_3072))
      (View.ld x1 (Rect.unit ![4, 0, 0] ![1, 1024, 768] inb_S8x1024x768_S1x1024x768_4_0_0))
      (View.ld x0 (Rect.unit ![0, 3840] ![256, 768] inb_S256x6144_S256x768_0_3840))
      (View.ld x1 (Rect.unit ![5, 0, 0] ![1, 1024, 768] inb_S8x1024x768_S1x1024x768_5_0_0))
      (View.ld x0 (Rect.unit ![0, 4608] ![256, 768] inb_S256x6144_S256x768_0_4608))
      (View.ld x1 (Rect.unit ![6, 0, 0] ![1, 1024, 768] inb_S8x1024x768_S1x1024x768_6_0_0))
      (View.ld x0 (Rect.unit ![0, 5376] ![256, 768] inb_S256x6144_S256x768_0_5376))
      (View.ld x1 (Rect.unit ![7, 0, 0] ![1, 1024, 768] inb_S8x1024x768_S1x1024x768_7_0_0))

theorem bodyDh_apply (x0 : Vec Ideal S256x6144 .bf16) (x1 : Vec Ideal S8x1024x768 .bf16) (r : Fin 256) (k : Fin 1024) :
    bodyDh x0 x1 (ix2 r k) = blockDh x0 x1 r k := by
  pointwise [bodyDh, k0_pay5, k0_pay4, blockDh, Fin.sum_univ_eight]

theorem rinv_apply (x2 : Vec Ideal S256x1024 .f32) (r : Fin 256) :
    k0_pay6 x2 (ix2 r 0) = Cert.Step.rinv (fun q => x2 (ix2 r q)) := by
  pointwise [k0_pay6, Cert.Step.rinv, Cert.Step.meanSq]

theorem normed_apply (x2 : Vec Ideal S256x1024 .f32) (r : Fin 256) (k : Fin 1024) :
    k0_pay7 x2 (ix2 r k) = x2 (ix2 r k) * Cert.Step.rinv (fun q => x2 (ix2 r q)) := by
  pointwise [k0_pay7]
  rw [rinv_apply]

section
variable (c : Dev nD) (i : grid0.Coords)
  (a1 : Memref sig .tc .vmem S256x6144 .bf16) (h1 : a1.IsWhole) (a2 : Memref sig .tc .vmem S8x1024x768 .bf16) (h2 : a2.IsWhole)
  (a3 : Memref sig .tc .vmem S256x1024 .f32) (h3 : a3.IsWhole) (a4 : Memref sig .tc .vmem S1x1024 .f32) (h4 : a4.IsWhole)
  (a5 : Memref sig .tc .vmem S256x1024 .f32) (h5 : a5.IsWhole) (a6 : Memref sig .tc .vmem S256x1024 .f32) (h6 : a6.IsWhole)
  (a7 : Memref sig .tc .vmem S8x1024 .f32) (h7 : a7.IsWhole)
  (x0 : Vec Ideal S256x6144 .bf16) (x1 : Vec Ideal S8x1024x768 .bf16) (x2 : Vec Ideal S256x1024 .f32) (x3 : Vec Ideal S1x1024 .f32)
  (x4 : Vec Ideal S256x1024 .f32)

theorem out_B_5 (hc : ¬cond0_0 i) (xo : Vec Ideal S8x1024 .f32) (r : Fin 256) (k : Fin 1024) :
    out0_B_5 c i a1 h1 a2 h2 a3 h3 a4 h4 a5 h5 a6 h6 a7 h7 hc x0 x1 x2 x3 x4 xo (ix2 r k)
      = x4 (ix2 r k) + Cert.Step.normGradK (fun q => x2 (ix2 r q)) (fun q => blockDh x0 x1 r q * x3 (ix2 0 q)) k := by
  unfold out0_B_5
  rw [View.read_writes_eq_canon _ _ _ (cover0_B_5 c i a1 h1 a2 h2 a3 h3 a4 h4 a5 h5 a6 h6 a7 h7 hc x0 x1 x2 x3 x4 xo)]
  unfold kernelRun0_B
  dsimp only
  sl_unfold_words
  rw [View.canon_unit_zero hz]
  simp only [View.readAt_eq_ld, h1.read_unread, h2.read_unread, h3.read_unread, h4.read_unread, h5.read_unread]
  simp only [View.ld_unit_zero (S := S256x1024) hz, View.ld_unit_zero (S := S1x1024) hz]
  change k0_pay2 (bodyDh x0 x1) _ _ _ _ _ = _
  generalize hd : bodyDh x0 x1 = d
  have e : ∀ q, blockDh x0 x1 r q = d (ix2 r q) := fun q => by rw [← hd, bodyDh_apply]
  simp only [e]
  pointwise [k0_pay2, Cert.Step.normGradK]
  simp only [rinv_apply, normed_apply]

theorem out_A_5 (hc : cond0_0 i) (r : Fin 256) (k : Fin 1024) :
    out0_A_5 c i a1 h1 a2 h2 a3 h3 a4 h4 a5 h5 a6 h6 a7 h7 hc x0 x1 x2 x3 x4 (ix2 r k)
      = x4 (ix2 r k) + Cert.Step.normGradK (fun q => x2 (ix2 r q)) (fun q => blockDh x0 x1 r q * x3 (ix2 0 q)) k := by
  unfold out0_A_5
  rw [View.read_writes_eq_canon _ _ _ (cover0_A_5 c i a1 h1 a2 h2 a3 h3 a4 h4 a5 h5 a6 h6 a7 h7 hc x0 x1 x2 x3 x4)]
  unfold kernelRun0_A
  dsimp only
  sl_unfold_words
  rw [View.canon_unit_zero hz]
  simp only [View.readAt_eq_ld, h1.read_unread, h2.read_unread, h3.read_unread, h4.read_unread, h5.read_unread]
  simp only [View.ld_unit_zero (S := S256x1024) hz, View.ld_unit_zero (S := S1x1024) hz]
  change k0_pay2 (bodyDh x0 x1) _ _ _ _ _ = _
  generalize hd : bodyDh x0 x1 = d
  have e : ∀ q, blockDh x0 x1 r q = d (ix2 r q) := fun q => by rw [← hd, bodyDh_apply]
  simp only [e]
  pointwise [k0_pay2, Cert.Step.normGradK]
  simp only [rinv_apply, normed_apply]

/-- The column sums that a point adds to the scale's gradient. -/
def colGrad (x0 : Vec Ideal S256x6144 .bf16) (x1 : Vec Ideal S8x1024x768 .bf16) (x2 : Vec Ideal S256x1024 .f32) (k : Fin 1024) : EReal :=
  ∑ r : Fin 256, blockDh x0 x1 r k * (x2 (ix2 r k) * Cert.Step.rinv (fun q => x2 (ix2 r q)))

theorem colSum_apply (k : Fin 1024) (v : FVec Ideal S1x1024 .f32) : k0_pay1 v (multiReduction .add [0] S1024 (mulf (bodyDh x0 x1) (k0_pay7 x2)) 0x00000000#32 reduces_S256x1024_S1024 (.inl rfl) rfl) (ix2 0 k)
    = v (ix2 0 k) + colGrad x0 x1 x2 k := by
  pointwise [k0_pay1, colGrad]
  simp only [normed_apply, bodyDh_apply]

theorem out_B_6 (hc : ¬cond0_0 i) (xo : Vec Ideal S8x1024 .f32) (r : Fin 8) (k : Fin 1024) :
    out0_B_6 c i a1 h1 a2 h2 a3 h3 a4 h4 a5 h5 a6 h6 a7 h7 hc x0 x1 x2 x3 x4 xo (ix2 r k)
      = if r = 0 then xo (ix2 0 k) + colGrad x0 x1 x2 k else xo (ix2 r k) := by
  unfold out0_B_6 kernelRun0_B
  dsimp only
  sl_unfold_words
  refine (View.read_writes_cons_rows (o := 0) (W := 1) a7.view _ inb_S8x1024_S1x1024_0_0 _ [] (ix2 r k) rfl rfl rfl).trans ?_
  simp only [View.readAt_eq_ld, h1.read_unread, h2.read_unread, h3.read_unread, h7.read_unread, View.writes_nil,
    View.ld_unit_zero (S := S256x1024) hz]
  by_cases hr : r = 0
  · subst hr
    rw [dif_pos ⟨Nat.zero_le _, Nat.one_pos⟩, if_pos rfl]
    refine (congrArg (k0_pay1 _ _) (show _ = (ix2 (0 : Fin 1) k : S1x1024.Idx) from
      funext fun a => Fin.ext (by match a with | ⟨0, _⟩ => rfl | ⟨1, _⟩ => exact Nat.sub_zero _))).trans ?_
    refine (colSum_apply x0 x1 x2 k (k0_pay8 (View.ld xo (Rect.unit ![0, 0] ![1, 1024] inb_S8x1024_S1x1024_0_0)))).trans ?_
    pointwise [k0_pay8]
  · rw [dif_neg (fun h => hr (Fin.ext (by simpa using h.2))), if_neg hr]

theorem out_A_6 (hc : cond0_0 i) (r : Fin 8) (k : Fin 1024) :
    out0_A_6 c i a1 h1 a2 h2 a3 h3 a4 h4 a5 h5 a6 h6 a7 h7 hc x0 x1 x2 x3 x4 (ix2 r k)
      = if r = 0 then colGrad x0 x1 x2 k else 0 := by
  unfold out0_A_6 kernelRun0_A
  dsimp only
  sl_unfold_words
  refine (View.read_writes_cons_rows (o := 0) (W := 1) VO0_6 _ inb_S8x1024_S1x1024_0_0 _ _ (ix2 r k) rfl rfl rfl).trans ?_
  simp only [View.readAt_eq_ld, h1.read_unread, h2.read_unread, h3.read_unread, View.ld_unit_zero (S := S256x1024) hz]
  rw [View.readCov_fill _ _ _ _ _ (congrFun hz)]
  by_cases hr : r = 0
  · subst hr
    rw [dif_pos ⟨Nat.zero_le _, Nat.one_pos⟩, if_pos rfl]
    refine (congrArg (k0_pay1 _ _) (show _ = (ix2 (0 : Fin 1) k : S1x1024.Idx) from
      funext fun a => Fin.ext (by match a with | ⟨0, _⟩ => rfl | ⟨1, _⟩ => exact Nat.sub_zero _))).trans ?_
    refine (colSum_apply x0 x1 x2 k _).trans ?_
    pointwise [k0_pay8, k0_pay3]
  · rw [dif_neg (fun h => hr (Fin.ext (by simpa using h.2))), if_neg hr]
    refine (View.read_writes_cons_rows (o := 0) (W := 8) VO0_6 _ inb_S8x1024_S8x1024_0_0 _ _ (ix2 r k) rfl rfl rfl).trans ?_
    rw [dif_pos ⟨Nat.zero_le _, by show r.val < 0 + 8; omega⟩]
    pointwise [k0_pay3]

end

end Cert.ProjKernelIdeal.Body

end
-- ==== Proof.ProjSpec.lean ====
/- What the projection's gradient computes, in terms of its arguments: the cotangent's product with the weight's transpose, the
   rows' gradient and the scale's. -/
module

public import proofs.«01_k».proof.Proof.RmsGrad

@[expose] public section

noncomputable section

namespace Cert.Step

open Idealize.ShloMosaic

/-- The cotangent of the normed rows: dp times the weight's transpose. -/
def projDh (dp : Fin 8192 → Fin 6144 → EReal) (w : Fin 1024 → Fin 6144 → EReal) (i : Fin 8192) (k : Fin 1024) : EReal :=
  ∑ n, dp i n * w k n

/-- The rows' gradient, added to what comes past the norm. -/
def projDx (dp : Fin 8192 → Fin 6144 → EReal) (w : Fin 1024 → Fin 6144 → EReal) (x : Fin 8192 → Fin 1024 → EReal)
    (g : Fin 1024 → EReal) (res : Fin 8192 → Fin 1024 → EReal) (i : Fin 8192) (k : Fin 1024) : EReal :=
  res i k + normGradK (x i) (fun q => projDh dp w i q * g q) k

/-- The scale's gradient, in the first of eight rows. -/
def projDg (dp : Fin 8192 → Fin 6144 → EReal) (w : Fin 1024 → Fin 6144 → EReal) (x : Fin 8192 → Fin 1024 → EReal) (r : Fin 8)
    (k : Fin 1024) : EReal :=
  if r = 0 then ∑ i, projDh dp w i k * (x i k * rinv (x i)) else 0

theorem projDh_fin {dp : Fin 8192 → Fin 6144 → EReal} {w : Fin 1024 → Fin 6144 → EReal} (hdp : ∀ i n, Fin' (dp i n))
    (hw : ∀ k n, Fin' (w k n)) (i : Fin 8192) (k : Fin 1024) : Fin' (projDh dp w i k) :=
  fin_sum fun n => fin_mul (hdp i n) (hw k n)

end Cert.Step

end
-- ==== Proof.BlockIndex.lean ====
/- Where an entry of a block lies in its array: along each axis at the block's number times the block's size, and the entry's place in it. -/
module

public import Idealize.ShloMosaic.Lib.Pointwise
public import Idealize.ShloMosaic.Lib.Tactic

@[expose] public section

namespace Cert.Step

open Idealize.ShloMosaic

/-- An array handed over whole, of two axes. -/
theorem whole2 {A B s0 s1 : ℕ} {z : (⟨2, ![A, B]⟩ : Shape).Idx} {r : Fin A} {k : Fin B} {i : Fin 2 → ℕ} (hi : ∀ a, i a = 0)
    (h0 : (z 0).val = i 0 * s0 + 1 * r.val) (h1 : (z 1).val = i 1 * s1 + 1 * k.val) : z = ix2 r k := by
  funext a; apply Fin.ext
  match a with
  | ⟨0, _⟩ => exact h0.trans (by rw [hi 0, Nat.zero_mul, Nat.zero_add, Nat.one_mul]; rfl)
  | ⟨1, _⟩ => exact h1.trans (by rw [hi 1, Nat.zero_mul, Nat.zero_add, Nat.one_mul]; rfl)

/-- An array handed over whole, of three axes. -/
theorem whole3 {A B C s0 s1 s2 : ℕ} {z : (⟨3, ![A, B, C]⟩ : Shape).Idx} {j : Fin A} {r : Fin B} {k : Fin C} {i : Fin 3 → ℕ} (hi : ∀ a, i a = 0)
    (h0 : (z 0).val = i 0 * s0 + 1 * j.val) (h1 : (z 1).val = i 1 * s1 + 1 * r.val) (h2 : (z 2).val = i 2 * s2 + 1 * k.val) : z = ix3 j r k := by
  funext a; apply Fin.ext
  match a with
  | ⟨0, _⟩ => exact h0.trans (by rw [hi 0, Nat.zero_mul, Nat.zero_add, Nat.one_mul]; rfl)
  | ⟨1, _⟩ => exact h1.trans (by rw [hi 1, Nat.zero_mul, Nat.zero_add, Nat.one_mul]; rfl)
  | ⟨2, _⟩ => exact h2.trans (by rw [hi 2, Nat.zero_mul, Nat.zero_add, Nat.one_mul]; rfl)

/-- The block of rows with number `c`, all columns. -/
theorem rows2 {A B R c s1 : ℕ} {z : (⟨2, ![A, B]⟩ : Shape).Idx} {r : Fin R} {r' : Fin A} {k : Fin B} {i : Fin 2 → ℕ} (hi : i 0 = c ∧ i 1 = 0)
    (h0 : (z 0).val = i 0 * R + 1 * r.val) (h1 : (z 1).val = i 1 * s1 + 1 * k.val) (hr : r'.val = R * c + r.val) : z = ix2 r' k := by
  funext a; apply Fin.ext
  match a with
  | ⟨0, _⟩ => exact h0.trans (by rw [hi.1, Nat.one_mul, Nat.mul_comm]; exact hr.symm)
  | ⟨1, _⟩ => exact h1.trans (by rw [hi.2, Nat.zero_mul, Nat.zero_add, Nat.one_mul]; rfl)

/-- The block of rows with number `c` of three axes, the rows in the middle. -/
theorem rows3 {A B C R c s0 s2 : ℕ} {z : (⟨3, ![A, B, C]⟩ : Shape).Idx} {j : Fin A} {r : Fin R} {r' : Fin B} {k : Fin C} {i : Fin 3 → ℕ}
    (hi : i 0 = 0 ∧ i 1 = c ∧ i 2 = 0) (h0 : (z 0).val = i 0 * s0 + 1 * j.val) (h1 : (z 1).val = i 1 * R + 1 * r.val)
    (h2 : (z 2).val = i 2 * s2 + 1 * k.val) (hr : r'.val = R * c + r.val) : z = ix3 j r' k := by
  funext a; apply Fin.ext
  match a with
  | ⟨0, _⟩ => exact h0.trans (by rw [hi.1, Nat.zero_mul, Nat.zero_add, Nat.one_mul]; rfl)
  | ⟨1, _⟩ => exact h1.trans (by rw [hi.2.1, Nat.one_mul, Nat.mul_comm]; exact hr.symm)
  | ⟨2, _⟩ => exact h2.trans (by rw [hi.2.2, Nat.zero_mul, Nat.zero_add, Nat.one_mul]; rfl)

end Cert.Step
-- ==== Proof.ProjKernelValue.lean ====
/- The two results of the projection's gradient as functions of its arguments: the blocks that the points write back tile the
   first, and the second gathers the points' column sums. -/
module

public import proofs.«01_k».proof.Proof.ProjBody
public import proofs.«01_k».proof.Proof.ProjSpec
public import proofs.«01_k».proof.Proof.BlockIndex
public import Idealize.ShloMosaic.Lib.Pipeline.ValueKit.Geometry

@[expose] public section

set_option maxRecDepth 16384

noncomputable section

namespace Cert.ProjKernelIdeal.Body

open Cert.ProjKernelIdeal Cert.ProjKernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

abbrev dpA (i : Fin 8192) (n : Fin 6144) : EReal := m ((c : Thread nD τ).loc main_arg0) (ix2 i n)
abbrev wA (k : Fin 1024) (n : Fin 6144) : EReal := m ((c : Thread nD τ).loc main_arg1) (ix2 k n)
abbrev xA (i : Fin 8192) (k : Fin 1024) : EReal := m ((c : Thread nD τ).loc main_arg2) (ix2 i k)
abbrev gA (k : Fin 1024) : EReal := m ((c : Thread nD τ).loc main_arg3) (ix1 k)
abbrev rA (i : Fin 8192) (k : Fin 1024) : EReal := m ((c : Thread nD τ).loc main_arg4) (ix2 i k)

theorem lt_N (t : Fin cfg0.N) : t.val < 32 := lt_of_lt_of_eq t.isLt (show cfg0.N = 32 from N_0)

/-- Row `r` of point `t`'s block of 256 rows. -/
abbrev row (t : Fin cfg0.N) (r : Fin 256) : Fin 8192 := ⟨256 * t.val + r.val, by have := lt_N t; omega⟩

theorem emb0 (t : Fin cfg0.N) (r : Fin 256) (n : Fin 6144) : ((cfg0.win 0).blk t).view.emb (ix2 r n) = (ix2 (row t r) n : S8192x6144.Idx) :=
  Cert.Step.rows2 ((by decide +kernel : ∀ t : Fin grid0.N, win0_0.index t 0 = t.val ∧ win0_0.index t 1 = 0) t) rfl rfl rfl

theorem emb1 (t : Fin cfg0.N) (j : Fin 8) (k : Fin 1024) (q : Fin 768) :
    ((cfg0.win 1).blk t).view.emb (ix3 j k q) = (ix3 j k q : S8x1024x768.Idx) :=
  Cert.Step.whole3 ((by decide +kernel : ∀ (t : Fin grid0.N) a, win0_1.index t a = 0) t) rfl rfl rfl

theorem emb2 (t : Fin cfg0.N) (r : Fin 256) (k : Fin 1024) : ((cfg0.win 2).blk t).view.emb (ix2 r k) = (ix2 (row t r) k : S8192x1024.Idx) :=
  Cert.Step.rows2 ((by decide +kernel : ∀ t : Fin grid0.N, win0_2.index t 0 = t.val ∧ win0_2.index t 1 = 0) t) rfl rfl rfl

theorem emb3 (t : Fin cfg0.N) (z : Fin 1) (k : Fin 1024) : ((cfg0.win 3).blk t).view.emb (ix2 z k) = (ix2 z k : S1x1024.Idx) :=
  Cert.Step.whole2 ((by decide +kernel : ∀ (t : Fin grid0.N) a, win0_3.index t a = 0) t) rfl rfl

theorem emb4 (t : Fin cfg0.N) (r : Fin 256) (k : Fin 1024) : ((cfg0.win 4).blk t).view.emb (ix2 r k) = (ix2 (row t r) k : S8192x1024.Idx) :=
  Cert.Step.rows2 ((by decide +kernel : ∀ t : Fin grid0.N, win0_4.index t 0 = t.val ∧ win0_4.index t 1 = 0) t) rfl rfl rfl

theorem emb5 (t : Fin cfg0.N) (r : Fin 256) (k : Fin 1024) : ((cfg0.win 5).blk t).view.emb (ix2 r k) = (ix2 (row t r) k : S8192x1024.Idx) :=
  Cert.Step.rows2 ((by decide +kernel : ∀ t : Fin grid0.N, win0_5.index t 0 = t.val ∧ win0_5.index t 1 = 0) t) rfl rfl rfl

theorem emb6 (t : Fin cfg0.N) (r : Fin 8) (k : Fin 1024) : ((cfg0.win 6).blk t).view.emb (ix2 r k) = (ix2 r k : S8x1024.Idx) :=
  Cert.Step.whole2 ((by decide +kernel : ∀ (t : Fin grid0.N) a, win0_6.index t a = 0) t) rfl rfl

theorem blk0 (t : Fin cfg0.N) (r : Fin 256) (n : Fin 6144) : iblk m c 0 t (ix2 r n) = dpA m c (row t r) n := by
  show V m c main_arg0 (((cfg0.win 0).blk t).view.emb (ix2 r n)) = _
  rw [emb0, V_main_arg0]

theorem blk1 (t : Fin cfg0.N) (j : Fin 8) (k : Fin 1024) (q : Fin 768) :
    iblk m c 1 t (ix3 j k q) = wA m c k ⟨768 * j.val + q.val, by omega⟩ := by
  show V m c main_v2 (((cfg0.win 1).blk t).view.emb (ix3 j k q)) = _
  rw [emb1]
  entry_read
  pointwise
  exact congrArg (fun n => wA m c k n) (Fin.ext (by show j.val * 768 + q.val = 768 * j.val + q.val; omega))

theorem blk2 (t : Fin cfg0.N) (r : Fin 256) (k : Fin 1024) : iblk m c 2 t (ix2 r k) = xA m c (row t r) k := by
  show V m c main_arg2 (((cfg0.win 2).blk t).view.emb (ix2 r k)) = _
  rw [emb2, V_main_arg2]

theorem blk3 (t : Fin cfg0.N) (k : Fin 1024) : iblk m c 3 t (ix2 0 k) = gA m c k := by
  show V m c main_v3 (((cfg0.win 3).blk t).view.emb (ix2 0 k)) = _
  rw [emb3]
  entry_read
  pointwise

theorem blk4 (t : Fin cfg0.N) (r : Fin 256) (k : Fin 1024) : iblk m c 4 t (ix2 r k) = rA m c (row t r) k := by
  show V m c main_arg4 (((cfg0.win 4).blk t).view.emb (ix2 r k)) = _
  rw [emb4, V_main_arg4]

/-- The product that a point takes is the rows' own product with the whole weight. -/
theorem blockDh_eq (t : Fin cfg0.N) (r : Fin 256) (k : Fin 1024) :
    blockDh (iblk m c 0 t) (iblk m c 1 t) r k = Cert.Step.projDh (dpA m c) (wA m c) (row t r) k := by
  unfold blockDh Cert.Step.projDh
  simp only [blk0, blk1]
  exact Cert.Step.sum_blocks 8 768 6144 rfl (fun n => dpA m c (row t r) n * wA m c k n) fun j q => by omega

theorem out5 (t : Fin cfg0.N) (r : Fin 256) (k : Fin 1024) :
    (outsAt0 m c t.val t.isLt).1 (ix2 r k)
      = rA m c (row t r) k + Cert.Step.normGradK (xA m c (row t r)) (fun q => Cert.Step.projDh (dpA m c) (wA m c) (row t r) q * gA m c q) k := by
  by_cases h0 : t.val % 32 = 0
  · rw [outsAt0_A m c t h0]; dsimp only; rw [out_A_5]; simp only [blk2, blk3, blk4, blockDh_eq]
  · rw [outsAt0_B m c t h0]; dsimp only; rw [out_B_5]; simp only [blk2, blk3, blk4, blockDh_eq]

/-- The first result, entry by entry. -/
abbrev resDx : Buf (Elt Ideal) ((c : Thread nD τ).loc main_v4_0) := fun i : S8192x1024.Idx =>
  Cert.Step.projDx (dpA m c) (wA m c) (xA m c) (gA m c) (rA m c) (i 0) (i 1)

theorem final5 : (dats m 0 c).arrAt 5 cfg0.N = resDx m c := by
  refine (dats m 0 c).arrAt_eq_of_covers 5 (resDx m c) (by decide +kernel) fun t _ y => ?_
  idx_vars y
  rw [emb5]
  blk_simp
  rw [after0_5]
  exact out5 m c t _ _

/-- A point's own addend to the scale's gradient. -/
def part (t : ℕ) (k : Fin 1024) : EReal :=
  if h : t < 32 then ∑ r : Fin 256, (fun i : Fin 8192 => Cert.Step.projDh (dpA m c) (wA m c) i k * (xA m c i k * Cert.Step.rinv (xA m c i))) ⟨256 * t + r.val, by omega⟩ else 0

theorem part_eq (t : Fin cfg0.N) (k : Fin 1024) :
    colGrad (iblk m c 0 t) (iblk m c 1 t) (iblk m c 2 t) k = part m c t.val k := by
  rw [part, dif_pos (lt_N t)]
  unfold colGrad
  simp only [blockDh_eq, blk2]

/-- What the second result's block holds after each point. -/
theorem out6 (n : ℕ) : ∀ (h : n < cfg0.N) (r : Fin 8) (k : Fin 1024),
    (outsAt0 m c n h).2 (ix2 r k) = if r = 0 then ∑ t ∈ Finset.range (n + 1), part m c t k else 0 := by
  induction n with
  | zero =>
    intro h r k
    rw [outsAt0_A m c ⟨0, h⟩ rfl]
    dsimp only
    rw [out_A_6, part_eq, Finset.sum_range_one]
  | succ n ih =>
    intro h r k
    have hN : cfg0.N = 32 := N_0
    rw [outsAt0_B m c ⟨n + 1, h⟩ (by show ¬ (n + 1) % 32 = 0; omega)]
    dsimp only
    rw [out_B_6, part_eq]
    have e := ih (by omega)
    simp only [Nat.add_sub_cancel]
    rw [e, e, Finset.sum_range_succ _ (n + 1)]
    split <;> simp

theorem sum_parts (k : Fin 1024) : ∑ t ∈ Finset.range 32, part m c t k
    = ∑ i, Cert.Step.projDh (dpA m c) (wA m c) i k * (xA m c i k * Cert.Step.rinv (xA m c i)) := by
  rw [Finset.sum_range]
  refine Eq.trans ?_ (Cert.Step.sum_blocks 32 256 8192 rfl
    (fun i => Cert.Step.projDh (dpA m c) (wA m c) i k * (xA m c i k * Cert.Step.rinv (xA m c i))) fun j q => by omega)
  refine Finset.sum_congr rfl fun t _ => ?_
  rw [part, dif_pos t.isLt]

/-- The second result, entry by entry. -/
abbrev resDg : Buf (Elt Ideal) ((c : Thread nD τ).loc main_v4_1) := fun i : S8x1024.Idx =>
  Cert.Step.projDg (dpA m c) (wA m c) (xA m c) (i 0) (i 1)

theorem final6 : (dats m 0 c).arrAt 6 cfg0.N = resDg m c := by
  refine (dats m 0 c).arrAt_eq_of_covers 6 (resDg m c) (by decide +kernel) fun t hf y => ?_
  idx_vars y
  have e : t.val = 31 := by have := (flush0_6 t).mp hf; have := lt_N t; omega
  rw [emb6]
  blk_simp
  rw [after0_6, out6, e, sum_parts]
  rfl

/-- The run, read: both results as functions of the arguments, which stay as they were. -/
theorem run (ρ : Dev nD → PrngReg) : θ_run defs (onTc (τ := τ) (main (F := Ideal))) ⟨m, fun _ => 0, ρ⟩ fun r => ∀ c : Dev nD,
    r.2.mem ((c : Thread nD τ).loc main_v4_0) = resDx m c ∧ r.2.mem ((c : Thread nD τ).loc main_v4_1) = resDg m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  (θ_run defs _ _).mono (fun _ h c => by
    have := h c
    rw [final5, final6] at this
    exact this) (Value.run_blocks m ρ)

end Cert.ProjKernelIdeal.Body

end
-- ==== Proof.ProjReference.lean ====
/- The reference of the projection's gradient, read at an index. -/
module

public import proofs.«01_k».proof.Proof.ProjSpec
public import proofs.«01_k».proof.Proof.Gen.ProjReferenceIdeal.Run
public import Idealize.ShloMosaic.Lib.Pointwise
public import Idealize.ShloMosaic.Lib.Tactic.CleanTypes

@[expose] public section

set_option maxRecDepth 16384

noncomputable section

namespace Cert.ProjReferenceIdeal.Read

open Cert.ProjReferenceIdeal Idealize.ShloMosaic Idealize.ShloMosaic.TcCoe Idealize.SL.Sem

variable (m : (ℓ : Loc nD τ sig) → Buf (Elt Ideal) ℓ) (c : Dev nD)

abbrev dpA (i : Fin 8192) (n : Fin 6144) : EReal := m ((c : Thread nD τ).loc main_arg0) (ix2 i n)
abbrev wA (k : Fin 1024) (n : Fin 6144) : EReal := m ((c : Thread nD τ).loc main_arg1) (ix2 k n)
abbrev xA (i : Fin 8192) (k : Fin 1024) : EReal := m ((c : Thread nD τ).loc main_arg2) (ix2 i k)
abbrev gA (k : Fin 1024) : EReal := m ((c : Thread nD τ).loc main_arg3) (ix1 k)
abbrev rA (i : Fin 8192) (k : Fin 1024) : EReal := m ((c : Thread nD τ).loc main_arg4) (ix2 i k)

theorem dx_apply (i : Fin 8192) (k : Fin 1024) (hdp : ∀ i n, Cert.Step.Fin' (dpA m c i n)) (hw : ∀ k n, Cert.Step.Fin' (wA m c k n))
    (hx : ∀ i k, Cert.Step.Fin' (xA m c i k)) (hg : ∀ k, Cert.Step.Fin' (gA m c k)) :
    (Value.res_main_v39 m c : FVec Ideal S8192x1024 .f32) (ix2 i k)
      = Cert.Step.projDx (dpA m c) (wA m c) (xA m c) (gA m c) (rA m c) i k := by
  rw [Cert.Step.projDx, Cert.Step.normGrad_eq _ _ (hx i) fun q => Cert.Step.fin_mul (Cert.Step.projDh_fin hdp hw i q) (hg q)]
  unfold Value.res_main_v39
  clean_types
  pointwise
  simp only [Finset.univ_unique, Finset.sum_singleton]
  rfl

/-- The run, read: both results as functions of the arguments, which stay as they were. -/
theorem run (ρ : Dev nD → PrngReg) (hdp : ∀ c i n, Cert.Step.Fin' (dpA m c i n)) (hw : ∀ c k n, Cert.Step.Fin' (wA m c k n))
    (hx : ∀ c i k, Cert.Step.Fin' (xA m c i k)) (hg : ∀ c k, Cert.Step.Fin' (gA m c k)) :
    θ_run defs (onTc (τ := τ) (main (F := Ideal))) ⟨m, fun _ => 0, ρ⟩ fun r => ∀ c : Dev nD,
      r.2.mem ((c.tc : Thread nD τ).loc main_v39)
          = (fun i : S8192x1024.Idx => Cert.Step.projDx (dpA m c) (wA m c) (xA m c) (gA m c) (rA m c) (i 0) (i 1))
      ∧ r.2.mem ((c.tc : Thread nD τ).loc main_v42)
          = (fun i : S8x1024.Idx => Cert.Step.projDg (dpA m c) (wA m c) (xA m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ⟨?_, ?_, (h c).2.2⟩) (Value.run m ρ)
  · rw [(h c).1]
    funext j
    idx_vars j
    exact dx_apply m c _ _ (hdp c) (hw c) (hx c) (hg c)
  · rw [(h c).2.1]
    funext j
    idx_vars j
    clean_types
    pointwise
    simp only [Finset.univ_unique, Finset.sum_singleton]
    show _ = Cert.Step.projDg (dpA m c) (wA m c) (xA m c) j0 j1
    unfold Cert.Step.projDg
    by_cases h0 : j0 = 0
    · subst h0
      rw [if_pos rfl, dif_pos (by decide)]
      exact Finset.sum_congr rfl fun i _ => mul_comm _ _
    · rw [if_neg h0, dif_neg (by intro h; exact h0 (Fin.ext (by simpa using h)))]

end Cert.ProjReferenceIdeal.Read

end
-- ==== Proof.FiniteArgs.lean ====
/- What a precondition on magnitudes says: the array holds real numbers. -/
module

public import proofs.«01_k».proof.Proof.RealArith
public import Idealize.ShloMosaic.Lib.Pointwise
public import Idealize.ShloMosaic.Lib.ReduceAll

@[expose] public section

set_option maxRecDepth 16384

noncomputable section

namespace Cert.Step

open Idealize.ShloMosaic

/-- One array's part of a precondition: if all magnitudes are below infinity, the array holds real numbers. -/
theorem fin_of_all {s t u v : Shape} [Subsingleton t.Idx] {φ : FTy} {axes : List (Fin s.rank)} (x : FVec Ideal s φ) (w : BitVec φ.bits) (hw : Ideal.ofBits φ w = ⊤)
    (dims) (hb : v.BroadcastsInDim s dims) (h : s.ReducesTo axes t) (hu : 0 < u.numel) (j : t.Idx)
    (e : Host.reduce IntOp.andi (cmpf .olt (Host.absf x) (broadcastInDim s dims hb (constant v φ w))) (constantI u 1 1#1) h hu j = 1#1)
    (i : s.Idx) : Fin' (x i) := by
  have := Host.reduce_andi_all _ _ h hu j e i
  pointwise at this
  rw [hw] at this
  exact fin_of_abs_lt (by cases hd : decide (max (x i) (-(x i)) < ⊤) with
    | true => exact of_decide_eq_true hd
    | false => exact absurd ((congrArg BitVec.ofBool hd).symm.trans this) (by decide))

theorem word_inf : Ideal.ofBits .f32 0x7F800000#32 = ⊤ := by simp [Ideal.ofBits, Ideal.ieee]
theorem word_inf_bf16 : Ideal.ofBits .bf16 0x7F80#16 = ⊤ := by simp [Ideal.ofBits, Ideal.ieee]

end Cert.Step

end
-- ==== Proof.ProjClaim.lean ====
/- The claims about the projection's gradient. -/
module

public import proofs.«01_k».proof.Defs
public import proofs.«01_k».proof.Proof.Gen.ProjKernel.Frame
public import proofs.«01_k».proof.Proof.Gen.Pre_finite_proj
public import proofs.«01_k».proof.Proof.Gen.ProjReferenceIdeal
public import proofs.«01_k».proof.Proof.ProjKernelValue
public import proofs.«01_k».proof.Proof.ProjReference
public import proofs.«01_k».proof.Proof.FiniteArgs

@[expose] public section

set_option maxRecDepth 16384

noncomputable section

namespace Cert.Pre_finite_proj

open Cert.Pre_finite_proj Idealize.ShloMosaic

/-- The precondition, read: the arrays it names hold real numbers. -/
theorem fin_of_fn [Facts] (dp : FVec Ideal S8192x6144 .bf16) (w : FVec Ideal S1024x6144 .f32) (x : FVec Ideal S8192x1024 .f32)
    (g : FVec Ideal S1024 .f32) (r : FVec Ideal S8192x1024 .f32) (h : fn (F := Ideal) dp w x g r = fun _ => 1#1) :
    (∀ i, Cert.Step.Fin' (dp i)) ∧ (∀ i, Cert.Step.Fin' (w i)) ∧ (∀ i, Cert.Step.Fin' (x i)) ∧ ∀ i, Cert.Step.Fin' (g i) := by
  have e := congrFun h ix0
  dsimp only [fn, fn_part1] at e
  have : Subsingleton S_.Idx := ⟨fun a b => funext fun i => i.elim0⟩
  obtain ⟨e, e3⟩ := (IntOp.andi_eq_one).1 e
  obtain ⟨e, e2⟩ := (IntOp.andi_eq_one).1 e
  obtain ⟨e0, e1⟩ := (IntOp.andi_eq_one).1 e
  exact ⟨Cert.Step.fin_of_all _ _ Cert.Step.word_inf_bf16 _ _ _ _ _ e0, Cert.Step.fin_of_all _ _ Cert.Step.word_inf _ _ _ _ _ e1,
    Cert.Step.fin_of_all _ _ Cert.Step.word_inf _ _ _ _ _ e2, Cert.Step.fin_of_all _ _ Cert.Step.word_inf _ _ _ _ _ e3⟩

end Cert.Pre_finite_proj

namespace Cert.Proof

open Idealize.ShloMosaic Idealize.SL.Sem

/-- The arrays that the precondition names hold real numbers. -/
theorem proj_fin (m : (ℓ : Loc Cert.ProjKernelIdeal.nD Cert.ProjKernelIdeal.τ Cert.ProjKernelIdeal.sig) → Buf (Elt Ideal) ℓ)
    (h : Cert.Pre_ProjKernelIdeal_finite_proj m) (c : Dev Cert.ProjKernelIdeal.nD) :
    (∀ i n, Cert.Step.Fin' (Cert.ProjKernelIdeal.Body.dpA m c i n)) ∧ (∀ k n, Cert.Step.Fin' (Cert.ProjKernelIdeal.Body.wA m c k n))
      ∧ (∀ i k, Cert.Step.Fin' (Cert.ProjKernelIdeal.Body.xA m c i k)) ∧ ∀ k, Cert.Step.Fin' (Cert.ProjKernelIdeal.Body.gA m c k) := by
  obtain ⟨h0, h1, h2, h3⟩ := Cert.Pre_finite_proj.fin_of_fn _ _ _ _ _ (h c)
  exact ⟨fun i n => h0 (ix2 i n), fun i n => h1 (ix2 i n), fun i n => h2 (ix2 i n), fun i => h3 (ix1 i)⟩

theorem proj_algebraic : Cert.algebraic_ProjKernelIdeal_ProjReferenceIdeal_pre_finite_proj := by
  intro m ρ m' ρ' hpre hagree
  refine ⟨fun c => Cert.ProjKernelIdeal.Body.resDx m c, fun c => Cert.ProjKernelIdeal.Body.resDg m c,
    Cert.ProjKernelIdeal.Body.run m ρ, ?_⟩
  have e0 : ∀ c, Cert.ProjReferenceIdeal.Read.dpA m' c = Cert.ProjKernelIdeal.Body.dpA m c := fun c =>
    funext fun i => funext fun n => congrFun (hagree c).1 (ix2 i n)
  have e1 : ∀ c, Cert.ProjReferenceIdeal.Read.wA m' c = Cert.ProjKernelIdeal.Body.wA m c := fun c =>
    funext fun i => funext fun n => congrFun (hagree c).2.1 (ix2 i n)
  have e2 : ∀ c, Cert.ProjReferenceIdeal.Read.xA m' c = Cert.ProjKernelIdeal.Body.xA m c := fun c =>
    funext fun i => funext fun n => congrFun (hagree c).2.2.1 (ix2 i n)
  have e3 : ∀ c, Cert.ProjReferenceIdeal.Read.gA m' c = Cert.ProjKernelIdeal.Body.gA m c := fun c =>
    funext fun n => congrFun (hagree c).2.2.2.1 (ix1 n)
  have e4 : ∀ c, Cert.ProjReferenceIdeal.Read.rA m' c = Cert.ProjKernelIdeal.Body.rA m c := fun c =>
    funext fun i => funext fun n => congrFun (hagree c).2.2.2.2 (ix2 i n)
  refine (θ_run Cert.ProjReferenceIdeal.defs _ _).mono (fun _ h c => ⟨?_, ?_, (h c).2.2⟩)
    (Cert.ProjReferenceIdeal.Read.run m' ρ' (fun c => by rw [e0]; exact (proj_fin m hpre c).1) (fun c => by rw [e1]; exact (proj_fin m hpre c).2.1)
      (fun c => by rw [e2]; exact (proj_fin m hpre c).2.2.1) fun c => by rw [e3]; exact (proj_fin m hpre c).2.2.2)
  · rw [(h c).1, e0, e1, e2, e3, e4]; rfl
  · rw [(h c).2.1, e0, e1, e2]; rfl

theorem proj_reference_frame : Cert.quiescent_ProjReferenceIdeal := fun m ρ _ =>
  (θ_run Cert.ProjReferenceIdeal.defs _ _).mono (fun r h => ⟨fun c => (h c).2.2, sem_eq_zero_of_no_sems (by decide) r.2⟩)
    (Cert.ProjReferenceIdeal.Value.run (F := Ideal) m ρ)

theorem proj_frames : Cert.quiescent_ProjKernel ∧ Cert.quiescent_ProjKernelIdeal ∧ Cert.quiescent_ProjKernelIdeal_pre_finite_proj
    ∧ Cert.quiescent_ProjReferenceIdeal ∧ Cert.quiescent_ProjReferenceIdeal_pre_finite_proj :=
  ⟨fun m ρ _ => Cert.ProjKernel.Gen.frame m ρ, fun m ρ _ => Cert.ProjKernelIdeal.Gen.frame m ρ, fun m ρ _ => Cert.ProjKernelIdeal.Gen.frame m ρ,
    proj_reference_frame, fun m ρ _ => proj_reference_frame m ρ trivial⟩

end Cert.Proof

end
-- ==== Proof.FfnSpec.lean ====
/- What the feed-forward block's gradient computes, in terms of its arguments: the block's own products on the way forward, the
   gated product's gradient, the convolution's adjoint and its weights' sums, and the norm's gradient. -/
module

public import proofs.«01_k».proof.Proof.RmsGrad

@[expose] public section

noncomputable section

namespace Cert.Step

open Idealize.ShloMosaic

/-- The logistic function as the bodies spell it. -/
def sg (a : EReal) : EReal := Ideal.ofBits .f32 0x3F000000#32 * Ideal.tanh (Ideal.ofBits .f32 0x3F000000#32 * a) + Ideal.ofBits .f32 0x3F000000#32

/-- The gradient of the gated product to the gate's argument, from the product's cotangent `d`, the argument `a` and the other
factor `b`. -/
def gateGrad (d a b : EReal) : EReal :=
  d * b * sg a * (Ideal.ofBits .f32 0x3F800000#32 + a * (Ideal.ofBits .f32 0x3F800000#32 - sg a))

/-- The gradient of the gated product to its other factor. -/
def valGrad (d a : EReal) : EReal := d * a * sg a

/-- The block's arguments: rows, the norm's scale, the weight up, the convolution's three weights and its shift, the weight down,
and the cotangent of the block's output. -/
structure FfnArgs where
  x : Fin 8192 → Fin 1024 → EReal
  g : Fin 1024 → EReal
  w : Fin 1024 → Fin 5632 → EReal
  cw : Fin 3 → Fin 5632 → EReal
  cb : Fin 5632 → EReal
  wd : Fin 2816 → Fin 1024 → EReal
  ct : Fin 8192 → Fin 1024 → EReal

namespace FfnArgs

variable (a : FfnArgs)

/-- The normed rows times the weight up. -/
def pre (i : Fin 8192) (n : Fin 5632) : EReal := ∑ k, a.x i k * rinv (a.x i) * a.g k * a.w k n

/-- The product `s` rows back, zero before the first row. -/
def back (s : ℕ) (i : Fin 8192) (n : Fin 5632) : EReal :=
  if _h : i.val < s then 0 else a.pre ⟨i.val - s, by omega⟩ n

theorem back_one (i : Fin 8192) (n : Fin 5632) : a.back 1 i n = if h : 1 + i.val < 2 then 0 else a.pre ⟨1 + i.val - 2, by omega⟩ n := by
  unfold back
  by_cases h : i.val < 1
  · rw [dif_pos h, dif_pos (by omega)]
  · rw [dif_neg h, dif_neg (by omega)]
    exact congrArg (fun i => a.pre i n) (Fin.ext (by show i.val - 1 = 1 + i.val - 2; omega))

/-- The convolved product. -/
def up (i : Fin 8192) (n : Fin 5632) : EReal :=
  a.back 2 i n * a.cw 0 n + a.back 1 i n * a.cw 1 n + a.pre i n * a.cw 2 n + a.cb n

/-- The convolved product with the norm and the product written out. -/
theorem up_spelt (i : Fin 8192) (n : Fin 5632) : a.up i n =
    (if _h : i.val < 2 then 0 else ∑ k, a.x ⟨i.val - 2, by omega⟩ k * Ideal.rsqrt (Ideal.div (∑ q, a.x ⟨i.val - 2, by omega⟩ q * a.x ⟨i.val - 2, by omega⟩ q)
      (Ideal.ofBits .f32 0x44800000#32) + Ideal.ofBits .f32 0x358637BD#32) * a.g k * a.w k n) * a.cw 0 n
    + (if _h : 1 + i.val < 2 then 0 else ∑ k, a.x ⟨1 + i.val - 2, by omega⟩ k * Ideal.rsqrt (Ideal.div (∑ q, a.x ⟨1 + i.val - 2, by omega⟩ q * a.x ⟨1 + i.val - 2, by omega⟩ q)
      (Ideal.ofBits .f32 0x44800000#32) + Ideal.ofBits .f32 0x358637BD#32) * a.g k * a.w k n) * a.cw 1 n
    + (∑ k, a.x i k * Ideal.rsqrt (Ideal.div (∑ q, a.x i q * a.x i q)
      (Ideal.ofBits .f32 0x44800000#32) + Ideal.ofBits .f32 0x358637BD#32) * a.g k * a.w k n) * a.cw 2 n + a.cb n := by
  rw [up, back_one, back]
  rfl

/-- The cotangent of the gated product. -/
def dact (i : Fin 8192) (n : Fin 2816) : EReal := ∑ k, a.ct i k * a.wd n k

/-- The cotangent of the convolved product: the gate's half first, the other factor's after it. -/
def dup (i : Fin 8192) (n : Fin 5632) : EReal :=
  if h : n.val < 2816 then gateGrad (a.dact i ⟨n.val, h⟩) (a.up i n) (a.up i ⟨n.val + 2816, by omega⟩)
  else valGrad (a.dact i ⟨n.val - 2816, by omega⟩) (a.up i ⟨n.val - 2816, by omega⟩)

/-- The same `s` rows on, zero past the last row. -/
def ahead (s : ℕ) (i : Fin 8192) (n : Fin 5632) : EReal := if h : i.val + s < 8192 then a.dup ⟨i.val + s, h⟩ n else 0

/-- The cotangent of the product with the weight up: the convolution's adjoint. -/
def du (i : Fin 8192) (n : Fin 5632) : EReal :=
  a.cw 2 n * a.dup i n + a.cw 1 n * a.ahead 1 i n + a.cw 0 n * a.ahead 2 i n

/-- The addend of row `i` to the convolution's gradients: its three weights, its shift, and nothing in the rows that follow. -/
def dcRow (s : ℕ) (i : Fin 8192) (n : Fin 5632) : EReal :=
  if s = 0 then a.pre i n * a.ahead 2 i n
  else if s = 1 then a.pre i n * a.ahead 1 i n
  else if s = 2 then a.pre i n * a.dup i n
  else if s = 3 then a.dup i n
  else 0

/-- The convolution's gradients, row by row. -/
def dc (s : ℕ) (n : Fin 5632) : EReal := ∑ i, a.dcRow s i n

theorem dc_weights (n : Fin 5632) : a.dc 0 n = ∑ i, a.pre i n * a.ahead 2 i n ∧ a.dc 1 n = ∑ i, a.pre i n * a.ahead 1 i n
    ∧ a.dc 2 n = ∑ i, a.pre i n * a.dup i n ∧ a.dc 3 n = ∑ i, a.dup i n := by
  refine ⟨?_, ?_, ?_, ?_⟩ <;> refine Finset.sum_congr rfl fun i _ => ?_ <;> simp [dcRow]

/-- The cotangent of the normed rows. -/
def dh (i : Fin 8192) (k : Fin 1024) : EReal := ∑ n, a.du i n * a.w k n

/-- The rows' gradient. -/
def dx (i : Fin 8192) (k : Fin 1024) : EReal := a.ct i k + normGradK (a.x i) (fun q => a.dh i q * a.g q) k

/-- The scale's gradient, in the first of eight rows. -/
def dg (r : Fin 8) (k : Fin 1024) : EReal := if r = 0 then ∑ i, a.dh i k * (a.x i k * rinv (a.x i)) else 0

end FfnArgs

/-- Column `q` of block `j` of eight blocks of 704. -/
abbrev col (j : Fin 8) (q : Fin 704) : Fin 5632 := ⟨704 * j.val + q.val, by omega⟩

end Cert.Step

end
-- ==== Proof.FfnTile.lean ====
/- One column block of the feed-forward gradient on one tile of rows: the gated product's gradient, the convolution's adjoint with
   the eight rows handed on by the tile that follows, and the sums for the convolution's own weights. -/
module

public import proofs.«01_k».proof.Proof.FfnSpec
public import proofs.«01_k».proof.Proof.Gen.FfnKernelIdeal.Skeleton
public import Idealize.ShloMosaic.Lib.Tactic
public import Idealize.ShloMosaic.Lib.Pointwise

@[expose] public section

set_option maxRecDepth 16384

noncomputable section

namespace Cert.FfnKernelIdeal.Body

open Cert.FfnKernelIdeal Cert.FfnKernelIdeal.Gen Idealize.ShloMosaic Idealize.ShloMosaic.TcCoe Idealize.SL.Sem
open Cert.Step (sg gateGrad valGrad)

/-- A tile of 256 rows followed by eight more, `s` rows further on. -/
def ahead (s : ℕ) (hs : s ≤ 8) (d : FVec Ideal S256x704 .f32) (cr : Vec Ideal S1x8x704 .f32) (r : Fin 256) (q : Fin 704) : EReal :=
  if h : r.val + s < 256 then d (ix2 ⟨r.val + s, h⟩ q) else cr (ix3 0 ⟨r.val + s - 256, by omega⟩ q)

theorem gate_apply (d : FVec Ideal S256x704 .f32) (u v : Vec Ideal S1x256x704 .bf16) (r : Fin 256) (q : Fin 704) :
    k0_pay15 d (k0_pay10 u) (k0_pay11 v) (k0_pay12 u) k0_pay13 (ix2 r q)
      = gateGrad (d (ix2 r q)) (u (ix3 0 r q)) (v (ix3 0 r q)) := by
  pointwise [k0_pay15, k0_pay14, k0_pay10, k0_pay11, k0_pay12, k0_pay13, gateGrad, sg]

theorem val_apply (d : FVec Ideal S256x704 .f32) (u : Vec Ideal S1x256x704 .bf16) (r : Fin 256) (q : Fin 704) :
    k0_pay29 d (k0_pay10 u) (k0_pay14 (k0_pay12 u) k0_pay13) (ix2 r q) = valGrad (d (ix2 r q)) (u (ix3 0 r q)) := by
  pointwise [k0_pay29, k0_pay14, k0_pay10, k0_pay12, k0_pay13, valGrad, sg]

/-- The tile followed by the eight rows, turned by `n` places and cut back to 256 rows. -/
abbrev turned (n : BitVec 32) (d : FVec Ideal S256x704 .f32) (cr : Vec Ideal S1x8x704 .f32) : FVec Ideal S256x704 .f32 :=
  extractStridedSlice S256x704 ![0, 0] (dynamicRotate 0 n none (concatenate S264x704 0 [⟨S256x704, d⟩,
    ⟨S8x704, shapeCast S8x704 cr shapeCasts_S1x8x704_S8x704⟩] concatenates_S256x704_S8x704_S264x704_d0) rotates_S264x704_d0)
    slices_S264x704_o0_0_S256x704

theorem turned1_apply (d : FVec Ideal S256x704 .f32) (cr : Vec Ideal S1x8x704 .f32) (r : Fin 256) (q : Fin 704) :
    turned 263#32 d cr (ix2 r q) = ahead 1 (by omega) d cr r q := by
  pointwise [turned, ahead]
  have e : (r.val + 264 - 263) % 264 = r.val + 1 := by omega
  simp only [e]

theorem turned2_apply (d : FVec Ideal S256x704 .f32) (cr : Vec Ideal S1x8x704 .f32) (r : Fin 256) (q : Fin 704) :
    turned 262#32 d cr (ix2 r q) = ahead 2 (by omega) d cr r q := by
  pointwise [turned, ahead]
  have e : (r.val + 264 - 262) % 264 = r.val + 2 := by omega
  simp only [e]

theorem dact_apply (x : Vec Ideal S256x1024 .f32) (wa wb : Vec Ideal S1x352x1024 .bf16) (r : Fin 256) (q : Fin 704) :
    k0_pay8 x wa wb (ix2 r q) = ∑ k : Fin 1024, x (ix2 r k) * (if h : q.val < 352 then wa (ix3 0 ⟨q.val, h⟩ k) else wb (ix3 0 ⟨q.val - 352, by omega⟩ k)) := by
  pointwise [k0_pay8, k0_pay6]

/-- The convolution's adjoint on the tile, from the gradient `d`, the eight rows after it and the three weights. -/
abbrev adj (d : FVec Ideal S256x704 .f32) (cr : Vec Ideal S1x8x704 .f32) (w2 w1 w0 : Vec Ideal S1x1x704 .f32) : FVec Ideal S256x704 .bf16 :=
  truncf .bf16 (addf (addf (mulf (broadcastTo S256x704 (shapeCast S1x704 w2 shapeCasts_S1x1x704_S1x704) broadcasts_S1x704_S256x704) d)
    (mulf (broadcastTo S256x704 (shapeCast S1x704 w1 shapeCasts_S1x1x704_S1x704) broadcasts_S1x704_S256x704) (turned 263#32 d cr)))
    (mulf (broadcastTo S256x704 (shapeCast S1x704 w0 shapeCasts_S1x1x704_S1x704) broadcasts_S1x704_S256x704) (turned 262#32 d cr))) bitsLt_bf16_f32

theorem adj_apply (d : FVec Ideal S256x704 .f32) (cr : Vec Ideal S1x8x704 .f32) (w2 w1 w0 : Vec Ideal S1x1x704 .f32) (r : Fin 256) (q : Fin 704) :
    adj d cr w2 w1 w0 (ix2 r q) = w2 (ix3 0 0 q) * d (ix2 r q) + w1 (ix3 0 0 q) * ahead 1 (by omega) d cr r q
      + w0 (ix3 0 0 q) * ahead 2 (by omega) d cr r q := by
  rw [← turned1_apply, ← turned2_apply]
  generalize h1 : turned 263#32 d cr = e1
  generalize h2 : turned 262#32 d cr = e2
  pointwise [adj, h1, h2]

theorem colsum_apply (v : Vec Ideal S1x1x704 .f32) (a b : FVec Ideal S256x704 .f32) (q : Fin 704) :
    k0_pay24 a b v (ix3 0 0 q) = v (ix3 0 0 q) + ∑ r : Fin 256, a (ix2 r q) * b (ix2 r q) := by
  pointwise [k0_pay24]

theorem colsum1_apply (v : Vec Ideal S1x1x704 .f32) (a : FVec Ideal S256x704 .f32) (q : Fin 704) :
    k0_pay27 a v (ix3 0 0 q) = v (ix3 0 0 q) + ∑ r : Fin 256, a (ix2 r q) := by
  pointwise [k0_pay27]

theorem back_apply (a : FVec Ideal S256x1024 .f32) (u : FVec Ideal S256x704 .bf16) (w : Vec Ideal S1x1024x704 .bf16) (r : Fin 256) (k : Fin 1024) :
    k0_pay28 a u w (ix2 r k) = a (ix2 r k) + ∑ q : Fin 704, u (ix2 r q) * w (ix3 0 k q) := by
  pointwise [k0_pay28]

theorem slabIn {A B : ℕ} (j : Fin 8) (o n : ℕ) (h : o + n ≤ A) (a : Fin 3) :
    (![j.val, o, 0] : Fin 3 → ℕ) a + (![1, n, B] : Fin 3 → ℕ) a ≤ (⟨3, ![8, A, B]⟩ : Shape).size a := by
  match a with
  | ⟨0, _⟩ => show j.val + 1 ≤ 8; omega
  | ⟨1, _⟩ => exact h
  | ⟨2, _⟩ => show 0 + B ≤ B; omega

/-- Rows `o` to `o + n` of slab `j` of eight slabs. -/
def rows {A B : ℕ} {e : EltTy} (x : Vec Ideal ⟨3, ![8, A, B]⟩ e) (j : Fin 8) (o n : ℕ) (h : o + n ≤ A) : Vec Ideal ⟨3, ![1, n, B]⟩ e :=
  View.ld x (Rect.unit (s := ⟨3, ![8, A, B]⟩) ![j.val, o, 0] ![1, n, B] (slabIn j o n h))

theorem rows_apply {A B : ℕ} {e : EltTy} (x : Vec Ideal ⟨3, ![8, A, B]⟩ e) (j : Fin 8) (o n : ℕ) (h : o + n ≤ A) (r : Fin n) (q : Fin B) :
    rows x j o n h (ix3 0 r q) = x (ix3 j ⟨o + r.val, by omega⟩ q) :=
  congrArg x (funext fun a => Fin.ext (by
    match a with
    | ⟨0, _⟩ => show j.val + 1 * 0 = j.val; omega
    | ⟨1, _⟩ => show o + 1 * r.val = o + r.val; omega
    | ⟨2, _⟩ => show 0 + 1 * q.val = q.val; omega))

section
variable (x0 : Vec Ideal S256x1024 .f32) (x1 x2 : Vec Ideal S8x256x704 .bf16) (x3 : Vec Ideal S8x3x704 .f32) (x4 : Vec Ideal S8x352x1024 .bf16)
  (x5 : Vec Ideal S8x1024x704 .bf16) (cs : Vec Ideal S8x8x704 .f32)

/-- The cotangent of block `j` of the gated product: the rows' cotangent times the weight's transpose. -/
def dact (j : Fin 4) (r : Fin 256) (q : Fin 704) : EReal :=
  ∑ k : Fin 1024, x0 (ix2 r k) * (if h : q.val < 352 then x4 (ix3 ⟨2 * j.val, by omega⟩ ⟨q.val, h⟩ k)
    else x4 (ix3 ⟨2 * j.val + 1, by omega⟩ ⟨q.val - 352, by omega⟩ k))

/-- The gradient to block `j` of the convolution's result: the first four blocks are gates, the last four the other factors. -/
def dup (j : Fin 8) (r : Fin 256) (q : Fin 704) : EReal :=
  if h : j.val < 4 then gateGrad (dact x0 x4 ⟨j.val, h⟩ r q) (x2 (ix3 j r q)) (x2 (ix3 ⟨j.val + 4, by omega⟩ r q))
  else valGrad (dact x0 x4 ⟨j.val - 4, by omega⟩ r q) (x2 (ix3 ⟨j.val - 4, by omega⟩ r q))

/-- The same `s` rows further on, where the tile's own rows end in the eight handed on. -/
def dupAt (s : ℕ) (hs : s ≤ 8) (j : Fin 8) (r : Fin 256) (q : Fin 704) : EReal :=
  if h : r.val + s < 256 then dup x0 x2 x4 j ⟨r.val + s, h⟩ q else cs (ix3 j ⟨r.val + s - 256, by omega⟩ q)

/-- The gradient to block `j` of the convolution's argument. -/
def du (j : Fin 8) (r : Fin 256) (q : Fin 704) : EReal :=
  x3 (ix3 j 2 q) * dup x0 x2 x4 j r q + x3 (ix3 j 1 q) * dupAt x0 x2 x4 cs 1 (by omega) j r q
    + x3 (ix3 j 0 q) * dupAt x0 x2 x4 cs 2 (by omega) j r q

/-- What a tile adds to the sums for the convolution's weights and shift. -/
def dcPart (s : ℕ) (j : Fin 8) (q : Fin 704) : EReal :=
  if s = 0 then ∑ r : Fin 256, x1 (ix3 j r q) * dupAt x0 x2 x4 cs 2 (by omega) j r q
  else if s = 1 then ∑ r : Fin 256, x1 (ix3 j r q) * dupAt x0 x2 x4 cs 1 (by omega) j r q
  else if s = 2 then ∑ r : Fin 256, x1 (ix3 j r q) * dup x0 x2 x4 j r q
  else if s = 3 then ∑ r : Fin 256, dup x0 x2 x4 j r q
  else 0

/-- The cotangent of the normed rows, as the body adds up the blocks. -/
def dhB (r : Fin 256) (k : Fin 1024) : EReal :=
  let t : Fin 8 → EReal := fun j => ∑ q : Fin 704, du x0 x2 x3 x4 cs j r q * x5 (ix3 j k q)
  0 + t 0 + t 4 + t 1 + t 5 + t 2 + t 6 + t 3 + t 7

/-- The body's own spelling of `dact`. -/
abbrev dactT (j : Fin 4) : FVec Ideal S256x704 .f32 :=
  k0_pay8 x0 (rows x4 ⟨2 * j.val, by omega⟩ 0 352 (by omega)) (rows x4 ⟨2 * j.val + 1, by omega⟩ 0 352 (by omega))

/-- The body's own spelling of the gates' gradient. -/
abbrev gateT (j : Fin 4) : FVec Ideal S256x704 .f32 :=
  k0_pay15 (dactT x0 x4 j) (k0_pay10 (rows x2 ⟨j.val, by omega⟩ 0 256 (by omega))) (k0_pay11 (rows x2 ⟨j.val + 4, by omega⟩ 0 256 (by omega)))
    (k0_pay12 (rows x2 ⟨j.val, by omega⟩ 0 256 (by omega))) k0_pay13

/-- The body's own spelling of the other factors' gradient. -/
abbrev valT (j : Fin 4) : FVec Ideal S256x704 .f32 :=
  k0_pay29 (dactT x0 x4 j) (k0_pay10 (rows x2 ⟨j.val, by omega⟩ 0 256 (by omega)))
    (k0_pay14 (k0_pay12 (rows x2 ⟨j.val, by omega⟩ 0 256 (by omega))) k0_pay13)

theorem dactT_apply (j : Fin 4) (r : Fin 256) (q : Fin 704) : dactT x0 x4 j (ix2 r q) = dact x0 x4 j r q := by
  refine (dact_apply _ _ _ r q).trans ?_
  unfold dact
  refine Finset.sum_congr rfl fun k _ => congrArg _ ?_
  split <;> rw [rows_apply] <;> simp only [Nat.zero_add]

theorem gateT_apply (j : Fin 4) (r : Fin 256) (q : Fin 704) : gateT x0 x2 x4 j (ix2 r q) = dup x0 x2 x4 ⟨j.val, by omega⟩ r q := by
  refine (gate_apply _ _ _ r q).trans ?_
  rw [dactT_apply, rows_apply, rows_apply, dup, dif_pos j.isLt]
  simp only [Nat.zero_add]

theorem valT_apply (j : Fin 4) (r : Fin 256) (q : Fin 704) : valT x0 x2 x4 j (ix2 r q) = dup x0 x2 x4 ⟨j.val + 4, by omega⟩ r q := by
  refine (val_apply _ _ r q).trans ?_
  rw [dactT_apply, rows_apply, dup, dif_neg (by simp)]
  simp only [Nat.zero_add, Nat.add_sub_cancel]

/-- Block `j`'s rows carried on by the tile that follows. -/
abbrev carried (j : Fin 8) : Vec Ideal S1x8x704 .f32 := rows cs j 0 8 (by omega)

/-- Row `s` of block `j` of the convolution's weights. -/
abbrev wRow (j : Fin 8) (s : ℕ) (hs : s + 1 ≤ 3) : Vec Ideal S1x1x704 .f32 := rows x3 j s 1 hs

variable (j : Fin 8) (d : FVec Ideal S256x704 .f32)

theorem ahead_eq (hd : ∀ r q, d (ix2 r q) = dup x0 x2 x4 j r q) (s : ℕ) (hs : s ≤ 8) (r : Fin 256) (q : Fin 704) :
    ahead s hs d (carried cs j) r q = dupAt x0 x2 x4 cs s hs j r q := by
  unfold ahead dupAt
  split
  · exact hd _ _
  · unfold carried; rw [rows_apply]; simp only [Nat.zero_add]

/-- The body's own spelling of `du`, whichever of the two gradients a block takes. -/
theorem adj_eq (hd : ∀ r q, d (ix2 r q) = dup x0 x2 x4 j r q) (r : Fin 256) (q : Fin 704) :
    adj d (carried cs j) (wRow x3 j 2 (by omega)) (wRow x3 j 1 (by omega)) (wRow x3 j 0 (by omega)) (ix2 r q) = du x0 x2 x3 x4 cs j r q := by
  rw [adj_apply, ahead_eq x0 x2 x4 cs j d hd, ahead_eq x0 x2 x4 cs j d hd, hd]
  unfold wRow
  rw [rows_apply, rows_apply, rows_apply]
  rfl

theorem stored_apply (u : FVec Ideal S256x704 .bf16) (z : Fin 1) (r : Fin 256) (q : Fin 704) :
    shapeCast S1x256x704 u shapeCasts_S256x704_S1x256x704 (ix3 z r q) = u (ix2 r q) := by
  pointwise

theorem head_apply (z : Fin 1) (r : Fin 8) (q : Fin 704) :
    shapeCast S1x8x704 (extractStridedSlice S8x704 ![0, 0] d slices_S256x704_o0_0_S8x704) shapeCasts_S8x704_S1x8x704 (ix3 z r q)
      = d (ix2 ⟨r.val, by omega⟩ q) := by
  pointwise

end

end Cert.FfnKernelIdeal.Body

end
-- ==== Proof.FfnPieces.lean ====
/- The stores of the feed-forward gradient's body, block by block: whichever gradient a block takes and whatever stands for the rows
   carried on, each store is a block of one function of its output's indices. -/
module

public import proofs.«01_k».proof.Proof.FfnTile
public import Idealize.ShloMosaic.Lib.WritesUnit
public import Idealize.ShloMosaic.Lib.Pipeline.ReadBack

@[expose] public section

set_option maxRecDepth 16384

noncomputable section

namespace Cert.FfnKernelIdeal.Body

open Cert.FfnKernelIdeal Cert.FfnKernelIdeal.Gen Idealize.ShloMosaic Idealize.ShloMosaic.TcCoe Idealize.SL.Sem

/-- A block of `n` rows from row `o` of slab `j`, stored where it belongs. -/
theorem piece {A B : ℕ} {e : EltTy} (G : (⟨3, ![8, A, B]⟩ : Shape).Idx → Elt Ideal e) (j : Fin 8) (o n : ℕ) (ho : o + n ≤ A)
    (w : (⟨3, ![1, n, B]⟩ : Shape).Idx → Elt Ideal e) (hw : ∀ (r : Fin n) (q : Fin B), w (ix3 0 r q) = G (ix3 j ⟨o + r.val, by omega⟩ q))
    (x : (⟨3, ![1, n, B]⟩ : Shape).Idx) :
    w x = G ((Rect.unit (s := ⟨3, ![8, A, B]⟩) ![j.val, o, 0] ![1, n, B] (slabIn j o n ho)).emb x) := by
  obtain ⟨z, r, q, rfl⟩ : ∃ (z : Fin 1) (r : Fin n) (q : Fin B), x = ix3 z r q := ⟨x 0, x 1, x 2, eq_ix3 x⟩
  obtain rfl : z = 0 := Subsingleton.elim _ _
  refine (hw r q).trans (congrArg G (funext fun a => Fin.ext ?_))
  match a with
  | ⟨0, _⟩ => show j.val = j.val + 1 * 0; omega
  | ⟨1, _⟩ => show o + r.val = o + 1 * r.val; omega
  | ⟨2, _⟩ => show q.val = 0 + 1 * q.val; omega

section
variable (x0 : Vec Ideal S256x1024 .f32) (x1 x2 : Vec Ideal S8x256x704 .bf16) (x3 : Vec Ideal S8x3x704 .f32) (x4 : Vec Ideal S8x352x1024 .bf16)
  (x5 : Vec Ideal S8x1024x704 .bf16) (cs prev : Vec Ideal S8x8x704 .f32)

/-- The output `du` by its indices. -/
abbrev duG (y : S8x256x704.Idx) : EReal := du x0 x2 x3 x4 cs (y 0) (y 1) (y 2)

/-- The eight rows handed on, by their indices. -/
abbrev headG (y : S8x8x704.Idx) : EReal := dup x0 x2 x4 (y 0) ⟨(y 1 : Fin 8).val, lt_trans (show (y 1).val < 8 from (y 1).isLt) (by decide)⟩ (y 2)

/-- The running sums, by their indices. -/
abbrev dcG (y : S8x8x704.Idx) : EReal := prev y + dcPart x0 x1 x2 x4 cs (y 1).val (y 0) (y 2)

abbrev duT (d : FVec Ideal S256x704 .f32) (cr : Vec Ideal S1x8x704 .f32) (j : Fin 8) : FVec Ideal S256x704 .bf16 :=
  adj d cr (wRow x3 j 2 (by omega)) (wRow x3 j 1 (by omega)) (wRow x3 j 0 (by omega))

variable (j : Fin 8) (d : FVec Ideal S256x704 .f32) (hd : ∀ r q, d (ix2 r q) = dup x0 x2 x4 j r q)
include hd

theorem du_piece (x : (⟨3, ![1, 256, 704]⟩ : Shape).Idx) :
    shapeCast S1x256x704 (duT x3 d (carried cs j) j) shapeCasts_S256x704_S1x256x704 x
      = duG x0 x2 x3 x4 cs ((Rect.unit (s := S8x256x704) ![j.val, 0, 0] ![1, 256, 704] (slabIn j 0 256 (by omega))).emb x) :=
  piece (A := 256) (B := 704) (e := .bf16) (duG x0 x2 x3 x4 cs) j 0 256 (by omega) (shapeCast S1x256x704 (duT x3 d (carried cs j) j) shapeCasts_S256x704_S1x256x704) (fun r q => by
    refine (stored_apply _ 0 r q).trans ((adj_eq x0 x2 x3 x4 cs j d hd r q).trans ?_)
    show _ = du x0 x2 x3 x4 cs j ⟨0 + r.val, _⟩ q
    simp only [Nat.zero_add]) x

theorem head_piece (x : (⟨3, ![1, 8, 704]⟩ : Shape).Idx) :
    shapeCast S1x8x704 (extractStridedSlice S8x704 ![0, 0] d slices_S256x704_o0_0_S8x704) shapeCasts_S8x704_S1x8x704 x
      = headG x0 x2 x4 ((Rect.unit (s := S8x8x704) ![j.val, 0, 0] ![1, 8, 704] (slabIn j 0 8 (by omega))).emb x) :=
  piece (A := 8) (B := 704) (e := .f32) (headG x0 x2 x4) j 0 8 (by omega) (shapeCast S1x8x704 (extractStridedSlice S8x704 ![0, 0] d slices_S256x704_o0_0_S8x704) shapeCasts_S8x704_S1x8x704) (fun r q => by
    refine (head_apply d 0 r q).trans ((hd _ q).trans ?_)
    show _ = dup x0 x2 x4 j ⟨0 + r.val, _⟩ q
    simp only [Nat.zero_add]) x

/-- The four sums of a block: each adds to what its row held. -/
theorem dc_piece (s : ℕ) (hs : s < 8) (a b : FVec Ideal S256x704 .f32) (v : Vec Ideal S1x1x704 .f32) (hv : v = rows prev j s 1 (by omega))
    (hp : ∀ q, ∑ r : Fin 256, a (ix2 r q) * b (ix2 r q) = dcPart x0 x1 x2 x4 cs s j q) (x : (⟨3, ![1, 1, 704]⟩ : Shape).Idx) :
    k0_pay24 a b v x = dcG x0 x1 x2 x4 cs prev ((Rect.unit (s := S8x8x704) ![j.val, s, 0] ![1, 1, 704] (slabIn j s 1 (by omega))).emb x) :=
  piece (A := 8) (B := 704) (e := .f32) (dcG x0 x1 x2 x4 cs prev) j s 1 (by omega) (k0_pay24 a b v) (fun r q => by
    obtain rfl : r = 0 := Subsingleton.elim _ _
    rw [colsum_apply, hv, rows_apply, hp]
    rfl) x

theorem dc0_piece (v : Vec Ideal S1x1x704 .f32) (hv : v = rows prev j 0 1 (by omega)) (x : (⟨3, ![1, 1, 704]⟩ : Shape).Idx) :
    k0_pay24 (k0_pay16 (rows x1 j 0 256 (by omega))) (turned 262#32 d (carried cs j)) v x
      = dcG x0 x1 x2 x4 cs prev ((Rect.unit (s := S8x8x704) ![j.val, 0, 0] ![1, 1, 704] (slabIn j 0 1 (by omega))).emb x) :=
  dc_piece x0 x1 x2 x4 cs prev j d hd 0 (by omega) _ _ v hv (fun q => by
    unfold dcPart
    rw [if_pos rfl]
    refine Finset.sum_congr rfl fun r _ => ?_
    rw [turned2_apply, ahead_eq x0 x2 x4 cs j d hd]
    pointwise [k0_pay16]
    rw [rows_apply]; simp only [Nat.zero_add]) x

theorem dc1_piece (v : Vec Ideal S1x1x704 .f32) (hv : v = rows prev j 1 1 (by omega)) (x : (⟨3, ![1, 1, 704]⟩ : Shape).Idx) :
    k0_pay24 (k0_pay16 (rows x1 j 0 256 (by omega))) (turned 263#32 d (carried cs j)) v x
      = dcG x0 x1 x2 x4 cs prev ((Rect.unit (s := S8x8x704) ![j.val, 1, 0] ![1, 1, 704] (slabIn j 1 1 (by omega))).emb x) :=
  dc_piece x0 x1 x2 x4 cs prev j d hd 1 (by omega) _ _ v hv (fun q => by
    unfold dcPart
    rw [if_neg (by decide), if_pos rfl]
    refine Finset.sum_congr rfl fun r _ => ?_
    rw [turned1_apply, ahead_eq x0 x2 x4 cs j d hd]
    pointwise [k0_pay16]
    rw [rows_apply]; simp only [Nat.zero_add]) x

theorem dc2_piece (v : Vec Ideal S1x1x704 .f32) (hv : v = rows prev j 2 1 (by omega)) (x : (⟨3, ![1, 1, 704]⟩ : Shape).Idx) :
    k0_pay24 (k0_pay16 (rows x1 j 0 256 (by omega))) d v x
      = dcG x0 x1 x2 x4 cs prev ((Rect.unit (s := S8x8x704) ![j.val, 2, 0] ![1, 1, 704] (slabIn j 2 1 (by omega))).emb x) :=
  dc_piece x0 x1 x2 x4 cs prev j d hd 2 (by omega) _ _ v hv (fun q => by
    unfold dcPart
    rw [if_neg (by decide), if_neg (by decide), if_pos rfl]
    refine Finset.sum_congr rfl fun r _ => ?_
    rw [hd]
    pointwise [k0_pay16]
    rw [rows_apply]; simp only [Nat.zero_add]) x

theorem dc3_piece (v : Vec Ideal S1x1x704 .f32) (hv : v = rows prev j 3 1 (by omega)) (x : (⟨3, ![1, 1, 704]⟩ : Shape).Idx) :
    k0_pay27 d v x
      = dcG x0 x1 x2 x4 cs prev ((Rect.unit (s := S8x8x704) ![j.val, 3, 0] ![1, 1, 704] (slabIn j 3 1 (by omega))).emb x) :=
  piece (A := 8) (B := 704) (e := .f32) (dcG x0 x1 x2 x4 cs prev) j 3 1 (by omega) (k0_pay27 d v) (fun r q => by
    obtain rfl : r = 0 := Subsingleton.elim _ _
    rw [colsum1_apply, hv, rows_apply]
    refine congrArg _ ?_
    show _ = dcPart x0 x1 x2 x4 cs 3 j q
    unfold dcPart
    rw [if_neg (by decide), if_neg (by decide), if_neg (by decide), if_pos rfl]
    exact Finset.sum_congr rfl fun r _ => hd r q) x

end

section
variable (x0 : Vec Ideal S256x1024 .f32) (x1 x2 : Vec Ideal S8x256x704 .bf16) (x3 : Vec Ideal S8x3x704 .f32) (x4 : Vec Ideal S8x352x1024 .bf16)
  (x5 : Vec Ideal S8x1024x704 .bf16) (cs prev : Vec Ideal S8x8x704 .f32) (x6 : Vec Ideal S256x1024 .f32) (x7 : Vec Ideal S1x1024 .f32)

/-- One group of stores per block, the blocks in the body's order, last first. -/
abbrev perBlock {s : Shape} {e : EltTy} (P : Fin 8 → FVec Ideal S256x704 .f32 → List (View.Piece (Elt Ideal) s e)) : List (View.Piece (Elt Ideal) s e) :=
  P 7 (valT x0 x2 x4 3) ++ (P 3 (gateT x0 x2 x4 3) ++ (P 6 (valT x0 x2 x4 2) ++ (P 2 (gateT x0 x2 x4 2) ++ (P 5 (valT x0 x2 x4 1)
    ++ (P 1 (gateT x0 x2 x4 1) ++ (P 4 (valT x0 x2 x4 0) ++ P 0 (gateT x0 x2 x4 0)))))))

theorem PiecesOf.append {s : Shape} {e : EltTy} (G : s.Idx → Elt Ideal e) : ∀ {L L' : List (View.Piece (Elt Ideal) s e)},
    View.PiecesOf G L → View.PiecesOf G L' → View.PiecesOf G (L ++ L')
  | [], _, _, h => h
  | _ :: _, _, h, h' => ⟨h.1, PiecesOf.append G h.2 h'⟩

theorem perBlock_of {s : Shape} {e : EltTy} (G : s.Idx → Elt Ideal e) (P : Fin 8 → FVec Ideal S256x704 .f32 → List (View.Piece (Elt Ideal) s e))
    (h : ∀ j d, (∀ r q, d (ix2 r q) = dup x0 x2 x4 j r q) → View.PiecesOf G (P j d)) : View.PiecesOf G (perBlock x0 x2 x4 P) := by
  have hg := fun (k : Fin 4) (j : Fin 8) (e : j.val = k.val) => h j (gateT x0 x2 x4 k) (by
    rw [show j = ⟨k.val, by omega⟩ from Fin.ext e]
    exact gateT_apply x0 x2 x4 k)
  have hv := fun (k : Fin 4) (j : Fin 8) (e : j.val = k.val + 4) => h j (valT x0 x2 x4 k) (by
    rw [show j = ⟨k.val + 4, by omega⟩ from Fin.ext e]
    exact valT_apply x0 x2 x4 k)
  have ap := fun L L' => PiecesOf.append G (L := L) (L' := L')
  exact ap _ _ (hv 3 7 rfl) (ap _ _ (hg 3 3 rfl) (ap _ _ (hv 2 6 rfl) (ap _ _ (hg 2 2 rfl) (ap _ _ (hv 1 5 rfl)
    (ap _ _ (hg 1 1 rfl) (ap _ _ (hv 0 4 rfl) (hg 0 0 rfl)))))))

theorem perBlock_mem {s : Shape} {e : EltTy} (P : Fin 8 → FVec Ideal S256x704 .f32 → List (View.Piece (Elt Ideal) s e)) (j : Fin 8) :
    ∃ d, ∀ p ∈ P j d, p ∈ perBlock x0 x2 x4 P := by
  unfold perBlock
  simp only [List.mem_append]
  match j with
  | 0 => exact ⟨gateT x0 x2 x4 0, by tauto⟩
  | 1 => exact ⟨gateT x0 x2 x4 1, by tauto⟩
  | 2 => exact ⟨gateT x0 x2 x4 2, by tauto⟩
  | 3 => exact ⟨gateT x0 x2 x4 3, by tauto⟩
  | 4 => exact ⟨valT x0 x2 x4 0, by tauto⟩
  | 5 => exact ⟨valT x0 x2 x4 1, by tauto⟩
  | 6 => exact ⟨valT x0 x2 x4 2, by tauto⟩
  | 7 => exact ⟨valT x0 x2 x4 3, by tauto⟩

/-- The stores into `du`. -/
abbrev duPieces : List (View.Piece (Elt Ideal) S8x256x704 .bf16) := perBlock x0 x2 x4 fun j d =>
  [⟨Rect.unit ![j.val, 0, 0] ![1, 256, 704] (slabIn j 0 256 (by omega)), shapeCast S1x256x704 (duT x3 d (carried cs j) j) shapeCasts_S256x704_S1x256x704⟩]

theorem duPieces_of : View.PiecesOf (duG x0 x2 x3 x4 cs) (duPieces x0 x2 x3 x4 cs) :=
  perBlock_of x0 x2 x4 _ _ fun j d hd => ⟨du_piece x0 x2 x3 x4 cs j d hd, trivial⟩

/-- The store of one block's rows handed on. -/
def headBlock (j : Fin 8) (d : FVec Ideal S256x704 .f32) : List (View.Piece (Elt Ideal) S8x8x704 .f32) :=
  [⟨Rect.unit ![j.val, 0, 0] ![1, 8, 704] (slabIn j 0 8 (by omega)),
    shapeCast S1x8x704 (extractStridedSlice S8x704 ![0, 0] d slices_S256x704_o0_0_S8x704) shapeCasts_S8x704_S1x8x704⟩]

/-- The stores of the rows handed on. -/
abbrev headPieces : List (View.Piece (Elt Ideal) S8x8x704 .f32) := perBlock x0 x2 x4 headBlock

theorem headPieces_of : View.PiecesOf (headG x0 x2 x4) (headPieces x0 x2 x4) :=
  perBlock_of x0 x2 x4 _ _ fun j d hd => ⟨head_piece x0 x2 x4 j d hd, trivial⟩

theorem headPieces_cover (y : S8x8x704.Idx) : ∃ p ∈ headPieces x0 x2 x4, y ∈ p.1.set := by
  obtain ⟨j, s, q, rfl⟩ : ∃ (j : Fin 8) (s : Fin 8) (q : Fin 704), y = ix3 j s q := ⟨y 0, y 1, y 2, eq_ix3 y⟩
  obtain ⟨d, hd⟩ := perBlock_mem x0 x2 x4 headBlock j
  refine ⟨_, hd _ (.head _), ?_⟩
  rw [Rect.mem_set_unit]
  intro a
  match a with
  | ⟨0, _⟩ => exact ⟨le_refl _, Nat.lt_succ_self _⟩
  | ⟨1, _⟩ => exact ⟨Nat.zero_le _, by show s.val < 0 + 8; omega⟩
  | ⟨2, _⟩ => exact ⟨Nat.zero_le _, by show q.val < 0 + 704; omega⟩

/-- The stores of one block's running sums. -/
def dcBlock (j : Fin 8) (d : FVec Ideal S256x704 .f32) : List (View.Piece (Elt Ideal) S8x8x704 .f32) :=
  [⟨Rect.unit ![j.val, 3, 0] ![1, 1, 704] (slabIn j 3 1 (by omega)), k0_pay27 d (rows prev j 3 1 (by omega))⟩,
   ⟨Rect.unit ![j.val, 2, 0] ![1, 1, 704] (slabIn j 2 1 (by omega)), k0_pay24 (k0_pay16 (rows x1 j 0 256 (by omega))) d (rows prev j 2 1 (by omega))⟩,
   ⟨Rect.unit ![j.val, 1, 0] ![1, 1, 704] (slabIn j 1 1 (by omega)),
     k0_pay24 (k0_pay16 (rows x1 j 0 256 (by omega))) (turned 263#32 d (carried cs j)) (rows prev j 1 1 (by omega))⟩,
   ⟨Rect.unit ![j.val, 0, 0] ![1, 1, 704] (slabIn j 0 1 (by omega)),
     k0_pay24 (k0_pay16 (rows x1 j 0 256 (by omega))) (turned 262#32 d (carried cs j)) (rows prev j 0 1 (by omega))⟩]

/-- The stores of the running sums. -/
abbrev dcPieces : List (View.Piece (Elt Ideal) S8x8x704 .f32) := perBlock x0 x2 x4 (dcBlock x1 cs prev)

theorem dcPieces_of : View.PiecesOf (dcG x0 x1 x2 x4 cs prev) (dcPieces x0 x1 x2 x4 cs prev) :=
  perBlock_of x0 x2 x4 _ _ fun j d hd => ⟨dc3_piece x0 x1 x2 x4 cs prev j d hd _ rfl, dc2_piece x0 x1 x2 x4 cs prev j d hd _ rfl,
    dc1_piece x0 x1 x2 x4 cs prev j d hd _ rfl, dc0_piece x0 x1 x2 x4 cs prev j d hd _ rfl, trivial⟩

/-- The first four rows of every block are stored into. -/
theorem dcPieces_cover (y : S8x8x704.Idx) (hy : (y 1).val < 4) : ∃ p ∈ dcPieces x0 x1 x2 x4 cs prev, y ∈ p.1.set := by
  obtain ⟨j, s, q, rfl⟩ : ∃ (j : Fin 8) (s : Fin 8) (q : Fin 704), y = ix3 j s q := ⟨y 0, y 1, y 2, eq_ix3 y⟩
  have hs : s.val < 4 := hy
  obtain ⟨d, hd⟩ := perBlock_mem x0 x2 x4 (dcBlock x1 cs prev) j
  obtain ⟨p, hp, e⟩ : ∃ p ∈ dcBlock x1 cs prev j d, p.1 = Rect.unit (s := S8x8x704) ![j.val, s.val, 0] ![1, 1, 704] (slabIn j s.val 1 (by omega)) := by
    unfold dcBlock
    match s, hs with
    | 3, _ => exact ⟨_, .head _, rfl⟩
    | 2, _ => exact ⟨_, .tail _ (.head _), rfl⟩
    | 1, _ => exact ⟨_, .tail _ (.tail _ (.head _)), rfl⟩
    | 0, _ => exact ⟨_, .tail _ (.tail _ (.tail _ (.head _))), rfl⟩
  refine ⟨p, hd p hp, ?_⟩
  rw [e, Rect.mem_set_unit]
  intro a
  match a with
  | ⟨0, _⟩ => exact ⟨le_refl _, Nat.lt_succ_self _⟩
  | ⟨1, _⟩ => exact ⟨le_refl _, Nat.lt_succ_self _⟩
  | ⟨2, _⟩ => exact ⟨Nat.zero_le _, by show q.val < 0 + 704; omega⟩

/-- What those stores leave, over anything that reads as `prev`. -/
theorem dc_read {κ : Kind} {sp : Space} (v : View sig κ sp S8x8x704 .f32) (f : v.ty.Contents (Elt Ideal)) (hf : v.read (Elt Ideal) f = prev)
    (y : S8x8x704.Idx) : v.read (Elt Ideal) (v.writes (Elt Ideal) f (dcPieces x0 x1 x2 x4 cs prev)) y = dcG x0 x1 x2 x4 cs prev y := by
  by_cases h : ∃ p ∈ dcPieces x0 x1 x2 x4 cs prev, y ∈ p.1.set
  · exact View.read_writes_apply_of_pieces _ _ (dcG x0 x1 x2 x4 cs prev) _ (View.PiecesOf.mem (dcPieces_of x0 x1 x2 x4 cs prev)) y h
  · rw [View.read_writes_apply_of_forall_not_mem _ _ _ _ (fun p hp hm => h ⟨p, hp, hm⟩), hf]
    have hy : ¬ (y 1).val < 4 := fun hy => h (dcPieces_cover x0 x1 x2 x4 cs prev y hy)
    show prev y = prev y + dcPart x0 x1 x2 x4 cs (y 1).val (y 0) (y 2)
    unfold dcPart
    rw [if_neg (by omega), if_neg (by omega), if_neg (by omega), if_neg (by omega), add_zero]

/-- The cotangent of the normed rows as the body spells it. -/
abbrev dhT : FVec Ideal S256x1024 .f32 :=
  let b := fun (acc : FVec Ideal S256x1024 .f32) (j : Fin 8) (d : FVec Ideal S256x704 .f32) =>
    k0_pay28 acc (duT x3 d (carried cs j) j) (rows x5 j 0 1024 (by omega))
  b (b (b (b (b (b (b (b k0_pay7 0 (gateT x0 x2 x4 0)) 4 (valT x0 x2 x4 0)) 1 (gateT x0 x2 x4 1)) 5 (valT x0 x2 x4 1)) 2 (gateT x0 x2 x4 2))
    6 (valT x0 x2 x4 2)) 3 (gateT x0 x2 x4 3)) 7 (valT x0 x2 x4 3)

theorem dhT_step (acc : FVec Ideal S256x1024 .f32) (j : Fin 8) (d : FVec Ideal S256x704 .f32) (hd : ∀ r q, d (ix2 r q) = dup x0 x2 x4 j r q)
    (r : Fin 256) (k : Fin 1024) : k0_pay28 acc (duT x3 d (carried cs j) j) (rows x5 j 0 1024 (by omega)) (ix2 r k)
      = acc (ix2 r k) + ∑ q : Fin 704, du x0 x2 x3 x4 cs j r q * x5 (ix3 j k q) := by
  rw [back_apply]
  refine congrArg _ (Finset.sum_congr rfl fun q _ => ?_)
  rw [rows_apply]
  simp only [Nat.zero_add]
  exact congrArg (· * _) (adj_eq x0 x2 x3 x4 cs j d hd r q)

theorem dhT_apply (r : Fin 256) (k : Fin 1024) : dhT x0 x2 x3 x4 x5 cs (ix2 r k) = dhB x0 x2 x3 x4 x5 cs r k := by
  unfold dhT
  dsimp only
  have st := dhT_step x0 x2 x3 x4 x5 cs
  rw [st _ 7 _ (valT_apply x0 x2 x4 3), st _ 3 _ (gateT_apply x0 x2 x4 3), st _ 6 _ (valT_apply x0 x2 x4 2), st _ 2 _ (gateT_apply x0 x2 x4 2),
    st _ 5 _ (valT_apply x0 x2 x4 1), st _ 1 _ (gateT_apply x0 x2 x4 1), st _ 4 _ (valT_apply x0 x2 x4 0), st _ 0 _ (gateT_apply x0 x2 x4 0)]
  pointwise [k0_pay7, dhB]

theorem rinv_apply (r : Fin 256) : k0_pay139 x6 (ix2 r 0) = Cert.Step.rinv (fun q => x6 (ix2 r q)) := by
  pointwise [k0_pay139, Cert.Step.rinv, Cert.Step.meanSq]

theorem normed_apply (r : Fin 256) (k : Fin 1024) : k0_pay140 x6 (ix2 r k) = x6 (ix2 r k) * Cert.Step.rinv (fun q => x6 (ix2 r q)) := by
  pointwise [k0_pay140]
  rw [rinv_apply]

/-- The rows' gradient as the body spells it, from the cotangent `d` of the normed rows. -/
theorem dx_apply (d : FVec Ideal S256x1024 .f32) (r : Fin 256) (k : Fin 1024) :
    k0_pay1 x0 (k0_pay139 x6) (k0_pay140 x6) (k0_pay142 d x7) (k0_pay143 d x6 x7) (ix2 r k)
      = x0 (ix2 r k) + Cert.Step.normGradK (fun q => x6 (ix2 r q)) (fun q => d (ix2 r q) * x7 (ix2 0 q)) k := by
  pointwise [k0_pay1, k0_pay142, k0_pay143, Cert.Step.normGradK]
  simp only [rinv_apply, normed_apply]

/-- The column sums that a point adds to the scale's gradient. -/
def dgPart (k : Fin 1024) : EReal :=
  ∑ r : Fin 256, dhB x0 x2 x3 x4 x5 cs r k * (x6 (ix2 r k) * Cert.Step.rinv (fun q => x6 (ix2 r q)))

theorem dg_apply (v : Vec Ideal S1x1024 .f32) (k : Fin 1024) :
    k0_pay141 (dhT x0 x2 x3 x4 x5 cs) x6 v (ix2 0 k) = v (ix2 0 k) + dgPart x0 x2 x3 x4 x5 cs x6 k := by
  have e := dhT_apply x0 x2 x3 x4 x5 cs
  generalize dhT x0 x2 x3 x4 x5 cs = d at e
  pointwise [k0_pay141, dgPart]
  simp only [normed_apply, e]

end

end Cert.FfnKernelIdeal.Body

end
-- ==== Proof.FfnBodyB.lean ====
/- What a grid point past the first of the feed-forward gradient leaves in its results and in the rows it hands on, entry by entry. -/
module

public import proofs.«01_k».proof.Proof.FfnPieces
public import proofs.«01_k».proof.Proof.Gen.FfnKernelIdeal.Value

@[expose] public section

set_option maxRecDepth 16384

noncomputable section

namespace Cert.FfnKernelIdeal.Body

open Cert.FfnKernelIdeal Cert.FfnKernelIdeal.Gen Idealize.ShloMosaic Idealize.ShloMosaic.TcCoe Idealize.SL.Sem

/-- The offsets of a whole block. -/
theorem hz : (![0, 0] : Fin 2 → Nat) = fun _ => 0 := funext fun a => by fin_cases a <;> rfl

theorem hz3 : (![0, 0, 0] : Fin 3 → Nat) = fun _ => 0 := funext fun a => by fin_cases a <;> rfl

theorem row0_apply (v : Vec Ideal S8x1024 .f32) (k : Fin 1024) : View.ld v (Rect.unit ![0, 0] ![1, 1024] inb_S8x1024_S1x1024_0_0) (ix2 0 k) = v (ix2 0 k) := by
  pointwise

section
variable (c : Dev nD) (i : grid0.Coords)
  (a1 : Memref sig .tc .vmem S256x1024 .f32) (h1 : a1.IsWhole) (a2 : Memref sig .tc .vmem S8x256x704 .bf16) (h2 : a2.IsWhole)
  (a3 : Memref sig .tc .vmem S8x256x704 .bf16) (h3 : a3.IsWhole) (a4 : Memref sig .tc .vmem S8x3x704 .f32) (h4 : a4.IsWhole)
  (a5 : Memref sig .tc .vmem S8x352x1024 .bf16) (h5 : a5.IsWhole) (a6 : Memref sig .tc .vmem S8x1024x704 .bf16) (h6 : a6.IsWhole)
  (a7 : Memref sig .tc .vmem S256x1024 .f32) (h7 : a7.IsWhole) (a8 : Memref sig .tc .vmem S1x1024 .f32) (h8 : a8.IsWhole)
  (a9 : Memref sig .tc .vmem S8x256x704 .bf16) (h9 : a9.IsWhole) (a10 : Memref sig .tc .vmem S8x8x704 .f32) (h10 : a10.IsWhole)
  (a11 : Memref sig .tc .vmem S256x1024 .f32) (h11 : a11.IsWhole) (a12 : Memref sig .tc .vmem S8x1024 .f32) (h12 : a12.IsWhole)
  (a13 : Memref sig .tc .vmem S256x1024 .bf16) (h13 : a13.IsWhole) (a14 : Memref sig .tc .vmem S8x8x704 .f32) (h14 : a14.IsWhole)
  (x0 : Vec Ideal S256x1024 .f32) (x1 : Vec Ideal S8x256x704 .bf16) (x2 : Vec Ideal S8x256x704 .bf16) (x3 : Vec Ideal S8x3x704 .f32)
  (x4 : Vec Ideal S8x352x1024 .bf16) (x5 : Vec Ideal S8x1024x704 .bf16) (x6 : Vec Ideal S256x1024 .f32) (x7 : Vec Ideal S1x1024 .f32)
  (xo9 : Vec Ideal S8x8x704 .f32) (xo11 : Vec Ideal S8x1024 .f32) (xs0 : Vec Ideal S8x8x704 .f32)

theorem out_B_8 (hc : ¬cond0_0 i) (y : S8x256x704.Idx) :
    out0_B_8 c i a1 h1 a2 h2 a3 h3 a4 h4 a5 h5 a6 h6 a7 h7 a8 h8 a9 h9 a10 h10 a11 h11 a12 h12 a13 h13 a14 h14 hc x0 x1 x2 x3 x4 x5 x6 x7 xo9 xo11 xs0 y
      = duG x0 x2 x3 x4 xs0 y := by
  have hcov := cover0_B_8 c i a1 h1 a2 h2 a3 h3 a4 h4 a5 h5 a6 h6 a7 h7 a8 h8 a9 h9 a10 h10 a11 h11 a12 h12 a13 h13 a14 h14 hc x0 x1 x2 x3 x4 x5 x6 x7 xo9 xo11 xs0 y
  unfold out0_B_8
  refine View.read_writes_apply_of_pieces _ _ (duG x0 x2 x3 x4 xs0) _ (View.PiecesOf.mem ?_) y hcov
  clear hcov
  unfold kernelRun0_B
  dsimp only
  sl_unfold_words
  simp only [View.readAt_eq_ld, h1.read_unread, h2.read_unread, h3.read_unread, h4.read_unread, h5.read_unread, h6.read_unread, h7.read_unread, h8.read_unread, View.ld_unit_zero (S := S256x1024) hz, View.ld_unit_zero (S := S1x1024) hz, h14.read_unread, h10.read_unread, h12.read_unread]
  exact duPieces_of x0 x2 x3 x4 xs0

theorem sout_B_0 (hc : ¬cond0_0 i) (y : S8x8x704.Idx) :
    sout0_B_0 c i a1 h1 a2 h2 a3 h3 a4 h4 a5 h5 a6 h6 a7 h7 a8 h8 a9 h9 a10 h10 a11 h11 a12 h12 a13 h13 a14 h14 hc x0 x1 x2 x3 x4 x5 x6 x7 xo9 xo11 xs0 y
      = headG x0 x2 x4 y := by
  have hcov := scover0_B_0 c i a1 h1 a2 h2 a3 h3 a4 h4 a5 h5 a6 h6 a7 h7 a8 h8 a9 h9 a10 h10 a11 h11 a12 h12 a13 h13 a14 h14 hc x0 x1 x2 x3 x4 x5 x6 x7 xo9 xo11 xs0 y
  unfold sout0_B_0
  refine View.read_writes_apply_of_pieces _ _ (headG x0 x2 x4) _ (View.PiecesOf.mem ?_) y hcov
  clear hcov
  unfold kernelRun0_B
  dsimp only
  sl_unfold_words
  simp only [View.readAt_eq_ld, h1.read_unread, h2.read_unread, h3.read_unread, h4.read_unread, h5.read_unread, h6.read_unread, h7.read_unread, h8.read_unread, View.ld_unit_zero (S := S256x1024) hz, View.ld_unit_zero (S := S1x1024) hz, h14.read_unread, h10.read_unread, h12.read_unread]
  exact headPieces_of x0 x2 x4

theorem out_B_9 (hc : ¬cond0_0 i) (y : S8x8x704.Idx) :
    out0_B_9 c i a1 h1 a2 h2 a3 h3 a4 h4 a5 h5 a6 h6 a7 h7 a8 h8 a9 h9 a10 h10 a11 h11 a12 h12 a13 h13 a14 h14 hc x0 x1 x2 x3 x4 x5 x6 x7 xo9 xo11 xs0 y
      = dcG x0 x1 x2 x4 xs0 xo9 y := by
  unfold out0_B_9
  unfold kernelRun0_B
  dsimp only
  sl_unfold_words
  simp only [View.readAt_eq_ld, h1.read_unread, h2.read_unread, h3.read_unread, h4.read_unread, h5.read_unread, h6.read_unread, h7.read_unread, h8.read_unread, View.ld_unit_zero (S := S256x1024) hz, View.ld_unit_zero (S := S1x1024) hz, h14.read_unread, h10.read_unread, h12.read_unread]
  exact dc_read x0 x1 x2 x4 xs0 xo9 _ _ (h10.read_unread _) y

theorem out_B_10 (hc : ¬cond0_0 i) (r : Fin 256) (k : Fin 1024) :
    out0_B_10 c i a1 h1 a2 h2 a3 h3 a4 h4 a5 h5 a6 h6 a7 h7 a8 h8 a9 h9 a10 h10 a11 h11 a12 h12 a13 h13 a14 h14 hc x0 x1 x2 x3 x4 x5 x6 x7 xo9 xo11 xs0 (ix2 r k)
      = x0 (ix2 r k) + Cert.Step.normGradK (fun q => x6 (ix2 r q)) (fun q => dhB x0 x2 x3 x4 x5 xs0 r q * x7 (ix2 0 q)) k := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 a14 h14 hc x0 x1 x2 x3 x4 x5 x6 x7 xo9 xo11 xs0)]
  unfold kernelRun0_B
  dsimp only
  sl_unfold_words
  simp only [View.readAt_eq_ld, h1.read_unread, h2.read_unread, h3.read_unread, h4.read_unread, h5.read_unread, h6.read_unread, h7.read_unread, h8.read_unread, View.ld_unit_zero (S := S256x1024) hz, View.ld_unit_zero (S := S1x1024) hz, h14.read_unread, h10.read_unread, h12.read_unread]
  rw [View.canon_unit_zero hz]
  refine (dx_apply x0 x6 x7 (dhT x0 x2 x3 x4 x5 xs0) r k).trans ?_
  simp only [dhT_apply]

theorem out_B_12 (hc : ¬cond0_0 i) (r : Fin 256) (k : Fin 1024) :
    out0_B_12 c i a1 h1 a2 h2 a3 h3 a4 h4 a5 h5 a6 h6 a7 h7 a8 h8 a9 h9 a10 h10 a11 h11 a12 h12 a13 h13 a14 h14 hc x0 x1 x2 x3 x4 x5 x6 x7 xo9 xo11 xs0 (ix2 r k)
      = x0 (ix2 r k) + Cert.Step.normGradK (fun q => x6 (ix2 r q)) (fun q => dhB x0 x2 x3 x4 x5 xs0 r q * x7 (ix2 0 q)) k := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 hc x0 x1 x2 x3 x4 x5 x6 x7 xo9 xo11 xs0)]
  unfold kernelRun0_B
  dsimp only
  sl_unfold_words
  simp only [View.readAt_eq_ld, h1.read_unread, h2.read_unread, h3.read_unread, h4.read_unread, h5.read_unread, h6.read_unread, h7.read_unread, h8.read_unread, View.ld_unit_zero (S := S256x1024) hz, View.ld_unit_zero (S := S1x1024) hz, h14.read_unread, h10.read_unread, h12.read_unread]
  rw [View.canon_unit_zero hz]
  refine (dx_apply x0 x6 x7 (dhT x0 x2 x3 x4 x5 xs0) r k).trans ?_
  simp only [dhT_apply]

theorem out_B_11 (hc : ¬cond0_0 i) (r : Fin 8) (k : Fin 1024) :
    out0_B_11 c i a1 h1 a2 h2 a3 h3 a4 h4 a5 h5 a6 h6 a7 h7 a8 h8 a9 h9 a10 h10 a11 h11 a12 h12 a13 h13 a14 h14 hc x0 x1 x2 x3 x4 x5 x6 x7 xo9 xo11 xs0 (ix2 r k)
      = if r = 0 then xo11 (ix2 0 k) + dgPart x0 x2 x3 x4 x5 xs0 x6 k else xo11 (ix2 r k) := by
  unfold out0_B_11
  unfold kernelRun0_B
  dsimp only
  sl_unfold_words
  simp only [View.readAt_eq_ld, h1.read_unread, h2.read_unread, h3.read_unread, h4.read_unread, h5.read_unread, h6.read_unread, h7.read_unread, h8.read_unread, View.ld_unit_zero (S := S256x1024) hz, View.ld_unit_zero (S := S1x1024) hz, h14.read_unread, h10.read_unread, h12.read_unread]
  refine (View.read_writes_cons_rows (o := 0) (W := 1) a12.view _ inb_S8x1024_S1x1024_0_0 _ _ (ix2 r k) rfl rfl rfl).trans ?_
  by_cases hr : r = 0
  · subst hr
    rw [dif_pos ⟨Nat.zero_le _, Nat.one_pos⟩, if_pos rfl]
    refine (congrArg (k0_pay141 _ _ _) (show _ = (ix2 (0 : Fin 1) k : S1x1024.Idx) from
      funext fun a => Fin.ext (by match a with | ⟨0, _⟩ => rfl | ⟨1, _⟩ => exact Nat.sub_zero _))).trans ?_
    refine (dg_apply x0 x2 x3 x4 x5 xs0 x6 _ k).trans (congrArg (· + _) ?_)
    exact row0_apply xo11 k
  · rw [dif_neg (fun h => hr (Fin.ext (by simpa using h.2))), if_neg hr]
    exact congrFun (h12.read_unread _) _

end

end Cert.FfnKernelIdeal.Body

end
-- ==== Proof.FfnBodyA.lean ====
/- What the first grid point of the feed-forward gradient leaves in its results and in the rows it hands on, entry by entry. -/
module

public import proofs.«01_k».proof.Proof.FfnBodyB
public import proofs.«01_k».proof.Proof.Gen.FfnKernelIdeal.Value

@[expose] public section

set_option maxRecDepth 16384

noncomputable section

namespace Cert.FfnKernelIdeal.Body

open Cert.FfnKernelIdeal Cert.FfnKernelIdeal.Gen Idealize.ShloMosaic Idealize.ShloMosaic.TcCoe Idealize.SL.Sem

/-- What the first point fills the rows handed on, the running sums and the scale's gradient with. -/
abbrev zeroRows : Vec Ideal S8x8x704 .f32 := k0_pay3 (F := Ideal)

theorem readCov_fill3 {κ : Kind} {sp : Space} (v : View sig κ sp S8x8x704 .f32) (inb) (Z : Vec Ideal S8x8x704 .f32)
    (L : List (View.Piece (Elt Ideal) S8x8x704 .f32)) (r : Rect S8x8x704) :
    v.readCov (⟨Rect.unit (s := S8x8x704) ![0, 0, 0] ![8, 8, 704] inb, Z⟩ :: L) r.toLoadRect = View.ld Z r :=
  View.readCov_fill v inb Z L r (congrFun hz3)

@[inherit_doc zeroRows] abbrev zeroSums : Vec Ideal S8x8x704 .f32 := k0_pay4 (F := Ideal)

@[inherit_doc zeroRows] abbrev zeroScale : Vec Ideal S8x1024 .f32 := k0_pay5 (F := Ideal)

section
variable (c : Dev nD) (i : grid0.Coords)
  (a1 : Memref sig .tc .vmem S256x1024 .f32) (h1 : a1.IsWhole) (a2 : Memref sig .tc .vmem S8x256x704 .bf16) (h2 : a2.IsWhole)
  (a3 : Memref sig .tc .vmem S8x256x704 .bf16) (h3 : a3.IsWhole) (a4 : Memref sig .tc .vmem S8x3x704 .f32) (h4 : a4.IsWhole)
  (a5 : Memref sig .tc .vmem S8x352x1024 .bf16) (h5 : a5.IsWhole) (a6 : Memref sig .tc .vmem S8x1024x704 .bf16) (h6 : a6.IsWhole)
  (a7 : Memref sig .tc .vmem S256x1024 .f32) (h7 : a7.IsWhole) (a8 : Memref sig .tc .vmem S1x1024 .f32) (h8 : a8.IsWhole)
  (a9 : Memref sig .tc .vmem S8x256x704 .bf16) (h9 : a9.IsWhole) (a10 : Memref sig .tc .vmem S8x8x704 .f32) (h10 : a10.IsWhole)
  (a11 : Memref sig .tc .vmem S256x1024 .f32) (h11 : a11.IsWhole) (a12 : Memref sig .tc .vmem S8x1024 .f32) (h12 : a12.IsWhole)
  (a13 : Memref sig .tc .vmem S256x1024 .bf16) (h13 : a13.IsWhole) (a14 : Memref sig .tc .vmem S8x8x704 .f32) (h14 : a14.IsWhole)
  (x0 : Vec Ideal S256x1024 .f32) (x1 : Vec Ideal S8x256x704 .bf16) (x2 : Vec Ideal S8x256x704 .bf16) (x3 : Vec Ideal S8x3x704 .f32)
  (x4 : Vec Ideal S8x352x1024 .bf16) (x5 : Vec Ideal S8x1024x704 .bf16) (x6 : Vec Ideal S256x1024 .f32) (x7 : Vec Ideal S1x1024 .f32)

theorem out_A_8 (hc : cond0_0 i) (y : S8x256x704.Idx) :
    out0_A_8 c i a1 h1 a2 h2 a3 h3 a4 h4 a5 h5 a6 h6 a7 h7 a8 h8 a9 h9 a10 h10 a11 h11 a12 h12 a13 h13 a14 h14 hc x0 x1 x2 x3 x4 x5 x6 x7 y
      = duG x0 x2 x3 x4 zeroRows y := by
  have hcov := cover0_A_8 c i a1 h1 a2 h2 a3 h3 a4 h4 a5 h5 a6 h6 a7 h7 a8 h8 a9 h9 a10 h10 a11 h11 a12 h12 a13 h13 a14 h14 hc x0 x1 x2 x3 x4 x5 x6 x7 y
  unfold out0_A_8
  refine View.read_writes_apply_of_pieces _ _ (duG x0 x2 x3 x4 zeroRows) _ (View.PiecesOf.mem ?_) y hcov
  clear hcov
  unfold kernelRun0_A
  dsimp only
  sl_unfold_words
  simp only [View.readAt_eq_ld, h1.read_unread, h2.read_unread, h3.read_unread, h4.read_unread, h5.read_unread, h6.read_unread, h7.read_unread, h8.read_unread, View.ld_unit_zero (S := S256x1024) hz, View.ld_unit_zero (S := S1x1024) hz]
  try simp (disch := decide) only [View.readCov_skip, readCov_fill3]
  exact duPieces_of x0 x2 x3 x4 zeroRows

theorem sout_A_0 (hc : cond0_0 i) (y : S8x8x704.Idx) :
    sout0_A_0 c i a1 h1 a2 h2 a3 h3 a4 h4 a5 h5 a6 h6 a7 h7 a8 h8 a9 h9 a10 h10 a11 h11 a12 h12 a13 h13 a14 h14 hc x0 x1 x2 x3 x4 x5 x6 x7 y
      = headG x0 x2 x4 y := by
  unfold sout0_A_0
  unfold kernelRun0_A
  dsimp only
  sl_unfold_words
  simp only [View.readAt_eq_ld, h1.read_unread, h2.read_unread, h3.read_unread, h4.read_unread, h5.read_unread, h6.read_unread, h7.read_unread, h8.read_unread, View.ld_unit_zero (S := S256x1024) hz, View.ld_unit_zero (S := S1x1024) hz]
  try simp (disch := decide) only [View.readCov_skip, readCov_fill3]
  refine (congrFun (congrArg _ (View.writes_append VS0_0 _ (headPieces x0 x2 x4) [_])) y).trans ?_
  exact View.read_writes_apply_of_pieces _ _ (headG x0 x2 x4) _ (View.PiecesOf.mem (headPieces_of x0 x2 x4)) y (headPieces_cover x0 x2 x4 y)

theorem out_A_9 (hc : cond0_0 i) (y : S8x8x704.Idx) :
    out0_A_9 c i a1 h1 a2 h2 a3 h3 a4 h4 a5 h5 a6 h6 a7 h7 a8 h8 a9 h9 a10 h10 a11 h11 a12 h12 a13 h13 a14 h14 hc x0 x1 x2 x3 x4 x5 x6 x7 y
      = dcG x0 x1 x2 x4 zeroRows zeroSums y := by
  unfold out0_A_9
  unfold kernelRun0_A
  dsimp only
  sl_unfold_words
  simp only [View.readAt_eq_ld, h1.read_unread, h2.read_unread, h3.read_unread, h4.read_unread, h5.read_unread, h6.read_unread, h7.read_unread, h8.read_unread, View.ld_unit_zero (S := S256x1024) hz, View.ld_unit_zero (S := S1x1024) hz]
  try simp (disch := decide) only [View.readCov_skip, readCov_fill3]
  refine (congrFun (congrArg _ (View.writes_append VO0_9 _ (dcPieces x0 x1 x2 x4 zeroRows zeroSums) [_])) y).trans ?_
  exact dc_read x0 x1 x2 x4 zeroRows zeroSums _ _ (funext fun z => View.read_writes_cons_unit_of_mem _ _ _ _ [] z z hz3 fun a => (Nat.zero_add _).symm) y

theorem out_A_10 (hc : cond0_0 i) (r : Fin 256) (k : Fin 1024) :
    out0_A_10 c i a1 h1 a2 h2 a3 h3 a4 h4 a5 h5 a6 h6 a7 h7 a8 h8 a9 h9 a10 h10 a11 h11 a12 h12 a13 h13 a14 h14 hc x0 x1 x2 x3 x4 x5 x6 x7 (ix2 r k)
      = x0 (ix2 r k) + Cert.Step.normGradK (fun q => x6 (ix2 r q)) (fun q => dhB x0 x2 x3 x4 x5 zeroRows r q * x7 (ix2 0 q)) k := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 a14 h14 hc x0 x1 x2 x3 x4 x5 x6 x7)]
  unfold kernelRun0_A
  dsimp only
  sl_unfold_words
  simp only [View.readAt_eq_ld, h1.read_unread, h2.read_unread, h3.read_unread, h4.read_unread, h5.read_unread, h6.read_unread, h7.read_unread, h8.read_unread, View.ld_unit_zero (S := S256x1024) hz, View.ld_unit_zero (S := S1x1024) hz]
  try simp (disch := decide) only [View.readCov_skip, readCov_fill3]
  rw [View.canon_unit_zero hz]
  refine (dx_apply x0 x6 x7 (dhT x0 x2 x3 x4 x5 zeroRows) r k).trans ?_
  simp only [dhT_apply]

theorem out_A_12 (hc : cond0_0 i) (r : Fin 256) (k : Fin 1024) :
    out0_A_12 c i a1 h1 a2 h2 a3 h3 a4 h4 a5 h5 a6 h6 a7 h7 a8 h8 a9 h9 a10 h10 a11 h11 a12 h12 a13 h13 a14 h14 hc x0 x1 x2 x3 x4 x5 x6 x7 (ix2 r k)
      = x0 (ix2 r k) + Cert.Step.normGradK (fun q => x6 (ix2 r q)) (fun q => dhB x0 x2 x3 x4 x5 zeroRows r q * x7 (ix2 0 q)) k := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 hc x0 x1 x2 x3 x4 x5 x6 x7)]
  unfold kernelRun0_A
  dsimp only
  sl_unfold_words
  simp only [View.readAt_eq_ld, h1.read_unread, h2.read_unread, h3.read_unread, h4.read_unread, h5.read_unread, h6.read_unread, h7.read_unread, h8.read_unread, View.ld_unit_zero (S := S256x1024) hz, View.ld_unit_zero (S := S1x1024) hz]
  try simp (disch := decide) only [View.readCov_skip, readCov_fill3]
  rw [View.canon_unit_zero hz]
  refine (dx_apply x0 x6 x7 (dhT x0 x2 x3 x4 x5 zeroRows) r k).trans ?_
  simp only [dhT_apply]

theorem out_A_11 (hc : cond0_0 i) (r : Fin 8) (k : Fin 1024) :
    out0_A_11 c i a1 h1 a2 h2 a3 h3 a4 h4 a5 h5 a6 h6 a7 h7 a8 h8 a9 h9 a10 h10 a11 h11 a12 h12 a13 h13 a14 h14 hc x0 x1 x2 x3 x4 x5 x6 x7 (ix2 r k)
      = if r = 0 then zeroScale (ix2 0 k) + dgPart x0 x2 x3 x4 x5 zeroRows x6 k else zeroScale (ix2 r k) := by
  unfold out0_A_11
  unfold kernelRun0_A
  dsimp only
  sl_unfold_words
  simp only [View.readAt_eq_ld, h1.read_unread, h2.read_unread, h3.read_unread, h4.read_unread, h5.read_unread, h6.read_unread, h7.read_unread, h8.read_unread, View.ld_unit_zero (S := S256x1024) hz, View.ld_unit_zero (S := S1x1024) hz]
  try simp (disch := decide) only [View.readCov_skip, readCov_fill3]
  refine (View.read_writes_cons_rows (o := 0) (W := 1) VO0_11 _ inb_S8x1024_S1x1024_0_0 _ _ (ix2 r k) rfl rfl rfl).trans ?_
  rw [View.readCov_fill _ _ _ _ _ (congrFun hz)]
  by_cases hr : r = 0
  · subst hr
    rw [dif_pos ⟨Nat.zero_le _, Nat.one_pos⟩, if_pos rfl]
    refine (congrArg (k0_pay141 _ _ _) (show _ = (ix2 (0 : Fin 1) k : S1x1024.Idx) from
      funext fun a => Fin.ext (by match a with | ⟨0, _⟩ => rfl | ⟨1, _⟩ => exact Nat.sub_zero _))).trans ?_
    refine (dg_apply x0 x2 x3 x4 x5 zeroRows x6 _ k).trans (congrArg (· + _) ?_)
    exact row0_apply zeroScale k
  · rw [dif_neg (fun h => hr (Fin.ext (by simpa using h.2))), if_neg hr]
    exact View.read_writes_cons_unit_of_mem _ _ _ _ [] (ix2 r k) (ix2 r k) hz fun a => (Nat.zero_add _).symm

end

end Cert.FfnKernelIdeal.Body

end
-- ==== Proof.FfnBlocks.lean ====
/- Where each point's blocks lie in the feed-forward gradient's arrays, and what the blocks it is handed hold in terms of the
   arguments. -/
module

public import proofs.«01_k».proof.Proof.FfnSpec
public import proofs.«01_k».proof.Proof.Gen.FfnKernelIdeal.Value
public import proofs.«01_k».proof.Proof.BlockIndex
public import Idealize.ShloMosaic.Lib.Pipeline.ValueKit.Geometry
public import Idealize.ShloMosaic.Lib.Pointwise
public import Idealize.ShloMosaic.Lib.Tactic

@[expose] public section

set_option maxRecDepth 16384

noncomputable section

namespace Cert.FfnKernelIdeal.Body

open Cert.FfnKernelIdeal Cert.FfnKernelIdeal.Gen Idealize.ShloMosaic Idealize.ShloMosaic.TcCoe Idealize.SL.Sem
open Cert.Step (col)

variable (m : (ℓ : Loc nD τ sig) → Buf (Elt Ideal) ℓ) (c : Dev nD)

/-- The block's arguments as the buffers hold them. -/
def args : Cert.Step.FfnArgs where
  x i k := m ((c : Thread nD τ).loc main_arg0) (ix2 i k)
  g k := m ((c : Thread nD τ).loc main_arg1) (ix1 k)
  w k n := m ((c : Thread nD τ).loc main_arg2) (ix2 k n)
  cw s n := m ((c : Thread nD τ).loc main_arg3) (ix2 s n)
  cb n := m ((c : Thread nD τ).loc main_arg4) (ix1 n)
  wd n k := m ((c : Thread nD τ).loc main_arg5) (ix2 n k)
  ct i k := m ((c : Thread nD τ).loc main_arg6) (ix2 i k)

theorem lt_N (t : Fin cfg0.N) : t.val < 32 := lt_of_lt_of_eq t.isLt (show cfg0.N = 32 from N_0)

/-- Row `r` of point `t`'s block of 256 rows: the points run from the last block to the first. -/
abbrev row (t : Fin cfg0.N) (r : Fin 256) : Fin 8192 := ⟨256 * (31 - t.val) + r.val, by have := lt_N t; omega⟩

theorem emb0 (t : Fin cfg0.N) (r : Fin 256) (k : Fin 1024) :
    ((cfg0.win 0).blk t).view.emb (ix2 r k) = (ix2 (row t r) k : S8192x1024.Idx) :=
  Cert.Step.rows2 ((by decide +kernel : ∀ t : Fin grid0.N, win0_0.index t 0 = 31 - t.val ∧ win0_0.index t 1 = 0) t) rfl rfl rfl

theorem emb1 (t : Fin cfg0.N) (j : Fin 8) (r : Fin 256) (q : Fin 704) :
    ((cfg0.win 1).blk t).view.emb (ix3 j r q) = (ix3 j (row t r) q : S8x8192x704.Idx) :=
  Cert.Step.rows3 ((by decide +kernel : ∀ t : Fin grid0.N, win0_1.index t 0 = 0 ∧ win0_1.index t 1 = 31 - t.val ∧ win0_1.index t 2 = 0) t) rfl rfl rfl rfl

theorem emb2 (t : Fin cfg0.N) (j : Fin 8) (r : Fin 256) (q : Fin 704) :
    ((cfg0.win 2).blk t).view.emb (ix3 j r q) = (ix3 j (row t r) q : S8x8192x704.Idx) :=
  Cert.Step.rows3 ((by decide +kernel : ∀ t : Fin grid0.N, win0_2.index t 0 = 0 ∧ win0_2.index t 1 = 31 - t.val ∧ win0_2.index t 2 = 0) t) rfl rfl rfl rfl

theorem emb3 (t : Fin cfg0.N) (j : Fin 8) (s : Fin 3) (q : Fin 704) :
    ((cfg0.win 3).blk t).view.emb (ix3 j s q) = (ix3 j s q : S8x3x704.Idx) :=
  Cert.Step.whole3 ((by decide +kernel : ∀ (t : Fin grid0.N) a, win0_3.index t a = 0) t) rfl rfl rfl

theorem emb4 (t : Fin cfg0.N) (j : Fin 8) (p : Fin 352) (k : Fin 1024) :
    ((cfg0.win 4).blk t).view.emb (ix3 j p k) = (ix3 j p k : S8x352x1024.Idx) :=
  Cert.Step.whole3 ((by decide +kernel : ∀ (t : Fin grid0.N) a, win0_4.index t a = 0) t) rfl rfl rfl

theorem emb5 (t : Fin cfg0.N) (j : Fin 8) (k : Fin 1024) (q : Fin 704) :
    ((cfg0.win 5).blk t).view.emb (ix3 j k q) = (ix3 j k q : S8x1024x704.Idx) :=
  Cert.Step.whole3 ((by decide +kernel : ∀ (t : Fin grid0.N) a, win0_5.index t a = 0) t) rfl rfl rfl

theorem emb6 (t : Fin cfg0.N) (r : Fin 256) (k : Fin 1024) :
    ((cfg0.win 6).blk t).view.emb (ix2 r k) = (ix2 (row t r) k : S8192x1024.Idx) :=
  Cert.Step.rows2 ((by decide +kernel : ∀ t : Fin grid0.N, win0_6.index t 0 = 31 - t.val ∧ win0_6.index t 1 = 0) t) rfl rfl rfl

theorem emb7 (t : Fin cfg0.N) (z : Fin 1) (k : Fin 1024) :
    ((cfg0.win 7).blk t).view.emb (ix2 z k) = (ix2 z k : S1x1024.Idx) :=
  Cert.Step.whole2 ((by decide +kernel : ∀ (t : Fin grid0.N) a, win0_7.index t a = 0) t) rfl rfl

theorem emb8 (t : Fin cfg0.N) (j : Fin 8) (r : Fin 256) (q : Fin 704) :
    ((cfg0.win 8).blk t).view.emb (ix3 j r q) = (ix3 j (row t r) q : S8x8192x704.Idx) :=
  Cert.Step.rows3 ((by decide +kernel : ∀ t : Fin grid0.N, win0_8.index t 0 = 0 ∧ win0_8.index t 1 = 31 - t.val ∧ win0_8.index t 2 = 0) t) rfl rfl rfl rfl

theorem emb9 (t : Fin cfg0.N) (j : Fin 8) (s : Fin 8) (q : Fin 704) :
    ((cfg0.win 9).blk t).view.emb (ix3 j s q) = (ix3 j s q : S8x8x704.Idx) :=
  Cert.Step.whole3 ((by decide +kernel : ∀ (t : Fin grid0.N) a, win0_9.index t a = 0) t) rfl rfl rfl

theorem emb10 (t : Fin cfg0.N) (r : Fin 256) (k : Fin 1024) :
    ((cfg0.win 10).blk t).view.emb (ix2 r k) = (ix2 (row t r) k : S8192x1024.Idx) :=
  Cert.Step.rows2 ((by decide +kernel : ∀ t : Fin grid0.N, win0_10.index t 0 = 31 - t.val ∧ win0_10.index t 1 = 0) t) rfl rfl rfl

theorem emb11 (t : Fin cfg0.N) (s : Fin 8) (k : Fin 1024) :
    ((cfg0.win 11).blk t).view.emb (ix2 s k) = (ix2 s k : S8x1024.Idx) :=
  Cert.Step.whole2 ((by decide +kernel : ∀ (t : Fin grid0.N) a, win0_11.index t a = 0) t) rfl rfl

theorem emb12 (t : Fin cfg0.N) (r : Fin 256) (k : Fin 1024) :
    ((cfg0.win 12).blk t).view.emb (ix2 r k) = (ix2 (row t r) k : S8192x1024.Idx) :=
  Cert.Step.rows2 ((by decide +kernel : ∀ t : Fin grid0.N, win0_12.index t 0 = 31 - t.val ∧ win0_12.index t 1 = 0) t) rfl rfl rfl

theorem col_comm (j : Fin 8) (q : Fin 704) (h : j.val * 704 + q.val < 5632) : (⟨j.val * 704 + q.val, h⟩ : Fin 5632) = col j q :=
  Fin.ext (by show j.val * 704 + q.val = 704 * j.val + q.val; omega)

theorem blk0 (t : Fin cfg0.N) (r : Fin 256) (k : Fin 1024) : iblk m c 0 t (ix2 r k) = (args m c).ct (row t r) k := by
  show V m c main_arg6 (((cfg0.win 0).blk t).view.emb (ix2 r k)) = _
  rw [emb0, V_main_arg6]
  rfl

theorem pre_entry (j : Fin 8) (i : Fin 8192) (q : Fin 704) : V m c main_v46 (ix3 j i q : S8x8192x704.Idx) = (args m c).pre i (col j q) := by
  entry_read
  pointwise
  simp only [col_comm]
  rfl

theorem up_entry (j : Fin 8) (i : Fin 8192) (q : Fin 704) : V m c main_v49 (ix3 j i q : S8x8192x704.Idx) = (args m c).up i (col j q) := by
  entry_read
  pointwise
  simp only [col_comm]
  exact ((args m c).up_spelt i (col j q)).symm

theorem blk1 (t : Fin cfg0.N) (j : Fin 8) (r : Fin 256) (q : Fin 704) : iblk m c 1 t (ix3 j r q) = (args m c).pre (row t r) (col j q) := by
  show V m c main_v46 (((cfg0.win 1).blk t).view.emb (ix3 j r q)) = _
  rw [emb1]
  exact pre_entry m c j _ q

theorem blk2 (t : Fin cfg0.N) (j : Fin 8) (r : Fin 256) (q : Fin 704) : iblk m c 2 t (ix3 j r q) = (args m c).up (row t r) (col j q) := by
  show V m c main_v49 (((cfg0.win 2).blk t).view.emb (ix3 j r q)) = _
  rw [emb2]
  exact up_entry m c j _ q

theorem blk3 (t : Fin cfg0.N) (j : Fin 8) (s : Fin 3) (q : Fin 704) : iblk m c 3 t (ix3 j s q) = (args m c).cw s (col j q) := by
  show V m c main_v51 (((cfg0.win 3).blk t).view.emb (ix3 j s q)) = _
  rw [emb3]
  entry_read
  pointwise
  exact congrArg ((args m c).cw s) (Fin.ext (by show j.val * 704 + q.val = 704 * j.val + q.val; omega))

theorem blk4 (t : Fin cfg0.N) (j : Fin 8) (p : Fin 352) (k : Fin 1024) :
    iblk m c 4 t (ix3 j p k) = (args m c).wd ⟨352 * j.val + p.val, by omega⟩ k := by
  show V m c main_v43 (((cfg0.win 4).blk t).view.emb (ix3 j p k)) = _
  rw [emb4]
  entry_read
  pointwise
  exact congrArg (fun n => (args m c).wd n k) (Fin.ext (by show j.val * 352 + p.val = 352 * j.val + p.val; omega))

theorem blk5 (t : Fin cfg0.N) (j : Fin 8) (k : Fin 1024) (q : Fin 704) : iblk m c 5 t (ix3 j k q) = (args m c).w k (col j q) := by
  show V m c main_v41 (((cfg0.win 5).blk t).view.emb (ix3 j k q)) = _
  rw [emb5]
  entry_read
  pointwise
  exact congrArg ((args m c).w k) (Fin.ext (by show j.val * 704 + q.val = 704 * j.val + q.val; omega))

theorem blk6 (t : Fin cfg0.N) (r : Fin 256) (k : Fin 1024) : iblk m c 6 t (ix2 r k) = (args m c).x (row t r) k := by
  show V m c main_arg0 (((cfg0.win 6).blk t).view.emb (ix2 r k)) = _
  rw [emb6, V_main_arg0]
  rfl

theorem blk7 (t : Fin cfg0.N) (k : Fin 1024) : iblk m c 7 t (ix2 0 k) = (args m c).g k := by
  show V m c main_v52 (((cfg0.win 7).blk t).view.emb (ix2 0 k)) = _
  rw [emb7]
  entry_read
  pointwise
  rfl

end Cert.FfnKernelIdeal.Body

end
-- ==== Proof.FfnKernelValue.lean ====
/- The five results of the feed-forward gradient as functions of its arguments: the tiles run from the last rows to the first, each
   hands its first rows to the next, and the sums over rows gather over the points. -/
module

public import proofs.«01_k».proof.Proof.FfnBodyA
public import proofs.«01_k».proof.Proof.FfnBlocks

@[expose] public section

set_option maxRecDepth 16384

noncomputable section

namespace Cert.FfnKernelIdeal.Body

open Cert.FfnKernelIdeal Cert.FfnKernelIdeal.Gen Idealize.ShloMosaic Idealize.ShloMosaic.TcCoe Idealize.SL.Sem
open Idealize.ShloMosaic.Pipeline (Dat)
open Cert.Step (col)

variable (m : (ℓ : Loc nD τ sig) → Buf (Elt Ideal) ℓ) (c : Dev nD)

/-- The order in which the body adds the blocks' products. -/
theorem sum_order (f : Fin 8 → EReal) : 0 + f 0 + f 4 + f 1 + f 5 + f 2 + f 6 + f 3 + f 7 = ∑ j, f j := by
  rw [Fin.sum_univ_eight, zero_add]
  ac_rfl

/-- A point's own addend to a sum over all rows. -/
def part (f : Fin 8192 → EReal) (t : ℕ) : EReal := if t < 32 then ∑ r : Fin 256, f ⟨256 * (31 - t) + r.val, by omega⟩ else 0

theorem part_eq (f : Fin 8192 → EReal) (t : Fin cfg0.N) : ∑ r : Fin 256, f (row t r) = part f t.val := by
  rw [part, if_pos (lt_N t)]

section
variable (t : Fin cfg0.N)

theorem dact_eq (j : Fin 4) (r : Fin 256) (q : Fin 704) :
    dact (iblk m c 0 t) (iblk m c 4 t) j r q = (args m c).dact (row t r) ⟨704 * j.val + q.val, by omega⟩ := by
  unfold dact Cert.Step.FfnArgs.dact
  refine Finset.sum_congr rfl fun k _ => ?_
  rw [blk0]
  refine congrArg _ ?_
  split
  · rw [blk4]; exact congrArg (fun n => (args m c).wd n k) (Fin.ext (by show 352 * (2 * j.val) + q.val = 704 * j.val + q.val; omega))
  · rw [blk4]; exact congrArg (fun n => (args m c).wd n k) (Fin.ext (by show 352 * (2 * j.val + 1) + (q.val - 352) = 704 * j.val + q.val; omega))

theorem dup_eq (j : Fin 8) (r : Fin 256) (q : Fin 704) :
    dup (iblk m c 0 t) (iblk m c 2 t) (iblk m c 4 t) j r q = (args m c).dup (row t r) (col j q) := by
  unfold dup Cert.Step.FfnArgs.dup
  by_cases h : j.val < 4
  · rw [dif_pos h, dif_pos (show 704 * j.val + q.val < 2816 by omega), dact_eq, blk2, blk2]
    exact congrArg (fun n => Cert.Step.gateGrad _ _ ((args m c).up (row t r) n)) (Fin.ext (by show 704 * (j.val + 4) + q.val = 704 * j.val + q.val + 2816; omega))
  · rw [dif_neg h, dif_neg (show ¬ 704 * j.val + q.val < 2816 by omega), dact_eq, blk2]
    exact congrArg₂ (fun n n' => Cert.Step.valGrad ((args m c).dact (row t r) n) ((args m c).up (row t r) n'))
      (Fin.ext (by show 704 * (j.val - 4) + q.val = 704 * j.val + q.val - 2816; omega))
      (Fin.ext (by show 704 * (j.val - 4) + q.val = 704 * j.val + q.val - 2816; omega))

/-- The rows that a point hands to the next: the first eight of its own. -/
theorem handed (j : Fin 8) (s : Fin 8) (q : Fin 704) :
    (outsAt0 m c t.val t.isLt).2.2.2.2.2 (ix3 j s q) = (args m c).dup (row t ⟨s.val, by omega⟩) (col j q) := by
  by_cases h0 : t.val % 32 = 0
  · rw [outsAt0_A m c t h0]; dsimp only; rw [sout_A_0]; exact dup_eq m c t j _ q
  · rw [outsAt0_B m c t h0]; dsimp only; rw [sout_B_0]; exact dup_eq m c t j _ q

/-- What a point finds handed to it: zero at the first, the rows of the point before at the others. -/
def found : Vec Ideal S8x8x704 .f32 :=
  if t.val % 32 = 0 then zeroRows else (outsAt0 m c (t.val - 1) (Nat.lt_of_le_of_lt (Nat.sub_le _ _) t.isLt)).2.2.2.2.2

theorem found_eq (j : Fin 8) (s : Fin 8) (q : Fin 704) :
    found m c t (ix3 j s q) = if h : 256 * (32 - t.val) + s.val < 8192 then (args m c).dup ⟨256 * (32 - t.val) + s.val, h⟩ (col j q) else 0 := by
  have hN := lt_N t
  unfold found
  by_cases h0 : t.val % 32 = 0
  · rw [if_pos h0, dif_neg (by omega)]
    pointwise [zeroRows, k0_pay3]
  · rw [if_neg h0, dif_pos (by omega)]
    refine (handed m c ⟨t.val - 1, Nat.lt_of_le_of_lt (Nat.sub_le _ _) t.isLt⟩ j s q).trans ?_
    exact congrArg (fun i => (args m c).dup i (col j q)) (Fin.ext (by show 256 * (31 - (t.val - 1)) + s.val = 256 * (32 - t.val) + s.val; omega))

theorem found_first (h : t.val % 32 = 0) : found m c t = zeroRows := if_pos h

theorem found_later (h : ¬ t.val % 32 = 0) :
    found m c t = (outsAt0 m c (t.val - 1) (Nat.lt_of_le_of_lt (Nat.sub_le _ _) t.isLt)).2.2.2.2.2 := if_neg h

theorem dupAt_eq (s : ℕ) (hs : s ≤ 8) (j : Fin 8) (r : Fin 256) (q : Fin 704) :
    dupAt (iblk m c 0 t) (iblk m c 2 t) (iblk m c 4 t) (found m c t) s hs j r q = (args m c).ahead s (row t r) (col j q) := by
  have hN := lt_N t
  unfold dupAt Cert.Step.FfnArgs.ahead
  by_cases h : r.val + s < 256
  · rw [dif_pos h, dif_pos (show 256 * (31 - t.val) + r.val + s < 8192 by omega), dup_eq]
    exact congrArg (fun i => (args m c).dup i (col j q)) (Fin.ext (by show 256 * (31 - t.val) + (r.val + s) = 256 * (31 - t.val) + r.val + s; omega))
  · rw [dif_neg h, found_eq]
    by_cases h1 : t.val = 0
    · rw [dif_neg (show ¬ 256 * (32 - t.val) + (r.val + s - 256) < 8192 by omega), dif_neg (show ¬ 256 * (31 - t.val) + r.val + s < 8192 by omega)]
    · rw [dif_pos (show 256 * (32 - t.val) + (r.val + s - 256) < 8192 by omega), dif_pos (show 256 * (31 - t.val) + r.val + s < 8192 by omega)]
      exact congrArg (fun i => (args m c).dup i (col j q))
        (Fin.ext (by show 256 * (32 - t.val) + (r.val + s - 256) = 256 * (31 - t.val) + r.val + s; omega))

theorem du_eq (j : Fin 8) (r : Fin 256) (q : Fin 704) :
    du (iblk m c 0 t) (iblk m c 2 t) (iblk m c 3 t) (iblk m c 4 t) (found m c t) j r q = (args m c).du (row t r) (col j q) := by
  unfold du Cert.Step.FfnArgs.du
  rw [blk3, blk3, blk3, dup_eq, dupAt_eq, dupAt_eq]

theorem dcPart_eq (s : ℕ) (j : Fin 8) (q : Fin 704) :
    dcPart (iblk m c 0 t) (iblk m c 1 t) (iblk m c 2 t) (iblk m c 4 t) (found m c t) s j q
      = part (fun i => (args m c).dcRow s i (col j q)) t.val := by
  rw [← part_eq]
  unfold dcPart Cert.Step.FfnArgs.dcRow
  simp only [blk1, dup_eq, dupAt_eq]
  split_ifs <;> first | rfl | exact Finset.sum_const_zero.symm

theorem dhB_eq (r : Fin 256) (k : Fin 1024) :
    dhB (iblk m c 0 t) (iblk m c 2 t) (iblk m c 3 t) (iblk m c 4 t) (iblk m c 5 t) (found m c t) r k = (args m c).dh (row t r) k := by
  unfold dhB Cert.Step.FfnArgs.dh
  simp only [du_eq, blk5]
  exact (sum_order fun j => ∑ q, (args m c).du (row t r) (col j q) * (args m c).w k (col j q)).trans
    (Cert.Step.sum_blocks 8 704 5632 rfl (fun n => (args m c).du (row t r) n * (args m c).w k n) fun j q => by omega)

theorem dgPart_eq (k : Fin 1024) :
    dgPart (iblk m c 0 t) (iblk m c 2 t) (iblk m c 3 t) (iblk m c 4 t) (iblk m c 5 t) (found m c t) (iblk m c 6 t) k
      = part (fun i => (args m c).dh i k * ((args m c).x i k * Cert.Step.rinv ((args m c).x i))) t.val := by
  rw [← part_eq]
  unfold dgPart
  simp only [dhB_eq, blk6]

/-- The rows' gradient on a tile, from the tile's blocks. -/
def rowGrad (x0 : Vec Ideal S256x1024 .f32) (x2 : Vec Ideal S8x256x704 .bf16) (x3 : Vec Ideal S8x3x704 .f32) (x4 : Vec Ideal S8x352x1024 .bf16)
    (x5 : Vec Ideal S8x1024x704 .bf16) (cs : Vec Ideal S8x8x704 .f32) (x6 : Vec Ideal S256x1024 .f32) (x7 : Vec Ideal S1x1024 .f32)
    (r : Fin 256) (k : Fin 1024) : EReal :=
  x0 (ix2 r k) + Cert.Step.normGradK (fun q => x6 (ix2 r q)) (fun q => dhB x0 x2 x3 x4 x5 cs r q * x7 (ix2 0 q)) k

theorem rowGrad_eq (r : Fin 256) (k : Fin 1024) :
    rowGrad (iblk m c 0 t) (iblk m c 2 t) (iblk m c 3 t) (iblk m c 4 t) (iblk m c 5 t) (found m c t) (iblk m c 6 t) (iblk m c 7 t) r k
      = (args m c).dx (row t r) k := by
  unfold rowGrad
  simp only [dhB_eq, blk0, blk6, blk7]
  rfl

theorem out8 (j : Fin 8) (r : Fin 256) (q : Fin 704) : (outsAt0 m c t.val t.isLt).1 (ix3 j r q) = (args m c).du (row t r) (col j q) := by
  refine Eq.trans ?_ (du_eq m c t j r q)
  by_cases h0 : t.val % 32 = 0
  · rw [outsAt0_A m c t h0, found_first m c t h0]; dsimp only; rw [out_A_8]; rfl
  · rw [outsAt0_B m c t h0, found_later m c t h0]; dsimp only; rw [out_B_8]; rfl

theorem out10 (r : Fin 256) (k : Fin 1024) : (outsAt0 m c t.val t.isLt).2.2.1 (ix2 r k) = (args m c).dx (row t r) k := by
  refine Eq.trans ?_ (rowGrad_eq m c t r k)
  by_cases h0 : t.val % 32 = 0
  · rw [outsAt0_A m c t h0, found_first m c t h0]; dsimp only; rw [out_A_10]; rfl
  · rw [outsAt0_B m c t h0, found_later m c t h0]; dsimp only; rw [out_B_10]; rfl

theorem out12 (r : Fin 256) (k : Fin 1024) : (outsAt0 m c t.val t.isLt).2.2.2.2.1 (ix2 r k) = (args m c).dx (row t r) k := by
  refine Eq.trans ?_ (rowGrad_eq m c t r k)
  by_cases h0 : t.val % 32 = 0
  · rw [outsAt0_A m c t h0, found_first m c t h0]; dsimp only; rw [out_A_12]; rfl
  · rw [outsAt0_B m c t h0, found_later m c t h0]; dsimp only; rw [out_B_12]; rfl

end

theorem sum_parts (f : Fin 8192 → EReal) : ∑ t ∈ Finset.range 32, part f t = ∑ i, f i := by
  rw [← Finset.sum_range_reflect, Finset.sum_range]
  refine Eq.trans ?_ (Cert.Step.sum_blocks 32 256 8192 rfl f fun j q => by omega)
  refine Finset.sum_congr rfl fun t _ => ?_
  rw [part, if_pos (by omega)]
  refine Finset.sum_congr rfl fun r _ => congrArg f (Fin.ext ?_)
  show 256 * (31 - (32 - 1 - t.val)) + r.val = 256 * t.val + r.val
  omega

/-- The convolution's gradients after each point. -/
theorem out9 (n : ℕ) : ∀ (h : n < cfg0.N) (j : Fin 8) (s : Fin 8) (q : Fin 704),
    (outsAt0 m c n h).2.1 (ix3 j s q) = ∑ t ∈ Finset.range (n + 1), part (fun i => (args m c).dcRow s.val i (col j q)) t := by
  induction n with
  | zero =>
    intro h j s q
    have e := dcPart_eq m c ⟨0, h⟩ s.val j q
    rw [found_first m c ⟨0, h⟩ rfl] at e
    rw [outsAt0_A m c ⟨0, h⟩ rfl]
    dsimp only
    rw [out_A_9, Finset.sum_range_one]
    refine Eq.trans (congrArg₂ (· + ·) (?_ : zeroSums (ix3 j s q) = 0) e) (zero_add _)
    pointwise [zeroSums, k0_pay4]
  | succ n ih =>
    intro h j s q
    have hN : cfg0.N = 32 := N_0
    have h0 : ¬ (n + 1) % 32 = 0 := by omega
    have e := dcPart_eq m c ⟨n + 1, h⟩ s.val j q
    rw [found_later m c ⟨n + 1, h⟩ h0] at e
    rw [outsAt0_B m c ⟨n + 1, h⟩ h0]
    dsimp only
    rw [out_B_9, Finset.sum_range_succ _ (n + 1)]
    exact congrArg₂ (· + ·) (ih (by omega) j s q) e

/-- The scale's gradient after each point. -/
theorem out11 (n : ℕ) : ∀ (h : n < cfg0.N) (r : Fin 8) (k : Fin 1024), (outsAt0 m c n h).2.2.2.1 (ix2 r k)
    = if r = 0 then ∑ t ∈ Finset.range (n + 1), part (fun i => (args m c).dh i k * ((args m c).x i k * Cert.Step.rinv ((args m c).x i))) t else 0 := by
  induction n with
  | zero =>
    intro h r k
    have e := (dgPart_eq m c ⟨0, h⟩ k)
    rw [found_first m c ⟨0, h⟩ rfl] at e
    have z : ∀ r : Fin 8, zeroScale (ix2 r k) = 0 := fun r => by pointwise [zeroScale, k0_pay5]
    rw [outsAt0_A m c ⟨0, h⟩ rfl]
    dsimp only
    rw [out_A_11, Finset.sum_range_one, z, z, zero_add]
    rw [e]
  | succ n ih =>
    intro h r k
    have hN : cfg0.N = 32 := N_0
    have h0 : ¬ (n + 1) % 32 = 0 := by omega
    have e := (dgPart_eq m c ⟨n + 1, h⟩ k)
    rw [found_later m c ⟨n + 1, h⟩ h0] at e
    rw [outsAt0_B m c ⟨n + 1, h⟩ h0]
    dsimp only
    rw [out_B_11, e]
    have e' := ih (by omega)
    simp only [Nat.add_sub_cancel]
    rw [e', e', Finset.sum_range_succ _ (n + 1)]
    split <;> simp

/-- The results, entry by entry. -/
abbrev resDu : Buf (Elt Ideal) ((c : Thread nD τ).loc main_v53_0) := fun y : S8x8192x704.Idx => (args m c).du (y 1) (col (y 0) (y 2))
@[inherit_doc resDu] abbrev resDc : Buf (Elt Ideal) ((c : Thread nD τ).loc main_v53_1) := fun y : S8x8x704.Idx =>
  (args m c).dc (y 1).val (col (y 0) (y 2))
@[inherit_doc resDu] abbrev resDx : Buf (Elt Ideal) ((c : Thread nD τ).loc main_v53_2) := fun y : S8192x1024.Idx => (args m c).dx (y 0) (y 1)
@[inherit_doc resDu] abbrev resDg : Buf (Elt Ideal) ((c : Thread nD τ).loc main_v53_3) := fun y : S8x1024.Idx => (args m c).dg (y 0) (y 1)
@[inherit_doc resDu] abbrev resDxb : Buf (Elt Ideal) ((c : Thread nD τ).loc main_v53_4) := fun y : S8192x1024.Idx => (args m c).dx (y 0) (y 1)

theorem final8 : (dats m 0 c).arrAt 8 cfg0.N = resDu m c := by
  refine (dats m 0 c).arrAt_eq_of_covers 8 (resDu m c) (by decide +kernel) fun t _ y => ?_
  idx_vars y
  rw [emb8]
  blk_simp
  rw [after0_8]
  exact out8 m c t _ _ _

theorem final9 : (dats m 0 c).arrAt 9 cfg0.N = resDc m c := by
  refine (dats m 0 c).arrAt_eq_of_covers 9 (resDc m c) (by decide +kernel) fun t hf y => ?_
  idx_vars y
  have e : t.val = 31 := by have := (flush0_9 t).mp hf; have := lt_N t; omega
  rw [emb9]
  blk_simp
  rw [after0_9, out9, e, sum_parts]
  rfl

theorem final10 : (dats m 0 c).arrAt 10 cfg0.N = resDx m c := by
  refine (dats m 0 c).arrAt_eq_of_covers 10 (resDx m c) (by decide +kernel) fun t _ y => ?_
  idx_vars y
  rw [emb10]
  blk_simp
  rw [after0_10]
  exact out10 m c t _ _

theorem final11 : (dats m 0 c).arrAt 11 cfg0.N = resDg m c := by
  refine (dats m 0 c).arrAt_eq_of_covers 11 (resDg m c) (by decide +kernel) fun t hf y => ?_
  idx_vars y
  have e : t.val = 31 := by have := (flush0_11 t).mp hf; have := lt_N t; omega
  rw [emb11]
  blk_simp
  rw [after0_11, out11, e, sum_parts]
  rfl

theorem final12 : (dats m 0 c).arrAt 12 cfg0.N = resDxb m c := by
  refine (dats m 0 c).arrAt_eq_of_covers 12 (resDxb m c) (by decide +kernel) fun t _ y => ?_
  idx_vars y
  rw [emb12]
  blk_simp
  rw [after0_12]
  exact out12 m c t _ _

/-- The run, read: the results as functions of the arguments, which stay as they were. -/
theorem run (ρ : Dev nD → PrngReg) : θ_run defs (onTc (τ := τ) (main (F := Ideal))) ⟨m, fun _ => 0, ρ⟩ fun r => ∀ c : Dev nD,
    r.2.mem ((c : Thread nD τ).loc main_v53_0) = resDu m c ∧ r.2.mem ((c : Thread nD τ).loc main_v53_1) = resDc m c
    ∧ r.2.mem ((c : Thread nD τ).loc main_v53_2) = resDx m c ∧ r.2.mem ((c : Thread nD τ).loc main_v53_3) = resDg m c
    ∧ r.2.mem ((c : Thread nD τ).loc main_v53_4) = resDxb m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6) :=
  (θ_run defs _ _).mono (fun _ h c => by
    have := h c
    rw [final8, final9, final10, final11, final12] at this
    exact this) (Value.run_blocks m ρ)

end Cert.FfnKernelIdeal.Body

end
-- ==== Proof.FfnGate.lean ====
/- The gated product's gradient on finite arguments: the bodies' spelling of the logistic function is the quotient the derivative
   of the forward lines writes, and the gradients agree. With it, which of the block's values are finite. -/
module

public import proofs.«01_k».proof.Proof.FfnSpec

@[expose] public section

noncomputable section

namespace Cert.Step

open Idealize.ShloMosaic

theorem word_half : Ideal.ofBits .f32 0x3F000000#32 = ((1 / 2 : ℝ) : EReal) := by
  simp [Ideal.ofBits, Ideal.ieee]
  norm_num
  rw [← EReal.coe_mul]
  norm_num

theorem word_one : Ideal.ofBits .f32 0x3F800000#32 = 1 := by
  simp [Ideal.ofBits, Ideal.ieee]
  norm_num
  rw [← EReal.coe_mul]
  norm_num

theorem tanh_form (r : ℝ) : 1 / 2 * Real.tanh (1 / 2 * r) + 1 / 2 = 1 / (1 + Real.exp (-r)) := by
  have e : Real.exp (-r) = Real.exp (-(1 / 2 * r)) * Real.exp (-(1 / 2 * r)) := by rw [← Real.exp_add]; congr 1; ring
  have p : Real.exp (1 / 2 * r) * Real.exp (-(1 / 2 * r)) = 1 := by rw [← Real.exp_add]; simp
  have a := Real.exp_pos (1 / 2 * r)
  have b := Real.exp_pos (-(1 / 2 * r))
  rw [Real.tanh_eq_sinh_div_cosh, Real.sinh_eq, Real.cosh_eq, e]
  generalize Real.exp (1 / 2 * r) = u at *
  generalize Real.exp (-(1 / 2 * r)) = v at *
  field_simp
  nlinarith [p]

theorem sg_coe (r : ℝ) : sg (r : EReal) = ((1 / (1 + Real.exp (-r)) : ℝ) : EReal) := by
  rw [sg, word_half, ← EReal.coe_mul, Ideal.tanh_coe, ← EReal.coe_mul, ← EReal.coe_add, tanh_form]

theorem logi_coe (r : ℝ) : Ideal.div 1 (1 + Ideal.exp (-(r : EReal))) = ((1 / (1 + Real.exp (-r)) : ℝ) : EReal) := by
  rw [← EReal.coe_neg, Ideal.exp_coe, ← EReal.coe_one, ← EReal.coe_add, div_coe _ _ (by have := Real.exp_pos (-r); positivity)]

theorem gateGrad_eq {d a b : EReal} (hd : Fin' d) (ha : Fin' a) (hb : Fin' b) :
    d * b * Ideal.div 1 (1 + Ideal.exp (-a)) + a * (d * b) * (Ideal.div 1 (1 + Ideal.exp (-a)) * (1 - Ideal.div 1 (1 + Ideal.exp (-a))))
      = gateGrad d a b := by
  obtain ⟨d, rfl⟩ := hd
  obtain ⟨a, rfl⟩ := ha
  obtain ⟨b, rfl⟩ := hb
  rw [gateGrad, sg_coe, logi_coe, word_one]
  generalize 1 / (1 + Real.exp (-a)) = s
  rw [← EReal.coe_one]
  simp only [← EReal.coe_mul, ← EReal.coe_add, ← EReal.coe_sub]
  congr 1
  ring

theorem valGrad_eq {d a : EReal} (ha : Fin' a) : a * Ideal.div 1 (1 + Ideal.exp (-a)) * d = valGrad d a := by
  obtain ⟨a, rfl⟩ := ha
  rw [valGrad, sg_coe, logi_coe]
  ac_rfl

theorem rinv_fin {n : ℕ} {x : Fin n → EReal} (hx : ∀ k, Fin' (x k)) : Fin' (rinv x) := by
  choose X hX using hx
  obtain rfl : x = fun k => (X k : EReal) := funext hX
  exact ⟨_, rinv_coe X⟩

/-- A sum against rows taken `s` back is the sum of the rows against those taken `s` on. -/
theorem sum_shift (N s : ℕ) (f g : Fin N → EReal) :
    ∑ i : Fin N, (if _h : i.val < s then 0 else f ⟨i.val - s, by omega⟩) * g i
      = ∑ j : Fin N, f j * (if h : j.val + s < N then g ⟨j.val + s, h⟩ else 0) := by
  have l : ∀ i : Fin N, (if _h : i.val < s then 0 else f ⟨i.val - s, by omega⟩) * g i
      = ∑ j : Fin N, if i.val = j.val + s then f j * g i else 0 := fun i => by
    by_cases h : i.val < s
    · rw [dif_pos h, zero_mul, Finset.sum_eq_zero fun j _ => if_neg (by omega)]
    · rw [dif_neg h, Finset.sum_eq_single (⟨i.val - s, by omega⟩ : Fin N) (fun j _ hj => if_neg fun e => hj (Fin.ext (by show j.val = i.val - s; omega)))
        (fun hn => absurd (Finset.mem_univ _) hn)]
      rw [if_pos (show i.val = i.val - s + s by omega)]
  have r : ∀ j : Fin N, f j * (if h : j.val + s < N then g ⟨j.val + s, h⟩ else 0)
      = ∑ i : Fin N, if i.val = j.val + s then f j * g i else 0 := fun j => by
    by_cases h : j.val + s < N
    · rw [dif_pos h, Finset.sum_eq_single (⟨j.val + s, h⟩ : Fin N) (fun i _ hi => if_neg fun e => hi (Fin.ext e)) (fun hn => absurd (Finset.mem_univ _) hn)]
      rw [if_pos rfl]
    · rw [dif_neg h, mul_zero, Finset.sum_eq_zero fun i _ => if_neg (by have := i.isLt; omega)]
  rw [Finset.sum_congr rfl fun i _ => l i, Finset.sum_congr rfl fun j _ => r j, Finset.sum_comm]

/-- All seven arrays hold real numbers. -/
structure FfnArgs.Finite (a : FfnArgs) : Prop where
  x : ∀ i k, Fin' (a.x i k)
  g : ∀ k, Fin' (a.g k)
  w : ∀ k n, Fin' (a.w k n)
  cw : ∀ s n, Fin' (a.cw s n)
  cb : ∀ n, Fin' (a.cb n)
  wd : ∀ n k, Fin' (a.wd n k)
  ct : ∀ i k, Fin' (a.ct i k)

namespace FfnArgs.Finite

variable {a : FfnArgs} (h : a.Finite)
include h

theorem pre (i : Fin 8192) (n : Fin 5632) : Fin' (a.pre i n) :=
  fin_sum fun k => fin_mul (fin_mul (fin_mul (h.x i k) (rinv_fin (h.x i))) (h.g k)) (h.w k n)

theorem back (s : ℕ) (i : Fin 8192) (n : Fin 5632) : Fin' (a.back s i n) := by
  unfold FfnArgs.back
  split
  · exact ⟨0, rfl⟩
  · exact h.pre _ n

theorem up (i : Fin 8192) (n : Fin 5632) : Fin' (a.up i n) :=
  fin_add (fin_add (fin_add (fin_mul (h.back 2 i n) (h.cw 0 n)) (fin_mul (h.back 1 i n) (h.cw 1 n))) (fin_mul (h.pre i n) (h.cw 2 n))) (h.cb n)

theorem dact (i : Fin 8192) (n : Fin 2816) : Fin' (a.dact i n) := fin_sum fun k => fin_mul (h.ct i k) (h.wd n k)

theorem sg {u : EReal} (hu : Fin' u) : Fin' (Cert.Step.sg u) := by
  obtain ⟨r, rfl⟩ := hu
  exact ⟨_, sg_coe r⟩

theorem dup (i : Fin 8192) (n : Fin 5632) : Fin' (a.dup i n) := by
  have gate : ∀ {d u b : EReal}, Fin' d → Fin' u → Fin' b → Fin' (gateGrad d u b) := fun {d u b} hd hu hb => by
    obtain ⟨d, rfl⟩ := hd
    obtain ⟨u, rfl⟩ := hu
    obtain ⟨b, rfl⟩ := hb
    rw [gateGrad, sg_coe, word_one, ← EReal.coe_one]
    simp only [← EReal.coe_mul, ← EReal.coe_add, ← EReal.coe_sub]
    exact ⟨_, rfl⟩
  unfold FfnArgs.dup
  split
  · exact gate (h.dact _ _) (h.up _ _) (h.up _ _)
  · exact fin_mul (fin_mul (h.dact _ _) (h.up _ _)) (h.sg (h.up _ _))

theorem ahead (s : ℕ) (i : Fin 8192) (n : Fin 5632) : Fin' (a.ahead s i n) := by
  unfold FfnArgs.ahead
  split
  · exact h.dup _ n
  · exact ⟨0, rfl⟩

theorem du (i : Fin 8192) (n : Fin 5632) : Fin' (a.du i n) :=
  fin_add (fin_add (fin_mul (h.cw 2 n) (h.dup i n)) (fin_mul (h.cw 1 n) (h.ahead 1 i n))) (fin_mul (h.cw 0 n) (h.ahead 2 i n))

theorem dh (i : Fin 8192) (k : Fin 1024) : Fin' (a.dh i k) := fin_sum fun n => fin_mul (h.du i n) (h.w k n)

end FfnArgs.Finite

end Cert.Step

end
-- ==== Proof.FfnReference.lean ====
/- The host reference of the feed-forward gradient, read entry by entry in terms of its arguments. -/
module

public import proofs.«01_k».proof.Proof.FfnGate
public import proofs.«01_k».proof.Proof.Gen.FfnReferenceIdeal.Run
public import Idealize.ShloMosaic.Lib.Pointwise
public import Idealize.ShloMosaic.Lib.Tactic.CleanTypes

@[expose] public section

set_option maxRecDepth 16384

noncomputable section

namespace Cert.FfnReferenceIdeal.Read

open Cert.FfnReferenceIdeal Idealize.ShloMosaic Idealize.ShloMosaic.TcCoe Idealize.SL.Sem
open Cert.Step (col)

variable (V0 : Valuation τ sig (Elt Ideal))

/-- The block's arguments as the buffers hold them. -/
def args : Cert.Step.FfnArgs where
  x i k := V0 (Proc.devRef .tc main_arg0) (ix2 i k)
  g k := V0 (Proc.devRef .tc main_arg1) (ix1 k)
  w k n := V0 (Proc.devRef .tc main_arg2) (ix2 k n)
  cw s n := V0 (Proc.devRef .tc main_arg3) (ix2 s n)
  cb n := V0 (Proc.devRef .tc main_arg4) (ix1 n)
  wd n k := V0 (Proc.devRef .tc main_arg5) (ix2 n k)
  ct i k := V0 (Proc.devRef .tc main_arg6) (ix2 i k)

/-- The product with the weight up, two zero rows before it. -/
theorem padded (i : Fin 8194) (n : Fin 5632) : (Value.res_main_v20 V0 : FVec Ideal S8194x5632 .f32) (ix2 i n)
    = if _h : i.val < 2 then 0 else (args V0).pre ⟨i.val - 2, by omega⟩ n := by
  unfold Value.res_main_v20 Value.res_main_v13 Value.res_main_v8 Value.res_main_v7 Value.res_main_v14
  clean_types
  pointwise
  rfl

theorem up_entry (i : Fin 8192) (n : Fin 5632) : (Value.res_main_v44 V0 : FVec Ideal S8192x5632 .f32) (ix2 i n) = (args V0).up i n := by
  unfold Value.res_main_v44 Value.res_main_v22 Value.res_main_v25 Value.res_main_v28 Value.res_main_v31 Value.res_main_v35 Value.res_main_v38
  clean_types
  pointwise
  simp only [padded]
  rw [Cert.Step.FfnArgs.up, Cert.Step.FfnArgs.back_one, Cert.Step.FfnArgs.back, dif_neg (by omega : ¬ 2 + i.val < 2)]
  simp only [Nat.add_sub_cancel_left]
  rfl

theorem dact_entry (i : Fin 8192) (n : Fin 2816) : (Value.res_main_v52 V0 : FVec Ideal S8192x2816 .f32) (ix2 i n) = (args V0).dact i n := by
  unfold Value.res_main_v52
  clean_types
  pointwise
  rfl

theorem dup_entry (h : (args V0).Finite) (i : Fin 8192) (n : Fin 5632) : (Value.res_main_v56 V0 : FVec Ideal S8192x5632 .f32) (ix2 i n) = (args V0).dup i n := by
  unfold Value.res_main_v56 Value.res_main_v54 Value.res_main_v47_0 Value.res_main_v47_2 Value.res_main_v45 Value.res_main_v46
  clean_types
  pointwise
  simp only [up_entry, dact_entry]
  unfold Cert.Step.FfnArgs.dup
  split
  · refine (Cert.Step.gateGrad_eq (h.dact _ _) (h.up _ _) (h.up _ _)).trans ?_
    exact congrArg (fun n => Cert.Step.gateGrad _ _ ((args V0).up i n)) (Fin.ext (Nat.add_comm _ _))
  · exact Cert.Step.valGrad_eq (h.up _ _)

theorem du_entry (h : (args V0).Finite) (i : Fin 8192) (n : Fin 5632) : (Value.res_main_v92 V0 : FVec Ideal S8192x5632 .f32) (ix2 i n) = (args V0).du i n := by
  unfold Value.res_main_v92 Value.res_main_v90 Value.res_main_v25 Value.res_main_v31 Value.res_main_v38
  clean_types
  pointwise
  simp only [dup_entry V0 h]
  unfold Cert.Step.FfnArgs.du Cert.Step.FfnArgs.ahead
  refine congrArg₂ (· + ·) (congrArg₂ (· + ·) (mul_comm _ _) ?_) ?_
  · by_cases e : i.val + 1 < 8192
    · rw [dif_pos e, dif_pos (by omega), mul_comm]
      exact congrArg (fun i => (args V0).cw 1 n * (args V0).dup i n) (Fin.ext (by show 2 + i.val - 1 = i.val + 1; omega))
    · rw [dif_neg e, dif_neg (by omega), mul_zero]
  · by_cases e : i.val + 2 < 8192
    · rw [dif_pos e, dif_pos (by omega), mul_comm]
      exact congrArg (fun i => (args V0).cw 0 n * (args V0).dup i n) (Fin.ext (Nat.add_comm _ _))
    · rw [dif_neg e, dif_neg (by omega), mul_zero]

theorem dh_entry (h : (args V0).Finite) (i : Fin 8192) (k : Fin 1024) : (Value.res_main_v93 V0 : FVec Ideal S8192x1024 .f32) (ix2 i k) = (args V0).dh i k := by
  unfold Value.res_main_v93
  clean_types
  pointwise
  simp only [du_entry V0 h]
  rfl

/-- The rows' gradient: the cotangent and the norm's derivative. -/
theorem dx_entry (h : (args V0).Finite) (i : Fin 8192) (k : Fin 1024) :
    (addf (addf (addf (V0 (Proc.devRef .tc main_arg6)) (mulf (Value.res_main_v98 V0) (broadcastInDim S8192x1024 ![0, 1] Gen.bcast_S8192x1_S8192x1024_0_1 (Value.res_main_v8 V0))))
      (mulf (V0 (Proc.devRef .tc main_arg0)) (Value.res_main_v110 V0))) (mulf (Value.res_main_v110 V0) (V0 (Proc.devRef .tc main_arg0)))
      : FVec Ideal S8192x1024 .f32) (ix2 i k) = (args V0).dx i k := by
  unfold Value.res_main_v110 Value.res_main_v98 Value.res_main_v8 Value.res_main_v7 Value.res_main_v14
  clean_types
  pointwise
  simp only [dh_entry V0 h, Finset.univ_unique, Finset.sum_singleton]
  rw [Cert.Step.FfnArgs.dx, Cert.Step.normGrad_eq _ _ (h.x i) fun q => Cert.Step.fin_mul (h.dh i q) (h.g q)]
  rfl

/-- An array's entries. -/
abbrev entry {a b : ℕ} (x : FVec Ideal ⟨2, ![a, b]⟩ .f32) (i : Fin a) (n : Fin b) : EReal := x (ix2 i n)

/-- The scale's gradient, column by column. -/
theorem dg_entry (h : (args V0).Finite) (k : Fin 1024) :
    (∑ i, entry (Value.res_main_v13 V0) i k * entry (Value.res_main_v93 V0) i k)
      = (args V0).dg 0 k := by
  rw [Cert.Step.FfnArgs.dg, if_pos rfl]
  refine Finset.sum_congr rfl fun i _ => ?_
  unfold entry
  rw [dh_entry V0 h, mul_comm]
  refine congrArg _ ?_
  unfold Value.res_main_v13 Value.res_main_v8 Value.res_main_v7
  clean_types
  pointwise
  rfl

/-- The convolution's gradients, column by column. -/
theorem dc_entry (h : (args V0).Finite) (n : Fin 5632) :
    (∑ i, entry (Value.res_main_v22 V0) i n * entry (Value.res_main_v56 V0) i n) = (args V0).dc 0 n
    ∧ (∑ i, entry (Value.res_main_v28 V0) i n * entry (Value.res_main_v56 V0) i n) = (args V0).dc 1 n
    ∧ (∑ i, entry (Value.res_main_v35 V0) i n * entry (Value.res_main_v56 V0) i n) = (args V0).dc 2 n
    ∧ (∑ i, entry (Value.res_main_v56 V0) i n) = (args V0).dc 3 n := by
  have b0 : ∀ i, (Value.res_main_v22 V0 : FVec Ideal S8192x5632 .f32) (ix2 i n) = (args V0).back 2 i n := fun i => by
    unfold Value.res_main_v22
    clean_types
    pointwise
    rw [padded]
    rfl
  have b1 : ∀ i, (Value.res_main_v28 V0 : FVec Ideal S8192x5632 .f32) (ix2 i n) = (args V0).back 1 i n := fun i => by
    unfold Value.res_main_v28
    clean_types
    pointwise
    rw [padded, Cert.Step.FfnArgs.back_one]
  have b2 : ∀ i, (Value.res_main_v35 V0 : FVec Ideal S8192x5632 .f32) (ix2 i n) = (args V0).pre i n := fun i => by
    unfold Value.res_main_v35
    clean_types
    pointwise
    rw [padded, dif_neg (by show ¬ 2 + i.val < 2; omega)]
    exact congrArg (fun i => (args V0).pre i n) (Fin.ext (Nat.add_sub_cancel_left _ _))
  have d : ∀ i, (Value.res_main_v56 V0 : FVec Ideal S8192x5632 .f32) (ix2 i n) = (args V0).dup i n := fun i => dup_entry V0 h i n
  unfold entry
  simp only [b0, b1, b2, d]
  obtain ⟨e0, e1, e2, e3⟩ := (args V0).dc_weights n
  rw [e0, e1, e2, e3]
  exact ⟨Cert.Step.sum_shift 8192 2 (fun i => (args V0).pre i n) fun i => (args V0).dup i n,
    Cert.Step.sum_shift 8192 1 (fun i => (args V0).pre i n) fun i => (args V0).dup i n, rfl, rfl⟩

/-- The eight rows put together: three for the convolution's weights, one for its shift, and zero. -/
theorem dc_rows (a : Cert.Step.FfnArgs) (s : Fin 8) (n : Fin 5632) (A B C D : EReal)
    (h0 : A = a.dc 0 n) (h1 : B = a.dc 1 n) (h2 : C = a.dc 2 n) (h3 : D = a.dc 3 n) :
    (if _h : s.val < 3 then ((if _h : 2 ≤ s.val ∧ s.val - 2 < 1 then C else 0) + (if _h : 1 ≤ s.val ∧ s.val - 1 < 1 then B else 0))
      + (if _h : s.val < 1 then A else 0) else if _h : s.val - 3 < 1 then D else 0) = a.dc s.val n := by
  subst h0 h1 h2 h3
  by_cases h : s.val < 4
  · obtain ⟨s, hs⟩ := s
    replace h : s < 4 := h
    interval_cases s <;> simp
  · rw [dif_neg (by omega), dif_neg (by omega), Cert.Step.FfnArgs.dc]
    refine (Finset.sum_eq_zero fun i _ => ?_).symm
    rw [Cert.Step.FfnArgs.dcRow, if_neg (by omega), if_neg (by omega), if_neg (by omega), if_neg (by omega)]

end Cert.FfnReferenceIdeal.Read

end
-- ==== Proof.FfnReferenceRun.lean ====
/- The run of the feed-forward gradient's host reference: its results as functions of its arguments. -/
module

public import proofs.«01_k».proof.Proof.FfnReference
public import proofs.«01_k».proof.Proof.Gen.FfnReferenceIdeal.Run
public import Idealize.ShloMosaic.Lib.Pointwise
public import Idealize.ShloMosaic.Lib.Tactic.CleanTypes

@[expose] public section

set_option maxRecDepth 16384

noncomputable section

namespace Cert.FfnReferenceIdeal.Read

open Cert.FfnReferenceIdeal Idealize.ShloMosaic Idealize.ShloMosaic.TcCoe Idealize.SL.Sem
open Cert.Step (col)

variable (m : (ℓ : Loc nD τ sig) → Buf (Elt Ideal) ℓ)

theorem truncf_entry {s : Shape} (x : FVec Ideal s .f32) (h : FTy.bits .bf16 < FTy.bits .f32) (i : s.Idx) : truncf .bf16 x h i = x i := rfl

theorem turn_entry (x : FVec Ideal S8x5632 .f32) (j s : Fin 8) (q : Fin 704) :
    (transpose S8x8x704 [1, 0, 2] (shapeCast S8x8x704 x Gen.shapeCasts_S8x5632_S8x8x704) Gen.transposes_S8x8x704_S8x8x704_1_0_2) (ix3 j s q)
      = x (ix2 s (col j q)) := by
  pointwise
  exact congrArg (fun n => x (ix2 s n)) (Fin.ext (by show j.val * 704 + q.val = 704 * j.val + q.val; omega))

/-- The run, read: the results as functions of the arguments, which stay as they were. -/
theorem run (ρ : Dev nD → PrngReg) (hf : ∀ c, (args (StableHlo.launchContents m c)).Finite) :
    θ_run defs (onTc (τ := τ) (main (F := Ideal))) ⟨m, fun _ => 0, ρ⟩ fun r => ∀ c : Dev nD,
      r.2.mem ((c.tc : Thread nD τ).loc main_v122) = (fun y : S8x8192x704.Idx => (args (StableHlo.launchContents m c)).du (y 1) (col (y 0) (y 2)))
      ∧ r.2.mem ((c.tc : Thread nD τ).loc main_v119) = (fun y : S8x8x704.Idx => (args (StableHlo.launchContents m c)).dc (y 1).val (col (y 0) (y 2)))
      ∧ r.2.mem ((c.tc : Thread nD τ).loc main_v114) = (fun y : S8192x1024.Idx => (args (StableHlo.launchContents m c)).dx (y 0) (y 1))
      ∧ r.2.mem ((c.tc : Thread nD τ).loc main_v125) = (fun y : S8x1024.Idx => (args (StableHlo.launchContents m c)).dg (y 0) (y 1))
      ∧ r.2.mem ((c.tc : Thread nD τ).loc main_v126) = (fun y : S8192x1024.Idx => (args (StableHlo.launchContents m c)).dx (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun _ h c => ⟨?_, ?_, ?_, ?_, ?_, (h c).2.2.2.2.2⟩) (Value.run m ρ)
  · rw [(h c).1]
    funext y
    idx_vars y
    clean_types
    pointwise
    refine (du_entry (StableHlo.launchContents m c) (hf c) _ _).trans ?_
    exact congrArg (Cert.Step.FfnArgs.du _ y1) (Fin.ext (by show y0.val * 704 + y2.val = 704 * y0.val + y2.val; omega))
  · rw [(h c).2.1]
    funext y
    idx_vars y
    refine (turn_entry _ _ _ _).trans ?_
    obtain ⟨d0, d1, d2, d3⟩ := dc_entry (StableHlo.launchContents m c) (hf c) (col y0 y2)
    generalize col y0 y2 = n at *
    clear h
    clean_types
    pointwise
    exact dc_rows _ y1 n _ _ _ _ ((Fintype.sum_unique _).trans d0) ((Fintype.sum_unique _).trans d1) ((Fintype.sum_unique _).trans d2)
      ((Fintype.sum_unique _).trans d3)
  · rw [(h c).2.2.1]
    funext y
    idx_vars y
    exact dx_entry (StableHlo.launchContents m c) (hf c) _ _
  · rw [(h c).2.2.2.1]
    funext y
    idx_vars y
    clean_types
    pointwise
    simp only [Finset.univ_unique, Finset.sum_singleton]
    by_cases h0 : y0 = 0
    · subst h0
      rw [dif_pos (by decide)]
      exact dg_entry (StableHlo.launchContents m c) (hf c) y1
    · rw [dif_neg (by intro h; exact h0 (Fin.ext (by simpa using h))), Cert.Step.FfnArgs.dg, if_neg h0]
  · rw [(h c).2.2.2.2.1]
    funext y
    idx_vars y
    refine (truncf_entry _ _ _).trans ?_
    exact dx_entry (StableHlo.launchContents m c) (hf c) _ _

end Cert.FfnReferenceIdeal.Read

end
-- ==== Proof.FfnClaim.lean ====
/- The claims about the feed-forward block's gradient. -/
module

public import proofs.«01_k».proof.Defs
public import proofs.«01_k».proof.Proof.Gen.FfnKernel.Frame
public import proofs.«01_k».proof.Proof.Gen.Pre_finite_ffn
public import proofs.«01_k».proof.Proof.Gen.FfnReferenceIdeal
public import proofs.«01_k».proof.Proof.FfnKernelValue
public import proofs.«01_k».proof.Proof.FfnReferenceRun
public import proofs.«01_k».proof.Proof.FiniteArgs

@[expose] public section

set_option maxRecDepth 16384

noncomputable section

namespace Cert.Pre_finite_ffn

open Cert.Pre_finite_ffn Idealize.ShloMosaic

/-- The precondition, read: all seven arrays hold real numbers. -/
theorem fin_of_fn [Facts] (x : FVec Ideal S8192x1024 .f32) (g : FVec Ideal S1024 .f32) (w : FVec Ideal S1024x5632 .f32)
    (cw : FVec Ideal S3x5632 .f32) (cb : FVec Ideal S5632 .f32) (wd : FVec Ideal S2816x1024 .f32) (ct : FVec Ideal S8192x1024 .f32)
    (h : fn (F := Ideal) x g w cw cb wd ct = fun _ => 1#1) :
    (∀ i, Cert.Step.Fin' (x i)) ∧ (∀ i, Cert.Step.Fin' (g i)) ∧ (∀ i, Cert.Step.Fin' (w i)) ∧ (∀ i, Cert.Step.Fin' (cw i))
      ∧ (∀ i, Cert.Step.Fin' (cb i)) ∧ (∀ i, Cert.Step.Fin' (wd i)) ∧ ∀ i, Cert.Step.Fin' (ct i) := by
  have e := congrFun h ix0
  dsimp only [fn, fn_part1] at e
  have : Subsingleton S_.Idx := ⟨fun a b => funext fun i => i.elim0⟩
  obtain ⟨e, e6⟩ := (IntOp.andi_eq_one).1 e
  obtain ⟨e, e5⟩ := (IntOp.andi_eq_one).1 e
  obtain ⟨e, e4⟩ := (IntOp.andi_eq_one).1 e
  obtain ⟨e, e3⟩ := (IntOp.andi_eq_one).1 e
  obtain ⟨e, e2⟩ := (IntOp.andi_eq_one).1 e
  obtain ⟨e0, e1⟩ := (IntOp.andi_eq_one).1 e
  exact ⟨Cert.Step.fin_of_all _ _ Cert.Step.word_inf _ _ _ _ _ e0, Cert.Step.fin_of_all _ _ Cert.Step.word_inf _ _ _ _ _ e1,
    Cert.Step.fin_of_all _ _ Cert.Step.word_inf _ _ _ _ _ e2, Cert.Step.fin_of_all _ _ Cert.Step.word_inf _ _ _ _ _ e3,
    Cert.Step.fin_of_all _ _ Cert.Step.word_inf _ _ _ _ _ e4, Cert.Step.fin_of_all _ _ Cert.Step.word_inf _ _ _ _ _ e5,
    Cert.Step.fin_of_all _ _ Cert.Step.word_inf _ _ _ _ _ e6⟩

end Cert.Pre_finite_ffn

namespace Cert.Proof

open Idealize.ShloMosaic Idealize.SL.Sem

theorem ffn_fin (m : (ℓ : Loc Cert.FfnKernelIdeal.nD Cert.FfnKernelIdeal.τ Cert.FfnKernelIdeal.sig) → Buf (Elt Ideal) ℓ)
    (h : Cert.Pre_FfnKernelIdeal_finite_ffn m) (c : Dev Cert.FfnKernelIdeal.nD) : (Cert.FfnKernelIdeal.Body.args m c).Finite := by
  obtain ⟨h0, h1, h2, h3, h4, h5, h6⟩ := Cert.Pre_finite_ffn.fin_of_fn _ _ _ _ _ _ _ (h c)
  exact ⟨fun i k => h0 (ix2 i k), fun k => h1 (ix1 k), fun k n => h2 (ix2 k n), fun s n => h3 (ix2 s n), fun n => h4 (ix1 n),
    fun n k => h5 (ix2 n k), fun i k => h6 (ix2 i k)⟩

theorem ffn_algebraic : Cert.algebraic_FfnKernelIdeal_FfnReferenceIdeal_pre_finite_ffn := by
  intro m ρ m' ρ' hpre hagree
  refine ⟨fun c => Cert.FfnKernelIdeal.Body.resDu m c, fun c => Cert.FfnKernelIdeal.Body.resDc m c, fun c => Cert.FfnKernelIdeal.Body.resDx m c,
    fun c => Cert.FfnKernelIdeal.Body.resDg m c, fun c => Cert.FfnKernelIdeal.Body.resDxb m c, Cert.FfnKernelIdeal.Body.run m ρ, ?_⟩
  have e : ∀ c, Cert.FfnReferenceIdeal.Read.args (StableHlo.launchContents m' c) = Cert.FfnKernelIdeal.Body.args m c := fun c => by
    obtain ⟨h0, h1, h2, h3, h4, h5, h6⟩ := hagree c
    unfold Cert.FfnReferenceIdeal.Read.args Cert.FfnKernelIdeal.Body.args
    congr 1
    · exact funext fun i => funext fun k => congrFun h0 (ix2 i k)
    · exact funext fun k => congrFun h1 (ix1 k)
    · exact funext fun k => funext fun n => congrFun h2 (ix2 k n)
    · exact funext fun s => funext fun n => congrFun h3 (ix2 s n)
    · exact funext fun n => congrFun h4 (ix1 n)
    · exact funext fun n => funext fun k => congrFun h5 (ix2 n k)
    · exact funext fun i => funext fun k => congrFun h6 (ix2 i k)
  refine (θ_run Cert.FfnReferenceIdeal.defs _ _).mono (fun _ h c => ⟨?_, ?_, ?_, ?_, ?_, (h c).2.2.2.2.2⟩)
    (Cert.FfnReferenceIdeal.Read.run m' ρ' fun c => by rw [e]; exact ffn_fin m hpre c)
  · rw [(h c).1, e]; rfl
  · rw [(h c).2.1, e]; rfl
  · rw [(h c).2.2.1, e]; rfl
  · rw [(h c).2.2.2.1, e]; rfl
  · rw [(h c).2.2.2.2.1, e]; rfl

theorem ffn_reference_frame : Cert.quiescent_FfnReferenceIdeal := fun m ρ _ =>
  (θ_run Cert.FfnReferenceIdeal.defs _ _).mono (fun r h => ⟨fun c => (h c).2.2.2.2.2, sem_eq_zero_of_no_sems (by decide) r.2⟩)
    (Cert.FfnReferenceIdeal.Value.run (F := Ideal) m ρ)

theorem ffn_frames : Cert.quiescent_FfnKernel ∧ Cert.quiescent_FfnKernelIdeal ∧ Cert.quiescent_FfnKernelIdeal_pre_finite_ffn
    ∧ Cert.quiescent_FfnReferenceIdeal ∧ Cert.quiescent_FfnReferenceIdeal_pre_finite_ffn :=
  ⟨fun m ρ _ => Cert.FfnKernel.Gen.frame m ρ, fun m ρ _ => Cert.FfnKernelIdeal.Gen.frame m ρ, fun m ρ _ => Cert.FfnKernelIdeal.Gen.frame m ρ,
    ffn_reference_frame, fun m ρ _ => ffn_reference_frame m ρ trivial⟩

end Cert.Proof

end
-- ==== Proof.FfnForward.lean ====
/- The feed-forward block on its way forward, and the loss on its rows with the loss's gradient, in terms of the arguments. -/
module

public import proofs.«01_k».proof.Proof.FfnGate

@[expose] public section

noncomputable section

namespace Cert.Step

open Idealize.ShloMosaic

theorem half_mul_top : Ideal.ofBits .f32 0x3F000000#32 * ⊤ = ⊤ := by
  rw [word_half]; exact EReal.coe_mul_top_of_pos (by norm_num)

theorem half_mul_bot : Ideal.ofBits .f32 0x3F000000#32 * ⊥ = ⊥ := by
  rw [word_half]; exact EReal.coe_mul_bot_of_pos (by norm_num)

/-- The bodies' logistic function is the host's, at the infinities too. -/
theorem sg_eq (x : EReal) : Ideal.div 1 (1 + Ideal.exp (-x)) = sg x := by
  induction x with
  | coe r => rw [logi_coe, sg_coe]
  | top =>
    rw [sg, half_mul_top]
    show Ideal.div 1 (1 + 0) = _ * (1 : EReal) + _
    rw [word_half, add_zero, mul_one, ← EReal.coe_one, div_coe _ _ one_ne_zero, ← EReal.coe_add]
    norm_num
  | bot =>
    rw [sg, half_mul_bot]
    show Ideal.div 1 (1 + ⊤) = _ * (-1 : EReal) + _
    rw [word_half, Ideal.div]
    have e : (1 : EReal) + ⊤ = ⊤ := by rw [← EReal.coe_one]; exact EReal.coe_add_top 1
    rw [e, if_neg EReal.top_ne_zero, EReal.inv_top, mul_zero, mul_neg, mul_one, ← EReal.coe_neg, ← EReal.coe_add]
    norm_num

/-- Column `q` of block `j` of the gated product's four blocks. -/
abbrev actCol (j : Fin 4) (q : Fin 704) : Fin 2816 := ⟨704 * j.val + q.val, by omega⟩

theorem word_thousandth : Ideal.ofBits .f32 0x3A800000#32 = ((1 / 1024 : ℝ) : EReal) := by
  simp [Ideal.ofBits, Ideal.ieee]; norm_num; rw [← EReal.coe_mul]; norm_num

namespace FfnArgs

variable (a : FfnArgs)

/-- The normed rows. -/
def h (i : Fin 8192) (k : Fin 1024) : EReal := a.x i k * rinv (a.x i) * a.g k

/-- The gated product. -/
def act (i : Fin 8192) (n : Fin 2816) : EReal :=
  a.up i ⟨n.val, by omega⟩ * sg (a.up i ⟨n.val, by omega⟩) * a.up i ⟨n.val + 2816, by omega⟩

/-- The block's output: the rows with the gated product times the weight down. -/
def out (i : Fin 8192) (k : Fin 1024) : EReal := a.x i k + ∑ n, a.act i n * a.wd n k

theorem Finite.out {a : FfnArgs} (f : a.Finite) (i : Fin 8192) (k : Fin 1024) : Fin' (a.out i k) :=
  fin_add (f.x i k) (fin_sum fun n => fin_mul (fin_mul (fin_mul (f.up _ _) (f.sg (f.up _ _))) (f.up _ _)) (f.wd n k))

end FfnArgs

/-- The block's arguments with those of the loss: the last norm's scale and the rows compared with. The block's cotangent plays no part. -/
structure LossArgs where
  b : FfnArgs
  gf : Fin 1024 → EReal
  t : Fin 8192 → Fin 1024 → EReal

/-- All entries of the arguments are real numbers. -/
structure LossArgs.Finite (a : LossArgs) : Prop where
  b : a.b.Finite
  gf : ∀ k, Fin' (a.gf k)
  t : ∀ i k, Fin' (a.t i k)

namespace LossArgs

variable (a : LossArgs)

/-- The difference that the loss squares. -/
def err (i : Fin 8192) (k : Fin 1024) : EReal := a.b.out i k * rinv (a.b.out i) * a.gf k - a.t i k

/-- A row's mean square. -/
def rowLoss (i : Fin 8192) : EReal := Ideal.div (∑ k, a.err i k * a.err i k) (Ideal.ofBits .f32 0x44800000#32)

/-- The loss. -/
def loss : EReal := Ideal.ofBits .f32 0x3F000000#32 * ∑ i, a.rowLoss i

/-- The loss's gradient to the last norm's output. -/
def dy (i : Fin 8192) (k : Fin 1024) : EReal := a.err i k * Ideal.ofBits .f32 0x3A800000#32

/-- The scale's gradient, in the first of eight rows. -/
def dg (r : Fin 8) (k : Fin 1024) : EReal := if r = 0 then ∑ i, a.dy i k * (a.b.out i k * rinv (a.b.out i)) else 0

/-- The rows' gradient. -/
def dx (i : Fin 8192) (k : Fin 1024) : EReal := normGradK (a.b.out i) (fun q => a.dy i q * a.gf q) k

theorem Finite.dy {a : LossArgs} (f : a.Finite) (i : Fin 8192) (k : Fin 1024) : Fin' (a.dy i k) := by
  obtain ⟨y, hy⟩ := fin_mul (fin_mul (f.b.out i k) (rinv_fin (f.b.out i))) (f.gf k)
  obtain ⟨z, hz⟩ := f.t i k
  have e : a.err i k = ((y - z : ℝ) : EReal) := by rw [err, hy, hz, EReal.coe_sub]
  rw [LossArgs.dy, e, word_thousandth]
  exact ⟨_, (EReal.coe_mul _ _).symm⟩

end LossArgs

/-- One half comes out of a sum of tiles. -/
theorem half_sum {ι : Type*} (s : Finset ι) (f : ι → EReal) :
    ∑ i ∈ s, Ideal.ofBits .f32 0x3F000000#32 * f i = Ideal.ofBits .f32 0x3F000000#32 * ∑ i ∈ s, f i := by
  classical
  rw [word_half]
  induction s using Finset.induction_on with
  | empty => simp
  | insert i s hi ih =>
    rw [Finset.sum_insert hi, Finset.sum_insert hi, ih,
      EReal.left_distrib_of_nonneg_of_ne_top (by norm_num) (EReal.coe_ne_top _)]

end Cert.Step

end
-- ==== Proof.Slabs.lean ====
/- Arrays that come as slabs of rows, and the parts of them that a body loads and stores: some rows of one slab, a row of a plain array,
   and lists of stores of one slab each. -/
module

public import Idealize.ShloMosaic.Lib.Tactic
public import Idealize.ShloMosaic.Lib.Pointwise
public import Idealize.ShloMosaic.Lib.WritesUnit
public import Idealize.ShloMosaic.Lib.Pipeline.ReadBack

@[expose] public section

set_option maxRecDepth 16384

noncomputable section

namespace Cert.Slab

open Idealize.ShloMosaic Idealize.ShloMosaic.TcCoe Idealize.SL.Sem

/-- The offsets of a whole block. -/
theorem hz : (![0, 0] : Fin 2 → Nat) = fun _ => 0 := funext fun a => by fin_cases a <;> rfl

@[inherit_doc hz] theorem hz3 : (![0, 0, 0] : Fin 3 → Nat) = fun _ => 0 := funext fun a => by fin_cases a <;> rfl

theorem slabIn {N A B : ℕ} (j : Fin N) (o n : ℕ) (h : o + n ≤ A) (a : Fin 3) :
    (![j.val, o, 0] : Fin 3 → ℕ) a + (![1, n, B] : Fin 3 → ℕ) a ≤ (⟨3, ![N, A, B]⟩ : Shape).size a := by
  match a with
  | ⟨0, _⟩ => show j.val + 1 ≤ N; omega
  | ⟨1, _⟩ => exact h
  | ⟨2, _⟩ => show 0 + B ≤ B; omega

/-- Rows `o` to `o + n` of slab `j`. -/
abbrev slab {N A B : ℕ} (j : Fin N) (o n : ℕ) (h : o + n ≤ A) : Rect ⟨3, ![N, A, B]⟩ := Rect.unit ![j.val, o, 0] ![1, n, B] (slabIn j o n h)

@[inherit_doc slab] def rows {N A B : ℕ} {e : EltTy} (x : Vec Ideal ⟨3, ![N, A, B]⟩ e) (j : Fin N) (o n : ℕ) (h : o + n ≤ A) :
    Vec Ideal ⟨3, ![1, n, B]⟩ e := View.ld x (slab j o n h)

theorem slab_emb {N A B : ℕ} (j : Fin N) (o n : ℕ) (h : o + n ≤ A) (r : Fin n) (q : Fin B) :
    (slab (N := N) (A := A) (B := B) j o n h).emb (ix3 (0 : Fin 1) r q) = ix3 j ⟨o + r.val, by omega⟩ q :=
  funext fun a => Fin.ext (by
    match a with
    | ⟨0, _⟩ => show j.val + 1 * 0 = j.val; omega
    | ⟨1, _⟩ => show o + 1 * r.val = o + r.val; omega
    | ⟨2, _⟩ => show 0 + 1 * q.val = q.val; omega)

theorem rows_apply {N A B : ℕ} {e : EltTy} (x : Vec Ideal ⟨3, ![N, A, B]⟩ e) (j : Fin N) (o n : ℕ) (h : o + n ≤ A) (r : Fin n) (q : Fin B) :
    rows x j o n h (ix3 0 r q) = x (ix3 j ⟨o + r.val, by omega⟩ q) := congrArg x (slab_emb j o n h r q)

theorem all_rows_apply {N A B : ℕ} {e : EltTy} (x : Vec Ideal ⟨3, ![N, A, B]⟩ e) (j : Fin N) (n : ℕ) (h : 0 + n ≤ A) (r : Fin n) (q : Fin B) :
    rows x j 0 n h (ix3 0 r q) = x (ix3 j ⟨r.val, by omega⟩ q) := by
  rw [rows_apply]; simp only [Nat.zero_add]

theorem rowIn {N B : ℕ} (j : Fin N) (a : Fin 2) : (![j.val, 0] : Fin 2 → ℕ) a + (![1, B] : Fin 2 → ℕ) a ≤ (⟨2, ![N, B]⟩ : Shape).size a := by
  match a with
  | ⟨0, _⟩ => show j.val + 1 ≤ N; omega
  | ⟨1, _⟩ => show 0 + B ≤ B; omega

/-- Row `j`, as a row. -/
def oneRow {N B : ℕ} {e : EltTy} (x : Vec Ideal ⟨2, ![N, B]⟩ e) (j : Fin N) : Vec Ideal ⟨2, ![1, B]⟩ e :=
  View.ld x (Rect.unit (s := ⟨2, ![N, B]⟩) ![j.val, 0] ![1, B] (rowIn j))

theorem oneRow_apply {N B : ℕ} {e : EltTy} (x : Vec Ideal ⟨2, ![N, B]⟩ e) (j : Fin N) (q : Fin B) : oneRow x j (ix2 0 q) = x (ix2 j q) :=
  congrArg x (funext fun a => Fin.ext (by
    match a with
    | ⟨0, _⟩ => show j.val + 1 * 0 = j.val; omega
    | ⟨1, _⟩ => show 0 + 1 * q.val = q.val; omega))

/-- Rows of slab `j`, stored where they belong. -/
theorem piece {N A B : ℕ} {e : EltTy} (G : (⟨3, ![N, A, B]⟩ : Shape).Idx → Elt Ideal e) (j : Fin N) (o n : ℕ) (ho : o + n ≤ A)
    (w : (⟨3, ![1, n, B]⟩ : Shape).Idx → Elt Ideal e) (hw : ∀ (r : Fin n) (q : Fin B), w (ix3 0 r q) = G (ix3 j ⟨o + r.val, by omega⟩ q))
    (x : (⟨3, ![1, n, B]⟩ : Shape).Idx) : w x = G ((slab (N := N) (A := A) (B := B) j o n ho).emb x) := by
  obtain ⟨z, r, q, rfl⟩ : ∃ (z : Fin 1) (r : Fin n) (q : Fin B), x = ix3 z r q := ⟨x 0, x 1, x 2, eq_ix3 x⟩
  obtain rfl : z = 0 := Subsingleton.elim _ _
  exact (hw r q).trans (congrArg G (slab_emb j o n ho r q).symm)

@[inherit_doc piece] theorem whole_piece {N A B : ℕ} {e : EltTy} (G : (⟨3, ![N, A, B]⟩ : Shape).Idx → Elt Ideal e) (j : Fin N)
    (w : (⟨3, ![1, A, B]⟩ : Shape).Idx → Elt Ideal e) (hw : ∀ (r : Fin A) (q : Fin B), w (ix3 0 r q) = G (ix3 j r q))
    (x : (⟨3, ![1, A, B]⟩ : Shape).Idx) : w x = G ((slab (N := N) (A := A) (B := B) j 0 A (by omega)).emb x) :=
  piece G j 0 A (by omega) w (fun r q => by simp only [hw, Nat.zero_add]) x

theorem mem_slab {N A B : ℕ} (j : Fin N) (o n : ℕ) (h : o + n ≤ A) (y : (⟨3, ![N, A, B]⟩ : Shape).Idx) (hj : (y 0).val = j.val)
    (hr : o ≤ (y 1).val ∧ (y 1).val < o + n) : y ∈ (slab (N := N) (A := A) (B := B) j o n h).set := by
  rw [Rect.mem_set_unit]
  intro a
  match a with
  | ⟨0, _⟩ => exact ⟨hj.ge, by show (y 0).val < j.val + 1; omega⟩
  | ⟨1, _⟩ => exact hr
  | ⟨2, _⟩ => exact ⟨Nat.zero_le _, by show (y 2).val < 0 + B; have : (y 2).val < B := (y 2).isLt; omega⟩

/-- One store per slab of eight, in the order 0, 4, 1, 5, 2, 6, 3, 7, last first. -/
abbrev paired {s : Shape} {e : EltTy} (P : Fin 8 → View.Piece (Elt Ideal) s e) : List (View.Piece (Elt Ideal) s e) :=
  [P 7, P 3, P 6, P 2, P 5, P 1, P 4, P 0]

theorem paired_of {s : Shape} {e : EltTy} (G : s.Idx → Elt Ideal e) (P : Fin 8 → View.Piece (Elt Ideal) s e)
    (h : ∀ j, ∀ x : (P j).1.shape.Idx, (P j).2 x = G ((P j).1.emb x)) : View.PiecesOf G (paired P) :=
  ⟨h 7, h 3, h 6, h 2, h 5, h 1, h 4, h 0, trivial⟩

theorem paired_mem {s : Shape} {e : EltTy} (P : Fin 8 → View.Piece (Elt Ideal) s e) (j : Fin 8) : P j ∈ paired P := by
  fin_cases j <;> simp

end Cert.Slab

end
-- ==== Proof.LossTile.lean ====
/- One tile of rows of the feed-forward block on its way forward, and of the loss on its output: the normed rows, their products
   with the weight up, the convolution over the rows with the eight that the tile before hands on, the gated product, and the loss. -/
module

public import proofs.«01_k».proof.Proof.FfnForward
public import proofs.«01_k».proof.Proof.Slabs
public import proofs.«01_k».proof.Proof.Gen.LossKernelIdeal.Skeleton
public import Idealize.ShloMosaic.Lib.Tactic
public import Idealize.ShloMosaic.Lib.Pointwise

@[expose] public section

set_option maxRecDepth 16384

noncomputable section

namespace Cert.LossKernelIdeal.Body

open Cert.LossKernelIdeal Cert.LossKernelIdeal.Gen Idealize.ShloMosaic Idealize.ShloMosaic.TcCoe Idealize.SL.Sem
open Cert.Step (sg rinv normGradK)
open Cert.Slab

theorem h_apply (x : Vec Ideal S256x1024 .f32) (g : Vec Ideal S1x1024 .f32) (r : Fin 256) (k : Fin 1024) :
    k0_pay4 x g (ix2 r k) = x (ix2 r k) * rinv (fun q => x (ix2 r q)) * g (ix2 0 k) := by
  pointwise [k0_pay4]
  rfl

theorem pre_apply (h : FVec Ideal S256x1024 .bf16) (w : Vec Ideal S1x1024x704 .bf16) (r : Fin 256) (q : Fin 704) :
    k0_pay14 h w (ix2 r q) = ∑ k : Fin 1024, h (ix2 r k) * w (ix3 0 k q) := by
  pointwise [k0_pay14]

/-- A tile of 256 rows, `s` rows back: the rows before the tile's first are the last of the eight handed on. -/
def behind (s : ℕ) (hs : s ≤ 8) (p : FVec Ideal S256x704 .bf16) (cr : Vec Ideal S1x8x704 .f32) (r : Fin 256) (q : Fin 704) : EReal :=
  if h : r.val < s then cr (ix3 0 ⟨8 - s + r.val, by omega⟩ q) else p (ix2 ⟨r.val - s, by omega⟩ q)

/-- The eight rows and the tile, turned by `n` places and cut to the tile's rows. -/
abbrev turned (n : BitVec 32) (p : FVec Ideal S256x704 .bf16) (cr : Vec Ideal S1x8x704 .f32) : FVec Ideal S256x704 .f32 :=
  extractStridedSlice S256x704 ![8, 0] (dynamicRotate 0 n none (concatenate S264x704 0 [⟨S8x704, shapeCast S8x704 cr shapeCasts_S1x8x704_S8x704⟩,
    ⟨S256x704, extf .f32 p bitsLt_bf16_f32⟩] concatenates_S8x704_S256x704_S264x704_d0) rotates_S264x704_d0) slices_S264x704_o8_0_S256x704

theorem turned1_apply (p : FVec Ideal S256x704 .bf16) (cr : Vec Ideal S1x8x704 .f32) (r : Fin 256) (q : Fin 704) :
    turned 1#32 p cr (ix2 r q) = behind 1 (by omega) p cr r q := by
  pointwise [turned, behind]
  have e : (8 + r.val + 264 - 1) % 264 = r.val + 7 := by omega
  simp only [e]
  by_cases h : r.val < 1
  · rw [dif_pos h, dif_pos (by omega)]
    exact congrArg (fun s => cr (ix3 0 s q)) (Fin.ext (by show r.val + 7 = 8 - 1 + r.val; omega))
  · rw [dif_neg h, dif_neg (by omega)]
    exact congrArg (fun s => p (ix2 s q)) (Fin.ext (by show r.val + 7 - 8 = r.val - 1; omega))

theorem turned2_apply (p : FVec Ideal S256x704 .bf16) (cr : Vec Ideal S1x8x704 .f32) (r : Fin 256) (q : Fin 704) :
    turned 2#32 p cr (ix2 r q) = behind 2 (by omega) p cr r q := by
  pointwise [turned, behind]
  have e : (8 + r.val + 264 - 2) % 264 = r.val + 6 := by omega
  simp only [e]
  by_cases h : r.val < 2
  · rw [dif_pos h, dif_pos (by omega)]
    exact congrArg (fun s => cr (ix3 0 s q)) (Fin.ext (by show r.val + 6 = 8 - 2 + r.val; omega))
  · rw [dif_neg h, dif_neg (by omega)]
    exact congrArg (fun s => p (ix2 s q)) (Fin.ext (by show r.val + 6 - 8 = r.val - 2; omega))

theorem up_apply (p : FVec Ideal S256x704 .bf16) (cr : Vec Ideal S1x8x704 .f32) (b : Vec Ideal S1x704 .f32) (w0 w1 w2 : Vec Ideal S1x1x704 .f32)
    (r : Fin 256) (q : Fin 704) : k0_pay11 p cr b w0 w1 w2 (ix2 r q)
      = w0 (ix3 0 0 q) * turned 2#32 p cr (ix2 r q) + w1 (ix3 0 0 q) * turned 1#32 p cr (ix2 r q) + w2 (ix3 0 0 q) * p (ix2 r q) + b (ix2 0 q) := by
  generalize h1 : turned 1#32 p cr = e1
  generalize h2 : turned 2#32 p cr = e2
  pointwise [k0_pay11, k0_pay9, h1, h2]

theorem act_apply (g v : FVec Ideal S256x704 .f32) (r : Fin 256) (q : Fin 704) :
    k0_pay71 g v (ix2 r q) = g (ix2 r q) * sg (g (ix2 r q)) * v (ix2 r q) := by
  pointwise [k0_pay71, sg]

theorem acc_apply (a : FVec Ideal S256x1024 .f32) (g v : FVec Ideal S256x704 .f32) (wa wb : Vec Ideal S1x352x1024 .bf16) (r : Fin 256) (k : Fin 1024) :
    k0_pay73 a g v wa wb (ix2 r k) = a (ix2 r k) + ∑ q : Fin 704, k0_pay71 g v (ix2 r q)
      * (if h : q.val < 352 then wa (ix3 0 ⟨q.val, h⟩ k) else wb (ix3 0 ⟨q.val - 352, by omega⟩ k)) := by
  generalize h1 : k0_pay71 g v = e1
  pointwise [k0_pay73, h1]

theorem err_apply (a : FVec Ideal S256x1024 .f32) (g v : FVec Ideal S256x704 .f32) (wa wb : Vec Ideal S1x352x1024 .bf16)
    (gf : Vec Ideal S1x1024 .f32) (t : Vec Ideal S256x1024 .f32) (r : Fin 256) (k : Fin 1024) :
    k0_pay76 a g v wa wb gf t (ix2 r k) = k0_pay73 a g v wa wb (ix2 r k) * rinv (fun q => k0_pay73 a g v wa wb (ix2 r q)) * gf (ix2 0 k) - t (ix2 r k) := by
  generalize h1 : k0_pay73 a g v wa wb = e1
  pointwise [k0_pay76, k0_pay75, k0_pay74, h1]
  rfl

theorem xn_apply (a : FVec Ideal S256x1024 .f32) (g v : FVec Ideal S256x704 .f32) (wa wb : Vec Ideal S1x352x1024 .bf16) (r : Fin 256) (k : Fin 1024) :
    k0_pay75 a g v wa wb (ix2 r k) = k0_pay73 a g v wa wb (ix2 r k) * rinv (fun q => k0_pay73 a g v wa wb (ix2 r q)) := by
  generalize h1 : k0_pay73 a g v wa wb = e1
  pointwise [k0_pay75, k0_pay74, h1]
  rfl

theorem ro_apply (a : FVec Ideal S256x1024 .f32) (g v : FVec Ideal S256x704 .f32) (wa wb : Vec Ideal S1x352x1024 .bf16) (r : Fin 256) :
    k0_pay74 a g v wa wb (ix2 r 0) = rinv (fun q => k0_pay73 a g v wa wb (ix2 r q)) := by
  generalize h1 : k0_pay73 a g v wa wb = e1
  pointwise [k0_pay74, h1]
  rfl

theorem loss_apply (e : FVec Ideal S256x1024 .f32) (l : Vec Ideal S1x1 .f32) :
    k0_pay77 e l (ix2 0 0) = l (ix2 0 0) + Ideal.ofBits .f32 0x3F000000#32 * ∑ r : Fin 256,
      Ideal.div (∑ k : Fin 1024, e (ix2 r k) * e (ix2 r k)) (Ideal.ofBits .f32 0x44800000#32) := by
  pointwise [k0_pay77]

theorem dg_apply (x e : FVec Ideal S256x1024 .f32) (v : Vec Ideal S1x1024 .f32) (k : Fin 1024) :
    k0_pay79 x e v (ix2 0 k) = v (ix2 0 k) + ∑ r : Fin 256, e (ix2 r k) * Ideal.ofBits .f32 0x3A800000#32 * x (ix2 r k) := by
  pointwise [k0_pay79, k0_pay78]

theorem dx_apply (o : FVec Ideal S256x1 .f32) (x e : FVec Ideal S256x1024 .f32) (gf : Vec Ideal S1x1024 .f32) (r : Fin 256) (k : Fin 1024) :
    k0_pay80 o x e gf (ix2 r k) = o (ix2 r 0) * (e (ix2 r k) * Ideal.ofBits .f32 0x3A800000#32 * gf (ix2 0 k) - x (ix2 r k)
      * Ideal.div (∑ q : Fin 1024, e (ix2 r q) * Ideal.ofBits .f32 0x3A800000#32 * gf (ix2 0 q) * x (ix2 r q)) (Ideal.ofBits .f32 0x44800000#32)) := by
  pointwise [k0_pay80, k0_pay78]

theorem stored_apply (u : FVec Ideal S256x704 .bf16) (r : Fin 256) (q : Fin 704) :
    shapeCast S1x256x704 u shapeCasts_S256x704_S1x256x704 (ix3 0 r q) = u (ix2 r q) := by
  pointwise

/-- The eight rows handed on are the last ones. -/
theorem tail_apply (u : FVec Ideal S256x704 .bf16) (r : Fin 8) (q : Fin 704) : k0_pay10 u (ix3 0 r q) = u (ix2 ⟨248 + r.val, by omega⟩ q) := by
  pointwise [k0_pay10]
  rfl

section
variable (x0 : Vec Ideal S256x1024 .f32) (x1 : Vec Ideal S1x1024 .f32) (x2 : Vec Ideal S8x1024x704 .bf16) (x3 : Vec Ideal S8x3x704 .f32)
  (x4 : Vec Ideal S8x704 .f32) (x5 : Vec Ideal S8x352x1024 .bf16) (x6 : Vec Ideal S1x1024 .f32) (x7 : Vec Ideal S256x1024 .f32)
  (cs : Vec Ideal S8x8x704 .f32)

/-- The normed rows. -/
def hB (r : Fin 256) (k : Fin 1024) : EReal := x0 (ix2 r k) * rinv (fun q => x0 (ix2 r q)) * x1 (ix2 0 k)

/-- Block `j` of their product with the weight up. -/
def preB (j : Fin 8) (r : Fin 256) (q : Fin 704) : EReal := ∑ k : Fin 1024, hB x0 x1 r k * x2 (ix3 j k q)

/-- The same `s` rows back. -/
def backB (s : ℕ) (hs : s ≤ 8) (j : Fin 8) (r : Fin 256) (q : Fin 704) : EReal :=
  if h : r.val < s then cs (ix3 j ⟨8 - s + r.val, by omega⟩ q) else preB x0 x1 x2 j ⟨r.val - s, by omega⟩ q

/-- Block `j` of the convolved product. -/
def upB (j : Fin 8) (r : Fin 256) (q : Fin 704) : EReal :=
  x3 (ix3 j 0 q) * backB x0 x1 x2 cs 2 (by omega) j r q + x3 (ix3 j 1 q) * backB x0 x1 x2 cs 1 (by omega) j r q
    + x3 (ix3 j 2 q) * preB x0 x1 x2 j r q + x4 (ix2 j q)

/-- Block `j` of the gated product. -/
def actB (j : Fin 4) (r : Fin 256) (q : Fin 704) : EReal :=
  upB x0 x1 x2 x3 x4 cs ⟨j.val, by omega⟩ r q * sg (upB x0 x1 x2 x3 x4 cs ⟨j.val, by omega⟩ r q) * upB x0 x1 x2 x3 x4 cs ⟨j.val + 4, by omega⟩ r q

/-- What block `j` adds to the output. -/
def addB (j : Fin 4) (r : Fin 256) (k : Fin 1024) : EReal :=
  ∑ q : Fin 704, actB x0 x1 x2 x3 x4 cs j r q * (if h : q.val < 352 then x5 (ix3 ⟨2 * j.val, by omega⟩ ⟨q.val, h⟩ k)
    else x5 (ix3 ⟨2 * j.val + 1, by omega⟩ ⟨q.val - 352, by omega⟩ k))

/-- The block's output. -/
def outB (r : Fin 256) (k : Fin 1024) : EReal :=
  x0 (ix2 r k) + addB x0 x1 x2 x3 x4 x5 cs 0 r k + addB x0 x1 x2 x3 x4 x5 cs 1 r k + addB x0 x1 x2 x3 x4 x5 cs 2 r k + addB x0 x1 x2 x3 x4 x5 cs 3 r k

/-- The loss's difference. -/
def errB (r : Fin 256) (k : Fin 1024) : EReal :=
  outB x0 x1 x2 x3 x4 x5 cs r k * rinv (fun q => outB x0 x1 x2 x3 x4 x5 cs r q) * x6 (ix2 0 k) - x7 (ix2 r k)

/-- What the tile adds to the loss. -/
def lossB : EReal := Ideal.ofBits .f32 0x3F000000#32 * ∑ r : Fin 256,
  Ideal.div (∑ k : Fin 1024, errB x0 x1 x2 x3 x4 x5 x6 x7 cs r k * errB x0 x1 x2 x3 x4 x5 x6 x7 cs r k) (Ideal.ofBits .f32 0x44800000#32)

/-- What the tile adds to the scale's gradient. -/
def dgB (k : Fin 1024) : EReal := ∑ r : Fin 256, errB x0 x1 x2 x3 x4 x5 x6 x7 cs r k * Ideal.ofBits .f32 0x3A800000#32
  * (outB x0 x1 x2 x3 x4 x5 cs r k * rinv (fun q => outB x0 x1 x2 x3 x4 x5 cs r q))

/-- The rows' gradient. -/
def dxB (r : Fin 256) (k : Fin 1024) : EReal := normGradK (fun q => outB x0 x1 x2 x3 x4 x5 cs r q)
  (fun q => errB x0 x1 x2 x3 x4 x5 x6 x7 cs r q * Ideal.ofBits .f32 0x3A800000#32 * x6 (ix2 0 q)) k

/-- The bodies' own spellings of the blocks. -/
abbrev preT (j : Fin 8) : FVec Ideal S256x704 .bf16 := k0_pay14 (k0_pay4 x0 x1) (rows x2 j 0 1024 (by omega))

@[inherit_doc preT] abbrev upT (j : Fin 8) : FVec Ideal S256x704 .f32 :=
  k0_pay11 (preT x0 x1 x2 j) (rows cs j 0 8 (by omega)) (oneRow x4 j) (rows x3 j 0 1 (by omega)) (rows x3 j 1 1 (by omega)) (rows x3 j 2 1 (by omega))

@[inherit_doc preT] abbrev actT (j : Fin 4) : FVec Ideal S256x704 .bf16 :=
  k0_pay71 (upT x0 x1 x2 x3 x4 cs ⟨j.val, by omega⟩) (upT x0 x1 x2 x3 x4 cs ⟨j.val + 4, by omega⟩)

@[inherit_doc preT] abbrev addT (a : FVec Ideal S256x1024 .f32) (j : Fin 4) : FVec Ideal S256x1024 .f32 :=
  k0_pay73 a (upT x0 x1 x2 x3 x4 cs ⟨j.val, by omega⟩) (upT x0 x1 x2 x3 x4 cs ⟨j.val + 4, by omega⟩)
    (rows x5 ⟨2 * j.val, by omega⟩ 0 352 (by omega)) (rows x5 ⟨2 * j.val + 1, by omega⟩ 0 352 (by omega))

theorem preT_apply (j : Fin 8) (r : Fin 256) (q : Fin 704) : preT x0 x1 x2 j (ix2 r q) = preB x0 x1 x2 j r q := by
  refine (pre_apply _ _ r q).trans (Finset.sum_congr rfl fun k _ => ?_)
  rw [h_apply, all_rows_apply]
  rfl

theorem behind_eq (s : ℕ) (hs : s ≤ 8) (j : Fin 8) (r : Fin 256) (q : Fin 704) :
    behind s hs (preT x0 x1 x2 j) (rows cs j 0 8 (by omega)) r q = backB x0 x1 x2 cs s hs j r q := by
  unfold behind backB
  split
  · rw [all_rows_apply]
  · exact preT_apply x0 x1 x2 j _ q

theorem upT_apply (j : Fin 8) (r : Fin 256) (q : Fin 704) : upT x0 x1 x2 x3 x4 cs j (ix2 r q) = upB x0 x1 x2 x3 x4 cs j r q := by
  refine (up_apply _ _ _ _ _ _ r q).trans ?_
  rw [turned1_apply, turned2_apply, behind_eq, behind_eq, preT_apply, rows_apply, rows_apply, rows_apply, oneRow_apply]
  rfl

theorem actT_apply (j : Fin 4) (r : Fin 256) (q : Fin 704) : actT x0 x1 x2 x3 x4 cs j (ix2 r q) = actB x0 x1 x2 x3 x4 cs j r q := by
  refine (act_apply _ _ r q).trans ?_
  rw [upT_apply, upT_apply]
  rfl

theorem addT_apply (a : FVec Ideal S256x1024 .f32) (j : Fin 4) (r : Fin 256) (k : Fin 1024) :
    addT x0 x1 x2 x3 x4 x5 cs a j (ix2 r k) = a (ix2 r k) + addB x0 x1 x2 x3 x4 x5 cs j r k := by
  refine (acc_apply _ _ _ _ _ r k).trans (congrArg _ (Finset.sum_congr rfl fun q _ => congrArg₂ (· * ·) (actT_apply x0 x1 x2 x3 x4 cs j r q) ?_))
  split <;> rw [all_rows_apply]

/-- The output before the last block. -/
abbrev out3T : FVec Ideal S256x1024 .f32 := addT x0 x1 x2 x3 x4 x5 cs (addT x0 x1 x2 x3 x4 x5 cs (addT x0 x1 x2 x3 x4 x5 cs x0 0) 1) 2

theorem outT_apply (r : Fin 256) (k : Fin 1024) :
    addT x0 x1 x2 x3 x4 x5 cs (out3T x0 x1 x2 x3 x4 x5 cs) 3 (ix2 r k) = outB x0 x1 x2 x3 x4 x5 cs r k := by
  unfold out3T outB
  rw [addT_apply, addT_apply, addT_apply, addT_apply]

/-- The body's spelling of the loss's difference. -/
abbrev errT : FVec Ideal S256x1024 .f32 :=
  k0_pay76 (out3T x0 x1 x2 x3 x4 x5 cs) (upT x0 x1 x2 x3 x4 cs 3) (upT x0 x1 x2 x3 x4 cs 7) (rows x5 6 0 352 (by omega)) (rows x5 7 0 352 (by omega)) x6 x7

@[inherit_doc errT] abbrev xnT : FVec Ideal S256x1024 .f32 :=
  k0_pay75 (out3T x0 x1 x2 x3 x4 x5 cs) (upT x0 x1 x2 x3 x4 cs 3) (upT x0 x1 x2 x3 x4 cs 7) (rows x5 6 0 352 (by omega)) (rows x5 7 0 352 (by omega))

@[inherit_doc errT] abbrev roT : FVec Ideal S256x1 .f32 :=
  k0_pay74 (out3T x0 x1 x2 x3 x4 x5 cs) (upT x0 x1 x2 x3 x4 cs 3) (upT x0 x1 x2 x3 x4 cs 7) (rows x5 6 0 352 (by omega)) (rows x5 7 0 352 (by omega))

theorem outT_last (r : Fin 256) (k : Fin 1024) :
    k0_pay73 (out3T x0 x1 x2 x3 x4 x5 cs) (upT x0 x1 x2 x3 x4 cs 3) (upT x0 x1 x2 x3 x4 cs 7) (rows x5 6 0 352 (by omega)) (rows x5 7 0 352 (by omega)) (ix2 r k)
      = outB x0 x1 x2 x3 x4 x5 cs r k := outT_apply x0 x1 x2 x3 x4 x5 cs r k

theorem errT_apply (r : Fin 256) (k : Fin 1024) :
    errT x0 x1 x2 x3 x4 x5 x6 x7 cs (ix2 r k) = errB x0 x1 x2 x3 x4 x5 x6 x7 cs r k := by
  refine (err_apply _ _ _ _ _ _ _ r k).trans ?_
  simp only [outT_last]
  rfl

theorem xnT_apply (r : Fin 256) (k : Fin 1024) : xnT x0 x1 x2 x3 x4 x5 cs (ix2 r k)
    = outB x0 x1 x2 x3 x4 x5 cs r k * rinv (fun q => outB x0 x1 x2 x3 x4 x5 cs r q) := by
  refine (xn_apply _ _ _ _ _ r k).trans ?_
  simp only [outT_last]

theorem roT_apply (r : Fin 256) : roT x0 x1 x2 x3 x4 x5 cs (ix2 r 0) = rinv (fun q => outB x0 x1 x2 x3 x4 x5 cs r q) := by
  refine (ro_apply _ _ _ _ _ r).trans ?_
  simp only [outT_last]

theorem lossT_apply (l : Vec Ideal S1x1 .f32) : k0_pay77 (errT x0 x1 x2 x3 x4 x5 x6 x7 cs) l (ix2 0 0)
    = l (ix2 0 0) + lossB x0 x1 x2 x3 x4 x5 x6 x7 cs := by
  refine (loss_apply _ l).trans ?_
  simp only [errT_apply]
  rfl

theorem dgT_apply (v : Vec Ideal S1x1024 .f32) (k : Fin 1024) :
    k0_pay79 (xnT x0 x1 x2 x3 x4 x5 cs) (errT x0 x1 x2 x3 x4 x5 x6 x7 cs) v (ix2 0 k) = v (ix2 0 k) + dgB x0 x1 x2 x3 x4 x5 x6 x7 cs k := by
  refine (dg_apply _ _ v k).trans ?_
  simp only [errT_apply, xnT_apply]
  rfl

theorem dxT_apply (r : Fin 256) (k : Fin 1024) :
    k0_pay80 (roT x0 x1 x2 x3 x4 x5 cs) (xnT x0 x1 x2 x3 x4 x5 cs) (errT x0 x1 x2 x3 x4 x5 x6 x7 cs) x6 (ix2 r k) = dxB x0 x1 x2 x3 x4 x5 x6 x7 cs r k := by
  refine (dx_apply _ _ _ _ r k).trans ?_
  simp only [errT_apply, xnT_apply, roT_apply]
  rfl

/-- The results by their indices. -/
abbrev preG (y : S8x256x704.Idx) : EReal := preB x0 x1 x2 (y 0) (y 1) (y 2)

@[inherit_doc preG] abbrev upG (y : S8x256x704.Idx) : EReal := upB x0 x1 x2 x3 x4 cs (y 0) (y 1) (y 2)

@[inherit_doc preG] abbrev actG (y : S4x256x704.Idx) : EReal := actB x0 x1 x2 x3 x4 cs (y 0) (y 1) (y 2)

@[inherit_doc preG] abbrev tailG (y : S8x8x704.Idx) : EReal :=
  preB x0 x1 x2 (y 0) ⟨248 + (y 1 : Fin 8).val, by have : (y 1 : Fin 8).val < 8 := (y 1).isLt; omega⟩ (y 2)

/-- The stores into the results that come by blocks. -/
abbrev prePieces : List (View.Piece (Elt Ideal) S8x256x704 .bf16) := paired fun j =>
  ⟨slab j 0 256 (by omega), shapeCast S1x256x704 (preT x0 x1 x2 j) shapeCasts_S256x704_S1x256x704⟩

@[inherit_doc prePieces] abbrev upPieces : List (View.Piece (Elt Ideal) S8x256x704 .bf16) := paired fun j =>
  ⟨slab j 0 256 (by omega), shapeCast S1x256x704 (truncf .bf16 (upT x0 x1 x2 x3 x4 cs j) bitsLt_bf16_f32) shapeCasts_S256x704_S1x256x704⟩

@[inherit_doc prePieces] abbrev tailPieces : List (View.Piece (Elt Ideal) S8x8x704 .f32) := paired fun j =>
  ⟨slab j 0 8 (by omega), k0_pay10 (preT x0 x1 x2 j)⟩

@[inherit_doc prePieces] abbrev actPieces : List (View.Piece (Elt Ideal) S4x256x704 .bf16) :=
  let p : Fin 4 → View.Piece (Elt Ideal) S4x256x704 .bf16 := fun j =>
    ⟨slab j 0 256 (by omega), shapeCast S1x256x704 (actT x0 x1 x2 x3 x4 cs j) shapeCasts_S256x704_S1x256x704⟩
  [p 3, p 2, p 1, p 0]

theorem prePieces_of : View.PiecesOf (preG x0 x1 x2) (prePieces x0 x1 x2) :=
  paired_of _ _ fun j => whole_piece (e := .bf16) (preG x0 x1 x2) j _ fun r q => (stored_apply _ r q).trans (preT_apply x0 x1 x2 j r q)

theorem upPieces_of : View.PiecesOf (upG x0 x1 x2 x3 x4 cs) (upPieces x0 x1 x2 x3 x4 cs) :=
  paired_of _ _ fun j => whole_piece (e := .bf16) (upG x0 x1 x2 x3 x4 cs) j _ fun r q => (stored_apply _ r q).trans (upT_apply x0 x1 x2 x3 x4 cs j r q)

theorem tailPieces_of : View.PiecesOf (tailG x0 x1 x2) (tailPieces x0 x1 x2) :=
  paired_of _ _ fun j => whole_piece (e := .f32) (tailG x0 x1 x2) j _ fun r q => (tail_apply _ r q).trans (preT_apply x0 x1 x2 j _ q)

theorem tailPieces_cover (y : S8x8x704.Idx) : ∃ p ∈ tailPieces x0 x1 x2, y ∈ p.1.set :=
  ⟨_, paired_mem _ (y 0), mem_slab _ 0 8 (by omega) y rfl ⟨Nat.zero_le _, (y 1).isLt⟩⟩

theorem actPieces_of : View.PiecesOf (actG x0 x1 x2 x3 x4 cs) (actPieces x0 x1 x2 x3 x4 cs) := by
  have h := fun j : Fin 4 => whole_piece (e := .bf16) (actG x0 x1 x2 x3 x4 cs) j _ fun r q =>
    (stored_apply _ r q).trans (actT_apply x0 x1 x2 x3 x4 cs j r q)
  exact ⟨h 3, h 2, h 1, h 0, trivial⟩

end

end Cert.LossKernelIdeal.Body

end
-- ==== Proof.LossBodyB.lean ====
/- What a grid point past the first of the feed-forward block with the loss leaves in its results and in the rows it hands on, entry by entry. -/
module

public import proofs.«01_k».proof.Proof.LossTile
public import proofs.«01_k».proof.Proof.Gen.LossKernelIdeal.Frame

@[expose] public section

set_option maxRecDepth 16384

noncomputable section

namespace Cert.LossKernelIdeal.Body

open Cert.LossKernelIdeal Cert.LossKernelIdeal.Gen Idealize.ShloMosaic Idealize.ShloMosaic.TcCoe Idealize.SL.Sem
open Cert.Slab

theorem row0_apply (v : Vec Ideal S8x1024 .f32) (k : Fin 1024) : View.ld v (Rect.unit ![0, 0] ![1, 1024] inb_S8x1024_S1x1024_0_0) (ix2 0 k) = v (ix2 0 k) := by
  pointwise

section
variable (c : Dev nD) (i : grid0.Coords)
  (a1 : Memref sig .tc .vmem S256x1024 .f32) (h1 : a1.IsWhole) (a2 : Memref sig .tc .vmem S1x1024 .f32) (h2 : a2.IsWhole)
  (a3 : Memref sig .tc .vmem S8x1024x704 .bf16) (h3 : a3.IsWhole) (a4 : Memref sig .tc .vmem S8x3x704 .f32) (h4 : a4.IsWhole)
  (a5 : Memref sig .tc .vmem S8x704 .f32) (h5 : a5.IsWhole) (a6 : Memref sig .tc .vmem S8x352x1024 .bf16) (h6 : a6.IsWhole)
  (a7 : Memref sig .tc .vmem S1x1024 .f32) (h7 : a7.IsWhole) (a8 : Memref sig .tc .vmem S256x1024 .f32) (h8 : a8.IsWhole)
  (a9 : Memref sig .tc .vmem S256x1024 .f32) (h9 : a9.IsWhole) (a10 : Memref sig .tc .vmem S256x1024 .bf16) (h10 : a10.IsWhole)
  (a11 : Memref sig .tc .vmem S8x256x704 .bf16) (h11 : a11.IsWhole) (a12 : Memref sig .tc .vmem S8x256x704 .bf16) (h12 : a12.IsWhole)
  (a13 : Memref sig .tc .vmem S4x256x704 .bf16) (h13 : a13.IsWhole) (a14 : Memref sig .tc .vmem S8x1024 .f32) (h14 : a14.IsWhole)
  (a15 : Memref sig .tc .vmem S1x1 .f32) (h15 : a15.IsWhole) (a16 : Memref sig .tc .vmem S256x1024 .bf16) (h16 : a16.IsWhole)
  (a17 : Memref sig .tc .vmem S8x8x704 .f32) (h17 : a17.IsWhole)
  (x0 : Vec Ideal S256x1024 .f32) (x1 : Vec Ideal S1x1024 .f32) (x2 : Vec Ideal S8x1024x704 .bf16) (x3 : Vec Ideal S8x3x704 .f32)
  (x4 : Vec Ideal S8x704 .f32) (x5 : Vec Ideal S8x352x1024 .bf16) (x6 : Vec Ideal S1x1024 .f32) (x7 : Vec Ideal S256x1024 .f32)
  (xo13 : Vec Ideal S8x1024 .f32) (xo14 : Vec Ideal S1x1 .f32) (xs0 : Vec Ideal S8x8x704 .f32)

theorem out_B_8 (hc : ¬cond0_0 i) (r : Fin 256) (k : Fin 1024) :
    out0_B_8 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 xo13 xo14 xs0 (ix2 r k)
      = dxB x0 x1 x2 x3 x4 x5 x6 x7 xs0 r k := by
  unfold out0_B_8
  rw [View.read_writes_eq_canon _ _ _ (cover0_B_8 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 xo13 xo14 xs0)]
  unfold kernelRun0_B
  dsimp only
  sl_unfold_words
  simp only [View.readAt_eq_ld, h1.read_unread, h2.read_unread, h3.read_unread, h4.read_unread, h5.read_unread, h6.read_unread, h7.read_unread, h8.read_unread, View.ld_unit_zero (S := S256x1024) hz, View.ld_unit_zero (S := S1x1024) hz, View.ld_unit_zero (S := S1x1) hz, h17.read_unread, h14.read_unread, h15.read_unread]
  rw [View.canon_unit_zero hz]
  exact dxT_apply x0 x1 x2 x3 x4 x5 x6 x7 xs0 r k

theorem out_B_15 (hc : ¬cond0_0 i) (r : Fin 256) (k : Fin 1024) :
    out0_B_15 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 xo13 xo14 xs0 (ix2 r k)
      = dxB x0 x1 x2 x3 x4 x5 x6 x7 xs0 r k := by
  unfold out0_B_15
  rw [View.read_writes_eq_canon _ _ _ (cover0_B_15 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 xo13 xo14 xs0)]
  unfold kernelRun0_B
  dsimp only
  sl_unfold_words
  simp only [View.readAt_eq_ld, h1.read_unread, h2.read_unread, h3.read_unread, h4.read_unread, h5.read_unread, h6.read_unread, h7.read_unread, h8.read_unread, View.ld_unit_zero (S := S256x1024) hz, View.ld_unit_zero (S := S1x1024) hz, View.ld_unit_zero (S := S1x1) hz, h17.read_unread, h14.read_unread, h15.read_unread]
  rw [View.canon_unit_zero hz]
  exact dxT_apply x0 x1 x2 x3 x4 x5 x6 x7 xs0 r k

theorem out_B_9 (hc : ¬cond0_0 i) (r : Fin 256) (k : Fin 1024) :
    out0_B_9 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 xo13 xo14 xs0 (ix2 r k)
      = hB x0 x1 r k := by
  unfold out0_B_9
  rw [View.read_writes_eq_canon _ _ _ (cover0_B_9 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 xo13 xo14 xs0)]
  unfold kernelRun0_B
  dsimp only
  sl_unfold_words
  simp only [View.readAt_eq_ld, h1.read_unread, h2.read_unread, h3.read_unread, h4.read_unread, h5.read_unread, h6.read_unread, h7.read_unread, h8.read_unread, View.ld_unit_zero (S := S256x1024) hz, View.ld_unit_zero (S := S1x1024) hz, View.ld_unit_zero (S := S1x1) hz, h17.read_unread, h14.read_unread, h15.read_unread]
  rw [View.canon_unit_zero hz]
  exact h_apply x0 x1 r k

theorem out_B_10 (hc : ¬cond0_0 i) (y : S8x256x704.Idx) :
    out0_B_10 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 xo13 xo14 xs0 y
      = preG x0 x1 x2 y := by
  have hcov := cover0_B_10 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 xo13 xo14 xs0 y
  unfold out0_B_10
  refine View.read_writes_apply_of_pieces _ _ (preG x0 x1 x2) _ (View.PiecesOf.mem ?_) y hcov
  clear hcov
  unfold kernelRun0_B
  dsimp only
  sl_unfold_words
  simp only [View.readAt_eq_ld, h1.read_unread, h2.read_unread, h3.read_unread, h4.read_unread, h5.read_unread, h6.read_unread, h7.read_unread, h8.read_unread, View.ld_unit_zero (S := S256x1024) hz, View.ld_unit_zero (S := S1x1024) hz, View.ld_unit_zero (S := S1x1) hz, h17.read_unread, h14.read_unread, h15.read_unread]
  exact prePieces_of x0 x1 x2

theorem out_B_11 (hc : ¬cond0_0 i) (y : S8x256x704.Idx) :
    out0_B_11 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 xo13 xo14 xs0 y
      = upG x0 x1 x2 x3 x4 xs0 y := by
  have hcov := cover0_B_11 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 xo13 xo14 xs0 y
  unfold out0_B_11
  refine View.read_writes_apply_of_pieces _ _ (upG x0 x1 x2 x3 x4 xs0) _ (View.PiecesOf.mem ?_) y hcov
  clear hcov
  unfold kernelRun0_B
  dsimp only
  sl_unfold_words
  simp only [View.readAt_eq_ld, h1.read_unread, h2.read_unread, h3.read_unread, h4.read_unread, h5.read_unread, h6.read_unread, h7.read_unread, h8.read_unread, View.ld_unit_zero (S := S256x1024) hz, View.ld_unit_zero (S := S1x1024) hz, View.ld_unit_zero (S := S1x1) hz, h17.read_unread, h14.read_unread, h15.read_unread]
  exact upPieces_of x0 x1 x2 x3 x4 xs0

theorem out_B_12 (hc : ¬cond0_0 i) (y : S4x256x704.Idx) :
    out0_B_12 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 xo13 xo14 xs0 y
      = actG x0 x1 x2 x3 x4 xs0 y := by
  have hcov := cover0_B_12 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 xo13 xo14 xs0 y
  unfold out0_B_12
  refine View.read_writes_apply_of_pieces _ _ (actG x0 x1 x2 x3 x4 xs0) _ (View.PiecesOf.mem ?_) y hcov
  clear hcov
  unfold kernelRun0_B
  dsimp only
  sl_unfold_words
  simp only [View.readAt_eq_ld, h1.read_unread, h2.read_unread, h3.read_unread, h4.read_unread, h5.read_unread, h6.read_unread, h7.read_unread, h8.read_unread, View.ld_unit_zero (S := S256x1024) hz, View.ld_unit_zero (S := S1x1024) hz, View.ld_unit_zero (S := S1x1) hz, h17.read_unread, h14.read_unread, h15.read_unread]
  exact actPieces_of x0 x1 x2 x3 x4 xs0

theorem sout_B_0 (hc : ¬cond0_0 i) (y : S8x8x704.Idx) :
    sout0_B_0 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 xo13 xo14 xs0 y
      = tailG x0 x1 x2 y := by
  have hcov := scover0_B_0 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 xo13 xo14 xs0 y
  unfold sout0_B_0
  refine View.read_writes_apply_of_pieces _ _ (tailG x0 x1 x2) _ (View.PiecesOf.mem ?_) y hcov
  clear hcov
  unfold kernelRun0_B
  dsimp only
  sl_unfold_words
  simp only [View.readAt_eq_ld, h1.read_unread, h2.read_unread, h3.read_unread, h4.read_unread, h5.read_unread, h6.read_unread, h7.read_unread, h8.read_unread, View.ld_unit_zero (S := S256x1024) hz, View.ld_unit_zero (S := S1x1024) hz, View.ld_unit_zero (S := S1x1) hz, h17.read_unread, h14.read_unread, h15.read_unread]
  exact tailPieces_of x0 x1 x2

theorem out_B_14 (hc : ¬cond0_0 i)  :
    out0_B_14 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 xo13 xo14 xs0 (ix2 0 0)
      = xo14 (ix2 0 0) + lossB x0 x1 x2 x3 x4 x5 x6 x7 xs0 := by
  unfold out0_B_14
  rw [View.read_writes_eq_canon _ _ _ (cover0_B_14 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 xo13 xo14 xs0)]
  unfold kernelRun0_B
  dsimp only
  sl_unfold_words
  simp only [View.readAt_eq_ld, h1.read_unread, h2.read_unread, h3.read_unread, h4.read_unread, h5.read_unread, h6.read_unread, h7.read_unread, h8.read_unread, View.ld_unit_zero (S := S256x1024) hz, View.ld_unit_zero (S := S1x1024) hz, View.ld_unit_zero (S := S1x1) hz, h17.read_unread, h14.read_unread, h15.read_unread]
  rw [View.canon_unit_zero hz]
  exact lossT_apply x0 x1 x2 x3 x4 x5 x6 x7 xs0 xo14

theorem out_B_13 (hc : ¬cond0_0 i) (r : Fin 8) (k : Fin 1024) :
    out0_B_13 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 xo13 xo14 xs0 (ix2 r k)
      = if r = 0 then xo13 (ix2 0 k) + dgB x0 x1 x2 x3 x4 x5 x6 x7 xs0 k else xo13 (ix2 r k) := by
  unfold out0_B_13
  unfold kernelRun0_B
  dsimp only
  sl_unfold_words
  simp only [View.readAt_eq_ld, h1.read_unread, h2.read_unread, h3.read_unread, h4.read_unread, h5.read_unread, h6.read_unread, h7.read_unread, h8.read_unread, View.ld_unit_zero (S := S256x1024) hz, View.ld_unit_zero (S := S1x1024) hz, View.ld_unit_zero (S := S1x1) hz, h17.read_unread, h14.read_unread, h15.read_unread]
  refine (View.read_writes_cons_rows (o := 0) (W := 1) a14.view _ inb_S8x1024_S1x1024_0_0 _ _ (ix2 r k) rfl rfl rfl).trans ?_
  by_cases hr : r = 0
  · subst hr
    rw [dif_pos ⟨Nat.zero_le _, Nat.one_pos⟩, if_pos rfl]
    refine (congrArg (k0_pay79 _ _ _) (show _ = (ix2 (0 : Fin 1) k : S1x1024.Idx) from
      funext fun a => Fin.ext (by match a with | ⟨0, _⟩ => rfl | ⟨1, _⟩ => exact Nat.sub_zero _))).trans ?_
    exact (dgT_apply x0 x1 x2 x3 x4 x5 x6 x7 xs0 _ k).trans (congrArg (· + _) (row0_apply xo13 k))
  · rw [dif_neg (fun h => hr (Fin.ext (by simpa using h.2))), if_neg hr]
    exact congrFun (h14.read_unread _) _

end

end Cert.LossKernelIdeal.Body

end
-- ==== Proof.LossBodyA.lean ====
/- What the first grid point of the feed-forward block with the loss leaves in its results and in the rows it hands on, entry by entry. -/
module

public import proofs.«01_k».proof.Proof.LossBodyB
public import proofs.«01_k».proof.Proof.Gen.LossKernelIdeal.Frame

@[expose] public section

set_option maxRecDepth 16384

noncomputable section

namespace Cert.LossKernelIdeal.Body

open Cert.LossKernelIdeal Cert.LossKernelIdeal.Gen Idealize.ShloMosaic Idealize.ShloMosaic.TcCoe Idealize.SL.Sem
open Cert.Slab

/-- What the first point fills the rows handed on, the scale's gradient and the loss with. -/
abbrev zeroRows : Vec Ideal S8x8x704 .f32 := k0_pay1 (F := Ideal)

@[inherit_doc zeroRows] abbrev zeroScale : Vec Ideal S8x1024 .f32 := k0_pay2 (F := Ideal)

@[inherit_doc zeroRows] abbrev zeroLoss : Vec Ideal S1x1 .f32 := k0_pay3 (F := Ideal)

theorem readCov_fill3 {κ : Kind} {sp : Space} (v : View sig κ sp S8x8x704 .f32) (inb) (Z : Vec Ideal S8x8x704 .f32)
    (L : List (View.Piece (Elt Ideal) S8x8x704 .f32)) (r : Rect S8x8x704) :
    v.readCov (⟨Rect.unit (s := S8x8x704) ![0, 0, 0] ![8, 8, 704] inb, Z⟩ :: L) r.toLoadRect = View.ld Z r :=
  View.readCov_fill v inb Z L r (congrFun hz3)

section
variable (c : Dev nD) (i : grid0.Coords)
  (a1 : Memref sig .tc .vmem S256x1024 .f32) (h1 : a1.IsWhole) (a2 : Memref sig .tc .vmem S1x1024 .f32) (h2 : a2.IsWhole)
  (a3 : Memref sig .tc .vmem S8x1024x704 .bf16) (h3 : a3.IsWhole) (a4 : Memref sig .tc .vmem S8x3x704 .f32) (h4 : a4.IsWhole)
  (a5 : Memref sig .tc .vmem S8x704 .f32) (h5 : a5.IsWhole) (a6 : Memref sig .tc .vmem S8x352x1024 .bf16) (h6 : a6.IsWhole)
  (a7 : Memref sig .tc .vmem S1x1024 .f32) (h7 : a7.IsWhole) (a8 : Memref sig .tc .vmem S256x1024 .f32) (h8 : a8.IsWhole)
  (a9 : Memref sig .tc .vmem S256x1024 .f32) (h9 : a9.IsWhole) (a10 : Memref sig .tc .vmem S256x1024 .bf16) (h10 : a10.IsWhole)
  (a11 : Memref sig .tc .vmem S8x256x704 .bf16) (h11 : a11.IsWhole) (a12 : Memref sig .tc .vmem S8x256x704 .bf16) (h12 : a12.IsWhole)
  (a13 : Memref sig .tc .vmem S4x256x704 .bf16) (h13 : a13.IsWhole) (a14 : Memref sig .tc .vmem S8x1024 .f32) (h14 : a14.IsWhole)
  (a15 : Memref sig .tc .vmem S1x1 .f32) (h15 : a15.IsWhole) (a16 : Memref sig .tc .vmem S256x1024 .bf16) (h16 : a16.IsWhole)
  (a17 : Memref sig .tc .vmem S8x8x704 .f32) (h17 : a17.IsWhole)
  (x0 : Vec Ideal S256x1024 .f32) (x1 : Vec Ideal S1x1024 .f32) (x2 : Vec Ideal S8x1024x704 .bf16) (x3 : Vec Ideal S8x3x704 .f32)
  (x4 : Vec Ideal S8x704 .f32) (x5 : Vec Ideal S8x352x1024 .bf16) (x6 : Vec Ideal S1x1024 .f32) (x7 : Vec Ideal S256x1024 .f32)

theorem out_A_8 (hc : cond0_0 i) (r : Fin 256) (k : Fin 1024) :
    out0_A_8 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 (ix2 r k)
      = dxB x0 x1 x2 x3 x4 x5 x6 x7 zeroRows r k := by
  unfold out0_A_8
  rw [View.read_writes_eq_canon _ _ _ (cover0_A_8 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7)]
  unfold kernelRun0_A
  dsimp only
  sl_unfold_words
  simp only [View.readAt_eq_ld, h1.read_unread, h2.read_unread, h3.read_unread, h4.read_unread, h5.read_unread, h6.read_unread, h7.read_unread, h8.read_unread, View.ld_unit_zero (S := S256x1024) hz, View.ld_unit_zero (S := S1x1024) hz, View.ld_unit_zero (S := S1x1) hz]
  try simp (disch := decide) only [View.readCov_skip, readCov_fill3]
  rw [View.canon_unit_zero hz]
  exact dxT_apply x0 x1 x2 x3 x4 x5 x6 x7 zeroRows r k

theorem out_A_15 (hc : cond0_0 i) (r : Fin 256) (k : Fin 1024) :
    out0_A_15 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 (ix2 r k)
      = dxB x0 x1 x2 x3 x4 x5 x6 x7 zeroRows r k := by
  unfold out0_A_15
  rw [View.read_writes_eq_canon _ _ _ (cover0_A_15 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7)]
  unfold kernelRun0_A
  dsimp only
  sl_unfold_words
  simp only [View.readAt_eq_ld, h1.read_unread, h2.read_unread, h3.read_unread, h4.read_unread, h5.read_unread, h6.read_unread, h7.read_unread, h8.read_unread, View.ld_unit_zero (S := S256x1024) hz, View.ld_unit_zero (S := S1x1024) hz, View.ld_unit_zero (S := S1x1) hz]
  try simp (disch := decide) only [View.readCov_skip, readCov_fill3]
  rw [View.canon_unit_zero hz]
  exact dxT_apply x0 x1 x2 x3 x4 x5 x6 x7 zeroRows r k

theorem out_A_9 (hc : cond0_0 i) (r : Fin 256) (k : Fin 1024) :
    out0_A_9 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 (ix2 r k)
      = hB x0 x1 r k := by
  unfold out0_A_9
  rw [View.read_writes_eq_canon _ _ _ (cover0_A_9 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7)]
  unfold kernelRun0_A
  dsimp only
  sl_unfold_words
  simp only [View.readAt_eq_ld, h1.read_unread, h2.read_unread, h3.read_unread, h4.read_unread, h5.read_unread, h6.read_unread, h7.read_unread, h8.read_unread, View.ld_unit_zero (S := S256x1024) hz, View.ld_unit_zero (S := S1x1024) hz, View.ld_unit_zero (S := S1x1) hz]
  try simp (disch := decide) only [View.readCov_skip, readCov_fill3]
  rw [View.canon_unit_zero hz]
  exact h_apply x0 x1 r k

theorem out_A_10 (hc : cond0_0 i) (y : S8x256x704.Idx) :
    out0_A_10 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 y
      = preG x0 x1 x2 y := by
  have hcov := cover0_A_10 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 y
  unfold out0_A_10
  refine View.read_writes_apply_of_pieces _ _ (preG x0 x1 x2) _ (View.PiecesOf.mem ?_) y hcov
  clear hcov
  unfold kernelRun0_A
  dsimp only
  sl_unfold_words
  simp only [View.readAt_eq_ld, h1.read_unread, h2.read_unread, h3.read_unread, h4.read_unread, h5.read_unread, h6.read_unread, h7.read_unread, h8.read_unread, View.ld_unit_zero (S := S256x1024) hz, View.ld_unit_zero (S := S1x1024) hz, View.ld_unit_zero (S := S1x1) hz]
  try simp (disch := decide) only [View.readCov_skip, readCov_fill3]
  exact prePieces_of x0 x1 x2

theorem out_A_11 (hc : cond0_0 i) (y : S8x256x704.Idx) :
    out0_A_11 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 y
      = upG x0 x1 x2 x3 x4 zeroRows y := by
  have hcov := cover0_A_11 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 y
  unfold out0_A_11
  refine View.read_writes_apply_of_pieces _ _ (upG x0 x1 x2 x3 x4 zeroRows) _ (View.PiecesOf.mem ?_) y hcov
  clear hcov
  unfold kernelRun0_A
  dsimp only
  sl_unfold_words
  simp only [View.readAt_eq_ld, h1.read_unread, h2.read_unread, h3.read_unread, h4.read_unread, h5.read_unread, h6.read_unread, h7.read_unread, h8.read_unread, View.ld_unit_zero (S := S256x1024) hz, View.ld_unit_zero (S := S1x1024) hz, View.ld_unit_zero (S := S1x1) hz]
  try simp (disch := decide) only [View.readCov_skip, readCov_fill3]
  exact upPieces_of x0 x1 x2 x3 x4 zeroRows

theorem out_A_12 (hc : cond0_0 i) (y : S4x256x704.Idx) :
    out0_A_12 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 y
      = actG x0 x1 x2 x3 x4 zeroRows y := by
  have hcov := cover0_A_12 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 y
  unfold out0_A_12
  refine View.read_writes_apply_of_pieces _ _ (actG x0 x1 x2 x3 x4 zeroRows) _ (View.PiecesOf.mem ?_) y hcov
  clear hcov
  unfold kernelRun0_A
  dsimp only
  sl_unfold_words
  simp only [View.readAt_eq_ld, h1.read_unread, h2.read_unread, h3.read_unread, h4.read_unread, h5.read_unread, h6.read_unread, h7.read_unread, h8.read_unread, View.ld_unit_zero (S := S256x1024) hz, View.ld_unit_zero (S := S1x1024) hz, View.ld_unit_zero (S := S1x1) hz]
  try simp (disch := decide) only [View.readCov_skip, readCov_fill3]
  exact actPieces_of x0 x1 x2 x3 x4 zeroRows

theorem sout_A_0 (hc : cond0_0 i) (y : S8x8x704.Idx) :
    sout0_A_0 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 y
      = tailG x0 x1 x2 y := by
  unfold sout0_A_0
  unfold kernelRun0_A
  dsimp only
  sl_unfold_words
  simp only [View.readAt_eq_ld, h1.read_unread, h2.read_unread, h3.read_unread, h4.read_unread, h5.read_unread, h6.read_unread, h7.read_unread, h8.read_unread, View.ld_unit_zero (S := S256x1024) hz, View.ld_unit_zero (S := S1x1024) hz, View.ld_unit_zero (S := S1x1) hz]
  try simp (disch := decide) only [View.readCov_skip, readCov_fill3]
  refine (congrFun (congrArg _ (View.writes_append VS0_0 _ (tailPieces x0 x1 x2) [_])) y).trans ?_
  exact View.read_writes_apply_of_pieces _ _ (tailG x0 x1 x2) _ (View.PiecesOf.mem (tailPieces_of x0 x1 x2)) y (tailPieces_cover x0 x1 x2 y)

theorem out_A_14 (hc : cond0_0 i)  :
    out0_A_14 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 (ix2 0 0)
      = zeroLoss (ix2 0 0) + lossB x0 x1 x2 x3 x4 x5 x6 x7 zeroRows := by
  unfold out0_A_14
  rw [View.read_writes_eq_canon _ _ _ (cover0_A_14 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7)]
  unfold kernelRun0_A
  dsimp only
  sl_unfold_words
  simp only [View.readAt_eq_ld, h1.read_unread, h2.read_unread, h3.read_unread, h4.read_unread, h5.read_unread, h6.read_unread, h7.read_unread, h8.read_unread, View.ld_unit_zero (S := S256x1024) hz, View.ld_unit_zero (S := S1x1024) hz, View.ld_unit_zero (S := S1x1) hz]
  try simp (disch := decide) only [View.readCov_skip, readCov_fill3]
  rw [View.canon_cons_unit_zero hz]
  rw [View.readCov_fill _ _ _ _ _ (congrFun hz), View.ld_unit_zero (S := S1x1) hz]
  exact lossT_apply x0 x1 x2 x3 x4 x5 x6 x7 zeroRows zeroLoss

theorem out_A_13 (hc : cond0_0 i) (r : Fin 8) (k : Fin 1024) :
    out0_A_13 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 (ix2 r k)
      = if r = 0 then zeroScale (ix2 0 k) + dgB x0 x1 x2 x3 x4 x5 x6 x7 zeroRows k else zeroScale (ix2 r k) := by
  unfold out0_A_13
  unfold kernelRun0_A
  dsimp only
  sl_unfold_words
  simp only [View.readAt_eq_ld, h1.read_unread, h2.read_unread, h3.read_unread, h4.read_unread, h5.read_unread, h6.read_unread, h7.read_unread, h8.read_unread, View.ld_unit_zero (S := S256x1024) hz, View.ld_unit_zero (S := S1x1024) hz, View.ld_unit_zero (S := S1x1) hz]
  try simp (disch := decide) only [View.readCov_skip, readCov_fill3]
  refine (View.read_writes_cons_rows (o := 0) (W := 1) VO0_13 _ inb_S8x1024_S1x1024_0_0 _ _ (ix2 r k) rfl rfl rfl).trans ?_
  rw [View.readCov_fill _ _ _ _ _ (congrFun hz)]
  by_cases hr : r = 0
  · subst hr
    rw [dif_pos ⟨Nat.zero_le _, Nat.one_pos⟩, if_pos rfl]
    refine (congrArg (k0_pay79 _ _ _) (show _ = (ix2 (0 : Fin 1) k : S1x1024.Idx) from
      funext fun a => Fin.ext (by match a with | ⟨0, _⟩ => rfl | ⟨1, _⟩ => exact Nat.sub_zero _))).trans ?_
    exact (dgT_apply x0 x1 x2 x3 x4 x5 x6 x7 zeroRows _ k).trans (congrArg (· + _) (row0_apply zeroScale k))
  · rw [dif_neg (fun h => hr (Fin.ext (by simpa using h.2))), if_neg hr]
    exact View.read_writes_cons_unit_of_mem _ _ _ _ [] (ix2 r k) (ix2 r k) hz fun a => (Nat.zero_add _).symm

end

end Cert.LossKernelIdeal.Body

end
-- ==== Proof.LossBlocks.lean ====
/- Where each point's blocks lie in the arrays of the feed-forward block with the loss, and what the blocks it is handed hold in terms of
   the arguments. -/
module

public import proofs.«01_k».proof.Proof.FfnForward
public import proofs.«01_k».proof.Proof.Gen.LossKernelIdeal.Value
public import proofs.«01_k».proof.Proof.BlockIndex
public import Idealize.ShloMosaic.Lib.Pipeline.ValueKit.Geometry
public import Idealize.ShloMosaic.Lib.Pointwise
public import Idealize.ShloMosaic.Lib.Tactic

@[expose] public section

set_option maxRecDepth 16384

noncomputable section

namespace Cert.LossKernelIdeal.Body

open Cert.LossKernelIdeal Cert.LossKernelIdeal.Gen Idealize.ShloMosaic Idealize.ShloMosaic.TcCoe Idealize.SL.Sem
open Cert.Step (col)

variable (m : (ℓ : Loc nD τ sig) → Buf (Elt Ideal) ℓ) (c : Dev nD)

/-- The arguments as the buffers hold them. -/
def args : Cert.Step.LossArgs where
  b := {
    x := fun i k => m ((c : Thread nD τ).loc main_arg0) (ix2 i k)
    g := fun k => m ((c : Thread nD τ).loc main_arg1) (ix1 k)
    w := fun k n => m ((c : Thread nD τ).loc main_arg2) (ix2 k n)
    cw := fun s n => m ((c : Thread nD τ).loc main_arg3) (ix2 s n)
    cb := fun n => m ((c : Thread nD τ).loc main_arg4) (ix1 n)
    wd := fun n k => m ((c : Thread nD τ).loc main_arg5) (ix2 n k)
    ct := fun _ _ => 0 }
  gf k := m ((c : Thread nD τ).loc main_arg6) (ix1 k)
  t i k := m ((c : Thread nD τ).loc main_arg7) (ix2 i k)

theorem lt_N (t : Fin cfg0.N) : t.val < 32 := lt_of_lt_of_eq t.isLt (show cfg0.N = 32 from N_0)

/-- Row `r` of point `t`'s block of 256 rows. -/
abbrev row (t : Fin cfg0.N) (r : Fin 256) : Fin 8192 := ⟨256 * t.val + r.val, by have := lt_N t; omega⟩

theorem emb0 (t : Fin cfg0.N) (r : Fin 256) (k : Fin 1024) :
    ((cfg0.win 0).blk t).view.emb (ix2 r k) = (ix2 (row t r) k : S8192x1024.Idx) :=
  Cert.Step.rows2 ((by decide +kernel : ∀ t : Fin grid0.N, win0_0.index t 0 = t.val ∧ win0_0.index t 1 = 0) t) rfl rfl rfl

theorem emb1 (t : Fin cfg0.N) (z : Fin 1) (k : Fin 1024) :
    ((cfg0.win 1).blk t).view.emb (ix2 z k) = (ix2 z k : S1x1024.Idx) :=
  Cert.Step.whole2 ((by decide +kernel : ∀ (t : Fin grid0.N) a, win0_1.index t a = 0) t) rfl rfl

theorem emb2 (t : Fin cfg0.N) (j : Fin 8) (k : Fin 1024) (q : Fin 704) :
    ((cfg0.win 2).blk t).view.emb (ix3 j k q) = (ix3 j k q : S8x1024x704.Idx) :=
  Cert.Step.whole3 ((by decide +kernel : ∀ (t : Fin grid0.N) a, win0_2.index t a = 0) t) rfl rfl rfl

theorem emb3 (t : Fin cfg0.N) (j : Fin 8) (s : Fin 3) (q : Fin 704) :
    ((cfg0.win 3).blk t).view.emb (ix3 j s q) = (ix3 j s q : S8x3x704.Idx) :=
  Cert.Step.whole3 ((by decide +kernel : ∀ (t : Fin grid0.N) a, win0_3.index t a = 0) t) rfl rfl rfl

theorem emb4 (t : Fin cfg0.N) (j : Fin 8) (q : Fin 704) :
    ((cfg0.win 4).blk t).view.emb (ix2 j q) = (ix2 j q : S8x704.Idx) :=
  Cert.Step.whole2 ((by decide +kernel : ∀ (t : Fin grid0.N) a, win0_4.index t a = 0) t) rfl rfl

theorem emb5 (t : Fin cfg0.N) (j : Fin 8) (p : Fin 352) (k : Fin 1024) :
    ((cfg0.win 5).blk t).view.emb (ix3 j p k) = (ix3 j p k : S8x352x1024.Idx) :=
  Cert.Step.whole3 ((by decide +kernel : ∀ (t : Fin grid0.N) a, win0_5.index t a = 0) t) rfl rfl rfl

theorem emb6 (t : Fin cfg0.N) (z : Fin 1) (k : Fin 1024) :
    ((cfg0.win 6).blk t).view.emb (ix2 z k) = (ix2 z k : S1x1024.Idx) :=
  Cert.Step.whole2 ((by decide +kernel : ∀ (t : Fin grid0.N) a, win0_6.index t a = 0) t) rfl rfl

theorem emb7 (t : Fin cfg0.N) (r : Fin 256) (k : Fin 1024) :
    ((cfg0.win 7).blk t).view.emb (ix2 r k) = (ix2 (row t r) k : S8192x1024.Idx) :=
  Cert.Step.rows2 ((by decide +kernel : ∀ t : Fin grid0.N, win0_7.index t 0 = t.val ∧ win0_7.index t 1 = 0) t) rfl rfl rfl

theorem emb8 (t : Fin cfg0.N) (r : Fin 256) (k : Fin 1024) :
    ((cfg0.win 8).blk t).view.emb (ix2 r k) = (ix2 (row t r) k : S8192x1024.Idx) :=
  Cert.Step.rows2 ((by decide +kernel : ∀ t : Fin grid0.N, win0_8.index t 0 = t.val ∧ win0_8.index t 1 = 0) t) rfl rfl rfl

theorem emb9 (t : Fin cfg0.N) (r : Fin 256) (k : Fin 1024) :
    ((cfg0.win 9).blk t).view.emb (ix2 r k) = (ix2 (row t r) k : S8192x1024.Idx) :=
  Cert.Step.rows2 ((by decide +kernel : ∀ t : Fin grid0.N, win0_9.index t 0 = t.val ∧ win0_9.index t 1 = 0) t) rfl rfl rfl

theorem emb10 (t : Fin cfg0.N) (j : Fin 8) (r : Fin 256) (q : Fin 704) :
    ((cfg0.win 10).blk t).view.emb (ix3 j r q) = (ix3 j (row t r) q : S8x8192x704.Idx) :=
  Cert.Step.rows3 ((by decide +kernel : ∀ t : Fin grid0.N, win0_10.index t 0 = 0 ∧ win0_10.index t 1 = t.val ∧ win0_10.index t 2 = 0) t) rfl rfl rfl rfl

theorem emb11 (t : Fin cfg0.N) (j : Fin 8) (r : Fin 256) (q : Fin 704) :
    ((cfg0.win 11).blk t).view.emb (ix3 j r q) = (ix3 j (row t r) q : S8x8192x704.Idx) :=
  Cert.Step.rows3 ((by decide +kernel : ∀ t : Fin grid0.N, win0_11.index t 0 = 0 ∧ win0_11.index t 1 = t.val ∧ win0_11.index t 2 = 0) t) rfl rfl rfl rfl

theorem emb12 (t : Fin cfg0.N) (j : Fin 4) (r : Fin 256) (q : Fin 704) :
    ((cfg0.win 12).blk t).view.emb (ix3 j r q) = (ix3 j (row t r) q : S4x8192x704.Idx) :=
  Cert.Step.rows3 ((by decide +kernel : ∀ t : Fin grid0.N, win0_12.index t 0 = 0 ∧ win0_12.index t 1 = t.val ∧ win0_12.index t 2 = 0) t) rfl rfl rfl rfl

theorem emb13 (t : Fin cfg0.N) (s : Fin 8) (k : Fin 1024) :
    ((cfg0.win 13).blk t).view.emb (ix2 s k) = (ix2 s k : S8x1024.Idx) :=
  Cert.Step.whole2 ((by decide +kernel : ∀ (t : Fin grid0.N) a, win0_13.index t a = 0) t) rfl rfl

theorem emb14 (t : Fin cfg0.N) (s : Fin 1) (z : Fin 1) :
    ((cfg0.win 14).blk t).view.emb (ix2 s z) = (ix2 s z : S1x1.Idx) :=
  Cert.Step.whole2 ((by decide +kernel : ∀ (t : Fin grid0.N) a, win0_14.index t a = 0) t) rfl rfl

theorem emb15 (t : Fin cfg0.N) (r : Fin 256) (k : Fin 1024) :
    ((cfg0.win 15).blk t).view.emb (ix2 r k) = (ix2 (row t r) k : S8192x1024.Idx) :=
  Cert.Step.rows2 ((by decide +kernel : ∀ t : Fin grid0.N, win0_15.index t 0 = t.val ∧ win0_15.index t 1 = 0) t) rfl rfl rfl

theorem col_comm (j : Fin 8) (q : Fin 704) (h : j.val * 704 + q.val < 5632) : (⟨j.val * 704 + q.val, h⟩ : Fin 5632) = col j q :=
  Fin.ext (by show j.val * 704 + q.val = 704 * j.val + q.val; omega)

theorem blk0 (t : Fin cfg0.N) (r : Fin 256) (k : Fin 1024) : iblk m c 0 t (ix2 r k) = (args m c).b.x (row t r) k := by
  show V m c main_arg0 (((cfg0.win 0).blk t).view.emb (ix2 r k)) = _
  rw [emb0, V_main_arg0]
  rfl

theorem blk1 (t : Fin cfg0.N) (k : Fin 1024) : iblk m c 1 t (ix2 0 k) = (args m c).b.g k := by
  show V m c main_v5 (((cfg0.win 1).blk t).view.emb (ix2 0 k)) = _
  rw [emb1]
  entry_read
  pointwise
  rfl

theorem blk2 (t : Fin cfg0.N) (j : Fin 8) (k : Fin 1024) (q : Fin 704) : iblk m c 2 t (ix3 j k q) = (args m c).b.w k (col j q) := by
  show V m c main_v2 (((cfg0.win 2).blk t).view.emb (ix3 j k q)) = _
  rw [emb2]
  entry_read
  pointwise
  exact congrArg ((args m c).b.w k) (col_comm j q _)

theorem blk3 (t : Fin cfg0.N) (j : Fin 8) (s : Fin 3) (q : Fin 704) : iblk m c 3 t (ix3 j s q) = (args m c).b.cw s (col j q) := by
  show V m c main_v7 (((cfg0.win 3).blk t).view.emb (ix3 j s q)) = _
  rw [emb3]
  entry_read
  pointwise
  exact congrArg ((args m c).b.cw s) (col_comm j q _)

theorem blk4 (t : Fin cfg0.N) (j : Fin 8) (q : Fin 704) : iblk m c 4 t (ix2 j q) = (args m c).b.cb (col j q) := by
  show V m c main_v8 (((cfg0.win 4).blk t).view.emb (ix2 j q)) = _
  rw [emb4]
  entry_read
  pointwise
  exact congrArg (args m c).b.cb (col_comm j q _)

theorem blk5 (t : Fin cfg0.N) (j : Fin 8) (p : Fin 352) (k : Fin 1024) :
    iblk m c 5 t (ix3 j p k) = (args m c).b.wd ⟨352 * j.val + p.val, by omega⟩ k := by
  show V m c main_v4 (((cfg0.win 5).blk t).view.emb (ix3 j p k)) = _
  rw [emb5]
  entry_read
  pointwise
  exact congrArg (fun n => (args m c).b.wd n k) (Fin.ext (by show j.val * 352 + p.val = 352 * j.val + p.val; omega))

theorem blk6 (t : Fin cfg0.N) (k : Fin 1024) : iblk m c 6 t (ix2 0 k) = (args m c).gf k := by
  show V m c main_v9 (((cfg0.win 6).blk t).view.emb (ix2 0 k)) = _
  rw [emb6]
  entry_read
  pointwise
  rfl

theorem blk7 (t : Fin cfg0.N) (r : Fin 256) (k : Fin 1024) : iblk m c 7 t (ix2 r k) = (args m c).t (row t r) k := by
  show V m c main_arg7 (((cfg0.win 7).blk t).view.emb (ix2 r k)) = _
  rw [emb7, V_main_arg7]
  rfl

end Cert.LossKernelIdeal.Body

end
-- ==== Proof.ForwardTile.lean ====
/- A tile of the feed-forward block on its way forward that is handed its own rows, the weights, and the last rows of the tile before:
   what it makes of them is its part of the block's. -/
module

public import proofs.«01_k».proof.Proof.LossTile

@[expose] public section

set_option maxRecDepth 16384

noncomputable section

namespace Cert.LossKernelIdeal.Body

open Cert.LossKernelIdeal Cert.LossKernelIdeal.Gen Idealize.ShloMosaic Idealize.ShloMosaic.TcCoe Idealize.SL.Sem
open Cert.Step (sg rinv normGradK col actCol FfnArgs LossArgs)

/-- Row `r` of tile `t`. -/
abbrev tileRow (t : Fin 32) (r : Fin 256) : Fin 8192 := ⟨256 * t.val + r.val, by omega⟩

/-- What the tile is handed. -/
structure Tile (a : FfnArgs) (t : Fin 32) (x0 : Vec Ideal S256x1024 .f32) (x1 : Vec Ideal S1x1024 .f32) (x2 : Vec Ideal S8x1024x704 .bf16)
    (x3 : Vec Ideal S8x3x704 .f32) (x4 : Vec Ideal S8x704 .f32) (x5 : Vec Ideal S8x352x1024 .bf16) (cs : Vec Ideal S8x8x704 .f32) : Prop where
  x : ∀ r k, x0 (ix2 r k) = a.x (tileRow t r) k
  g : ∀ k, x1 (ix2 0 k) = a.g k
  w : ∀ j k q, x2 (ix3 j k q) = a.w k (col j q)
  cw : ∀ j s q, x3 (ix3 j s q) = a.cw s (col j q)
  cb : ∀ j q, x4 (ix2 j q) = a.cb (col j q)
  wd : ∀ (j : Fin 8) (p : Fin 352) k, x5 (ix3 j p k) = a.wd ⟨352 * j.val + p.val, by omega⟩ k
  before : ∀ j (s : Fin 8) q, cs (ix3 j s q) = if t.val = 0 then 0 else a.pre ⟨256 * t.val - 8 + s.val, by omega⟩ (col j q)

variable {a : FfnArgs} {t : Fin 32} {x0 : Vec Ideal S256x1024 .f32} {x1 : Vec Ideal S1x1024 .f32} {x2 : Vec Ideal S8x1024x704 .bf16}
  {x3 : Vec Ideal S8x3x704 .f32} {x4 : Vec Ideal S8x704 .f32} {x5 : Vec Ideal S8x352x1024 .bf16} {cs : Vec Ideal S8x8x704 .f32}

theorem hB_eq (hx : ∀ r k, x0 (ix2 r k) = a.x (tileRow t r) k) (hg : ∀ k, x1 (ix2 0 k) = a.g k) (r : Fin 256) (k : Fin 1024) :
    hB x0 x1 r k = a.h (tileRow t r) k := by
  unfold hB
  simp only [hx, hg]
  rfl

theorem preB_eq (hx : ∀ r k, x0 (ix2 r k) = a.x (tileRow t r) k) (hg : ∀ k, x1 (ix2 0 k) = a.g k)
    (hw : ∀ j k q, x2 (ix3 j k q) = a.w k (col j q)) (j : Fin 8) (r : Fin 256) (q : Fin 704) :
    preB x0 x1 x2 j r q = a.pre (tileRow t r) (col j q) := by
  unfold preB
  simp only [hB_eq hx hg, hw]
  rfl

variable (T : Tile a t x0 x1 x2 x3 x4 x5 cs)
include T

theorem backB_eq (s : ℕ) (hs : s ≤ 8) (j : Fin 8) (r : Fin 256) (q : Fin 704) :
    backB x0 x1 x2 cs s hs j r q = a.back s (tileRow t r) (col j q) := by
  unfold backB FfnArgs.back
  by_cases h : r.val < s
  · rw [dif_pos h, T.before]
    by_cases h0 : t.val = 0
    · rw [if_pos h0, dif_pos (show 256 * t.val + r.val < s by omega)]
    · rw [if_neg h0, dif_neg (show ¬ 256 * t.val + r.val < s by omega)]
      exact congrArg (fun i => a.pre i (col j q)) (Fin.ext (by show 256 * t.val - 8 + (8 - s + r.val) = 256 * t.val + r.val - s; omega))
  · rw [dif_neg h, dif_neg (show ¬ 256 * t.val + r.val < s by omega), preB_eq T.x T.g T.w]
    exact congrArg (fun i => a.pre i (col j q)) (Fin.ext (by show 256 * t.val + (r.val - s) = 256 * t.val + r.val - s; omega))

theorem upB_eq (j : Fin 8) (r : Fin 256) (q : Fin 704) : upB x0 x1 x2 x3 x4 cs j r q = a.up (tileRow t r) (col j q) := by
  unfold upB FfnArgs.up
  rw [backB_eq T, backB_eq T, preB_eq T.x T.g T.w, T.cw, T.cw, T.cw, T.cb, mul_comm (a.cw 0 _), mul_comm (a.cw 1 _), mul_comm (a.cw 2 _)]

theorem actB_eq (j : Fin 4) (r : Fin 256) (q : Fin 704) : actB x0 x1 x2 x3 x4 cs j r q = a.act (tileRow t r) (actCol j q) := by
  unfold actB FfnArgs.act
  rw [upB_eq T, upB_eq T]
  exact congrArg (fun n => _ * a.up (tileRow t r) n) (Fin.ext (by show 704 * (j.val + 4) + q.val = 704 * j.val + q.val + 2816; omega))

theorem addB_eq (j : Fin 4) (r : Fin 256) (k : Fin 1024) :
    addB x0 x1 x2 x3 x4 x5 cs j r k = ∑ q : Fin 704, a.act (tileRow t r) (actCol j q) * a.wd (actCol j q) k := by
  unfold addB
  refine Finset.sum_congr rfl fun q _ => ?_
  rw [actB_eq T]
  refine congrArg _ ?_
  split
  · rw [T.wd]; exact congrArg (fun n => a.wd n k) (Fin.ext (by show 352 * (2 * j.val) + q.val = 704 * j.val + q.val; omega))
  · rw [T.wd]; exact congrArg (fun n => a.wd n k) (Fin.ext (by show 352 * (2 * j.val + 1) + (q.val - 352) = 704 * j.val + q.val; omega))

theorem outB_eq (r : Fin 256) (k : Fin 1024) : outB x0 x1 x2 x3 x4 x5 cs r k = a.out (tileRow t r) k := by
  unfold outB FfnArgs.out
  rw [addB_eq T, addB_eq T, addB_eq T, addB_eq T, T.x]
  refine Eq.trans ?_ (congrArg (_ + ·) (Cert.Step.sum_blocks 4 704 2816 rfl (fun n => a.act (tileRow t r) n * a.wd n k) fun j q => by omega))
  rw [Fin.sum_univ_four]
  simp only [← add_assoc]

section
variable {b : LossArgs} (hb : b.b = a) {x6 : Vec Ideal S1x1024 .f32} {x7 : Vec Ideal S256x1024 .f32} (hgf : ∀ k, x6 (ix2 0 k) = b.gf k)
  (ht : ∀ r k, x7 (ix2 r k) = b.t (tileRow t r) k)
include hb hgf ht

theorem errB_eq (r : Fin 256) (k : Fin 1024) : errB x0 x1 x2 x3 x4 x5 x6 x7 cs r k = b.err (tileRow t r) k := by
  subst hb
  unfold errB
  simp only [outB_eq T, hgf, ht]
  rfl

theorem lossB_eq : lossB x0 x1 x2 x3 x4 x5 x6 x7 cs = Ideal.ofBits .f32 0x3F000000#32 * ∑ r, b.rowLoss (tileRow t r) := by
  unfold lossB
  simp only [errB_eq T hb hgf ht]
  rfl

theorem dgB_eq (k : Fin 1024) : dgB x0 x1 x2 x3 x4 x5 x6 x7 cs k
    = ∑ r, b.dy (tileRow t r) k * (b.b.out (tileRow t r) k * rinv (b.b.out (tileRow t r))) := by
  subst hb
  unfold dgB
  simp only [errB_eq T rfl hgf ht, outB_eq T]
  rfl

theorem dxB_eq (r : Fin 256) (k : Fin 1024) : dxB x0 x1 x2 x3 x4 x5 x6 x7 cs r k = b.dx (tileRow t r) k := by
  subst hb
  unfold dxB
  simp only [errB_eq T rfl hgf ht, outB_eq T, hgf]
  rfl

end

end Cert.LossKernelIdeal.Body

end
-- ==== Proof.LossKernelValue.lean ====
/- The eight results of the feed-forward block with the loss as functions of its arguments: each tile hands its last rows to the next, and
   the loss and the scale's gradient gather over the tiles. -/
module

public import proofs.«01_k».proof.Proof.LossBodyA
public import proofs.«01_k».proof.Proof.LossBlocks
public import proofs.«01_k».proof.Proof.ForwardTile

@[expose] public section

set_option maxRecDepth 16384

noncomputable section

namespace Cert.LossKernelIdeal.Body

open Cert.LossKernelIdeal Cert.LossKernelIdeal.Gen Idealize.ShloMosaic Idealize.ShloMosaic.TcCoe Idealize.SL.Sem
open Idealize.ShloMosaic.Pipeline (Dat)
open Cert.Step (col actCol)

variable (m : (ℓ : Loc nD τ sig) → Buf (Elt Ideal) ℓ) (c : Dev nD)

/-- A point as a tile. -/
abbrev tile (t : Fin cfg0.N) : Fin 32 := ⟨t.val, lt_N t⟩

/-- A tile's own addend to a sum over all rows. -/
def part (f : Fin 8192 → EReal) (t : ℕ) : EReal := if _h : t < 32 then ∑ r : Fin 256, f ⟨256 * t + r.val, by omega⟩ else 0

theorem part_eq (f : Fin 8192 → EReal) (t : Fin cfg0.N) : ∑ r : Fin 256, f (row t r) = part f t.val := by
  unfold part
  rw [dif_pos (lt_N t)]

theorem sum_parts (f : Fin 8192 → EReal) : ∑ t ∈ Finset.range 32, part f t = ∑ i, f i := by
  rw [Finset.sum_range]
  refine Eq.trans ?_ (Cert.Step.sum_blocks 32 256 8192 rfl f fun j q => by omega)
  refine Finset.sum_congr rfl fun t _ => ?_
  exact (dif_pos (c := t.val < 32) t.isLt)

section
variable (t : Fin cfg0.N)

/-- The rows that a point hands to the next: the last eight of its own. -/
theorem handed (j : Fin 8) (s : Fin 8) (q : Fin 704) :
    (outsAt0 m c t.val t.isLt).2.2.2.2.2.2.2.2 (ix3 j s q) = (args m c).b.pre (row t ⟨248 + s.val, by omega⟩) (col j q) := by
  have e := fun r => preB_eq (a := (args m c).b) (t := tile t) (blk0 m c t) (blk1 m c t) (blk2 m c t) j r q
  by_cases h0 : t.val % 32 = 0
  · rw [outsAt0_A m c t h0]; dsimp only; rw [sout_A_0]; exact e _
  · rw [outsAt0_B m c t h0]; dsimp only; rw [sout_B_0]; exact e _

/-- What a point finds handed to it: zero at the first, the rows of the point before at the others. -/
def found : Vec Ideal S8x8x704 .f32 :=
  if t.val % 32 = 0 then zeroRows else (outsAt0 m c (t.val - 1) (Nat.lt_of_le_of_lt (Nat.sub_le _ _) t.isLt)).2.2.2.2.2.2.2.2

theorem found_first (h : t.val % 32 = 0) : found m c t = zeroRows := if_pos h

theorem found_later (h : ¬ t.val % 32 = 0) :
    found m c t = (outsAt0 m c (t.val - 1) (Nat.lt_of_le_of_lt (Nat.sub_le _ _) t.isLt)).2.2.2.2.2.2.2.2 := if_neg h

theorem found_eq (j : Fin 8) (s : Fin 8) (q : Fin 704) : found m c t (ix3 j s q)
    = if t.val = 0 then 0 else (args m c).b.pre ⟨256 * t.val - 8 + s.val, by have := lt_N t; omega⟩ (col j q) := by
  have hN := lt_N t
  by_cases h0 : t.val % 32 = 0
  · rw [found_first m c t h0, if_pos (by omega)]
    pointwise [zeroRows, k0_pay1]
  · rw [found_later m c t h0, if_neg (by omega)]
    refine (handed m c ⟨t.val - 1, Nat.lt_of_le_of_lt (Nat.sub_le _ _) t.isLt⟩ j s q).trans ?_
    exact congrArg (fun i => (args m c).b.pre i (col j q)) (Fin.ext (by show 256 * (t.val - 1) + (248 + s.val) = 256 * t.val - 8 + s.val; omega))

theorem tile_handed : Tile (args m c).b (tile t) (iblk m c 0 t) (iblk m c 1 t) (iblk m c 2 t) (iblk m c 3 t) (iblk m c 4 t) (iblk m c 5 t) (found m c t) :=
  ⟨blk0 m c t, blk1 m c t, blk2 m c t, blk3 m c t, blk4 m c t, blk5 m c t, found_eq m c t⟩

theorem out8 (r : Fin 256) (k : Fin 1024) : (outsAt0 m c t.val t.isLt).1 (ix2 r k) = (args m c).dx (row t r) k := by
  refine Eq.trans ?_ (dxB_eq (tile_handed m c t) rfl (blk6 m c t) (blk7 m c t) r k)
  by_cases h0 : t.val % 32 = 0
  · rw [outsAt0_A m c t h0, found_first m c t h0]; dsimp only; rw [out_A_8]
  · rw [outsAt0_B m c t h0, found_later m c t h0]; dsimp only; rw [out_B_8]

theorem out15 (r : Fin 256) (k : Fin 1024) : (outsAt0 m c t.val t.isLt).2.2.2.2.2.2.2.1 (ix2 r k) = (args m c).dx (row t r) k := by
  refine Eq.trans ?_ (dxB_eq (tile_handed m c t) rfl (blk6 m c t) (blk7 m c t) r k)
  by_cases h0 : t.val % 32 = 0
  · rw [outsAt0_A m c t h0, found_first m c t h0]; dsimp only; rw [out_A_15]
  · rw [outsAt0_B m c t h0, found_later m c t h0]; dsimp only; rw [out_B_15]

theorem out9 (r : Fin 256) (k : Fin 1024) : (outsAt0 m c t.val t.isLt).2.1 (ix2 r k) = (args m c).b.h (row t r) k := by
  refine Eq.trans ?_ (hB_eq (a := (args m c).b) (t := tile t) (blk0 m c t) (blk1 m c t) r k)
  by_cases h0 : t.val % 32 = 0
  · rw [outsAt0_A m c t h0]; dsimp only; rw [out_A_9]
  · rw [outsAt0_B m c t h0]; dsimp only; rw [out_B_9]

theorem out10 (j : Fin 8) (r : Fin 256) (q : Fin 704) : (outsAt0 m c t.val t.isLt).2.2.1 (ix3 j r q) = (args m c).b.pre (row t r) (col j q) := by
  refine Eq.trans ?_ (preB_eq (a := (args m c).b) (t := tile t) (blk0 m c t) (blk1 m c t) (blk2 m c t) j r q)
  by_cases h0 : t.val % 32 = 0
  · rw [outsAt0_A m c t h0]; dsimp only; rw [out_A_10]; rfl
  · rw [outsAt0_B m c t h0]; dsimp only; rw [out_B_10]; rfl

theorem out11 (j : Fin 8) (r : Fin 256) (q : Fin 704) : (outsAt0 m c t.val t.isLt).2.2.2.1 (ix3 j r q) = (args m c).b.up (row t r) (col j q) := by
  refine Eq.trans ?_ (upB_eq (tile_handed m c t) j r q)
  by_cases h0 : t.val % 32 = 0
  · rw [outsAt0_A m c t h0, found_first m c t h0]; dsimp only; rw [out_A_11]; rfl
  · rw [outsAt0_B m c t h0, found_later m c t h0]; dsimp only; rw [out_B_11]; rfl

theorem out12 (j : Fin 4) (r : Fin 256) (q : Fin 704) : (outsAt0 m c t.val t.isLt).2.2.2.2.1 (ix3 j r q) = (args m c).b.act (row t r) (actCol j q) := by
  refine Eq.trans ?_ (actB_eq (tile_handed m c t) j r q)
  by_cases h0 : t.val % 32 = 0
  · rw [outsAt0_A m c t h0, found_first m c t h0]; dsimp only; rw [out_A_12]; rfl
  · rw [outsAt0_B m c t h0, found_later m c t h0]; dsimp only; rw [out_B_12]; rfl

theorem lossPart_eq : lossB (iblk m c 0 t) (iblk m c 1 t) (iblk m c 2 t) (iblk m c 3 t) (iblk m c 4 t) (iblk m c 5 t) (iblk m c 6 t) (iblk m c 7 t) (found m c t)
    = Ideal.ofBits .f32 0x3F000000#32 * part (args m c).rowLoss t.val := by
  rw [← part_eq]
  exact lossB_eq (tile_handed m c t) rfl (blk6 m c t) (blk7 m c t)

theorem dgPart_eq (k : Fin 1024) : dgB (iblk m c 0 t) (iblk m c 1 t) (iblk m c 2 t) (iblk m c 3 t) (iblk m c 4 t) (iblk m c 5 t) (iblk m c 6 t) (iblk m c 7 t)
    (found m c t) k = part (fun i => (args m c).dy i k * ((args m c).b.out i k * Cert.Step.rinv ((args m c).b.out i))) t.val := by
  rw [← part_eq]
  exact dgB_eq (tile_handed m c t) rfl (blk6 m c t) (blk7 m c t) k

end

/-- The loss after each point. -/
theorem out14 (n : ℕ) : ∀ h : n < cfg0.N, (outsAt0 m c n h).2.2.2.2.2.2.1 (ix2 0 0)
    = ∑ t ∈ Finset.range (n + 1), Ideal.ofBits .f32 0x3F000000#32 * part (args m c).rowLoss t := by
  induction n with
  | zero =>
    intro h
    have e := lossPart_eq m c ⟨0, h⟩
    rw [found_first m c ⟨0, h⟩ rfl] at e
    rw [outsAt0_A m c ⟨0, h⟩ rfl]
    dsimp only
    rw [out_A_14, Finset.sum_range_one, e, show zeroLoss (ix2 0 0) = 0 by pointwise [zeroLoss, k0_pay3], zero_add]
  | succ n ih =>
    intro h
    have hN : cfg0.N = 32 := N_0
    have h0 : ¬ (n + 1) % 32 = 0 := by omega
    have e := lossPart_eq m c ⟨n + 1, h⟩
    rw [found_later m c ⟨n + 1, h⟩ h0] at e
    rw [outsAt0_B m c ⟨n + 1, h⟩ h0]
    dsimp only
    rw [out_B_14, Finset.sum_range_succ _ (n + 1), e]
    exact congrArg (· + _) (ih (by omega))

/-- The scale's gradient after each point. -/
theorem out13 (n : ℕ) : ∀ (h : n < cfg0.N) (r : Fin 8) (k : Fin 1024), (outsAt0 m c n h).2.2.2.2.2.1 (ix2 r k)
    = if r = 0 then ∑ t ∈ Finset.range (n + 1), part (fun i => (args m c).dy i k * ((args m c).b.out i k * Cert.Step.rinv ((args m c).b.out i))) t else 0 := by
  induction n with
  | zero =>
    intro h r k
    have e := dgPart_eq m c ⟨0, h⟩ k
    rw [found_first m c ⟨0, h⟩ rfl] at e
    have z : ∀ r : Fin 8, zeroScale (ix2 r k) = 0 := fun r => by pointwise [zeroScale, k0_pay2]
    rw [outsAt0_A m c ⟨0, h⟩ rfl]
    dsimp only
    rw [out_A_13, Finset.sum_range_one, z, z, zero_add, e]
  | succ n ih =>
    intro h r k
    have hN : cfg0.N = 32 := N_0
    have h0 : ¬ (n + 1) % 32 = 0 := by omega
    have e := dgPart_eq m c ⟨n + 1, h⟩ k
    rw [found_later m c ⟨n + 1, h⟩ h0] at e
    rw [outsAt0_B m c ⟨n + 1, h⟩ h0]
    dsimp only
    rw [out_B_13, e]
    have e' := ih (by omega)
    simp only [Nat.add_sub_cancel]
    rw [e', e', Finset.sum_range_succ _ (n + 1)]
    split <;> simp

/-- The results, entry by entry. -/
abbrev resDx : Buf (Elt Ideal) ((c : Thread nD τ).loc main_v10_0) := fun y : S8192x1024.Idx => (args m c).dx (y 0) (y 1)
@[inherit_doc resDx] abbrev resH : Buf (Elt Ideal) ((c : Thread nD τ).loc main_v10_1) := fun y : S8192x1024.Idx => (args m c).b.h (y 0) (y 1)
@[inherit_doc resDx] abbrev resPre : Buf (Elt Ideal) ((c : Thread nD τ).loc main_v10_2) := fun y : S8x8192x704.Idx => (args m c).b.pre (y 1) (col (y 0) (y 2))
@[inherit_doc resDx] abbrev resUp : Buf (Elt Ideal) ((c : Thread nD τ).loc main_v10_3) := fun y : S8x8192x704.Idx => (args m c).b.up (y 1) (col (y 0) (y 2))
@[inherit_doc resDx] abbrev resAct : Buf (Elt Ideal) ((c : Thread nD τ).loc main_v10_4) := fun y : S4x8192x704.Idx => (args m c).b.act (y 1) (actCol (y 0) (y 2))
@[inherit_doc resDx] abbrev resDg : Buf (Elt Ideal) ((c : Thread nD τ).loc main_v10_5) := fun y : S8x1024.Idx => (args m c).dg (y 0) (y 1)
@[inherit_doc resDx] abbrev resLoss : Buf (Elt Ideal) ((c : Thread nD τ).loc main_v10_6) := fun _ : S1x1.Idx => (args m c).loss
@[inherit_doc resDx] abbrev resDxb : Buf (Elt Ideal) ((c : Thread nD τ).loc main_v10_7) := fun y : S8192x1024.Idx => (args m c).dx (y 0) (y 1)

theorem final8 : (dats m 0 c).arrAt 8 cfg0.N = resDx m c := by
  refine (dats m 0 c).arrAt_eq_of_covers 8 (resDx m c) (by decide +kernel) fun t _ y => ?_
  idx_vars y
  rw [emb8]
  blk_simp
  rw [after0_8]
  exact out8 m c t _ _

theorem final9 : (dats m 0 c).arrAt 9 cfg0.N = resH m c := by
  refine (dats m 0 c).arrAt_eq_of_covers 9 (resH m c) (by decide +kernel) fun t _ y => ?_
  idx_vars y
  rw [emb9]
  blk_simp
  rw [after0_9]
  exact out9 m c t _ _

theorem final10 : (dats m 0 c).arrAt 10 cfg0.N = resPre m c := by
  refine (dats m 0 c).arrAt_eq_of_covers 10 (resPre m c) (by decide +kernel) fun t _ y => ?_
  idx_vars y
  rw [emb10]
  blk_simp
  rw [after0_10]
  exact out10 m c t _ _ _

theorem final11 : (dats m 0 c).arrAt 11 cfg0.N = resUp m c := by
  refine (dats m 0 c).arrAt_eq_of_covers 11 (resUp m c) (by decide +kernel) fun t _ y => ?_
  idx_vars y
  rw [emb11]
  blk_simp
  rw [after0_11]
  exact out11 m c t _ _ _

theorem final12 : (dats m 0 c).arrAt 12 cfg0.N = resAct m c := by
  refine (dats m 0 c).arrAt_eq_of_covers 12 (resAct m c) (by decide +kernel) fun t _ y => ?_
  idx_vars y
  rw [emb12]
  blk_simp
  rw [after0_12]
  exact out12 m c t _ _ _

theorem final13 : (dats m 0 c).arrAt 13 cfg0.N = resDg m c := by
  refine (dats m 0 c).arrAt_eq_of_covers 13 (resDg m c) (by decide +kernel) fun t hf y => ?_
  idx_vars y
  have e : t.val = 31 := by have := (flush0_13 t).mp hf; have := lt_N t; omega
  rw [emb13]
  blk_simp
  rw [after0_13, out13, e, sum_parts]
  rfl

theorem one_idx (y : S1x1.Idx) : y = ix2 0 0 :=
  (eq_ix2 y).trans (congrArg₂ ix2 (Subsingleton.elim (α := Fin 1) _ _) (Subsingleton.elim (α := Fin 1) _ _))

theorem final14 : (dats m 0 c).arrAt 14 cfg0.N = resLoss m c := by
  refine (dats m 0 c).arrAt_eq_of_covers 14 (resLoss m c) (by decide +kernel) fun t hf y => ?_
  obtain rfl := one_idx y
  have e : t.val = 31 := by have := (flush0_14 t).mp hf; have := lt_N t; omega
  rw [emb14]
  blk_simp
  rw [after0_14, out14, e, Cert.Step.half_sum, sum_parts]
  rfl

theorem final15 : (dats m 0 c).arrAt 15 cfg0.N = resDxb m c := by
  refine (dats m 0 c).arrAt_eq_of_covers 15 (resDxb m c) (by decide +kernel) fun t _ y => ?_
  idx_vars y
  rw [emb15]
  blk_simp
  rw [after0_15]
  exact out15 m c t _ _

/-- The run, read: the results as functions of the arguments, which stay as they were. -/
theorem run (ρ : Dev nD → PrngReg) : θ_run defs (onTc (τ := τ) (main (F := Ideal))) ⟨m, fun _ => 0, ρ⟩ fun r => ∀ c : Dev nD,
    r.2.mem ((c : Thread nD τ).loc main_v10_0) = resDx m c ∧ r.2.mem ((c : Thread nD τ).loc main_v10_1) = resH m c
    ∧ r.2.mem ((c : Thread nD τ).loc main_v10_2) = resPre m c ∧ r.2.mem ((c : Thread nD τ).loc main_v10_3) = resUp m c
    ∧ r.2.mem ((c : Thread nD τ).loc main_v10_4) = resAct m c ∧ r.2.mem ((c : Thread nD τ).loc main_v10_5) = resDg m c
    ∧ r.2.mem ((c : Thread nD τ).loc main_v10_6) = resLoss m c ∧ r.2.mem ((c : Thread nD τ).loc main_v10_7) = resDxb m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7) :=
  (θ_run defs _ _).mono (fun _ h c => by
    have := h c
    rw [final8, final9, final10, final11, final12, final13, final14, final15] at this
    exact this) (Value.run_blocks m ρ)

end Cert.LossKernelIdeal.Body

end
-- ==== Proof.LossReference.lean ====
/- The host reference of the forward block with the loss and its gradient, read entry by entry in terms of its arguments. -/
module

public import proofs.«01_k».proof.Proof.FfnForward
public import proofs.«01_k».proof.Proof.Gen.LossReferenceIdeal.Run
public import Idealize.ShloMosaic.Lib.Pointwise
public import Idealize.ShloMosaic.Lib.Tactic.CleanTypes

@[expose] public section

set_option maxRecDepth 16384

noncomputable section

namespace Cert.LossReferenceIdeal.Read

open Cert.LossReferenceIdeal Idealize.ShloMosaic Idealize.ShloMosaic.TcCoe Idealize.SL.Sem
open Cert.Step (col)

variable (V0 : Valuation τ sig (Elt Ideal))

/-- The block's arguments and the loss's as the buffers hold them. -/
def args : Cert.Step.LossArgs where
  b :=
    { x := fun i k => V0 (Proc.devRef .tc main_arg0) (ix2 i k)
      g := fun k => V0 (Proc.devRef .tc main_arg1) (ix1 k)
      w := fun k n => V0 (Proc.devRef .tc main_arg2) (ix2 k n)
      cw := fun s n => V0 (Proc.devRef .tc main_arg3) (ix2 s n)
      cb := fun n => V0 (Proc.devRef .tc main_arg4) (ix1 n)
      wd := fun n k => V0 (Proc.devRef .tc main_arg5) (ix2 n k)
      ct := fun _ _ => 0 }
  gf k := V0 (Proc.devRef .tc main_arg6) (ix1 k)
  t i k := V0 (Proc.devRef .tc main_arg7) (ix2 i k)

theorem h_entry (i : Fin 8192) (k : Fin 1024) : (Value.res_main_v12 V0 : FVec Ideal S8192x1024 .f32) (ix2 i k) = (args V0).b.h i k := by
  unfold Value.res_main_v12
  clean_types
  pointwise
  rfl

theorem pre_entry (i : Fin 8192) (n : Fin 5632) : (Value.res_main_v13 V0 : FVec Ideal S8192x5632 .f32) (ix2 i n) = (args V0).b.pre i n := by
  unfold Value.res_main_v13
  clean_types
  pointwise
  simp only [h_entry]
  rfl

/-- The product with the weight up, two zero rows before it. -/
theorem padded (i : Fin 8194) (n : Fin 5632) : (Value.res_main_v15 V0 : FVec Ideal S8194x5632 .f32) (ix2 i n)
    = if _h : i.val < 2 then 0 else (args V0).b.pre ⟨i.val - 2, by omega⟩ n := by
  unfold Value.res_main_v15
  clean_types
  pointwise
  simp only [pre_entry]

theorem up_entry (i : Fin 8192) (n : Fin 5632) : (Value.res_main_v38 V0 : FVec Ideal S8192x5632 .f32) (ix2 i n) = (args V0).b.up i n := by
  unfold Value.res_main_v38
  clean_types
  pointwise
  simp only [padded]
  rw [Cert.Step.FfnArgs.up, Cert.Step.FfnArgs.back_one, Cert.Step.FfnArgs.back, dif_neg (by omega : ¬ 2 + i.val < 2)]
  simp only [Nat.add_sub_cancel_left]
  rfl

theorem act_entry (i : Fin 8192) (n : Fin 2816) : (Value.res_main_v42 V0 : FVec Ideal S8192x2816 .f32) (ix2 i n) = (args V0).b.act i n := by
  unfold Value.res_main_v42 Value.res_main_v39
  clean_types
  pointwise
  simp only [up_entry]
  rw [Cert.Step.sg_eq, Cert.Step.FfnArgs.act]
  exact congrArg (fun n => _ * (args V0).b.up i n) (Fin.ext (Nat.add_comm _ _))

theorem out_entry (i : Fin 8192) (k : Fin 1024) : (Value.res_main_v44 V0 : FVec Ideal S8192x1024 .f32) (ix2 i k) = (args V0).b.out i k := by
  unfold Value.res_main_v44
  clean_types
  pointwise
  simp only [act_entry]
  rfl

theorem normed_entry (i : Fin 8192) (k : Fin 1024) : (Value.res_main_v57 V0 : FVec Ideal S8192x1024 .f32) (ix2 i k)
    = (args V0).b.out i k * Cert.Step.rinv ((args V0).b.out i) := by
  unfold Value.res_main_v57 Value.res_main_v52 Value.res_main_v51
  clean_types
  pointwise
  simp only [out_entry]
  rfl

theorem err_entry (i : Fin 8192) (k : Fin 1024) : (Value.res_main_v61 V0 : FVec Ideal S8192x1024 .f32) (ix2 i k) = (args V0).err i k := by
  unfold Value.res_main_v61 Value.res_main_v58
  clean_types
  pointwise
  simp only [normed_entry]
  rfl

/-- The mean of a square, half of it, and its gradient: one thousandth and twenty-fourth of the difference. -/
theorem half_mean (e : EReal) : Ideal.div (Ideal.ofBits .f32 0x3F000000#32) (Ideal.ofBits .f32 0x44800000#32)
    * (Ideal.ofBits .f32 0x40000000#32 * e) = e * Ideal.ofBits .f32 0x3A800000#32 := by
  have h2 : Ideal.ofBits .f32 0x40000000#32 = ((2 : ℝ) : EReal) := by
    simp [Ideal.ofBits, Ideal.ieee]; norm_num; rw [← EReal.coe_mul]; norm_num
  have hn : Ideal.ofBits .f32 0x44800000#32 = ((1024 : ℝ) : EReal) := by
    simp [Ideal.ofBits, Ideal.ieee]; norm_num; rw [← EReal.coe_mul]; norm_num
  rw [Cert.Step.word_half, hn, Cert.Step.div_coe _ _ (by norm_num), h2, ← mul_assoc, ← EReal.coe_mul, mul_comm, Cert.Step.word_thousandth]
  norm_num

theorem dy_entry (i : Fin 8192) (k : Fin 1024) : (Value.res_main_v75 V0 : FVec Ideal S8192x1024 .f32) (ix2 i k) = (args V0).dy i k := by
  unfold Value.res_main_v75
  clean_types
  pointwise
  simp only [err_entry]
  exact half_mean _

theorem dh_entry (i : Fin 8192) (k : Fin 1024) : (Value.res_main_v80 V0 : FVec Ideal S8192x1024 .f32) (ix2 i k) = (args V0).dy i k * (args V0).gf k := by
  unfold Value.res_main_v80 Value.res_main_v58
  clean_types
  pointwise
  simp only [dy_entry]
  rfl

/-- The rows' gradient: the last norm's derivative of the loss's gradient. -/
theorem dx_entry (h : (args V0).Finite) (i : Fin 8192) (k : Fin 1024) :
    (addf (addf (mulf (Value.res_main_v80 V0) (broadcastInDim S8192x1024 ![0, 1] Gen.bcast_S8192x1_S8192x1024_0_1 (Value.res_main_v52 V0)))
      (mulf (Value.res_main_v44 V0) (Value.res_main_v91 V0))) (mulf (Value.res_main_v91 V0) (Value.res_main_v44 V0))
      : FVec Ideal S8192x1024 .f32) (ix2 i k) = (args V0).dx i k := by
  unfold Value.res_main_v91 Value.res_main_v52 Value.res_main_v51
  clean_types
  pointwise
  simp only [dh_entry, out_entry, Finset.univ_unique, Finset.sum_singleton]
  rw [Cert.Step.LossArgs.dx, ← zero_add (Cert.Step.normGradK _ _ k),
    Cert.Step.normGrad_eq _ _ (h.b.out i) fun q => Cert.Step.fin_mul (h.dy i q) (h.gf q), zero_add]
  rfl

/-- An array's entries. -/
abbrev entry {a b : ℕ} (x : FVec Ideal ⟨2, ![a, b]⟩ .f32) (i : Fin a) (n : Fin b) : EReal := x (ix2 i n)

/-- The last scale's gradient, column by column. -/
theorem dg_entry (k : Fin 1024) : (∑ i, entry (Value.res_main_v57 V0) i k * entry (Value.res_main_v75 V0) i k) = (args V0).dg 0 k := by
  rw [Cert.Step.LossArgs.dg, if_pos rfl]
  refine Finset.sum_congr rfl fun i _ => ?_
  unfold entry
  rw [dy_entry, normed_entry, mul_comm]

end Cert.LossReferenceIdeal.Read

end
-- ==== Proof.LossReferenceRun.lean ====
/- The run of the loss's host reference: its results as functions of its arguments. -/
module

public import proofs.«01_k».proof.Proof.LossReference
public import Idealize.ShloMosaic.Lib.Pointwise
public import Idealize.ShloMosaic.Lib.Tactic.CleanTypes

@[expose] public section

set_option maxRecDepth 16384

noncomputable section

namespace Cert.LossReferenceIdeal.Read

open Cert.LossReferenceIdeal Idealize.ShloMosaic Idealize.ShloMosaic.TcCoe Idealize.SL.Sem
open Cert.Step (col actCol)

variable (m : (ℓ : Loc nD τ sig) → Buf (Elt Ideal) ℓ)

theorem narrow {s : Shape} (x : FVec Ideal s .f32) (h : FTy.bits .bf16 < FTy.bits .f32) (i : s.Idx) : truncf .bf16 x h i = x i := rfl

theorem split8 (x : FVec Ideal S8192x5632 .f32) (j : Fin 8) (i : Fin 8192) (q : Fin 704) :
    (transpose S8x8192x704 [1, 0, 2] (shapeCast S8192x8x704 x Gen.shapeCasts_S8192x5632_S8192x8x704) Gen.transposes_S8192x8x704_S8x8192x704_1_0_2) (ix3 j i q)
      = x (ix2 i (col j q)) := by
  pointwise
  exact congrArg (fun n => x (ix2 i n)) (Fin.ext (by show j.val * 704 + q.val = 704 * j.val + q.val; omega))

theorem split4 (x : FVec Ideal S8192x2816 .f32) (j : Fin 4) (i : Fin 8192) (q : Fin 704) :
    (transpose S4x8192x704 [1, 0, 2] (shapeCast S8192x4x704 x Gen.shapeCasts_S8192x2816_S8192x4x704) Gen.transposes_S8192x4x704_S4x8192x704_1_0_2) (ix3 j i q)
      = x (ix2 i (actCol j q)) := by
  pointwise
  exact congrArg (fun n => x (ix2 i n)) (Fin.ext (by show j.val * 704 + q.val = 704 * j.val + q.val; omega))

/-- The loss: half the sum of the rows' mean squares. -/
theorem loss_entry (V0 : Valuation τ sig (Elt Ideal)) (y : S1x1.Idx) :
    (shapeCast S1x1 (mulf (constant S_ .f32 0x3F000000#32) (Host.reduceAdd (Host.divf (Host.reduceAdd (mulf (Value.res_main_v61 V0) (Value.res_main_v61 V0))
      (constant S_ .f32 0x00000000#32) Gen.reducesTo_S8192x1024_S8192_d1 Gen.h_S_) (broadcastInDim S8192 ![] Gen.bcast_S_S8192 (constant S_ .f32 0x44800000#32)))
      (constant S_ .f32 0x00000000#32) Gen.reducesTo_S8192_S_d0 Gen.h_S_)) Gen.shapeCasts_S_S1x1 : FVec Ideal S1x1 .f32) y = (args V0).loss := by
  idx_vars y
  clean_types
  pointwise
  simp only [err_entry]
  rfl

/-- The run, read: the results as functions of the arguments, which stay as they were. -/
theorem run (ρ : Dev nD → PrngReg) (hf : ∀ c, (args (StableHlo.launchContents m c)).Finite) :
    θ_run defs (onTc (τ := τ) (main (F := Ideal))) ⟨m, fun _ => 0, ρ⟩ fun r => ∀ c : Dev nD,
      r.2.mem ((c.tc : Thread nD τ).loc main_v95) = (fun y : S8192x1024.Idx => (args (StableHlo.launchContents m c)).dx (y 0) (y 1))
      ∧ r.2.mem ((c.tc : Thread nD τ).loc main_v96) = (fun y : S8192x1024.Idx => (args (StableHlo.launchContents m c)).b.h (y 0) (y 1))
      ∧ r.2.mem ((c.tc : Thread nD τ).loc main_v99) = (fun y : S8x8192x704.Idx => (args (StableHlo.launchContents m c)).b.pre (y 1) (col (y 0) (y 2)))
      ∧ r.2.mem ((c.tc : Thread nD τ).loc main_v102) = (fun y : S8x8192x704.Idx => (args (StableHlo.launchContents m c)).b.up (y 1) (col (y 0) (y 2)))
      ∧ r.2.mem ((c.tc : Thread nD τ).loc main_v105) = (fun y : S4x8192x704.Idx => (args (StableHlo.launchContents m c)).b.act (y 1) (actCol (y 0) (y 2)))
      ∧ r.2.mem ((c.tc : Thread nD τ).loc main_v108) = (fun y : S8x1024.Idx => (args (StableHlo.launchContents m c)).dg (y 0) (y 1))
      ∧ r.2.mem ((c.tc : Thread nD τ).loc main_v109) = (fun _ : S1x1.Idx => (args (StableHlo.launchContents m c)).loss)
      ∧ r.2.mem ((c.tc : Thread nD τ).loc main_v110) = (fun y : S8192x1024.Idx => (args (StableHlo.launchContents m c)).dx (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun _ h c => ?_) (Value.run m ρ)
  obtain ⟨e0, e1, e2, e3, e4, e5, e6, e7, e⟩ := h c
  refine ⟨?_, ?_, ?_, ?_, ?_, ?_, ?_, ?_, e⟩
  · rw [e0]
    funext y
    idx_vars y
    exact dx_entry (StableHlo.launchContents m c) (hf c) _ _
  · rw [e1]
    funext y
    idx_vars y
    exact (narrow _ _ _).trans (h_entry (StableHlo.launchContents m c) _ _)
  · rw [e2]
    funext y
    idx_vars y
    exact ((narrow _ _ _).trans (split8 _ _ _ _)).trans (pre_entry (StableHlo.launchContents m c) _ _)
  · rw [e3]
    funext y
    idx_vars y
    exact ((narrow _ _ _).trans (split8 _ _ _ _)).trans (up_entry (StableHlo.launchContents m c) _ _)
  · rw [e4]
    funext y
    idx_vars y
    exact ((narrow _ _ _).trans (split4 _ _ _ _)).trans (act_entry (StableHlo.launchContents m c) _ _)
  · rw [e5]
    funext y
    idx_vars y
    clear h e e0 e1 e2 e3 e4 e5 e6 e7
    clean_types
    pointwise
    simp only [Finset.univ_unique, Finset.sum_singleton]
    by_cases h0 : y0 = 0
    · subst h0
      rw [dif_pos (by decide)]
      exact dg_entry (StableHlo.launchContents m c) y1
    · rw [dif_neg (by intro h; exact h0 (Fin.ext (by simpa using h))), Cert.Step.LossArgs.dg, if_neg h0]
  · rw [e6]
    funext y
    exact loss_entry (StableHlo.launchContents m c) y
  · rw [e7]
    funext y
    idx_vars y
    exact (narrow _ _ _).trans (dx_entry (StableHlo.launchContents m c) (hf c) _ _)

end Cert.LossReferenceIdeal.Read

end
-- ==== Proof.LossClaim.lean ====
/- The claims about the loss, its gradient, and the forward block before it. -/
module

public import proofs.«01_k».proof.Defs
public import proofs.«01_k».proof.Proof.Gen.LossKernel.Frame
public import proofs.«01_k».proof.Proof.Gen.Pre_finite_loss
public import proofs.«01_k».proof.Proof.Gen.LossReferenceIdeal
public import proofs.«01_k».proof.Proof.LossKernelValue
public import proofs.«01_k».proof.Proof.LossReferenceRun
public import proofs.«01_k».proof.Proof.FiniteArgs

@[expose] public section

set_option maxRecDepth 16384

noncomputable section

namespace Cert.Pre_finite_loss

open Cert.Pre_finite_loss Idealize.ShloMosaic

/-- The precondition, read: all eight arrays hold real numbers. -/
theorem fin_of_fn [Facts] (x : FVec Ideal S8192x1024 .f32) (g : FVec Ideal S1024 .f32) (w : FVec Ideal S1024x5632 .f32)
    (cw : FVec Ideal S3x5632 .f32) (cb : FVec Ideal S5632 .f32) (wd : FVec Ideal S2816x1024 .f32) (gf : FVec Ideal S1024 .f32) (y : FVec Ideal S8192x1024 .f32)
    (h : fn (F := Ideal) x g w cw cb wd gf y = fun _ => 1#1) :
    (∀ i, Cert.Step.Fin' (x i)) ∧ (∀ i, Cert.Step.Fin' (g i)) ∧ (∀ i, Cert.Step.Fin' (w i)) ∧ (∀ i, Cert.Step.Fin' (cw i))
      ∧ (∀ i, Cert.Step.Fin' (cb i)) ∧ (∀ i, Cert.Step.Fin' (wd i)) ∧ (∀ i, Cert.Step.Fin' (gf i)) ∧ ∀ i, Cert.Step.Fin' (y i) := by
  have e := congrFun h ix0
  dsimp only [fn, fn_part1, fn_part2] at e
  have : Subsingleton S_.Idx := ⟨fun a b => funext fun i => i.elim0⟩
  obtain ⟨e, e7⟩ := (IntOp.andi_eq_one).1 e
  obtain ⟨e, e6⟩ := (IntOp.andi_eq_one).1 e
  obtain ⟨e, e5⟩ := (IntOp.andi_eq_one).1 e
  obtain ⟨e, e4⟩ := (IntOp.andi_eq_one).1 e
  obtain ⟨e, e3⟩ := (IntOp.andi_eq_one).1 e
  obtain ⟨e, e2⟩ := (IntOp.andi_eq_one).1 e
  obtain ⟨e0, e1⟩ := (IntOp.andi_eq_one).1 e
  exact ⟨Cert.Step.fin_of_all _ _ Cert.Step.word_inf _ _ _ _ _ e0, Cert.Step.fin_of_all _ _ Cert.Step.word_inf _ _ _ _ _ e1, Cert.Step.fin_of_all _ _ Cert.Step.word_inf _ _ _ _ _ e2, Cert.Step.fin_of_all _ _ Cert.Step.word_inf _ _ _ _ _ e3, Cert.Step.fin_of_all _ _ Cert.Step.word_inf _ _ _ _ _ e4, Cert.Step.fin_of_all _ _ Cert.Step.word_inf _ _ _ _ _ e5, Cert.Step.fin_of_all _ _ Cert.Step.word_inf _ _ _ _ _ e6, Cert.Step.fin_of_all _ _ Cert.Step.word_inf _ _ _ _ _ e7⟩

end Cert.Pre_finite_loss

namespace Cert.Proof

open Idealize.ShloMosaic Idealize.SL.Sem

theorem loss_fin (m : (ℓ : Loc Cert.LossKernelIdeal.nD Cert.LossKernelIdeal.τ Cert.LossKernelIdeal.sig) → Buf (Elt Ideal) ℓ)
    (h : Cert.Pre_LossKernelIdeal_finite_loss m) (c : Dev Cert.LossKernelIdeal.nD) : (Cert.LossKernelIdeal.Body.args m c).Finite := by
  obtain ⟨h0, h1, h2, h3, h4, h5, h6, h7⟩ := Cert.Pre_finite_loss.fin_of_fn _ _ _ _ _ _ _ _ (h c)
  exact ⟨⟨fun i k => h0 (ix2 i k), fun k => h1 (ix1 k), fun k n => h2 (ix2 k n), fun s n => h3 (ix2 s n), fun n => h4 (ix1 n),
    fun n k => h5 (ix2 n k), fun _ _ => ⟨0, EReal.coe_zero.symm⟩⟩, fun k => h6 (ix1 k), fun i k => h7 (ix2 i k)⟩

theorem loss_algebraic : Cert.algebraic_LossKernelIdeal_LossReferenceIdeal_pre_finite_loss := by
  intro m ρ m' ρ' hpre hagree
  refine ⟨fun c => Cert.LossKernelIdeal.Body.resDx m c,
    fun c => Cert.LossKernelIdeal.Body.resH m c,
    fun c => Cert.LossKernelIdeal.Body.resPre m c,
    fun c => Cert.LossKernelIdeal.Body.resUp m c,
    fun c => Cert.LossKernelIdeal.Body.resAct m c,
    fun c => Cert.LossKernelIdeal.Body.resDg m c,
    fun c => Cert.LossKernelIdeal.Body.resLoss m c,
    fun c => Cert.LossKernelIdeal.Body.resDxb m c, Cert.LossKernelIdeal.Body.run m ρ, ?_⟩
  have e : ∀ c, Cert.LossReferenceIdeal.Read.args (StableHlo.launchContents m' c) = Cert.LossKernelIdeal.Body.args m c := fun c => by
    obtain ⟨h0, h1, h2, h3, h4, h5, h6, h7⟩ := hagree c
    unfold Cert.LossReferenceIdeal.Read.args Cert.LossKernelIdeal.Body.args
    congr 1
    · congr 1
      · exact funext fun i => funext fun k => congrFun h0 (ix2 i k)
      · exact funext fun k => congrFun h1 (ix1 k)
      · exact funext fun k => funext fun n => congrFun h2 (ix2 k n)
      · exact funext fun s => funext fun n => congrFun h3 (ix2 s n)
      · exact funext fun n => congrFun h4 (ix1 n)
      · exact funext fun n => funext fun k => congrFun h5 (ix2 n k)
    · exact funext fun k => congrFun h6 (ix1 k)
    · exact funext fun i => funext fun k => congrFun h7 (ix2 i k)
  refine (θ_run Cert.LossReferenceIdeal.defs _ _).mono (fun _ h c => ⟨?_, ?_, ?_, ?_, ?_, ?_, ?_, ?_, (h c).2.2.2.2.2.2.2.2⟩)
    (Cert.LossReferenceIdeal.Read.run m' ρ' fun c => by rw [e]; exact loss_fin m hpre c)
  · rw [(h c).1, e]; rfl
  · rw [(h c).2.1, e]; rfl
  · rw [(h c).2.2.1, e]; rfl
  · rw [(h c).2.2.2.1, e]; rfl
  · rw [(h c).2.2.2.2.1, e]; rfl
  · rw [(h c).2.2.2.2.2.1, e]; rfl
  · rw [(h c).2.2.2.2.2.2.1, e]; rfl
  · rw [(h c).2.2.2.2.2.2.2.1, e]; rfl

theorem loss_reference_frame : Cert.quiescent_LossReferenceIdeal := fun m ρ _ =>
  (θ_run Cert.LossReferenceIdeal.defs _ _).mono (fun r h => ⟨fun c => (h c).2.2.2.2.2.2.2.2, sem_eq_zero_of_no_sems (by decide) r.2⟩)
    (Cert.LossReferenceIdeal.Value.run (F := Ideal) m ρ)

theorem loss_frames : Cert.quiescent_LossKernel ∧ Cert.quiescent_LossKernelIdeal ∧ Cert.quiescent_LossKernelIdeal_pre_finite_loss
    ∧ Cert.quiescent_LossReferenceIdeal ∧ Cert.quiescent_LossReferenceIdeal_pre_finite_loss :=
  ⟨fun m ρ _ => Cert.LossKernel.Gen.frame m ρ, fun m ρ _ => Cert.LossKernelIdeal.Gen.frame m ρ, fun m ρ _ => Cert.LossKernelIdeal.Gen.frame m ρ,
    loss_reference_frame, fun m ρ _ => loss_reference_frame m ρ trivial⟩

end Cert.Proof

end
-- ==== Proof.InSpec.lean ====
/- The projection of normed rows: the rows over their root mean square, scaled, and their product with the weight. -/
module

public import proofs.«01_k».proof.Proof.RmsGrad

@[expose] public section

set_option maxRecDepth 16384

noncomputable section

namespace Cert.Step

open Idealize.ShloMosaic

/-- A normed row, scaled. -/
def normed {n : ℕ} (x : Fin n → EReal) (g : Fin n → EReal) (k : Fin n) : EReal := x k * rinv x * g k

/-- The normed row's product with a column of the weight. -/
def proj {n N : ℕ} (x : Fin n → EReal) (g : Fin n → EReal) (w : Fin n → Fin N → EReal) (q : Fin N) : EReal := ∑ k, normed x g k * w k q

end Cert.Step

end
-- ==== Proof.InKernelValue.lean ====
/- The two results of the projection of normed rows as functions of its arguments: a point leaves the normed rows of its block, and
   their product with the weight in eight bands of columns. -/
module

public import proofs.«01_k».proof.Proof.InSpec
public import proofs.«01_k».proof.Proof.Slabs
public import proofs.«01_k».proof.Proof.Gen.InKernelIdeal.Value
public import proofs.«01_k».proof.Proof.BlockIndex
public import Idealize.ShloMosaic.Lib.Pipeline.ValueKit.Geometry

@[expose] public section

set_option maxRecDepth 16384

noncomputable section

namespace Cert.InKernelIdeal.Body

open Cert.InKernelIdeal Cert.InKernelIdeal.Gen Idealize.ShloMosaic Idealize.ShloMosaic.TcCoe Idealize.SL.Sem
open Idealize.ShloMosaic.Pipeline (Dat)
open Cert.Slab (hz slab rows all_rows_apply)
open Cert.Step (normed proj rinv)

/-! ## What the body computes of a block -/

theorem h_apply (x : Vec Ideal S512x1024 .f32) (g : Vec Ideal S1x1024 .f32) (r : Fin 512) (k : Fin 1024) :
    k0_pay1 x g (ix2 r k) = normed (fun q => x (ix2 r q)) (fun q => g (ix2 0 q)) k := by
  pointwise [k0_pay1]
  rfl

theorem p_apply (h : FVec Ideal S512x1024 .bf16) (w : Vec Ideal S1x1024x768 .bf16) (r : Fin 512) (q : Fin 768) :
    k0_pay5 h w (ix2 r q) = ∑ k : Fin 1024, h (ix2 r k) * w (ix3 0 k q) := by
  pointwise [k0_pay5]

theorem bandIn (j : Fin 8) (a : Fin 2) : (![0, 768 * j.val] : Fin 2 → ℕ) a + (![512, 768] : Fin 2 → ℕ) a ≤ S512x6144.size a := by
  match a with
  | ⟨0, _⟩ => show 0 + 512 ≤ 512; omega
  | ⟨1, _⟩ => show 768 * j.val + 768 ≤ 6144; omega

/-- Band `j` of 768 columns. -/
abbrev band (j : Fin 8) : Rect S512x6144 := Rect.unit ![0, 768 * j.val] ![512, 768] (bandIn j)

theorem band_emb (j : Fin 8) (r : Fin 512) (q : Fin 768) : (band j).emb (ix2 r q) = ix2 r ⟨768 * j.val + q.val, by omega⟩ :=
  funext fun a => Fin.ext (by
    match a with
    | ⟨0, _⟩ => show 0 + 1 * r.val = r.val; omega
    | ⟨1, _⟩ => show 768 * j.val + 1 * q.val = 768 * j.val + q.val; omega)

/-- A weight that comes in eight slabs of 768 columns, put together. -/
def joined (w : Vec Ideal S8x1024x768 .bf16) (k : Fin 1024) (n : Fin 6144) : EReal :=
  w (ix3 ⟨n.val / 768, by omega⟩ k ⟨n.val % 768, Nat.mod_lt _ (by omega)⟩)

theorem joined_apply (w : Vec Ideal S8x1024x768 .bf16) (k : Fin 1024) (j : Fin 8) (q : Fin 768) :
    joined w k ⟨768 * j.val + q.val, by omega⟩ = w (ix3 j k q) := by
  have e : (768 * j.val + q.val) / 768 = j.val := by omega
  have e' : (768 * j.val + q.val) % 768 = q.val := by omega
  simp only [joined, e, e']

/-- The block of the product, entry by entry. -/
def block (h : FVec Ideal S512x1024 .bf16) (w : Vec Ideal S8x1024x768 .bf16) : Vec Ideal S512x6144 .bf16 :=
  fun y : S512x6144.Idx => ∑ k : Fin 1024, h (ix2 (y 0) k) * joined w k (y 1)

/-- What the body stores in a band is that band of the block. -/
theorem band_at (h : FVec Ideal S512x1024 .bf16) (w : Vec Ideal S8x1024x768 .bf16) (j : Fin 8) (hj : 0 + 1024 ≤ 1024) (r : Fin 512) (q : Fin 768) :
    k0_pay5 h (rows w j 0 1024 hj) (ix2 r q) = block h w ((band j).emb (ix2 r q)) := by
  rw [band_emb]
  refine (p_apply _ _ r q).trans (Finset.sum_congr rfl fun k _ => ?_)
  rw [all_rows_apply]
  exact congrArg (h (ix2 r k) * ·) (joined_apply w k j q).symm

@[inherit_doc band_at] theorem band_eq (h : FVec Ideal S512x1024 .bf16) (w : Vec Ideal S8x1024x768 .bf16) (j : Fin 8) (hj : 0 + 1024 ≤ 1024)
    (y : S512x768.Idx) : k0_pay5 h (rows w j 0 1024 hj) y = block h w ((band j).emb y) := by
  idx_vars y
  exact band_at h w j hj _ _

theorem out_h (x : Vec Ideal S512x1024 .f32) (g : Vec Ideal S1x1024 .f32) (w : Vec Ideal S8x1024x768 .bf16) (r : Fin 512) (k : Fin 1024) :
    out0_4 x g w (ix2 r k) = normed (fun q => x (ix2 r q)) (fun q => g (ix2 0 q)) k := by
  unfold out0_4
  rw [View.canon_unit_zero (S := S512x1024) hz, View.ld_unit_zero (S := S512x1024) hz, View.ld_unit_zero (S := S1x1024) hz]
  exact h_apply x g r k

theorem out_p (x : Vec Ideal S512x1024 .f32) (g : Vec Ideal S1x1024 .f32) (w : Vec Ideal S8x1024x768 .bf16) (r : Fin 512) (n : Fin 6144) :
    out0_3 x g w (ix2 r n) = ∑ k : Fin 1024, normed (fun q => x (ix2 r q)) (fun q => g (ix2 0 q)) k * joined w k n := by
  have e : out0_3 x g w (ix2 r n) = block (k0_pay1 x g) w (ix2 r n) := by
    unfold out0_3 k0_pay10
    rw [View.ld_unit_zero (S := S512x1024) hz, View.ld_unit_zero (S := S1x1024) hz]
    refine View.canon_apply_of_pieces (block (k0_pay1 x g) w) _ (View.PiecesOf.mem ?_) (ix2 r n) (cover0_3 _ _ _ _ _ _ _ _ _)
    exact ⟨band_eq _ w 7 (by omega), band_eq _ w 6 (by omega), band_eq _ w 5 (by omega), band_eq _ w 4 (by omega),
      band_eq _ w 3 (by omega), band_eq _ w 2 (by omega), band_eq _ w 1 (by omega), band_eq _ w 0 (by omega), trivial⟩
  rw [e]
  exact Finset.sum_congr rfl fun k _ => congrArg (· * joined w k n) (h_apply x g r k)

/-! ## The blocks and the arrays -/

variable (m : (ℓ : Loc nD τ sig) → Buf (Elt Ideal) ℓ) (c : Dev nD)

abbrev xA (i : Fin 8192) (k : Fin 1024) : EReal := m ((c : Thread nD τ).loc main_arg0) (ix2 i k)
abbrev gA (k : Fin 1024) : EReal := m ((c : Thread nD τ).loc main_arg1) (ix1 k)
abbrev wA (k : Fin 1024) (n : Fin 6144) : EReal := m ((c : Thread nD τ).loc main_arg2) (ix2 k n)

theorem lt_N (t : Fin cfg0.N) : t.val < 16 := lt_of_lt_of_eq t.isLt (show cfg0.N = 16 from N_0)

/-- Row `r` of point `t`'s block of 512 rows. -/
abbrev row (t : Fin cfg0.N) (r : Fin 512) : Fin 8192 := ⟨512 * t.val + r.val, by have := lt_N t; omega⟩

theorem emb0 (t : Fin cfg0.N) (r : Fin 512) (k : Fin 1024) : ((cfg0.win 0).blk t).view.emb (ix2 r k) = (ix2 (row t r) k : S8192x1024.Idx) :=
  Cert.Step.rows2 ((by decide +kernel : ∀ t : Fin grid0.N, win0_0.index t 0 = t.val ∧ win0_0.index t 1 = 0) t) rfl rfl rfl

theorem emb1 (t : Fin cfg0.N) (z : Fin 1) (k : Fin 1024) : ((cfg0.win 1).blk t).view.emb (ix2 z k) = (ix2 z k : S1x1024.Idx) :=
  Cert.Step.whole2 ((by decide +kernel : ∀ (t : Fin grid0.N) a, win0_1.index t a = 0) t) rfl rfl

theorem emb2 (t : Fin cfg0.N) (j : Fin 8) (k : Fin 1024) (q : Fin 768) :
    ((cfg0.win 2).blk t).view.emb (ix3 j k q) = (ix3 j k q : S8x1024x768.Idx) :=
  Cert.Step.whole3 ((by decide +kernel : ∀ (t : Fin grid0.N) a, win0_2.index t a = 0) t) rfl rfl rfl

theorem emb3 (t : Fin cfg0.N) (r : Fin 512) (n : Fin 6144) : ((cfg0.win 3).blk t).view.emb (ix2 r n) = (ix2 (row t r) n : S8192x6144.Idx) :=
  Cert.Step.rows2 ((by decide +kernel : ∀ t : Fin grid0.N, win0_3.index t 0 = t.val ∧ win0_3.index t 1 = 0) t) rfl rfl rfl

theorem emb4 (t : Fin cfg0.N) (r : Fin 512) (k : Fin 1024) : ((cfg0.win 4).blk t).view.emb (ix2 r k) = (ix2 (row t r) k : S8192x1024.Idx) :=
  Cert.Step.rows2 ((by decide +kernel : ∀ t : Fin grid0.N, win0_4.index t 0 = t.val ∧ win0_4.index t 1 = 0) t) rfl rfl rfl

theorem blk0 (t : Fin cfg0.N) (r : Fin 512) (k : Fin 1024) : iblk m c 0 t (ix2 r k) = xA m c (row t r) k := by
  show V m c main_arg0 (((cfg0.win 0).blk t).view.emb (ix2 r k)) = _
  rw [emb0, V_main_arg0]

theorem blk1 (t : Fin cfg0.N) (k : Fin 1024) : iblk m c 1 t (ix2 0 k) = gA m c k := by
  show V m c main_v3 (((cfg0.win 1).blk t).view.emb (ix2 0 k)) = _
  rw [emb1]
  entry_read
  pointwise

theorem blk2 (t : Fin cfg0.N) (j : Fin 8) (k : Fin 1024) (q : Fin 768) :
    iblk m c 2 t (ix3 j k q) = wA m c k ⟨768 * j.val + q.val, by omega⟩ := by
  show V m c main_v2 (((cfg0.win 2).blk t).view.emb (ix3 j k q)) = _
  rw [emb2]
  entry_read
  pointwise
  exact congrArg (fun n => wA m c k n) (Fin.ext (by show j.val * 768 + q.val = 768 * j.val + q.val; omega))

theorem blk2_joined (t : Fin cfg0.N) (k : Fin 1024) (n : Fin 6144) : joined (iblk m c 2 t) k n = wA m c k n := by
  rw [joined, blk2]
  exact congrArg (fun n => wA m c k n) (Fin.ext (by show 768 * (n.val / 768) + n.val % 768 = n.val; omega))

/-- The first result, entry by entry. -/
abbrev resP : Buf (Elt Ideal) ((c : Thread nD τ).loc main_v4_0) := fun i : S8192x6144.Idx => proj (xA m c (i 0)) (gA m c) (wA m c) (i 1)

/-- The second result, entry by entry. -/
abbrev resH : Buf (Elt Ideal) ((c : Thread nD τ).loc main_v4_1) := fun i : S8192x1024.Idx => normed (xA m c (i 0)) (gA m c) (i 1)

theorem final3 : (dats m 0 c).arrAt 3 cfg0.N = resP m c := by
  refine (dats m 0 c).arrAt_eq_of_covers 3 (resP m c) (by decide +kernel) fun t _ y => ?_
  idx_vars y
  rw [emb3]
  blk_simp
  rw [after0_3, out_p]
  simp only [blk0, blk1, blk2_joined]
  rfl

theorem final4 : (dats m 0 c).arrAt 4 cfg0.N = resH m c := by
  refine (dats m 0 c).arrAt_eq_of_covers 4 (resH m c) (by decide +kernel) fun t _ y => ?_
  idx_vars y
  rw [emb4]
  blk_simp
  rw [after0_4, out_h]
  simp only [blk0, blk1]
  rfl

/-- The run, read. -/
theorem run (ρ : Dev nD → PrngReg) : θ_run defs (onTc (τ := τ) (main (F := Ideal))) ⟨m, fun _ => 0, ρ⟩ fun r => ∀ c : Dev nD,
    r.2.mem ((c : Thread nD τ).loc main_v4_0) = resP m c ∧ r.2.mem ((c : Thread nD τ).loc main_v4_1) = resH m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun _ h c => by
    have := h c
    rw [final3, final4] at this
    exact this) (Value.run_blocks m ρ)

end Cert.InKernelIdeal.Body

end
-- ==== Proof.InClaim.lean ====
/- The projection of normed rows against its plain form: the reference's two arrays, and the claims of the pair. -/
module

public import proofs.«01_k».proof.Defs
public import proofs.«01_k».proof.Proof.InKernelValue
public import proofs.«01_k».proof.Proof.Gen.InReferenceIdeal.Run
public import proofs.«01_k».proof.Proof.Gen.InKernel.Frame
public import Idealize.ShloMosaic.Lib.Pointwise
public import Idealize.ShloMosaic.Lib.Tactic.CleanTypes

@[expose] public section

set_option maxRecDepth 16384

noncomputable section

namespace Cert.InReferenceIdeal.Read

open Cert.InReferenceIdeal Cert.InReferenceIdeal.Gen Idealize.ShloMosaic Idealize.ShloMosaic.TcCoe Idealize.SL.Sem
open Cert.Step (normed proj rinv)

variable (m : (ℓ : Loc nD τ sig) → Buf (Elt Ideal) ℓ) (c : Dev nD)

abbrev xA (i : Fin 8192) (k : Fin 1024) : EReal := m ((c.tc : Thread nD τ).loc main_arg0) (ix2 i k)
abbrev gA (k : Fin 1024) : EReal := m ((c.tc : Thread nD τ).loc main_arg1) (ix1 k)
abbrev wA (k : Fin 1024) (n : Fin 6144) : EReal := m ((c.tc : Thread nD τ).loc main_arg2) (ix2 k n)

/-- The reference's run, read. -/
theorem run (ρ : Dev nD → PrngReg) : θ_run defs (onTc (τ := τ) (main (F := Ideal))) ⟨m, fun _ => 0, ρ⟩ fun r => ∀ c : Dev nD,
    r.2.mem ((c.tc : Thread nD τ).loc main_v14) = (fun i : S8192x6144.Idx => proj (xA m c (i 0)) (gA m c) (wA m c) (i 1))
    ∧ r.2.mem ((c.tc : Thread nD τ).loc main_v15) = (fun i : S8192x1024.Idx => normed (xA m c (i 0)) (gA m c) (i 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine (θ_run defs _ _).mono (fun _ h c => ⟨?_, ?_, (h c).2.2⟩) (Value.run (F := Ideal) m ρ)
  · refine (h c).1.trans (funext fun i => ?_)
    idx_vars i
    clear h
    clean_types
    pointwise [proj, normed, rinv, Cert.Step.meanSq]
  · refine (h c).2.1.trans (funext fun i => ?_)
    idx_vars i
    clear h
    clean_types
    pointwise [normed, rinv, Cert.Step.meanSq]

end Cert.InReferenceIdeal.Read

namespace Cert.Proof

open Idealize.ShloMosaic Idealize.SL.Sem

theorem in_algebraic : Cert.algebraic_InKernelIdeal_InReferenceIdeal := by
  intro m ρ m' ρ' _ hagree
  refine ⟨fun c => Cert.InKernelIdeal.Body.resP m c, fun c => Cert.InKernelIdeal.Body.resH m c, Cert.InKernelIdeal.Body.run m ρ, ?_⟩
  have e0 : ∀ c, Cert.InReferenceIdeal.Read.xA m' c = Cert.InKernelIdeal.Body.xA m c := fun c =>
    funext fun i => funext fun n => congrFun (hagree c).1 (ix2 i n)
  have e1 : ∀ c, Cert.InReferenceIdeal.Read.gA m' c = Cert.InKernelIdeal.Body.gA m c := fun c =>
    funext fun n => congrFun (hagree c).2.1 (ix1 n)
  have e2 : ∀ c, Cert.InReferenceIdeal.Read.wA m' c = Cert.InKernelIdeal.Body.wA m c := fun c =>
    funext fun i => funext fun n => congrFun (hagree c).2.2 (ix2 i n)
  refine (θ_run Cert.InReferenceIdeal.defs _ _).mono (fun _ h c => ⟨?_, ?_, (h c).2.2⟩) (Cert.InReferenceIdeal.Read.run m' ρ')
  · rw [(h c).1, e0, e1, e2]; rfl
  · rw [(h c).2.1, e0, e1]; rfl

theorem in_frames : Cert.quiescent_InKernel ∧ Cert.quiescent_InKernelIdeal ∧ Cert.quiescent_InReferenceIdeal :=
  ⟨fun m ρ _ => Cert.InKernel.Gen.frame m ρ, fun m ρ _ => Cert.InKernelIdeal.Gen.frame m ρ, fun m ρ _ =>
    (θ_run Cert.InReferenceIdeal.defs _ _).mono (fun r h => ⟨fun c => (h c).2.2, sem_eq_zero_of_no_sems (by decide) r.2⟩)
      (Cert.InReferenceIdeal.Value.run (F := Ideal) m ρ)⟩

end Cert.Proof

end
-- ==== Proof.UpBody.lean ====
/- What a grid point of the forward feed-forward block leaves in its results and in the rows it hands on: what a point of the block with the
   loss leaves, its output in place of the gradient. -/
module

public import proofs.«01_k».proof.Proof.LossTile
public import proofs.«01_k».proof.Proof.Gen.UpKernelIdeal.Frame

@[expose] public section

set_option maxRecDepth 16384

noncomputable section

namespace Cert.UpKernelIdeal.Body

open Cert.UpKernelIdeal Cert.UpKernelIdeal.Gen Idealize.ShloMosaic Idealize.ShloMosaic.TcCoe Idealize.SL.Sem
open Cert.Slab
open Cert.LossKernelIdeal.Body (hB preB upB actB outB preG upG actG tailG prePieces_of upPieces_of actPieces_of tailPieces tailPieces_of tailPieces_cover h_apply outT_apply)

/-- What the first point fills the rows handed on with. -/
abbrev zeroRows : Vec Ideal S8x8x704 .f32 := k0_pay4 (F := Ideal)

theorem readCov_fill3 {κ : Kind} {sp : Space} (v : View sig κ sp S8x8x704 .f32) (inb) (Z : Vec Ideal S8x8x704 .f32)
    (L : List (View.Piece (Elt Ideal) S8x8x704 .f32)) (r : Rect S8x8x704) :
    v.readCov (⟨Rect.unit (s := S8x8x704) ![0, 0, 0] ![8, 8, 704] inb, Z⟩ :: L) r.toLoadRect = View.ld Z r :=
  View.readCov_fill v inb Z L r (congrFun hz3)

section
variable (c : Dev nD) (i : grid0.Coords)
  (a1 : Memref sig .tc .vmem S256x1024 .f32) (h1 : a1.IsWhole) (a2 : Memref sig .tc .vmem S1x1024 .f32) (h2 : a2.IsWhole)
  (a3 : Memref sig .tc .vmem S8x1024x704 .bf16) (h3 : a3.IsWhole) (a4 : Memref sig .tc .vmem S8x3x704 .f32) (h4 : a4.IsWhole)
  (a5 : Memref sig .tc .vmem S8x704 .f32) (h5 : a5.IsWhole) (a6 : Memref sig .tc .vmem S8x352x1024 .bf16) (h6 : a6.IsWhole)
  (a7 : Memref sig .tc .vmem S256x1024 .f32) (h7 : a7.IsWhole) (a8 : Memref sig .tc .vmem S256x1024 .bf16) (h8 : a8.IsWhole)
  (a9 : Memref sig .tc .vmem S8x256x704 .bf16) (h9 : a9.IsWhole) (a10 : Memref sig .tc .vmem S8x256x704 .bf16) (h10 : a10.IsWhole)
  (a11 : Memref sig .tc .vmem S4x256x704 .bf16) (h11 : a11.IsWhole) (a12 : Memref sig .tc .vmem S8x8x704 .f32) (h12 : a12.IsWhole)
  (x0 : Vec Ideal S256x1024 .f32) (x1 : Vec Ideal S1x1024 .f32) (x2 : Vec Ideal S8x1024x704 .bf16) (x3 : Vec Ideal S8x3x704 .f32)
  (x4 : Vec Ideal S8x704 .f32) (x5 : Vec Ideal S8x352x1024 .bf16) (xs0 : Vec Ideal S8x8x704 .f32)

theorem out_A_6 (hc : cond0_0 i) (r : Fin 256) (k : Fin 1024) :
    out0_A_6 c i a1 h1 a2 h2 a3 h3 a4 h4 a5 h5 a6 h6 a7 h7 a8 h8 a9 h9 a10 h10 a11 h11 a12 h12 hc x0 x1 x2 x3 x4 x5 (ix2 r k)
      = outB x0 x1 x2 x3 x4 x5 zeroRows r k := by
  unfold out0_A_6
  rw [View.read_writes_eq_canon _ _ _ (cover0_A_6 c i a1 h1 a2 h2 a3 h3 a4 h4 a5 h5 a6 h6 a7 h7 a8 h8 a9 h9 a10 h10 a11 h11 a12 h12 hc x0 x1 x2 x3 x4 x5)]
  unfold kernelRun0_A
  dsimp only
  sl_unfold_words
  simp only [View.readAt_eq_ld, h1.read_unread, h2.read_unread, h3.read_unread, h4.read_unread, h5.read_unread, h6.read_unread, View.ld_unit_zero (S := S256x1024) hz, View.ld_unit_zero (S := S1x1024) hz]
  try simp (disch := decide) only [View.readCov_skip, readCov_fill3]
  rw [View.canon_unit_zero hz]
  exact outT_apply x0 x1 x2 x3 x4 x5 zeroRows r k

theorem out_A_7 (hc : cond0_0 i) (r : Fin 256) (k : Fin 1024) :
    out0_A_7 c i a1 h1 a2 h2 a3 h3 a4 h4 a5 h5 a6 h6 a7 h7 a8 h8 a9 h9 a10 h10 a11 h11 a12 h12 hc x0 x1 x2 x3 x4 x5 (ix2 r k)
      = hB x0 x1 r k := by
  unfold out0_A_7
  rw [View.read_writes_eq_canon _ _ _ (cover0_A_7 c i a1 h1 a2 h2 a3 h3 a4 h4 a5 h5 a6 h6 a7 h7 a8 h8 a9 h9 a10 h10 a11 h11 a12 h12 hc x0 x1 x2 x3 x4 x5)]
  unfold kernelRun0_A
  dsimp only
  sl_unfold_words
  simp only [View.readAt_eq_ld, h1.read_unread, h2.read_unread, h3.read_unread, h4.read_unread, h5.read_unread, h6.read_unread, View.ld_unit_zero (S := S256x1024) hz, View.ld_unit_zero (S := S1x1024) hz]
  try simp (disch := decide) only [View.readCov_skip, readCov_fill3]
  rw [View.canon_unit_zero hz]
  exact h_apply x0 x1 r k

theorem out_A_8 (hc : cond0_0 i) (y : S8x256x704.Idx) :
    out0_A_8 c i a1 h1 a2 h2 a3 h3 a4 h4 a5 h5 a6 h6 a7 h7 a8 h8 a9 h9 a10 h10 a11 h11 a12 h12 hc x0 x1 x2 x3 x4 x5 y
      = preG x0 x1 x2 y := by
  have hcov := cover0_A_8 c i a1 h1 a2 h2 a3 h3 a4 h4 a5 h5 a6 h6 a7 h7 a8 h8 a9 h9 a10 h10 a11 h11 a12 h12 hc x0 x1 x2 x3 x4 x5 y
  unfold out0_A_8
  refine View.read_writes_apply_of_pieces _ _ (preG x0 x1 x2) _ (View.PiecesOf.mem ?_) y hcov
  clear hcov
  unfold kernelRun0_A
  dsimp only
  sl_unfold_words
  simp only [View.readAt_eq_ld, h1.read_unread, h2.read_unread, h3.read_unread, h4.read_unread, h5.read_unread, h6.read_unread, View.ld_unit_zero (S := S256x1024) hz, View.ld_unit_zero (S := S1x1024) hz]
  try simp (disch := decide) only [View.readCov_skip, readCov_fill3]
  exact prePieces_of x0 x1 x2

theorem out_A_9 (hc : cond0_0 i) (y : S8x256x704.Idx) :
    out0_A_9 c i a1 h1 a2 h2 a3 h3 a4 h4 a5 h5 a6 h6 a7 h7 a8 h8 a9 h9 a10 h10 a11 h11 a12 h12 hc x0 x1 x2 x3 x4 x5 y
      = upG x0 x1 x2 x3 x4 zeroRows y := by
  have hcov := cover0_A_9 c i a1 h1 a2 h2 a3 h3 a4 h4 a5 h5 a6 h6 a7 h7 a8 h8 a9 h9 a10 h10 a11 h11 a12 h12 hc x0 x1 x2 x3 x4 x5 y
  unfold out0_A_9
  refine View.read_writes_apply_of_pieces _ _ (upG x0 x1 x2 x3 x4 zeroRows) _ (View.PiecesOf.mem ?_) y hcov
  clear hcov
  unfold kernelRun0_A
  dsimp only
  sl_unfold_words
  simp only [View.readAt_eq_ld, h1.read_unread, h2.read_unread, h3.read_unread, h4.read_unread, h5.read_unread, h6.read_unread, View.ld_unit_zero (S := S256x1024) hz, View.ld_unit_zero (S := S1x1024) hz]
  try simp (disch := decide) only [View.readCov_skip, readCov_fill3]
  exact upPieces_of x0 x1 x2 x3 x4 zeroRows

theorem out_A_10 (hc : cond0_0 i) (y : S4x256x704.Idx) :
    out0_A_10 c i a1 h1 a2 h2 a3 h3 a4 h4 a5 h5 a6 h6 a7 h7 a8 h8 a9 h9 a10 h10 a11 h11 a12 h12 hc x0 x1 x2 x3 x4 x5 y
      = actG x0 x1 x2 x3 x4 zeroRows y := by
  have hcov := cover0_A_10 c i a1 h1 a2 h2 a3 h3 a4 h4 a5 h5 a6 h6 a7 h7 a8 h8 a9 h9 a10 h10 a11 h11 a12 h12 hc x0 x1 x2 x3 x4 x5 y
  unfold out0_A_10
  refine View.read_writes_apply_of_pieces _ _ (actG x0 x1 x2 x3 x4 zeroRows) _ (View.PiecesOf.mem ?_) y hcov
  clear hcov
  unfold kernelRun0_A
  dsimp only
  sl_unfold_words
  simp only [View.readAt_eq_ld, h1.read_unread, h2.read_unread, h3.read_unread, h4.read_unread, h5.read_unread, h6.read_unread, View.ld_unit_zero (S := S256x1024) hz, View.ld_unit_zero (S := S1x1024) hz]
  try simp (disch := decide) only [View.readCov_skip, readCov_fill3]
  exact actPieces_of x0 x1 x2 x3 x4 zeroRows

theorem sout_A_0 (hc : cond0_0 i) (y : S8x8x704.Idx) :
    sout0_A_0 c i a1 h1 a2 h2 a3 h3 a4 h4 a5 h5 a6 h6 a7 h7 a8 h8 a9 h9 a10 h10 a11 h11 a12 h12 hc x0 x1 x2 x3 x4 x5 y
      = tailG x0 x1 x2 y := by
  unfold sout0_A_0
  unfold kernelRun0_A
  dsimp only
  sl_unfold_words
  simp only [View.readAt_eq_ld, h1.read_unread, h2.read_unread, h3.read_unread, h4.read_unread, h5.read_unread, h6.read_unread, View.ld_unit_zero (S := S256x1024) hz, View.ld_unit_zero (S := S1x1024) hz]
  try simp (disch := decide) only [View.readCov_skip, readCov_fill3]
  refine (congrFun (congrArg _ (View.writes_append VS0_0 _ (tailPieces x0 x1 x2) [_])) y).trans ?_
  exact View.read_writes_apply_of_pieces _ _ (tailG x0 x1 x2) _ (View.PiecesOf.mem (tailPieces_of x0 x1 x2)) y (tailPieces_cover x0 x1 x2 y)

theorem out_B_6 (hc : ¬cond0_0 i) (r : Fin 256) (k : Fin 1024) :
    out0_B_6 c i a1 h1 a2 h2 a3 h3 a4 h4 a5 h5 a6 h6 a7 h7 a8 h8 a9 h9 a10 h10 a11 h11 a12 h12 hc x0 x1 x2 x3 x4 x5 xs0 (ix2 r k)
      = outB x0 x1 x2 x3 x4 x5 xs0 r k := by
  unfold out0_B_6
  rw [View.read_writes_eq_canon _ _ _ (cover0_B_6 c i a1 h1 a2 h2 a3 h3 a4 h4 a5 h5 a6 h6 a7 h7 a8 h8 a9 h9 a10 h10 a11 h11 a12 h12 hc x0 x1 x2 x3 x4 x5 xs0)]
  unfold kernelRun0_B
  dsimp only
  sl_unfold_words
  simp only [View.readAt_eq_ld, h1.read_unread, h2.read_unread, h3.read_unread, h4.read_unread, h5.read_unread, h6.read_unread, View.ld_unit_zero (S := S256x1024) hz, View.ld_unit_zero (S := S1x1024) hz, h12.read_unread]
  rw [View.canon_unit_zero hz]
  exact outT_apply x0 x1 x2 x3 x4 x5 xs0 r k

theorem out_B_7 (hc : ¬cond0_0 i) (r : Fin 256) (k : Fin 1024) :
    out0_B_7 c i a1 h1 a2 h2 a3 h3 a4 h4 a5 h5 a6 h6 a7 h7 a8 h8 a9 h9 a10 h10 a11 h11 a12 h12 hc x0 x1 x2 x3 x4 x5 xs0 (ix2 r k)
      = hB x0 x1 r k := by
  unfold out0_B_7
  rw [View.read_writes_eq_canon _ _ _ (cover0_B_7 c i a1 h1 a2 h2 a3 h3 a4 h4 a5 h5 a6 h6 a7 h7 a8 h8 a9 h9 a10 h10 a11 h11 a12 h12 hc x0 x1 x2 x3 x4 x5 xs0)]
  unfold kernelRun0_B
  dsimp only
  sl_unfold_words
  simp only [View.readAt_eq_ld, h1.read_unread, h2.read_unread, h3.read_unread, h4.read_unread, h5.read_unread, h6.read_unread, View.ld_unit_zero (S := S256x1024) hz, View.ld_unit_zero (S := S1x1024) hz, h12.read_unread]
  rw [View.canon_unit_zero hz]
  exact h_apply x0 x1 r k

theorem out_B_8 (hc : ¬cond0_0 i) (y : S8x256x704.Idx) :
    out0_B_8 c i a1 h1 a2 h2 a3 h3 a4 h4 a5 h5 a6 h6 a7 h7 a8 h8 a9 h9 a10 h10 a11 h11 a12 h12 hc x0 x1 x2 x3 x4 x5 xs0 y
      = preG x0 x1 x2 y := by
  have hcov := cover0_B_8 c i a1 h1 a2 h2 a3 h3 a4 h4 a5 h5 a6 h6 a7 h7 a8 h8 a9 h9 a10 h10 a11 h11 a12 h12 hc x0 x1 x2 x3 x4 x5 xs0 y
  unfold out0_B_8
  refine View.read_writes_apply_of_pieces _ _ (preG x0 x1 x2) _ (View.PiecesOf.mem ?_) y hcov
  clear hcov
  unfold kernelRun0_B
  dsimp only
  sl_unfold_words
  simp only [View.readAt_eq_ld, h1.read_unread, h2.read_unread, h3.read_unread, h4.read_unread, h5.read_unread, h6.read_unread, View.ld_unit_zero (S := S256x1024) hz, View.ld_unit_zero (S := S1x1024) hz, h12.read_unread]
  exact prePieces_of x0 x1 x2

theorem out_B_9 (hc : ¬cond0_0 i) (y : S8x256x704.Idx) :
    out0_B_9 c i a1 h1 a2 h2 a3 h3 a4 h4 a5 h5 a6 h6 a7 h7 a8 h8 a9 h9 a10 h10 a11 h11 a12 h12 hc x0 x1 x2 x3 x4 x5 xs0 y
      = upG x0 x1 x2 x3 x4 xs0 y := by
  have hcov := cover0_B_9 c i a1 h1 a2 h2 a3 h3 a4 h4 a5 h5 a6 h6 a7 h7 a8 h8 a9 h9 a10 h10 a11 h11 a12 h12 hc x0 x1 x2 x3 x4 x5 xs0 y
  unfold out0_B_9
  refine View.read_writes_apply_of_pieces _ _ (upG x0 x1 x2 x3 x4 xs0) _ (View.PiecesOf.mem ?_) y hcov
  clear hcov
  unfold kernelRun0_B
  dsimp only
  sl_unfold_words
  simp only [View.readAt_eq_ld, h1.read_unread, h2.read_unread, h3.read_unread, h4.read_unread, h5.read_unread, h6.read_unread, View.ld_unit_zero (S := S256x1024) hz, View.ld_unit_zero (S := S1x1024) hz, h12.read_unread]
  exact upPieces_of x0 x1 x2 x3 x4 xs0

theorem out_B_10 (hc : ¬cond0_0 i) (y : S4x256x704.Idx) :
    out0_B_10 c i a1 h1 a2 h2 a3 h3 a4 h4 a5 h5 a6 h6 a7 h7 a8 h8 a9 h9 a10 h10 a11 h11 a12 h12 hc x0 x1 x2 x3 x4 x5 xs0 y
      = actG x0 x1 x2 x3 x4 xs0 y := by
  have hcov := cover0_B_10 c i a1 h1 a2 h2 a3 h3 a4 h4 a5 h5 a6 h6 a7 h7 a8 h8 a9 h9 a10 h10 a11 h11 a12 h12 hc x0 x1 x2 x3 x4 x5 xs0 y
  unfold out0_B_10
  refine View.read_writes_apply_of_pieces _ _ (actG x0 x1 x2 x3 x4 xs0) _ (View.PiecesOf.mem ?_) y hcov
  clear hcov
  unfold kernelRun0_B
  dsimp only
  sl_unfold_words
  simp only [View.readAt_eq_ld, h1.read_unread, h2.read_unread, h3.read_unread, h4.read_unread, h5.read_unread, h6.read_unread, View.ld_unit_zero (S := S256x1024) hz, View.ld_unit_zero (S := S1x1024) hz, h12.read_unread]
  exact actPieces_of x0 x1 x2 x3 x4 xs0

theorem sout_B_0 (hc : ¬cond0_0 i) (y : S8x8x704.Idx) :
    sout0_B_0 c i a1 h1 a2 h2 a3 h3 a4 h4 a5 h5 a6 h6 a7 h7 a8 h8 a9 h9 a10 h10 a11 h11 a12 h12 hc x0 x1 x2 x3 x4 x5 xs0 y
      = tailG x0 x1 x2 y := by
  have hcov := scover0_B_0 c i a1 h1 a2 h2 a3 h3 a4 h4 a5 h5 a6 h6 a7 h7 a8 h8 a9 h9 a10 h10 a11 h11 a12 h12 hc x0 x1 x2 x3 x4 x5 xs0 y
  unfold sout0_B_0
  refine View.read_writes_apply_of_pieces _ _ (tailG x0 x1 x2) _ (View.PiecesOf.mem ?_) y hcov
  clear hcov
  unfold kernelRun0_B
  dsimp only
  sl_unfold_words
  simp only [View.readAt_eq_ld, h1.read_unread, h2.read_unread, h3.read_unread, h4.read_unread, h5.read_unread, h6.read_unread, View.ld_unit_zero (S := S256x1024) hz, View.ld_unit_zero (S := S1x1024) hz, h12.read_unread]
  exact tailPieces_of x0 x1 x2

end

end Cert.UpKernelIdeal.Body

end
-- ==== Proof.UpBlocks.lean ====
/- Where each point's blocks lie in the arrays of the forward feed-forward block, and what the blocks it is handed hold in terms of
   the arguments. -/
module

public import proofs.«01_k».proof.Proof.FfnForward
public import proofs.«01_k».proof.Proof.Gen.UpKernelIdeal.Value
public import proofs.«01_k».proof.Proof.BlockIndex
public import Idealize.ShloMosaic.Lib.Pipeline.ValueKit.Geometry
public import Idealize.ShloMosaic.Lib.Pointwise
public import Idealize.ShloMosaic.Lib.Tactic

@[expose] public section

set_option maxRecDepth 16384

noncomputable section

namespace Cert.UpKernelIdeal.Body

open Cert.UpKernelIdeal Cert.UpKernelIdeal.Gen Idealize.ShloMosaic Idealize.ShloMosaic.TcCoe Idealize.SL.Sem
open Cert.Step (col)

variable (m : (ℓ : Loc nD τ sig) → Buf (Elt Ideal) ℓ) (c : Dev nD)

/-- The arguments as the buffers hold them; there is no cotangent. -/
def args : Cert.Step.FfnArgs where
  x i k := m ((c : Thread nD τ).loc main_arg0) (ix2 i k)
  g k := m ((c : Thread nD τ).loc main_arg1) (ix1 k)
  w k n := m ((c : Thread nD τ).loc main_arg2) (ix2 k n)
  cw s n := m ((c : Thread nD τ).loc main_arg3) (ix2 s n)
  cb n := m ((c : Thread nD τ).loc main_arg4) (ix1 n)
  wd n k := m ((c : Thread nD τ).loc main_arg5) (ix2 n k)
  ct _ _ := 0

theorem lt_N (t : Fin cfg0.N) : t.val < 32 := lt_of_lt_of_eq t.isLt (show cfg0.N = 32 from N_0)

/-- Row `r` of point `t`'s block of 256 rows. -/
abbrev row (t : Fin cfg0.N) (r : Fin 256) : Fin 8192 := ⟨256 * t.val + r.val, by have := lt_N t; omega⟩

theorem emb0 (t : Fin cfg0.N) (r : Fin 256) (k : Fin 1024) :
    ((cfg0.win 0).blk t).view.emb (ix2 r k) = (ix2 (row t r) k : S8192x1024.Idx) :=
  Cert.Step.rows2 ((by decide +kernel : ∀ t : Fin grid0.N, win0_0.index t 0 = t.val ∧ win0_0.index t 1 = 0) t) rfl rfl rfl

theorem emb1 (t : Fin cfg0.N) (z : Fin 1) (k : Fin 1024) :
    ((cfg0.win 1).blk t).view.emb (ix2 z k) = (ix2 z k : S1x1024.Idx) :=
  Cert.Step.whole2 ((by decide +kernel : ∀ (t : Fin grid0.N) a, win0_1.index t a = 0) t) rfl rfl

theorem emb2 (t : Fin cfg0.N) (j : Fin 8) (k : Fin 1024) (q : Fin 704) :
    ((cfg0.win 2).blk t).view.emb (ix3 j k q) = (ix3 j k q : S8x1024x704.Idx) :=
  Cert.Step.whole3 ((by decide +kernel : ∀ (t : Fin grid0.N) a, win0_2.index t a = 0) t) rfl rfl rfl

theorem emb3 (t : Fin cfg0.N) (j : Fin 8) (s : Fin 3) (q : Fin 704) :
    ((cfg0.win 3).blk t).view.emb (ix3 j s q) = (ix3 j s q : S8x3x704.Idx) :=
  Cert.Step.whole3 ((by decide +kernel : ∀ (t : Fin grid0.N) a, win0_3.index t a = 0) t) rfl rfl rfl

theorem emb4 (t : Fin cfg0.N) (j : Fin 8) (q : Fin 704) :
    ((cfg0.win 4).blk t).view.emb (ix2 j q) = (ix2 j q : S8x704.Idx) :=
  Cert.Step.whole2 ((by decide +kernel : ∀ (t : Fin grid0.N) a, win0_4.index t a = 0) t) rfl rfl

theorem emb5 (t : Fin cfg0.N) (j : Fin 8) (p : Fin 352) (k : Fin 1024) :
    ((cfg0.win 5).blk t).view.emb (ix3 j p k) = (ix3 j p k : S8x352x1024.Idx) :=
  Cert.Step.whole3 ((by decide +kernel : ∀ (t : Fin grid0.N) a, win0_5.index t a = 0) t) rfl rfl rfl

theorem emb6 (t : Fin cfg0.N) (r : Fin 256) (k : Fin 1024) :
    ((cfg0.win 6).blk t).view.emb (ix2 r k) = (ix2 (row t r) k : S8192x1024.Idx) :=
  Cert.Step.rows2 ((by decide +kernel : ∀ t : Fin grid0.N, win0_6.index t 0 = t.val ∧ win0_6.index t 1 = 0) t) rfl rfl rfl

theorem emb7 (t : Fin cfg0.N) (r : Fin 256) (k : Fin 1024) :
    ((cfg0.win 7).blk t).view.emb (ix2 r k) = (ix2 (row t r) k : S8192x1024.Idx) :=
  Cert.Step.rows2 ((by decide +kernel : ∀ t : Fin grid0.N, win0_7.index t 0 = t.val ∧ win0_7.index t 1 = 0) t) rfl rfl rfl

theorem emb8 (t : Fin cfg0.N) (j : Fin 8) (r : Fin 256) (q : Fin 704) :
    ((cfg0.win 8).blk t).view.emb (ix3 j r q) = (ix3 j (row t r) q : S8x8192x704.Idx) :=
  Cert.Step.rows3 ((by decide +kernel : ∀ t : Fin grid0.N, win0_8.index t 0 = 0 ∧ win0_8.index t 1 = t.val ∧ win0_8.index t 2 = 0) t) rfl rfl rfl rfl

theorem emb9 (t : Fin cfg0.N) (j : Fin 8) (r : Fin 256) (q : Fin 704) :
    ((cfg0.win 9).blk t).view.emb (ix3 j r q) = (ix3 j (row t r) q : S8x8192x704.Idx) :=
  Cert.Step.rows3 ((by decide +kernel : ∀ t : Fin grid0.N, win0_9.index t 0 = 0 ∧ win0_9.index t 1 = t.val ∧ win0_9.index t 2 = 0) t) rfl rfl rfl rfl

theorem emb10 (t : Fin cfg0.N) (j : Fin 4) (r : Fin 256) (q : Fin 704) :
    ((cfg0.win 10).blk t).view.emb (ix3 j r q) = (ix3 j (row t r) q : S4x8192x704.Idx) :=
  Cert.Step.rows3 ((by decide +kernel : ∀ t : Fin grid0.N, win0_10.index t 0 = 0 ∧ win0_10.index t 1 = t.val ∧ win0_10.index t 2 = 0) t) rfl rfl rfl rfl

theorem col_comm (j : Fin 8) (q : Fin 704) (h : j.val * 704 + q.val < 5632) : (⟨j.val * 704 + q.val, h⟩ : Fin 5632) = col j q :=
  Fin.ext (by show j.val * 704 + q.val = 704 * j.val + q.val; omega)

theorem blk0 (t : Fin cfg0.N) (r : Fin 256) (k : Fin 1024) : iblk m c 0 t (ix2 r k) = (args m c).x (row t r) k := by
  show V m c main_arg0 (((cfg0.win 0).blk t).view.emb (ix2 r k)) = _
  rw [emb0, V_main_arg0]
  rfl

theorem blk1 (t : Fin cfg0.N) (k : Fin 1024) : iblk m c 1 t (ix2 0 k) = (args m c).g k := by
  show V m c main_v5 (((cfg0.win 1).blk t).view.emb (ix2 0 k)) = _
  rw [emb1]
  entry_read
  pointwise
  rfl

theorem blk2 (t : Fin cfg0.N) (j : Fin 8) (k : Fin 1024) (q : Fin 704) : iblk m c 2 t (ix3 j k q) = (args m c).w k (col j q) := by
  show V m c main_v2 (((cfg0.win 2).blk t).view.emb (ix3 j k q)) = _
  rw [emb2]
  entry_read
  pointwise
  exact congrArg ((args m c).w k) (col_comm j q _)

theorem blk3 (t : Fin cfg0.N) (j : Fin 8) (s : Fin 3) (q : Fin 704) : iblk m c 3 t (ix3 j s q) = (args m c).cw s (col j q) := by
  show V m c main_v7 (((cfg0.win 3).blk t).view.emb (ix3 j s q)) = _
  rw [emb3]
  entry_read
  pointwise
  exact congrArg ((args m c).cw s) (col_comm j q _)

theorem blk4 (t : Fin cfg0.N) (j : Fin 8) (q : Fin 704) : iblk m c 4 t (ix2 j q) = (args m c).cb (col j q) := by
  show V m c main_v8 (((cfg0.win 4).blk t).view.emb (ix2 j q)) = _
  rw [emb4]
  entry_read
  pointwise
  exact congrArg (args m c).cb (col_comm j q _)

theorem blk5 (t : Fin cfg0.N) (j : Fin 8) (p : Fin 352) (k : Fin 1024) :
    iblk m c 5 t (ix3 j p k) = (args m c).wd ⟨352 * j.val + p.val, by omega⟩ k := by
  show V m c main_v4 (((cfg0.win 5).blk t).view.emb (ix3 j p k)) = _
  rw [emb5]
  entry_read
  pointwise
  exact congrArg (fun n => (args m c).wd n k) (Fin.ext (by show j.val * 352 + p.val = 352 * j.val + p.val; omega))

end Cert.UpKernelIdeal.Body

end
-- ==== Proof.UpKernelValue.lean ====
/- The five results of the forward feed-forward block as functions of its arguments: each tile hands its last rows to the next. -/
module

public import proofs.«01_k».proof.Proof.UpBody
public import proofs.«01_k».proof.Proof.UpBlocks
public import proofs.«01_k».proof.Proof.ForwardTile

@[expose] public section

set_option maxRecDepth 16384

noncomputable section

namespace Cert.UpKernelIdeal.Body

open Cert.UpKernelIdeal Cert.UpKernelIdeal.Gen Idealize.ShloMosaic Idealize.ShloMosaic.TcCoe Idealize.SL.Sem
open Idealize.ShloMosaic.Pipeline (Dat)
open Cert.Step (col actCol)
open Cert.LossKernelIdeal.Body (Tile preB_eq hB_eq upB_eq actB_eq outB_eq)

variable (m : (ℓ : Loc nD τ sig) → Buf (Elt Ideal) ℓ) (c : Dev nD)

/-- A point as a tile. -/
abbrev tile (t : Fin cfg0.N) : Fin 32 := ⟨t.val, lt_N t⟩

section
variable (t : Fin cfg0.N)

/-- The rows that a point hands to the next: the last eight of its own. -/
theorem handed (j : Fin 8) (s : Fin 8) (q : Fin 704) :
    (outsAt0 m c t.val t.isLt).2.2.2.2.2 (ix3 j s q) = (args m c).pre (row t ⟨248 + s.val, by omega⟩) (col j q) := by
  have e := fun r => preB_eq (a := (args m c)) (t := tile t) (blk0 m c t) (blk1 m c t) (blk2 m c t) j r q
  by_cases h0 : t.val % 32 = 0
  · rw [outsAt0_A m c t h0]; dsimp only; rw [sout_A_0]; exact e _
  · rw [outsAt0_B m c t h0]; dsimp only; rw [sout_B_0]; exact e _

/-- What a point finds handed to it: zero at the first, the rows of the point before at the others. -/
def found : Vec Ideal S8x8x704 .f32 :=
  if t.val % 32 = 0 then zeroRows else (outsAt0 m c (t.val - 1) (Nat.lt_of_le_of_lt (Nat.sub_le _ _) t.isLt)).2.2.2.2.2

theorem found_first (h : t.val % 32 = 0) : found m c t = zeroRows := if_pos h

theorem found_later (h : ¬ t.val % 32 = 0) :
    found m c t = (outsAt0 m c (t.val - 1) (Nat.lt_of_le_of_lt (Nat.sub_le _ _) t.isLt)).2.2.2.2.2 := if_neg h

theorem found_eq (j : Fin 8) (s : Fin 8) (q : Fin 704) : found m c t (ix3 j s q)
    = if t.val = 0 then 0 else (args m c).pre ⟨256 * t.val - 8 + s.val, by have := lt_N t; omega⟩ (col j q) := by
  have hN := lt_N t
  by_cases h0 : t.val % 32 = 0
  · rw [found_first m c t h0, if_pos (by omega)]
    pointwise [zeroRows, k0_pay4]
  · rw [found_later m c t h0, if_neg (by omega)]
    refine (handed m c ⟨t.val - 1, Nat.lt_of_le_of_lt (Nat.sub_le _ _) t.isLt⟩ j s q).trans ?_
    exact congrArg (fun i => (args m c).pre i (col j q)) (Fin.ext (by show 256 * (t.val - 1) + (248 + s.val) = 256 * t.val - 8 + s.val; omega))

theorem tile_handed : Tile (args m c) (tile t) (iblk m c 0 t) (iblk m c 1 t) (iblk m c 2 t) (iblk m c 3 t) (iblk m c 4 t) (iblk m c 5 t) (found m c t) :=
  ⟨blk0 m c t, blk1 m c t, blk2 m c t, blk3 m c t, blk4 m c t, blk5 m c t, found_eq m c t⟩

theorem out6 (r : Fin 256) (k : Fin 1024) : (outsAt0 m c t.val t.isLt).1 (ix2 r k) = (args m c).out (row t r) k := by
  refine Eq.trans ?_ (outB_eq (tile_handed m c t) r k)
  by_cases h0 : t.val % 32 = 0
  · rw [outsAt0_A m c t h0, found_first m c t h0]; dsimp only; rw [out_A_6]
  · rw [outsAt0_B m c t h0, found_later m c t h0]; dsimp only; rw [out_B_6]

theorem out7 (r : Fin 256) (k : Fin 1024) : (outsAt0 m c t.val t.isLt).2.1 (ix2 r k) = (args m c).h (row t r) k := by
  refine Eq.trans ?_ (hB_eq (a := (args m c)) (t := tile t) (blk0 m c t) (blk1 m c t) r k)
  by_cases h0 : t.val % 32 = 0
  · rw [outsAt0_A m c t h0]; dsimp only; rw [out_A_7]
  · rw [outsAt0_B m c t h0]; dsimp only; rw [out_B_7]

theorem out8 (j : Fin 8) (r : Fin 256) (q : Fin 704) : (outsAt0 m c t.val t.isLt).2.2.1 (ix3 j r q) = (args m c).pre (row t r) (col j q) := by
  refine Eq.trans ?_ (preB_eq (a := (args m c)) (t := tile t) (blk0 m c t) (blk1 m c t) (blk2 m c t) j r q)
  by_cases h0 : t.val % 32 = 0
  · rw [outsAt0_A m c t h0]; dsimp only; rw [out_A_8]; rfl
  · rw [outsAt0_B m c t h0]; dsimp only; rw [out_B_8]; rfl

theorem out9 (j : Fin 8) (r : Fin 256) (q : Fin 704) : (outsAt0 m c t.val t.isLt).2.2.2.1 (ix3 j r q) = (args m c).up (row t r) (col j q) := by
  refine Eq.trans ?_ (upB_eq (tile_handed m c t) j r q)
  by_cases h0 : t.val % 32 = 0
  · rw [outsAt0_A m c t h0, found_first m c t h0]; dsimp only; rw [out_A_9]; rfl
  · rw [outsAt0_B m c t h0, found_later m c t h0]; dsimp only; rw [out_B_9]; rfl

theorem out10 (j : Fin 4) (r : Fin 256) (q : Fin 704) : (outsAt0 m c t.val t.isLt).2.2.2.2.1 (ix3 j r q) = (args m c).act (row t r) (actCol j q) := by
  refine Eq.trans ?_ (actB_eq (tile_handed m c t) j r q)
  by_cases h0 : t.val % 32 = 0
  · rw [outsAt0_A m c t h0, found_first m c t h0]; dsimp only; rw [out_A_10]; rfl
  · rw [outsAt0_B m c t h0, found_later m c t h0]; dsimp only; rw [out_B_10]; rfl

end

/-- The results, entry by entry. -/
abbrev resOut : Buf (Elt Ideal) ((c : Thread nD τ).loc main_v9_0) := fun y : S8192x1024.Idx => (args m c).out (y 0) (y 1)
@[inherit_doc resOut] abbrev resH : Buf (Elt Ideal) ((c : Thread nD τ).loc main_v9_1) := fun y : S8192x1024.Idx => (args m c).h (y 0) (y 1)
@[inherit_doc resOut] abbrev resPre : Buf (Elt Ideal) ((c : Thread nD τ).loc main_v9_2) := fun y : S8x8192x704.Idx => (args m c).pre (y 1) (col (y 0) (y 2))
@[inherit_doc resOut] abbrev resUp : Buf (Elt Ideal) ((c : Thread nD τ).loc main_v9_3) := fun y : S8x8192x704.Idx => (args m c).up (y 1) (col (y 0) (y 2))
@[inherit_doc resOut] abbrev resAct : Buf (Elt Ideal) ((c : Thread nD τ).loc main_v9_4) := fun y : S4x8192x704.Idx => (args m c).act (y 1) (actCol (y 0) (y 2))

theorem final6 : (dats m 0 c).arrAt 6 cfg0.N = resOut m c := by
  refine (dats m 0 c).arrAt_eq_of_covers 6 (resOut m c) (by decide +kernel) fun t _ y => ?_
  idx_vars y
  rw [emb6]
  blk_simp
  rw [after0_6]
  exact out6 m c t _ _

theorem final7 : (dats m 0 c).arrAt 7 cfg0.N = resH m c := by
  refine (dats m 0 c).arrAt_eq_of_covers 7 (resH m c) (by decide +kernel) fun t _ y => ?_
  idx_vars y
  rw [emb7]
  blk_simp
  rw [after0_7]
  exact out7 m c t _ _

theorem final8 : (dats m 0 c).arrAt 8 cfg0.N = resPre m c := by
  refine (dats m 0 c).arrAt_eq_of_covers 8 (resPre m c) (by decide +kernel) fun t _ y => ?_
  idx_vars y
  rw [emb8]
  blk_simp
  rw [after0_8]
  exact out8 m c t _ _ _

theorem final9 : (dats m 0 c).arrAt 9 cfg0.N = resUp m c := by
  refine (dats m 0 c).arrAt_eq_of_covers 9 (resUp m c) (by decide +kernel) fun t _ y => ?_
  idx_vars y
  rw [emb9]
  blk_simp
  rw [after0_9]
  exact out9 m c t _ _ _

theorem final10 : (dats m 0 c).arrAt 10 cfg0.N = resAct m c := by
  refine (dats m 0 c).arrAt_eq_of_covers 10 (resAct m c) (by decide +kernel) fun t _ y => ?_
  idx_vars y
  rw [emb10]
  blk_simp
  rw [after0_10]
  exact out10 m c t _ _ _

theorem run (ρ : Dev nD → PrngReg) : θ_run defs (onTc (τ := τ) (main (F := Ideal))) ⟨m, fun _ => 0, ρ⟩ fun r => ∀ c : Dev nD,
    r.2.mem ((c : Thread nD τ).loc main_v9_0) = resOut m c ∧ r.2.mem ((c : Thread nD τ).loc main_v9_1) = resH m c
    ∧ r.2.mem ((c : Thread nD τ).loc main_v9_2) = resPre m c ∧ r.2.mem ((c : Thread nD τ).loc main_v9_3) = resUp m c
    ∧ r.2.mem ((c : Thread nD τ).loc main_v9_4) = resAct m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5) :=
  (θ_run defs _ _).mono (fun _ h c => by
    have := h c
    rw [final6, final7, final8, final9, final10] at this
    exact this) (Value.run_blocks m ρ)

end Cert.UpKernelIdeal.Body

end
-- ==== Proof.UpReference.lean ====
/- The host reference of the forward feed-forward block: its arrays one after the other, and each read entry by entry in terms of the arguments. -/
module

public import proofs.«01_k».proof.Proof.FfnForward
public import proofs.«01_k».proof.Proof.Gen.UpReferenceIdeal.Run
public import Idealize.ShloMosaic.Lib.Pointwise
public import Idealize.ShloMosaic.Lib.Tactic.CleanTypes

@[expose] public section

set_option maxRecDepth 16384

noncomputable section

namespace Cert.UpReferenceIdeal.Read

open Cert.UpReferenceIdeal Cert.UpReferenceIdeal.Gen Idealize.ShloMosaic Idealize.ShloMosaic.TcCoe Idealize.SL.Sem
open Cert.Step (col actCol)

variable (m : (ℓ : Loc nD τ sig) → Buf (Elt Ideal) ℓ) (c : Dev nD)

/-- The block's arguments as the buffers hold them; there is no cotangent. -/
def args : Cert.Step.FfnArgs where
  x i k := m ((c.tc : Thread nD τ).loc main_arg0) (ix2 i k)
  g k := m ((c.tc : Thread nD τ).loc main_arg1) (ix1 k)
  w k n := m ((c.tc : Thread nD τ).loc main_arg2) (ix2 k n)
  cw s n := m ((c.tc : Thread nD τ).loc main_arg3) (ix2 s n)
  cb n := m ((c.tc : Thread nD τ).loc main_arg4) (ix1 n)
  wd n k := m ((c.tc : Thread nD τ).loc main_arg5) (ix2 n k)
  ct _ _ := 0

/-- The arrays of the run: the normed rows. -/
def hA : FVec Ideal S8192x1024 .f32 :=
  mulf (mulf (m ((c.tc : Thread nD τ).loc main_arg0)) (broadcastInDim S8192x1024 ![0, 1] bcast_S8192x1_S8192x1024_0_1 (Host.rsqrt (addf (Host.divf (broadcastInDim S8192x1 ![0] bcast_S8192_S8192x1_0 (Host.reduceAdd (mulf (m ((c.tc : Thread nD τ).loc main_arg0)) (m ((c.tc : Thread nD τ).loc main_arg0))) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 (m ((c.tc : Thread nD τ).loc main_arg1))))

/-- The arrays of the run: their product with the weight up. -/
def preA : FVec Ideal S8192x5632 .f32 :=
  Host.dotGeneral dot_S8192x1024_S1024x5632_S8192x5632_1_0_0_1_n_n none (φ₂ := .f32) (hA m c) (m ((c.tc : Thread nD τ).loc main_arg2))

/-- The arrays of the run: the same after two rows of zero. -/
def padA : FVec Ideal S8194x5632 .f32 :=
  concatenate S8194x5632 0 [⟨S2x5632, (broadcastInDim S2x5632 ![] bcast_S_S2x5632 (constant S_ .f32 0x00000000#32))⟩, ⟨S8192x5632, (preA m c)⟩] concatenates_S2x5632_S8192x5632_S8194x5632_d0

/-- The arrays of the run: the convolution along the rows. -/
def upA : FVec Ideal S8192x5632 .f32 :=
  addf (addf (addf (mulf (extractStridedSlice S8192x5632 ![0, 0] (padA m c) slices_S8194x5632_S8192x5632_0_0) (broadcastInDim S8192x5632 ![0, 1] bcast_S1x5632_S8192x5632_0_1 (broadcastInDim S1x5632 ![1] bcast_S5632_S1x5632_1 (shapeCast _ (extractStridedSlice S1x5632 ![0, 0] (m ((c.tc : Thread nD τ).loc main_arg3)) slices_S3x5632_S1x5632_0_0) shapeCasts_S1x5632_S5632)))) (mulf (extractStridedSlice S8192x5632 ![1, 0] (padA m c) slices_S8194x5632_S8192x5632_1_0) (broadcastInDim S8192x5632 ![0, 1] bcast_S1x5632_S8192x5632_0_1 (broadcastInDim S1x5632 ![1] bcast_S5632_S1x5632_1 (shapeCast _ (extractStridedSlice S1x5632 ![1, 0] (m ((c.tc : Thread nD τ).loc main_arg3)) slices_S3x5632_S1x5632_1_0) shapeCasts_S1x5632_S5632))))) (mulf (extractStridedSlice S8192x5632 ![2, 0] (padA m c) slices_S8194x5632_S8192x5632_2_0) (broadcastInDim S8192x5632 ![0, 1] bcast_S1x5632_S8192x5632_0_1 (broadcastInDim S1x5632 ![1] bcast_S5632_S1x5632_1 (shapeCast _ (extractStridedSlice S1x5632 ![2, 0] (m ((c.tc : Thread nD τ).loc main_arg3)) slices_S3x5632_S1x5632_2_0) shapeCasts_S1x5632_S5632))))) (broadcastInDim S8192x5632 ![0, 1] bcast_S1x5632_S8192x5632_0_1 (broadcastInDim S1x5632 ![1] bcast_S5632_S1x5632_1 (m ((c.tc : Thread nD τ).loc main_arg4))))

/-- The arrays of the run: its first half. -/
def gateA : FVec Ideal S8192x2816 .f32 :=
  extractStridedSlice S8192x2816 ![0, 0] (upA m c) slices_S8192x5632_S8192x2816_0_0

/-- The arrays of the run: the gated product. -/
def actA : FVec Ideal S8192x2816 .f32 :=
  mulf (mulf (gateA m c) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (gateA m c)))))) (extractStridedSlice S8192x2816 ![0, 2816] (upA m c) slices_S8192x5632_S8192x2816_0_2816)

/-- The arrays of the run: the output. -/
def outA : FVec Ideal S8192x1024 .f32 :=
  addf (m ((c.tc : Thread nD τ).loc main_arg0)) (Host.dotGeneral dot_S8192x2816_S2816x1024_S8192x1024_1_0_0_1_n_n none (φ₂ := .f32) (actA m c) (m ((c.tc : Thread nD τ).loc main_arg5)))

theorem h_entry (i : Fin 8192) (k : Fin 1024) : hA m c (ix2 i k) = (args m c).h i k := by
  unfold hA
  clean_types
  pointwise
  rfl

theorem pre_entry (i : Fin 8192) (n : Fin 5632) : preA m c (ix2 i n) = (args m c).pre i n := by
  unfold preA
  clean_types
  pointwise
  simp only [h_entry]
  rfl

theorem pad_entry (i : Fin 8194) (n : Fin 5632) : padA m c (ix2 i n) = if _h : i.val < 2 then 0 else (args m c).pre ⟨i.val - 2, by omega⟩ n := by
  unfold padA
  clean_types
  pointwise
  simp only [pre_entry]

theorem up_entry (i : Fin 8192) (n : Fin 5632) : upA m c (ix2 i n) = (args m c).up i n := by
  unfold upA
  clean_types
  pointwise
  simp only [pad_entry]
  rw [Cert.Step.FfnArgs.up, Cert.Step.FfnArgs.back_one, Cert.Step.FfnArgs.back, dif_neg (by omega : ¬ 2 + i.val < 2)]
  simp only [Nat.add_sub_cancel_left]
  rfl

theorem act_entry (i : Fin 8192) (n : Fin 2816) : actA m c (ix2 i n) = (args m c).act i n := by
  unfold actA gateA
  clean_types
  pointwise
  simp only [up_entry]
  rw [Cert.Step.sg_eq, Cert.Step.FfnArgs.act]
  exact congrArg (fun n => _ * (args m c).up i n) (Fin.ext (Nat.add_comm _ _))

theorem out_entry (i : Fin 8192) (k : Fin 1024) : outA m c (ix2 i k) = (args m c).out i k := by
  unfold outA
  clean_types
  pointwise
  simp only [act_entry]
  rfl

theorem narrow {s : Shape} (x : FVec Ideal s .f32) (h : FTy.bits .bf16 < FTy.bits .f32) (i : s.Idx) : truncf .bf16 x h i = x i := rfl

theorem split8 (x : FVec Ideal S8192x5632 .f32) (j : Fin 8) (i : Fin 8192) (q : Fin 704) :
    (transpose S8x8192x704 [1, 0, 2] (shapeCast S8192x8x704 x shapeCasts_S8192x5632_S8192x8x704) transposes_S8192x8x704_S8x8192x704_1_0_2) (ix3 j i q)
      = x (ix2 i (col j q)) := by
  pointwise
  exact congrArg (fun n => x (ix2 i n)) (Fin.ext (by show j.val * 704 + q.val = 704 * j.val + q.val; omega))

theorem split4 (x : FVec Ideal S8192x2816 .f32) (j : Fin 4) (i : Fin 8192) (q : Fin 704) :
    (transpose S4x8192x704 [1, 0, 2] (shapeCast S8192x4x704 x shapeCasts_S8192x2816_S8192x4x704) transposes_S8192x4x704_S4x8192x704_1_0_2) (ix3 j i q)
      = x (ix2 i (actCol j q)) := by
  pointwise
  exact congrArg (fun n => x (ix2 i n)) (Fin.ext (by show j.val * 704 + q.val = 704 * j.val + q.val; omega))

/-- The same arrays as the results hold them. -/
theorem out_array : outA m c = (fun y : S8192x1024.Idx => (args m c).out (y 0) (y 1)) := by
  funext y
  idx_vars y
  exact out_entry m c _ _

@[inherit_doc out_array] theorem h_array : (truncf .bf16 (hA m c) bitsLt_bf16_f32 : FVec Ideal S8192x1024 .bf16) = (fun y : S8192x1024.Idx => (args m c).h (y 0) (y 1)) := by
  funext y
  idx_vars y
  exact (narrow (hA m c) _ _).trans (h_entry m c _ _)

/-- An array's columns in eight blocks, and in four. -/
abbrev blocks8 (x : FVec Ideal S8192x5632 .f32) : FVec Ideal S8x8192x704 .bf16 :=
  truncf .bf16 (transpose S8x8192x704 [1, 0, 2] (shapeCast S8192x8x704 x shapeCasts_S8192x5632_S8192x8x704) transposes_S8192x8x704_S8x8192x704_1_0_2) bitsLt_bf16_f32

@[inherit_doc blocks8] abbrev blocks4 (x : FVec Ideal S8192x2816 .f32) : FVec Ideal S4x8192x704 .bf16 :=
  truncf .bf16 (transpose S4x8192x704 [1, 0, 2] (shapeCast S8192x4x704 x shapeCasts_S8192x2816_S8192x4x704) transposes_S8192x4x704_S4x8192x704_1_0_2) bitsLt_bf16_f32

@[inherit_doc out_array] theorem pre_array : blocks8 (preA m c) = (fun y : S8x8192x704.Idx => (args m c).pre (y 1) (col (y 0) (y 2))) := by
  funext y
  idx_vars y
  exact (narrow _ _ _).trans ((split8 (preA m c) _ _ _).trans (pre_entry m c _ _))

@[inherit_doc out_array] theorem up_array : blocks8 (upA m c) = (fun y : S8x8192x704.Idx => (args m c).up (y 1) (col (y 0) (y 2))) := by
  funext y
  idx_vars y
  exact (narrow _ _ _).trans ((split8 (upA m c) _ _ _).trans (up_entry m c _ _))

@[inherit_doc out_array] theorem act_array : blocks4 (actA m c) = (fun y : S4x8192x704.Idx => (args m c).act (y 1) (actCol (y 0) (y 2))) := by
  funext y
  idx_vars y
  exact (narrow _ _ _).trans ((split4 (actA m c) _ _ _).trans (act_entry m c _ _))

/-- The run, read: the results as functions of the arguments, which stay as they were. -/
theorem run (ρ : Dev nD → PrngReg) : θ_run defs (onTc (τ := τ) (main (F := Ideal))) ⟨m, fun _ => 0, ρ⟩ fun r => ∀ c : Dev nD,
      r.2.mem ((c.tc : Thread nD τ).loc main_v44) = (fun y : S8192x1024.Idx => (args m c).out (y 0) (y 1))
      ∧ r.2.mem ((c.tc : Thread nD τ).loc main_v45) = (fun y : S8192x1024.Idx => (args m c).h (y 0) (y 1))
      ∧ r.2.mem ((c.tc : Thread nD τ).loc main_v48) = (fun y : S8x8192x704.Idx => (args m c).pre (y 1) (col (y 0) (y 2)))
      ∧ r.2.mem ((c.tc : Thread nD τ).loc main_v51) = (fun y : S8x8192x704.Idx => (args m c).up (y 1) (col (y 0) (y 2)))
      ∧ r.2.mem ((c.tc : Thread nD τ).loc main_v54) = (fun y : S4x8192x704.Idx => (args m c).act (y 1) (actCol (y 0) (y 2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h c => ?_) (Value.run m ρ)
  obtain ⟨e0, e1, e2, e3, e4, e⟩ := h c
  refine ⟨?_, ?_, ?_, ?_, ?_, e⟩
  · exact e0.trans (Eq.trans (by unfold Value.res_main_v44; rfl) (out_array m c))
  · exact e1.trans (h_array m c)
  · exact e2.trans (pre_array m c)
  · exact e3.trans (Eq.trans (by unfold Value.res_main_v51; rfl) (up_array m c))
  · exact e4.trans (Eq.trans (by unfold Value.res_main_v54; rfl) (act_array m c))

end Cert.UpReferenceIdeal.Read

end
-- ==== Proof.UpClaim.lean ====
/- The claims of the forward feed-forward block: both programs end with the same five arrays, and each leaves its arguments as they were. -/
module

public import proofs.«01_k».proof.Defs
public import proofs.«01_k».proof.Proof.UpKernelValue
public import proofs.«01_k».proof.Proof.UpReference
public import proofs.«01_k».proof.Proof.Gen.UpKernel.Frame

@[expose] public section

set_option maxRecDepth 16384

noncomputable section

namespace Cert.Proof

open Idealize.ShloMosaic Idealize.SL.Sem

theorem up_algebraic : Cert.algebraic_UpKernelIdeal_UpReferenceIdeal := by
  intro m ρ m' ρ' _ hagree
  refine ⟨fun c => Cert.UpKernelIdeal.Body.resOut m c,
    fun c => Cert.UpKernelIdeal.Body.resH m c,
    fun c => Cert.UpKernelIdeal.Body.resPre m c,
    fun c => Cert.UpKernelIdeal.Body.resUp m c,
    fun c => Cert.UpKernelIdeal.Body.resAct m c, Cert.UpKernelIdeal.Body.run m ρ, ?_⟩
  have e : ∀ c, Cert.UpReferenceIdeal.Read.args m' c = Cert.UpKernelIdeal.Body.args m c := fun c => by
    obtain ⟨h0, h1, h2, h3, h4, h5⟩ := hagree c
    unfold Cert.UpReferenceIdeal.Read.args Cert.UpKernelIdeal.Body.args
    congr 1
    · exact funext fun i => funext fun k => congrFun h0 (ix2 i k)
    · exact funext fun k => congrFun h1 (ix1 k)
    · exact funext fun k => funext fun n => congrFun h2 (ix2 k n)
    · exact funext fun s => funext fun n => congrFun h3 (ix2 s n)
    · exact funext fun n => congrFun h4 (ix1 n)
    · exact funext fun n => funext fun k => congrFun h5 (ix2 n k)
  refine (θ_run Cert.UpReferenceIdeal.defs _ _).mono (fun _ h c => ⟨?_, ?_, ?_, ?_, ?_, (h c).2.2.2.2.2⟩)
    (Cert.UpReferenceIdeal.Read.run m' ρ')
  · rw [(h c).1, e]; rfl
  · rw [(h c).2.1, e]; rfl
  · rw [(h c).2.2.1, e]; rfl
  · rw [(h c).2.2.2.1, e]; rfl
  · rw [(h c).2.2.2.2.1, e]; rfl

theorem up_frames : Cert.quiescent_UpKernel ∧ Cert.quiescent_UpKernelIdeal ∧ Cert.quiescent_UpReferenceIdeal :=
  ⟨fun m ρ _ => Cert.UpKernel.Gen.frame m ρ, fun m ρ _ => Cert.UpKernelIdeal.Gen.frame m ρ, fun m ρ _ =>
    (θ_run Cert.UpReferenceIdeal.defs _ _).mono (fun r h => ⟨fun c => (h c).2.2.2.2.2, sem_eq_zero_of_no_sems (by decide) r.2⟩)
      (Cert.UpReferenceIdeal.Value.run (F := Ideal) m ρ)⟩

end Cert.Proof

end
-- ==== Proof.MixSpec.lean ====
/- The mixer on its way forward in terms of its arguments: the trailing means of four groups of columns with their products, the gated
   spatial product over chunks of 128 rows, the gated convolution, and the merge of the three branches. -/
module

public import proofs.«01_k».proof.Proof.FfnForward

@[expose] public section

noncomputable section

namespace Cert.Step

open Idealize.ShloMosaic

/-- The mixer's arguments. -/
structure MixArgs where
  x : Fin 8192 → Fin 1024 → EReal
  p : Fin 8192 → Fin 6144 → EReal
  wp : Fin 4 → Fin 128 → Fin 128 → EReal
  ps : Fin 512 → EReal
  gs : Fin 512 → EReal
  ws : Fin 4 → Fin 128 → Fin 128 → EReal
  bs : Fin 4 → Fin 128 → EReal
  cc : Fin 3 → Fin 512 → EReal
  wa : Fin 512 → Fin 1024 → EReal
  wb : Fin 512 → Fin 1024 → EReal
  wc : Fin 512 → Fin 1024 → EReal
  wo : Fin 1024 → Fin 1024 → EReal

/-- A column `s` rows back, zero before the first. -/
def rowsBack (f : Fin 8192 → EReal) (s : ℕ) (i : Fin 8192) : EReal := if _h : i.val < s then 0 else f ⟨i.val - s, by omega⟩

theorem rowsBack_zero (f : Fin 8192 → EReal) (i : Fin 8192) : rowsBack f 0 i = f i := dif_neg (Nat.not_lt_zero _)

/-- The sum of a row and those before it, `n` in all. -/
def trail (f : Fin 8192 → EReal) (n : ℕ) (i : Fin 8192) : EReal := ∑ s ∈ Finset.range n, rowsBack f s i

/-- A group's window as a float's word. -/
abbrev winWord : Fin 4 → BitVec 32 := ![0x40000000#32, 0x40800000#32, 0x41000000#32, 0x41800000#32]

/-- A group's window: two, four, eight, sixteen rows. -/
abbrev win (g : Fin 4) : ℕ := 2 ^ (g.val + 1)

/-- How many rows a window holds at a row. -/
def cnt (i : Fin 8192) (g : Fin 4) : EReal := min ((i.val : ℝ) + 1) (Ideal.ofBits .f32 (winWord g))

/-- Column `d` of group `g`. -/
abbrev gcol (g : Fin 4) (d : Fin 128) : Fin 512 := ⟨128 * g.val + d.val, by omega⟩

/-- Column `q` of block `j` of eight. -/
abbrev wcol (j : Fin 8) (q : Fin 128) : Fin 1024 := ⟨128 * j.val + q.val, by omega⟩

/-- A column's group, and its place in it. -/
abbrev grp (n : Fin 512) : Fin 4 := ⟨n.val / 128, by omega⟩
@[inherit_doc grp] abbrev lane (n : Fin 512) : Fin 128 := ⟨n.val % 128, by omega⟩

/-- The activation in its tanh form. -/
def gelu (v : EReal) : EReal :=
  v * (Ideal.ofBits .f32 0x3F000000#32 * (1 + Ideal.tanh (Ideal.ofBits .f32 0x3F4C422A#32 * (v + Ideal.ofBits .f32 0x3D372713#32 * (v * v * v)))))

/-- The scale of a norm over 512 columns. -/
def rinvH (x : Fin 512 → EReal) : EReal :=
  Ideal.rsqrt (Ideal.div (∑ k, x k * x k) (Ideal.ofBits .f32 0x44000000#32) + Ideal.ofBits .f32 0x358637BD#32)

namespace MixArgs

variable (a : MixArgs)

/-- Columns of the projection, from `o` on. -/
abbrev cols (o : ℕ) (i : Fin 8192) (n : ℕ) (h : o + n < 6144 := by omega) : EReal := a.p i ⟨o + n, h⟩

def pool (i : Fin 8192) (g : Fin 4) (d : Fin 128) : EReal :=
  Ideal.div (trail (fun q => a.p q ⟨128 * g.val + d.val, by omega⟩) (win g) i) (cnt i g) - a.p i ⟨128 * g.val + d.val, by omega⟩

/-- The first branch's rows. -/
def ya (i : Fin 8192) (g : Fin 4) (e : Fin 128) : EReal := (∑ d, a.pool i g d * a.wp g d e) * a.ps (gcol g e)

def u (i : Fin 8192) (n : Fin 512) : EReal := gelu (a.p i ⟨512 + n.val, by omega⟩)

def v (i : Fin 8192) (n : Fin 512) : EReal := gelu (a.p i ⟨1024 + n.val, by omega⟩)

def vn (i : Fin 8192) (n : Fin 512) : EReal := a.v i n * rinvH (a.v i) * a.gs n

/-- Row `s` of the chunk that a row lies in. -/
abbrev mate (i : Fin 8192) (s : Fin 128) : Fin 8192 := ⟨128 * (i.val / 128) + s.val, by omega⟩

/-- A row's place in its chunk. -/
abbrev place (i : Fin 8192) : Fin 128 := ⟨i.val % 128, by omega⟩

/-- The second branch's rows. -/
def yb (i : Fin 8192) (g : Fin 4) (d : Fin 128) : EReal :=
  a.u i (gcol g d) * ((∑ s : Fin 128, (if s ≤ place i then a.ws g (place i) s else 0) * a.vn (mate i s) (gcol g d)) + a.bs g (place i))

def z (i : Fin 8192) (n : Fin 512) : EReal := a.p i ⟨2048 + n.val, by omega⟩ * a.p i ⟨2560 + n.val, by omega⟩

/-- The convolution along the rows. -/
def cz (i : Fin 8192) (n : Fin 512) : EReal :=
  a.cc 0 n * rowsBack (fun q => a.z q n) 2 i + a.cc 1 n * rowsBack (fun q => a.z q n) 1 i + a.cc 2 n * a.z i n

/-- The third branch's rows. -/
def yc (i : Fin 8192) (n : Fin 512) : EReal := a.p i ⟨1536 + n.val, by omega⟩ * a.cz i n

/-- The three branches' rows side by side. -/
def y (i : Fin 8192) (n : Fin 1536) : EReal :=
  if h : n.val < 512 then a.ya i (grp ⟨n.val, h⟩) (lane ⟨n.val, h⟩)
  else if h' : n.val < 1024 then a.yb i (grp ⟨n.val - 512, by omega⟩) (lane ⟨n.val - 512, by omega⟩)
  else a.yc i ⟨n.val - 1024, by omega⟩

/-- The trailing means and the convolution side by side. -/
def pz (i : Fin 8192) (n : Fin 1024) : EReal :=
  if h : n.val < 512 then a.pool i (grp ⟨n.val, h⟩) (lane ⟨n.val, h⟩) else a.cz i ⟨n.val - 512, by omega⟩

def ba (i : Fin 8192) (k : Fin 1024) : EReal := ∑ n : Fin 512, a.y i ⟨n.val, by omega⟩ * a.wa n k
def bb (i : Fin 8192) (k : Fin 1024) : EReal := ∑ n : Fin 512, a.y i ⟨512 + n.val, by omega⟩ * a.wb n k
def bc (i : Fin 8192) (k : Fin 1024) : EReal := ∑ n : Fin 512, a.y i ⟨1024 + n.val, by omega⟩ * a.wc n k

/-- The branches side by side. -/
def b (i : Fin 8192) (n : Fin 3072) : EReal :=
  if h : n.val < 1024 then a.ba i ⟨n.val, h⟩ else if h' : n.val < 2048 then a.bb i ⟨n.val - 1024, by omega⟩ else a.bc i ⟨n.val - 2048, by omega⟩

def merged (i : Fin 8192) (k : Fin 1024) : EReal :=
  sg (a.p i ⟨3072 + k.val, by omega⟩) * a.ba i k + sg (a.p i ⟨4096 + k.val, by omega⟩) * a.bb i k + sg (a.p i ⟨5120 + k.val, by omega⟩) * a.bc i k

def out (i : Fin 8192) (k : Fin 1024) : EReal := a.x i k + ∑ n : Fin 1024, a.merged i n * a.wo n k

end MixArgs

end Cert.Step

end
-- ==== Proof.Trailing.lean ====
/- Trailing sums along an array's rows: as a body forms them, doubling the window with each turn, and as differences of running sums. -/
module

public import proofs.«01_k».proof.Proof.MixSpec
public import Idealize.ShloMosaic.Lib.Pointwise
public import Idealize.ShloMosaic.Lib.ShapeFacts

@[expose] public section

set_option maxRecDepth 32768

noncomputable section

namespace Cert.Step

open Idealize.ShloMosaic

/-- From row `m - 1` on, `x` holds the sums of `m` rows of `e`. -/
def Trails (e : ℕ → EReal) (m : ℕ) (x : ℕ → EReal) : Prop := ∀ j, m ≤ j + 1 → j < 272 → x j = ∑ s ∈ Finset.range m, e (j - s)

/-- Adding what lies `m` rows back doubles the window. -/
theorem Trails.double {e x x' : ℕ → EReal} {m : ℕ} (h : Trails e m x) (h' : ∀ j, m ≤ j → j < 272 → x' j = x j + x (j - m)) (hm : 0 < m) :
    Trails e (m + m) x' := by
  intro j hj hj'
  rw [h' j (by omega) hj', h j (by omega) hj', h (j - m) (by omega) (by omega), Finset.sum_range_add]
  refine congrArg _ (Finset.sum_congr rfl fun s _ => ?_)
  rw [Nat.sub_sub]

theorem Trails.one (e : ℕ → EReal) : Trails e 1 e := fun j _ _ => by simp

/-- A real column's sum of the first `n` rows. -/
def prefixSum (f : ℕ → ℝ) (n : ℕ) : ℝ := ∑ k ∈ Finset.range n, f k

theorem prefixSum_back (f : ℕ → ℝ) (i w : ℕ) :
    prefixSum f (i + 1) - prefixSum f (i + 1 - w) = ∑ s ∈ Finset.range w, if i < s then 0 else f (i - s) := by
  induction w with
  | zero => simp
  | succ w ih =>
    rw [Finset.sum_range_succ, ← ih]
    by_cases h : i < w
    · rw [if_pos h, show i + 1 - (w + 1) = 0 by omega, show i + 1 - w = 0 by omega, add_zero]
    · rw [if_neg h, show i + 1 - w = (i - w) + 1 by omega, show i + 1 - (w + 1) = i - w by omega]
      have : prefixSum f (i - w + 1) = prefixSum f (i - w) + f (i - w) := Finset.sum_range_succ _ _
      rw [this]; ring

/-- The running sum of a column up to before row `n`. -/
def running (f : Fin 8192 → EReal) (n : ℕ) : EReal := ∑ k ∈ Finset.range n, if h : k < 8192 then f ⟨k, h⟩ else 0

/-- On a finite column the difference of two running sums is the sum of the rows between. -/
theorem running_sub (f : Fin 8192 → EReal) (hf : ∀ i, Fin' (f i)) (i : Fin 8192) (w : ℕ) :
    running f (i.val + 1) - running f (i.val + 1 - w) = trail f w i := by
  choose F hF using hf
  have e : ∀ n, running f n = ((prefixSum (fun k => if h : k < 8192 then F ⟨k, h⟩ else 0) n : ℝ) : EReal) := fun n => by
    rw [running, prefixSum, coe_sum]
    refine Finset.sum_congr rfl fun k _ => ?_
    split
    · exact hF _
    · rfl
  rw [e, e, ← EReal.coe_sub, prefixSum_back, coe_sum, trail]
  refine Finset.sum_congr rfl fun s _ => ?_
  unfold rowsBack
  by_cases h : i.val < s
  · rw [if_pos h, dif_pos h]; rfl
  · rw [if_neg h, dif_neg h, dif_pos (by omega), hF]

theorem foldl_add {α : Type*} (l : List α) (f : α → EReal) (v : EReal) : l.foldl (fun r n => r + f n) v = v + (l.map f).sum := by
  induction l generalizing v with
  | nil => simp
  | cons x l ih => rw [List.foldl_cons, ih, List.map_cons, List.sum_cons, add_assoc]

section
variable {L : ℕ}

theorem window_row (n : Fin (⟨3, ![L + 1, 1, 1]⟩ : Shape).numel) :
    ((⟨3, ![L + 1, 1, 1]⟩ : Shape).rowMajor.symm n 0).val = n.val := by
  have h : ∀ y : (⟨3, ![L + 1, 1, 1]⟩ : Shape).Idx, ((⟨3, ![L + 1, 1, 1]⟩ : Shape).rowMajor y).val = (y 0).val := fun y => by
    rw [Shape.rowMajor_val_three]
    have h1 : (y 1).val < 1 := (y 1).isLt
    have h2 : (y 2).val < 1 := (y 2).isLt
    show ((y 0).val * 1 + (y 1).val) * 1 + (y 2).val = _
    omega
  have := h ((⟨3, ![L + 1, 1, 1]⟩ : Shape).rowMajor.symm n)
  rw [Equiv.apply_symm_apply] at this
  exact this.symm

/-- One step of the running sum: the row that a place of the window falls on, where it falls on one. -/
theorem window_step {G C : ℕ} (x : FVec Ideal ⟨3, ![L + 1, G, C]⟩ .f32) (f : ℕ → EReal) (i : Fin (L + 1)) (g : Fin G) (d : Fin C)
    (hf : ∀ q : Fin (L + 1), x (ix3 q g d) = f q.val)
    (h : (⟨3, ![L + 1, G, C]⟩ : Shape).ReduceWindows (![L + 1, 1, 1] : Fin 3 → Nat) ![1, 1, 1] ![L, 0, 0] ![0, 0, 0] ⟨3, ![L + 1, G, C]⟩) :
    Ideal.hostReduceWindowAdd ![L + 1, 1, 1] ![1, 1, 1] ![L, 0, 0] ![0, 0, 0] h x 0 (ix3 i g d) = ∑ k ∈ Finset.range (i.val + 1), f k := by
  unfold Ideal.hostReduceWindowAdd Host.reduceWindow
  dsimp only
  refine (foldl_add _ _ _).trans ?_
  rw [zero_add]
  have hN : (⟨3, ![L + 1, 1, 1]⟩ : Shape).numel = L + 1 := by simp [Shape.numel, Fin.prod_univ_succ]
  have hi := i.isLt
  refine Eq.trans (congrArg List.sum (List.map_congr_left (g := fun n => if L ≤ i.val + n.val then f (i.val + n.val - L) else 0)
    fun n _ => ?_)) ?_
  · have w0 := window_row n
    have w1 : ((⟨3, ![L + 1, 1, 1]⟩ : Shape).rowMajor.symm n 1).val = 0 :=
      Nat.lt_one_iff.mp ((⟨3, ![L + 1, 1, 1]⟩ : Shape).rowMajor.symm n 1).isLt
    have w2 : ((⟨3, ![L + 1, 1, 1]⟩ : Shape).rowMajor.symm n 2).val = 0 :=
      Nat.lt_one_iff.mp ((⟨3, ![L + 1, 1, 1]⟩ : Shape).rowMajor.symm n 2).isLt
    have hn : n.val < L + 1 := lt_of_lt_of_eq n.isLt hN
    split
    · next hin =>
      have h0 := hin 0
      change L ≤ i.val * 1 + ((⟨3, ![L + 1, 1, 1]⟩ : Shape).rowMajor.symm n 0).val
        ∧ i.val * 1 + ((⟨3, ![L + 1, 1, 1]⟩ : Shape).rowMajor.symm n 0).val - L < L + 1 at h0
      rw [w0, Nat.mul_one] at h0
      rw [if_pos h0.1]
      refine (congrArg x (funext fun a => Fin.ext ?_)).trans (hf ⟨i.val + n.val - L, h0.2⟩)
      match a with
      | ⟨0, _⟩ =>
        show i.val * 1 + ((⟨3, ![L + 1, 1, 1]⟩ : Shape).rowMajor.symm n 0).val - L = i.val + n.val - L
        rw [w0, Nat.mul_one]
      | ⟨1, _⟩ =>
        show g.val * 1 + ((⟨3, ![L + 1, 1, 1]⟩ : Shape).rowMajor.symm n 1).val - 0 = g.val
        rw [w1]; omega
      | ⟨2, _⟩ =>
        show d.val * 1 + ((⟨3, ![L + 1, 1, 1]⟩ : Shape).rowMajor.symm n 2).val - 0 = d.val
        rw [w2]; omega
    · next hin =>
      rw [if_neg]
      intro hl
      refine hin fun a => ?_
      match a with
      | ⟨0, _⟩ =>
        show L ≤ i.val * 1 + ((⟨3, ![L + 1, 1, 1]⟩ : Shape).rowMajor.symm n 0).val
          ∧ i.val * 1 + ((⟨3, ![L + 1, 1, 1]⟩ : Shape).rowMajor.symm n 0).val - L < L + 1
        rw [w0, Nat.mul_one]; exact ⟨hl, by omega⟩
      | ⟨1, _⟩ =>
        show 0 ≤ g.val * 1 + ((⟨3, ![L + 1, 1, 1]⟩ : Shape).rowMajor.symm n 1).val
          ∧ g.val * 1 + ((⟨3, ![L + 1, 1, 1]⟩ : Shape).rowMajor.symm n 1).val - 0 < G
        rw [w1]; have := g.isLt; omega
      | ⟨2, _⟩ =>
        show 0 ≤ d.val * 1 + ((⟨3, ![L + 1, 1, 1]⟩ : Shape).rowMajor.symm n 2).val
          ∧ d.val * 1 + ((⟨3, ![L + 1, 1, 1]⟩ : Shape).rowMajor.symm n 2).val - 0 < C
        rw [w2]; have := d.isLt; omega
  rw [← List.ofFn_eq_map, List.sum_ofFn, ← Equiv.sum_comp (finCongr hN.symm)]
  refine (Finset.sum_range (fun k => if L ≤ i.val + k then f (i.val + k - L) else 0)).symm.trans ?_
  obtain ⟨a, ha⟩ : ∃ a, i.val = a := ⟨_, rfl⟩
  rw [ha] at hi ⊢
  have e : L + 1 = (L - a) + (a + 1) := by omega
  refine (congrArg (fun n => ∑ k ∈ Finset.range n, if L ≤ a + k then f (a + k - L) else 0) e).trans ?_
  rw [Finset.sum_range_add, Finset.sum_eq_zero, zero_add]
  · refine Finset.sum_congr rfl fun k hk => ?_
    have hk := Finset.mem_range.mp hk
    rw [if_pos (by omega), show a + (L - a + k) - L = k by omega]
  · intro k hk
    have hk := Finset.mem_range.mp hk
    rw [if_neg (by omega)]

end

/-- The host's running sum down the rows of an array of three axes. -/
theorem running_apply (x : FVec Ideal ⟨3, ![8192, 4, 128]⟩ .f32) (init : EReal) (hi : init = 0)
    (h : (⟨3, ![8192, 4, 128]⟩ : Shape).ReduceWindows (![8192, 1, 1] : Fin 3 → Nat) ![1, 1, 1] ![8191, 0, 0] ![0, 0, 0] ⟨3, ![8192, 4, 128]⟩)
    (i : Fin 8192) (g : Fin 4) (d : Fin 128) :
    Ideal.hostReduceWindowAdd ![8192, 1, 1] ![1, 1, 1] ![8191, 0, 0] ![0, 0, 0] h x init (ix3 i g d)
      = running (fun q => x (ix3 q g d)) (i.val + 1) := by
  subst hi
  exact window_step (L := 8191) x (fun k => if h : k < 8192 then x (ix3 ⟨k, h⟩ g d) else 0) i g d (fun q => by
    show _ = dite _ _ _
    rw [dif_pos q.isLt]) h

end Cert.Step

end
-- ==== Proof.MixTile.lean ====
/- One tile of rows of the mixer: what the body's steps give, entry by entry, in terms of what they are handed. -/
module

public import proofs.«01_k».proof.Proof.Trailing
public import proofs.«01_k».proof.Proof.Slabs
public import proofs.«01_k».proof.Proof.Gen.MixKernelIdeal.Skeleton
public import Idealize.ShloMosaic.Lib.Tactic
public import Idealize.ShloMosaic.Lib.Pointwise

@[expose] public section

set_option maxRecDepth 16384

noncomputable section

namespace Cert.MixKernelIdeal.Body

open Cert.MixKernelIdeal Cert.MixKernelIdeal.Gen Idealize.ShloMosaic Idealize.ShloMosaic.TcCoe Idealize.SL.Sem
open Cert.Step (sg gelu rinvH Trails)
open Cert.Slab

/-- The rows handed on before the tile's own. -/
theorem ext_apply (v : Vec Ideal S256x512 .bf16) (cr : Vec Ideal S16x512 .f32) (j : Fin 272) (n : Fin 512) :
    k0_pay6 v cr (ix2 j n) = if h : j.val < 16 then cr (ix2 ⟨j.val, h⟩ n) else v (ix2 ⟨j.val - 16, by omega⟩ n) := by
  pointwise [k0_pay6, k0_pay5]

/-- A column, with the array turned by `n` places added to it. -/
abbrev turnAdd (n : BitVec 32) (v : FVec Ideal S272x128 .f32) : FVec Ideal S272x128 .f32 :=
  addf v (dynamicRotate 0 n none v rotates_S272x128_d0)

/-- A column of an array of 272 rows. -/
def column (v : FVec Ideal S272x128 .f32) (d : Fin 128) (j : ℕ) : EReal := if h : j < 272 then v (ix2 ⟨j, h⟩ d) else 0

theorem turn1 (v : FVec Ideal S272x128 .f32) (e : ℕ → EReal) (d : Fin 128) (h : Trails e 1 (column v d)) :
    Trails e 2 (column (turnAdd 1#32 v) d) := by
  refine h.double (fun j hj hj' => ?_) (by omega)
  unfold column
  rw [dif_pos hj', dif_pos hj', dif_pos (by omega)]
  pointwise
  simp only [show (j + 272 - 1) % 272 = j - 1 by omega]

theorem turn2 (v : FVec Ideal S272x128 .f32) (e : ℕ → EReal) (d : Fin 128) (h : Trails e 2 (column v d)) :
    Trails e 4 (column (turnAdd 2#32 v) d) := by
  refine h.double (fun j hj hj' => ?_) (by omega)
  unfold column
  rw [dif_pos hj', dif_pos hj', dif_pos (by omega)]
  pointwise
  simp only [show (j + 272 - 2) % 272 = j - 2 by omega]

theorem turn4 (v : FVec Ideal S272x128 .f32) (e : ℕ → EReal) (d : Fin 128) (h : Trails e 4 (column v d)) :
    Trails e 8 (column (turnAdd 4#32 v) d) := by
  refine h.double (fun j hj hj' => ?_) (by omega)
  unfold column
  rw [dif_pos hj', dif_pos hj', dif_pos (by omega)]
  pointwise
  simp only [show (j + 272 - 4) % 272 = j - 4 by omega]

theorem turn8 (v : FVec Ideal S272x128 .f32) (e : ℕ → EReal) (d : Fin 128) (h : Trails e 8 (column v d)) :
    Trails e 16 (column (turnAdd 8#32 v) d) := by
  refine h.double (fun j hj hj' => ?_) (by omega)
  unfold column
  rw [dif_pos hj', dif_pos hj', dif_pos (by omega)]
  pointwise
  simp only [show (j + 272 - 8) % 272 = j - 8 by omega]

/-- A tile's row number. -/
theorem rowNumber (i : grid0.Coords) (r : Fin 256) (h : (i 0).val < 32) :
    k0_pay8 (F := Ideal) i (ix2 r 0) = (((256 * (i 0).val + r.val : ℕ) : ℝ) : EReal) := by
  pointwise [k0_pay8]
  generalize (i 0).val = n at h
  have hr := r.isLt
  have e : (IntOp.addi (Scalar.muli (BitVec.ofNat 32 n) 256#32) (BitVec.ofNat 32 r.val) : BitVec 32) = BitVec.ofNat 32 (256 * n + r.val) := by
    apply BitVec.eq_of_toNat_eq
    show ((BitVec.ofNat 32 n * 256#32) + BitVec.ofNat 32 r.val).toNat = _
    simp only [BitVec.toNat_add, BitVec.toNat_mul, BitVec.toNat_ofNat]
    omega
  rw [e]
  show (((BitVec.ofNat 32 (256 * n + r.val)).toInt : ℝ) : EReal) = _
  rw [BitVec.toInt_eq_toNat_of_lt (by rw [BitVec.toNat_ofNat]; omega), BitVec.toNat_ofNat, Nat.mod_eq_of_lt (by omega)]
  rfl

theorem gcol_zero (d : Fin 128) : Cert.Step.gcol 0 d = ⟨d.val, by omega⟩ := Fin.ext (by show 128 * 0 + d.val = d.val; omega)

/-- The columns of the extended tile that a group takes. -/
abbrev groupCols (v : FVec Ideal S272x512 .f32) (o : ℕ) (h : S272x512.Slices ![0, o] S272x128) : FVec Ideal S272x128 .f32 :=
  extractStridedSlice S272x128 ![0, o] v h

section
variable (v5 : FVec Ideal S256x512 .f32) (v7 : FVec Ideal S272x512 .f32) (v16 : FVec Ideal S256x1 .f32) (r : Fin 256) (d : Fin 128)

/-- A group's mean over its window, less the row itself. -/
def meanAt (x : FVec Ideal S272x128 .f32) (g : Fin 4) : EReal :=
  Ideal.div (x (ix2 ⟨16 + r.val, by omega⟩ d)) (min (v16 (ix2 r 0) + 1) (Ideal.ofBits .f32 (Cert.Step.winWord g))) - v5 (ix2 r (Cert.Step.gcol g d))

theorem mean0_apply (i : grid0.Coords) (v3 : Vec Ideal S256x512 .bf16) (cr : Vec Ideal S16x512 .f32) : k0_pay9 i v3 cr (ix2 r d)
    = meanAt (k0_pay5 v3) (k0_pay8 i) r d (turnAdd 1#32 (groupCols (k0_pay6 v3 cr) 0 slices_S272x512_o0_0_S272x128)) 0 := by
  generalize h1 : turnAdd 1#32 (groupCols (k0_pay6 v3 cr) 0 slices_S272x512_o0_0_S272x128) = e1
  generalize h2 : k0_pay8 (F := Ideal) i = e2
  generalize h3 : k0_pay5 v3 = e3
  pointwise [k0_pay9, meanAt, h1, h2, h3]
  rw [gcol_zero]

theorem mean1_apply : k0_pay13 v5 v7 v16 (ix2 r d)
    = meanAt v5 v16 r d (turnAdd 2#32 (turnAdd 1#32 (groupCols v7 128 slices_S272x512_o0_128_S272x128))) 1 := by
  generalize h1 : turnAdd 2#32 (turnAdd 1#32 (groupCols v7 128 slices_S272x512_o0_128_S272x128)) = e1
  pointwise [k0_pay13, meanAt, h1]
  rfl

theorem mean2_apply : k0_pay17 v5 v16 (k0_pay15 v7) (k0_pay16 (F := Ideal)) (ix2 r d)
    = meanAt v5 v16 r d (turnAdd 4#32 (turnAdd 2#32 (turnAdd 1#32 (groupCols v7 256 slices_S272x512_o0_256_S272x128)))) 2 := by
  generalize h1 : turnAdd 4#32 (turnAdd 2#32 (turnAdd 1#32 (groupCols v7 256 slices_S272x512_o0_256_S272x128))) = e1
  have h2 : k0_pay15 v7 = e1 := h1
  pointwise [k0_pay17, k0_pay16, meanAt, h2]
  rfl

theorem mean3_apply : k0_pay19 v5 v7 v16 (ix2 r d)
    = meanAt v5 v16 r d (turnAdd 8#32 (turnAdd 4#32 (turnAdd 2#32 (turnAdd 1#32 (groupCols v7 384 slices_S272x512_o0_384_S272x128))))) 3 := by
  generalize h1 : turnAdd 8#32 (turnAdd 4#32 (turnAdd 2#32 (turnAdd 1#32 (groupCols v7 384 slices_S272x512_o0_384_S272x128)))) = e1
  pointwise [k0_pay19, meanAt, h1]
  rfl

end

section
variable (w : Vec Ideal S1x128x128 .bf16) (s : Vec Ideal S1x128 .f32) (r : Fin 256) (e : Fin 128)

/-- A group's means times its weight, scaled. -/
def scaledAt (m : FVec Ideal S256x128 .bf16) : EReal := (∑ d : Fin 128, m (ix2 r d) * w (ix3 0 d e)) * s (ix2 0 e)

theorem scaled0_apply (i : grid0.Coords) (v3 : Vec Ideal S256x512 .bf16) (cr : Vec Ideal S16x512 .f32) :
    k0_pay12 (k0_pay10 i v3 cr w) (k0_pay11 s) (ix2 r e) = scaledAt w s r e (k0_pay9 i v3 cr) := by
  generalize h1 : k0_pay9 i v3 cr = e1
  pointwise [k0_pay12, k0_pay10, k0_pay11, scaledAt, h1]

theorem scaled1_apply (v5 : FVec Ideal S256x512 .f32) (v7 : FVec Ideal S272x512 .f32) (v16 : FVec Ideal S256x1 .f32) :
    k0_pay14 v5 v7 v16 w s (ix2 r e) = scaledAt w s r e (k0_pay13 v5 v7 v16) := by
  generalize h1 : k0_pay13 v5 v7 v16 = e1
  pointwise [k0_pay14, scaledAt, h1]

theorem scaled2_apply (v5 : FVec Ideal S256x512 .f32) (v16 v72 : FVec Ideal S256x1 .f32) (v71 : FVec Ideal S272x128 .f32) :
    k0_pay18 v5 v16 v71 v72 w s (ix2 r e) = scaledAt w s r e (k0_pay17 v5 v16 v71 v72) := by
  generalize h1 : k0_pay17 v5 v16 v71 v72 = e1
  pointwise [k0_pay18, scaledAt, h1]

theorem scaled3_apply (m : FVec Ideal S256x128 .bf16) : k0_pay20 m w s (ix2 r e) = scaledAt w s r e m := by
  pointwise [k0_pay20, scaledAt]

end

theorem gelu_apply (v : Vec Ideal S256x1024 .bf16) (r : Fin 256) (n : Fin 1024) : k0_pay21 v (ix2 r n) = gelu (v (ix2 r n)) := by
  pointwise [k0_pay21, gelu]

theorem u_apply (v : Vec Ideal S256x1024 .bf16) (r : Fin 256) (n : Fin 512) : k0_pay22 v (ix2 r n) = gelu (v (ix2 r ⟨n.val, by omega⟩)) := by
  refine Eq.trans ?_ (gelu_apply v r _)
  generalize h1 : k0_pay21 v = e1
  pointwise [k0_pay22, h1]

theorem vn_apply (v : Vec Ideal S256x1024 .bf16) (g : Vec Ideal S1x512 .f32) (r : Fin 256) (n : Fin 512) :
    k0_pay25 (k0_pay23 v) (k0_pay24 g) (ix2 r n) = gelu (v (ix2 r ⟨512 + n.val, by omega⟩))
      * rinvH (fun q => gelu (v (ix2 r ⟨512 + q.val, by omega⟩))) * g (ix2 0 n) := by
  simp only [← gelu_apply]
  generalize h1 : k0_pay21 v = e1
  pointwise [k0_pay25, k0_pay24, k0_pay23, rinvH, h1]

theorem mask_word (r s : Fin 128) : IntOp.cmpi .sge (BitVec.ofNat 32 r.val) (BitVec.ofNat 32 s.val) = BitVec.ofBool (decide (s ≤ r)) := by
  have hr := r.isLt
  have hs := s.isLt
  show BitVec.ofBool (BitVec.sle (BitVec.ofNat 32 s.val) (BitVec.ofNat 32 r.val)) = _
  refine congrArg BitVec.ofBool ?_
  unfold BitVec.sle
  refine decide_eq_decide.mpr ?_
  rw [BitVec.toInt_eq_toNat_of_lt (by rw [BitVec.toNat_ofNat]; omega), BitVec.toInt_eq_toNat_of_lt (by rw [BitVec.toNat_ofNat]; omega),
    BitVec.toNat_ofNat, BitVec.toNat_ofNat, Nat.mod_eq_of_lt (by omega), Nat.mod_eq_of_lt (by omega), Fin.le_def]
  exact Int.ofNat_le

theorem select_word (r s : Fin 128) (x : EReal) :
    Scalar.select (IntOp.cmpi .sge (BitVec.ofNat 32 r.val) (BitVec.ofNat 32 s.val)) x (0 : EReal) = if s ≤ r then x else 0 := by
  rw [mask_word]
  by_cases h : s ≤ r
  · rw [decide_eq_true h, if_pos h]; rfl
  · rw [decide_eq_false h, if_neg h]; rfl

theorem mask0_apply (w : Vec Ideal S1x128x128 .f32) (r s : Fin 128) : k0_pay27 w (ix2 r s) = if s ≤ r then w (ix3 0 r s) else 0 := by
  pointwise [k0_pay27, k0_pay26]
  exact select_word r s _

theorem mask1_apply (w : Vec Ideal S1x128x128 .f32) (r s : Fin 128) : k0_pay31 w (ix2 r s) = if s ≤ r then w (ix3 0 r s) else 0 := by
  pointwise [k0_pay31, k0_pay26]
  exact select_word r s _

theorem mask2_apply (w : Vec Ideal S1x128x128 .f32) (r s : Fin 128) :
    k0_pay37 (k0_pay26) w (ix2 r s) = if s ≤ r then w (ix3 0 r s) else 0 := by
  pointwise [k0_pay37, k0_pay26]
  exact select_word r s _

theorem mask3_apply (w : Vec Ideal S1x128x128 .f32) (r s : Fin 128) :
    k0_pay41 (k0_pay26) w (ix2 r s) = if s ≤ r then w (ix3 0 r s) else 0 := by
  pointwise [k0_pay41, k0_pay26]
  exact select_word r s _

section
variable (u v : FVec Ideal S256x512 .f32) (vb : FVec Ideal S256x512 .bf16) (g1 : FVec Ideal S1x512 .f32) (w : Vec Ideal S1x128x128 .f32) (b : Vec Ideal S128x1 .f32) (r d : Fin 128)

/-- A head's product over one of the tile's two chunks, gated. -/
def gateAt (x : FVec Ideal S256x512 .bf16) (k : FVec Ideal S128x128 .bf16) (c : Fin 2) (g : Fin 4) : EReal :=
  u (ix2 ⟨128 * c.val + r.val, by omega⟩ (Cert.Step.gcol g d))
    * ((∑ s : Fin 128, k (ix2 r s) * x (ix2 ⟨128 * c.val + s.val, by omega⟩ (Cert.Step.gcol g d))) + b (ix2 r 0))

theorem gate00 : k0_pay29 u v g1 w b (ix2 r d) = gateAt u b r d (k0_pay25 v g1) (k0_pay27 w) 0 0 := by
  generalize h1 : k0_pay25 v g1 = e1
  generalize h2 : k0_pay27 w = e2
  pointwise [k0_pay29, k0_pay28, gateAt, h1, h2]
  simp only [gcol_zero]

theorem gate10 : k0_pay30 u v g1 w b (ix2 r d) = gateAt u b r d (k0_pay25 v g1) (k0_pay27 w) 1 0 := by
  generalize h1 : k0_pay25 v g1 = e1
  generalize h2 : k0_pay27 w = e2
  pointwise [k0_pay30, k0_pay28, gateAt, h1, h2]
  simp only [gcol_zero]

theorem gate01 : k0_pay35 u (k0_pay33 v g1 w) (k0_pay34 b) (ix2 r d) = gateAt u b r d (k0_pay25 v g1) (k0_pay31 w) 0 1 := by
  generalize h1 : k0_pay25 v g1 = e1
  generalize h2 : k0_pay31 w = e2
  pointwise [k0_pay35, k0_pay33, k0_pay34, k0_pay32, gateAt, h1, h2]
  rfl

theorem gate11 (k : FVec Ideal S128x128 .bf16) : k0_pay36 u vb k (k0_pay32 b) (ix2 r d) = gateAt u b r d vb k 1 1 := by
  pointwise [k0_pay36, k0_pay32, gateAt]
  rfl

theorem gate02 (M : IVec S128x128 1) : k0_pay39 u vb M w b (ix2 r d) = gateAt u b r d vb (k0_pay37 M w) 0 2 := by
  generalize h2 : k0_pay37 M w = e2
  pointwise [k0_pay39, k0_pay38, gateAt, h2]
  rfl

theorem gate12 (M : IVec S128x128 1) : k0_pay40 u vb M w b (ix2 r d) = gateAt u b r d vb (k0_pay37 M w) 1 2 := by
  generalize h2 : k0_pay37 M w = e2
  pointwise [k0_pay40, k0_pay38, gateAt, h2]
  rfl

theorem gate03 (M : IVec S128x128 1) : k0_pay43 u vb M w b (ix2 r d) = gateAt u b r d vb (k0_pay41 M w) 0 3 := by
  generalize h2 : k0_pay41 M w = e2
  pointwise [k0_pay43, k0_pay42, gateAt, h2]
  rfl

theorem gate13 (M : IVec S128x128 1) : k0_pay44 u vb M w b (ix2 r d) = gateAt u b r d vb (k0_pay41 M w) 1 3 := by
  generalize h2 : k0_pay41 M w = e2
  pointwise [k0_pay44, k0_pay42, gateAt, h2]
  rfl

end

theorem z_apply (x y : Vec Ideal S256x512 .bf16) (r : Fin 256) (n : Fin 512) : k0_pay45 x y (ix2 r n) = x (ix2 r n) * y (ix2 r n) := by
  pointwise [k0_pay45]

theorem zext_apply (x y : Vec Ideal S256x512 .bf16) (cr : Vec Ideal S8x512 .f32) (j : Fin 264) (n : Fin 512) :
    k0_pay46 x y cr (ix2 j n) = if h : j.val < 8 then cr (ix2 ⟨j.val, h⟩ n) else k0_pay45 x y (ix2 ⟨j.val - 8, by omega⟩ n) := by
  generalize h1 : k0_pay45 x y = e1
  pointwise [k0_pay46, h1]

theorem conv_apply (p : FVec Ideal S256x512 .f32) (e : FVec Ideal S264x512 .f32) (w0 w1 w2 : Vec Ideal S1x512 .f32) (r : Fin 256) (n : Fin 512) :
    k0_pay48 p e w0 2#32 w1 w2 (ix2 r n) = w0 (ix2 0 n) * e (ix2 ⟨r.val + 6, by omega⟩ n) + w1 (ix2 0 n) * e (ix2 ⟨r.val + 7, by omega⟩ n)
      + w2 (ix2 0 n) * p (ix2 r n) := by
  pointwise [k0_pay48]
  simp only [show (8 + r.val + 264 - 2) % 264 = r.val + 6 by omega, show (8 + r.val + 264 - 1) % 264 = r.val + 7 by omega]

theorem yc_apply (p : FVec Ideal S256x512 .f32) (e : FVec Ideal S264x512 .f32) (w0 w1 w2 : Vec Ideal S1x512 .f32) (c2 : BitVec 32)
    (v : Vec Ideal S256x512 .bf16) (r : Fin 256) (n : Fin 512) :
    k0_pay50 p e w0 c2 w1 w2 v (ix2 r n) = v (ix2 r n) * k0_pay48 p e w0 c2 w1 w2 (ix2 r n) := by
  generalize h1 : k0_pay48 p e w0 c2 w1 w2 = e1
  pointwise [k0_pay50, h1]

section
variable (y : FVec Ideal S256x512 .bf16) (w : Fin 8 → Vec Ideal S1x512x128 .bf16) (W : Fin 512 → Fin 1024 → EReal)
  (hw : ∀ j n (q : Fin 128), w j (ix3 0 n q) = W n (Cert.Step.wcol j q)) (r : Fin 256) (k : Fin 1024)
include hw

/-- A branch's rows times its weight, whose columns come in eight blocks. -/
theorem branch2_apply : k0_pay66 y (w 0) (w 1) (w 2) (w 3) (w 4) (w 5) (w 6) (w 7) (ix2 r k) = ∑ n : Fin 512, y (ix2 r n) * W n k := by
  pointwise [k0_pay66]
  refine Finset.sum_congr rfl fun n _ => congrArg (y (ix2 r n) * ·) ?_
  split_ifs <;> (rw [hw]; exact congrArg (W n) (Fin.ext (by simp only [Fin.val_zero, Fin.val_one, Fin.isValue]; norm_num <;> omega)))

theorem branch0_apply : k0_pay56 y (k0_pay53 (w 0)) (k0_pay54 (w 1)) (k0_pay55 (w 2)) (w 3) (w 4) (w 5) (w 6) (w 7) (ix2 r k)
    = ∑ n : Fin 512, y (ix2 r n) * W n k := branch2_apply y w W hw r k

theorem branch1_apply : k0_pay62 y (k0_pay60 (w 0)) (k0_pay61 (w 1)) (w 2) (w 3) (w 4) (w 5) (w 6) (w 7) (ix2 r k)
    = ∑ n : Fin 512, y (ix2 r n) * W n k := branch2_apply y w W hw r k

end

theorem gateA_apply (y : FVec Ideal S256x512 .bf16) (w0 w1 w2 : FVec Ideal S512x128 .bf16) (w3 w4 w5 w6 w7 : Vec Ideal S1x512x128 .bf16)
    (g : Vec Ideal S256x1024 .bf16) (r : Fin 256) (k : Fin 1024) :
    k0_pay58 (k0_pay51 (F := Ideal)) y w0 w1 w2 w3 w4 w5 w6 w7 g (ix2 r k) = sg (g (ix2 r k)) * k0_pay56 y w0 w1 w2 w3 w4 w5 w6 w7 (ix2 r k) := by
  generalize h1 : k0_pay56 y w0 w1 w2 w3 w4 w5 w6 w7 = e1
  pointwise [k0_pay58, k0_pay51, sg, h1]

theorem gateB_apply (m : FVec Ideal S256x1024 .f32) (y : FVec Ideal S256x512 .bf16) (w0 w1 : FVec Ideal S512x128 .bf16)
    (w2 w3 w4 w5 w6 w7 : Vec Ideal S1x512x128 .bf16) (g : Vec Ideal S256x1024 .bf16) (r : Fin 256) (k : Fin 1024) :
    k0_pay64 m y w0 w1 w2 w3 w4 w5 w6 w7 g (ix2 r k) = m (ix2 r k) + sg (g (ix2 r k)) * k0_pay62 y w0 w1 w2 w3 w4 w5 w6 w7 (ix2 r k) := by
  generalize h1 : k0_pay62 y w0 w1 w2 w3 w4 w5 w6 w7 = e1
  pointwise [k0_pay64, sg, h1]

theorem merged_apply (m b : FVec Ideal S256x1024 .f32) (g : Vec Ideal S256x1024 .bf16) (r : Fin 256) (k : Fin 1024) :
    k0_pay1 m b (k0_pay68 g) (Ideal.ofBits .f32 0x3F000000#32) (ix2 r k) = m (ix2 r k) + sg (g (ix2 r k)) * b (ix2 r k) := by
  pointwise [k0_pay1, k0_pay68, sg]

theorem out_apply (a b s : FVec Ideal S256x1024 .f32) (h : EReal) (x : Vec Ideal S256x1024 .f32) (wo : Vec Ideal S8x128x1024 .bf16) (r : Fin 256) (k : Fin 1024) :
    k0_pay2 a b s h x wo (ix2 r k) = x (ix2 r k) + ∑ n : Fin 1024, k0_pay1 a b s h (ix2 r n) * wo (ix3 ⟨n.val / 128, by omega⟩ ⟨n.val % 128, by omega⟩ k) := by
  generalize h1 : k0_pay1 a b s h = e1
  pointwise [k0_pay2, h1]

theorem tailA_apply (v : Vec Ideal S256x512 .bf16) (s : Fin 16) (n : Fin 512) : k0_pay7 v (ix2 s n) = v (ix2 ⟨240 + s.val, by omega⟩ n) := by
  pointwise [k0_pay7, k0_pay5]

theorem tailZ_apply (x y : Vec Ideal S256x512 .bf16) (s : Fin 8) (n : Fin 512) :
    k0_pay47 x y (ix2 s n) = x (ix2 ⟨248 + s.val, by omega⟩ n) * y (ix2 ⟨248 + s.val, by omega⟩ n) := by
  pointwise [k0_pay47, k0_pay45]

end Cert.MixKernelIdeal.Body

end
-- ==== Proof.MixRows.lean ====
/- One tile of rows of the mixer in terms of the mixer's arguments: what the body stores, where it stores it, and that the stores
   together are the tile's rows of the results. -/
module

public import proofs.«01_k».proof.Proof.MixTile

@[expose] public section

set_option maxRecDepth 16384

noncomputable section

namespace Cert.MixKernelIdeal.Body

open Cert.MixKernelIdeal Cert.MixKernelIdeal.Gen Idealize.ShloMosaic Idealize.ShloMosaic.TcCoe Idealize.SL.Sem
open Cert.Step (MixArgs sg gelu rinvH Trails rowsBack trail win gcol)
open Cert.Slab

/-- Row `r` of tile `t`. -/
abbrev tileRow (t : Fin 32) (r : Fin 256) : Fin 8192 := ⟨256 * t.val + r.val, by omega⟩

/-- Row `s` of the sixteen before tile `t`, and of the eight before it. -/
abbrev before16 (t : Fin 32) (s : Fin 16) : Fin 8192 := ⟨256 * t.val - 16 + s.val, by omega⟩
@[inherit_doc before16] abbrev before8 (t : Fin 32) (s : Fin 8) : Fin 8192 := ⟨256 * t.val - 8 + s.val, by omega⟩

/-- A column of the projection among the first 512, and among those of the third branch's two factors. -/
abbrev colA (n : Fin 512) : Fin 6144 := ⟨n.val, by omega⟩
@[inherit_doc colA] abbrev colX (n : Fin 512) : Fin 6144 := ⟨2048 + n.val, by omega⟩
@[inherit_doc colA] abbrev colY (n : Fin 512) : Fin 6144 := ⟨2560 + n.val, by omega⟩

section
variable {A B : ℕ} {e : EltTy}

theorem boxIn (o p n k : ℕ) (h : o + n ≤ A) (h' : p + k ≤ B) (a : Fin 2) :
    (![o, p] : Fin 2 → ℕ) a + (![n, k] : Fin 2 → ℕ) a ≤ (⟨2, ![A, B]⟩ : Shape).size a := by
  match a with
  | ⟨0, _⟩ => exact h
  | ⟨1, _⟩ => exact h'

/-- A box of an array: `n` rows from `o` on and `k` columns from `p` on. -/
def box (x : Vec Ideal ⟨2, ![A, B]⟩ e) (o p n k : ℕ) (h : o + n ≤ A := by omega) (h' : p + k ≤ B := by omega) : Vec Ideal ⟨2, ![n, k]⟩ e :=
  View.ld x (Rect.unit (s := ⟨2, ![A, B]⟩) ![o, p] ![n, k] (boxIn o p n k h h'))

theorem box_emb (o p n k : ℕ) (h : o + n ≤ A) (h' : p + k ≤ B) (r : Fin n) (q : Fin k) :
    (Rect.unit (s := ⟨2, ![A, B]⟩) ![o, p] ![n, k] (boxIn o p n k h h')).emb (ix2 r q) = ix2 ⟨o + r.val, by omega⟩ ⟨p + q.val, by omega⟩ :=
  funext fun a => Fin.ext (by
    match a with
    | ⟨0, _⟩ => show o + 1 * r.val = o + r.val; omega
    | ⟨1, _⟩ => show p + 1 * q.val = p + q.val; omega)

theorem box_apply (x : Vec Ideal ⟨2, ![A, B]⟩ e) (o p n k : ℕ) (h : o + n ≤ A) (h' : p + k ≤ B) (r : Fin n) (q : Fin k) :
    box x o p n k h h' (ix2 r q) = x (ix2 ⟨o + r.val, by omega⟩ ⟨p + q.val, by omega⟩) := congrArg x (box_emb o p n k h h' r q)

/-- A box, stored where it belongs. -/
theorem boxPiece (G : (⟨2, ![A, B]⟩ : Shape).Idx → Elt Ideal e) (o p n k : ℕ) (h : o + n ≤ A) (h' : p + k ≤ B)
    (w : (⟨2, ![n, k]⟩ : Shape).Idx → Elt Ideal e)
    (hw : ∀ (r : Fin n) (q : Fin k), w (ix2 r q) = G (ix2 ⟨o + r.val, by omega⟩ ⟨p + q.val, by omega⟩)) (x : (⟨2, ![n, k]⟩ : Shape).Idx) :
    w x = G ((Rect.unit (s := ⟨2, ![A, B]⟩) ![o, p] ![n, k] (boxIn o p n k h h')).emb x) := by
  obtain ⟨r, q, rfl⟩ : ∃ (r : Fin n) (q : Fin k), x = ix2 r q := ⟨x 0, x 1, eq_ix2 x⟩
  exact (hw r q).trans (congrArg G (box_emb o p n k h h' r q).symm)

theorem mem_box (o p n k : ℕ) (h : o + n ≤ A) (h' : p + k ≤ B) (r : Fin A) (q : Fin B) (hr : o ≤ r.val ∧ r.val < o + n)
    (hq : p ≤ q.val ∧ q.val < p + k) : (ix2 r q : (⟨2, ![A, B]⟩ : Shape).Idx) ∈ (Rect.unit (s := ⟨2, ![A, B]⟩) ![o, p] ![n, k] (boxIn o p n k h h')).set := by
  rw [Rect.mem_set_unit]
  intro a
  match a with
  | ⟨0, _⟩ => exact hr
  | ⟨1, _⟩ => exact hq

end

theorem win_le (g : Fin 4) : win g ≤ 16 := by fin_cases g <;> decide

variable {a : MixArgs} {t : Fin 32}

section
variable {v : Vec Ideal S256x512 .bf16} {cr : Vec Ideal S16x512 .f32}
  (hv : ∀ r n, v (ix2 r n) = a.p (tileRow t r) (colA n))
  (hc : ∀ (s : Fin 16) (n : Fin 512), cr (ix2 s n) = if t.val = 0 then 0 else a.p (before16 t s) (colA n))
include hv

theorem pay5_apply (r : Fin 256) (n : Fin 512) : k0_pay5 v (ix2 r n) = a.p (tileRow t r) (colA n) := by
  rw [← hv]
  pointwise [k0_pay5]

include hc

/-- The extended tile's columns, `s` rows before row `r`. -/
theorem ext_eq (o : ℕ) (h : S272x512.Slices ![0, o] S272x128) (d : Fin 128) (ho : o + 128 ≤ 512) (r : Fin 256) (s : ℕ) (hs : s < 16) :
    column (groupCols (k0_pay6 v cr) o h) d (16 + r.val - s) = rowsBack (fun q => a.p q ⟨o + d.val, by omega⟩) s (tileRow t r) := by
  unfold column
  rw [dif_pos (by omega)]
  have e : groupCols (k0_pay6 v cr) o h (ix2 ⟨16 + r.val - s, by omega⟩ d) = k0_pay6 v cr (ix2 ⟨16 + r.val - s, by omega⟩ ⟨o + d.val, by omega⟩) :=
    congrArg (k0_pay6 v cr) (funext fun x => Fin.ext (by
      match x with
      | ⟨0, _⟩ => show 0 + (16 + r.val - s) = 16 + r.val - s; omega
      | ⟨1, _⟩ => rfl))
  rw [e, ext_apply]
  unfold rowsBack
  by_cases h1 : 16 + r.val - s < 16
  · rw [dif_pos h1, hc]
    by_cases h0 : t.val = 0
    · rw [if_pos h0, dif_pos (show 256 * t.val + r.val < s by omega)]
    · rw [if_neg h0, dif_neg (show ¬ 256 * t.val + r.val < s by omega)]
      exact congrArg (fun i => a.p i _) (Fin.ext (by show 256 * t.val - 16 + (16 + r.val - s) = 256 * t.val + r.val - s; omega))
  · rw [dif_neg h1, dif_neg (show ¬ 256 * t.val + r.val < s by omega), hv]
    exact congrArg (fun i => a.p i _) (Fin.ext (by show 256 * t.val + (16 + r.val - s - 16) = 256 * t.val + r.val - s; omega))

variable {i : grid0.Coords} (hi : (i 0).val = t.val)
include hi

theorem pool_of (g : Fin 4) (h : S272x512.Slices ![0, 128 * g.val] S272x128) (x : FVec Ideal S272x128 .f32) (r : Fin 256) (d : Fin 128)
    (hT : Trails (column (groupCols (k0_pay6 v cr) (128 * g.val) h) d) (win g) (column x d)) :
    meanAt (k0_pay5 v) (k0_pay8 i) r d x g = a.pool (tileRow t r) g d := by
  have hw := win_le g
  have e := hT (16 + r.val) (by omega) (by omega)
  unfold column at e
  rw [dif_pos (show 16 + r.val < 272 by omega)] at e
  unfold meanAt MixArgs.pool Cert.Step.cnt
  rw [e, rowNumber i r (by omega), pay5_apply hv, hi]
  refine congrArg (fun z => Ideal.div z _ - _) (Finset.sum_congr rfl fun s hs => ?_)
  exact ext_eq hv hc (128 * g.val) h d (by omega) r s (by have := Finset.mem_range.mp hs; omega)

theorem pool0 (r : Fin 256) (d : Fin 128) : k0_pay9 i v cr (ix2 r d) = a.pool (tileRow t r) 0 d :=
  (mean0_apply r d i v cr).trans (pool_of hv hc hi 0 _ _ r d (turn1 _ _ d (Trails.one _)))

theorem pool1 (r : Fin 256) (d : Fin 128) : k0_pay13 (k0_pay5 v) (k0_pay6 v cr) (k0_pay8 i) (ix2 r d) = a.pool (tileRow t r) 1 d :=
  (mean1_apply _ _ _ r d).trans (pool_of hv hc hi 1 _ _ r d (turn2 _ _ d (turn1 _ _ d (Trails.one _))))

theorem pool2 (r : Fin 256) (d : Fin 128) : k0_pay17 (k0_pay5 v) (k0_pay8 i) (k0_pay15 (k0_pay6 v cr)) (k0_pay16 (F := Ideal)) (ix2 r d)
    = a.pool (tileRow t r) 2 d :=
  (mean2_apply _ _ _ r d).trans (pool_of hv hc hi 2 _ _ r d (turn4 _ _ d (turn2 _ _ d (turn1 _ _ d (Trails.one _)))))

theorem pool3 (r : Fin 256) (d : Fin 128) : k0_pay19 (k0_pay5 v) (k0_pay6 v cr) (k0_pay8 i) (ix2 r d) = a.pool (tileRow t r) 3 d :=
  (mean3_apply _ _ _ r d).trans (pool_of hv hc hi 3 _ _ r d (turn8 _ _ d (turn4 _ _ d (turn2 _ _ d (turn1 _ _ d (Trails.one _))))))

end

theorem scaled_of {w : Vec Ideal S1x128x128 .bf16} {s : Vec Ideal S1x128 .f32} {m : FVec Ideal S256x128 .bf16} (g : Fin 4) (r : Fin 256) (e : Fin 128)
    (hw : ∀ d e, w (ix3 0 d e) = a.wp g d e) (hs : ∀ e, s (ix2 0 e) = a.ps (gcol g e)) (hm : ∀ d, m (ix2 r d) = a.pool (tileRow t r) g d) :
    scaledAt w s r e m = a.ya (tileRow t r) g e := by
  unfold scaledAt
  simp only [hw, hs, hm]
  rfl

section
variable {u : FVec Ideal S256x512 .f32} {b : Vec Ideal S128x1 .f32} {x : FVec Ideal S256x512 .bf16} {k : FVec Ideal S128x128 .bf16}

theorem gate_of (c : Fin 2) (g : Fin 4) (r d : Fin 128) (hu : ∀ r n, u (ix2 r n) = a.u (tileRow t r) n) (hx : ∀ r n, x (ix2 r n) = a.vn (tileRow t r) n)
    (hk : ∀ r s, k (ix2 r s) = if s ≤ r then a.ws g r s else 0) (hb : ∀ r, b (ix2 r 0) = a.bs g r) :
    gateAt u b r d x k c g = a.yb (tileRow t ⟨128 * c.val + r.val, by omega⟩) g d := by
  have e1 : MixArgs.place (tileRow t ⟨128 * c.val + r.val, by omega⟩) = r := Fin.ext (by show (256 * t.val + (128 * c.val + r.val)) % 128 = r.val; omega)
  have e2 : ∀ s : Fin 128, MixArgs.mate (tileRow t ⟨128 * c.val + r.val, by omega⟩) s = tileRow t ⟨128 * c.val + s.val, by omega⟩ := fun s =>
    Fin.ext (by show 128 * ((256 * t.val + (128 * c.val + r.val)) / 128) + s.val = 256 * t.val + (128 * c.val + s.val); omega)
  unfold gateAt MixArgs.yb
  rw [e1]
  simp only [hu, hx, hk, hb, e2]

end

section
variable {X Y : Vec Ideal S256x512 .bf16} {cr : Vec Ideal S8x512 .f32}
  (hX : ∀ r n, X (ix2 r n) = a.p (tileRow t r) (colX n)) (hY : ∀ r n, Y (ix2 r n) = a.p (tileRow t r) (colY n))
  (hc : ∀ (s : Fin 8) (n : Fin 512), cr (ix2 s n) = if t.val = 0 then 0 else a.z (before8 t s) n)
include hX hY

theorem z_eq (r : Fin 256) (n : Fin 512) : k0_pay45 X Y (ix2 r n) = a.z (tileRow t r) n := by
  rw [z_apply, hX, hY]
  rfl

include hc

theorem zext_eq (r : Fin 256) (n : Fin 512) (s : ℕ) (hs : s < 8) :
    k0_pay46 X Y cr (ix2 ⟨8 + r.val - s, by omega⟩ n) = rowsBack (fun q => a.z q n) s (tileRow t r) := by
  rw [zext_apply]
  unfold rowsBack
  by_cases h1 : 8 + r.val - s < 8
  · rw [dif_pos h1, hc]
    by_cases h0 : t.val = 0
    · rw [if_pos h0, dif_pos (show 256 * t.val + r.val < s by omega)]
    · rw [if_neg h0, dif_neg (show ¬ 256 * t.val + r.val < s by omega)]
      exact congrArg (fun i => a.z i n) (Fin.ext (by show 256 * t.val - 8 + (8 + r.val - s) = 256 * t.val + r.val - s; omega))
  · rw [dif_neg h1, dif_neg (show ¬ 256 * t.val + r.val < s by omega), z_eq hX hY]
    exact congrArg (fun i => a.z i n) (Fin.ext (by show 256 * t.val + (8 + r.val - s - 8) = 256 * t.val + r.val - s; omega))

theorem cz_eq {w0 w1 w2 : Vec Ideal S1x512 .f32} (h0 : ∀ n, w0 (ix2 0 n) = a.cc 0 n) (h1 : ∀ n, w1 (ix2 0 n) = a.cc 1 n)
    (h2 : ∀ n, w2 (ix2 0 n) = a.cc 2 n) (r : Fin 256) (n : Fin 512) :
    k0_pay48 (k0_pay45 X Y) (k0_pay46 X Y cr) w0 2#32 w1 w2 (ix2 r n) = a.cz (tileRow t r) n := by
  have e2 := zext_eq hX hY hc r n 2 (by omega)
  have e1 := zext_eq hX hY hc r n 1 (by omega)
  simp only [show 8 + r.val - 2 = r.val + 6 by omega] at e2
  simp only [show 8 + r.val - 1 = r.val + 7 by omega] at e1
  rw [conv_apply, e1, e2, z_eq hX hY, h0, h1, h2]
  rfl

end

end Cert.MixKernelIdeal.Body

end
-- ==== Proof.MixPieces.lean ====
/- What the mixer's body stores on one tile of rows, box by box, and that the boxes are the tile's rows of the results. -/
module

public import proofs.«01_k».proof.Proof.MixRows

@[expose] public section

set_option maxRecDepth 16384

noncomputable section

namespace Cert.MixKernelIdeal.Body

open Cert.MixKernelIdeal Cert.MixKernelIdeal.Gen Idealize.ShloMosaic Idealize.ShloMosaic.TcCoe Idealize.SL.Sem
open Cert.Step (MixArgs sg gcol)
open Cert.Slab

theorem box_eq {A B : ℕ} {e : EltTy} (x : Vec Ideal ⟨2, ![A, B]⟩ e) (o p n k : ℕ) (h : o + n ≤ A) (h' : p + k ≤ B) (r : Fin n) (q : Fin k) (R : Fin A)
    (Q : Fin B) (hR : R.val = o + r.val) (hQ : Q.val = p + q.val) : box x o p n k h h' (ix2 r q) = x (ix2 R Q) := by
  rw [box_apply]
  exact congrArg₂ (fun R Q => x (ix2 R Q)) (Fin.ext hR.symm) (Fin.ext hQ.symm)

/-- The blocks a tile is handed, in terms of the mixer's arguments. -/
structure Tile (a : MixArgs) (t : Fin 32) (x0 : Vec Ideal S256x1024 .f32) (x1 : Vec Ideal S256x6144 .bf16) (x2 : Vec Ideal S4x128x128 .bf16)
    (x3 x4 : Vec Ideal S1x512 .f32) (x5 : Vec Ideal S4x128x128 .f32) (x6 : Vec Ideal S128x4 .f32) (x7 : Vec Ideal S3x512 .f32)
    (x8 x9 x10 : Vec Ideal S8x512x128 .bf16) (x11 : Vec Ideal S8x128x1024 .bf16) (ca : Vec Ideal S16x512 .f32) (cz : Vec Ideal S8x512 .f32) : Prop where
  x : ∀ r k, x0 (ix2 r k) = a.x (tileRow t r) k
  p : ∀ r n, x1 (ix2 r n) = a.p (tileRow t r) n
  wp : ∀ g d e, x2 (ix3 g d e) = a.wp g d e
  ps : ∀ n, x3 (ix2 0 n) = a.ps n
  gs : ∀ n, x4 (ix2 0 n) = a.gs n
  ws : ∀ g r s, x5 (ix3 g r s) = a.ws g r s
  bs : ∀ r g, x6 (ix2 r g) = a.bs g r
  cc : ∀ s n, x7 (ix2 s n) = a.cc s n
  wa : ∀ (j : Fin 8) n (q : Fin 128), x8 (ix3 j n q) = a.wa n (Cert.Step.wcol j q)
  wb : ∀ (j : Fin 8) n (q : Fin 128), x9 (ix3 j n q) = a.wb n (Cert.Step.wcol j q)
  wc : ∀ (j : Fin 8) n (q : Fin 128), x10 (ix3 j n q) = a.wc n (Cert.Step.wcol j q)
  wo : ∀ (j : Fin 8) (q : Fin 128) k, x11 (ix3 j q k) = a.wo (Cert.Step.wcol j q) k
  rowsA : ∀ (s : Fin 16) (n : Fin 512), ca (ix2 s n) = if t.val = 0 then 0 else a.p (before16 t s) (colA n)
  rowsZ : ∀ (s : Fin 8) (n : Fin 512), cz (ix2 s n) = if t.val = 0 then 0 else a.z (before8 t s) n

variable (a : MixArgs) (t : Fin 32)

/-- A tile's rows of the three branches' rows, of the means beside the convolution, and of the branches. -/
def yG (y : S256x1536.Idx) : EReal := a.y (tileRow t (y 0)) (y 1)
@[inherit_doc yG] def pzG (y : S256x1024.Idx) : EReal := a.pz (tileRow t (y 0)) (y 1)
@[inherit_doc yG] def bG (y : S256x3072.Idx) : EReal := a.b (tileRow t (y 0)) (y 1)

section
variable {a} {t}

theorem grp_of (g : Fin 4) (d : Fin 128) (n : ℕ) (h : n = 128 * g.val + d.val) (h' : n < 512) : Cert.Step.grp ⟨n, h'⟩ = g :=
  Fin.ext (by show n / 128 = g.val; omega)

theorem lane_of (g : Fin 4) (d : Fin 128) (n : ℕ) (h : n = 128 * g.val + d.val) (h' : n < 512) : Cert.Step.lane ⟨n, h'⟩ = d :=
  Fin.ext (by show n % 128 = d.val; omega)

theorem y_ya (i : Fin 8192) (n : Fin 1536) (g : Fin 4) (d : Fin 128) (h : n.val = 128 * g.val + d.val) : a.y i n = a.ya i g d := by
  unfold MixArgs.y
  rw [dif_pos (by omega), grp_of g d n.val h, lane_of g d n.val h]

theorem y_yb (i : Fin 8192) (n : Fin 1536) (g : Fin 4) (d : Fin 128) (h : n.val = 512 + 128 * g.val + d.val) : a.y i n = a.yb i g d := by
  unfold MixArgs.y
  rw [dif_neg (by omega), dif_pos (by omega), grp_of g d (n.val - 512) (by omega), lane_of g d (n.val - 512) (by omega)]

theorem y_yc (i : Fin 8192) (n : Fin 1536) (d : Fin 512) (h : n.val = 1024 + d.val) : a.y i n = a.yc i d := by
  unfold MixArgs.y
  rw [dif_neg (by omega), dif_neg (by omega)]
  exact congrArg (a.yc i) (Fin.ext (by show n.val - 1024 = d.val; omega))

theorem pz_pool (i : Fin 8192) (n : Fin 1024) (g : Fin 4) (d : Fin 128) (h : n.val = 128 * g.val + d.val) : a.pz i n = a.pool i g d := by
  unfold MixArgs.pz
  rw [dif_pos (by omega), grp_of g d n.val h, lane_of g d n.val h]

theorem pz_cz (i : Fin 8192) (n : Fin 1024) (d : Fin 512) (h : n.val = 512 + d.val) : a.pz i n = a.cz i d := by
  unfold MixArgs.pz
  rw [dif_neg (by omega)]
  exact congrArg (a.cz i) (Fin.ext (by show n.val - 512 = d.val; omega))

theorem rowAt (r r' : Fin 256) (h : r'.val = r.val) : tileRow t r' = tileRow t r := congrArg _ (Fin.ext h)

theorem pieceA (g : Fin 4) (o : ℕ) (ho : o = 128 * g.val) (w : S256x128.Idx → EReal) (hw : ∀ r e, w (ix2 r e) = a.ya (tileRow t r) g e) (x : S256x128.Idx) :
    w x = yG a t ((Rect.unit (s := S256x1536) ![0, o] ![256, 128] (boxIn 0 o 256 128 (by omega) (by omega))).emb x) :=
  boxPiece (e := .bf16) (yG a t) 0 o 256 128 (by omega) (by omega) w (fun r q => (hw r q).trans (by
    unfold yG
    exact (congrArg (fun i => a.ya i g q) (rowAt r _ (Nat.zero_add _)).symm).trans (y_ya _ _ g q (by show o + q.val = _; omega)).symm)) x

theorem pieceB (c : Fin 2) (g : Fin 4) (o p : ℕ) (ho : o = 128 * c.val) (hp : p = 512 + 128 * g.val) (w : S128x128.Idx → EReal)
    (hw : ∀ r d : Fin 128, w (ix2 r d) = a.yb (tileRow t ⟨128 * c.val + r.val, by omega⟩) g d) (x : S128x128.Idx) :
    w x = yG a t ((Rect.unit (s := S256x1536) ![o, p] ![128, 128] (boxIn o p 128 128 (by omega) (by omega))).emb x) :=
  boxPiece (e := .bf16) (yG a t) o p 128 128 (by omega) (by omega) w (fun r q => (hw r q).trans (by
    unfold yG
    exact (congrArg (fun i => a.yb i g q) (rowAt ⟨128 * c.val + r.val, by omega⟩ ⟨o + r.val, by omega⟩ (by show o + r.val = 128 * c.val + r.val; omega)).symm).trans
      (y_yb _ _ g q (by show p + q.val = _; omega)).symm)) x

theorem pieceC (w : S256x512.Idx → EReal) (hw : ∀ r n, w (ix2 r n) = a.yc (tileRow t r) n) (x : S256x512.Idx) :
    w x = yG a t ((Rect.unit (s := S256x1536) ![0, 1024] ![256, 512] (boxIn 0 1024 256 512 (by omega) (by omega))).emb x) :=
  boxPiece (e := .bf16) (yG a t) 0 1024 256 512 (by omega) (by omega) w (fun r q => (hw r q).trans (by
    unfold yG
    exact (congrArg (fun i => a.yc i q) (rowAt r _ (Nat.zero_add _)).symm).trans (y_yc _ _ q rfl).symm)) x

theorem piecePool (g : Fin 4) (o : ℕ) (ho : o = 128 * g.val) (w : S256x128.Idx → EReal) (hw : ∀ r d, w (ix2 r d) = a.pool (tileRow t r) g d) (x : S256x128.Idx) :
    w x = pzG a t ((Rect.unit (s := S256x1024) ![0, o] ![256, 128] (boxIn 0 o 256 128 (by omega) (by omega))).emb x) :=
  boxPiece (e := .bf16) (pzG a t) 0 o 256 128 (by omega) (by omega) w (fun r q => (hw r q).trans (by
    unfold pzG
    exact (congrArg (fun i => a.pool i g q) (rowAt r _ (Nat.zero_add _)).symm).trans (pz_pool _ _ g q (by show o + q.val = _; omega)).symm)) x

theorem pieceCz (w : S256x512.Idx → EReal) (hw : ∀ r n, w (ix2 r n) = a.cz (tileRow t r) n) (x : S256x512.Idx) :
    w x = pzG a t ((Rect.unit (s := S256x1024) ![0, 512] ![256, 512] (boxIn 0 512 256 512 (by omega) (by omega))).emb x) :=
  boxPiece (e := .bf16) (pzG a t) 0 512 256 512 (by omega) (by omega) w (fun r q => (hw r q).trans (by
    unfold pzG
    exact (congrArg (fun i => a.cz i q) (rowAt r _ (Nat.zero_add _)).symm).trans (pz_cz _ _ q rfl).symm)) x

end

section
variable (i : grid0.Coords) (x0 : Vec Ideal S256x1024 .f32) (x1 : Vec Ideal S256x6144 .bf16) (x2 : Vec Ideal S4x128x128 .bf16)
    (x3 x4 : Vec Ideal S1x512 .f32) (x5 : Vec Ideal S4x128x128 .f32) (x6 : Vec Ideal S128x4 .f32) (x7 : Vec Ideal S3x512 .f32)
    (x8 x9 x10 : Vec Ideal S8x512x128 .bf16) (x11 : Vec Ideal S8x128x1024 .bf16) (ca : Vec Ideal S16x512 .f32) (cz : Vec Ideal S8x512 .f32)

/-- The columns the first branch reads, with the rows before them. -/
abbrev inA : Vec Ideal S256x512 .bf16 := box x1 0 0 256 512
@[inherit_doc inA] abbrev extA : FVec Ideal S272x512 .f32 := k0_pay6 (inA x1) ca

/-- The four groups' means. -/
abbrev pl0 := k0_pay9 i (inA x1) ca
@[inherit_doc pl0] abbrev pl1 := k0_pay13 (k0_pay5 (inA x1)) (extA x1 ca) (k0_pay8 i)
@[inherit_doc pl0] abbrev pl2 := k0_pay17 (k0_pay5 (inA x1)) (k0_pay8 i) (k0_pay15 (extA x1 ca)) (k0_pay16 (F := Ideal))
@[inherit_doc pl0] abbrev pl3 := k0_pay19 (k0_pay5 (inA x1)) (extA x1 ca) (k0_pay8 i)

/-- The second branch's two halves. -/
abbrev inU : Vec Ideal S256x1024 .bf16 := box x1 0 512 256 1024
@[inherit_doc inU] abbrev uT := k0_pay22 (inU x1)
@[inherit_doc inU] abbrev vT := k0_pay23 (inU x1)
@[inherit_doc inU] abbrev nT := k0_pay25 (vT x1) (k0_pay24 x4)

/-- The third branch's product, with the rows before it. -/
abbrev zT := k0_pay45 (box x1 0 2048 256 512) (box x1 0 2560 256 512)
@[inherit_doc zT] abbrev extZ := k0_pay46 (box x1 0 2048 256 512) (box x1 0 2560 256 512) cz

abbrev slabP (j : Fin 4) : Vec Ideal S1x128x128 .bf16 := rows x2 j 0 128 (by omega)
abbrev slabS (j : Fin 4) : Vec Ideal S1x128x128 .f32 := rows x5 j 0 128 (by omega)
abbrev slabW (x : Vec Ideal S8x512x128 .bf16) (j : Fin 8) : Vec Ideal S1x512x128 .bf16 := rows x j 0 512 (by omega)

/-- The boxes of the three branches' rows, the last stored first. -/
def yPieces : List (View.Piece (Elt Ideal) S256x1536 .bf16) :=
  [⟨Rect.unit (s := S256x1536) ![0, 1024] ![256, 512] (boxIn 0 1024 256 512 (by omega) (by omega)),
      k0_pay50 (zT x1) (extZ x1 cz) (oneRow x7 0) 2#32 (oneRow x7 1) (oneRow x7 2) (box x1 0 1536 256 512)⟩,
    ⟨Rect.unit (s := S256x1536) ![128, 896] ![128, 128] (boxIn 128 896 128 128 (by omega) (by omega)),
      k0_pay44 (uT x1) (nT x1 x4) k0_pay26 (slabS x5 3) (box x6 0 3 128 1)⟩,
    ⟨Rect.unit (s := S256x1536) ![0, 896] ![128, 128] (boxIn 0 896 128 128 (by omega) (by omega)),
      k0_pay43 (uT x1) (nT x1 x4) k0_pay26 (slabS x5 3) (box x6 0 3 128 1)⟩,
    ⟨Rect.unit (s := S256x1536) ![128, 768] ![128, 128] (boxIn 128 768 128 128 (by omega) (by omega)),
      k0_pay40 (uT x1) (nT x1 x4) k0_pay26 (slabS x5 2) (box x6 0 2 128 1)⟩,
    ⟨Rect.unit (s := S256x1536) ![0, 768] ![128, 128] (boxIn 0 768 128 128 (by omega) (by omega)),
      k0_pay39 (uT x1) (nT x1 x4) k0_pay26 (slabS x5 2) (box x6 0 2 128 1)⟩,
    ⟨Rect.unit (s := S256x1536) ![128, 640] ![128, 128] (boxIn 128 640 128 128 (by omega) (by omega)),
      k0_pay36 (uT x1) (nT x1 x4) (k0_pay31 (slabS x5 1)) (k0_pay32 (box x6 0 1 128 1))⟩,
    ⟨Rect.unit (s := S256x1536) ![0, 640] ![128, 128] (boxIn 0 640 128 128 (by omega) (by omega)),
      k0_pay35 (uT x1) (k0_pay33 (vT x1) (k0_pay24 x4) (slabS x5 1)) (k0_pay34 (box x6 0 1 128 1))⟩,
    ⟨Rect.unit (s := S256x1536) ![128, 512] ![128, 128] (boxIn 128 512 128 128 (by omega) (by omega)),
      k0_pay30 (uT x1) (vT x1) (k0_pay24 x4) (slabS x5 0) (box x6 0 0 128 1)⟩,
    ⟨Rect.unit (s := S256x1536) ![0, 512] ![128, 128] (boxIn 0 512 128 128 (by omega) (by omega)),
      k0_pay29 (uT x1) (vT x1) (k0_pay24 x4) (slabS x5 0) (box x6 0 0 128 1)⟩,
    ⟨Rect.unit (s := S256x1536) ![0, 384] ![256, 128] (boxIn 0 384 256 128 (by omega) (by omega)),
      k0_pay20 (pl3 i x1 ca) (slabP x2 3) (box x3 0 384 1 128)⟩,
    ⟨Rect.unit (s := S256x1536) ![0, 256] ![256, 128] (boxIn 0 256 256 128 (by omega) (by omega)),
      k0_pay18 (k0_pay5 (inA x1)) (k0_pay8 i) (k0_pay15 (extA x1 ca)) (k0_pay16 (F := Ideal)) (slabP x2 2) (box x3 0 256 1 128)⟩,
    ⟨Rect.unit (s := S256x1536) ![0, 128] ![256, 128] (boxIn 0 128 256 128 (by omega) (by omega)),
      k0_pay14 (k0_pay5 (inA x1)) (extA x1 ca) (k0_pay8 i) (slabP x2 1) (box x3 0 128 1 128)⟩,
    ⟨Rect.unit (s := S256x1536) ![0, 0] ![256, 128] (boxIn 0 0 256 128 (by omega) (by omega)),
      k0_pay12 (k0_pay10 i (inA x1) ca (slabP x2 0)) (k0_pay11 (box x3 0 0 1 128))⟩]

/-- The boxes of the means beside the convolution, the last stored first. -/
def pzPieces : List (View.Piece (Elt Ideal) S256x1024 .bf16) :=
  [⟨Rect.unit (s := S256x1024) ![0, 512] ![256, 512] (boxIn 0 512 256 512 (by omega) (by omega)),
      k0_pay49 (zT x1) (extZ x1 cz) (oneRow x7 0) 2#32 (oneRow x7 1) (oneRow x7 2)⟩,
    ⟨Rect.unit (s := S256x1024) ![0, 384] ![256, 128] (boxIn 0 384 256 128 (by omega) (by omega)), pl3 i x1 ca⟩,
    ⟨Rect.unit (s := S256x1024) ![0, 256] ![256, 128] (boxIn 0 256 256 128 (by omega) (by omega)), pl2 i x1 ca⟩,
    ⟨Rect.unit (s := S256x1024) ![0, 128] ![256, 128] (boxIn 0 128 256 128 (by omega) (by omega)), pl1 i x1 ca⟩,
    ⟨Rect.unit (s := S256x1024) ![0, 0] ![256, 128] (boxIn 0 0 256 128 (by omega) (by omega)), pl0 i x1 ca⟩]

variable {i x0 x1 x2 x3 x4 x5 x6 x7 x8 x9 x10 x11 ca cz} {a} {t}
variable (T : Tile a t x0 x1 x2 x3 x4 x5 x6 x7 x8 x9 x10 x11 ca cz)
include T

theorem boxP (p k : ℕ) (h : p + k ≤ 6144) (r : Fin 256) (q : Fin k) (n : Fin 6144) (hn : n.val = p + q.val) :
    box x1 0 p 256 k (by omega) h (ix2 r q) = a.p (tileRow t r) n :=
  (box_eq x1 0 p 256 k (by omega) h r q r n (Nat.zero_add _).symm hn).trans (T.p r n)

theorem u_T (r : Fin 256) (n : Fin 512) : uT x1 (ix2 r n) = a.u (tileRow t r) n :=
  (u_apply _ r n).trans (congrArg Cert.Step.gelu (boxP T 512 1024 (by omega) r ⟨n.val, by omega⟩ ⟨512 + n.val, by omega⟩ rfl))

theorem vn_T (r : Fin 256) (n : Fin 512) : nT x1 x4 (ix2 r n) = a.vn (tileRow t r) n := by
  refine (vn_apply _ _ r n).trans ?_
  have e : ∀ q : Fin 512, inU x1 (ix2 r ⟨512 + q.val, by omega⟩) = a.p (tileRow t r) ⟨1024 + q.val, by omega⟩ := fun q =>
    boxP T 512 1024 (by omega) r _ _ (by show 1024 + q.val = 512 + (512 + q.val); omega)
  simp only [e, T.gs]
  rfl

theorem cz_T (r : Fin 256) (n : Fin 512) :
    k0_pay48 (zT x1) (extZ x1 cz) (oneRow x7 0) 2#32 (oneRow x7 1) (oneRow x7 2) (ix2 r n) = a.cz (tileRow t r) n :=
  cz_eq (fun r n => boxP T 2048 512 (by omega) r n _ rfl) (fun r n => boxP T 2560 512 (by omega) r n _ rfl) T.rowsZ
    (fun n => (oneRow_apply x7 0 n).trans (T.cc 0 n)) (fun n => (oneRow_apply x7 1 n).trans (T.cc 1 n)) (fun n => (oneRow_apply x7 2 n).trans (T.cc 2 n)) r n

theorem colsA_T (r : Fin 256) (n : Fin 512) : inA x1 (ix2 r n) = a.p (tileRow t r) (colA n) :=
  boxP T 0 512 (by omega) r n _ (Nat.zero_add _).symm

theorem wp_T (g : Fin 4) (d e : Fin 128) : slabP x2 g (ix3 0 d e) = a.wp g d e := (all_rows_apply x2 g 128 _ d e).trans (T.wp g d e)

theorem ws_T (g : Fin 4) (r s : Fin 128) : slabS x5 g (ix3 0 r s) = a.ws g r s := (all_rows_apply x5 g 128 _ r s).trans (T.ws g r s)

theorem ps_T (g : Fin 4) (o : ℕ) (ho : o = 128 * g.val) (e : Fin 128) : box x3 0 o 1 128 (by omega) (by omega) (ix2 0 e) = a.ps (gcol g e) :=
  (box_eq x3 0 o 1 128 _ _ 0 e 0 (gcol g e) rfl (by show 128 * g.val + e.val = o + e.val; omega)).trans (T.ps _)

theorem bs_T (g : Fin 4) (o : ℕ) (ho : o = g.val) (r : Fin 128) : box x6 0 o 128 1 (by omega) (by omega) (ix2 r 0) = a.bs g r :=
  (box_eq x6 0 o 128 1 _ _ r 0 r g (Nat.zero_add _).symm (by show g.val = o + 0; omega)).trans (T.bs _ _)

theorem keep_T (g : Fin 4) (k : FVec Ideal S128x128 .bf16) (hk : ∀ r s, k (ix2 r s) = if s ≤ r then slabS x5 g (ix3 0 r s) else 0) (r s : Fin 128) :
    k (ix2 r s) = if s ≤ r then a.ws g r s else 0 := by
  rw [hk, ws_T T]

theorem gate_T (c : Fin 2) (g : Fin 4) (o : ℕ) (ho : o = g.val) (k : FVec Ideal S128x128 .bf16)
    (hk : ∀ r s, k (ix2 r s) = if s ≤ r then slabS x5 g (ix3 0 r s) else 0) (r d : Fin 128) :
    gateAt (uT x1) (box x6 0 o 128 1 (by omega) (by omega)) r d (nT x1 x4) k c g = a.yb (tileRow t ⟨128 * c.val + r.val, by omega⟩) g d :=
  gate_of c g r d (u_T T) (vn_T T) (keep_T T g k hk) (bs_T T g o ho)

variable (hi : (i 0).val = t.val)
include hi

theorem yPieces_of : View.PiecesOf (yG a t) (yPieces i x1 x2 x3 x4 x5 x6 x7 ca cz) :=
  ⟨pieceC _ fun r n => (yc_apply _ _ _ _ _ _ _ r n).trans
      (congrArg₂ (· * ·) (boxP T 1536 512 (by omega) r n _ rfl) (cz_T T r n)),
    pieceB 1 3 128 896 rfl rfl _ fun r d => (gate13 _ _ _ _ _ _ _).trans (gate_T T 1 3 3 rfl _ (mask3_apply _) r d),
    pieceB 0 3 0 896 rfl rfl _ fun r d => (gate03 _ _ _ _ _ _ _).trans (gate_T T 0 3 3 rfl _ (mask3_apply _) r d),
    pieceB 1 2 128 768 rfl rfl _ fun r d => (gate12 _ _ _ _ _ _ _).trans (gate_T T 1 2 2 rfl _ (mask2_apply _) r d),
    pieceB 0 2 0 768 rfl rfl _ fun r d => (gate02 _ _ _ _ _ _ _).trans (gate_T T 0 2 2 rfl _ (mask2_apply _) r d),
    pieceB 1 1 128 640 rfl rfl _ fun r d => (gate11 _ _ _ _ _ _).trans (gate_T T 1 1 1 rfl _ (mask1_apply _) r d),
    pieceB 0 1 0 640 rfl rfl _ fun r d => (gate01 _ _ _ _ _ _ _).trans (gate_T T 0 1 1 rfl _ (mask1_apply _) r d),
    pieceB 1 0 128 512 rfl rfl _ fun r d => (gate10 _ _ _ _ _ _ _).trans (gate_T T 1 0 0 rfl _ (mask0_apply _) r d),
    pieceB 0 0 0 512 rfl rfl _ fun r d => (gate00 _ _ _ _ _ _ _).trans (gate_T T 0 0 0 rfl _ (mask0_apply _) r d),
    pieceA 3 384 rfl _ fun r e => (scaled3_apply _ _ _ _ _).trans
      (scaled_of 3 r e (wp_T T 3) (ps_T T 3 384 rfl) (pool3 (colsA_T T) T.rowsA hi r)),
    pieceA 2 256 rfl _ fun r e => (scaled2_apply _ _ _ _ _ _ _ _).trans
      (scaled_of 2 r e (wp_T T 2) (ps_T T 2 256 rfl) (pool2 (colsA_T T) T.rowsA hi r)),
    pieceA 1 128 rfl _ fun r e => (scaled1_apply _ _ _ _ _ _ _).trans
      (scaled_of 1 r e (wp_T T 1) (ps_T T 1 128 rfl) (pool1 (colsA_T T) T.rowsA hi r)),
    pieceA 0 0 rfl _ fun r e => (scaled0_apply _ _ _ _ _ _ _).trans
      (scaled_of 0 r e (wp_T T 0) (ps_T T 0 0 rfl) (pool0 (colsA_T T) T.rowsA hi r)),
    trivial⟩

theorem pzPieces_of : View.PiecesOf (pzG a t) (pzPieces i x1 x7 ca cz) :=
  ⟨pieceCz _ fun r n => cz_T T r n,
    piecePool 3 384 rfl _ fun r d => pool3 (colsA_T T) T.rowsA hi r d,
    piecePool 2 256 rfl _ fun r d => pool2 (colsA_T T) T.rowsA hi r d,
    piecePool 1 128 rfl _ fun r d => pool1 (colsA_T T) T.rowsA hi r d,
    piecePool 0 0 rfl _ fun r d => pool0 (colsA_T T) T.rowsA hi r d,
    trivial⟩

end

end Cert.MixKernelIdeal.Body

end
-- ==== Proof.MixBranch.lean ====
/- The mixer's branches on one tile of rows: the branches' rows as the body reads them back from where it stored them, their products
   with the weights, the gated sum and the output. -/
module

public import proofs.«01_k».proof.Proof.MixPieces

@[expose] public section

set_option maxRecDepth 16384

noncomputable section

namespace Cert.MixKernelIdeal.Body

open Cert.MixKernelIdeal Cert.MixKernelIdeal.Gen Idealize.ShloMosaic Idealize.ShloMosaic.TcCoe Idealize.SL.Sem
open Cert.Step (MixArgs sg gcol)
open Cert.Slab

section
variable (i : grid0.Coords) (x0 : Vec Ideal S256x1024 .f32) (x1 : Vec Ideal S256x6144 .bf16) (x2 : Vec Ideal S4x128x128 .bf16)
    (x3 x4 : Vec Ideal S1x512 .f32) (x5 : Vec Ideal S4x128x128 .f32) (x6 : Vec Ideal S128x4 .f32) (x7 : Vec Ideal S3x512 .f32)
    (x8 x9 x10 : Vec Ideal S8x512x128 .bf16) (x11 : Vec Ideal S8x128x1024 .bf16) (ca : Vec Ideal S16x512 .f32) (cz : Vec Ideal S8x512 .f32)
    (Y0 Y1 Y2 : Vec Ideal S256x512 .bf16)

/-- Every entry of the branches' rows lies in one of the boxes stored. -/
theorem yPieces_cover (y : S256x1536.Idx) : ∃ p ∈ yPieces i x1 x2 x3 x4 x5 x6 x7 ca cz, y ∈ p.1.set := by
  obtain ⟨r, n, rfl⟩ : ∃ (r : Fin 256) (n : Fin 1536), y = ix2 r n := ⟨y 0, y 1, eq_ix2 y⟩
  unfold yPieces
  by_cases h0 : 1024 ≤ n.val
  · exact ⟨_, .head _, mem_box 0 1024 256 512 (by omega) (by omega) r n (by omega) (by omega)⟩
  by_cases h1 : 896 ≤ n.val
  · by_cases hr : 128 ≤ r.val
    · exact ⟨_, .tail _ (.head _), mem_box 128 896 128 128 (by omega) (by omega) r n (by omega) (by omega)⟩
    · exact ⟨_, .tail _ (.tail _ (.head _)), mem_box 0 896 128 128 (by omega) (by omega) r n (by omega) (by omega)⟩
  by_cases h3 : 768 ≤ n.val
  · by_cases hr : 128 ≤ r.val
    · exact ⟨_, .tail _ (.tail _ (.tail _ (.head _))), mem_box 128 768 128 128 (by omega) (by omega) r n (by omega) (by omega)⟩
    · exact ⟨_, .tail _ (.tail _ (.tail _ (.tail _ (.head _)))), mem_box 0 768 128 128 (by omega) (by omega) r n (by omega) (by omega)⟩
  by_cases h5 : 640 ≤ n.val
  · by_cases hr : 128 ≤ r.val
    · exact ⟨_, .tail _ (.tail _ (.tail _ (.tail _ (.tail _ (.head _))))), mem_box 128 640 128 128 (by omega) (by omega) r n (by omega) (by omega)⟩
    · exact ⟨_, .tail _ (.tail _ (.tail _ (.tail _ (.tail _ (.tail _ (.head _)))))), mem_box 0 640 128 128 (by omega) (by omega) r n (by omega) (by omega)⟩
  by_cases h7 : 512 ≤ n.val
  · by_cases hr : 128 ≤ r.val
    · exact ⟨_, .tail _ (.tail _ (.tail _ (.tail _ (.tail _ (.tail _ (.tail _ (.head _))))))), mem_box 128 512 128 128 (by omega) (by omega) r n (by omega) (by omega)⟩
    · exact ⟨_, .tail _ (.tail _ (.tail _ (.tail _ (.tail _ (.tail _ (.tail _ (.tail _ (.head _)))))))), mem_box 0 512 128 128 (by omega) (by omega) r n (by omega) (by omega)⟩
  by_cases h9 : 384 ≤ n.val
  · exact ⟨_, .tail _ (.tail _ (.tail _ (.tail _ (.tail _ (.tail _ (.tail _ (.tail _ (.tail _ (.head _))))))))), mem_box 0 384 256 128 (by omega) (by omega) r n (by omega) (by omega)⟩
  by_cases h10 : 256 ≤ n.val
  · exact ⟨_, .tail _ (.tail _ (.tail _ (.tail _ (.tail _ (.tail _ (.tail _ (.tail _ (.tail _ (.tail _ (.head _)))))))))), mem_box 0 256 256 128 (by omega) (by omega) r n (by omega) (by omega)⟩
  by_cases h11 : 128 ≤ n.val
  · exact ⟨_, .tail _ (.tail _ (.tail _ (.tail _ (.tail _ (.tail _ (.tail _ (.tail _ (.tail _ (.tail _ (.tail _ (.head _))))))))))), mem_box 0 128 256 128 (by omega) (by omega) r n (by omega) (by omega)⟩
  exact ⟨_, .tail _ (.tail _ (.tail _ (.tail _ (.tail _ (.tail _ (.tail _ (.tail _ (.tail _ (.tail _ (.tail _ (.tail _ (.head _)))))))))))), mem_box 0 0 256 128 (by omega) (by omega) r n (by omega) (by omega)⟩

/-- The three branches' products. -/
abbrev brA := k0_pay56 (k0_pay52 Y0) (k0_pay53 (slabW x8 0)) (k0_pay54 (slabW x8 1)) (k0_pay55 (slabW x8 2)) (slabW x8 3) (slabW x8 4) (slabW x8 5) (slabW x8 6) (slabW x8 7)
@[inherit_doc brA] abbrev brB := k0_pay62 (k0_pay59 Y1) (k0_pay60 (slabW x9 0)) (k0_pay61 (slabW x9 1)) (slabW x9 2) (slabW x9 3) (slabW x9 4) (slabW x9 5) (slabW x9 6) (slabW x9 7)
@[inherit_doc brA] abbrev brC := k0_pay66 (k0_pay65 Y2) (slabW x10 0) (slabW x10 1) (slabW x10 2) (slabW x10 3) (slabW x10 4) (slabW x10 5) (slabW x10 6) (slabW x10 7)

/-- The boxes of the branches side by side, the last stored first. -/
def bPieces : List (View.Piece (Elt Ideal) S256x3072 .bf16) :=
  [⟨Rect.unit (s := S256x3072) ![0, 2048] ![256, 1024] (boxIn 0 2048 256 1024 (by omega) (by omega)),
      k0_pay67 (k0_pay65 Y2) (slabW x10 0) (slabW x10 1) (slabW x10 2) (slabW x10 3) (slabW x10 4) (slabW x10 5) (slabW x10 6) (slabW x10 7)⟩,
    ⟨Rect.unit (s := S256x3072) ![0, 1024] ![256, 1024] (boxIn 0 1024 256 1024 (by omega) (by omega)),
      k0_pay63 (k0_pay59 Y1) (k0_pay60 (slabW x9 0)) (k0_pay61 (slabW x9 1)) (slabW x9 2) (slabW x9 3) (slabW x9 4) (slabW x9 5) (slabW x9 6) (slabW x9 7)⟩,
    ⟨Rect.unit (s := S256x3072) ![0, 0] ![256, 1024] (boxIn 0 0 256 1024 (by omega) (by omega)),
      k0_pay57 (k0_pay52 Y0) (k0_pay53 (slabW x8 0)) (k0_pay54 (slabW x8 1)) (k0_pay55 (slabW x8 2)) (slabW x8 3) (slabW x8 4) (slabW x8 5) (slabW x8 6) (slabW x8 7)⟩]

/-- The gated sum of the first two branches. -/
abbrev twoT := k0_pay64 (k0_pay58 (k0_pay51 (F := Ideal)) (k0_pay52 Y0) (k0_pay53 (slabW x8 0)) (k0_pay54 (slabW x8 1)) (k0_pay55 (slabW x8 2)) (slabW x8 3) (slabW x8 4) (slabW x8 5) (slabW x8 6) (slabW x8 7) (box x1 0 3072 256 1024))
  (k0_pay59 Y1) (k0_pay60 (slabW x9 0)) (k0_pay61 (slabW x9 1)) (slabW x9 2) (slabW x9 3) (slabW x9 4) (slabW x9 5) (slabW x9 6) (slabW x9 7) (box x1 0 4096 256 1024)

/-- The gated sum of all three, and the output. -/
abbrev mergedT := k0_pay1 (twoT x1 x8 x9 Y0 Y1) (brC x10 Y2) (k0_pay68 (box x1 0 5120 256 1024)) (Ideal.ofBits .f32 0x3F000000#32)
@[inherit_doc mergedT] abbrev outT := k0_pay2 (twoT x1 x8 x9 Y0 Y1) (brC x10 Y2) (k0_pay68 (box x1 0 5120 256 1024)) (Ideal.ofBits .f32 0x3F000000#32) x0 x11

end

/-- A branch's columns among the three side by side. -/
abbrev y0c (n : Fin 512) : Fin 1536 := ⟨n.val, by omega⟩
@[inherit_doc y0c] abbrev y1c (n : Fin 512) : Fin 1536 := ⟨512 + n.val, by omega⟩
@[inherit_doc y0c] abbrev y2c (n : Fin 512) : Fin 1536 := ⟨1024 + n.val, by omega⟩

section
variable {a : MixArgs} {t : Fin 32} {x0 : Vec Ideal S256x1024 .f32} {x1 : Vec Ideal S256x6144 .bf16} {x2 : Vec Ideal S4x128x128 .bf16}
    {x3 x4 : Vec Ideal S1x512 .f32} {x5 : Vec Ideal S4x128x128 .f32} {x6 : Vec Ideal S128x4 .f32} {x7 : Vec Ideal S3x512 .f32}
    {x8 x9 x10 : Vec Ideal S8x512x128 .bf16} {x11 : Vec Ideal S8x128x1024 .bf16} {ca : Vec Ideal S16x512 .f32} {cz : Vec Ideal S8x512 .f32}
    {Y0 Y1 Y2 : Vec Ideal S256x512 .bf16}
    (T : Tile a t x0 x1 x2 x3 x4 x5 x6 x7 x8 x9 x10 x11 ca cz)
    (h0 : ∀ r (n : Fin 512), Y0 (ix2 r n) = a.y (tileRow t r) (y0c n))
    (h1 : ∀ r (n : Fin 512), Y1 (ix2 r n) = a.y (tileRow t r) (y1c n))
    (h2 : ∀ r (n : Fin 512), Y2 (ix2 r n) = a.y (tileRow t r) (y2c n))
include T

/-- What the body reads back of the branches' rows. -/
theorem back {i : grid0.Coords} (hi : (i 0).val = t.val) {κ : Kind} {sp : Space} (v : View sig κ sp S256x1536 .bf16) (o : ℕ) (ho : o + 512 ≤ 1536) (q : Fin 512 → Fin 1536) (hq : ∀ n, (q n).val = o + n.val)
    (r : Fin 256) (n : Fin 512) :
    v.readCov (yPieces i x1 x2 x3 x4 x5 x6 x7 ca cz) (Rect.unit (s := S256x1536) ![0, o] ![256, 512] (boxIn 0 o 256 512 (by omega) ho)).toLoadRect (ix2 r n)
      = a.y (tileRow t r) (q n) := by
  rw [View.readCov_eq_canon']
  refine (View.canon_apply_of_pieces (yG a t) _ (View.PiecesOf.mem (yPieces_of T hi)) _ (yPieces_cover i x1 x2 x3 x4 x5 x6 x7 ca cz _)).trans ?_
  refine (congrArg (yG a t) (box_emb 0 o 256 512 (by omega) ho r n)).trans ?_
  exact congrArg₂ a.y (rowAt r _ (Nat.zero_add _)) (Fin.ext (hq n).symm)

include h0 in
theorem brA_T (r : Fin 256) (k : Fin 1024) : brA x8 Y0 (ix2 r k) = a.ba (tileRow t r) k := by
  refine (branch0_apply (k0_pay52 Y0) (slabW x8) a.wa (fun j n q => (all_rows_apply x8 j 512 _ n q).trans (T.wa j n q)) r k).trans ?_
  refine Finset.sum_congr rfl fun n _ => congrArg (· * a.wa n k) ?_
  have e : k0_pay52 Y0 (ix2 r n) = Y0 (ix2 r n) := by pointwise [k0_pay52]
  rw [e, h0]

include h1 in
theorem brB_T (r : Fin 256) (k : Fin 1024) : brB x9 Y1 (ix2 r k) = a.bb (tileRow t r) k := by
  refine (branch1_apply (k0_pay59 Y1) (slabW x9) a.wb (fun j n q => (all_rows_apply x9 j 512 _ n q).trans (T.wb j n q)) r k).trans ?_
  refine Finset.sum_congr rfl fun n _ => congrArg (· * a.wb n k) ?_
  have e : k0_pay59 Y1 (ix2 r n) = Y1 (ix2 r n) := by pointwise [k0_pay59]
  rw [e, h1]

include h2 in
theorem brC_T (r : Fin 256) (k : Fin 1024) : brC x10 Y2 (ix2 r k) = a.bc (tileRow t r) k := by
  refine (branch2_apply (k0_pay65 Y2) (slabW x10) a.wc (fun j n q => (all_rows_apply x10 j 512 _ n q).trans (T.wc j n q)) r k).trans ?_
  refine Finset.sum_congr rfl fun n _ => congrArg (· * a.wc n k) ?_
  have e : k0_pay65 Y2 (ix2 r n) = Y2 (ix2 r n) := by pointwise [k0_pay65]
  rw [e, h2]

omit T in
theorem pieceBr (o : ℕ) (ho : o + 1024 ≤ 3072) (w : S256x1024.Idx → EReal) (f : Fin 8192 → Fin 1024 → EReal)
    (hf : ∀ i (k : Fin 1024), a.b i ⟨o + k.val, by omega⟩ = f i k) (hw : ∀ r k, w (ix2 r k) = f (tileRow t r) k) (x : S256x1024.Idx) :
    w x = bG a t ((Rect.unit (s := S256x3072) ![0, o] ![256, 1024] (boxIn 0 o 256 1024 (by omega) ho)).emb x) :=
  boxPiece (e := .bf16) (bG a t) 0 o 256 1024 (by omega) ho w (fun r q => (hw r q).trans (by
    unfold bG
    exact (congrArg (fun i => f i q) (rowAt r _ (Nat.zero_add _)).symm).trans (hf _ q).symm)) x

include h0 h1 h2

theorem bPieces_of : View.PiecesOf (bG a t) (bPieces x8 x9 x10 Y0 Y1 Y2) :=
  ⟨pieceBr 2048 (by omega) _ a.bc (fun i k => by
      unfold MixArgs.b
      rw [dif_neg (by simp only [not_lt]; omega), dif_neg (by simp only [not_lt]; omega)]
      simp only [Nat.add_sub_cancel_left]) (brC_T T h2),
    pieceBr 1024 (by omega) _ a.bb (fun i k => by
      unfold MixArgs.b
      rw [dif_neg (by simp only [not_lt]; omega), dif_pos (by show 1024 + k.val < 2048; omega)]
      simp only [Nat.add_sub_cancel_left]) (brB_T T h1),
    pieceBr 0 (by omega) _ a.ba (fun i k => by
      unfold MixArgs.b
      rw [dif_pos (by show 0 + k.val < 1024; omega)]
      simp only [Nat.zero_add]) (brA_T T h0),
    trivial⟩

theorem merged_T (r : Fin 256) (k : Fin 1024) : mergedT x1 x8 x9 x10 Y0 Y1 Y2 (ix2 r k) = a.merged (tileRow t r) k := by
  refine (merged_apply _ _ _ r k).trans ?_
  have e2 : twoT x1 x8 x9 Y0 Y1 (ix2 r k) = sg (box x1 0 3072 256 1024 (by omega) (by omega) (ix2 r k)) * brA x8 Y0 (ix2 r k)
      + sg (box x1 0 4096 256 1024 (by omega) (by omega) (ix2 r k)) * brB x9 Y1 (ix2 r k) :=
    (gateB_apply _ _ _ _ _ _ _ _ _ _ _ r k).trans (congrArg (· + _) (gateA_apply _ _ _ _ _ _ _ _ _ _ r k))
  rw [brC_T T h2, e2]
  have e0 := brA_T T h0 r k
  have e1 := brB_T T h1 r k
  unfold MixArgs.merged
  rw [← e0, ← e1, boxP T 3072 1024 (by omega) r k ⟨3072 + k.val, by omega⟩ rfl, boxP T 4096 1024 (by omega) r k ⟨4096 + k.val, by omega⟩ rfl,
    boxP T 5120 1024 (by omega) r k ⟨5120 + k.val, by omega⟩ rfl]

theorem out_T (r : Fin 256) (k : Fin 1024) : outT x0 x1 x8 x9 x10 x11 Y0 Y1 Y2 (ix2 r k) = a.out (tileRow t r) k := by
  refine (out_apply _ _ _ _ _ _ r k).trans ?_
  unfold MixArgs.out
  rw [T.x]
  refine congrArg (a.x (tileRow t r) k + ·) (Finset.sum_congr rfl fun n _ => congrArg₂ (· * ·) (merged_T T h0 h1 h2 r n) ?_)
  rw [T.wo]
  exact congrArg (fun n => a.wo n k) (Fin.ext (by show 128 * (n.val / 128) + n.val % 128 = n.val; omega))

end

end Cert.MixKernelIdeal.Body

end
-- ==== Proof.MixTail.lean ====
/- The rows that a tile of the mixer hands to the next: the last sixteen of the first branch's columns, the last eight of the third's product. -/
module

public import proofs.«01_k».proof.Proof.MixBranch

@[expose] public section

set_option maxRecDepth 16384

noncomputable section

namespace Cert.MixKernelIdeal.Body

open Cert.MixKernelIdeal Cert.MixKernelIdeal.Gen Idealize.ShloMosaic Idealize.ShloMosaic.TcCoe Idealize.SL.Sem
open Cert.Step (MixArgs)
open Cert.Slab

/-- A tile's last rows. -/
abbrev last16 (s : Fin 16) : Fin 256 := ⟨240 + s.val, by omega⟩
@[inherit_doc last16] abbrev last8 (s : Fin 8) : Fin 256 := ⟨248 + s.val, by omega⟩

/-- What is handed on. -/
def tailAG (a : MixArgs) (t : Fin 32) (y : S16x512.Idx) : EReal := a.p (tileRow t (last16 (y 0))) (colA (y 1))
@[inherit_doc tailAG] def tailZG (a : MixArgs) (t : Fin 32) (y : S8x512.Idx) : EReal := a.z (tileRow t (last8 (y 0))) (y 1)

theorem mem_whole {B : ℕ} (A : ℕ) (y : (⟨2, ![A, B]⟩ : Shape).Idx) :
    y ∈ (Rect.unit (s := ⟨2, ![A, B]⟩) ![0, 0] ![A, B] (boxIn 0 0 A B (by omega) (by omega))).set := by
  obtain ⟨r, q, rfl⟩ : ∃ (r : Fin A) (q : Fin B), y = ix2 r q := ⟨y 0, y 1, eq_ix2 y⟩
  exact mem_box 0 0 A B (by omega) (by omega) r q (by omega) (by omega)

/-- What is stored of them. -/
def tailAP (x1 : Vec Ideal S256x6144 .bf16) : List (View.Piece (Elt Ideal) S16x512 .f32) :=
  [⟨Rect.unit (s := S16x512) ![0, 0] ![16, 512] (boxIn 0 0 16 512 (by omega) (by omega)), k0_pay7 (inA x1)⟩]

@[inherit_doc tailAP] def tailZP (x1 : Vec Ideal S256x6144 .bf16) : List (View.Piece (Elt Ideal) S8x512 .f32) :=
  [⟨Rect.unit (s := S8x512) ![0, 0] ![8, 512] (boxIn 0 0 8 512 (by omega) (by omega)), k0_pay47 (box x1 0 2048 256 512) (box x1 0 2560 256 512)⟩]

theorem tailA_cover (x1 : Vec Ideal S256x6144 .bf16) (y : S16x512.Idx) : ∃ p ∈ tailAP x1, y ∈ p.1.set := ⟨_, .head _, mem_whole 16 y⟩

theorem tailZ_cover (x1 : Vec Ideal S256x6144 .bf16) (y : S8x512.Idx) : ∃ p ∈ tailZP x1, y ∈ p.1.set := ⟨_, .head _, mem_whole 8 y⟩

section
variable {a : MixArgs} {t : Fin 32} {x0 : Vec Ideal S256x1024 .f32} {x1 : Vec Ideal S256x6144 .bf16} {x2 : Vec Ideal S4x128x128 .bf16}
    {x3 x4 : Vec Ideal S1x512 .f32} {x5 : Vec Ideal S4x128x128 .f32} {x6 : Vec Ideal S128x4 .f32} {x7 : Vec Ideal S3x512 .f32}
    {x8 x9 x10 : Vec Ideal S8x512x128 .bf16} {x11 : Vec Ideal S8x128x1024 .bf16} {ca : Vec Ideal S16x512 .f32} {cz : Vec Ideal S8x512 .f32}
    (T : Tile a t x0 x1 x2 x3 x4 x5 x6 x7 x8 x9 x10 x11 ca cz)
include T

theorem tailAPiece (x : S16x512.Idx) : k0_pay7 (inA x1) x
    = tailAG a t ((Rect.unit (s := S16x512) ![0, 0] ![16, 512] (boxIn 0 0 16 512 (by omega) (by omega))).emb x) :=
  boxPiece (e := .f32) (tailAG a t) 0 0 16 512 (by omega) (by omega) _ (fun s n => by
    refine (tailA_apply _ s n).trans ((colsA_T T _ n).trans ?_)
    unfold tailAG
    exact congrArg₂ a.p (rowAt _ _ (by show 240 + s.val = 240 + (0 + s.val); omega)) (Fin.ext (by show n.val = 0 + n.val; omega))) x

theorem tailZPiece (x : S8x512.Idx) : k0_pay47 (box x1 0 2048 256 512) (box x1 0 2560 256 512) x
    = tailZG a t ((Rect.unit (s := S8x512) ![0, 0] ![8, 512] (boxIn 0 0 8 512 (by omega) (by omega))).emb x) :=
  boxPiece (e := .f32) (tailZG a t) 0 0 8 512 (by omega) (by omega) _ (fun s n => by
    refine (tailZ_apply _ _ s n).trans ((congrArg₂ (· * ·) (boxP T 2048 512 (by omega) _ n (colX n) rfl) (boxP T 2560 512 (by omega) _ n (colY n) rfl)).trans ?_)
    unfold tailZG
    exact congrArg₂ a.z (rowAt _ _ (by show 248 + s.val = 248 + (0 + s.val); omega)) (Fin.ext (by show n.val = 0 + n.val; omega))) x

theorem tailA_of : View.PiecesOf (tailAG a t) (tailAP x1) := ⟨tailAPiece T, trivial⟩

theorem tailZ_of : View.PiecesOf (tailZG a t) (tailZP x1) := ⟨tailZPiece T, trivial⟩

end

end Cert.MixKernelIdeal.Body

end
-- ==== Proof.MixBodyA.lean ====
/- What the first grid point of the mixer leaves in its results and in the rows it hands on: it starts from rows of zero. -/
module

public import proofs.«01_k».proof.Proof.MixTail
public import proofs.«01_k».proof.Proof.Gen.MixKernelIdeal.Frame

@[expose] public section

set_option maxRecDepth 16384

noncomputable section

namespace Cert.MixKernelIdeal.Body

open Cert.MixKernelIdeal Cert.MixKernelIdeal.Gen Idealize.ShloMosaic Idealize.ShloMosaic.TcCoe Idealize.SL.Sem
open Cert.Step (MixArgs)
open Cert.Slab

theorem readCov_fillA {κ : Kind} {sp : Space} (v : View sig κ sp S16x512 .f32) (inb) (Z : Vec Ideal S16x512 .f32)
    (L : List (View.Piece (Elt Ideal) S16x512 .f32)) (r : Rect S16x512) :
    v.readCov (⟨Rect.unit (s := S16x512) ![0, 0] ![16, 512] inb, Z⟩ :: L) r.toLoadRect = View.ld Z r :=
  View.readCov_fill v inb Z L r (congrFun hz)

theorem readCov_fillZ {κ : Kind} {sp : Space} (v : View sig κ sp S8x512 .f32) (inb) (Z : Vec Ideal S8x512 .f32)
    (L : List (View.Piece (Elt Ideal) S8x512 .f32)) (r : Rect S8x512) :
    v.readCov (⟨Rect.unit (s := S8x512) ![0, 0] ![8, 512] inb, Z⟩ :: L) r.toLoadRect = View.ld Z r :=
  View.readCov_fill v inb Z L r (congrFun hz)

section
variable
  {a : MixArgs} {t : Fin 32} (c : Dev nD) {i : grid0.Coords} (hi : (i 0).val = t.val)
  (a1 : Memref sig .tc .vmem S256x1024 .f32) (h1 : a1.IsWhole) (a2 : Memref sig .tc .vmem S256x6144 .bf16) (h2 : a2.IsWhole)
  (a3 : Memref sig .tc .vmem S4x128x128 .bf16) (h3 : a3.IsWhole) (a4 : Memref sig .tc .vmem S1x512 .f32) (h4 : a4.IsWhole)
  (a5 : Memref sig .tc .vmem S1x512 .f32) (h5 : a5.IsWhole) (a6 : Memref sig .tc .vmem S4x128x128 .f32) (h6 : a6.IsWhole)
  (a7 : Memref sig .tc .vmem S128x4 .f32) (h7 : a7.IsWhole) (a8 : Memref sig .tc .vmem S3x512 .f32) (h8 : a8.IsWhole)
  (a9 : Memref sig .tc .vmem S8x512x128 .bf16) (h9 : a9.IsWhole) (a10 : Memref sig .tc .vmem S8x512x128 .bf16) (h10 : a10.IsWhole)
  (a11 : Memref sig .tc .vmem S8x512x128 .bf16) (h11 : a11.IsWhole) (a12 : Memref sig .tc .vmem S8x128x1024 .bf16) (h12 : a12.IsWhole)
  (a13 : Memref sig .tc .vmem S256x1024 .f32) (h13 : a13.IsWhole) (a14 : Memref sig .tc .vmem S256x1536 .bf16) (h14 : a14.IsWhole)
  (a15 : Memref sig .tc .vmem S256x1024 .bf16) (h15 : a15.IsWhole) (a16 : Memref sig .tc .vmem S256x3072 .bf16) (h16 : a16.IsWhole)
  (a17 : Memref sig .tc .vmem S256x1024 .bf16) (h17 : a17.IsWhole) (a18 : Memref sig .tc .vmem S16x512 .f32) (h18 : a18.IsWhole)
  (a19 : Memref sig .tc .vmem S8x512 .f32) (h19 : a19.IsWhole)
  {x0 : Vec Ideal S256x1024 .f32} {x1 : Vec Ideal S256x6144 .bf16} {x2 : Vec Ideal S4x128x128 .bf16}
  {x3 x4 : Vec Ideal S1x512 .f32} {x5 : Vec Ideal S4x128x128 .f32} {x6 : Vec Ideal S128x4 .f32} {x7 : Vec Ideal S3x512 .f32}
  {x8 x9 x10 : Vec Ideal S8x512x128 .bf16} {x11 : Vec Ideal S8x128x1024 .bf16}
  (hc : cond0_0 i) (T : Tile a t x0 x1 x2 x3 x4 x5 x6 x7 x8 x9 x10 x11 (k0_pay3 (F := Ideal)) (k0_pay4 (F := Ideal)))
include hi T

theorem out_A_12 (r : Fin 256) (k : Fin 1024) : out0_A_12 c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 x10 x11 (ix2 r k) = a.out (tileRow t r) k := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 x10 x11)]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S256x1024) hz, View.ld_unit_zero (S := S1x512) hz, View.ld_unit_zero (S := S8x128x1024) hz3]
  try simp only [readCov_fillA, readCov_fillZ, View.ld_unit_zero (S := S16x512) hz, View.ld_unit_zero (S := S8x512) hz]
  rw [View.canon_unit_zero hz]
  exact out_T T (back T hi a14.view 0 (by omega) y0c (fun n => (Nat.zero_add _).symm)) (back T hi a14.view 512 (by omega) y1c (fun n => rfl)) (back T hi a14.view 1024 (by omega) y2c (fun n => rfl)) r k

theorem out_A_16 (r : Fin 256) (k : Fin 1024) : out0_A_16 c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 x10 x11 (ix2 r k) = a.merged (tileRow t r) k := by
  unfold out0_A_16
  rw [View.read_writes_eq_canon _ _ _ (cover0_A_16 c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 x10 x11)]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S256x1024) hz, View.ld_unit_zero (S := S1x512) hz, View.ld_unit_zero (S := S8x128x1024) hz3]
  try simp only [readCov_fillA, readCov_fillZ, View.ld_unit_zero (S := S16x512) hz, View.ld_unit_zero (S := S8x512) hz]
  rw [View.canon_unit_zero hz]
  exact merged_T T (back T hi a14.view 0 (by omega) y0c (fun n => (Nat.zero_add _).symm)) (back T hi a14.view 512 (by omega) y1c (fun n => rfl)) (back T hi a14.view 1024 (by omega) y2c (fun n => rfl)) r k

theorem out_A_13 (y : S256x1536.Idx) : out0_A_13 c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 x10 x11 y = yG a t y := by
  unfold out0_A_13
  refine View.read_writes_apply_of_pieces (Val := Elt Ideal) _ _ (yG a t) _ (View.PiecesOf.mem ?_) y (cover0_A_13 (F := Ideal) ..)
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S256x1024) hz, View.ld_unit_zero (S := S1x512) hz, View.ld_unit_zero (S := S8x128x1024) hz3]
  try simp only [readCov_fillA, readCov_fillZ, View.ld_unit_zero (S := S16x512) hz, View.ld_unit_zero (S := S8x512) hz]
  exact yPieces_of T hi

theorem out_A_14 (y : S256x1024.Idx) : out0_A_14 c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 x10 x11 y = pzG a t y := by
  unfold out0_A_14
  refine View.read_writes_apply_of_pieces (Val := Elt Ideal) _ _ (pzG a t) _ (View.PiecesOf.mem ?_) y (cover0_A_14 (F := Ideal) ..)
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S256x1024) hz, View.ld_unit_zero (S := S1x512) hz, View.ld_unit_zero (S := S8x128x1024) hz3]
  try simp only [readCov_fillA, readCov_fillZ, View.ld_unit_zero (S := S16x512) hz, View.ld_unit_zero (S := S8x512) hz]
  exact pzPieces_of T hi

theorem out_A_15 (y : S256x3072.Idx) : out0_A_15 c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 x10 x11 y = bG a t y := by
  unfold out0_A_15
  refine View.read_writes_apply_of_pieces (Val := Elt Ideal) _ _ (bG a t) _ (View.PiecesOf.mem ?_) y (cover0_A_15 (F := Ideal) ..)
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S256x1024) hz, View.ld_unit_zero (S := S1x512) hz, View.ld_unit_zero (S := S8x128x1024) hz3]
  try simp only [readCov_fillA, readCov_fillZ, View.ld_unit_zero (S := S16x512) hz, View.ld_unit_zero (S := S8x512) hz]
  exact bPieces_of T (back T hi a14.view 0 (by omega) y0c (fun n => (Nat.zero_add _).symm)) (back T hi a14.view 512 (by omega) y1c (fun n => rfl)) (back T hi a14.view 1024 (by omega) y2c (fun n => rfl))

theorem sout_A_0 (y : S16x512.Idx) : sout0_A_0 c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 x10 x11 y = tailAG a t y := by
  unfold sout0_A_0
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S256x1024) hz, View.ld_unit_zero (S := S1x512) hz, View.ld_unit_zero (S := S8x128x1024) hz3]
  try simp only [readCov_fillA, readCov_fillZ, View.ld_unit_zero (S := S16x512) hz, View.ld_unit_zero (S := S8x512) hz]
  refine (congrFun (congrArg _ (View.writes_append VS0_0 _ (tailAP x1) [_])) y).trans ?_
  exact View.read_writes_apply_of_pieces (Val := Elt Ideal) _ _ (tailAG a t) (tailAP x1) (View.PiecesOf.mem (tailA_of T)) y (tailA_cover x1 y)

theorem sout_A_1 (y : S8x512.Idx) : sout0_A_1 c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 x10 x11 y = tailZG a t y := by
  unfold sout0_A_1
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S256x1024) hz, View.ld_unit_zero (S := S1x512) hz, View.ld_unit_zero (S := S8x128x1024) hz3]
  try simp only [readCov_fillA, readCov_fillZ, View.ld_unit_zero (S := S16x512) hz, View.ld_unit_zero (S := S8x512) hz]
  refine (congrFun (congrArg _ (View.writes_append VS0_1 _ (tailZP x1) [_])) y).trans ?_
  exact View.read_writes_apply_of_pieces (Val := Elt Ideal) _ _ (tailZG a t) (tailZP x1) (View.PiecesOf.mem (tailZ_of T)) y (tailZ_cover x1 y)

end

end Cert.MixKernelIdeal.Body

end
-- ==== Proof.MixBodyB.lean ====
/- What a later grid point of the mixer leaves in its results and in the rows it hands on: it starts from the rows handed to it. -/
module

public import proofs.«01_k».proof.Proof.MixTail
public import proofs.«01_k».proof.Proof.Gen.MixKernelIdeal.Frame

@[expose] public section

set_option maxRecDepth 16384

noncomputable section

namespace Cert.MixKernelIdeal.Body

open Cert.MixKernelIdeal Cert.MixKernelIdeal.Gen Idealize.ShloMosaic Idealize.ShloMosaic.TcCoe Idealize.SL.Sem
open Cert.Step (MixArgs)
open Cert.Slab

section
variable
  {a : MixArgs} {t : Fin 32} (c : Dev nD) {i : grid0.Coords} (hi : (i 0).val = t.val)
  (a1 : Memref sig .tc .vmem S256x1024 .f32) (h1 : a1.IsWhole) (a2 : Memref sig .tc .vmem S256x6144 .bf16) (h2 : a2.IsWhole)
  (a3 : Memref sig .tc .vmem S4x128x128 .bf16) (h3 : a3.IsWhole) (a4 : Memref sig .tc .vmem S1x512 .f32) (h4 : a4.IsWhole)
  (a5 : Memref sig .tc .vmem S1x512 .f32) (h5 : a5.IsWhole) (a6 : Memref sig .tc .vmem S4x128x128 .f32) (h6 : a6.IsWhole)
  (a7 : Memref sig .tc .vmem S128x4 .f32) (h7 : a7.IsWhole) (a8 : Memref sig .tc .vmem S3x512 .f32) (h8 : a8.IsWhole)
  (a9 : Memref sig .tc .vmem S8x512x128 .bf16) (h9 : a9.IsWhole) (a10 : Memref sig .tc .vmem S8x512x128 .bf16) (h10 : a10.IsWhole)
  (a11 : Memref sig .tc .vmem S8x512x128 .bf16) (h11 : a11.IsWhole) (a12 : Memref sig .tc .vmem S8x128x1024 .bf16) (h12 : a12.IsWhole)
  (a13 : Memref sig .tc .vmem S256x1024 .f32) (h13 : a13.IsWhole) (a14 : Memref sig .tc .vmem S256x1536 .bf16) (h14 : a14.IsWhole)
  (a15 : Memref sig .tc .vmem S256x1024 .bf16) (h15 : a15.IsWhole) (a16 : Memref sig .tc .vmem S256x3072 .bf16) (h16 : a16.IsWhole)
  (a17 : Memref sig .tc .vmem S256x1024 .bf16) (h17 : a17.IsWhole) (a18 : Memref sig .tc .vmem S16x512 .f32) (h18 : a18.IsWhole)
  (a19 : Memref sig .tc .vmem S8x512 .f32) (h19 : a19.IsWhole)
  {x0 : Vec Ideal S256x1024 .f32} {x1 : Vec Ideal S256x6144 .bf16} {x2 : Vec Ideal S4x128x128 .bf16}
  {x3 x4 : Vec Ideal S1x512 .f32} {x5 : Vec Ideal S4x128x128 .f32} {x6 : Vec Ideal S128x4 .f32} {x7 : Vec Ideal S3x512 .f32}
  {x8 x9 x10 : Vec Ideal S8x512x128 .bf16} {x11 : Vec Ideal S8x128x1024 .bf16}
  {xs0 : Vec Ideal S16x512 .f32} {xs1 : Vec Ideal S8x512 .f32}
  (hc : ¬cond0_0 i) (T : Tile a t x0 x1 x2 x3 x4 x5 x6 x7 x8 x9 x10 x11 xs0 xs1)
include hi T

theorem out_B_12 (r : Fin 256) (k : Fin 1024) : out0_B_12 c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 x10 x11 xs0 xs1 (ix2 r k) = a.out (tileRow t r) k := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 x10 x11 xs0 xs1)]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S256x1024) hz, View.ld_unit_zero (S := S1x512) hz, View.ld_unit_zero (S := S8x128x1024) hz3, h18.read_unread, h19.read_unread, View.ld_unit_zero (S := S16x512) hz, View.ld_unit_zero (S := S8x512) hz]
  rw [View.canon_unit_zero hz]
  exact out_T T (back T hi a14.view 0 (by omega) y0c (fun n => (Nat.zero_add _).symm)) (back T hi a14.view 512 (by omega) y1c (fun n => rfl)) (back T hi a14.view 1024 (by omega) y2c (fun n => rfl)) r k

theorem out_B_16 (r : Fin 256) (k : Fin 1024) : out0_B_16 c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 x10 x11 xs0 xs1 (ix2 r k) = a.merged (tileRow t r) k := by
  unfold out0_B_16
  rw [View.read_writes_eq_canon _ _ _ (cover0_B_16 c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 x10 x11 xs0 xs1)]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S256x1024) hz, View.ld_unit_zero (S := S1x512) hz, View.ld_unit_zero (S := S8x128x1024) hz3, h18.read_unread, h19.read_unread, View.ld_unit_zero (S := S16x512) hz, View.ld_unit_zero (S := S8x512) hz]
  rw [View.canon_unit_zero hz]
  exact merged_T T (back T hi a14.view 0 (by omega) y0c (fun n => (Nat.zero_add _).symm)) (back T hi a14.view 512 (by omega) y1c (fun n => rfl)) (back T hi a14.view 1024 (by omega) y2c (fun n => rfl)) r k

theorem out_B_13 (y : S256x1536.Idx) : out0_B_13 c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 x10 x11 xs0 xs1 y = yG a t y := by
  unfold out0_B_13
  refine View.read_writes_apply_of_pieces (Val := Elt Ideal) _ _ (yG a t) _ (View.PiecesOf.mem ?_) y (cover0_B_13 (F := Ideal) ..)
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S256x1024) hz, View.ld_unit_zero (S := S1x512) hz, View.ld_unit_zero (S := S8x128x1024) hz3, h18.read_unread, h19.read_unread, View.ld_unit_zero (S := S16x512) hz, View.ld_unit_zero (S := S8x512) hz]
  exact yPieces_of T hi

theorem out_B_14 (y : S256x1024.Idx) : out0_B_14 c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 x10 x11 xs0 xs1 y = pzG a t y := by
  unfold out0_B_14
  refine View.read_writes_apply_of_pieces (Val := Elt Ideal) _ _ (pzG a t) _ (View.PiecesOf.mem ?_) y (cover0_B_14 (F := Ideal) ..)
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S256x1024) hz, View.ld_unit_zero (S := S1x512) hz, View.ld_unit_zero (S := S8x128x1024) hz3, h18.read_unread, h19.read_unread, View.ld_unit_zero (S := S16x512) hz, View.ld_unit_zero (S := S8x512) hz]
  exact pzPieces_of T hi

theorem out_B_15 (y : S256x3072.Idx) : out0_B_15 c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 x10 x11 xs0 xs1 y = bG a t y := by
  unfold out0_B_15
  refine View.read_writes_apply_of_pieces (Val := Elt Ideal) _ _ (bG a t) _ (View.PiecesOf.mem ?_) y (cover0_B_15 (F := Ideal) ..)
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S256x1024) hz, View.ld_unit_zero (S := S1x512) hz, View.ld_unit_zero (S := S8x128x1024) hz3, h18.read_unread, h19.read_unread, View.ld_unit_zero (S := S16x512) hz, View.ld_unit_zero (S := S8x512) hz]
  exact bPieces_of T (back T hi a14.view 0 (by omega) y0c (fun n => (Nat.zero_add _).symm)) (back T hi a14.view 512 (by omega) y1c (fun n => rfl)) (back T hi a14.view 1024 (by omega) y2c (fun n => rfl))

theorem sout_B_0 (y : S16x512.Idx) : sout0_B_0 c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 x10 x11 xs0 xs1 y = tailAG a t y := by
  unfold sout0_B_0
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S256x1024) hz, View.ld_unit_zero (S := S1x512) hz, View.ld_unit_zero (S := S8x128x1024) hz3, h18.read_unread, h19.read_unread, View.ld_unit_zero (S := S16x512) hz, View.ld_unit_zero (S := S8x512) hz]
  exact View.read_writes_apply_of_pieces (Val := Elt Ideal) _ _ (tailAG a t) (tailAP x1) (View.PiecesOf.mem (tailA_of T)) y (tailA_cover x1 y)

theorem sout_B_1 (y : S8x512.Idx) : sout0_B_1 c i a1 h1 a2 h2 a3 h3 a4 h4 a5 h5 a6 h6 a7 h7 a8 h8 a9 h9 a10 h10 a11 h11 a12 h12 a13 h13 a14 h14 a15 h15 a16 h16 a17 h17 a18 h18 a19 h19 hc x0 x1 x2 x3 x4 x5 x6 x7 x8 x9 x10 x11 xs0 xs1 y = tailZG a t y := by
  unfold sout0_B_1
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S256x1024) hz, View.ld_unit_zero (S := S1x512) hz, View.ld_unit_zero (S := S8x128x1024) hz3, h18.read_unread, h19.read_unread, View.ld_unit_zero (S := S16x512) hz, View.ld_unit_zero (S := S8x512) hz]
  exact View.read_writes_apply_of_pieces (Val := Elt Ideal) _ _ (tailZG a t) (tailZP x1) (View.PiecesOf.mem (tailZ_of T)) y (tailZ_cover x1 y)

end

end Cert.MixKernelIdeal.Body

end
-- ==== Proof.MixBlocks.lean ====
/- Where each point's blocks lie in the arrays of the mixer, and what the blocks it is handed hold in terms of the arguments. -/
module

public import proofs.«01_k».proof.Proof.MixSpec
public import proofs.«01_k».proof.Proof.Gen.MixKernelIdeal.Value
public import proofs.«01_k».proof.Proof.BlockIndex
public import Idealize.ShloMosaic.Lib.Pipeline.ValueKit.Geometry
public import Idealize.ShloMosaic.Lib.Pointwise
public import Idealize.ShloMosaic.Lib.Tactic

@[expose] public section

set_option maxRecDepth 16384

noncomputable section

namespace Cert.MixKernelIdeal.Body

open Cert.MixKernelIdeal Cert.MixKernelIdeal.Gen Idealize.ShloMosaic Idealize.ShloMosaic.TcCoe Idealize.SL.Sem

variable (m : (ℓ : Loc nD τ sig) → Buf (Elt Ideal) ℓ) (c : Dev nD)

/-- The mixer's arguments as the buffers hold them. -/
def args : Cert.Step.MixArgs where
  x i k := m ((c : Thread nD τ).loc main_arg0) (ix2 i k)
  p i n := m ((c : Thread nD τ).loc main_arg1) (ix2 i n)
  wp g d e := m ((c : Thread nD τ).loc main_arg2) (ix3 g d e)
  ps n := m ((c : Thread nD τ).loc main_arg3) (ix1 n)
  gs n := m ((c : Thread nD τ).loc main_arg4) (ix1 n)
  ws g r s := m ((c : Thread nD τ).loc main_arg5) (ix3 g r s)
  bs g r := m ((c : Thread nD τ).loc main_arg6) (ix2 g r)
  cc s n := m ((c : Thread nD τ).loc main_arg7) (ix2 s n)
  wa n k := m ((c : Thread nD τ).loc main_arg8) (ix2 n k)
  wb n k := m ((c : Thread nD τ).loc main_arg9) (ix2 n k)
  wc n k := m ((c : Thread nD τ).loc main_arg10) (ix2 n k)
  wo n k := m ((c : Thread nD τ).loc main_arg11) (ix2 n k)

theorem lt_N (t : Fin cfg0.N) : t.val < 32 := lt_of_lt_of_eq t.isLt (show cfg0.N = 32 from N_0)

/-- Row `r` of point `t`'s block of 256 rows. -/
abbrev row (t : Fin cfg0.N) (r : Fin 256) : Fin 8192 := ⟨256 * t.val + r.val, by have := lt_N t; omega⟩

theorem emb0 (t : Fin cfg0.N) (r : Fin 256) (k : Fin 1024) :
    ((cfg0.win 0).blk t).view.emb (ix2 r k) = (ix2 (row t r) k : S8192x1024.Idx) :=
  Cert.Step.rows2 ((by decide +kernel : ∀ t : Fin grid0.N, win0_0.index t 0 = t.val ∧ win0_0.index t 1 = 0) t) rfl rfl rfl

theorem emb1 (t : Fin cfg0.N) (r : Fin 256) (k : Fin 6144) :
    ((cfg0.win 1).blk t).view.emb (ix2 r k) = (ix2 (row t r) k : S8192x6144.Idx) :=
  Cert.Step.rows2 ((by decide +kernel : ∀ t : Fin grid0.N, win0_1.index t 0 = t.val ∧ win0_1.index t 1 = 0) t) rfl rfl rfl

theorem emb2 (t : Fin cfg0.N) (j : Fin 4) (k : Fin 128) (q : Fin 128) :
    ((cfg0.win 2).blk t).view.emb (ix3 j k q) = (ix3 j k q : S4x128x128.Idx) :=
  Cert.Step.whole3 ((by decide +kernel : ∀ (t : Fin grid0.N) a, win0_2.index t a = 0) t) rfl rfl rfl

theorem emb3 (t : Fin cfg0.N) (r : Fin 1) (k : Fin 512) :
    ((cfg0.win 3).blk t).view.emb (ix2 r k) = (ix2 r k : S1x512.Idx) :=
  Cert.Step.whole2 ((by decide +kernel : ∀ (t : Fin grid0.N) a, win0_3.index t a = 0) t) rfl rfl

theorem emb4 (t : Fin cfg0.N) (r : Fin 1) (k : Fin 512) :
    ((cfg0.win 4).blk t).view.emb (ix2 r k) = (ix2 r k : S1x512.Idx) :=
  Cert.Step.whole2 ((by decide +kernel : ∀ (t : Fin grid0.N) a, win0_4.index t a = 0) t) rfl rfl

theorem emb5 (t : Fin cfg0.N) (j : Fin 4) (k : Fin 128) (q : Fin 128) :
    ((cfg0.win 5).blk t).view.emb (ix3 j k q) = (ix3 j k q : S4x128x128.Idx) :=
  Cert.Step.whole3 ((by decide +kernel : ∀ (t : Fin grid0.N) a, win0_5.index t a = 0) t) rfl rfl rfl

theorem emb6 (t : Fin cfg0.N) (r : Fin 128) (k : Fin 4) :
    ((cfg0.win 6).blk t).view.emb (ix2 r k) = (ix2 r k : S128x4.Idx) :=
  Cert.Step.whole2 ((by decide +kernel : ∀ (t : Fin grid0.N) a, win0_6.index t a = 0) t) rfl rfl

theorem emb7 (t : Fin cfg0.N) (r : Fin 3) (k : Fin 512) :
    ((cfg0.win 7).blk t).view.emb (ix2 r k) = (ix2 r k : S3x512.Idx) :=
  Cert.Step.whole2 ((by decide +kernel : ∀ (t : Fin grid0.N) a, win0_7.index t a = 0) t) rfl rfl

theorem emb8 (t : Fin cfg0.N) (j : Fin 8) (k : Fin 512) (q : Fin 128) :
    ((cfg0.win 8).blk t).view.emb (ix3 j k q) = (ix3 j k q : S8x512x128.Idx) :=
  Cert.Step.whole3 ((by decide +kernel : ∀ (t : Fin grid0.N) a, win0_8.index t a = 0) t) rfl rfl rfl

theorem emb9 (t : Fin cfg0.N) (j : Fin 8) (k : Fin 512) (q : Fin 128) :
    ((cfg0.win 9).blk t).view.emb (ix3 j k q) = (ix3 j k q : S8x512x128.Idx) :=
  Cert.Step.whole3 ((by decide +kernel : ∀ (t : Fin grid0.N) a, win0_9.index t a = 0) t) rfl rfl rfl

theorem emb10 (t : Fin cfg0.N) (j : Fin 8) (k : Fin 512) (q : Fin 128) :
    ((cfg0.win 10).blk t).view.emb (ix3 j k q) = (ix3 j k q : S8x512x128.Idx) :=
  Cert.Step.whole3 ((by decide +kernel : ∀ (t : Fin grid0.N) a, win0_10.index t a = 0) t) rfl rfl rfl

theorem emb11 (t : Fin cfg0.N) (j : Fin 8) (k : Fin 128) (q : Fin 1024) :
    ((cfg0.win 11).blk t).view.emb (ix3 j k q) = (ix3 j k q : S8x128x1024.Idx) :=
  Cert.Step.whole3 ((by decide +kernel : ∀ (t : Fin grid0.N) a, win0_11.index t a = 0) t) rfl rfl rfl

theorem emb12 (t : Fin cfg0.N) (r : Fin 256) (k : Fin 1024) :
    ((cfg0.win 12).blk t).view.emb (ix2 r k) = (ix2 (row t r) k : S8192x1024.Idx) :=
  Cert.Step.rows2 ((by decide +kernel : ∀ t : Fin grid0.N, win0_12.index t 0 = t.val ∧ win0_12.index t 1 = 0) t) rfl rfl rfl

theorem emb13 (t : Fin cfg0.N) (r : Fin 256) (k : Fin 1536) :
    ((cfg0.win 13).blk t).view.emb (ix2 r k) = (ix2 (row t r) k : S8192x1536.Idx) :=
  Cert.Step.rows2 ((by decide +kernel : ∀ t : Fin grid0.N, win0_13.index t 0 = t.val ∧ win0_13.index t 1 = 0) t) rfl rfl rfl

theorem emb14 (t : Fin cfg0.N) (r : Fin 256) (k : Fin 1024) :
    ((cfg0.win 14).blk t).view.emb (ix2 r k) = (ix2 (row t r) k : S8192x1024.Idx) :=
  Cert.Step.rows2 ((by decide +kernel : ∀ t : Fin grid0.N, win0_14.index t 0 = t.val ∧ win0_14.index t 1 = 0) t) rfl rfl rfl

theorem emb15 (t : Fin cfg0.N) (r : Fin 256) (k : Fin 3072) :
    ((cfg0.win 15).blk t).view.emb (ix2 r k) = (ix2 (row t r) k : S8192x3072.Idx) :=
  Cert.Step.rows2 ((by decide +kernel : ∀ t : Fin grid0.N, win0_15.index t 0 = t.val ∧ win0_15.index t 1 = 0) t) rfl rfl rfl

theorem emb16 (t : Fin cfg0.N) (r : Fin 256) (k : Fin 1024) :
    ((cfg0.win 16).blk t).view.emb (ix2 r k) = (ix2 (row t r) k : S8192x1024.Idx) :=
  Cert.Step.rows2 ((by decide +kernel : ∀ t : Fin grid0.N, win0_16.index t 0 = t.val ∧ win0_16.index t 1 = 0) t) rfl rfl rfl

theorem blk0 (t : Fin cfg0.N) (r : Fin 256) (k : Fin 1024) : iblk m c 0 t (ix2 r k) = (args m c).x (row t r) k := by
  show V m c main_arg0 (((cfg0.win 0).blk t).view.emb (ix2 r k)) = _
  rw [emb0, V_main_arg0]
  rfl

theorem blk1 (t : Fin cfg0.N) (r : Fin 256) (k : Fin 6144) : iblk m c 1 t (ix2 r k) = (args m c).p (row t r) k := by
  show V m c main_v0 (((cfg0.win 1).blk t).view.emb (ix2 r k)) = _
  rw [emb1]
  entry_read
  pointwise
  rfl

theorem blk2 (t : Fin cfg0.N) (g : Fin 4) (d e : Fin 128) : iblk m c 2 t (ix3 g d e) = (args m c).wp g d e := by
  show V m c main_v1 (((cfg0.win 2).blk t).view.emb (ix3 g d e)) = _
  rw [emb2]
  entry_read
  pointwise
  rfl

theorem blk3 (t : Fin cfg0.N) (n : Fin 512) : iblk m c 3 t (ix2 0 n) = (args m c).ps n := by
  show V m c main_v2 (((cfg0.win 3).blk t).view.emb (ix2 0 n)) = _
  rw [emb3]
  entry_read
  pointwise
  rfl

theorem blk4 (t : Fin cfg0.N) (n : Fin 512) : iblk m c 4 t (ix2 0 n) = (args m c).gs n := by
  show V m c main_v3 (((cfg0.win 4).blk t).view.emb (ix2 0 n)) = _
  rw [emb4]
  entry_read
  pointwise
  rfl

theorem blk5 (t : Fin cfg0.N) (g : Fin 4) (r s : Fin 128) : iblk m c 5 t (ix3 g r s) = (args m c).ws g r s := by
  show V m c main_arg5 (((cfg0.win 5).blk t).view.emb (ix3 g r s)) = _
  rw [emb5, V_main_arg5]
  rfl

theorem blk6 (t : Fin cfg0.N) (r : Fin 128) (g : Fin 4) : iblk m c 6 t (ix2 r g) = (args m c).bs g r := by
  show V m c main_v4 (((cfg0.win 6).blk t).view.emb (ix2 r g)) = _
  rw [emb6]
  entry_read
  pointwise
  rfl

theorem blk7 (t : Fin cfg0.N) (s : Fin 3) (n : Fin 512) : iblk m c 7 t (ix2 s n) = (args m c).cc s n := by
  show V m c main_arg7 (((cfg0.win 7).blk t).view.emb (ix2 s n)) = _
  rw [emb7, V_main_arg7]
  rfl

theorem blk8 (t : Fin cfg0.N) (j : Fin 8) (n : Fin 512) (q : Fin 128) : iblk m c 8 t (ix3 j n q) = (args m c).wa n (Cert.Step.wcol j q) := by
  show V m c main_v7 (((cfg0.win 8).blk t).view.emb (ix3 j n q)) = _
  rw [emb8]
  entry_read
  pointwise
  exact congrArg ((args m c).wa n) (Fin.ext (by show j.val * 128 + q.val = 128 * j.val + q.val; omega))

theorem blk9 (t : Fin cfg0.N) (j : Fin 8) (n : Fin 512) (q : Fin 128) : iblk m c 9 t (ix3 j n q) = (args m c).wb n (Cert.Step.wcol j q) := by
  show V m c main_v10 (((cfg0.win 9).blk t).view.emb (ix3 j n q)) = _
  rw [emb9]
  entry_read
  pointwise
  exact congrArg ((args m c).wb n) (Fin.ext (by show j.val * 128 + q.val = 128 * j.val + q.val; omega))

theorem blk10 (t : Fin cfg0.N) (j : Fin 8) (n : Fin 512) (q : Fin 128) : iblk m c 10 t (ix3 j n q) = (args m c).wc n (Cert.Step.wcol j q) := by
  show V m c main_v13 (((cfg0.win 10).blk t).view.emb (ix3 j n q)) = _
  rw [emb10]
  entry_read
  pointwise
  exact congrArg ((args m c).wc n) (Fin.ext (by show j.val * 128 + q.val = 128 * j.val + q.val; omega))

theorem blk11 (t : Fin cfg0.N) (j : Fin 8) (q : Fin 128) (k : Fin 1024) : iblk m c 11 t (ix3 j q k) = (args m c).wo (Cert.Step.wcol j q) k := by
  show V m c main_v15 (((cfg0.win 11).blk t).view.emb (ix3 j q k)) = _
  rw [emb11]
  entry_read
  pointwise
  exact congrArg (fun n => (args m c).wo n k) (Fin.ext (by show j.val * 128 + q.val = 128 * j.val + q.val; omega))

end Cert.MixKernelIdeal.Body

end
-- ==== Proof.MixKernelValue.lean ====
/- The five results of the mixer as functions of its arguments: each tile hands its last rows to the next. -/
module

public import proofs.«01_k».proof.Proof.MixBodyA
public import proofs.«01_k».proof.Proof.MixBodyB
public import proofs.«01_k».proof.Proof.MixBlocks

@[expose] public section

set_option maxRecDepth 16384

noncomputable section

namespace Cert.MixKernelIdeal.Body

open Cert.MixKernelIdeal Cert.MixKernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- A point as a tile. -/
abbrev tile (t : Fin cfg0.N) : Fin 32 := ⟨t.val, lt_N t⟩

theorem coords_val : ∀ t : Fin cfg0.N, (grid0.coords t (0 : Fin 1)).val = t.val := (by decide +kernel : ∀ t : Fin grid0.N, _)

/-- The point before. -/
abbrev prev (t : Fin cfg0.N) : Fin cfg0.N := ⟨t.val - 1, Nat.lt_of_le_of_lt (Nat.sub_le _ _) t.isLt⟩

/-- What a point finds handed to it: zero at the first, the rows of the point before at the others. -/
def foundA (t : Fin cfg0.N) : Vec Ideal S16x512 .f32 :=
  if t.val % 32 = 0 then k0_pay3 (F := Ideal) else (outsAt0 m c (prev t).val (prev t).isLt).2.2.2.2.2.1
@[inherit_doc foundA] def foundZ (t : Fin cfg0.N) : Vec Ideal S8x512 .f32 :=
  if t.val % 32 = 0 then k0_pay4 (F := Ideal) else (outsAt0 m c (prev t).val (prev t).isLt).2.2.2.2.2.2

/-- That a point's blocks are the tile's, with the rows it finds. -/
abbrev TileAt (t : Fin cfg0.N) : Prop :=
  Tile (args m c) (tile t) (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (foundA m c t) (foundZ m c t)

section
variable {m c} {t : Fin cfg0.N} (T : TileAt m c t)
include T

theorem first_tile (h : t.val % 32 = 0) : Tile (args m c) (tile t) (iblk m c 0 t) (iblk m c 1 t) (iblk m c 2 t) (iblk m c 3 t) (iblk m c 4 t)
    (iblk m c 5 t) (iblk m c 6 t) (iblk m c 7 t) (iblk m c 8 t) (iblk m c 9 t) (iblk m c 10 t) (iblk m c 11 t) (k0_pay3 (F := Ideal)) (k0_pay4 (F := Ideal)) := by
  have e := T
  unfold TileAt foundA foundZ at e
  rwa [if_pos h, if_pos h] at e

theorem later_tile (h : ¬ t.val % 32 = 0) : Tile (args m c) (tile t) (iblk m c 0 t) (iblk m c 1 t) (iblk m c 2 t) (iblk m c 3 t) (iblk m c 4 t)
    (iblk m c 5 t) (iblk m c 6 t) (iblk m c 7 t) (iblk m c 8 t) (iblk m c 9 t) (iblk m c 10 t) (iblk m c 11 t)
    (outsAt0 m c (t.val - 1) (Nat.lt_of_le_of_lt (Nat.sub_le _ _) t.isLt)).2.2.2.2.2.1
    (outsAt0 m c (t.val - 1) (Nat.lt_of_le_of_lt (Nat.sub_le _ _) t.isLt)).2.2.2.2.2.2 := by
  have e := T
  unfold TileAt foundA foundZ at e
  rwa [if_neg h, if_neg h] at e

theorem handedA (y : S16x512.Idx) : (outsAt0 m c t.val t.isLt).2.2.2.2.2.1 y = tailAG (args m c) (tile t) y := by
  by_cases h : t.val % 32 = 0
  · rw [outsAt0_A m c t h]
    dsimp only
    apply sout_A_0 (hi := coords_val t) (T := first_tile T h)
  · rw [outsAt0_B m c t h]
    dsimp only
    apply sout_B_0 (hi := coords_val t) (T := later_tile T h)

theorem handedZ (y : S8x512.Idx) : (outsAt0 m c t.val t.isLt).2.2.2.2.2.2 y = tailZG (args m c) (tile t) y := by
  by_cases h : t.val % 32 = 0
  · rw [outsAt0_A m c t h]
    dsimp only
    apply sout_A_1 (hi := coords_val t) (T := first_tile T h)
  · rw [outsAt0_B m c t h]
    dsimp only
    apply sout_B_1 (hi := coords_val t) (T := later_tile T h)

theorem out12 (r : Fin 256) (k : Fin 1024) : (outsAt0 m c t.val t.isLt).1 (ix2 r k) = (args m c).out (tileRow (tile t) r) k := by
  by_cases h : t.val % 32 = 0
  · rw [outsAt0_A m c t h]
    dsimp only
    apply out_A_12 (hi := coords_val t) (T := first_tile T h)
  · rw [outsAt0_B m c t h]
    dsimp only
    apply out_B_12 (hi := coords_val t) (T := later_tile T h)

theorem out13 (y : S256x1536.Idx) : (outsAt0 m c t.val t.isLt).2.1 y = yG (args m c) (tile t) y := by
  by_cases h : t.val % 32 = 0
  · rw [outsAt0_A m c t h]
    dsimp only
    apply out_A_13 (hi := coords_val t) (T := first_tile T h)
  · rw [outsAt0_B m c t h]
    dsimp only
    apply out_B_13 (hi := coords_val t) (T := later_tile T h)

theorem out14 (y : S256x1024.Idx) : (outsAt0 m c t.val t.isLt).2.2.1 y = pzG (args m c) (tile t) y := by
  by_cases h : t.val % 32 = 0
  · rw [outsAt0_A m c t h]
    dsimp only
    apply out_A_14 (hi := coords_val t) (T := first_tile T h)
  · rw [outsAt0_B m c t h]
    dsimp only
    apply out_B_14 (hi := coords_val t) (T := later_tile T h)

theorem out15 (y : S256x3072.Idx) : (outsAt0 m c t.val t.isLt).2.2.2.1 y = bG (args m c) (tile t) y := by
  by_cases h : t.val % 32 = 0
  · rw [outsAt0_A m c t h]
    dsimp only
    apply out_A_15 (hi := coords_val t) (T := first_tile T h)
  · rw [outsAt0_B m c t h]
    dsimp only
    apply out_B_15 (hi := coords_val t) (T := later_tile T h)

theorem out16 (r : Fin 256) (k : Fin 1024) : (outsAt0 m c t.val t.isLt).2.2.2.2.1 (ix2 r k) = (args m c).merged (tileRow (tile t) r) k := by
  by_cases h : t.val % 32 = 0
  · rw [outsAt0_A m c t h]
    dsimp only
    apply out_A_16 (hi := coords_val t) (T := first_tile T h)
  · rw [outsAt0_B m c t h]
    dsimp only
    apply out_B_16 (hi := coords_val t) (T := later_tile T h)

end

/-- By induction along the points, each finds the rows before its own. -/
theorem tile_at : ∀ (n : ℕ) (hn : n < cfg0.N), TileAt m c ⟨n, hn⟩
  | 0, hn => ⟨blk0 m c _, blk1 m c _, blk2 m c _, blk3 m c _, blk4 m c _, blk5 m c _, blk6 m c _, blk7 m c _, blk8 m c _, blk9 m c _, blk10 m c _, blk11 m c _,
      fun s q => by
        unfold foundA
        rw [if_pos (Nat.zero_mod _), if_pos rfl]
        pointwise [k0_pay3],
      fun s q => by
        unfold foundZ
        rw [if_pos (Nat.zero_mod _), if_pos rfl]
        pointwise [k0_pay4]⟩
  | n + 1, hn => by
    have T := tile_at n (Nat.lt_of_succ_lt hn)
    have hN := lt_N ⟨n + 1, hn⟩
    have hm : ¬ (n + 1) % 32 = 0 := by simp only at hN; omega
    refine ⟨blk0 m c _, blk1 m c _, blk2 m c _, blk3 m c _, blk4 m c _, blk5 m c _, blk6 m c _, blk7 m c _, blk8 m c _, blk9 m c _, blk10 m c _, blk11 m c _,
      fun s q => ?_, fun s q => ?_⟩
    · unfold foundA
      rw [if_neg hm, if_neg (Nat.succ_ne_zero n)]
      refine (handedA T (ix2 s q)).trans ?_
      exact congrArg (fun i => (args m c).p i (colA q)) (Fin.ext (by show 256 * n + (240 + s.val) = 256 * (n + 1) - 16 + s.val; omega))
    · unfold foundZ
      rw [if_neg hm, if_neg (Nat.succ_ne_zero n)]
      refine (handedZ T (ix2 s q)).trans ?_
      exact congrArg (fun i => (args m c).z i q) (Fin.ext (by show 256 * n + (248 + s.val) = 256 * (n + 1) - 8 + s.val; omega))

/-- The results, entry by entry. -/
abbrev resOut : Buf (Elt Ideal) ((c : Thread nD τ).loc main_v16_0) := fun y : S8192x1024.Idx => (args m c).out (y 0) (y 1)
@[inherit_doc resOut] abbrev resY : Buf (Elt Ideal) ((c : Thread nD τ).loc main_v16_1) := fun y : S8192x1536.Idx => (args m c).y (y 0) (y 1)
@[inherit_doc resOut] abbrev resPz : Buf (Elt Ideal) ((c : Thread nD τ).loc main_v16_2) := fun y : S8192x1024.Idx => (args m c).pz (y 0) (y 1)
@[inherit_doc resOut] abbrev resB : Buf (Elt Ideal) ((c : Thread nD τ).loc main_v16_3) := fun y : S8192x3072.Idx => (args m c).b (y 0) (y 1)
@[inherit_doc resOut] abbrev resMerged : Buf (Elt Ideal) ((c : Thread nD τ).loc main_v16_4) := fun y : S8192x1024.Idx => (args m c).merged (y 0) (y 1)

theorem final12 : (dats m 0 c).arrAt 12 cfg0.N = resOut m c := by
  refine (dats m 0 c).arrAt_eq_of_covers 12 (resOut m c) (by decide +kernel) fun t _ y => ?_
  idx_vars y
  rw [emb12]
  blk_simp
  rw [after0_12]
  exact out12 (tile_at m c t.val t.isLt) _ _

theorem final13 : (dats m 0 c).arrAt 13 cfg0.N = resY m c := by
  refine (dats m 0 c).arrAt_eq_of_covers 13 (resY m c) (by decide +kernel) fun t _ y => ?_
  idx_vars y
  rw [emb13]
  blk_simp
  rw [after0_13]
  exact out13 (tile_at m c t.val t.isLt) (ix2 _ _)

theorem final14 : (dats m 0 c).arrAt 14 cfg0.N = resPz m c := by
  refine (dats m 0 c).arrAt_eq_of_covers 14 (resPz m c) (by decide +kernel) fun t _ y => ?_
  idx_vars y
  rw [emb14]
  blk_simp
  rw [after0_14]
  exact out14 (tile_at m c t.val t.isLt) (ix2 _ _)

theorem final15 : (dats m 0 c).arrAt 15 cfg0.N = resB m c := by
  refine (dats m 0 c).arrAt_eq_of_covers 15 (resB m c) (by decide +kernel) fun t _ y => ?_
  idx_vars y
  rw [emb15]
  blk_simp
  rw [after0_15]
  exact out15 (tile_at m c t.val t.isLt) (ix2 _ _)

theorem final16 : (dats m 0 c).arrAt 16 cfg0.N = resMerged m c := by
  refine (dats m 0 c).arrAt_eq_of_covers 16 (resMerged m c) (by decide +kernel) fun t _ y => ?_
  idx_vars y
  rw [emb16]
  blk_simp
  rw [after0_16]
  exact out16 (tile_at m c t.val t.isLt) _ _

theorem run (ρ : Dev nD → PrngReg) : θ_run defs (onTc (τ := τ) (main (F := Ideal))) ⟨m, fun _ => 0, ρ⟩ fun r => ∀ c : Dev nD,
    r.2.mem ((c : Thread nD τ).loc main_v16_0) = resOut m c
    ∧ r.2.mem ((c : Thread nD τ).loc main_v16_1) = resY m c
    ∧ r.2.mem ((c : Thread nD τ).loc main_v16_2) = resPz m c
    ∧ r.2.mem ((c : Thread nD τ).loc main_v16_3) = resB m c
    ∧ r.2.mem ((c : Thread nD τ).loc main_v16_4) = resMerged m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10)
    ∧ r.2.mem ((c : Thread nD τ).loc main_arg11) = m ((c : Thread nD τ).loc main_arg11) :=
  (θ_run defs _ _).mono (fun _ h c => by
    have := h c
    rw [final12, final13, final14, final15, final16] at this
    exact this) (Value.run_blocks m ρ)

end Cert.MixKernelIdeal.Body

end
-- ==== Proof.MixReference.lean ====
/- The host reference of the mixer, each of its arrays read entry by entry in terms of the arguments. -/
module

public import proofs.«01_k».proof.Proof.FfnForward
public import proofs.«01_k».proof.Proof.MixPieces
public import proofs.«01_k».proof.Proof.Trailing
public import proofs.«01_k».proof.Proof.Gen.MixReferenceIdeal.Run
public import Idealize.ShloMosaic.Lib.Pointwise
public import Idealize.ShloMosaic.Lib.Tactic.CleanTypes

@[expose] public section

set_option maxRecDepth 16384

noncomputable section

namespace Cert.MixReferenceIdeal.Read

open Cert.MixReferenceIdeal Idealize.ShloMosaic Idealize.ShloMosaic.TcCoe Idealize.SL.Sem
open Cert.Step (MixArgs sg gelu rowsBack trail running gcol)

variable (V0 : Valuation τ sig (Elt Ideal))

/-- The mixer's arguments as the buffers hold them. -/
def args : MixArgs where
  x i k := V0 (Proc.devRef .tc main_arg0) (ix2 i k)
  p i n := V0 (Proc.devRef .tc main_arg1) (ix2 i n)
  wp g d e := V0 (Proc.devRef .tc main_arg2) (ix3 g d e)
  ps n := V0 (Proc.devRef .tc main_arg3) (ix1 n)
  gs n := V0 (Proc.devRef .tc main_arg4) (ix1 n)
  ws g r s := V0 (Proc.devRef .tc main_arg5) (ix3 g r s)
  bs g r := V0 (Proc.devRef .tc main_arg6) (ix2 g r)
  cc s n := V0 (Proc.devRef .tc main_arg7) (ix2 s n)
  wa n k := V0 (Proc.devRef .tc main_arg8) (ix2 n k)
  wb n k := V0 (Proc.devRef .tc main_arg9) (ix2 n k)
  wc n k := V0 (Proc.devRef .tc main_arg10) (ix2 n k)
  wo n k := V0 (Proc.devRef .tc main_arg11) (ix2 n k)

theorem uv_entry (i : Fin 8192) (n : Fin 1024) : (Value.res_main_v105 V0 : FVec Ideal S8192x1024 .f32) (ix2 i n) = gelu ((args V0).p i ⟨512 + n.val, by omega⟩) := by
  unfold Value.res_main_v105 Value.res_main_v1
  clean_types
  pointwise [gelu]
  rfl

theorem cols_entry (i : Fin 8192) (g : Fin 4) (d : Fin 128) : (Value.res_main_v8 V0 : FVec Ideal S8192x4x128 .f32) (ix3 i g d)
    = (args V0).p i ⟨128 * g.val + d.val, by omega⟩ := by
  unfold Value.res_main_v8
  clean_types
  pointwise
  exact congrArg ((args V0).p i) (Fin.ext (by show g.val * 128 + d.val = 128 * g.val + d.val; omega))

/-- The running sums. -/
theorem sums_entry (i : Fin 8192) (g : Fin 4) (d : Fin 128) : (Value.res_main_v9 V0 : FVec Ideal S8192x4x128 .f32) (ix3 i g d)
    = running (fun q => (args V0).p q ⟨128 * g.val + d.val, by omega⟩) (i.val + 1) := by
  unfold Value.res_main_v9
  generalize hx : (Value.res_main_v8 V0 : FVec Ideal S8192x4x128 .f32) = x
  have e : ∀ (v : FVec Ideal S_ .f32), (∀ j, v j = 0) → (Host.reduceWindowAdd ![8192, 1, 1] ![1, 1, 1] ![8191, 0, 0] ![0, 0, 0] x v
      Gen.reduceWindows_S8192x4x128_S8192x4x128_w8192s1p8191_0_w1s1p0_0_w1s1p0_0 Gen.h_S_ : FVec Ideal S8192x4x128 .f32) (ix3 i g d)
        = running (fun q => x (ix3 q g d)) (i.val + 1) := fun v hv => by
    unfold Host.reduceWindowAdd
    rw [Ideal.hostReduceWindowAdd_def]
    exact Cert.Step.running_apply x _ (hv _) _ i g d
  refine (e _ (fun j => by clean_types; pointwise)).trans ?_
  exact congrArg (fun f => running f (i.val + 1)) (funext fun q => by rw [← hx]; exact cols_entry V0 q g d)

theorem padded_entry (i : Fin 8193) (g : Fin 4) (d : Fin 128) : (Value.res_main_v11 V0 : FVec Ideal S8193x4x128 .f32) (ix3 i g d)
    = running (fun q => (args V0).p q ⟨128 * g.val + d.val, by omega⟩) i.val := by
  unfold Value.res_main_v11
  clean_types
  pointwise
  simp only [sums_entry]
  split_ifs with h
  · rw [show i.val = 0 by omega]; rfl
  · exact congrArg (running _) (by show i.val - 1 + 1 = i.val; omega)

theorem number_entry (i : Fin 8192) : (Value.res_main_v13 V0 : FVec Ideal S8192 .f32) (ix1 i) = ((i.val : ℝ) : EReal) := by
  unfold Value.res_main_v13
  clean_types
  pointwise
  show (((BitVec.ofNat 32 i.val).toInt : ℝ) : EReal) = _
  rw [BitVec.toInt_eq_toNat_of_lt (by rw [BitVec.toNat_ofNat]; omega), BitVec.toNat_ofNat, Nat.mod_eq_of_lt (by omega)]
  rfl

theorem z_entry (i : Fin 8194) (n : Fin 512) : (Value.res_main_v133 V0 : FVec Ideal S8194x512 .f32) (ix2 i n)
    = if _h : i.val < 2 then 0 else (args V0).z ⟨i.val - 2, by omega⟩ n := by
  unfold Value.res_main_v133
  clean_types
  pointwise
  rfl

theorem cz_entry (i : Fin 8192) (n : Fin 512) : (Value.res_main_v153 V0 : FVec Ideal S8192x512 .f32) (ix2 i n) = (args V0).cz i n := by
  unfold Value.res_main_v153
  clean_types
  pointwise
  simp only [z_entry]
  rw [MixArgs.cz, rowsBack, rowsBack, dif_neg (by omega : ¬ 2 + i.val < 2)]
  simp only [Nat.add_sub_cancel_left, show (1 + i.val < 2) = (i.val < 1) from propext (by omega), show 1 + i.val - 2 = i.val - 1 by omega]
  exact congrArg₂ (· + ·) (congrArg₂ (· + ·) (mul_comm _ _) (mul_comm _ _)) (mul_comm _ _)

theorem yc_entry (i : Fin 8192) (n : Fin 512) : (Value.res_main_v154 V0 : FVec Ideal S8192x512 .f32) (ix2 i n) = (args V0).yc i n := by
  unfold Value.res_main_v154
  clean_types
  pointwise
  simp only [cz_entry]
  rfl

/-- The lower triangle, as the host masks it. -/
theorem lower (r s : Fin 128) (x : EReal) :
    Scalar.select (IntOp.cmpi .sge (IntOp.addi (BitVec.ofNat 32 r.val) 0#32) (BitVec.ofNat 32 s.val)) x (0 : EReal) = if s ≤ r then x else 0 := by
  have e : IntOp.addi (BitVec.ofNat 32 r.val) 0#32 = BitVec.ofNat 32 r.val := BitVec.add_zero _
  rw [e, Cert.MixKernelIdeal.Body.select_word]

set_option maxHeartbeats 1600000 in
theorem yb_entry (i : Fin 8192) (g : Fin 4) (d : Fin 128) : (Value.res_main_v130 V0 : FVec Ideal S8192x512 .f32) (ix2 i (gcol g d)) = (args V0).yb i g d := by
  unfold Value.res_main_v130 Value.res_main_v107
  clean_types
  pointwise
  have eg : (⟨(128 * g.val + d.val) / 128, by omega⟩ : Fin 4) = g := Fin.ext (by show (128 * g.val + d.val) / 128 = g.val; omega)
  have en : (128 * g.val + d.val) / 128 * 128 + (128 * g.val + d.val) % 128 = 128 * g.val + d.val := by omega
  have ei : ∀ s : Fin 128, (⟨i.val / 128 * 128 + s.val, by omega⟩ : Fin 8192) = MixArgs.mate i s := fun s =>
    Fin.ext (by show i.val / 128 * 128 + s.val = 128 * (i.val / 128) + s.val; omega)
  have ev : ∀ (j : Fin 8192) (n : Fin 512), (Value.res_main_v105 V0 : FVec Ideal S8192x1024 .f32) (ix2 j ⟨512 + n.val, by omega⟩) = (args V0).v j n := fun j n =>
    (uv_entry V0 j _).trans (congrArg (fun q => gelu ((args V0).p j q)) (Fin.ext (by show 512 + (512 + n.val) = 1024 + n.val; omega)))
  have el : ∀ (s : Fin 128) x, Scalar.select (IntOp.cmpi .sge (IntOp.addi (BitVec.ofNat 32 (i.val % 128)) 0#32) (BitVec.ofNat 32 s.val)) x (0 : EReal)
      = if s ≤ MixArgs.place i then x else 0 := fun s x => lower (MixArgs.place i) s x
  simp only [eg, en, ei, el]
  unfold MixArgs.yb
  have eu : (Value.res_main_v105 V0 : FVec Ideal S8192x1024 .f32) (ix2 i ⟨128 * g.val + d.val, by omega⟩) = (args V0).u i (gcol g d) := uv_entry V0 i _
  rw [eu]
  refine congrArg ((args V0).u i (gcol g d) * ·) (congrArg₂ (· + ·) (Finset.sum_congr rfl fun s _ => ?_) rfl)
  by_cases h : s ≤ MixArgs.place i
  · rw [if_pos h, if_pos h]
    refine (congrArg (· * _) ?_).trans (mul_comm _ _)
    refine congrArg (· * _) (congrArg₂ (· * ·) (ev (MixArgs.mate i s) (gcol g d)) ?_)
    simp only [ev]
    rfl
  · rw [if_neg h, if_neg h, zero_mul]

/-- On a finite column, a window's sum as the difference of two running sums. -/
theorem gap (f : Fin 8192 → EReal) (hf : ∀ i, Cert.Step.Fin' (f i)) (i : Fin 8192) (w : ℕ) :
    running f (i.val + 1) - (if _h : i.val < w then 0 else running f (i.val - w)) = trail f (w + 1) i := by
  rw [← Cert.Step.running_sub f hf i (w + 1), show i.val + 1 - (w + 1) = i.val - w by omega]
  split_ifs with h
  · rw [show i.val - w = 0 by omega]; rfl
  · rfl

theorem pool_entry (hf : ∀ i n, Cert.Step.Fin' ((args V0).p i n)) (i : Fin 8192) (g : Fin 4) (d : Fin 128) :
    (Value.res_main_v86 V0 : FVec Ideal S8192x4x128 .f32) (ix3 i g d) = (args V0).pool i g d := by
  unfold Value.res_main_v86
  clean_types
  fin_cases g
  · pointwise
    simp only [sums_entry, padded_entry, cols_entry, number_entry]
    exact congrArg₂ (· - ·) (congrArg₂ Ideal.div (gap _ (fun q => hf q _) i 1) rfl) rfl
  · pointwise
    simp only [sums_entry, padded_entry, cols_entry, number_entry]
    exact congrArg₂ (· - ·) (congrArg₂ Ideal.div (gap _ (fun q => hf q _) i 3) rfl) rfl
  · pointwise
    simp only [sums_entry, padded_entry, cols_entry, number_entry]
    exact congrArg₂ (· - ·) (congrArg₂ Ideal.div (gap _ (fun q => hf q _) i 7) rfl) rfl
  · pointwise
    simp only [sums_entry, padded_entry, cols_entry, number_entry]
    exact congrArg₂ (· - ·) (congrArg₂ Ideal.div (gap _ (fun q => hf q _) i 15) rfl) rfl

theorem ya_entry (hf : ∀ i n, Cert.Step.Fin' ((args V0).p i n)) (i : Fin 8192) (g : Fin 4) (d : Fin 128) :
    (Value.res_main_v92 V0 : FVec Ideal S8192x512 .f32) (ix2 i (gcol g d)) = (args V0).ya i g d := by
  unfold Value.res_main_v92
  clean_types
  pointwise
  have eg : (⟨(128 * g.val + d.val) / 128, by omega⟩ : Fin 4) = g := Fin.ext (by show (128 * g.val + d.val) / 128 = g.val; omega)
  have ed : (⟨(128 * g.val + d.val) % 128, by omega⟩ : Fin 128) = d := Fin.ext (by show (128 * g.val + d.val) % 128 = d.val; omega)
  simp only [pool_entry V0 hf, eg, ed]
  exact congrArg (· * _) (Finset.sum_congr rfl fun x _ => mul_comm _ _)

/-- A column as its group's. -/
theorem gcol_of (x : Fin 512) : gcol (Cert.Step.grp x) (Cert.Step.lane x) = x := Fin.ext (by show 128 * (x.val / 128) + x.val % 128 = x.val; omega)

theorem ya_col (hf : ∀ i n, Cert.Step.Fin' ((args V0).p i n)) (i : Fin 8192) (x : Fin 512) (n : Fin 1536) (h : n.val = x.val) :
    (Value.res_main_v92 V0 : FVec Ideal S8192x512 .f32) (ix2 i x) = (args V0).y i n := by
  rw [← gcol_of x, ya_entry V0 hf]
  exact (Cert.MixKernelIdeal.Body.y_ya _ _ _ _ (by show n.val = 128 * (x.val / 128) + x.val % 128; omega)).symm

theorem yb_col (i : Fin 8192) (x : Fin 512) (n : Fin 1536) (h : n.val = 512 + x.val) :
    (Value.res_main_v130 V0 : FVec Ideal S8192x512 .f32) (ix2 i x) = (args V0).y i n := by
  rw [← gcol_of x, yb_entry]
  exact (Cert.MixKernelIdeal.Body.y_yb _ _ _ _ (by show n.val = 512 + 128 * (x.val / 128) + x.val % 128; omega)).symm

theorem yc_col (i : Fin 8192) (x : Fin 512) (n : Fin 1536) (h : n.val = 1024 + x.val) :
    (Value.res_main_v154 V0 : FVec Ideal S8192x512 .f32) (ix2 i x) = (args V0).y i n :=
  (yc_entry V0 i x).trans (Cert.MixKernelIdeal.Body.y_yc _ _ _ h).symm

theorem ba_entry (hf : ∀ i n, Cert.Step.Fin' ((args V0).p i n)) (i : Fin 8192) (k : Fin 1024) :
    (Value.res_main_v155 V0 : FVec Ideal S8192x1024 .f32) (ix2 i k) = (args V0).ba i k := by
  unfold Value.res_main_v155
  clean_types
  pointwise
  exact Finset.sum_congr rfl fun x _ => congrArg (· * _) (ya_col V0 hf i x _ rfl)

theorem bb_entry (i : Fin 8192) (k : Fin 1024) : (Value.res_main_v156 V0 : FVec Ideal S8192x1024 .f32) (ix2 i k) = (args V0).bb i k := by
  unfold Value.res_main_v156
  clean_types
  pointwise
  exact Finset.sum_congr rfl fun x _ => congrArg (· * _) (yb_col V0 i x _ rfl)

theorem bc_entry (i : Fin 8192) (k : Fin 1024) : (Value.res_main_v157 V0 : FVec Ideal S8192x1024 .f32) (ix2 i k) = (args V0).bc i k := by
  unfold Value.res_main_v157
  clean_types
  pointwise
  exact Finset.sum_congr rfl fun x _ => congrArg (· * _) (yc_col V0 i x _ rfl)

theorem merged_entry (hf : ∀ i n, Cert.Step.Fin' ((args V0).p i n)) (i : Fin 8192) (k : Fin 1024) :
    (Value.res_main_v180 V0 : FVec Ideal S8192x1024 .f32) (ix2 i k) = (args V0).merged i k := by
  unfold Value.res_main_v180
  clean_types
  pointwise
  simp only [Cert.Step.sg_eq, ba_entry V0 hf, bb_entry, bc_entry]
  rfl

end Cert.MixReferenceIdeal.Read

end
-- ==== Proof.MixReferenceRun.lean ====
/- The run of the mixer's host reference: its five results as functions of its arguments. -/
module

public import proofs.«01_k».proof.Proof.MixReference
public import Idealize.ShloMosaic.Lib.Pointwise
public import Idealize.ShloMosaic.Lib.Tactic.CleanTypes

@[expose] public section

set_option maxRecDepth 16384

noncomputable section

namespace Cert.MixReferenceIdeal.Read

open Cert.MixReferenceIdeal Idealize.ShloMosaic Idealize.ShloMosaic.TcCoe Idealize.SL.Sem

variable (m : (ℓ : Loc nD τ sig) → Buf (Elt Ideal) ℓ)

section
variable (V0 : Valuation τ sig (Elt Ideal)) (hf : ∀ i n, Cert.Step.Fin' ((args V0).p i n))
include hf

theorem out_entry (i : Fin 8192) (k : Fin 1024) :
    (addf (V0 (Proc.devRef .tc main_arg0)) (Host.dotGeneral (φ₁ := .f32) (φ₂ := .f32) dot_S8192x1024_S1024x1024_S8192x1024_1_0_0_1_n_n none (Value.res_main_v180 V0)
      (V0 (Proc.devRef .tc main_arg11))) : FVec Ideal S8192x1024 .f32) (ix2 i k) = (args V0).out i k := by
  clean_types
  pointwise
  simp only [merged_entry V0 hf]
  rfl

theorem y_entry (i : Fin 8192) (n : Fin 1536) :
    (concatenate S8192x1536 1 [⟨S8192x512, (Value.res_main_v92 V0 : FVec Ideal S8192x512 .f32)⟩, ⟨S8192x512, (Value.res_main_v130 V0 : FVec Ideal S8192x512 .f32)⟩,
      ⟨S8192x512, (Value.res_main_v154 V0 : FVec Ideal S8192x512 .f32)⟩] Gen.concatenates_S8192x512_S8192x512_S8192x512_S8192x1536_d1 : FVec Ideal S8192x1536 .f32) (ix2 i n)
      = (args V0).y i n := by
  clean_types
  pointwise
  by_cases h : n.val < 512
  · rw [dif_pos h]
    exact ya_col V0 hf i _ n rfl
  · rw [dif_neg h]
    by_cases h' : n.val - 512 < 512
    · rw [dif_pos h']
      exact yb_col V0 i ⟨n.val - 512, h'⟩ n (by show n.val = 512 + (n.val - 512); omega)
    · rw [dif_neg h']
      exact yc_col V0 i ⟨n.val - 512 - 512, by omega⟩ n (by show n.val = 1024 + (n.val - 512 - 512); omega)

theorem pz_entry (i : Fin 8192) (n : Fin 1024) :
    (concatenate S8192x1024 1 [⟨S8192x512, shapeCast _ (Value.res_main_v86 V0) Gen.shapeCasts_S8192x4x128_S8192x512⟩, ⟨S8192x512, Value.res_main_v153 V0⟩]
      Gen.concatenates_S8192x512_S8192x512_S8192x1024_d1 : FVec Ideal S8192x1024 .f32) (ix2 i n) = (args V0).pz i n := by
  clean_types
  pointwise
  simp only [pool_entry V0 hf, cz_entry]
  rfl

theorem b_entry (i : Fin 8192) (n : Fin 3072) :
    (concatenate S8192x3072 1 [⟨S8192x1024, (Value.res_main_v155 V0 : FVec Ideal S8192x1024 .f32)⟩, ⟨S8192x1024, (Value.res_main_v156 V0 : FVec Ideal S8192x1024 .f32)⟩,
      ⟨S8192x1024, (Value.res_main_v157 V0 : FVec Ideal S8192x1024 .f32)⟩] Gen.concatenates_S8192x1024_S8192x1024_S8192x1024_S8192x3072_d1 : FVec Ideal S8192x3072 .f32)
      (ix2 i n) = (args V0).b i n := by
  clean_types
  pointwise
  simp only [ba_entry V0 hf, bb_entry, bc_entry, Nat.sub_sub, show (n.val - 1024 < 1024) = (n.val < 2048) from propext (by omega)]
  rfl

end

theorem narrow {s : Shape} (x : FVec Ideal s .f32) (h : FTy.bits .bf16 < FTy.bits .f32) (i : s.Idx) : truncf .bf16 x h i = x i := rfl

/-- The run, read: the results as functions of the arguments, which stay as they were. -/
theorem run (ρ : Dev nD → PrngReg) (hf : ∀ c i n, Cert.Step.Fin' ((args (StableHlo.launchContents m c)).p i n)) :
    θ_run defs (onTc (τ := τ) (main (F := Ideal))) ⟨m, fun _ => 0, ρ⟩ fun r => ∀ c : Dev nD,
      r.2.mem ((c.tc : Thread nD τ).loc main_v182) = (fun y : S8192x1024.Idx => (args (StableHlo.launchContents m c)).out (y 0) (y 1))
      ∧ r.2.mem ((c.tc : Thread nD τ).loc main_v184) = (fun y : S8192x1536.Idx => (args (StableHlo.launchContents m c)).y (y 0) (y 1))
      ∧ r.2.mem ((c.tc : Thread nD τ).loc main_v187) = (fun y : S8192x1024.Idx => (args (StableHlo.launchContents m c)).pz (y 0) (y 1))
      ∧ r.2.mem ((c.tc : Thread nD τ).loc main_v189) = (fun y : S8192x3072.Idx => (args (StableHlo.launchContents m c)).b (y 0) (y 1))
      ∧ r.2.mem ((c.tc : Thread nD τ).loc main_v190) = (fun y : S8192x1024.Idx => (args (StableHlo.launchContents m c)).merged (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) := by
  refine (θ_run defs _ _).mono (fun _ h c => ?_) (Value.run m ρ)
  obtain ⟨e0, e1, e2, e3, e4, e⟩ := h c
  refine ⟨?_, ?_, ?_, ?_, ?_, e⟩
  · rw [e0]
    funext y
    idx_vars y
    exact out_entry (StableHlo.launchContents m c) (hf c) _ _
  · rw [e1]
    funext y
    idx_vars y
    exact (narrow _ _ _).trans (y_entry (StableHlo.launchContents m c) (hf c) _ _)
  · rw [e2]
    funext y
    idx_vars y
    exact (narrow _ _ _).trans (pz_entry (StableHlo.launchContents m c) (hf c) _ _)
  · rw [e3]
    funext y
    idx_vars y
    exact (narrow _ _ _).trans (b_entry (StableHlo.launchContents m c) (hf c) _ _)
  · rw [e4]
    funext y
    idx_vars y
    exact (narrow _ _ _).trans (merged_entry (StableHlo.launchContents m c) (hf c) _ _)

end Cert.MixReferenceIdeal.Read

end
-- ==== Proof.MixClaim.lean ====
/- The claims about the mixer's forward pass. -/
module

public import proofs.«01_k».proof.Defs
public import proofs.«01_k».proof.Proof.Gen.MixKernel.Frame
public import proofs.«01_k».proof.Proof.Gen.Pre_finite_mix
public import proofs.«01_k».proof.Proof.Gen.MixReferenceIdeal
public import proofs.«01_k».proof.Proof.MixKernelValue
public import proofs.«01_k».proof.Proof.MixReferenceRun
public import proofs.«01_k».proof.Proof.FiniteArgs

@[expose] public section

set_option maxRecDepth 16384

noncomputable section

namespace Cert.Pre_finite_mix

open Cert.Pre_finite_mix Idealize.ShloMosaic

/-- The precondition, read: the projected activations are real numbers. -/
theorem fin_of_fn [Facts] (x : FVec Ideal S8192x1024 .f32) (p : FVec Ideal S8192x6144 .f32) (wp : FVec Ideal S4x128x128 .f32) (ps gs : FVec Ideal S512 .f32)
    (ws : FVec Ideal S4x128x128 .f32) (bs : FVec Ideal S4x128 .f32) (cc : FVec Ideal S3x512 .f32) (wa wb wc : FVec Ideal S512x1024 .f32)
    (wo : FVec Ideal S1024x1024 .f32) (h : fn (F := Ideal) x p wp ps gs ws bs cc wa wb wc wo = fun _ => 1#1) : ∀ i, Cert.Step.Fin' (p i) := by
  have e := congrFun h ix0
  dsimp only [fn] at e
  have : Subsingleton S_.Idx := ⟨fun a b => funext fun i => i.elim0⟩
  exact Cert.Step.fin_of_all _ _ Cert.Step.word_inf _ _ _ _ _ e

end Cert.Pre_finite_mix

namespace Cert.Proof

open Idealize.ShloMosaic Idealize.SL.Sem

theorem mix_fin (m : (ℓ : Loc Cert.MixKernelIdeal.nD Cert.MixKernelIdeal.τ Cert.MixKernelIdeal.sig) → Buf (Elt Ideal) ℓ)
    (h : Cert.Pre_MixKernelIdeal_finite_mix m) (c : Dev Cert.MixKernelIdeal.nD) (i : Fin 8192) (n : Fin 6144) :
    Cert.Step.Fin' ((Cert.MixKernelIdeal.Body.args m c).p i n) :=
  Cert.Pre_finite_mix.fin_of_fn _ _ _ _ _ _ _ _ _ _ _ _ (h c) (ix2 i n)

theorem mix_algebraic : Cert.algebraic_MixKernelIdeal_MixReferenceIdeal_pre_finite_mix := by
  intro m ρ m' ρ' hpre hagree
  refine ⟨fun c => Cert.MixKernelIdeal.Body.resOut m c,
    fun c => Cert.MixKernelIdeal.Body.resY m c,
    fun c => Cert.MixKernelIdeal.Body.resPz m c,
    fun c => Cert.MixKernelIdeal.Body.resB m c,
    fun c => Cert.MixKernelIdeal.Body.resMerged m c, Cert.MixKernelIdeal.Body.run m ρ, ?_⟩
  have e : ∀ c, Cert.MixReferenceIdeal.Read.args (StableHlo.launchContents m' c) = Cert.MixKernelIdeal.Body.args m c := fun c => by
    obtain ⟨h0, h1, h2, h3, h4, h5, h6, h7, h8, h9, h10, h11⟩ := hagree c
    unfold Cert.MixReferenceIdeal.Read.args Cert.MixKernelIdeal.Body.args
    congr 1
    · exact funext fun i => funext fun k => congrFun h0 (ix2 i k)
    · exact funext fun i => funext fun n => congrFun h1 (ix2 i n)
    · exact funext fun g => funext fun d => funext fun n => congrFun h2 (ix3 g d n)
    · exact funext fun n => congrFun h3 (ix1 n)
    · exact funext fun n => congrFun h4 (ix1 n)
    · exact funext fun g => funext fun r => funext fun s => congrFun h5 (ix3 g r s)
    · exact funext fun g => funext fun r => congrFun h6 (ix2 g r)
    · exact funext fun s => funext fun n => congrFun h7 (ix2 s n)
    · exact funext fun n => funext fun k => congrFun h8 (ix2 n k)
    · exact funext fun n => funext fun k => congrFun h9 (ix2 n k)
    · exact funext fun n => funext fun k => congrFun h10 (ix2 n k)
    · exact funext fun n => funext fun k => congrFun h11 (ix2 n k)
  refine (θ_run Cert.MixReferenceIdeal.defs _ _).mono (fun _ h c => ⟨?_, ?_, ?_, ?_, ?_, (h c).2.2.2.2.2⟩)
    (Cert.MixReferenceIdeal.Read.run m' ρ' fun c i n => by rw [e]; exact mix_fin m hpre c i n)
  · rw [(h c).1, e]; rfl
  · rw [(h c).2.1, e]; rfl
  · rw [(h c).2.2.1, e]; rfl
  · rw [(h c).2.2.2.1, e]; rfl
  · rw [(h c).2.2.2.2.1, e]; rfl

theorem mix_reference_frame : Cert.quiescent_MixReferenceIdeal := fun m ρ _ =>
  (θ_run Cert.MixReferenceIdeal.defs _ _).mono (fun r h => ⟨fun c => (h c).2.2.2.2.2, sem_eq_zero_of_no_sems (by decide) r.2⟩)
    (Cert.MixReferenceIdeal.Value.run (F := Ideal) m ρ)

theorem mix_frames : Cert.quiescent_MixKernel ∧ Cert.quiescent_MixKernelIdeal ∧ Cert.quiescent_MixKernelIdeal_pre_finite_mix
    ∧ Cert.quiescent_MixReferenceIdeal ∧ Cert.quiescent_MixReferenceIdeal_pre_finite_mix :=
  ⟨fun m ρ _ => Cert.MixKernel.Gen.frame m ρ, fun m ρ _ => Cert.MixKernelIdeal.Gen.frame m ρ, fun m ρ _ => Cert.MixKernelIdeal.Gen.frame m ρ,
    mix_reference_frame, fun m ρ _ => mix_reference_frame m ρ trivial⟩

end Cert.Proof

end
-- ==== Proof.FuseSpec.lean ====
/- The mixer with the input projection in it: its arguments, and the mixer's arguments that they give. -/
module

public import proofs.«01_k».proof.Proof.MixSpec
public import proofs.«01_k».proof.Proof.InSpec
public import proofs.«01_k».proof.Proof.FfnForward

@[expose] public section

noncomputable section

namespace Cert.Step

open Idealize.ShloMosaic

/-- The arguments: those of the mixer except the projection, and what the projection is computed from. -/
structure FuseArgs where
  x : Fin 8192 → Fin 1024 → EReal
  g : Fin 1024 → EReal
  w : Fin 1024 → Fin 6144 → EReal
  wp : Fin 4 → Fin 128 → Fin 128 → EReal
  ps : Fin 512 → EReal
  gs : Fin 512 → EReal
  ws : Fin 4 → Fin 128 → Fin 128 → EReal
  bs : Fin 4 → Fin 128 → EReal
  cc : Fin 3 → Fin 512 → EReal
  wa : Fin 512 → Fin 1024 → EReal
  wb : Fin 512 → Fin 1024 → EReal
  wc : Fin 512 → Fin 1024 → EReal
  wo : Fin 1024 → Fin 1024 → EReal

namespace FuseArgs

variable (a : FuseArgs)

/-- The normed rows. -/
def h (i : Fin 8192) (k : Fin 1024) : EReal := normed (a.x i) a.g k

/-- The mixer's arguments: its projection is the normed rows' product with the weight. -/
def mix : MixArgs where
  x := a.x
  p i n := proj (a.x i) a.g a.w n
  wp := a.wp
  ps := a.ps
  gs := a.gs
  ws := a.ws
  bs := a.bs
  cc := a.cc
  wa := a.wa
  wb := a.wb
  wc := a.wc
  wo := a.wo

end FuseArgs

end Cert.Step

end
-- ==== Proof.FusePieces.lean ====
/- The input projection inside the mixer's body on one tile of rows: the normed rows, the eight bands of columns the body stores, and
   what it reads back of them. -/
module

public import proofs.«01_k».proof.Proof.MixTail
public import proofs.«01_k».proof.Proof.FuseSpec
public import proofs.«01_k».proof.Proof.Gen.FuseKernelIdeal.Frame

@[expose] public section

set_option maxRecDepth 16384

noncomputable section

namespace Cert.FuseKernelIdeal.Body

open Cert.FuseKernelIdeal Cert.FuseKernelIdeal.Gen Idealize.ShloMosaic Idealize.ShloMosaic.TcCoe Idealize.SL.Sem
open Cert.Step (FuseArgs normed proj)
open Cert.MixKernelIdeal.Body (tileRow)
open Cert.Slab

variable (a : FuseArgs) (t : Fin 32)

/-- A tile's rows of the projection and of the normed rows. -/
def pG (y : S256x6144.Idx) : EReal := a.mix.p (tileRow t (y 0)) (y 1)
@[inherit_doc pG] def hG (y : S256x1024.Idx) : EReal := a.h (tileRow t (y 0)) (y 1)

/-- Column `q` of band `j`. -/
abbrev bandCol (j : Fin 8) (q : Fin 768) : Fin 6144 := ⟨768 * j.val + q.val, by omega⟩

/-- What the body is handed at tile `t`. -/
structure FTile (x0 : Vec Ideal S256x1024 .f32) (x1 : Vec Ideal S1x1024 .f32) (x2 : Vec Ideal S8x1024x768 .bf16) (x3 : Vec Ideal S4x128x128 .bf16)
    (x4 x5 : Vec Ideal S1x512 .f32) (x6 : Vec Ideal S4x128x128 .f32) (x7 : Vec Ideal S128x4 .f32) (x8 : Vec Ideal S3x512 .f32)
    (x9 x10 x11 : Vec Ideal S8x512x128 .bf16) (x12 : Vec Ideal S8x128x1024 .bf16) (ca : Vec Ideal S16x512 .f32) (cz : Vec Ideal S8x512 .f32) : Prop where
  tile : Cert.MixKernelIdeal.Body.Tile a.mix t x0 (pG a t) x3 x4 x5 x6 x7 x8 x9 x10 x11 x12 ca cz
  g : ∀ k, x1 (ix2 0 k) = a.g k
  w : ∀ j k q, x2 (ix3 j k q) = a.w k (bandCol j q)

variable {a} {t}

theorem h_apply (x : Vec Ideal S256x1024 .f32) (g : Vec Ideal S1x1024 .f32) (r : Fin 256) (k : Fin 1024) :
    k0_pay3 x g (ix2 r k) = normed (fun q => x (ix2 r q)) (fun q => g (ix2 0 q)) k := by
  pointwise [k0_pay3]
  rfl

theorem p_apply (h : FVec Ideal S256x1024 .bf16) (w : Vec Ideal S1x1024x768 .bf16) (r : Fin 256) (q : Fin 768) :
    k0_pay4 h w (ix2 r q) = ∑ k : Fin 1024, h (ix2 r k) * w (ix3 0 k q) := by
  pointwise [k0_pay4]

theorem bandIn (j : Fin 8) (b : Fin 2) : (![0, 768 * j.val] : Fin 2 → ℕ) b + (![256, 768] : Fin 2 → ℕ) b ≤ S256x6144.size b := by
  match b with
  | ⟨0, _⟩ => show 0 + 256 ≤ 256; omega
  | ⟨1, _⟩ => show 768 * j.val + 768 ≤ 6144; omega

/-- Band `j` of 768 columns. -/
abbrev band (j : Fin 8) : Rect S256x6144 := Rect.unit ![0, 768 * j.val] ![256, 768] (bandIn j)

theorem band_emb (j : Fin 8) (r : Fin 256) (q : Fin 768) : (band j).emb (ix2 r q) = ix2 r (bandCol j q) :=
  funext fun b => Fin.ext (by
    match b with
    | ⟨0, _⟩ => show 0 + 1 * r.val = r.val; omega
    | ⟨1, _⟩ => show 768 * j.val + 1 * q.val = 768 * j.val + q.val; omega)

theorem mem_band (j : Fin 8) (z : S256x6144.Idx) (h : 768 * j.val ≤ (z 1).val) (h' : (z 1).val < 768 * j.val + 768) : z ∈ (band j).set := by
  rw [Rect.mem_set_unit]
  intro b
  match b with
  | ⟨0, _⟩ =>
    have h0 : (z 0).val < 256 := (z 0).isLt
    exact ⟨Nat.zero_le _, h0⟩
  | ⟨1, _⟩ => exact ⟨h, h'⟩

/-- The band a body stores. -/
abbrev bandPiece (H : FVec Ideal S256x1024 .bf16) (w : Vec Ideal S8x1024x768 .bf16) (j : Fin 8) : View.Piece (Elt Ideal) S256x6144 .bf16 :=
  ⟨band j, k0_pay4 H (rows w j 0 1024 (by omega))⟩

section
variable {x0 : Vec Ideal S256x1024 .f32} {x1 : Vec Ideal S1x1024 .f32} {x2 : Vec Ideal S8x1024x768 .bf16} {x3 : Vec Ideal S4x128x128 .bf16}
  {x4 x5 : Vec Ideal S1x512 .f32} {x6 : Vec Ideal S4x128x128 .f32} {x7 : Vec Ideal S128x4 .f32} {x8 : Vec Ideal S3x512 .f32}
  {x9 x10 x11 : Vec Ideal S8x512x128 .bf16} {x12 : Vec Ideal S8x128x1024 .bf16} {ca : Vec Ideal S16x512 .f32} {cz : Vec Ideal S8x512 .f32}
  (T : FTile a t x0 x1 x2 x3 x4 x5 x6 x7 x8 x9 x10 x11 x12 ca cz)
include T

theorem h_T (r : Fin 256) (k : Fin 1024) : k0_pay3 x0 x1 (ix2 r k) = a.h (tileRow t r) k := by
  rw [h_apply]
  exact congrArg₂ (fun u v => normed u v k) (funext fun q => T.tile.x r q) (funext fun q => T.g q)

theorem band_at (j : Fin 8) (r : Fin 256) (q : Fin 768) :
    k0_pay4 (k0_pay3 x0 x1) (rows x2 j 0 1024 (by omega)) (ix2 r q) = pG a t ((band j).emb (ix2 r q)) := by
  rw [band_emb]
  show _ = ∑ k : Fin 1024, a.h (tileRow t r) k * a.w k (bandCol j q)
  refine (p_apply _ _ r q).trans (Finset.sum_congr rfl fun k _ => congrArg₂ (· * ·) (h_T T r k) ?_)
  exact (all_rows_apply x2 j 1024 _ k q).trans (T.w j k q)

theorem band_eq (j : Fin 8) (y : S256x768.Idx) :
    k0_pay4 (k0_pay3 x0 x1) (rows x2 j 0 1024 (by omega)) y = pG a t ((band j).emb y) := by
  idx_vars y
  exact band_at T j _ _

/-- The bands stored so far, last first. -/
abbrev bands (H : FVec Ideal S256x1024 .bf16) (w : Vec Ideal S8x1024x768 .bf16) : List (View.Piece (Elt Ideal) S256x6144 .bf16) :=
  [bandPiece H w 7, bandPiece H w 6, bandPiece H w 5, bandPiece H w 4, bandPiece H w 3, bandPiece H w 2, bandPiece H w 1, bandPiece H w 0]

theorem bands_of : View.PiecesOf (pG a t) (bands (k0_pay3 x0 x1) x2) :=
  ⟨band_eq T 7, band_eq T 6, band_eq T 5, band_eq T 4, band_eq T 3, band_eq T 2, band_eq T 1, band_eq T 0, trivial⟩

/-- What the body reads back of bands it stored. -/
theorem read_bands {κ : Kind} {sp : Space} (v : View sig κ sp S256x6144 .bf16) (n : Fin 9) (L : List (View.Piece (Elt Ideal) S256x6144 .bf16))
    (hL : View.PiecesOf (pG a t) L) (hm : ∀ j : Fin 8, j.val < n.val → bandPiece (k0_pay3 x0 x1) x2 j ∈ L) (r : Rect S256x6144)
    (hr : ∀ y, (r.emb y 1).val < 768 * n.val) : v.readCov L r.toLoadRect = View.ld (pG a t) r := by
  rw [View.readCov_eq_canon']
  funext y
  show View.canon L (r.emb y) = pG a t (r.emb y)
  refine View.canon_apply_of_pieces (Val := Elt Ideal) (e := .bf16) (pG a t) L (View.PiecesOf.mem hL) (r.emb y) ?_
  have h := hr y
  have hn := n.isLt
  exact ⟨_, hm ⟨(r.emb y 1).val / 768, by omega⟩ (by show (r.emb y 1).val / 768 < n.val; omega),
    mem_band ⟨(r.emb y 1).val / 768, by omega⟩ (r.emb y) (by show 768 * ((r.emb y 1).val / 768) ≤ _; omega)
      (by show _ < 768 * ((r.emb y 1).val / 768) + 768; omega)⟩

end

/-- A box's columns stay left of its end. -/
theorem box_lt {o w N : ℕ} (inb) (h : o + w ≤ N) (y) : ((Rect.unit (s := S256x6144) ![0, o] ![256, w] inb).emb y 1).val < N := by
  have hy : (y 1).val < w := (y 1).isLt
  show o + 1 * (y 1).val < N
  omega

end Cert.FuseKernelIdeal.Body

end
-- ==== Proof.FuseReads.lean ====
/- What the mixer's body reads back: of the normed rows and of the bands of the projection stored so far, and of the branches' rows. -/
module

public import proofs.«01_k».proof.Proof.FusePieces

@[expose] public section

set_option maxRecDepth 16384

noncomputable section

namespace Cert.FuseKernelIdeal.Body

open Cert.FuseKernelIdeal Cert.FuseKernelIdeal.Gen Idealize.ShloMosaic Idealize.ShloMosaic.TcCoe Idealize.SL.Sem
open Cert.Step (FuseArgs)
open Cert.MixKernelIdeal.Body (tileRow yG yPieces yPieces_of yPieces_cover boxIn box_emb rowAt y0c y1c y2c)
open Cert.Slab

theorem readCov_fillH {κ : Kind} {sp : Space} (v : View sig κ sp S256x1024 .bf16) (inb) (Z : Vec Ideal S256x1024 .bf16)
    (L : List (View.Piece (Elt Ideal) S256x1024 .bf16)) (r : Rect S256x1024) :
    v.readCov (⟨Rect.unit (s := S256x1024) ![0, 0] ![256, 1024] inb, Z⟩ :: L) r.toLoadRect = View.ld Z r :=
  View.readCov_fill v inb Z L r (congrFun hz)

section
variable (x0 : Vec Ideal S256x1024 .f32) (x1 : Vec Ideal S1x1024 .f32) (x2 : Vec Ideal S8x1024x768 .bf16)

/-- The stores of the first bands of the projection, the last one first. -/
abbrev bands3 : List (View.Piece (Elt Ideal) S256x6144 .bf16) :=
    [ ⟨Rect.unit ![0, 1536] ![256, 768] inb_S256x6144_S256x768_0_1536, k0_pay8 (k0_pay3 x0 x1) (View.ld x2 (Rect.unit ![2, 0, 0] ![1, 1024, 768] inb_S8x1024x768_S1x1024x768_2_0_0))⟩,
    ⟨Rect.unit ![0, 768] ![256, 768] inb_S256x6144_S256x768_0_768, k0_pay7 (k0_pay5 (k0_pay3 x0 x1)) (k0_pay6 (View.ld x2 (Rect.unit ![1, 0, 0] ![1, 1024, 768] inb_S8x1024x768_S1x1024x768_1_0_0))) (constant S256x768 FTy.f32 0#32)⟩,
    ⟨Rect.unit ![0, 0] ![256, 768] inb_S256x6144_S256x768_0_0, k0_pay4 (k0_pay3 x0 x1) (View.ld x2 (Rect.unit ![0, 0, 0] ![1, 1024, 768] inb_S8x1024x768_S1x1024x768_0_0_0))⟩]
@[inherit_doc bands3] abbrev bands4 : List (View.Piece (Elt Ideal) S256x6144 .bf16) :=
    ⟨Rect.unit ![0, 2304] ![256, 768] inb_S256x6144_S256x768_0_2304, k0_pay22 (k0_pay3 x0 x1) (View.ld x2 (Rect.unit ![3, 0, 0] ![1, 1024, 768] inb_S8x1024x768_S1x1024x768_3_0_0))⟩ ::
    bands3 x0 x1 x2
@[inherit_doc bands3] abbrev bands6 : List (View.Piece (Elt Ideal) S256x6144 .bf16) :=
    ⟨Rect.unit ![0, 3840] ![256, 768] inb_S256x6144_S256x768_0_3840, k0_pay47 (k0_pay3 x0 x1) (View.ld x2 (Rect.unit ![5, 0, 0] ![1, 1024, 768] inb_S8x1024x768_S1x1024x768_5_0_0))⟩ ::
    ⟨Rect.unit ![0, 3072] ![256, 768] inb_S256x6144_S256x768_0_3072, k0_pay46 (k0_pay3 x0 x1) (View.ld x2 (Rect.unit ![4, 0, 0] ![1, 1024, 768] inb_S8x1024x768_S1x1024x768_4_0_0))⟩ ::
    bands4 x0 x1 x2
@[inherit_doc bands3] abbrev bands8 : List (View.Piece (Elt Ideal) S256x6144 .bf16) :=
    ⟨Rect.unit ![0, 5376] ![256, 768] inb_S256x6144_S256x768_0_5376, k0_pay56 (k0_pay55 (k0_pay3 x0 x1)) (View.ld x2 (Rect.unit ![7, 0, 0] ![1, 1024, 768] inb_S8x1024x768_S1x1024x768_7_0_0))⟩ ::
    ⟨Rect.unit ![0, 4608] ![256, 768] inb_S256x6144_S256x768_0_4608, k0_pay54 (k0_pay3 x0 x1) (View.ld x2 (Rect.unit ![6, 0, 0] ![1, 1024, 768] inb_S8x1024x768_S1x1024x768_6_0_0))⟩ ::
    bands6 x0 x1 x2

end

variable {a : FuseArgs} {t : Fin 32}
  {x0 : Vec Ideal S256x1024 .f32} {x1 : Vec Ideal S1x1024 .f32} {x2 : Vec Ideal S8x1024x768 .bf16} {x3 : Vec Ideal S4x128x128 .bf16}
  {x4 : Vec Ideal S1x512 .f32} {x5 : Vec Ideal S1x512 .f32} {x6 : Vec Ideal S4x128x128 .f32} {x7 : Vec Ideal S128x4 .f32}
  {x8 : Vec Ideal S3x512 .f32} {x9 : Vec Ideal S8x512x128 .bf16} {x10 : Vec Ideal S8x512x128 .bf16} {x11 : Vec Ideal S8x512x128 .bf16}
  {x12 : Vec Ideal S8x128x1024 .bf16}
  {ca : Vec Ideal S16x512 .f32} {cz : Vec Ideal S8x512 .f32}
  (T : FTile a t x0 x1 x2 x3 x4 x5 x6 x7 x8 x9 x10 x11 x12 ca cz)
include T

/-- What the body reads of the first 3 bands. -/
theorem read3 {κ : Kind} {sp : Space} (v : View sig κ sp S256x6144 .bf16) (r : Rect S256x6144) (hr : ∀ y, (r.emb y 1).val < 2304) :
    v.readCov (bands3 x0 x1 x2) r.toLoadRect = View.ld (Val := Elt Ideal) (e' := .bf16) (pG a t) r :=
  read_bands T v 3 _ (show View.PiecesOf (Val := Elt Ideal) (pG a t) [bandPiece (k0_pay3 x0 x1) x2 2, bandPiece (k0_pay3 x0 x1) x2 1, bandPiece (k0_pay3 x0 x1) x2 0] from
    ⟨band_eq T 2, band_eq T 1, band_eq T 0, trivial⟩) (fun
    | ⟨0, _⟩, _ => .tail _ (.tail _ (.head _))
    | ⟨1, _⟩, _ => .tail _ (.head _)
    | ⟨2, _⟩, _ => .head _
    | ⟨3, _⟩, h => absurd (show 3 < 3 from h) (by decide)
    | ⟨4, _⟩, h => absurd (show 4 < 3 from h) (by decide)
    | ⟨5, _⟩, h => absurd (show 5 < 3 from h) (by decide)
    | ⟨6, _⟩, h => absurd (show 6 < 3 from h) (by decide)
    | ⟨7, _⟩, h => absurd (show 7 < 3 from h) (by decide)) r hr

/-- What the body reads of the first 4 bands. -/
theorem read4 {κ : Kind} {sp : Space} (v : View sig κ sp S256x6144 .bf16) (r : Rect S256x6144) (hr : ∀ y, (r.emb y 1).val < 3072) :
    v.readCov (bands4 x0 x1 x2) r.toLoadRect = View.ld (Val := Elt Ideal) (e' := .bf16) (pG a t) r :=
  read_bands T v 4 _ (show View.PiecesOf (Val := Elt Ideal) (pG a t) [bandPiece (k0_pay3 x0 x1) x2 3, bandPiece (k0_pay3 x0 x1) x2 2, bandPiece (k0_pay3 x0 x1) x2 1, bandPiece (k0_pay3 x0 x1) x2 0] from
    ⟨band_eq T 3, band_eq T 2, band_eq T 1, band_eq T 0, trivial⟩) (fun
    | ⟨0, _⟩, _ => .tail _ (.tail _ (.tail _ (.head _)))
    | ⟨1, _⟩, _ => .tail _ (.tail _ (.head _))
    | ⟨2, _⟩, _ => .tail _ (.head _)
    | ⟨3, _⟩, _ => .head _
    | ⟨4, _⟩, h => absurd (show 4 < 4 from h) (by decide)
    | ⟨5, _⟩, h => absurd (show 5 < 4 from h) (by decide)
    | ⟨6, _⟩, h => absurd (show 6 < 4 from h) (by decide)
    | ⟨7, _⟩, h => absurd (show 7 < 4 from h) (by decide)) r hr

/-- What the body reads of the first 6 bands. -/
theorem read6 {κ : Kind} {sp : Space} (v : View sig κ sp S256x6144 .bf16) (r : Rect S256x6144) (hr : ∀ y, (r.emb y 1).val < 4608) :
    v.readCov (bands6 x0 x1 x2) r.toLoadRect = View.ld (Val := Elt Ideal) (e' := .bf16) (pG a t) r :=
  read_bands T v 6 _ (show View.PiecesOf (Val := Elt Ideal) (pG a t) [bandPiece (k0_pay3 x0 x1) x2 5, bandPiece (k0_pay3 x0 x1) x2 4, bandPiece (k0_pay3 x0 x1) x2 3, bandPiece (k0_pay3 x0 x1) x2 2, bandPiece (k0_pay3 x0 x1) x2 1, bandPiece (k0_pay3 x0 x1) x2 0] from
    ⟨band_eq T 5, band_eq T 4, band_eq T 3, band_eq T 2, band_eq T 1, band_eq T 0, trivial⟩) (fun
    | ⟨0, _⟩, _ => .tail _ (.tail _ (.tail _ (.tail _ (.tail _ (.head _)))))
    | ⟨1, _⟩, _ => .tail _ (.tail _ (.tail _ (.tail _ (.head _))))
    | ⟨2, _⟩, _ => .tail _ (.tail _ (.tail _ (.head _)))
    | ⟨3, _⟩, _ => .tail _ (.tail _ (.head _))
    | ⟨4, _⟩, _ => .tail _ (.head _)
    | ⟨5, _⟩, _ => .head _
    | ⟨6, _⟩, h => absurd (show 6 < 6 from h) (by decide)
    | ⟨7, _⟩, h => absurd (show 7 < 6 from h) (by decide)) r hr

/-- What the body reads of the first 8 bands. -/
theorem read8 {κ : Kind} {sp : Space} (v : View sig κ sp S256x6144 .bf16) (r : Rect S256x6144) (hr : ∀ y, (r.emb y 1).val < 6144) :
    v.readCov (bands8 x0 x1 x2) r.toLoadRect = View.ld (Val := Elt Ideal) (e' := .bf16) (pG a t) r :=
  read_bands T v 8 _ (show View.PiecesOf (Val := Elt Ideal) (pG a t) [bandPiece (k0_pay3 x0 x1) x2 7, bandPiece (k0_pay3 x0 x1) x2 6, bandPiece (k0_pay3 x0 x1) x2 5, bandPiece (k0_pay3 x0 x1) x2 4, bandPiece (k0_pay3 x0 x1) x2 3, bandPiece (k0_pay3 x0 x1) x2 2, bandPiece (k0_pay3 x0 x1) x2 1, bandPiece (k0_pay3 x0 x1) x2 0] from
    ⟨band_eq T 7, band_eq T 6, band_eq T 5, band_eq T 4, band_eq T 3, band_eq T 2, band_eq T 1, band_eq T 0, trivial⟩) (fun
    | ⟨0, _⟩, _ => .tail _ (.tail _ (.tail _ (.tail _ (.tail _ (.tail _ (.tail _ (.head _)))))))
    | ⟨1, _⟩, _ => .tail _ (.tail _ (.tail _ (.tail _ (.tail _ (.tail _ (.head _))))))
    | ⟨2, _⟩, _ => .tail _ (.tail _ (.tail _ (.tail _ (.tail _ (.head _)))))
    | ⟨3, _⟩, _ => .tail _ (.tail _ (.tail _ (.tail _ (.head _))))
    | ⟨4, _⟩, _ => .tail _ (.tail _ (.tail _ (.head _)))
    | ⟨5, _⟩, _ => .tail _ (.tail _ (.head _))
    | ⟨6, _⟩, _ => .tail _ (.head _)
    | ⟨7, _⟩, _ => .head _) r hr

/-- The reads of the projection's columns, each after the bands it lies in. -/
theorem reads_p {κ : Kind} {sp : Space} (v : View sig κ sp S256x6144 .bf16) :
    v.readCov (bands3 x0 x1 x2) (Rect.unit ![0, 0] ![256, 512] inb_S256x6144_S256x512_0_0).toLoadRect
      = View.ld (Val := Elt Ideal) (e' := .bf16) (pG a t) (Rect.unit ![0, 0] ![256, 512] inb_S256x6144_S256x512_0_0)
    ∧ v.readCov (bands4 x0 x1 x2) (Rect.unit ![0, 512] ![256, 1024] inb_S256x6144_S256x1024_0_512).toLoadRect
      = View.ld (Val := Elt Ideal) (e' := .bf16) (pG a t) (Rect.unit ![0, 512] ![256, 1024] inb_S256x6144_S256x1024_0_512)
    ∧ v.readCov (bands6 x0 x1 x2) (Rect.unit ![0, 1536] ![256, 512] inb_S256x6144_S256x512_0_1536).toLoadRect
      = View.ld (Val := Elt Ideal) (e' := .bf16) (pG a t) (Rect.unit ![0, 1536] ![256, 512] inb_S256x6144_S256x512_0_1536)
    ∧ v.readCov (bands6 x0 x1 x2) (Rect.unit ![0, 2048] ![256, 512] inb_S256x6144_S256x512_0_2048).toLoadRect
      = View.ld (Val := Elt Ideal) (e' := .bf16) (pG a t) (Rect.unit ![0, 2048] ![256, 512] inb_S256x6144_S256x512_0_2048)
    ∧ v.readCov (bands6 x0 x1 x2) (Rect.unit ![0, 2560] ![256, 512] inb_S256x6144_S256x512_0_2560).toLoadRect
      = View.ld (Val := Elt Ideal) (e' := .bf16) (pG a t) (Rect.unit ![0, 2560] ![256, 512] inb_S256x6144_S256x512_0_2560)
    ∧ v.readCov (bands8 x0 x1 x2) (Rect.unit ![0, 3072] ![256, 1024] inb_S256x6144_S256x1024_0_3072).toLoadRect
      = View.ld (Val := Elt Ideal) (e' := .bf16) (pG a t) (Rect.unit ![0, 3072] ![256, 1024] inb_S256x6144_S256x1024_0_3072)
    ∧ v.readCov (bands8 x0 x1 x2) (Rect.unit ![0, 4096] ![256, 1024] inb_S256x6144_S256x1024_0_4096).toLoadRect
      = View.ld (Val := Elt Ideal) (e' := .bf16) (pG a t) (Rect.unit ![0, 4096] ![256, 1024] inb_S256x6144_S256x1024_0_4096)
    ∧ v.readCov (bands8 x0 x1 x2) (Rect.unit ![0, 5120] ![256, 1024] inb_S256x6144_S256x1024_0_5120).toLoadRect
      = View.ld (Val := Elt Ideal) (e' := .bf16) (pG a t) (Rect.unit ![0, 5120] ![256, 1024] inb_S256x6144_S256x1024_0_5120) :=
  ⟨read3 T v _ (box_lt _ (by omega)), read4 T v _ (box_lt _ (by omega)), read6 T v _ (box_lt _ (by omega)), read6 T v _ (box_lt _ (by omega)), read6 T v _ (box_lt _ (by omega)), read8 T v _ (box_lt _ (by omega)), read8 T v _ (box_lt _ (by omega)), read8 T v _ (box_lt _ (by omega))⟩

/-- What the body reads back of the branches' rows. -/
theorem back {i : grid0.Coords} (hi : (i 0).val = t.val) {κ : Kind} {sp : Space} (v : View sig κ sp S256x1536 .bf16) (o : ℕ) (ho : o + 512 ≤ 1536)
    (q : Fin 512 → Fin 1536) (hq : ∀ n, (q n).val = o + n.val) (r : Fin 256) (n : Fin 512) :
    v.readCov (yPieces i (pG a t) x3 x4 x5 x6 x7 x8 ca cz) (Rect.unit (s := S256x1536) ![0, o] ![256, 512] (boxIn 0 o 256 512 (by omega) ho)).toLoadRect (ix2 r n)
      = a.mix.y (tileRow t r) (q n) := by
  rw [View.readCov_eq_canon']
  refine (View.canon_apply_of_pieces (yG a.mix t) _ (View.PiecesOf.mem (yPieces_of T.tile hi)) _ (yPieces_cover i (pG a t) x3 x4 x5 x6 x7 x8 ca cz _)).trans ?_
  refine (congrArg (yG a.mix t) (box_emb 0 o 256 512 (by omega) ho r n)).trans ?_
  exact congrArg₂ a.mix.y (rowAt r _ (Nat.zero_add _)) (Fin.ext (hq n).symm)

/-- The three branches' rows, read back. -/
theorem backs {i : grid0.Coords} (hi : (i 0).val = t.val) {κ : Kind} {sp : Space} (v : View sig κ sp S256x1536 .bf16) :
    (∀ (r : Fin 256) (n : Fin 512), v.readCov (yPieces i (pG a t) x3 x4 x5 x6 x7 x8 ca cz)
      (Rect.unit (s := S256x1536) ![0, 0] ![256, 512] (boxIn 0 0 256 512 (by omega) (by omega))).toLoadRect (ix2 r n) = a.mix.y (tileRow t r) (y0c n))
    ∧ (∀ (r : Fin 256) (n : Fin 512), v.readCov (yPieces i (pG a t) x3 x4 x5 x6 x7 x8 ca cz)
      (Rect.unit (s := S256x1536) ![0, 512] ![256, 512] (boxIn 0 512 256 512 (by omega) (by omega))).toLoadRect (ix2 r n) = a.mix.y (tileRow t r) (y1c n))
    ∧ (∀ (r : Fin 256) (n : Fin 512), v.readCov (yPieces i (pG a t) x3 x4 x5 x6 x7 x8 ca cz)
      (Rect.unit (s := S256x1536) ![0, 1024] ![256, 512] (boxIn 0 1024 256 512 (by omega) (by omega))).toLoadRect (ix2 r n) = a.mix.y (tileRow t r) (y2c n)) :=
  ⟨back T hi v 0 (by omega) y0c fun n => (Nat.zero_add _).symm, back T hi v 512 (by omega) y1c fun n => rfl, back T hi v 1024 (by omega) y2c fun n => rfl⟩

end Cert.FuseKernelIdeal.Body

end
-- ==== Proof.FuseBodyA.lean ====
/- What the first grid point of the mixer with the projection in it leaves in its results and in the rows it hands on: it starts from rows of zero. -/
module

public import proofs.«01_k».proof.Proof.FuseReads

@[expose] public section

set_option maxRecDepth 16384

noncomputable section

namespace Cert.FuseKernelIdeal.Body

open Cert.FuseKernelIdeal Cert.FuseKernelIdeal.Gen Idealize.ShloMosaic Idealize.ShloMosaic.TcCoe Idealize.SL.Sem
open Cert.Step (FuseArgs)
open Cert.MixKernelIdeal.Body (tileRow yG pzG bG tailAG tailZG tailAP tailZP yPieces_of pzPieces_of bPieces_of out_T merged_T tailA_of tailZ_of tailA_cover tailZ_cover)
open Cert.Slab

theorem readCov_fillA {κ : Kind} {sp : Space} (v : View sig κ sp S16x512 .f32) (inb) (Z : Vec Ideal S16x512 .f32)
    (L : List (View.Piece (Elt Ideal) S16x512 .f32)) (r : Rect S16x512) :
    v.readCov (⟨Rect.unit (s := S16x512) ![0, 0] ![16, 512] inb, Z⟩ :: L) r.toLoadRect = View.ld Z r :=
  View.readCov_fill v inb Z L r (congrFun hz)

theorem readCov_fillZ {κ : Kind} {sp : Space} (v : View sig κ sp S8x512 .f32) (inb) (Z : Vec Ideal S8x512 .f32)
    (L : List (View.Piece (Elt Ideal) S8x512 .f32)) (r : Rect S8x512) :
    v.readCov (⟨Rect.unit (s := S8x512) ![0, 0] ![8, 512] inb, Z⟩ :: L) r.toLoadRect = View.ld Z r :=
  View.readCov_fill v inb Z L r (congrFun hz)

section
variable
  {a : FuseArgs} {t : Fin 32} (c : Dev nD) {i : grid0.Coords} (hi : (i 0).val = t.val)
  (a1 : Memref sig .tc .vmem S256x1024 .f32) (h1 : a1.IsWhole) (a2 : Memref sig .tc .vmem S1x1024 .f32) (h2 : a2.IsWhole)
  (a3 : Memref sig .tc .vmem S8x1024x768 .bf16) (h3 : a3.IsWhole) (a4 : Memref sig .tc .vmem S4x128x128 .bf16) (h4 : a4.IsWhole)
  (a5 : Memref sig .tc .vmem S1x512 .f32) (h5 : a5.IsWhole) (a6 : Memref sig .tc .vmem S1x512 .f32) (h6 : a6.IsWhole)
  (a7 : Memref sig .tc .vmem S4x128x128 .f32) (h7 : a7.IsWhole) (a8 : Memref sig .tc .vmem S128x4 .f32) (h8 : a8.IsWhole)
  (a9 : Memref sig .tc .vmem S3x512 .f32) (h9 : a9.IsWhole) (a10 : Memref sig .tc .vmem S8x512x128 .bf16) (h10 : a10.IsWhole)
  (a11 : Memref sig .tc .vmem S8x512x128 .bf16) (h11 : a11.IsWhole) (a12 : Memref sig .tc .vmem S8x512x128 .bf16) (h12 : a12.IsWhole)
  (a13 : Memref sig .tc .vmem S8x128x1024 .bf16) (h13 : a13.IsWhole) (a14 : Memref sig .tc .vmem S256x1024 .f32) (h14 : a14.IsWhole)
  (a15 : Memref sig .tc .vmem S256x1536 .bf16) (h15 : a15.IsWhole) (a16 : Memref sig .tc .vmem S256x1024 .bf16) (h16 : a16.IsWhole)
  (a17 : Memref sig .tc .vmem S256x3072 .bf16) (h17 : a17.IsWhole) (a18 : Memref sig .tc .vmem S256x1024 .bf16) (h18 : a18.IsWhole)
  (a19 : Memref sig .tc .vmem S256x6144 .bf16) (h19 : a19.IsWhole) (a20 : Memref sig .tc .vmem S256x1024 .bf16) (h20 : a20.IsWhole)
  (a21 : Memref sig .tc .vmem S16x512 .f32) (h21 : a21.IsWhole) (a22 : Memref sig .tc .vmem S8x512 .f32) (h22 : a22.IsWhole)
  {x0 : Vec Ideal S256x1024 .f32} {x1 : Vec Ideal S1x1024 .f32} {x2 : Vec Ideal S8x1024x768 .bf16} {x3 : Vec Ideal S4x128x128 .bf16}
  {x4 : Vec Ideal S1x512 .f32} {x5 : Vec Ideal S1x512 .f32} {x6 : Vec Ideal S4x128x128 .f32} {x7 : Vec Ideal S128x4 .f32}
  {x8 : Vec Ideal S3x512 .f32} {x9 : Vec Ideal S8x512x128 .bf16} {x10 : Vec Ideal S8x512x128 .bf16} {x11 : Vec Ideal S8x512x128 .bf16}
  {x12 : Vec Ideal S8x128x1024 .bf16}
  (hc : cond0_0 i) (T : FTile a t x0 x1 x2 x3 x4 x5 x6 x7 x8 x9 x10 x11 x12 (k0_pay1 (F := Ideal)) (k0_pay2 (F := Ideal)))
include hi T

theorem out_A_13 (r : Fin 256) (k : Fin 1024) : out0_A_13 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc x0 x1 x2 x3 x4 x5 x6 x7 x8 x9 x10 x11 x12 (ix2 r k) = a.mix.out (tileRow t r) k := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc x0 x1 x2 x3 x4 x5 x6 x7 x8 x9 x10 x11 x12)]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S256x1024) hz, View.ld_unit_zero (S := S1x1024) hz, View.ld_unit_zero (S := S1x512) hz, View.ld_unit_zero (S := S8x128x1024) hz3, readCov_fillH]
  try simp only [readCov_fillA, readCov_fillZ, View.ld_unit_zero (S := S16x512) hz, View.ld_unit_zero (S := S8x512) hz]
  simp only [reads_p T a19.view]
  rw [View.canon_unit_zero hz]
  exact out_T T.tile (backs T hi a15.view).1 (backs T hi a15.view).2.1 (backs T hi a15.view).2.2 r k

theorem out_A_17 (r : Fin 256) (k : Fin 1024) : out0_A_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc x0 x1 x2 x3 x4 x5 x6 x7 x8 x9 x10 x11 x12 (ix2 r k) = a.mix.merged (tileRow t r) k := by
  unfold out0_A_17
  rw [View.read_writes_eq_canon _ _ _ (cover0_A_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc x0 x1 x2 x3 x4 x5 x6 x7 x8 x9 x10 x11 x12)]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S256x1024) hz, View.ld_unit_zero (S := S1x1024) hz, View.ld_unit_zero (S := S1x512) hz, View.ld_unit_zero (S := S8x128x1024) hz3, readCov_fillH]
  try simp only [readCov_fillA, readCov_fillZ, View.ld_unit_zero (S := S16x512) hz, View.ld_unit_zero (S := S8x512) hz]
  simp only [reads_p T a19.view]
  rw [View.canon_unit_zero hz]
  exact merged_T T.tile (backs T hi a15.view).1 (backs T hi a15.view).2.1 (backs T hi a15.view).2.2 r k

theorem out_A_19 (r : Fin 256) (k : Fin 1024) : out0_A_19 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc x0 x1 x2 x3 x4 x5 x6 x7 x8 x9 x10 x11 x12 (ix2 r k) = a.h (tileRow t r) k := by
  unfold out0_A_19
  rw [View.read_writes_eq_canon _ _ _ (cover0_A_19 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc x0 x1 x2 x3 x4 x5 x6 x7 x8 x9 x10 x11 x12)]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S256x1024) hz, View.ld_unit_zero (S := S1x1024) hz, View.ld_unit_zero (S := S1x512) hz, View.ld_unit_zero (S := S8x128x1024) hz3, readCov_fillH]
  try simp only [readCov_fillA, readCov_fillZ, View.ld_unit_zero (S := S16x512) hz, View.ld_unit_zero (S := S8x512) hz]
  rw [View.canon_unit_zero hz]
  exact h_T T r k

theorem out_A_14 (y : S256x1536.Idx) : out0_A_14 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc x0 x1 x2 x3 x4 x5 x6 x7 x8 x9 x10 x11 x12 y = yG a.mix t y := by
  unfold out0_A_14
  refine View.read_writes_apply_of_pieces (Val := Elt Ideal) _ _ (yG a.mix t) _ (View.PiecesOf.mem ?_) y (cover0_A_14 (F := Ideal) ..)
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S256x1024) hz, View.ld_unit_zero (S := S1x1024) hz, View.ld_unit_zero (S := S1x512) hz, View.ld_unit_zero (S := S8x128x1024) hz3, readCov_fillH]
  try simp only [readCov_fillA, readCov_fillZ, View.ld_unit_zero (S := S16x512) hz, View.ld_unit_zero (S := S8x512) hz]
  simp only [reads_p T a19.view]
  exact yPieces_of T.tile hi

theorem out_A_15 (y : S256x1024.Idx) : out0_A_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc x0 x1 x2 x3 x4 x5 x6 x7 x8 x9 x10 x11 x12 y = pzG a.mix t y := by
  unfold out0_A_15
  refine View.read_writes_apply_of_pieces (Val := Elt Ideal) _ _ (pzG a.mix t) _ (View.PiecesOf.mem ?_) y (cover0_A_15 (F := Ideal) ..)
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S256x1024) hz, View.ld_unit_zero (S := S1x1024) hz, View.ld_unit_zero (S := S1x512) hz, View.ld_unit_zero (S := S8x128x1024) hz3, readCov_fillH]
  try simp only [readCov_fillA, readCov_fillZ, View.ld_unit_zero (S := S16x512) hz, View.ld_unit_zero (S := S8x512) hz]
  simp only [reads_p T a19.view]
  have e := pzPieces_of T.tile hi
  unfold Cert.MixKernelIdeal.Body.pzPieces at e
  obtain ⟨e0, e1, e2, e3, e4, _⟩ := e
  exact ⟨e0, e1, e2, e3, e4, trivial⟩

theorem out_A_16 (y : S256x3072.Idx) : out0_A_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc x0 x1 x2 x3 x4 x5 x6 x7 x8 x9 x10 x11 x12 y = bG a.mix t y := by
  unfold out0_A_16
  refine View.read_writes_apply_of_pieces (Val := Elt Ideal) _ _ (bG a.mix t) _ (View.PiecesOf.mem ?_) y (cover0_A_16 (F := Ideal) ..)
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S256x1024) hz, View.ld_unit_zero (S := S1x1024) hz, View.ld_unit_zero (S := S1x512) hz, View.ld_unit_zero (S := S8x128x1024) hz3, readCov_fillH]
  try simp only [readCov_fillA, readCov_fillZ, View.ld_unit_zero (S := S16x512) hz, View.ld_unit_zero (S := S8x512) hz]
  simp only [reads_p T a19.view]
  exact bPieces_of T.tile (backs T hi a15.view).1 (backs T hi a15.view).2.1 (backs T hi a15.view).2.2

theorem out_A_18 (y : S256x6144.Idx) : out0_A_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc x0 x1 x2 x3 x4 x5 x6 x7 x8 x9 x10 x11 x12 y = pG a t y := by
  unfold out0_A_18
  refine View.read_writes_apply_of_pieces (Val := Elt Ideal) _ _ (pG a t) _ (View.PiecesOf.mem ?_) y (cover0_A_18 (F := Ideal) ..)
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S256x1024) hz, View.ld_unit_zero (S := S1x1024) hz, View.ld_unit_zero (S := S1x512) hz, View.ld_unit_zero (S := S8x128x1024) hz3, readCov_fillH]
  try simp only [readCov_fillA, readCov_fillZ, View.ld_unit_zero (S := S16x512) hz, View.ld_unit_zero (S := S8x512) hz]
  exact bands_of T

theorem sout_A_0 (y : S16x512.Idx) : sout0_A_0 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc x0 x1 x2 x3 x4 x5 x6 x7 x8 x9 x10 x11 x12 y = tailAG a.mix t y := by
  unfold sout0_A_0
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S256x1024) hz, View.ld_unit_zero (S := S1x1024) hz, View.ld_unit_zero (S := S1x512) hz, View.ld_unit_zero (S := S8x128x1024) hz3, readCov_fillH]
  try simp only [readCov_fillA, readCov_fillZ, View.ld_unit_zero (S := S16x512) hz, View.ld_unit_zero (S := S8x512) hz]
  simp only [reads_p T a19.view]
  refine (congrFun (congrArg _ (View.writes_append VS0_0 _ (tailAP (pG a t)) [_])) y).trans ?_
  exact View.read_writes_apply_of_pieces (Val := Elt Ideal) _ _ (tailAG a.mix t) (tailAP (pG a t)) (View.PiecesOf.mem (tailA_of T.tile)) y (tailA_cover (pG a t) y)

theorem sout_A_1 (y : S8x512.Idx) : sout0_A_1 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc x0 x1 x2 x3 x4 x5 x6 x7 x8 x9 x10 x11 x12 y = tailZG a.mix t y := by
  unfold sout0_A_1
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S256x1024) hz, View.ld_unit_zero (S := S1x1024) hz, View.ld_unit_zero (S := S1x512) hz, View.ld_unit_zero (S := S8x128x1024) hz3, readCov_fillH]
  try simp only [readCov_fillA, readCov_fillZ, View.ld_unit_zero (S := S16x512) hz, View.ld_unit_zero (S := S8x512) hz]
  simp only [reads_p T a19.view]
  refine (congrFun (congrArg _ (View.writes_append VS0_1 _ (tailZP (pG a t)) [_])) y).trans ?_
  exact View.read_writes_apply_of_pieces (Val := Elt Ideal) _ _ (tailZG a.mix t) (tailZP (pG a t)) (View.PiecesOf.mem (tailZ_of T.tile)) y (tailZ_cover (pG a t) y)

end

end Cert.FuseKernelIdeal.Body

end
-- ==== Proof.FuseBodyB.lean ====
/- What a later grid point of the mixer with the projection in it leaves in its results and in the rows it hands on: it starts from the rows handed to it. -/
module

public import proofs.«01_k».proof.Proof.FuseReads

@[expose] public section

set_option maxRecDepth 16384

noncomputable section

namespace Cert.FuseKernelIdeal.Body

open Cert.FuseKernelIdeal Cert.FuseKernelIdeal.Gen Idealize.ShloMosaic Idealize.ShloMosaic.TcCoe Idealize.SL.Sem
open Cert.Step (FuseArgs)
open Cert.MixKernelIdeal.Body (tileRow yG pzG bG tailAG tailZG tailAP tailZP yPieces_of pzPieces_of bPieces_of out_T merged_T tailA_of tailZ_of tailA_cover tailZ_cover)
open Cert.Slab

section
variable
  {a : FuseArgs} {t : Fin 32} (c : Dev nD) {i : grid0.Coords} (hi : (i 0).val = t.val)
  (a1 : Memref sig .tc .vmem S256x1024 .f32) (h1 : a1.IsWhole) (a2 : Memref sig .tc .vmem S1x1024 .f32) (h2 : a2.IsWhole)
  (a3 : Memref sig .tc .vmem S8x1024x768 .bf16) (h3 : a3.IsWhole) (a4 : Memref sig .tc .vmem S4x128x128 .bf16) (h4 : a4.IsWhole)
  (a5 : Memref sig .tc .vmem S1x512 .f32) (h5 : a5.IsWhole) (a6 : Memref sig .tc .vmem S1x512 .f32) (h6 : a6.IsWhole)
  (a7 : Memref sig .tc .vmem S4x128x128 .f32) (h7 : a7.IsWhole) (a8 : Memref sig .tc .vmem S128x4 .f32) (h8 : a8.IsWhole)
  (a9 : Memref sig .tc .vmem S3x512 .f32) (h9 : a9.IsWhole) (a10 : Memref sig .tc .vmem S8x512x128 .bf16) (h10 : a10.IsWhole)
  (a11 : Memref sig .tc .vmem S8x512x128 .bf16) (h11 : a11.IsWhole) (a12 : Memref sig .tc .vmem S8x512x128 .bf16) (h12 : a12.IsWhole)
  (a13 : Memref sig .tc .vmem S8x128x1024 .bf16) (h13 : a13.IsWhole) (a14 : Memref sig .tc .vmem S256x1024 .f32) (h14 : a14.IsWhole)
  (a15 : Memref sig .tc .vmem S256x1536 .bf16) (h15 : a15.IsWhole) (a16 : Memref sig .tc .vmem S256x1024 .bf16) (h16 : a16.IsWhole)
  (a17 : Memref sig .tc .vmem S256x3072 .bf16) (h17 : a17.IsWhole) (a18 : Memref sig .tc .vmem S256x1024 .bf16) (h18 : a18.IsWhole)
  (a19 : Memref sig .tc .vmem S256x6144 .bf16) (h19 : a19.IsWhole) (a20 : Memref sig .tc .vmem S256x1024 .bf16) (h20 : a20.IsWhole)
  (a21 : Memref sig .tc .vmem S16x512 .f32) (h21 : a21.IsWhole) (a22 : Memref sig .tc .vmem S8x512 .f32) (h22 : a22.IsWhole)
  {x0 : Vec Ideal S256x1024 .f32} {x1 : Vec Ideal S1x1024 .f32} {x2 : Vec Ideal S8x1024x768 .bf16} {x3 : Vec Ideal S4x128x128 .bf16}
  {x4 : Vec Ideal S1x512 .f32} {x5 : Vec Ideal S1x512 .f32} {x6 : Vec Ideal S4x128x128 .f32} {x7 : Vec Ideal S128x4 .f32}
  {x8 : Vec Ideal S3x512 .f32} {x9 : Vec Ideal S8x512x128 .bf16} {x10 : Vec Ideal S8x512x128 .bf16} {x11 : Vec Ideal S8x512x128 .bf16}
  {x12 : Vec Ideal S8x128x1024 .bf16}
  {xs0 : Vec Ideal S16x512 .f32} {xs1 : Vec Ideal S8x512 .f32}
  (hc : ¬cond0_0 i) (T : FTile a t x0 x1 x2 x3 x4 x5 x6 x7 x8 x9 x10 x11 x12 xs0 xs1)
include hi T

theorem out_B_13 (r : Fin 256) (k : Fin 1024) : out0_B_13 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc x0 x1 x2 x3 x4 x5 x6 x7 x8 x9 x10 x11 x12 xs0 xs1 (ix2 r k) = a.mix.out (tileRow t r) k := by
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc x0 x1 x2 x3 x4 x5 x6 x7 x8 x9 x10 x11 x12 xs0 xs1)]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S256x1024) hz, View.ld_unit_zero (S := S1x1024) hz, View.ld_unit_zero (S := S1x512) hz, View.ld_unit_zero (S := S8x128x1024) hz3, readCov_fillH, h21.read_unread, h22.read_unread, View.ld_unit_zero (S := S16x512) hz, View.ld_unit_zero (S := S8x512) hz]
  simp only [reads_p T a19.view]
  rw [View.canon_unit_zero hz]
  exact out_T T.tile (backs T hi a15.view).1 (backs T hi a15.view).2.1 (backs T hi a15.view).2.2 r k

theorem out_B_17 (r : Fin 256) (k : Fin 1024) : out0_B_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc x0 x1 x2 x3 x4 x5 x6 x7 x8 x9 x10 x11 x12 xs0 xs1 (ix2 r k) = a.mix.merged (tileRow t r) k := by
  unfold out0_B_17
  rw [View.read_writes_eq_canon _ _ _ (cover0_B_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc x0 x1 x2 x3 x4 x5 x6 x7 x8 x9 x10 x11 x12 xs0 xs1)]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S256x1024) hz, View.ld_unit_zero (S := S1x1024) hz, View.ld_unit_zero (S := S1x512) hz, View.ld_unit_zero (S := S8x128x1024) hz3, readCov_fillH, h21.read_unread, h22.read_unread, View.ld_unit_zero (S := S16x512) hz, View.ld_unit_zero (S := S8x512) hz]
  simp only [reads_p T a19.view]
  rw [View.canon_unit_zero hz]
  exact merged_T T.tile (backs T hi a15.view).1 (backs T hi a15.view).2.1 (backs T hi a15.view).2.2 r k

theorem out_B_19 (r : Fin 256) (k : Fin 1024) : out0_B_19 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc x0 x1 x2 x3 x4 x5 x6 x7 x8 x9 x10 x11 x12 xs0 xs1 (ix2 r k) = a.h (tileRow t r) k := by
  unfold out0_B_19
  rw [View.read_writes_eq_canon _ _ _ (cover0_B_19 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc x0 x1 x2 x3 x4 x5 x6 x7 x8 x9 x10 x11 x12 xs0 xs1)]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S256x1024) hz, View.ld_unit_zero (S := S1x1024) hz, View.ld_unit_zero (S := S1x512) hz, View.ld_unit_zero (S := S8x128x1024) hz3, readCov_fillH, h21.read_unread, h22.read_unread, View.ld_unit_zero (S := S16x512) hz, View.ld_unit_zero (S := S8x512) hz]
  rw [View.canon_unit_zero hz]
  exact h_T T r k

theorem out_B_14 (y : S256x1536.Idx) : out0_B_14 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc x0 x1 x2 x3 x4 x5 x6 x7 x8 x9 x10 x11 x12 xs0 xs1 y = yG a.mix t y := by
  unfold out0_B_14
  refine View.read_writes_apply_of_pieces (Val := Elt Ideal) _ _ (yG a.mix t) _ (View.PiecesOf.mem ?_) y (cover0_B_14 (F := Ideal) ..)
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S256x1024) hz, View.ld_unit_zero (S := S1x1024) hz, View.ld_unit_zero (S := S1x512) hz, View.ld_unit_zero (S := S8x128x1024) hz3, readCov_fillH, h21.read_unread, h22.read_unread, View.ld_unit_zero (S := S16x512) hz, View.ld_unit_zero (S := S8x512) hz]
  simp only [reads_p T a19.view]
  exact yPieces_of T.tile hi

theorem out_B_15 (y : S256x1024.Idx) : out0_B_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc x0 x1 x2 x3 x4 x5 x6 x7 x8 x9 x10 x11 x12 xs0 xs1 y = pzG a.mix t y := by
  unfold out0_B_15
  refine View.read_writes_apply_of_pieces (Val := Elt Ideal) _ _ (pzG a.mix t) _ (View.PiecesOf.mem ?_) y (cover0_B_15 (F := Ideal) ..)
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S256x1024) hz, View.ld_unit_zero (S := S1x1024) hz, View.ld_unit_zero (S := S1x512) hz, View.ld_unit_zero (S := S8x128x1024) hz3, readCov_fillH, h21.read_unread, h22.read_unread, View.ld_unit_zero (S := S16x512) hz, View.ld_unit_zero (S := S8x512) hz]
  simp only [reads_p T a19.view]
  have e := pzPieces_of T.tile hi
  unfold Cert.MixKernelIdeal.Body.pzPieces at e
  obtain ⟨e0, e1, e2, e3, e4, _⟩ := e
  exact ⟨e0, e1, e2, e3, e4, trivial⟩

theorem out_B_16 (y : S256x3072.Idx) : out0_B_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc x0 x1 x2 x3 x4 x5 x6 x7 x8 x9 x10 x11 x12 xs0 xs1 y = bG a.mix t y := by
  unfold out0_B_16
  refine View.read_writes_apply_of_pieces (Val := Elt Ideal) _ _ (bG a.mix t) _ (View.PiecesOf.mem ?_) y (cover0_B_16 (F := Ideal) ..)
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S256x1024) hz, View.ld_unit_zero (S := S1x1024) hz, View.ld_unit_zero (S := S1x512) hz, View.ld_unit_zero (S := S8x128x1024) hz3, readCov_fillH, h21.read_unread, h22.read_unread, View.ld_unit_zero (S := S16x512) hz, View.ld_unit_zero (S := S8x512) hz]
  simp only [reads_p T a19.view]
  exact bPieces_of T.tile (backs T hi a15.view).1 (backs T hi a15.view).2.1 (backs T hi a15.view).2.2

theorem out_B_18 (y : S256x6144.Idx) : out0_B_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc x0 x1 x2 x3 x4 x5 x6 x7 x8 x9 x10 x11 x12 xs0 xs1 y = pG a t y := by
  unfold out0_B_18
  refine View.read_writes_apply_of_pieces (Val := Elt Ideal) _ _ (pG a t) _ (View.PiecesOf.mem ?_) y (cover0_B_18 (F := Ideal) ..)
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S256x1024) hz, View.ld_unit_zero (S := S1x1024) hz, View.ld_unit_zero (S := S1x512) hz, View.ld_unit_zero (S := S8x128x1024) hz3, readCov_fillH, h21.read_unread, h22.read_unread, View.ld_unit_zero (S := S16x512) hz, View.ld_unit_zero (S := S8x512) hz]
  exact bands_of T

theorem sout_B_0 (y : S16x512.Idx) : sout0_B_0 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc x0 x1 x2 x3 x4 x5 x6 x7 x8 x9 x10 x11 x12 xs0 xs1 y = tailAG a.mix t y := by
  unfold sout0_B_0
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S256x1024) hz, View.ld_unit_zero (S := S1x1024) hz, View.ld_unit_zero (S := S1x512) hz, View.ld_unit_zero (S := S8x128x1024) hz3, readCov_fillH, h21.read_unread, h22.read_unread, View.ld_unit_zero (S := S16x512) hz, View.ld_unit_zero (S := S8x512) hz]
  simp only [reads_p T a19.view]
  exact View.read_writes_apply_of_pieces (Val := Elt Ideal) _ _ (tailAG a.mix t) (tailAP (pG a t)) (View.PiecesOf.mem (tailA_of T.tile)) y (tailA_cover (pG a t) y)

theorem sout_B_1 (y : S8x512.Idx) : sout0_B_1 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc x0 x1 x2 x3 x4 x5 x6 x7 x8 x9 x10 x11 x12 xs0 xs1 y = tailZG a.mix t y := by
  unfold sout0_B_1
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S256x1024) hz, View.ld_unit_zero (S := S1x1024) hz, View.ld_unit_zero (S := S1x512) hz, View.ld_unit_zero (S := S8x128x1024) hz3, readCov_fillH, h21.read_unread, h22.read_unread, View.ld_unit_zero (S := S16x512) hz, View.ld_unit_zero (S := S8x512) hz]
  simp only [reads_p T a19.view]
  exact View.read_writes_apply_of_pieces (Val := Elt Ideal) _ _ (tailZG a.mix t) (tailZP (pG a t)) (View.PiecesOf.mem (tailZ_of T.tile)) y (tailZ_cover (pG a t) y)

end

end Cert.FuseKernelIdeal.Body

end
-- ==== Proof.FuseBlocks.lean ====
/- Where each point's blocks lie in the arrays of the mixer with the projection in it, and what the blocks it is handed hold in terms of
   the arguments. -/
module

public import proofs.«01_k».proof.Proof.FuseSpec
public import proofs.«01_k».proof.Proof.FusePieces
public import proofs.«01_k».proof.Proof.Gen.FuseKernelIdeal.Value
public import proofs.«01_k».proof.Proof.BlockIndex
public import Idealize.ShloMosaic.Lib.Pipeline.ValueKit.Geometry
public import Idealize.ShloMosaic.Lib.Pointwise
public import Idealize.ShloMosaic.Lib.Tactic

@[expose] public section

set_option maxRecDepth 16384

noncomputable section

namespace Cert.FuseKernelIdeal.Body

open Cert.FuseKernelIdeal Cert.FuseKernelIdeal.Gen Idealize.ShloMosaic Idealize.ShloMosaic.TcCoe Idealize.SL.Sem

variable (m : (ℓ : Loc nD τ sig) → Buf (Elt Ideal) ℓ) (c : Dev nD)

/-- The arguments as the buffers hold them. -/
def args : Cert.Step.FuseArgs where
  x i k := m ((c : Thread nD τ).loc main_arg0) (ix2 i k)
  g k := m ((c : Thread nD τ).loc main_arg1) (ix1 k)
  w k n := m ((c : Thread nD τ).loc main_arg2) (ix2 k n)
  wp g d e := m ((c : Thread nD τ).loc main_arg3) (ix3 g d e)
  ps n := m ((c : Thread nD τ).loc main_arg4) (ix1 n)
  gs n := m ((c : Thread nD τ).loc main_arg5) (ix1 n)
  ws g r s := m ((c : Thread nD τ).loc main_arg6) (ix3 g r s)
  bs g r := m ((c : Thread nD τ).loc main_arg7) (ix2 g r)
  cc s n := m ((c : Thread nD τ).loc main_arg8) (ix2 s n)
  wa n k := m ((c : Thread nD τ).loc main_arg9) (ix2 n k)
  wb n k := m ((c : Thread nD τ).loc main_arg10) (ix2 n k)
  wc n k := m ((c : Thread nD τ).loc main_arg11) (ix2 n k)
  wo n k := m ((c : Thread nD τ).loc main_arg12) (ix2 n k)

theorem lt_N (t : Fin cfg0.N) : t.val < 32 := lt_of_lt_of_eq t.isLt (show cfg0.N = 32 from N_0)

/-- Row `r` of point `t`'s block of 256 rows. -/
abbrev row (t : Fin cfg0.N) (r : Fin 256) : Fin 8192 := ⟨256 * t.val + r.val, by have := lt_N t; omega⟩

theorem emb0 (t : Fin cfg0.N) (r : Fin 256) (k : Fin 1024) :
    ((cfg0.win 0).blk t).view.emb (ix2 r k) = (ix2 (row t r) k : S8192x1024.Idx) :=
  Cert.Step.rows2 ((by decide +kernel : ∀ t : Fin grid0.N, win0_0.index t 0 = t.val ∧ win0_0.index t 1 = 0) t) rfl rfl rfl

theorem emb1 (t : Fin cfg0.N) (r : Fin 1) (k : Fin 1024) :
    ((cfg0.win 1).blk t).view.emb (ix2 r k) = (ix2 r k : S1x1024.Idx) :=
  Cert.Step.whole2 ((by decide +kernel : ∀ (t : Fin grid0.N) a, win0_1.index t a = 0) t) rfl rfl

theorem emb2 (t : Fin cfg0.N) (j : Fin 8) (k : Fin 1024) (q : Fin 768) :
    ((cfg0.win 2).blk t).view.emb (ix3 j k q) = (ix3 j k q : S8x1024x768.Idx) :=
  Cert.Step.whole3 ((by decide +kernel : ∀ (t : Fin grid0.N) a, win0_2.index t a = 0) t) rfl rfl rfl

theorem emb3 (t : Fin cfg0.N) (j : Fin 4) (k : Fin 128) (q : Fin 128) :
    ((cfg0.win 3).blk t).view.emb (ix3 j k q) = (ix3 j k q : S4x128x128.Idx) :=
  Cert.Step.whole3 ((by decide +kernel : ∀ (t : Fin grid0.N) a, win0_3.index t a = 0) t) rfl rfl rfl

theorem emb4 (t : Fin cfg0.N) (r : Fin 1) (k : Fin 512) :
    ((cfg0.win 4).blk t).view.emb (ix2 r k) = (ix2 r k : S1x512.Idx) :=
  Cert.Step.whole2 ((by decide +kernel : ∀ (t : Fin grid0.N) a, win0_4.index t a = 0) t) rfl rfl

theorem emb5 (t : Fin cfg0.N) (r : Fin 1) (k : Fin 512) :
    ((cfg0.win 5).blk t).view.emb (ix2 r k) = (ix2 r k : S1x512.Idx) :=
  Cert.Step.whole2 ((by decide +kernel : ∀ (t : Fin grid0.N) a, win0_5.index t a = 0) t) rfl rfl

theorem emb6 (t : Fin cfg0.N) (j : Fin 4) (k : Fin 128) (q : Fin 128) :
    ((cfg0.win 6).blk t).view.emb (ix3 j k q) = (ix3 j k q : S4x128x128.Idx) :=
  Cert.Step.whole3 ((by decide +kernel : ∀ (t : Fin grid0.N) a, win0_6.index t a = 0) t) rfl rfl rfl

theorem emb7 (t : Fin cfg0.N) (r : Fin 128) (k : Fin 4) :
    ((cfg0.win 7).blk t).view.emb (ix2 r k) = (ix2 r k : S128x4.Idx) :=
  Cert.Step.whole2 ((by decide +kernel : ∀ (t : Fin grid0.N) a, win0_7.index t a = 0) t) rfl rfl

theorem emb8 (t : Fin cfg0.N) (r : Fin 3) (k : Fin 512) :
    ((cfg0.win 8).blk t).view.emb (ix2 r k) = (ix2 r k : S3x512.Idx) :=
  Cert.Step.whole2 ((by decide +kernel : ∀ (t : Fin grid0.N) a, win0_8.index t a = 0) t) rfl rfl

theorem emb9 (t : Fin cfg0.N) (j : Fin 8) (k : Fin 512) (q : Fin 128) :
    ((cfg0.win 9).blk t).view.emb (ix3 j k q) = (ix3 j k q : S8x512x128.Idx) :=
  Cert.Step.whole3 ((by decide +kernel : ∀ (t : Fin grid0.N) a, win0_9.index t a = 0) t) rfl rfl rfl

theorem emb10 (t : Fin cfg0.N) (j : Fin 8) (k : Fin 512) (q : Fin 128) :
    ((cfg0.win 10).blk t).view.emb (ix3 j k q) = (ix3 j k q : S8x512x128.Idx) :=
  Cert.Step.whole3 ((by decide +kernel : ∀ (t : Fin grid0.N) a, win0_10.index t a = 0) t) rfl rfl rfl

theorem emb11 (t : Fin cfg0.N) (j : Fin 8) (k : Fin 512) (q : Fin 128) :
    ((cfg0.win 11).blk t).view.emb (ix3 j k q) = (ix3 j k q : S8x512x128.Idx) :=
  Cert.Step.whole3 ((by decide +kernel : ∀ (t : Fin grid0.N) a, win0_11.index t a = 0) t) rfl rfl rfl

theorem emb12 (t : Fin cfg0.N) (j : Fin 8) (k : Fin 128) (q : Fin 1024) :
    ((cfg0.win 12).blk t).view.emb (ix3 j k q) = (ix3 j k q : S8x128x1024.Idx) :=
  Cert.Step.whole3 ((by decide +kernel : ∀ (t : Fin grid0.N) a, win0_12.index t a = 0) t) rfl rfl rfl

theorem emb13 (t : Fin cfg0.N) (r : Fin 256) (k : Fin 1024) :
    ((cfg0.win 13).blk t).view.emb (ix2 r k) = (ix2 (row t r) k : S8192x1024.Idx) :=
  Cert.Step.rows2 ((by decide +kernel : ∀ t : Fin grid0.N, win0_13.index t 0 = t.val ∧ win0_13.index t 1 = 0) t) rfl rfl rfl

theorem emb14 (t : Fin cfg0.N) (r : Fin 256) (k : Fin 1536) :
    ((cfg0.win 14).blk t).view.emb (ix2 r k) = (ix2 (row t r) k : S8192x1536.Idx) :=
  Cert.Step.rows2 ((by decide +kernel : ∀ t : Fin grid0.N, win0_14.index t 0 = t.val ∧ win0_14.index t 1 = 0) t) rfl rfl rfl

theorem emb15 (t : Fin cfg0.N) (r : Fin 256) (k : Fin 1024) :
    ((cfg0.win 15).blk t).view.emb (ix2 r k) = (ix2 (row t r) k : S8192x1024.Idx) :=
  Cert.Step.rows2 ((by decide +kernel : ∀ t : Fin grid0.N, win0_15.index t 0 = t.val ∧ win0_15.index t 1 = 0) t) rfl rfl rfl

theorem emb16 (t : Fin cfg0.N) (r : Fin 256) (k : Fin 3072) :
    ((cfg0.win 16).blk t).view.emb (ix2 r k) = (ix2 (row t r) k : S8192x3072.Idx) :=
  Cert.Step.rows2 ((by decide +kernel : ∀ t : Fin grid0.N, win0_16.index t 0 = t.val ∧ win0_16.index t 1 = 0) t) rfl rfl rfl

theorem emb17 (t : Fin cfg0.N) (r : Fin 256) (k : Fin 1024) :
    ((cfg0.win 17).blk t).view.emb (ix2 r k) = (ix2 (row t r) k : S8192x1024.Idx) :=
  Cert.Step.rows2 ((by decide +kernel : ∀ t : Fin grid0.N, win0_17.index t 0 = t.val ∧ win0_17.index t 1 = 0) t) rfl rfl rfl

theorem emb18 (t : Fin cfg0.N) (r : Fin 256) (k : Fin 6144) :
    ((cfg0.win 18).blk t).view.emb (ix2 r k) = (ix2 (row t r) k : S8192x6144.Idx) :=
  Cert.Step.rows2 ((by decide +kernel : ∀ t : Fin grid0.N, win0_18.index t 0 = t.val ∧ win0_18.index t 1 = 0) t) rfl rfl rfl

theorem emb19 (t : Fin cfg0.N) (r : Fin 256) (k : Fin 1024) :
    ((cfg0.win 19).blk t).view.emb (ix2 r k) = (ix2 (row t r) k : S8192x1024.Idx) :=
  Cert.Step.rows2 ((by decide +kernel : ∀ t : Fin grid0.N, win0_19.index t 0 = t.val ∧ win0_19.index t 1 = 0) t) rfl rfl rfl

theorem blk0 (t : Fin cfg0.N) (r : Fin 256) (k : Fin 1024) : iblk m c 0 t (ix2 r k) = (args m c).x (row t r) k := by
  show V m c main_arg0 (((cfg0.win 0).blk t).view.emb (ix2 r k)) = _
  rw [emb0, V_main_arg0]
  rfl

theorem blk1 (t : Fin cfg0.N) (k : Fin 1024) : iblk m c 1 t (ix2 0 k) = (args m c).g k := by
  show V m c main_v15 (((cfg0.win 1).blk t).view.emb (ix2 0 k)) = _
  rw [emb1]
  entry_read
  pointwise
  rfl

theorem blk2 (t : Fin cfg0.N) (j : Fin 8) (k : Fin 1024) (q : Fin 768) : iblk m c 2 t (ix3 j k q) = (args m c).w k (bandCol j q) := by
  show V m c main_v18 (((cfg0.win 2).blk t).view.emb (ix3 j k q)) = _
  rw [emb2]
  entry_read
  pointwise
  exact congrArg ((args m c).w k) (Fin.ext (by show j.val * 768 + q.val = 768 * j.val + q.val; omega))

theorem blk3 (t : Fin cfg0.N) (g : Fin 4) (d e : Fin 128) : iblk m c 3 t (ix3 g d e) = (args m c).wp g d e := by
  show V m c main_v0 (((cfg0.win 3).blk t).view.emb (ix3 g d e)) = _
  rw [emb3]
  entry_read
  pointwise
  rfl

theorem blk4 (t : Fin cfg0.N) (n : Fin 512) : iblk m c 4 t (ix2 0 n) = (args m c).ps n := by
  show V m c main_v1 (((cfg0.win 4).blk t).view.emb (ix2 0 n)) = _
  rw [emb4]
  entry_read
  pointwise
  rfl

theorem blk5 (t : Fin cfg0.N) (n : Fin 512) : iblk m c 5 t (ix2 0 n) = (args m c).gs n := by
  show V m c main_v2 (((cfg0.win 5).blk t).view.emb (ix2 0 n)) = _
  rw [emb5]
  entry_read
  pointwise
  rfl

theorem blk6 (t : Fin cfg0.N) (g : Fin 4) (r s : Fin 128) : iblk m c 6 t (ix3 g r s) = (args m c).ws g r s := by
  show V m c main_arg6 (((cfg0.win 6).blk t).view.emb (ix3 g r s)) = _
  rw [emb6, V_main_arg6]
  rfl

theorem blk7 (t : Fin cfg0.N) (r : Fin 128) (g : Fin 4) : iblk m c 7 t (ix2 r g) = (args m c).bs g r := by
  show V m c main_v3 (((cfg0.win 7).blk t).view.emb (ix2 r g)) = _
  rw [emb7]
  entry_read
  pointwise
  rfl

theorem blk8 (t : Fin cfg0.N) (s : Fin 3) (n : Fin 512) : iblk m c 8 t (ix2 s n) = (args m c).cc s n := by
  show V m c main_arg8 (((cfg0.win 8).blk t).view.emb (ix2 s n)) = _
  rw [emb8, V_main_arg8]
  rfl

theorem blk9 (t : Fin cfg0.N) (j : Fin 8) (n : Fin 512) (q : Fin 128) : iblk m c 9 t (ix3 j n q) = (args m c).wa n (Cert.Step.wcol j q) := by
  show V m c main_v6 (((cfg0.win 9).blk t).view.emb (ix3 j n q)) = _
  rw [emb9]
  entry_read
  pointwise
  exact congrArg ((args m c).wa n) (Fin.ext (by show j.val * 128 + q.val = 128 * j.val + q.val; omega))

theorem blk10 (t : Fin cfg0.N) (j : Fin 8) (n : Fin 512) (q : Fin 128) : iblk m c 10 t (ix3 j n q) = (args m c).wb n (Cert.Step.wcol j q) := by
  show V m c main_v9 (((cfg0.win 10).blk t).view.emb (ix3 j n q)) = _
  rw [emb10]
  entry_read
  pointwise
  exact congrArg ((args m c).wb n) (Fin.ext (by show j.val * 128 + q.val = 128 * j.val + q.val; omega))

theorem blk11 (t : Fin cfg0.N) (j : Fin 8) (n : Fin 512) (q : Fin 128) : iblk m c 11 t (ix3 j n q) = (args m c).wc n (Cert.Step.wcol j q) := by
  show V m c main_v12 (((cfg0.win 11).blk t).view.emb (ix3 j n q)) = _
  rw [emb11]
  entry_read
  pointwise
  exact congrArg ((args m c).wc n) (Fin.ext (by show j.val * 128 + q.val = 128 * j.val + q.val; omega))

theorem blk12 (t : Fin cfg0.N) (j : Fin 8) (q : Fin 128) (k : Fin 1024) : iblk m c 12 t (ix3 j q k) = (args m c).wo (Cert.Step.wcol j q) k := by
  show V m c main_v14 (((cfg0.win 12).blk t).view.emb (ix3 j q k)) = _
  rw [emb12]
  entry_read
  pointwise
  exact congrArg (fun n => (args m c).wo n k) (Fin.ext (by show j.val * 128 + q.val = 128 * j.val + q.val; omega))

end Cert.FuseKernelIdeal.Body

end
-- ==== Proof.FuseKernelValue.lean ====
/- The seven results of the mixer with the projection in it as functions of its arguments: each tile hands its last rows to the next. -/
module

public import proofs.«01_k».proof.Proof.FuseBodyA
public import proofs.«01_k».proof.Proof.FuseBodyB
public import proofs.«01_k».proof.Proof.FuseBlocks

@[expose] public section

set_option maxRecDepth 16384

noncomputable section

namespace Cert.FuseKernelIdeal.Body

open Cert.FuseKernelIdeal Cert.FuseKernelIdeal.Gen Idealize.ShloMosaic Idealize.ShloMosaic.TcCoe Idealize.SL.Sem
open Cert.MixKernelIdeal.Body (tileRow yG pzG bG tailAG tailZG colA)
open Idealize.ShloMosaic.Pipeline (Dat)

variable (m : (ℓ : Loc nD τ sig) → Buf (Elt Ideal) ℓ) (c : Dev nD)

/-- A point as a tile. -/
abbrev tile (t : Fin cfg0.N) : Fin 32 := ⟨t.val, lt_N t⟩

theorem coords_val : ∀ t : Fin cfg0.N, (grid0.coords t (0 : Fin 1)).val = t.val := (by decide +kernel : ∀ t : Fin grid0.N, _)

/-- The point before. -/
abbrev prev (t : Fin cfg0.N) : Fin cfg0.N := ⟨t.val - 1, Nat.lt_of_le_of_lt (Nat.sub_le _ _) t.isLt⟩

/-- What a point finds handed to it: zero at the first, the rows of the point before at the others. -/
def foundA (t : Fin cfg0.N) : Vec Ideal S16x512 .f32 :=
  if t.val % 32 = 0 then k0_pay1 (F := Ideal) else (outsAt0 m c (prev t).val (prev t).isLt).2.2.2.2.2.2.2.1
@[inherit_doc foundA] def foundZ (t : Fin cfg0.N) : Vec Ideal S8x512 .f32 :=
  if t.val % 32 = 0 then k0_pay2 (F := Ideal) else (outsAt0 m c (prev t).val (prev t).isLt).2.2.2.2.2.2.2.2

/-- That a point's blocks are the tile's, with rows handed to it. -/
abbrev TileAt (t : Fin cfg0.N) (ra : Vec Ideal S16x512 .f32) (rz : Vec Ideal S8x512 .f32) : Prop :=
  FTile (args m c) (tile t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ra rz

section
variable {m c} {t : Fin cfg0.N} (T : TileAt m c t (foundA m c t) (foundZ m c t))
include T

theorem first_tile (h : t.val % 32 = 0) : TileAt m c t (k0_pay1 (F := Ideal)) (k0_pay2 (F := Ideal)) := by
  have e := T
  unfold foundA foundZ at e
  rwa [if_pos h, if_pos h] at e

theorem later_tile (h : ¬ t.val % 32 = 0) : TileAt m c t (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 := by
  have e := T
  unfold foundA foundZ at e
  rwa [if_neg h, if_neg h] at e

theorem handedA (y : S16x512.Idx) : (outsAt0 m c t.val t.isLt).2.2.2.2.2.2.2.1 y = tailAG (args m c).mix (tile t) y := by
  by_cases h : t.val % 32 = 0
  · rw [outsAt0_A m c t h]
    dsimp only
    apply sout_A_0 (hi := coords_val t) (T := first_tile T h)
  · rw [outsAt0_B m c t h]
    dsimp only
    apply sout_B_0 (hi := coords_val t) (T := later_tile T h)

theorem handedZ (y : S8x512.Idx) : (outsAt0 m c t.val t.isLt).2.2.2.2.2.2.2.2 y = tailZG (args m c).mix (tile t) y := by
  by_cases h : t.val % 32 = 0
  · rw [outsAt0_A m c t h]
    dsimp only
    apply sout_A_1 (hi := coords_val t) (T := first_tile T h)
  · rw [outsAt0_B m c t h]
    dsimp only
    apply sout_B_1 (hi := coords_val t) (T := later_tile T h)

theorem out13 (r : Fin 256) (k : Fin 1024) : (outsAt0 m c t.val t.isLt).1 (ix2 r k) = (args m c).mix.out (tileRow (tile t) r) k := by
  by_cases h : t.val % 32 = 0
  · rw [outsAt0_A m c t h]
    dsimp only
    apply out_A_13 (hi := coords_val t) (T := first_tile T h)
  · rw [outsAt0_B m c t h]
    dsimp only
    apply out_B_13 (hi := coords_val t) (T := later_tile T h)

theorem out14 (y : S256x1536.Idx) : (outsAt0 m c t.val t.isLt).2.1 y = yG (args m c).mix (tile t) y := by
  by_cases h : t.val % 32 = 0
  · rw [outsAt0_A m c t h]
    dsimp only
    apply out_A_14 (hi := coords_val t) (T := first_tile T h)
  · rw [outsAt0_B m c t h]
    dsimp only
    apply out_B_14 (hi := coords_val t) (T := later_tile T h)

theorem out15 (y : S256x1024.Idx) : (outsAt0 m c t.val t.isLt).2.2.1 y = pzG (args m c).mix (tile t) y := by
  by_cases h : t.val % 32 = 0
  · rw [outsAt0_A m c t h]
    dsimp only
    apply out_A_15 (hi := coords_val t) (T := first_tile T h)
  · rw [outsAt0_B m c t h]
    dsimp only
    apply out_B_15 (hi := coords_val t) (T := later_tile T h)

theorem out16 (y : S256x3072.Idx) : (outsAt0 m c t.val t.isLt).2.2.2.1 y = bG (args m c).mix (tile t) y := by
  by_cases h : t.val % 32 = 0
  · rw [outsAt0_A m c t h]
    dsimp only
    apply out_A_16 (hi := coords_val t) (T := first_tile T h)
  · rw [outsAt0_B m c t h]
    dsimp only
    apply out_B_16 (hi := coords_val t) (T := later_tile T h)

theorem out17 (r : Fin 256) (k : Fin 1024) : (outsAt0 m c t.val t.isLt).2.2.2.2.1 (ix2 r k) = (args m c).mix.merged (tileRow (tile t) r) k := by
  by_cases h : t.val % 32 = 0
  · rw [outsAt0_A m c t h]
    dsimp only
    apply out_A_17 (hi := coords_val t) (T := first_tile T h)
  · rw [outsAt0_B m c t h]
    dsimp only
    apply out_B_17 (hi := coords_val t) (T := later_tile T h)

theorem out18 (y : S256x6144.Idx) : (outsAt0 m c t.val t.isLt).2.2.2.2.2.1 y = pG (args m c) (tile t) y := by
  by_cases h : t.val % 32 = 0
  · rw [outsAt0_A m c t h]
    dsimp only
    apply out_A_18 (hi := coords_val t) (T := first_tile T h)
  · rw [outsAt0_B m c t h]
    dsimp only
    apply out_B_18 (hi := coords_val t) (T := later_tile T h)

theorem out19 (r : Fin 256) (k : Fin 1024) : (outsAt0 m c t.val t.isLt).2.2.2.2.2.2.1 (ix2 r k) = (args m c).h (tileRow (tile t) r) k := by
  by_cases h : t.val % 32 = 0
  · rw [outsAt0_A m c t h]
    dsimp only
    apply out_A_19 (hi := coords_val t) (T := first_tile T h)
  · rw [outsAt0_B m c t h]
    dsimp only
    apply out_B_19 (hi := coords_val t) (T := later_tile T h)

end

/-- A point's blocks are its tile's, whatever right rows it is handed. -/
theorem tile_of (t : Fin cfg0.N) (ra : Vec Ideal S16x512 .f32) (rz : Vec Ideal S8x512 .f32)
    (ha : ∀ (s : Fin 16) (n : Fin 512), ra (ix2 s n) = if (tile t).val = 0 then 0 else (args m c).mix.p (Cert.MixKernelIdeal.Body.before16 (tile t) s) (colA n))
    (hz : ∀ (s : Fin 8) (n : Fin 512), rz (ix2 s n) = if (tile t).val = 0 then 0 else (args m c).mix.z (Cert.MixKernelIdeal.Body.before8 (tile t) s) n) :
    TileAt m c t ra rz :=
  ⟨⟨blk0 m c _, fun _ _ => rfl, blk3 m c _, blk4 m c _, blk5 m c _, blk6 m c _, blk7 m c _, blk8 m c _, blk9 m c _, blk10 m c _, blk11 m c _, blk12 m c _, ha, hz⟩, blk1 m c _, blk2 m c _⟩

/-- By induction along the points, each finds the rows before its own. -/
theorem tile_at : ∀ (n : ℕ) (hn : n < cfg0.N), TileAt m c ⟨n, hn⟩ (foundA m c ⟨n, hn⟩) (foundZ m c ⟨n, hn⟩)
  | 0, hn => tile_of m c _ _ _
      (fun s q => by
        unfold foundA
        rw [if_pos (Nat.zero_mod _), if_pos rfl]
        pointwise [k0_pay1])
      (fun s q => by
        unfold foundZ
        rw [if_pos (Nat.zero_mod _), if_pos rfl]
        pointwise [k0_pay2])
  | n + 1, hn => by
    have T := tile_at n (Nat.lt_of_succ_lt hn)
    have hN := lt_N ⟨n + 1, hn⟩
    have hm : ¬ (n + 1) % 32 = 0 := by simp only at hN; omega
    refine tile_of m c _ _ _ (fun s q => ?_) (fun s q => ?_)
    · unfold foundA
      rw [if_neg hm, if_neg (Nat.succ_ne_zero n)]
      refine (handedA T (ix2 s q)).trans ?_
      exact congrArg (fun i => (args m c).mix.p i (colA q)) (Fin.ext (by show 256 * n + (240 + s.val) = 256 * (n + 1) - 16 + s.val; omega))
    · unfold foundZ
      rw [if_neg hm, if_neg (Nat.succ_ne_zero n)]
      refine (handedZ T (ix2 s q)).trans ?_
      exact congrArg (fun i => (args m c).mix.z i q) (Fin.ext (by show 256 * n + (248 + s.val) = 256 * (n + 1) - 8 + s.val; omega))

/-- The results, entry by entry. -/
abbrev resOut : Buf (Elt Ideal) ((c : Thread nD τ).loc main_v19_0) := fun y : S8192x1024.Idx => (args m c).mix.out (y 0) (y 1)
@[inherit_doc resOut] abbrev resY : Buf (Elt Ideal) ((c : Thread nD τ).loc main_v19_1) := fun y : S8192x1536.Idx => (args m c).mix.y (y 0) (y 1)
@[inherit_doc resOut] abbrev resPz : Buf (Elt Ideal) ((c : Thread nD τ).loc main_v19_2) := fun y : S8192x1024.Idx => (args m c).mix.pz (y 0) (y 1)
@[inherit_doc resOut] abbrev resB : Buf (Elt Ideal) ((c : Thread nD τ).loc main_v19_3) := fun y : S8192x3072.Idx => (args m c).mix.b (y 0) (y 1)
@[inherit_doc resOut] abbrev resMerged : Buf (Elt Ideal) ((c : Thread nD τ).loc main_v19_4) := fun y : S8192x1024.Idx => (args m c).mix.merged (y 0) (y 1)
@[inherit_doc resOut] abbrev resP : Buf (Elt Ideal) ((c : Thread nD τ).loc main_v19_5) := fun y : S8192x6144.Idx => (args m c).mix.p (y 0) (y 1)
@[inherit_doc resOut] abbrev resH : Buf (Elt Ideal) ((c : Thread nD τ).loc main_v19_6) := fun y : S8192x1024.Idx => (args m c).h (y 0) (y 1)

theorem final13 : (dats m 0 c).arrAt 13 cfg0.N = resOut m c := by
  refine (dats m 0 c).arrAt_eq_of_covers 13 (resOut m c) (by decide +kernel) fun t _ y => ?_
  idx_vars y
  rw [emb13]
  blk_simp
  rw [after0_13]
  exact out13 (tile_at m c t.val t.isLt) _ _

theorem final14 : (dats m 0 c).arrAt 14 cfg0.N = resY m c := by
  refine (dats m 0 c).arrAt_eq_of_covers 14 (resY m c) (by decide +kernel) fun t _ y => ?_
  idx_vars y
  rw [emb14]
  blk_simp
  rw [after0_14]
  exact out14 (tile_at m c t.val t.isLt) (ix2 _ _)

theorem final15 : (dats m 0 c).arrAt 15 cfg0.N = resPz m c := by
  refine (dats m 0 c).arrAt_eq_of_covers 15 (resPz m c) (by decide +kernel) fun t _ y => ?_
  idx_vars y
  rw [emb15]
  blk_simp
  rw [after0_15]
  exact out15 (tile_at m c t.val t.isLt) (ix2 _ _)

theorem final16 : (dats m 0 c).arrAt 16 cfg0.N = resB m c := by
  refine (dats m 0 c).arrAt_eq_of_covers 16 (resB m c) (by decide +kernel) fun t _ y => ?_
  idx_vars y
  rw [emb16]
  blk_simp
  rw [after0_16]
  exact out16 (tile_at m c t.val t.isLt) (ix2 _ _)

theorem final17 : (dats m 0 c).arrAt 17 cfg0.N = resMerged m c := by
  refine (dats m 0 c).arrAt_eq_of_covers 17 (resMerged m c) (by decide +kernel) fun t _ y => ?_
  idx_vars y
  rw [emb17]
  blk_simp
  rw [after0_17]
  exact out17 (tile_at m c t.val t.isLt) _ _

theorem final18 : (dats m 0 c).arrAt 18 cfg0.N = resP m c := by
  refine (dats m 0 c).arrAt_eq_of_covers 18 (resP m c) (by decide +kernel) fun t _ y => ?_
  idx_vars y
  rw [emb18]
  blk_simp
  rw [after0_18]
  exact out18 (tile_at m c t.val t.isLt) (ix2 _ _)

theorem final19 : (dats m 0 c).arrAt 19 cfg0.N = resH m c := by
  refine (dats m 0 c).arrAt_eq_of_covers 19 (resH m c) (by decide +kernel) fun t _ y => ?_
  idx_vars y
  rw [emb19]
  blk_simp
  rw [after0_19]
  exact out19 (tile_at m c t.val t.isLt) _ _

theorem run (ρ : Dev nD → PrngReg) : θ_run defs (onTc (τ := τ) (main (F := Ideal))) ⟨m, fun _ => 0, ρ⟩ fun r => ∀ c : Dev nD,
    r.2.mem ((c : Thread nD τ).loc main_v19_0) = resOut m c
    ∧ r.2.mem ((c : Thread nD τ).loc main_v19_1) = resY m c
    ∧ r.2.mem ((c : Thread nD τ).loc main_v19_2) = resPz m c
    ∧ r.2.mem ((c : Thread nD τ).loc main_v19_3) = resB m c
    ∧ r.2.mem ((c : Thread nD τ).loc main_v19_4) = resMerged m c
    ∧ r.2.mem ((c : Thread nD τ).loc main_v19_5) = resP m c
    ∧ r.2.mem ((c : Thread nD τ).loc main_v19_6) = resH m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10)
    ∧ r.2.mem ((c : Thread nD τ).loc main_arg11) = m ((c : Thread nD τ).loc main_arg11)
    ∧ r.2.mem ((c : Thread nD τ).loc main_arg12) = m ((c : Thread nD τ).loc main_arg12) :=
  (θ_run defs _ _).mono (fun _ h c => by
    have := h c
    rw [final13, final14, final15, final16, final17, final18, final19] at this
    exact this) (Value.run_blocks m ρ)

end Cert.FuseKernelIdeal.Body

end
-- ==== Proof.FuseReference.lean ====
/- The host reference of the mixer with the input projection in it: after the projection it is the mixer's reference of the projection. -/
module

public import proofs.«01_k».proof.Proof.FuseSpec
public import proofs.«01_k».proof.Proof.MixReferenceRun
public import proofs.«01_k».proof.Proof.Gen.FuseReferenceIdeal.Run
public import Idealize.ShloMosaic.Lib.Pointwise
public import Idealize.ShloMosaic.Lib.Tactic.CleanTypes

@[expose] public section

set_option maxRecDepth 16384

noncomputable section

namespace Cert.FuseReferenceIdeal.Read

open Cert.FuseReferenceIdeal Idealize.ShloMosaic Idealize.ShloMosaic.TcCoe Idealize.SL.Sem
open Cert.Step (FuseArgs normed proj rinv)

variable (V0 : Valuation τ sig (Elt Ideal)) (W : Valuation Cert.MixReferenceIdeal.τ Cert.MixReferenceIdeal.sig (Elt Ideal))

/-- The arguments as the buffers hold them. -/
def args : FuseArgs where
  x i k := V0 (Proc.devRef .tc main_arg0) (ix2 i k)
  g k := V0 (Proc.devRef .tc main_arg1) (ix1 k)
  w k n := V0 (Proc.devRef .tc main_arg2) (ix2 k n)
  wp g d e := V0 (Proc.devRef .tc main_arg3) (ix3 g d e)
  ps n := V0 (Proc.devRef .tc main_arg4) (ix1 n)
  gs n := V0 (Proc.devRef .tc main_arg5) (ix1 n)
  ws g r s := V0 (Proc.devRef .tc main_arg6) (ix3 g r s)
  bs g r := V0 (Proc.devRef .tc main_arg7) (ix2 g r)
  cc s n := V0 (Proc.devRef .tc main_arg8) (ix2 s n)
  wa n k := V0 (Proc.devRef .tc main_arg9) (ix2 n k)
  wb n k := V0 (Proc.devRef .tc main_arg10) (ix2 n k)
  wc n k := V0 (Proc.devRef .tc main_arg11) (ix2 n k)
  wo n k := V0 (Proc.devRef .tc main_arg12) (ix2 n k)

theorem h_entry (i : Fin 8192) (k : Fin 1024) : (Value.res_main_v12 V0 : FVec Ideal S8192x1024 .f32) (ix2 i k) = (args V0).h i k := by
  unfold Value.res_main_v12
  clean_types
  pointwise [normed, rinv, Cert.Step.meanSq]
  rfl

theorem p_entry (i : Fin 8192) (n : Fin 6144) : (Value.res_main_v13 V0 : FVec Ideal S8192x6144 .f32) (ix2 i n) = (args V0).mix.p i n := by
  unfold Value.res_main_v13
  clean_types
  pointwise
  simp only [h_entry]
  rfl

/-- Buffers of the mixer's reference that hold the arguments and the projection. -/
structure Same : Prop where
  a0 : (W (Proc.devRef .tc Cert.MixReferenceIdeal.main_arg0) : FVec Ideal S8192x1024 .f32) = V0 (Proc.devRef .tc main_arg0)
  a1 : (W (Proc.devRef .tc Cert.MixReferenceIdeal.main_arg1) : FVec Ideal S8192x6144 .f32) = Value.res_main_v13 V0
  a2 : (W (Proc.devRef .tc Cert.MixReferenceIdeal.main_arg2) : FVec Ideal S4x128x128 .f32) = V0 (Proc.devRef .tc main_arg3)
  a3 : (W (Proc.devRef .tc Cert.MixReferenceIdeal.main_arg3) : FVec Ideal S512 .f32) = V0 (Proc.devRef .tc main_arg4)
  a4 : (W (Proc.devRef .tc Cert.MixReferenceIdeal.main_arg4) : FVec Ideal S512 .f32) = V0 (Proc.devRef .tc main_arg5)
  a5 : (W (Proc.devRef .tc Cert.MixReferenceIdeal.main_arg5) : FVec Ideal S4x128x128 .f32) = V0 (Proc.devRef .tc main_arg6)
  a6 : (W (Proc.devRef .tc Cert.MixReferenceIdeal.main_arg6) : FVec Ideal S4x128 .f32) = V0 (Proc.devRef .tc main_arg7)
  a7 : (W (Proc.devRef .tc Cert.MixReferenceIdeal.main_arg7) : FVec Ideal S3x512 .f32) = V0 (Proc.devRef .tc main_arg8)
  a8 : (W (Proc.devRef .tc Cert.MixReferenceIdeal.main_arg8) : FVec Ideal S512x1024 .f32) = V0 (Proc.devRef .tc main_arg9)
  a9 : (W (Proc.devRef .tc Cert.MixReferenceIdeal.main_arg9) : FVec Ideal S512x1024 .f32) = V0 (Proc.devRef .tc main_arg10)
  a10 : (W (Proc.devRef .tc Cert.MixReferenceIdeal.main_arg10) : FVec Ideal S512x1024 .f32) = V0 (Proc.devRef .tc main_arg11)
  a11 : (W (Proc.devRef .tc Cert.MixReferenceIdeal.main_arg11) : FVec Ideal S1024x1024 .f32) = V0 (Proc.devRef .tc main_arg12)

section
variable {V0} {W}

theorem Same.args_eq (s : Same V0 W) : Cert.MixReferenceIdeal.Read.args W = (args V0).mix := by
  unfold Cert.MixReferenceIdeal.Read.args FuseArgs.mix
  congr 1
  · exact funext fun i => funext fun k => congrFun s.a0 (ix2 i k)
  · exact funext fun i => funext fun n => (congrFun s.a1 (ix2 i n)).trans (p_entry V0 i n)
  · exact funext fun g => funext fun d => funext fun n => congrFun s.a2 (ix3 g d n)
  · exact funext fun n => congrFun s.a3 (ix1 n)
  · exact funext fun n => congrFun s.a4 (ix1 n)
  · exact funext fun g => funext fun r => funext fun n => congrFun s.a5 (ix3 g r n)
  · exact funext fun g => funext fun r => congrFun s.a6 (ix2 g r)
  · exact funext fun r => funext fun n => congrFun s.a7 (ix2 r n)
  · exact funext fun n => funext fun k => congrFun s.a8 (ix2 n k)
  · exact funext fun n => funext fun k => congrFun s.a9 (ix2 n k)
  · exact funext fun n => funext fun k => congrFun s.a10 (ix2 n k)
  · exact funext fun n => funext fun k => congrFun s.a11 (ix2 n k)

theorem e15 (s : Same V0 W) : (Value.res_main_v15 V0 : FVec Ideal S8192x1024 .f32) = Cert.MixReferenceIdeal.Value.res_main_v1 W := by
  unfold Value.res_main_v15 Cert.MixReferenceIdeal.Value.res_main_v1
  rw [s.a1]

theorem e22 (s : Same V0 W) : (Value.res_main_v22 V0 : FVec Ideal S8192x4x128 .f32) = Cert.MixReferenceIdeal.Value.res_main_v8 W := by
  unfold Value.res_main_v22 Cert.MixReferenceIdeal.Value.res_main_v8
  rw [s.a1]
  rfl

theorem e23 (s : Same V0 W) : (Value.res_main_v23 V0 : FVec Ideal S8192x4x128 .f32) = Cert.MixReferenceIdeal.Value.res_main_v9 W := by
  unfold Value.res_main_v23 Cert.MixReferenceIdeal.Value.res_main_v9
  rw [e22 s]

theorem e25 (s : Same V0 W) : (Value.res_main_v25 V0 : FVec Ideal S8193x4x128 .f32) = Cert.MixReferenceIdeal.Value.res_main_v11 W := by
  unfold Value.res_main_v25 Cert.MixReferenceIdeal.Value.res_main_v11
  rw [e23 s]

theorem e27 : (Value.res_main_v27 V0 : FVec Ideal S8192 .f32) = Cert.MixReferenceIdeal.Value.res_main_v13 W := by
  unfold Value.res_main_v27 Cert.MixReferenceIdeal.Value.res_main_v13
  rfl

theorem e100 (s : Same V0 W) : (Value.res_main_v100 V0 : FVec Ideal S8192x4x128 .f32) = Cert.MixReferenceIdeal.Value.res_main_v86 W := by
  unfold Value.res_main_v100 Cert.MixReferenceIdeal.Value.res_main_v86
  rw [e22 s, e23 s, e25 s, e27]

theorem e106 (s : Same V0 W) : (Value.res_main_v106 V0 : FVec Ideal S8192x512 .f32) = Cert.MixReferenceIdeal.Value.res_main_v92 W := by
  unfold Value.res_main_v106 Cert.MixReferenceIdeal.Value.res_main_v92
  rw [e100 s, s.a2, s.a3]
  rfl

theorem e119 (s : Same V0 W) : (Value.res_main_v119 V0 : FVec Ideal S8192x1024 .f32) = Cert.MixReferenceIdeal.Value.res_main_v105 W := by
  unfold Value.res_main_v119 Cert.MixReferenceIdeal.Value.res_main_v105
  rw [e15 s]

theorem e121 (s : Same V0 W) : (Value.res_main_v121 V0 : FVec Ideal S8192x512 .f32) = Cert.MixReferenceIdeal.Value.res_main_v107 W := by
  unfold Value.res_main_v121 Cert.MixReferenceIdeal.Value.res_main_v107
  rw [e119 s]

theorem e144 (s : Same V0 W) : (Value.res_main_v144 V0 : FVec Ideal S8192x512 .f32) = Cert.MixReferenceIdeal.Value.res_main_v130 W := by
  unfold Value.res_main_v144 Cert.MixReferenceIdeal.Value.res_main_v130
  rw [e119 s, e121 s, s.a4, s.a5, s.a6]
  rfl

theorem e147 (s : Same V0 W) : (Value.res_main_v147 V0 : FVec Ideal S8194x512 .f32) = Cert.MixReferenceIdeal.Value.res_main_v133 W := by
  unfold Value.res_main_v147 Cert.MixReferenceIdeal.Value.res_main_v133
  rw [s.a1]

theorem e167 (s : Same V0 W) : (Value.res_main_v167 V0 : FVec Ideal S8192x512 .f32) = Cert.MixReferenceIdeal.Value.res_main_v153 W := by
  unfold Value.res_main_v167 Cert.MixReferenceIdeal.Value.res_main_v153
  rw [e147 s, s.a7]

theorem e168 (s : Same V0 W) : (Value.res_main_v168 V0 : FVec Ideal S8192x512 .f32) = Cert.MixReferenceIdeal.Value.res_main_v154 W := by
  unfold Value.res_main_v168 Cert.MixReferenceIdeal.Value.res_main_v154
  rw [s.a1, e167 s]

theorem e169 (s : Same V0 W) : (Value.res_main_v169 V0 : FVec Ideal S8192x1024 .f32) = Cert.MixReferenceIdeal.Value.res_main_v155 W := by
  unfold Value.res_main_v169 Cert.MixReferenceIdeal.Value.res_main_v155
  rw [e106 s, s.a8]
  rfl

theorem e170 (s : Same V0 W) : (Value.res_main_v170 V0 : FVec Ideal S8192x1024 .f32) = Cert.MixReferenceIdeal.Value.res_main_v156 W := by
  unfold Value.res_main_v170 Cert.MixReferenceIdeal.Value.res_main_v156
  rw [e144 s, s.a9]
  rfl

theorem e171 (s : Same V0 W) : (Value.res_main_v171 V0 : FVec Ideal S8192x1024 .f32) = Cert.MixReferenceIdeal.Value.res_main_v157 W := by
  unfold Value.res_main_v171 Cert.MixReferenceIdeal.Value.res_main_v157
  rw [e168 s, s.a10]
  rfl

theorem e194 (s : Same V0 W) : (Value.res_main_v194 V0 : FVec Ideal S8192x1024 .f32) = Cert.MixReferenceIdeal.Value.res_main_v180 W := by
  unfold Value.res_main_v194 Cert.MixReferenceIdeal.Value.res_main_v180
  rw [s.a1, e169 s, e170 s, e171 s]

end

end Cert.FuseReferenceIdeal.Read

end
-- ==== Proof.FuseReferenceRun.lean ====
/- The run of the host reference of the mixer with the input projection in it: its seven results as functions of its arguments. -/
module

public import proofs.«01_k».proof.Proof.FuseReference
public import proofs.«01_k».proof.Proof.MixReferenceRun
public import Idealize.ShloMosaic.Lib.Pointwise
public import Idealize.ShloMosaic.Lib.Tactic.CleanTypes

@[expose] public section

set_option maxRecDepth 16384

noncomputable section

namespace Cert.FuseReferenceIdeal.Read

open Cert.FuseReferenceIdeal Idealize.ShloMosaic Idealize.ShloMosaic.TcCoe Idealize.SL.Sem
open Cert.MixReferenceIdeal.Read (narrow)

/-- There are such buffers. -/
theorem same_exists (V0 : Valuation τ sig (Elt Ideal)) : ∃ W : Valuation Cert.MixReferenceIdeal.τ Cert.MixReferenceIdeal.sig (Elt Ideal), Same V0 W := by
  let W0 : Valuation Cert.MixReferenceIdeal.τ Cert.MixReferenceIdeal.sig (Elt Ideal) := fun _ _ => Classical.arbitrary _
  let W1 := Function.update W0 (Proc.devRef .tc Cert.MixReferenceIdeal.main_arg0) (show (Proc.devRef (τ := Cert.MixReferenceIdeal.τ) (sig := Cert.MixReferenceIdeal.sig) .tc Cert.MixReferenceIdeal.main_arg0).ty.Contents (Elt Ideal) from (V0 (Proc.devRef .tc main_arg0) : FVec Ideal S8192x1024 .f32))
  let W2 := Function.update W1 (Proc.devRef .tc Cert.MixReferenceIdeal.main_arg1) (show (Proc.devRef (τ := Cert.MixReferenceIdeal.τ) (sig := Cert.MixReferenceIdeal.sig) .tc Cert.MixReferenceIdeal.main_arg1).ty.Contents (Elt Ideal) from (Value.res_main_v13 V0 : FVec Ideal S8192x6144 .f32))
  let W3 := Function.update W2 (Proc.devRef .tc Cert.MixReferenceIdeal.main_arg2) (show (Proc.devRef (τ := Cert.MixReferenceIdeal.τ) (sig := Cert.MixReferenceIdeal.sig) .tc Cert.MixReferenceIdeal.main_arg2).ty.Contents (Elt Ideal) from (V0 (Proc.devRef .tc main_arg3) : FVec Ideal S4x128x128 .f32))
  let W4 := Function.update W3 (Proc.devRef .tc Cert.MixReferenceIdeal.main_arg3) (show (Proc.devRef (τ := Cert.MixReferenceIdeal.τ) (sig := Cert.MixReferenceIdeal.sig) .tc Cert.MixReferenceIdeal.main_arg3).ty.Contents (Elt Ideal) from (V0 (Proc.devRef .tc main_arg4) : FVec Ideal S512 .f32))
  let W5 := Function.update W4 (Proc.devRef .tc Cert.MixReferenceIdeal.main_arg4) (show (Proc.devRef (τ := Cert.MixReferenceIdeal.τ) (sig := Cert.MixReferenceIdeal.sig) .tc Cert.MixReferenceIdeal.main_arg4).ty.Contents (Elt Ideal) from (V0 (Proc.devRef .tc main_arg5) : FVec Ideal S512 .f32))
  let W6 := Function.update W5 (Proc.devRef .tc Cert.MixReferenceIdeal.main_arg5) (show (Proc.devRef (τ := Cert.MixReferenceIdeal.τ) (sig := Cert.MixReferenceIdeal.sig) .tc Cert.MixReferenceIdeal.main_arg5).ty.Contents (Elt Ideal) from (V0 (Proc.devRef .tc main_arg6) : FVec Ideal S4x128x128 .f32))
  let W7 := Function.update W6 (Proc.devRef .tc Cert.MixReferenceIdeal.main_arg6) (show (Proc.devRef (τ := Cert.MixReferenceIdeal.τ) (sig := Cert.MixReferenceIdeal.sig) .tc Cert.MixReferenceIdeal.main_arg6).ty.Contents (Elt Ideal) from (V0 (Proc.devRef .tc main_arg7) : FVec Ideal S4x128 .f32))
  let W8 := Function.update W7 (Proc.devRef .tc Cert.MixReferenceIdeal.main_arg7) (show (Proc.devRef (τ := Cert.MixReferenceIdeal.τ) (sig := Cert.MixReferenceIdeal.sig) .tc Cert.MixReferenceIdeal.main_arg7).ty.Contents (Elt Ideal) from (V0 (Proc.devRef .tc main_arg8) : FVec Ideal S3x512 .f32))
  let W9 := Function.update W8 (Proc.devRef .tc Cert.MixReferenceIdeal.main_arg8) (show (Proc.devRef (τ := Cert.MixReferenceIdeal.τ) (sig := Cert.MixReferenceIdeal.sig) .tc Cert.MixReferenceIdeal.main_arg8).ty.Contents (Elt Ideal) from (V0 (Proc.devRef .tc main_arg9) : FVec Ideal S512x1024 .f32))
  let W10 := Function.update W9 (Proc.devRef .tc Cert.MixReferenceIdeal.main_arg9) (show (Proc.devRef (τ := Cert.MixReferenceIdeal.τ) (sig := Cert.MixReferenceIdeal.sig) .tc Cert.MixReferenceIdeal.main_arg9).ty.Contents (Elt Ideal) from (V0 (Proc.devRef .tc main_arg10) : FVec Ideal S512x1024 .f32))
  let W11 := Function.update W10 (Proc.devRef .tc Cert.MixReferenceIdeal.main_arg10) (show (Proc.devRef (τ := Cert.MixReferenceIdeal.τ) (sig := Cert.MixReferenceIdeal.sig) .tc Cert.MixReferenceIdeal.main_arg10).ty.Contents (Elt Ideal) from (V0 (Proc.devRef .tc main_arg11) : FVec Ideal S512x1024 .f32))
  let W12 := Function.update W11 (Proc.devRef .tc Cert.MixReferenceIdeal.main_arg11) (show (Proc.devRef (τ := Cert.MixReferenceIdeal.τ) (sig := Cert.MixReferenceIdeal.sig) .tc Cert.MixReferenceIdeal.main_arg11).ty.Contents (Elt Ideal) from (V0 (Proc.devRef .tc main_arg12) : FVec Ideal S1024x1024 .f32))
  refine ⟨W12, ?_⟩
  constructor <;>
  · simp only [W1, W2, W3, W4, W5, W6, W7, W8, W9, W10, W11, W12]
    repeat (first | exact Function.update_self _ _ _ | rw [Function.update_of_ne (by decide)])

variable (m : (ℓ : Loc nD τ sig) → Buf (Elt Ideal) ℓ)

section
variable (V0 : Valuation τ sig (Elt Ideal)) (hf : ∀ i n, Cert.Step.Fin' ((args V0).mix.p i n))
include hf

theorem finite_of {W} (s : Same V0 W) : ∀ i n, Cert.Step.Fin' ((Cert.MixReferenceIdeal.Read.args W).p i n) := by
  rw [s.args_eq]
  exact hf

theorem merged_entry (i : Fin 8192) (k : Fin 1024) : (Value.res_main_v194 V0 : FVec Ideal S8192x1024 .f32) (ix2 i k) = (args V0).mix.merged i k := by
  obtain ⟨W, s⟩ := same_exists V0
  rw [← s.args_eq, e194 s]
  exact Cert.MixReferenceIdeal.Read.merged_entry W (finite_of V0 hf s) i k

theorem out_entry (i : Fin 8192) (k : Fin 1024) :
    (addf (V0 (Proc.devRef .tc main_arg0)) (Host.dotGeneral (φ₁ := .f32) (φ₂ := .f32) dot_S8192x1024_S1024x1024_S8192x1024_1_0_0_1_n_n none (Value.res_main_v194 V0)
      (V0 (Proc.devRef .tc main_arg12))) : FVec Ideal S8192x1024 .f32) (ix2 i k) = (args V0).mix.out i k := by
  clean_types
  pointwise
  simp only [merged_entry V0 hf]
  rfl

theorem y_entry (i : Fin 8192) (n : Fin 1536) :
    (concatenate S8192x1536 1 [⟨S8192x512, (Value.res_main_v106 V0 : FVec Ideal S8192x512 .f32)⟩, ⟨S8192x512, (Value.res_main_v144 V0 : FVec Ideal S8192x512 .f32)⟩,
      ⟨S8192x512, (Value.res_main_v168 V0 : FVec Ideal S8192x512 .f32)⟩] Gen.concatenates_S8192x512_S8192x512_S8192x512_S8192x1536_d1 : FVec Ideal S8192x1536 .f32) (ix2 i n)
      = (args V0).mix.y i n := by
  obtain ⟨W, s⟩ := same_exists V0
  rw [← s.args_eq, e106 s, e144 s, e168 s]
  exact Cert.MixReferenceIdeal.Read.y_entry W (finite_of V0 hf s) i n

theorem pz_entry (i : Fin 8192) (n : Fin 1024) :
    (concatenate S8192x1024 1 [⟨S8192x512, shapeCast _ (Value.res_main_v100 V0) Gen.shapeCasts_S8192x4x128_S8192x512⟩, ⟨S8192x512, Value.res_main_v167 V0⟩]
      Gen.concatenates_S8192x512_S8192x512_S8192x1024_d1 : FVec Ideal S8192x1024 .f32) (ix2 i n) = (args V0).mix.pz i n := by
  obtain ⟨W, s⟩ := same_exists V0
  rw [← s.args_eq, e100 s, e167 s]
  exact Cert.MixReferenceIdeal.Read.pz_entry W (finite_of V0 hf s) i n

theorem b_entry (i : Fin 8192) (n : Fin 3072) :
    (concatenate S8192x3072 1 [⟨S8192x1024, (Value.res_main_v169 V0 : FVec Ideal S8192x1024 .f32)⟩, ⟨S8192x1024, (Value.res_main_v170 V0 : FVec Ideal S8192x1024 .f32)⟩,
      ⟨S8192x1024, (Value.res_main_v171 V0 : FVec Ideal S8192x1024 .f32)⟩] Gen.concatenates_S8192x1024_S8192x1024_S8192x1024_S8192x3072_d1 : FVec Ideal S8192x3072 .f32)
      (ix2 i n) = (args V0).mix.b i n := by
  obtain ⟨W, s⟩ := same_exists V0
  rw [← s.args_eq, e169 s, e170 s, e171 s]
  exact Cert.MixReferenceIdeal.Read.b_entry W (finite_of V0 hf s) i n

end

/-- The run, read: the results as functions of the arguments, which stay as they were. -/
theorem run (ρ : Dev nD → PrngReg) (hf : ∀ c i n, Cert.Step.Fin' ((args (StableHlo.launchContents m c)).mix.p i n)) :
    θ_run defs (onTc (τ := τ) (main (F := Ideal))) ⟨m, fun _ => 0, ρ⟩ fun r => ∀ c : Dev nD,
      r.2.mem ((c.tc : Thread nD τ).loc main_v196) = (fun y : S8192x1024.Idx => (args (StableHlo.launchContents m c)).mix.out (y 0) (y 1))
      ∧ r.2.mem ((c.tc : Thread nD τ).loc main_v198) = (fun y : S8192x1536.Idx => (args (StableHlo.launchContents m c)).mix.y (y 0) (y 1))
      ∧ r.2.mem ((c.tc : Thread nD τ).loc main_v201) = (fun y : S8192x1024.Idx => (args (StableHlo.launchContents m c)).mix.pz (y 0) (y 1))
      ∧ r.2.mem ((c.tc : Thread nD τ).loc main_v203) = (fun y : S8192x3072.Idx => (args (StableHlo.launchContents m c)).mix.b (y 0) (y 1))
      ∧ r.2.mem ((c.tc : Thread nD τ).loc main_v204) = (fun y : S8192x1024.Idx => (args (StableHlo.launchContents m c)).mix.merged (y 0) (y 1))
      ∧ r.2.mem ((c.tc : Thread nD τ).loc main_v205) = (fun y : S8192x6144.Idx => (args (StableHlo.launchContents m c)).mix.p (y 0) (y 1))
      ∧ r.2.mem ((c.tc : Thread nD τ).loc main_v206) = (fun y : S8192x1024.Idx => (args (StableHlo.launchContents m c)).h (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) := by
  refine (θ_run defs _ _).mono (fun _ h c => ?_) (Value.run m ρ)
  obtain ⟨e0, e1, e2, e3, e4, e5, e6, e⟩ := h c
  refine ⟨?_, ?_, ?_, ?_, ?_, ?_, ?_, e⟩
  · rw [e0]
    funext y
    idx_vars y
    exact (out_entry (StableHlo.launchContents m c) (hf c) _ _)
  · rw [e1]
    funext y
    idx_vars y
    exact (narrow _ _ _).trans (y_entry (StableHlo.launchContents m c) (hf c) _ _)
  · rw [e2]
    funext y
    idx_vars y
    exact (narrow _ _ _).trans (pz_entry (StableHlo.launchContents m c) (hf c) _ _)
  · rw [e3]
    funext y
    idx_vars y
    exact (narrow _ _ _).trans (b_entry (StableHlo.launchContents m c) (hf c) _ _)
  · rw [e4]
    funext y
    idx_vars y
    exact (narrow _ _ _).trans (merged_entry (StableHlo.launchContents m c) (hf c) _ _)
  · rw [e5]
    funext y
    idx_vars y
    exact (narrow _ _ _).trans (p_entry (StableHlo.launchContents m c) _ _)
  · rw [e6]
    funext y
    idx_vars y
    exact (narrow _ _ _).trans (h_entry (StableHlo.launchContents m c) _ _)

end Cert.FuseReferenceIdeal.Read

end
-- ==== Proof.FuseClaim.lean ====
/- The claims about the mixer's forward pass with the input projection in it. -/
module

public import proofs.«01_k».proof.Defs
public import proofs.«01_k».proof.Proof.Gen.FuseKernel.Frame
public import proofs.«01_k».proof.Proof.Gen.Pre_finite_fuse
public import proofs.«01_k».proof.Proof.Gen.FuseReferenceIdeal
public import proofs.«01_k».proof.Proof.FuseKernelValue
public import proofs.«01_k».proof.Proof.FuseReferenceRun
public import proofs.«01_k».proof.Proof.FfnGate
public import proofs.«01_k».proof.Proof.FiniteArgs

@[expose] public section

set_option maxRecDepth 16384

noncomputable section

namespace Cert.Pre_finite_fuse

open Cert.Pre_finite_fuse Idealize.ShloMosaic

/-- The precondition, read: the rows, the norm's scale and the projection's weight are real numbers. -/
theorem fin_of_fn [Facts] (x : FVec Ideal S8192x1024 .f32) (g : FVec Ideal S1024 .f32) (w : FVec Ideal S1024x6144 .f32) (wp : FVec Ideal S4x128x128 .f32)
    (ps gs : FVec Ideal S512 .f32) (ws : FVec Ideal S4x128x128 .f32) (bs : FVec Ideal S4x128 .f32) (cc : FVec Ideal S3x512 .f32)
    (wa wb wc : FVec Ideal S512x1024 .f32) (wo : FVec Ideal S1024x1024 .f32)
    (h : fn (F := Ideal) x g w wp ps gs ws bs cc wa wb wc wo = fun _ => 1#1) :
    (∀ i, Cert.Step.Fin' (x i)) ∧ (∀ i, Cert.Step.Fin' (g i)) ∧ ∀ i, Cert.Step.Fin' (w i) := by
  have e := congrFun h ix0
  dsimp only [fn] at e
  have : Subsingleton S_.Idx := ⟨fun a b => funext fun i => i.elim0⟩
  obtain ⟨e, e2⟩ := (IntOp.andi_eq_one).1 e
  obtain ⟨e0, e1⟩ := (IntOp.andi_eq_one).1 e
  exact ⟨Cert.Step.fin_of_all _ _ Cert.Step.word_inf _ _ _ _ _ e0, Cert.Step.fin_of_all _ _ Cert.Step.word_inf _ _ _ _ _ e1,
    Cert.Step.fin_of_all _ _ Cert.Step.word_inf _ _ _ _ _ e2⟩

end Cert.Pre_finite_fuse

namespace Cert.Proof

open Idealize.ShloMosaic Idealize.SL.Sem

/-- The projection of real rows is real. -/
theorem fuse_fin (m : (ℓ : Loc Cert.FuseKernelIdeal.nD Cert.FuseKernelIdeal.τ Cert.FuseKernelIdeal.sig) → Buf (Elt Ideal) ℓ)
    (h : Cert.Pre_FuseKernelIdeal_finite_fuse m) (c : Dev Cert.FuseKernelIdeal.nD) (i : Fin 8192) (n : Fin 6144) :
    Cert.Step.Fin' ((Cert.FuseKernelIdeal.Body.args m c).mix.p i n) := by
  obtain ⟨hx, hg, hw⟩ := Cert.Pre_finite_fuse.fin_of_fn _ _ _ _ _ _ _ _ _ _ _ _ _ (h c)
  exact Cert.Step.fin_sum fun k => Cert.Step.fin_mul (Cert.Step.fin_mul (Cert.Step.fin_mul (hx (ix2 i k))
    (Cert.Step.rinv_fin fun k => hx (ix2 i k))) (hg (ix1 k))) (hw (ix2 k n))

theorem fuse_algebraic : Cert.algebraic_FuseKernelIdeal_FuseReferenceIdeal_pre_finite_fuse := by
  intro m ρ m' ρ' hpre hagree
  refine ⟨fun c => Cert.FuseKernelIdeal.Body.resOut m c,
    fun c => Cert.FuseKernelIdeal.Body.resY m c,
    fun c => Cert.FuseKernelIdeal.Body.resPz m c,
    fun c => Cert.FuseKernelIdeal.Body.resB m c,
    fun c => Cert.FuseKernelIdeal.Body.resMerged m c,
    fun c => Cert.FuseKernelIdeal.Body.resP m c,
    fun c => Cert.FuseKernelIdeal.Body.resH m c, Cert.FuseKernelIdeal.Body.run m ρ, ?_⟩
  have e : ∀ c, Cert.FuseReferenceIdeal.Read.args (StableHlo.launchContents m' c) = Cert.FuseKernelIdeal.Body.args m c := fun c => by
    obtain ⟨h0, h1, h2, h3, h4, h5, h6, h7, h8, h9, h10, h11, h12⟩ := hagree c
    unfold Cert.FuseReferenceIdeal.Read.args Cert.FuseKernelIdeal.Body.args
    congr 1
    · exact funext fun i => funext fun j => congrFun h0 (ix2 i j)
    · exact funext fun i => congrFun h1 (ix1 i)
    · exact funext fun i => funext fun j => congrFun h2 (ix2 i j)
    · exact funext fun i => funext fun j => funext fun k => congrFun h3 (ix3 i j k)
    · exact funext fun i => congrFun h4 (ix1 i)
    · exact funext fun i => congrFun h5 (ix1 i)
    · exact funext fun i => funext fun j => funext fun k => congrFun h6 (ix3 i j k)
    · exact funext fun i => funext fun j => congrFun h7 (ix2 i j)
    · exact funext fun i => funext fun j => congrFun h8 (ix2 i j)
    · exact funext fun i => funext fun j => congrFun h9 (ix2 i j)
    · exact funext fun i => funext fun j => congrFun h10 (ix2 i j)
    · exact funext fun i => funext fun j => congrFun h11 (ix2 i j)
    · exact funext fun i => funext fun j => congrFun h12 (ix2 i j)
  refine (θ_run Cert.FuseReferenceIdeal.defs _ _).mono (fun _ h c => ⟨?_, ?_, ?_, ?_, ?_, ?_, ?_, (h c).2.2.2.2.2.2.2⟩)
    (Cert.FuseReferenceIdeal.Read.run m' ρ' fun c i n => by rw [e]; exact fuse_fin m hpre c i n)
  · rw [(h c).1, e]; rfl
  · rw [(h c).2.1, e]; rfl
  · rw [(h c).2.2.1, e]; rfl
  · rw [(h c).2.2.2.1, e]; rfl
  · rw [(h c).2.2.2.2.1, e]; rfl
  · rw [(h c).2.2.2.2.2.1, e]; rfl
  · rw [(h c).2.2.2.2.2.2.1, e]; rfl

theorem fuse_reference_frame : Cert.quiescent_FuseReferenceIdeal := fun m ρ _ =>
  (θ_run Cert.FuseReferenceIdeal.defs _ _).mono (fun r h => ⟨fun c => (h c).2.2.2.2.2.2.2, sem_eq_zero_of_no_sems (by decide) r.2⟩)
    (Cert.FuseReferenceIdeal.Value.run (F := Ideal) m ρ)

theorem fuse_frames : Cert.quiescent_FuseKernel ∧ Cert.quiescent_FuseKernelIdeal ∧ Cert.quiescent_FuseKernelIdeal_pre_finite_fuse
    ∧ Cert.quiescent_FuseReferenceIdeal ∧ Cert.quiescent_FuseReferenceIdeal_pre_finite_fuse :=
  ⟨fun m ρ _ => Cert.FuseKernel.Gen.frame m ρ, fun m ρ _ => Cert.FuseKernelIdeal.Gen.frame m ρ, fun m ρ _ => Cert.FuseKernelIdeal.Gen.frame m ρ,
    fuse_reference_frame, fun m ρ _ => fuse_reference_frame m ρ trivial⟩

end Cert.Proof

end
-- ==== Proof.lean ====
/- The proof of the claims. -/
module

public import proofs.«01_k».proof.Defs
public import proofs.«01_k».proof.Proof.ProjClaim
public import proofs.«01_k».proof.Proof.FfnClaim
public import proofs.«01_k».proof.Proof.LossClaim
public import proofs.«01_k».proof.Proof.InClaim
public import proofs.«01_k».proof.Proof.UpClaim
public import proofs.«01_k».proof.Proof.MixClaim
public import proofs.«01_k».proof.Proof.FuseClaim
public import proofs.«01_k».proof.Proof.Gen.Pre_finite_proj
public import proofs.«01_k».proof.Proof.Gen.Pre_finite_ffn
public import proofs.«01_k».proof.Proof.Gen.Pre_finite_loss
public import proofs.«01_k».proof.Proof.Gen.Pre_finite_mix
public import proofs.«01_k».proof.Proof.Gen.Pre_finite_fuse
public import proofs.«01_k».proof.Proof.Gen.FuseKernel.Frame
public import proofs.«01_k».proof.Proof.Gen.FuseKernelIdeal.Value
public import proofs.«01_k».proof.Proof.Gen.FuseReferenceIdeal.Run
public import proofs.«01_k».proof.Proof.Gen.MixKernel.Frame
public import proofs.«01_k».proof.Proof.Gen.MixKernelIdeal.Value
public import proofs.«01_k».proof.Proof.Gen.MixReferenceIdeal.Run
public import proofs.«01_k».proof.Proof.Gen.ProjKernel.Frame
public import proofs.«01_k».proof.Proof.Gen.ProjKernelIdeal.Value
public import proofs.«01_k».proof.Proof.Gen.ProjReferenceIdeal.Run
public import proofs.«01_k».proof.Proof.Gen.FfnKernel.Frame
public import proofs.«01_k».proof.Proof.Gen.FfnKernelIdeal.Value
public import proofs.«01_k».proof.Proof.Gen.FfnReferenceIdeal.Run
public import proofs.«01_k».proof.Proof.Gen.LossKernel.Frame
public import proofs.«01_k».proof.Proof.Gen.LossKernelIdeal.Value
public import proofs.«01_k».proof.Proof.Gen.LossReferenceIdeal.Run
public import proofs.«01_k».proof.Proof.Gen.InKernel.Frame
public import proofs.«01_k».proof.Proof.Gen.InKernelIdeal.Value
public import proofs.«01_k».proof.Proof.Gen.InReferenceIdeal.Run
public import proofs.«01_k».proof.Proof.Gen.UpKernel.Frame
public import proofs.«01_k».proof.Proof.Gen.UpKernelIdeal.Value
public import proofs.«01_k».proof.Proof.Gen.UpReferenceIdeal.Run

@[expose] public section

noncomputable section

namespace Cert.Proof

open Idealize.ShloMosaic Idealize.SL.Sem

theorem claim : Cert.Claim :=
  ⟨Cert.ProjKernel.Gen.facts, Cert.ProjKernelIdeal.Gen.facts, Cert.ProjReferenceIdeal.Gen.facts,
    Cert.FfnKernel.Gen.facts, Cert.FfnKernelIdeal.Gen.facts, Cert.FfnReferenceIdeal.Gen.facts,
    Cert.LossKernel.Gen.facts, Cert.LossKernelIdeal.Gen.facts, Cert.LossReferenceIdeal.Gen.facts,
    Cert.InKernel.Gen.facts, Cert.InKernelIdeal.Gen.facts, Cert.InReferenceIdeal.Gen.facts,
    Cert.UpKernel.Gen.facts, Cert.UpKernelIdeal.Gen.facts, Cert.UpReferenceIdeal.Gen.facts,
    Cert.MixKernel.Gen.facts, Cert.MixKernelIdeal.Gen.facts, Cert.MixReferenceIdeal.Gen.facts,
    Cert.FuseKernel.Gen.facts, Cert.FuseKernelIdeal.Gen.facts, Cert.FuseReferenceIdeal.Gen.facts,
    Cert.Pre_finite_proj.Gen.facts, Cert.Pre_finite_ffn.Gen.facts, Cert.Pre_finite_loss.Gen.facts, Cert.Pre_finite_mix.Gen.facts,
    Cert.Pre_finite_fuse.Gen.facts,
    proj_frames.1, proj_frames.2.1, proj_frames.2.2.1, proj_frames.2.2.2.1, proj_frames.2.2.2.2,
    ffn_frames.1, ffn_frames.2.1, ffn_frames.2.2.1, ffn_frames.2.2.2.1, ffn_frames.2.2.2.2,
    loss_frames.1, loss_frames.2.1, loss_frames.2.2.1, loss_frames.2.2.2.1, loss_frames.2.2.2.2,
    in_frames.1, in_frames.2.1, in_frames.2.2,
    up_frames.1, up_frames.2.1, up_frames.2.2,
    mix_frames.1, mix_frames.2.1, mix_frames.2.2.1, mix_frames.2.2.2.1, mix_frames.2.2.2.2,
    fuse_frames.1, fuse_frames.2.1, fuse_frames.2.2.1, fuse_frames.2.2.2.1, fuse_frames.2.2.2.2,
    trivial, proj_algebraic,
    trivial, ffn_algebraic,
    trivial, loss_algebraic,
    trivial, in_algebraic,
    trivial, up_algebraic,
    trivial, mix_algebraic,
    trivial, fuse_algebraic⟩

end Cert.Proof

end
